-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)) (v3 : (c : Dev Cert.KernelIdeal.nD) → Buf (Elt Ideal) ((c.tc : Thread Cert.KernelIdeal.nD Cert.KernelIdeal.τ).loc Cert.KernelIdeal.main_v28_3)) (v4 : (c : Dev Cert.KernelIdeal.nD) → Buf (Elt Ideal) ((c.tc : Thread Cert.KernelIdeal.nD Cert.KernelIdeal.τ).loc Cert.KernelIdeal.main_v28_4)) (v5 : (c : Dev Cert.KernelIdeal.nD) → Buf (Elt Ideal) ((c.tc : Thread Cert.KernelIdeal.nD Cert.KernelIdeal.τ).loc Cert.KernelIdeal.main_v28_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_v28_3) = v3 c
          ∧ r.2.mem ((c.tc : Thread Cert.KernelIdeal.nD Cert.KernelIdeal.τ).loc Cert.KernelIdeal.main_v28_4) = v4 c
          ∧ r.2.mem ((c.tc : Thread Cert.KernelIdeal.nD Cert.KernelIdeal.τ).loc Cert.KernelIdeal.main_v28_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v313) = v0 c
          ∧ r.2.mem ((c.tc : Thread Cert.ReferenceIdeal.nD Cert.ReferenceIdeal.τ).loc Cert.ReferenceIdeal.main_v320) = v1 c
          ∧ r.2.mem ((c.tc : Thread Cert.ReferenceIdeal.nD Cert.ReferenceIdeal.τ).loc Cert.ReferenceIdeal.main_v321) = v2 c
          ∧ r.2.mem ((c.tc : Thread Cert.ReferenceIdeal.nD Cert.ReferenceIdeal.τ).loc Cert.ReferenceIdeal.main_v324) = v3 c
          ∧ r.2.mem ((c.tc : Thread Cert.ReferenceIdeal.nD Cert.ReferenceIdeal.τ).loc Cert.ReferenceIdeal.main_v327) = v4 c
          ∧ r.2.mem ((c.tc : Thread Cert.ReferenceIdeal.nD Cert.ReferenceIdeal.τ).loc Cert.ReferenceIdeal.main_v330) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)) (v3 : (c : Dev Cert.Kernel14Ideal.nD) → Buf (Elt Ideal) ((c.tc : Thread Cert.Kernel14Ideal.nD Cert.Kernel14Ideal.τ).loc Cert.Kernel14Ideal.main_v3_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_v3_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v25) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v27) = v2 c
          ∧ r.2.mem ((c.tc : Thread Cert.Reference14Ideal.nD Cert.Reference14Ideal.τ).loc Cert.Reference14Ideal.main_v28) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S2x2064x2048 : Shape := ⟨3, ![2, 2064, 2048]⟩
abbrev S2x2064x1024 : Shape := ⟨3, ![2, 2064, 1024]⟩
abbrev S2x2064x1536 : Shape := ⟨3, ![2, 2064, 1536]⟩
abbrev S2x2064x6272 : Shape := ⟨3, ![2, 2064, 6272]⟩
abbrev S2x33x128x1024 : Shape := ⟨4, ![2, 33, 128, 1024]⟩
abbrev S16 : Shape := ⟨1, ![16]⟩
abbrev S1024 : Shape := ⟨1, ![1024]⟩
abbrev S_ : Shape := ⟨0, ![]⟩

class Facts : Prop where
  bitsLt_bf16_f32 : FTy.bits .bf16 < FTy.bits .f32
  bcast_S_S2x2064x2048 : S_.BroadcastsInDim S2x2064x2048 (![] : Fin 0 → Fin S2x2064x2048.rank)
  reducesTo_S2x2064x2048_S_d0_1_2 : S2x2064x2048.ReducesTo [0, 1, 2] S_
  h_S_ : 0 < S_.numel
  bcast_S_S2x2064x1024 : S_.BroadcastsInDim S2x2064x1024 (![] : Fin 0 → Fin S2x2064x1024.rank)
  reducesTo_S2x2064x1024_S_d0_1_2 : S2x2064x1024.ReducesTo [0, 1, 2] S_
  bcast_S_S2x2064x1536 : S_.BroadcastsInDim S2x2064x1536 (![] : Fin 0 → Fin S2x2064x1536.rank)
  reducesTo_S2x2064x1536_S_d0_1_2 : S2x2064x1536.ReducesTo [0, 1, 2] S_
  bcast_S_S2x2064x6272 : S_.BroadcastsInDim S2x2064x6272 (![] : Fin 0 → Fin S2x2064x6272.rank)
  reducesTo_S2x2064x6272_S_d0_1_2 : S2x2064x6272.ReducesTo [0, 1, 2] S_
  bcast_S_S2x33x128x1024 : S_.BroadcastsInDim S2x33x128x1024 (![] : Fin 0 → Fin S2x33x128x1024.rank)
  reducesTo_S2x33x128x1024_S_d0_1_2_3 : S2x33x128x1024.ReducesTo [0, 1, 2, 3] S_
  bcast_S_S16 : S_.BroadcastsInDim S16 (![] : Fin 0 → Fin S16.rank)
  reducesTo_S16_S_d0 : S16.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S16 .f32) (main_arg8 : FVec F S1024 .f32) (main_v33 : IVec S_ 1) (main_v34 : FVec F S16 .f32) (main_cst_10 : FVec F S_ .f32) : IVec S_ 1 :=
  let main_v35 : FVec F S16 .f32 := broadcastInDim S16 ![] bcast_S_S16 main_cst_10
  let main_v36 : IVec S16 1 := cmpf .olt main_v34 main_v35
  let main_c_11 : IVec S_ 1 := constantI S_ 1 1#1
  let main_v37 : IVec S_ 1 := (fun x v => Host.reduce IntOp.andi x v reducesTo_S16_S_d0 h_S_) main_v36 main_c_11
  let main_v38 : IVec S_ 1 := andi main_v33 main_v37
  let main_v39 : FVec F S16 .f32 := Host.absf main_arg7
  let main_cst_12 : FVec F S_ .f32 := constant S_ .f32 0x7F800000#32
  let main_v40 : FVec F S16 .f32 := broadcastInDim S16 ![] bcast_S_S16 main_cst_12
  let main_v41 : IVec S16 1 := cmpf .olt main_v39 main_v40
  let main_c_13 : IVec S_ 1 := constantI S_ 1 1#1
  let main_v42 : IVec S_ 1 := (fun x v => Host.reduce IntOp.andi x v reducesTo_S16_S_d0 h_S_) main_v41 main_c_13
  let main_v43 : IVec S_ 1 := andi main_v38 main_v42
  let main_v44 : FVec F S1024 .f32 := Host.absf main_arg8
  let main_cst_14 : FVec F S_ .f32 := constant S_ .f32 0x7F800000#32
  let main_v45 : FVec F S1024 .f32 := broadcastInDim S1024 ![] bcast_S_S1024 main_cst_14
  let main_v46 : IVec S1024 1 := cmpf .olt main_v44 main_v45
  let main_c_15 : IVec S_ 1 := constantI S_ 1 1#1
  let main_v47 : IVec S_ 1 := (fun x v => Host.reduce IntOp.andi x v reducesTo_S1024_S_d0 h_S_) main_v46 main_c_15
  let main_v48 : IVec S_ 1 := andi main_v43 main_v47
  main_v48

def fn_part1 {F : FTy → Type} [FloatOps F] (main_arg4 : FVec F S2x33x128x1024 .bf16) (main_arg5 : FVec F S16 .f32) (main_arg6 : FVec F S16 .f32) (main_arg7 : FVec F S16 .f32) (main_arg8 : FVec F S1024 .f32) (main_v16 : IVec S_ 1) (main_v17 : FVec F S2x2064x6272 .f32) : IVec S_ 1 :=
  let main_v18 : FVec F S2x2064x6272 .f32 := Host.absf main_v17
  let main_cst_4 : FVec F S_ .f32 := constant S_ .f32 0x7F800000#32
  let main_v19 : FVec F S2x2064x6272 .f32 := broadcastInDim S2x2064x6272 ![] bcast_S_S2x2064x6272 main_cst_4
  let main_v20 : IVec S2x2064x6272 1 := cmpf .olt main_v18 main_v19
  let main_c_5 : IVec S_ 1 := constantI S_ 1 1#1
  let main_v21 : IVec S_ 1 := (fun x v => Host.reduce IntOp.andi x v reducesTo_S2x2064x6272_S_d0_1_2 h_S_) main_v20 main_c_5
  let main_v22 : IVec S_ 1 := andi main_v16 main_v21
  let main_v23 : FVec F S2x33x128x1024 .f32 := (extf .f32 · bitsLt_bf16_f32) main_arg4
  let main_v24 : FVec F S2x33x128x1024 .f32 := Host.absf main_v23
  let main_cst_6 : FVec F S_ .f32 := constant S_ .f32 0x7F800000#32
  let main_v25 : FVec F S2x33x128x1024 .f32 := broadcastInDim S2x33x128x1024 ![] bcast_S_S2x33x128x1024 main_cst_6
  let main_v26 : IVec S2x33x128x1024 1 := cmpf .olt main_v24 main_v25
  let main_c_7 : IVec S_ 1 := constantI S_ 1 1#1
  let main_v27 : IVec S_ 1 := (fun x v => Host.reduce IntOp.andi x v reducesTo_S2x33x128x1024_S_d0_1_2_3 h_S_) main_v26 main_c_7
  let main_v28 : IVec S_ 1 := andi main_v22 main_v27
  let main_v29 : FVec F S16 .f32 := Host.absf main_arg5
  let main_cst_8 : FVec F S_ .f32 := constant S_ .f32 0x7F800000#32
  let main_v30 : FVec F S16 .f32 := broadcastInDim S16 ![] bcast_S_S16 main_cst_8
  let main_v31 : IVec S16 1 := cmpf .olt main_v29 main_v30
  let main_c_9 : IVec S_ 1 := constantI S_ 1 1#1
  let main_v32 : IVec S_ 1 := (fun x v => Host.reduce IntOp.andi x v reducesTo_S16_S_d0 h_S_) main_v31 main_c_9
  let main_v33 : IVec S_ 1 := andi main_v28 main_v32
  let main_v34 : FVec F S16 .f32 := Host.absf main_arg6
  let main_cst_10 : FVec F S_ .f32 := constant S_ .f32 0x7F800000#32
  fn_part2 (F := F) main_arg7 main_arg8 main_v33 main_v34 main_cst_10

def fn {F : FTy → Type} [FloatOps F] (main_arg0 : FVec F S2x2064x2048 .bf16) (main_arg1 : FVec F S2x2064x1024 .bf16) (main_arg2 : FVec F S2x2064x1536 .bf16) (main_arg3 : FVec F S2x2064x6272 .bf16) (main_arg4 : FVec F S2x33x128x1024 .bf16) (main_arg5 : FVec F S16 .f32) (main_arg6 : FVec F S16 .f32) (main_arg7 : FVec F S16 .f32) (main_arg8 : FVec F S1024 .f32) : IVec S_ 1 :=
  let main_v0 : FVec F S2x2064x2048 .f32 := (extf .f32 · bitsLt_bf16_f32) main_arg0
  let main_v1 : FVec F S2x2064x2048 .f32 := Host.absf main_v0
  let main_cst : FVec F S_ .f32 := constant S_ .f32 0x7F800000#32
  let main_v2 : FVec F S2x2064x2048 .f32 := broadcastInDim S2x2064x2048 ![] bcast_S_S2x2064x2048 main_cst
  let main_v3 : IVec S2x2064x2048 1 := cmpf .olt main_v1 main_v2
  let main_c : IVec S_ 1 := constantI S_ 1 1#1
  let main_v4 : IVec S_ 1 := (fun x v => Host.reduce IntOp.andi x v reducesTo_S2x2064x2048_S_d0_1_2 h_S_) main_v3 main_c
  let main_v5 : FVec F S2x2064x1024 .f32 := (extf .f32 · bitsLt_bf16_f32) main_arg1
  let main_v6 : FVec F S2x2064x1024 .f32 := Host.absf main_v5
  let main_cst_0 : FVec F S_ .f32 := constant S_ .f32 0x7F800000#32
  let main_v7 : FVec F S2x2064x1024 .f32 := broadcastInDim S2x2064x1024 ![] bcast_S_S2x2064x1024 main_cst_0
  let main_v8 : IVec S2x2064x1024 1 := cmpf .olt main_v6 main_v7
  let main_c_1 : IVec S_ 1 := constantI S_ 1 1#1
  let main_v9 : IVec S_ 1 := (fun x v => Host.reduce IntOp.andi x v reducesTo_S2x2064x1024_S_d0_1_2 h_S_) main_v8 main_c_1
  let main_v10 : IVec S_ 1 := andi main_v4 main_v9
  let main_v11 : FVec F S2x2064x1536 .f32 := (extf .f32 · bitsLt_bf16_f32) main_arg2
  let main_v12 : FVec F S2x2064x1536 .f32 := Host.absf main_v11
  let main_cst_2 : FVec F S_ .f32 := constant S_ .f32 0x7F800000#32
  let main_v13 : FVec F S2x2064x1536 .f32 := broadcastInDim S2x2064x1536 ![] bcast_S_S2x2064x1536 main_cst_2
  let main_v14 : IVec S2x2064x1536 1 := cmpf .olt main_v12 main_v13
  let main_c_3 : IVec S_ 1 := constantI S_ 1 1#1
  let main_v15 : IVec S_ 1 := (fun x v => Host.reduce IntOp.andi x v reducesTo_S2x2064x1536_S_d0_1_2 h_S_) main_v14 main_c_3
  let main_v16 : IVec S_ 1 := andi main_v10 main_v15
  let main_v17 : FVec F S2x2064x6272 .f32 := (extf .f32 · bitsLt_bf16_f32) main_arg3
  fn_part1 (F := F) main_arg4 main_arg5 main_arg6 main_arg7 main_arg8 main_v16 main_v17
-- ==== Kernel.lean ====
abbrev S2x2064x2048 : Shape := ⟨3, ![2, 2064, 2048]⟩
abbrev S2x2064x1024 : Shape := ⟨3, ![2, 2064, 1024]⟩
abbrev S2x2064x1536 : Shape := ⟨3, ![2, 2064, 1536]⟩
abbrev S2x2064x6272 : Shape := ⟨3, ![2, 2064, 6272]⟩
abbrev S2x33x128x1024 : Shape := ⟨4, ![2, 33, 128, 1024]⟩
abbrev S16 : Shape := ⟨1, ![16]⟩
abbrev S1024 : Shape := ⟨1, ![1024]⟩
abbrev S128x1024 : Shape := ⟨2, ![128, 1024]⟩
abbrev S_ : Shape := ⟨0, ![]⟩
abbrev S16x64 : Shape := ⟨2, ![16, 64]⟩
abbrev S1x1024 : Shape := ⟨2, ![1, 1024]⟩
abbrev S2x2112x2048 : Shape := ⟨3, ![2, 2112, 2048]⟩
abbrev S4224x2048 : Shape := ⟨2, ![4224, 2048]⟩
abbrev S2x2112x1024 : Shape := ⟨3, ![2, 2112, 1024]⟩
abbrev S4224x1024 : Shape := ⟨2, ![4224, 1024]⟩
abbrev S2x2112x1536 : Shape := ⟨3, ![2, 2112, 1536]⟩
abbrev S4224x1536 : Shape := ⟨2, ![4224, 1536]⟩
abbrev S2x2112x6272 : Shape := ⟨3, ![2, 2112, 6272]⟩
abbrev S4224x6272 : Shape := ⟨2, ![4224, 6272]⟩
abbrev S1024x128 : Shape := ⟨2, ![1024, 128]⟩
abbrev S1x16 : Shape := ⟨2, ![1, 16]⟩
abbrev S1x128 : Shape := ⟨2, ![1, 128]⟩
abbrev S16x1 : Shape := ⟨2, ![16, 1]⟩
abbrev S2x2112x1152 : Shape := ⟨3, ![2, 2112, 1152]⟩
abbrev S2x64x1024 : Shape := ⟨3, ![2, 64, 1024]⟩
abbrev S2x64x1536 : Shape := ⟨3, ![2, 64, 1536]⟩
abbrev S2x64x128 : Shape := ⟨3, ![2, 64, 128]⟩
abbrev S2x1x128x1024 : Shape := ⟨4, ![2, 1, 128, 1024]⟩
abbrev S2x64x1152 : Shape := ⟨3, ![2, 64, 1152]⟩
abbrev S128x512 : Shape := ⟨2, ![128, 512]⟩
abbrev S64x1 : Shape := ⟨2, ![64, 1]⟩
abbrev S1x64 : Shape := ⟨2, ![1, 64]⟩
abbrev S1x64x128 : Shape := ⟨3, ![1, 64, 128]⟩
abbrev S64x128 : Shape := ⟨2, ![64, 128]⟩
abbrev S128x64 : Shape := ⟨2, ![128, 64]⟩
abbrev S64x64 : Shape := ⟨2, ![64, 64]⟩
abbrev S64x384 : Shape := ⟨2, ![64, 384]⟩
abbrev S48x64 : Shape := ⟨2, ![48, 64]⟩
abbrev S256x128 : Shape := ⟨2, ![256, 128]⟩
abbrev S256x1024 : Shape := ⟨2, ![256, 1024]⟩
abbrev S64x1024 : Shape := ⟨2, ![64, 1024]⟩
abbrev S1x64x1536 : Shape := ⟨3, ![1, 64, 1536]⟩
abbrev S64x1536 : Shape := ⟨2, ![64, 1536]⟩
abbrev S64x256 : Shape := ⟨2, ![64, 256]⟩
abbrev S1x1x128x1024 : Shape := ⟨4, ![1, 1, 128, 1024]⟩
abbrev S1x64x1024 : Shape := ⟨3, ![1, 64, 1024]⟩
abbrev S64 : Shape := ⟨1, ![64]⟩
abbrev S64x512 : Shape := ⟨2, ![64, 512]⟩
abbrev S1x512 : Shape := ⟨2, ![1, 512]⟩
abbrev S8x1024 : Shape := ⟨2, ![8, 1024]⟩
abbrev S16x1024 : Shape := ⟨2, ![16, 1024]⟩
abbrev S208x1024 : Shape := ⟨2, ![208, 1024]⟩
abbrev S208x128 : Shape := ⟨2, ![208, 128]⟩
abbrev S16x128 : Shape := ⟨2, ![16, 128]⟩
abbrev S128 : Shape := ⟨1, ![128]⟩
abbrev S1x64x1152 : Shape := ⟨3, ![1, 64, 1152]⟩
abbrev S64x1152 : Shape := ⟨2, ![64, 1152]⟩

abbrev nBuf : Space → Nat
  | .hbm => 72
  | .vmem => 32
  | .smem => 0
  | _ => 0

abbrev bufTy : (tb : Table) → Fin (tcTables nBuf tb) → BufTy
  | .hbm, ⟨0, _⟩ => ⟨S2x2064x2048, .bf16⟩
  | .hbm, ⟨1, _⟩ => ⟨S2x2064x1024, .bf16⟩
  | .hbm, ⟨2, _⟩ => ⟨S2x2064x1536, .bf16⟩
  | .hbm, ⟨3, _⟩ => ⟨S2x2064x6272, .bf16⟩
  | .hbm, ⟨4, _⟩ => ⟨S2x33x128x1024, .bf16⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S128x1024, .i32⟩
  | .hbm, ⟨10, _⟩ => ⟨S128x1024, .i32⟩
  | .hbm, ⟨11, _⟩ => ⟨S_, .i32⟩
  | .hbm, ⟨12, _⟩ => ⟨S_, .i32⟩
  | .hbm, ⟨13, _⟩ => ⟨S128x1024, .i32⟩
  | .hbm, ⟨14, _⟩ => ⟨S128x1024, .i32⟩
  | .hbm, ⟨15, _⟩ => ⟨S128x1024, .i32⟩
  | .hbm, ⟨16, _⟩ => ⟨S_, .i32⟩
  | .hbm, ⟨17, _⟩ => ⟨S128x1024, .i32⟩
  | .hbm, ⟨18, _⟩ => ⟨S128x1024, .i1⟩
  | .hbm, ⟨19, _⟩ => ⟨S128x1024, .i32⟩
  | .hbm, ⟨20, _⟩ => ⟨S128x1024, .i32⟩
  | .hbm, ⟨21, _⟩ => ⟨S_, .i32⟩
  | .hbm, ⟨22, _⟩ => ⟨S128x1024, .i32⟩
  | .hbm, ⟨23, _⟩ => ⟨S128x1024, .i1⟩
  | .hbm, ⟨24, _⟩ => ⟨S128x1024, .i1⟩
  | .hbm, ⟨25, _⟩ => ⟨S_, .i32⟩
  | .hbm, ⟨26, _⟩ => ⟨S128x1024, .i32⟩
  | .hbm, ⟨27, _⟩ => ⟨S128x1024, .i32⟩
  | .hbm, ⟨28, _⟩ => ⟨S128x1024, .i32⟩
  | .hbm, ⟨29, _⟩ => ⟨S128x1024, .i1⟩
  | .hbm, ⟨30, _⟩ => ⟨S128x1024, .bf16⟩
  | .hbm, ⟨31, _⟩ => ⟨S16x64, .f32⟩
  | .hbm, ⟨32, _⟩ => ⟨S1024, .f32⟩
  | .hbm, ⟨33, _⟩ => ⟨S1x1024, .f32⟩
  | .hbm, ⟨34, _⟩ => ⟨S_, .i32⟩
  | .hbm, ⟨35, _⟩ => ⟨S_, .bf16⟩
  | .hbm, ⟨36, _⟩ => ⟨S2x2112x2048, .bf16⟩
  | .hbm, ⟨37, _⟩ => ⟨S4224x2048, .bf16⟩
  | .hbm, ⟨38, _⟩ => ⟨S_, .i32⟩
  | .hbm, ⟨39, _⟩ => ⟨S_, .bf16⟩
  | .hbm, ⟨40, _⟩ => ⟨S2x2112x1024, .bf16⟩
  | .hbm, ⟨41, _⟩ => ⟨S4224x1024, .bf16⟩
  | .hbm, ⟨42, _⟩ => ⟨S_, .i32⟩
  | .hbm, ⟨43, _⟩ => ⟨S_, .bf16⟩
  | .hbm, ⟨44, _⟩ => ⟨S2x2112x1536, .bf16⟩
  | .hbm, ⟨45, _⟩ => ⟨S4224x1536, .bf16⟩
  | .hbm, ⟨46, _⟩ => ⟨S_, .i32⟩
  | .hbm, ⟨47, _⟩ => ⟨S_, .bf16⟩
  | .hbm, ⟨48, _⟩ => ⟨S2x2112x6272, .bf16⟩
  | .hbm, ⟨49, _⟩ => ⟨S4224x6272, .bf16⟩
  | .hbm, ⟨50, _⟩ => ⟨S1x1024, .f32⟩
  | .hbm, ⟨51, _⟩ => ⟨S1024x128, .bf16⟩
  | .hbm, ⟨52, _⟩ => ⟨S1x16, .f32⟩
  | .hbm, ⟨53, _⟩ => ⟨S_, .i32⟩
  | .hbm, ⟨54, _⟩ => ⟨S_, .f32⟩
  | .hbm, ⟨55, _⟩ => ⟨S1x128, .f32⟩
  | .hbm, ⟨56, _⟩ => ⟨S1x16, .f32⟩
  | .hbm, ⟨57, _⟩ => ⟨S_, .i32⟩
  | .hbm, ⟨58, _⟩ => ⟨S_, .f32⟩
  | .hbm, ⟨59, _⟩ => ⟨S1x128, .f32⟩
  | .hbm, ⟨60, _⟩ => ⟨S16x1, .f32⟩
  | .hbm, ⟨61, _⟩ => ⟨S16x1, .f32⟩
  | .hbm, ⟨62, _⟩ => ⟨S2x2112x6272, .bf16⟩
  | .hbm, ⟨63, _⟩ => ⟨S2x2112x2048, .bf16⟩
  | .hbm, ⟨64, _⟩ => ⟨S2x2112x1024, .bf16⟩
  | .hbm, ⟨65, _⟩ => ⟨S2x2112x1536, .bf16⟩
  | .hbm, ⟨66, _⟩ => ⟨S2x2112x1536, .bf16⟩
  | .hbm, ⟨67, _⟩ => ⟨S2x2112x1152, .bf16⟩
  | .hbm, ⟨68, _⟩ => ⟨S1x1024, .f32⟩
  | .hbm, ⟨69, _⟩ => ⟨S1x128, .f32⟩
  | .hbm, ⟨70, _⟩ => ⟨S1x128, .f32⟩
  | .hbm, ⟨71, _⟩ => ⟨S1x128, .f32⟩
  | .local _ .vmem, ⟨0, _⟩ => ⟨S2x64x1024, .bf16⟩
  | .local _ .vmem, ⟨1, _⟩ => ⟨S2x64x1024, .bf16⟩
  | .local _ .vmem, ⟨2, _⟩ => ⟨S2x64x1024, .bf16⟩
  | .local _ .vmem, ⟨3, _⟩ => ⟨S2x64x1024, .bf16⟩
  | .local _ .vmem, ⟨4, _⟩ => ⟨S2x64x1536, .bf16⟩
  | .local _ .vmem, ⟨5, _⟩ => ⟨S2x64x1536, .bf16⟩
  | .local _ .vmem, ⟨6, _⟩ => ⟨S2x64x1024, .bf16⟩
  | .local _ .vmem, ⟨7, _⟩ => ⟨S2x64x1024, .bf16⟩
  | .local _ .vmem, ⟨8, _⟩ => ⟨S2x64x128, .bf16⟩
  | .local _ .vmem, ⟨9, _⟩ => ⟨S2x64x128, .bf16⟩
  | .local _ .vmem, ⟨10, _⟩ => ⟨S2x1x128x1024, .bf16⟩
  | .local _ .vmem, ⟨11, _⟩ => ⟨S2x1x128x1024, .bf16⟩
  | .local _ .vmem, ⟨12, _⟩ => ⟨S1x128, .f32⟩
  | .local _ .vmem, ⟨13, _⟩ => ⟨S16x1, .f32⟩
  | .local _ .vmem, ⟨14, _⟩ => ⟨S1x128, .f32⟩
  | .local _ .vmem, ⟨15, _⟩ => ⟨S16x1, .f32⟩
  | .local _ .vmem, ⟨16, _⟩ => ⟨S1x1024, .f32⟩
  | .local _ .vmem, ⟨17, _⟩ => ⟨S1x1024, .f32⟩
  | .local _ .vmem, ⟨18, _⟩ => ⟨S128x1024, .bf16⟩
  | .local _ .vmem, ⟨19, _⟩ => ⟨S1024x128, .bf16⟩
  | .local _ .vmem, ⟨20, _⟩ => ⟨S2x64x1536, .bf16⟩
  | .local _ .vmem, ⟨21, _⟩ => ⟨S2x64x1536, .bf16⟩
  | .local _ .vmem, ⟨22, _⟩ => ⟨S2x64x1152, .bf16⟩
  | .local _ .vmem, ⟨23, _⟩ => ⟨S2x64x1152, .bf16⟩
  | .local _ .vmem, ⟨24, _⟩ => ⟨S1x1024, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x512, .f32⟩
  | .local _ .vmem, ⟨29, _⟩ => ⟨S128x512, .f32⟩
  | .local _ .vmem, ⟨30, _⟩ => ⟨S128x512, .f32⟩
  | .local _ .vmem, ⟨31, _⟩ => ⟨S128x512, .f32⟩
  | _, _ => ⟨S2x2064x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c_0 : Ref sig .tc := ⟨.hbm, 34, rfl⟩
abbrev main_call1_v0 : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_call2_v0 : Ref sig .tc := ⟨.hbm, 39, rfl⟩
abbrev main_v10 : Ref sig .tc := ⟨.hbm, 40, rfl⟩
abbrev main_v11 : Ref sig .tc := ⟨.hbm, 41, rfl⟩
abbrev main_c_2 : Ref sig .tc := ⟨.hbm, 42, rfl⟩
abbrev main_call3_v0 : Ref sig .tc := ⟨.hbm, 43, rfl⟩
abbrev main_v12 : Ref sig .tc := ⟨.hbm, 44, rfl⟩
abbrev main_v13 : Ref sig .tc := ⟨.hbm, 45, rfl⟩
abbrev main_c_3 : Ref sig .tc := ⟨.hbm, 46, rfl⟩
abbrev main_call4_v0 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_c_4 : Ref sig .tc := ⟨.hbm, 53, rfl⟩
abbrev main_call5_v0 : Ref sig .tc := ⟨.hbm, 54, rfl⟩
abbrev main_v19 : Ref sig .tc := ⟨.hbm, 55, rfl⟩
abbrev main_v20 : Ref sig .tc := ⟨.hbm, 56, rfl⟩
abbrev main_c_5 : Ref sig .tc := ⟨.hbm, 57, rfl⟩
abbrev main_call6_v0 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28_0 : Ref sig .tc := ⟨.hbm, 66, rfl⟩
abbrev main_v28_1 : Ref sig .tc := ⟨.hbm, 67, rfl⟩
abbrev main_v28_2 : Ref sig .tc := ⟨.hbm, 68, rfl⟩
abbrev main_v28_3 : Ref sig .tc := ⟨.hbm, 69, rfl⟩
abbrev main_v28_4 : Ref sig .tc := ⟨.hbm, 70, rfl⟩
abbrev main_v28_5 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem18_0 : DmaSem sig := 26
abbrev cc0_sem19_0 : DmaSem sig := 27

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c32_i32 : BitVec 32 := 32#32
  let v0 : BitVec 32 := Scalar.subi c32_i32 arg0
  let c0_i32 : BitVec 32 := 0#32
  let c2_i32 : BitVec 32 := 2#32
  let c0_i32_0 : BitVec 32 := 0#32
  ![c0_i32.toNat, v0.toNat, c2_i32.toNat]

def cc0_transform_4 (i : grid0.Coords) : Fin 3 → Nat :=
  let arg0 : BitVec 32 := BitVec.ofNat 32 (i 0).val
  let c32_i32 : BitVec 32 := 32#32
  let v0 : BitVec 32 := Scalar.subi c32_i32 arg0
  let c0_i32 : BitVec 32 := 0#32
  let c24_i32 : BitVec 32 := 24#32
  let c0_i32_0 : BitVec 32 := 0#32
  ![c0_i32.toNat, v0.toNat, c24_i32.toNat]

def cc0_transform_5 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 3 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  ![c0_i32.toNat, v0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2x64x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x64x1152 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S2x2064x2048 : Shape := ⟨3, ![2, 2064, 2048]⟩
abbrev S2x2064x1024 : Shape := ⟨3, ![2, 2064, 1024]⟩
abbrev S2x2064x1536 : Shape := ⟨3, ![2, 2064, 1536]⟩
abbrev S2x2064x6272 : Shape := ⟨3, ![2, 2064, 6272]⟩
abbrev S2x33x128x1024 : Shape := ⟨4, ![2, 33, 128, 1024]⟩
abbrev S16 : Shape := ⟨1, ![16]⟩
abbrev S1024 : Shape := ⟨1, ![1024]⟩
abbrev S4128x1024 : Shape := ⟨2, ![4128, 1024]⟩
abbrev S_ : Shape := ⟨0, ![]⟩
abbrev S4128 : Shape := ⟨1, ![4128]⟩
abbrev S4128x1 : Shape := ⟨2, ![4128, 1]⟩
abbrev S1x1024 : Shape := ⟨2, ![1, 1024]⟩
abbrev S64x64 : Shape := ⟨2, ![64, 64]⟩
abbrev S2x48x1024 : Shape := ⟨3, ![2, 48, 1024]⟩
abbrev S2x2112x1024 : Shape := ⟨3, ![2, 2112, 1024]⟩
abbrev S66x64x1024 : Shape := ⟨3, ![66, 64, 1024]⟩
abbrev S66x128x2x512 : Shape := ⟨4, ![66, 128, 2, 512]⟩
abbrev S2x2064x256 : Shape := ⟨3, ![2, 2064, 256]⟩
abbrev S4128x256 : Shape := ⟨2, ![4128, 256]⟩
abbrev S2x2064x16 : Shape := ⟨3, ![2, 2064, 16]⟩
abbrev S4128x16 : Shape := ⟨2, ![4128, 16]⟩
abbrev S1x16 : Shape := ⟨2, ![1, 16]⟩
abbrev S4128x16x64 : Shape := ⟨3, ![4128, 16, 64]⟩
abbrev S4128x16x1 : Shape := ⟨3, ![4128, 16, 1]⟩
abbrev S66x64x2x8x64 : Shape := ⟨5, ![66, 64, 2, 8, 64]⟩
abbrev S16x1 : Shape := ⟨2, ![16, 1]⟩
abbrev S16x64 : Shape := ⟨2, ![16, 64]⟩
abbrev S1x16x64 : Shape := ⟨3, ![1, 16, 64]⟩
abbrev S2x48x16 : Shape := ⟨3, ![2, 48, 16]⟩
abbrev S2x2112x16 : Shape := ⟨3, ![2, 2112, 16]⟩
abbrev S66x64x16 : Shape := ⟨3, ![66, 64, 16]⟩
abbrev S2x48x256 : Shape := ⟨3, ![2, 48, 256]⟩
abbrev S2x2112x256 : Shape := ⟨3, ![2, 2112, 256]⟩
abbrev S66x64x2x128 : Shape := ⟨4, ![66, 64, 2, 128]⟩
abbrev S66x16x64 : Shape := ⟨3, ![66, 16, 64]⟩
abbrev S66x64x2x8 : Shape := ⟨4, ![66, 64, 2, 8]⟩
abbrev S66x16 : Shape := ⟨2, ![66, 16]⟩
abbrev S66x2x8 : Shape := ⟨3, ![66, 2, 8]⟩
abbrev S66x2x8x64 : Shape := ⟨4, ![66, 2, 8, 64]⟩
abbrev S66x2x8x64x1 : Shape := ⟨5, ![66, 2, 8, 64, 1]⟩
abbrev S66x2x8x1x64 : Shape := ⟨5, ![66, 2, 8, 1, 64]⟩
abbrev S66x2x8x64x64 : Shape := ⟨5, ![66, 2, 8, 64, 64]⟩
abbrev S66x2x64x64 : Shape := ⟨4, ![66, 2, 64, 64]⟩
abbrev S66x2x1x64x64 : Shape := ⟨5, ![66, 2, 1, 64, 64]⟩
abbrev S66x1x2x8 : Shape := ⟨4, ![66, 1, 2, 8]⟩
abbrev S66x64x2x8x1 : Shape := ⟨5, ![66, 64, 2, 8, 1]⟩
abbrev S66x64x2x512 : Shape := ⟨4, ![66, 64, 2, 512]⟩
abbrev S66x2x512x128 : Shape := ⟨4, ![66, 2, 512, 128]⟩
abbrev S66x2x512x64 : Shape := ⟨4, ![66, 2, 512, 64]⟩
abbrev S2x33x128x16x64 : Shape := ⟨5, ![2, 33, 128, 16, 64]⟩
abbrev S33x33x33 : Shape := ⟨3, ![33, 33, 33]⟩
abbrev S2x33x16 : Shape := ⟨3, ![2, 33, 16]⟩
abbrev S2x16x33x33 : Shape := ⟨4, ![2, 16, 33, 33]⟩
abbrev S33x33 : Shape := ⟨2, ![33, 33]⟩
abbrev S2x16x128x64x33 : Shape := ⟨5, ![2, 16, 128, 64, 33]⟩
abbrev S66x128x16x64 : Shape := ⟨4, ![66, 128, 16, 64]⟩
abbrev S66x2x64x128 : Shape := ⟨4, ![66, 2, 64, 128]⟩
abbrev S66x2x128x64 : Shape := ⟨4, ![66, 2, 128, 64]⟩
abbrev S4128x1536 : Shape := ⟨2, ![4128, 1536]⟩
abbrev S2x48x1536 : Shape := ⟨3, ![2, 48, 1536]⟩
abbrev S2x2112x1536 : Shape := ⟨3, ![2, 2112, 1536]⟩
abbrev S4128x112 : Shape := ⟨2, ![4128, 112]⟩
abbrev S4128x128 : Shape := ⟨2, ![4128, 128]⟩
abbrev S4128x1152 : Shape := ⟨2, ![4128, 1152]⟩
abbrev S2x2064x1152 : Shape := ⟨3, ![2, 2064, 1152]⟩
abbrev S2x48x1152 : Shape := ⟨3, ![2, 48, 1152]⟩
abbrev S2x2112x1152 : Shape := ⟨3, ![2, 2112, 1152]⟩
abbrev S1x112 : Shape := ⟨2, ![1, 112]⟩
abbrev S1x128 : Shape := ⟨2, ![1, 128]⟩

abbrev nBuf : Space → Nat
  | .hbm => 489
  | .vmem => 0
  | .smem => 0
  | _ => 0

abbrev hbmTy0_0 (i : Nat) : BufTy := match i % 128 with
  | 0 => ⟨S2x2064x2048, .bf16⟩
  | 1 => ⟨S2x2064x1024, .bf16⟩
  | 2 => ⟨S2x2064x1536, .bf16⟩
  | 3 => ⟨S2x2064x6272, .bf16⟩
  | 4 => ⟨S2x33x128x1024, .bf16⟩
  | 5 => ⟨S16, .f32⟩
  | 6 => ⟨S16, .f32⟩
  | 7 => ⟨S16, .f32⟩
  | 8 => ⟨S1024, .f32⟩
  | 9 => ⟨S2x2064x1024, .f32⟩
  | 10 => ⟨S4128x1024, .f32⟩
  | 11 => ⟨S2x2064x1024, .bf16⟩
  | 12 => ⟨S2x2064x1024, .f32⟩
  | 13 => ⟨S4128x1024, .f32⟩
  | 14 => ⟨S4128x1024, .f32⟩
  | 15 => ⟨S4128x1024, .f32⟩
  | 16 => ⟨S_, .f32⟩
  | 17 => ⟨S4128x1024, .f32⟩
  | 18 => ⟨S4128x1024, .f32⟩
  | 19 => ⟨S_, .f32⟩
  | 20 => ⟨S4128x1024, .f32⟩
  | 21 => ⟨S4128x1024, .f32⟩
  | 22 => ⟨S_, .f32⟩
  | 23 => ⟨S4128x1024, .f32⟩
  | 24 => ⟨S4128x1024, .f32⟩
  | 25 => ⟨S4128x1024, .f32⟩
  | 26 => ⟨S4128x1024, .f32⟩
  | 27 => ⟨S4128x1024, .f32⟩
  | 28 => ⟨S4128x1024, .f32⟩
  | 29 => ⟨S_, .f32⟩
  | 30 => ⟨S4128, .f32⟩
  | 31 => ⟨S4128x1, .f32⟩
  | 32 => ⟨S_, .f32⟩
  | 33 => ⟨S4128x1, .f32⟩
  | 34 => ⟨S4128x1, .f32⟩
  | 35 => ⟨S_, .f32⟩
  | 36 => ⟨S4128x1, .f32⟩
  | 37 => ⟨S4128x1, .f32⟩
  | 38 => ⟨S4128x1, .f32⟩
  | 39 => ⟨S4128x1, .f32⟩
  | 40 => ⟨S_, .f32⟩
  | 41 => ⟨S4128x1, .f32⟩
  | 42 => ⟨S4128x1, .f32⟩
  | 43 => ⟨S4128x1024, .f32⟩
  | 44 => ⟨S4128x1024, .f32⟩
  | 45 => ⟨S1x1024, .f32⟩
  | 46 => ⟨S4128x1024, .f32⟩
  | 47 => ⟨S4128x1024, .f32⟩
  | 48 => ⟨S2x2064x1024, .bf16⟩
  | 49 => ⟨S2x2064x1024, .f32⟩
  | 50 => ⟨S4128x1024, .f32⟩
  | 51 => ⟨S4128x1024, .f32⟩
  | 52 => ⟨S_, .f32⟩
  | 53 => ⟨S1024, .f32⟩
  | 54 => ⟨S1x1024, .f32⟩
  | 55 => ⟨S4128x1024, .f32⟩
  | 56 => ⟨S4128x1024, .f32⟩
  | 57 => ⟨S_, .f32⟩
  | 58 => ⟨S1024, .f32⟩
  | 59 => ⟨S4128x1024, .f32⟩
  | 60 => ⟨S_, .f32⟩
  | 61 => ⟨S4128, .f32⟩
  | 62 => ⟨S4128x1, .f32⟩
  | 63 => ⟨S4128x1024, .f32⟩
  | 64 => ⟨S4128x1024, .f32⟩
  | 65 => ⟨S4128x1, .f32⟩
  | 66 => ⟨S_, .f32⟩
  | 67 => ⟨S4128x1, .f32⟩
  | 68 => ⟨S4128x1, .f32⟩
  | 69 => ⟨S_, .f32⟩
  | 70 => ⟨S4128, .f32⟩
  | 71 => ⟨S4128x1024, .f32⟩
  | 72 => ⟨S4128x1024, .f32⟩
  | 73 => ⟨S4128x1024, .f32⟩
  | 74 => ⟨S4128x1024, .f32⟩
  | 75 => ⟨S4128x1024, .f32⟩
  | 76 => ⟨S4128x1024, .f32⟩
  | 77 => ⟨S4128x1024, .f32⟩
  | 78 => ⟨S4128x1024, .f32⟩
  | 79 => ⟨S4128x1024, .f32⟩
  | 80 => ⟨S4128x1024, .f32⟩
  | 81 => ⟨S4128x1024, .f32⟩
  | 82 => ⟨S_, .f32⟩
  | 83 => ⟨S64x64, .f32⟩
  | 84 => ⟨S64x64, .i32⟩
  | 85 => ⟨S_, .i32⟩
  | 86 => ⟨S64x64, .i32⟩
  | 87 => ⟨S64x64, .i32⟩
  | 88 => ⟨S64x64, .i32⟩
  | 89 => ⟨S64x64, .i1⟩
  | 90 => ⟨S_, .f32⟩
  | 91 => ⟨S64x64, .f32⟩
  | 92 => ⟨S64x64, .f32⟩
  | 93 => ⟨S_, .i1⟩
  | 94 => ⟨S64x64, .i1⟩
  | 95 => ⟨S64x64, .i32⟩
  | 96 => ⟨S_, .i32⟩
  | 97 => ⟨S64x64, .i32⟩
  | 98 => ⟨S64x64, .i32⟩
  | 99 => ⟨S64x64, .i32⟩
  | 100 => ⟨S64x64, .i1⟩
  | 101 => ⟨S_, .i1⟩
  | 102 => ⟨S64x64, .i1⟩
  | 103 => ⟨S64x64, .i1⟩
  | 104 => ⟨S2x2064x1024, .f32⟩
  | 105 => ⟨S_, .f32⟩
  | 106 => ⟨S2x48x1024, .f32⟩
  | 107 => ⟨S2x2112x1024, .f32⟩
  | 108 => ⟨S66x64x1024, .f32⟩
  | 109 => ⟨S2x33x128x1024, .f32⟩
  | 110 => ⟨S66x128x2x512, .f32⟩
  | 111 => ⟨S2x2064x1024, .bf16⟩
  | 112 => ⟨S2x2064x1024, .f32⟩
  | 113 => ⟨S4128x1024, .f32⟩
  | 114 => ⟨S2x2064x256, .bf16⟩
  | 115 => ⟨S2x2064x256, .f32⟩
  | 116 => ⟨S4128x256, .f32⟩
  | 117 => ⟨S2x2064x256, .bf16⟩
  | 118 => ⟨S2x2064x256, .f32⟩
  | 119 => ⟨S4128x256, .f32⟩
  | 120 => ⟨S2x2064x16, .bf16⟩
  | 121 => ⟨S2x2064x16, .f32⟩
  | 122 => ⟨S4128x16, .f32⟩
  | 123 => ⟨S1x16, .f32⟩
  | 124 => ⟨S4128x16, .f32⟩
  | 125 => ⟨S4128x16, .f32⟩
  | 126 => ⟨S_, .f32⟩
  | 127 => ⟨S4128x16, .f32⟩
  | _ => ⟨S2x2064x2048, .bf16⟩

abbrev hbmTy0_1 (i : Nat) : BufTy := match i % 128 with
  | 0 => ⟨S4128x16, .f32⟩
  | 1 => ⟨S4128x16, .f32⟩
  | 2 => ⟨S4128x16, .f32⟩
  | 3 => ⟨S4128x16, .i1⟩
  | 4 => ⟨S4128x16, .f32⟩
  | 5 => ⟨S4128x16, .f32⟩
  | 6 => ⟨S4128x16, .f32⟩
  | 7 => ⟨S4128x16, .f32⟩
  | 8 => ⟨S4128x16, .f32⟩
  | 9 => ⟨S4128x16, .f32⟩
  | 10 => ⟨S4128x16, .f32⟩
  | 11 => ⟨S4128x16, .f32⟩
  | 12 => ⟨S_, .f32⟩
  | 13 => ⟨S4128x16, .f32⟩
  | 14 => ⟨S4128x16, .i1⟩
  | 15 => ⟨S_, .f32⟩
  | 16 => ⟨S4128x16, .f32⟩
  | 17 => ⟨S4128x16, .f32⟩
  | 18 => ⟨S_, .f32⟩
  | 19 => ⟨S4128x16, .f32⟩
  | 20 => ⟨S4128x16, .i1⟩
  | 21 => ⟨S_, .f32⟩
  | 22 => ⟨S4128x16, .f32⟩
  | 23 => ⟨S4128x16, .f32⟩
  | 24 => ⟨S4128x16, .f32⟩
  | 25 => ⟨S4128x16, .f32⟩
  | 26 => ⟨S_, .f32⟩
  | 27 => ⟨S_, .f32⟩
  | 28 => ⟨S_, .i1⟩
  | 29 => ⟨S_, .f32⟩
  | 30 => ⟨S_, .f32⟩
  | 31 => ⟨S_, .f32⟩
  | 32 => ⟨S_, .f32⟩
  | 33 => ⟨S4128x16, .f32⟩
  | 34 => ⟨S4128x16, .i1⟩
  | 35 => ⟨S_, .f32⟩
  | 36 => ⟨S4128x16, .f32⟩
  | 37 => ⟨S4128x16, .f32⟩
  | 38 => ⟨S4128x16, .f32⟩
  | 39 => ⟨S4128x16, .f32⟩
  | 40 => ⟨S4128x16, .f32⟩
  | 41 => ⟨S_, .f32⟩
  | 42 => ⟨S4128x16, .f32⟩
  | 43 => ⟨S4128x16, .f32⟩
  | 44 => ⟨S16, .f32⟩
  | 45 => ⟨S16, .f32⟩
  | 46 => ⟨S4128x16x64, .f32⟩
  | 47 => ⟨S4128x16x1, .f32⟩
  | 48 => ⟨S4128x16x64, .f32⟩
  | 49 => ⟨S4128x16x64, .f32⟩
  | 50 => ⟨S4128x1024, .f32⟩
  | 51 => ⟨S2x2064x1024, .f32⟩
  | 52 => ⟨S_, .f32⟩
  | 53 => ⟨S2x48x1024, .f32⟩
  | 54 => ⟨S2x2112x1024, .f32⟩
  | 55 => ⟨S_, .f32⟩
  | 56 => ⟨S2x48x1024, .f32⟩
  | 57 => ⟨S66x64x2x8x64, .f32⟩
  | 58 => ⟨S16x1, .f32⟩
  | 59 => ⟨S16x64, .f32⟩
  | 60 => ⟨S1x16x64, .f32⟩
  | 61 => ⟨S4128x16x64, .f32⟩
  | 62 => ⟨S4128x16x64, .f32⟩
  | 63 => ⟨S4128x1024, .f32⟩
  | 64 => ⟨S2x2064x1024, .f32⟩
  | 65 => ⟨S_, .f32⟩
  | 66 => ⟨S2x48x1024, .f32⟩
  | 67 => ⟨S2x2112x1024, .f32⟩
  | 68 => ⟨S_, .f32⟩
  | 69 => ⟨S2x48x1024, .f32⟩
  | 70 => ⟨S66x64x1024, .f32⟩
  | 71 => ⟨S1x16, .f32⟩
  | 72 => ⟨S4128x16, .f32⟩
  | 73 => ⟨S4128x16, .f32⟩
  | 74 => ⟨S2x2064x16, .f32⟩
  | 75 => ⟨S_, .f32⟩
  | 76 => ⟨S2x48x16, .f32⟩
  | 77 => ⟨S2x2112x16, .f32⟩
  | 78 => ⟨S_, .f32⟩
  | 79 => ⟨S2x48x16, .f32⟩
  | 80 => ⟨S66x64x16, .f32⟩
  | 81 => ⟨S2x2064x256, .f32⟩
  | 82 => ⟨S_, .f32⟩
  | 83 => ⟨S2x48x256, .f32⟩
  | 84 => ⟨S2x2112x256, .f32⟩
  | 85 => ⟨S_, .f32⟩
  | 86 => ⟨S2x48x256, .f32⟩
  | 87 => ⟨S66x64x2x128, .f32⟩
  | 88 => ⟨S2x2064x256, .f32⟩
  | 89 => ⟨S_, .f32⟩
  | 90 => ⟨S2x48x256, .f32⟩
  | 91 => ⟨S2x2112x256, .f32⟩
  | 92 => ⟨S_, .f32⟩
  | 93 => ⟨S2x48x256, .f32⟩
  | 94 => ⟨S66x64x2x128, .f32⟩
  | 95 => ⟨S66x16x64, .f32⟩
  | 96 => ⟨S66x64x16, .f32⟩
  | 97 => ⟨S66x64x2x8, .f32⟩
  | 98 => ⟨S_, .f32⟩
  | 99 => ⟨S66x16, .f32⟩
  | 100 => ⟨S66x2x8, .f32⟩
  | 101 => ⟨S66x2x8x64, .f32⟩
  | 102 => ⟨S66x2x8x64x1, .f32⟩
  | 103 => ⟨S66x2x8x1x64, .f32⟩
  | 104 => ⟨S66x2x8x64x64, .f32⟩
  | 105 => ⟨S66x2x8x64x64, .f32⟩
  | 106 => ⟨S66x2x8x64x64, .f32⟩
  | 107 => ⟨S_, .f32⟩
  | 108 => ⟨S_, .f32⟩
  | 109 => ⟨S66x2x8x64x64, .i1⟩
  | 110 => ⟨S66x2x8x64x64, .f32⟩
  | 111 => ⟨S66x2x8x64x64, .f32⟩
  | 112 => ⟨S_, .f32⟩
  | 113 => ⟨S66x2x8x64x64, .f32⟩
  | 114 => ⟨S66x2x8x64x64, .f32⟩
  | 115 => ⟨S_, .f32⟩
  | 116 => ⟨S_, .f32⟩
  | 117 => ⟨S66x2x8x64x64, .i1⟩
  | 118 => ⟨S66x2x8x64x64, .f32⟩
  | 119 => ⟨S66x2x8x64x64, .f32⟩
  | 120 => ⟨S_, .f32⟩
  | 121 => ⟨S66x2x8x64x64, .f32⟩
  | 122 => ⟨S66x2x64x64, .f32⟩
  | 123 => ⟨S66x2x1x64x64, .f32⟩
  | 124 => ⟨S66x2x8x64x64, .f32⟩
  | 125 => ⟨S66x2x8x64x64, .f32⟩
  | 126 => ⟨S66x2x8x64x64, .f32⟩
  | 127 => ⟨S66x64x2x8x64, .f32⟩
  | _ => ⟨S2x2064x2048, .bf16⟩

abbrev hbmTy0_2 (i : Nat) : BufTy := match i % 128 with
  | 0 => ⟨S66x1x2x8, .f32⟩
  | 1 => ⟨S66x64x2x8, .f32⟩
  | 2 => ⟨S66x64x2x8, .f32⟩
  | 3 => ⟨S66x64x2x8, .f32⟩
  | 4 => ⟨S66x64x2x8x1, .f32⟩
  | 5 => ⟨S66x64x2x8x64, .f32⟩
  | 6 => ⟨S66x64x2x8x64, .f32⟩
  | 7 => ⟨S66x64x2x512, .f32⟩
  | 8 => ⟨S66x2x512x128, .f32⟩
  | 9 => ⟨S66x128x2x512, .f32⟩
  | 10 => ⟨S66x64x2x8, .f32⟩
  | 11 => ⟨S66x2x512x64, .f32⟩
  | 12 => ⟨S66x64x2x512, .f32⟩
  | 13 => ⟨S66x64x2x8x64, .f32⟩
  | 14 => ⟨S66x64x2x8x1, .f32⟩
  | 15 => ⟨S66x64x2x8x64, .f32⟩
  | 16 => ⟨S66x64x2x8x64, .f32⟩
  | 17 => ⟨S66x64x2x8x64, .f32⟩
  | 18 => ⟨S66x64x1024, .f32⟩
  | 19 => ⟨S66x64x1024, .f32⟩
  | 20 => ⟨S66x2x8, .f32⟩
  | 21 => ⟨S66x64x2x8x64, .f32⟩
  | 22 => ⟨S66x64x2x8x1, .f32⟩
  | 23 => ⟨S66x64x2x8x64, .f32⟩
  | 24 => ⟨S66x64x2x8x64, .f32⟩
  | 25 => ⟨S66x64x2x512, .f32⟩
  | 26 => ⟨S66x2x512x128, .f32⟩
  | 27 => ⟨S66x128x2x512, .f32⟩
  | 28 => ⟨S2x33x128x16x64, .f32⟩
  | 29 => ⟨S33x33x33, .i32⟩
  | 30 => ⟨S33x33x33, .i32⟩
  | 31 => ⟨S33x33x33, .i32⟩
  | 32 => ⟨S33x33x33, .i1⟩
  | 33 => ⟨S33x33x33, .i1⟩
  | 34 => ⟨S33x33x33, .i1⟩
  | 35 => ⟨S33x33x33, .f32⟩
  | 36 => ⟨S2x33x16, .f32⟩
  | 37 => ⟨S2x16x33x33, .f32⟩
  | 38 => ⟨S33x33, .i32⟩
  | 39 => ⟨S33x33, .i32⟩
  | 40 => ⟨S33x33, .i1⟩
  | 41 => ⟨S2x16x33x33, .f32⟩
  | 42 => ⟨S_, .f32⟩
  | 43 => ⟨S_, .f32⟩
  | 44 => ⟨S2x16x33x33, .i1⟩
  | 45 => ⟨S2x16x33x33, .f32⟩
  | 46 => ⟨S2x16x33x33, .f32⟩
  | 47 => ⟨S2x16x128x64x33, .f32⟩
  | 48 => ⟨S2x33x128x16x64, .f32⟩
  | 49 => ⟨S66x128x16x64, .f32⟩
  | 50 => ⟨S66x128x16x64, .f32⟩
  | 51 => ⟨S66x128x16x64, .f32⟩
  | 52 => ⟨S_, .f32⟩
  | 53 => ⟨S66x16x64, .f32⟩
  | 54 => ⟨S_, .f32⟩
  | 55 => ⟨S66x16, .f32⟩
  | 56 => ⟨S66x128x2x512, .f32⟩
  | 57 => ⟨S66x2x8, .f32⟩
  | 58 => ⟨S66x2x8, .f32⟩
  | 59 => ⟨S66x64x2x8x64, .f32⟩
  | 60 => ⟨S66x64x2x8x64, .f32⟩
  | 61 => ⟨S_, .f32⟩
  | 62 => ⟨S66x64x2x8, .f32⟩
  | 63 => ⟨S66x64x2x8x1, .f32⟩
  | 64 => ⟨S66x64x2x8x64, .f32⟩
  | 65 => ⟨S66x64x2x8x64, .f32⟩
  | 66 => ⟨S_, .f32⟩
  | 67 => ⟨S66x64x2x8, .f32⟩
  | 68 => ⟨S66x64x2x512, .f32⟩
  | 69 => ⟨S66x2x512x64, .f32⟩
  | 70 => ⟨S66x2x64x128, .f32⟩
  | 71 => ⟨S66x64x2x128, .f32⟩
  | 72 => ⟨S66x64x2x8, .f32⟩
  | 73 => ⟨S66x2x512x128, .f32⟩
  | 74 => ⟨S66x2x128x64, .f32⟩
  | 75 => ⟨S66x64x2x128, .f32⟩
  | 76 => ⟨S66x2x512x64, .f32⟩
  | 77 => ⟨S66x64x2x512, .f32⟩
  | 78 => ⟨S66x64x2x8x64, .f32⟩
  | 79 => ⟨S66x64x2x8x64, .f32⟩
  | 80 => ⟨S66x64x2x8x64, .f32⟩
  | 81 => ⟨S66x64x2x8x64, .f32⟩
  | 82 => ⟨S_, .f32⟩
  | 83 => ⟨S66x64x2x8, .f32⟩
  | 84 => ⟨S66x64x2x8x1, .f32⟩
  | 85 => ⟨S_, .f32⟩
  | 86 => ⟨S66x64x2x8, .f32⟩
  | 87 => ⟨S66x64x2x8, .f32⟩
  | 88 => ⟨S_, .f32⟩
  | 89 => ⟨S66x2x8, .f32⟩
  | 90 => ⟨S66x1x2x8, .f32⟩
  | 91 => ⟨S66x64x2x8, .f32⟩
  | 92 => ⟨S66x64x2x8, .f32⟩
  | 93 => ⟨S_, .f32⟩
  | 94 => ⟨S66x2x8, .f32⟩
  | 95 => ⟨S66x2x8, .f32⟩
  | 96 => ⟨S66x2x8x64x64, .f32⟩
  | 97 => ⟨S66x2x8x64x64, .f32⟩
  | 98 => ⟨S66x2x8x64x64, .f32⟩
  | 99 => ⟨S66x64x2x8x64, .f32⟩
  | 100 => ⟨S66x64x2x8x64, .f32⟩
  | 101 => ⟨S66x2x8x64x64, .f32⟩
  | 102 => ⟨S66x2x8x64x64, .f32⟩
  | 103 => ⟨S66x2x8x64x64, .f32⟩
  | 104 => ⟨S_, .f32⟩
  | 105 => ⟨S66x2x64x64, .f32⟩
  | 106 => ⟨S66x2x1x64x64, .f32⟩
  | 107 => ⟨S_, .f32⟩
  | 108 => ⟨S66x2x64x64, .f32⟩
  | 109 => ⟨S66x2x64x128, .f32⟩
  | 110 => ⟨S66x64x2x128, .f32⟩
  | 111 => ⟨S66x64x2x128, .f32⟩
  | 112 => ⟨S66x2x64x128, .f32⟩
  | 113 => ⟨S66x64x2x128, .f32⟩
  | 114 => ⟨S66x64x2x128, .f32⟩
  | 115 => ⟨S_, .f32⟩
  | 116 => ⟨S66x2x8x64x64, .f32⟩
  | 117 => ⟨S66x2x8x64x64, .f32⟩
  | 118 => ⟨S66x2x8x64x64, .f32⟩
  | 119 => ⟨S_, .f32⟩
  | 120 => ⟨S66x2x8x64x64, .f32⟩
  | 121 => ⟨S66x2x8x64x64, .f32⟩
  | 122 => ⟨S_, .f32⟩
  | 123 => ⟨S66x2x8x64, .f32⟩
  | 124 => ⟨S66x2x8x64x1, .f32⟩
  | 125 => ⟨S66x2x8x64x64, .f32⟩
  | 126 => ⟨S_, .f32⟩
  | 127 => ⟨S66x2x8x64, .f32⟩
  | _ => ⟨S2x2064x2048, .bf16⟩

abbrev hbmTy0_3 (i : Nat) : BufTy := match i % 128 with
  | 0 => ⟨S66x2x8x1x64, .f32⟩
  | 1 => ⟨S_, .f32⟩
  | 2 => ⟨S66x2x8x64, .f32⟩
  | 3 => ⟨S_, .f32⟩
  | 4 => ⟨S66x2x8x64, .f32⟩
  | 5 => ⟨S66x2x8x64, .f32⟩
  | 6 => ⟨S66x64x2x8, .f32⟩
  | 7 => ⟨S66x64x2x8, .f32⟩
  | 8 => ⟨S66x16, .f32⟩
  | 9 => ⟨S66x64x16, .f32⟩
  | 10 => ⟨S66x64x16, .f32⟩
  | 11 => ⟨S66x16x64, .f32⟩
  | 12 => ⟨S66x16x64, .f32⟩
  | 13 => ⟨S66x64x16, .f32⟩
  | 14 => ⟨S66x64x16, .f32⟩
  | 15 => ⟨S2x2112x256, .f32⟩
  | 16 => ⟨S2x48x256, .f32⟩
  | 17 => ⟨S2x2064x256, .f32⟩
  | 18 => ⟨S4128x256, .f32⟩
  | 19 => ⟨S2x2112x256, .f32⟩
  | 20 => ⟨S2x48x256, .f32⟩
  | 21 => ⟨S2x2064x256, .f32⟩
  | 22 => ⟨S4128x256, .f32⟩
  | 23 => ⟨S2x2112x16, .f32⟩
  | 24 => ⟨S2x48x16, .f32⟩
  | 25 => ⟨S2x2064x16, .f32⟩
  | 26 => ⟨S4128x16, .f32⟩
  | 27 => ⟨S4128x16, .f32⟩
  | 28 => ⟨S_, .f32⟩
  | 29 => ⟨S16, .f32⟩
  | 30 => ⟨S1x16, .f32⟩
  | 31 => ⟨S4128x16, .f32⟩
  | 32 => ⟨S4128x16, .f32⟩
  | 33 => ⟨S_, .f32⟩
  | 34 => ⟨S16, .f32⟩
  | 35 => ⟨S2x2112x1024, .f32⟩
  | 36 => ⟨S2x48x1024, .f32⟩
  | 37 => ⟨S2x2064x1024, .f32⟩
  | 38 => ⟨S4128x1024, .f32⟩
  | 39 => ⟨S4128x16x64, .f32⟩
  | 40 => ⟨S4128x16x64, .f32⟩
  | 41 => ⟨S_, .f32⟩
  | 42 => ⟨S16x64, .f32⟩
  | 43 => ⟨S1x16x64, .f32⟩
  | 44 => ⟨S4128x16x64, .f32⟩
  | 45 => ⟨S4128x16x64, .f32⟩
  | 46 => ⟨S_, .f32⟩
  | 47 => ⟨S16x64, .f32⟩
  | 48 => ⟨S_, .f32⟩
  | 49 => ⟨S16, .f32⟩
  | 50 => ⟨S16x1, .f32⟩
  | 51 => ⟨S_, .f32⟩
  | 52 => ⟨S16, .f32⟩
  | 53 => ⟨S2x2112x1024, .f32⟩
  | 54 => ⟨S2x48x1024, .f32⟩
  | 55 => ⟨S2x2064x1024, .f32⟩
  | 56 => ⟨S4128x1024, .f32⟩
  | 57 => ⟨S4128x16x64, .f32⟩
  | 58 => ⟨S4128x16x64, .f32⟩
  | 59 => ⟨S_, .f32⟩
  | 60 => ⟨S4128x16, .f32⟩
  | 61 => ⟨S4128x16x1, .f32⟩
  | 62 => ⟨S4128x16x64, .f32⟩
  | 63 => ⟨S4128x16x64, .f32⟩
  | 64 => ⟨S4128x16x64, .f32⟩
  | 65 => ⟨S_, .f32⟩
  | 66 => ⟨S4128x16, .f32⟩
  | 67 => ⟨S4128x16, .f32⟩
  | 68 => ⟨S4128x1024, .f32⟩
  | 69 => ⟨S16, .f32⟩
  | 70 => ⟨S16, .f32⟩
  | 71 => ⟨S4128x16, .f32⟩
  | 72 => ⟨S_, .f32⟩
  | 73 => ⟨S16, .f32⟩
  | 74 => ⟨S1x16, .f32⟩
  | 75 => ⟨S_, .f32⟩
  | 76 => ⟨S16, .f32⟩
  | 77 => ⟨S4128x1536, .f32⟩
  | 78 => ⟨S2x2064x1536, .f32⟩
  | 79 => ⟨S_, .f32⟩
  | 80 => ⟨S2x48x1536, .f32⟩
  | 81 => ⟨S2x2112x1536, .f32⟩
  | 82 => ⟨S2x2112x1536, .bf16⟩
  | 83 => ⟨S_, .f32⟩
  | 84 => ⟨S4128x112, .f32⟩
  | 85 => ⟨S4128x128, .f32⟩
  | 86 => ⟨S4128x1152, .f32⟩
  | 87 => ⟨S2x2064x1152, .f32⟩
  | 88 => ⟨S_, .f32⟩
  | 89 => ⟨S2x48x1152, .f32⟩
  | 90 => ⟨S2x2112x1152, .f32⟩
  | 91 => ⟨S2x2112x1152, .bf16⟩
  | 92 => ⟨S1x1024, .f32⟩
  | 93 => ⟨S1x16, .f32⟩
  | 94 => ⟨S_, .f32⟩
  | 95 => ⟨S1x112, .f32⟩
  | 96 => ⟨S1x128, .f32⟩
  | 97 => ⟨S1x16, .f32⟩
  | 98 => ⟨S_, .f32⟩
  | 99 => ⟨S1x112, .f32⟩
  | 100 => ⟨S1x128, .f32⟩
  | 101 => ⟨S1x16, .f32⟩
  | 102 => ⟨S_, .f32⟩
  | 103 => ⟨S1x112, .f32⟩
  | 104 => ⟨S1x128, .f32⟩
  | _ => ⟨S2x2064x2048, .bf16⟩

abbrev hbmTy (i : Nat) : BufTy := match i / 128 with
  | 0 => hbmTy0_0 i
  | 1 => hbmTy0_1 i
  | 2 => hbmTy0_2 i
  | 3 => hbmTy0_3 i
  | _ => ⟨S2x2064x2048, .bf16⟩

abbrev bufTy : (tb : Table) → Fin (tcTables nBuf tb) → BufTy
  | .hbm, ⟨i, _⟩ => hbmTy i
  | _, _ => ⟨S2x2064x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v5_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v5_1 : Ref sig .tc := ⟨.hbm, 25, rfl⟩
abbrev main_v5_0 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v48 : Ref sig .tc := ⟨.hbm, 81, rfl⟩
abbrev main_cst_8 : Ref sig .tc := ⟨.hbm, 82, rfl⟩
abbrev main_v49 : Ref sig .tc := ⟨.hbm, 83, rfl⟩
abbrev main_call2_v0 : Ref sig .tc := ⟨.hbm, 84, rfl⟩
abbrev main_call2_c : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_cst : Ref sig .tc := ⟨.hbm, 90, rfl⟩
abbrev main_call2_v5 : Ref sig .tc := ⟨.hbm, 91, rfl⟩
abbrev main_v50 : Ref sig .tc := ⟨.hbm, 92, rfl⟩
abbrev main_c : Ref sig .tc := ⟨.hbm, 93, rfl⟩
abbrev main_v51 : Ref sig .tc := ⟨.hbm, 94, rfl⟩
abbrev main_call3_v0 : Ref sig .tc := ⟨.hbm, 95, rfl⟩
abbrev main_call3_c : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_c_0 : Ref sig .tc := ⟨.hbm, 101, rfl⟩
abbrev main_call3_v5 : Ref sig .tc := ⟨.hbm, 102, rfl⟩
abbrev main_v52 : Ref sig .tc := ⟨.hbm, 103, rfl⟩
abbrev main_v53 : Ref sig .tc := ⟨.hbm, 104, rfl⟩
abbrev main_cst_9 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_call4_cst : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_v5 : Ref sig .tc := ⟨.hbm, 132, rfl⟩
abbrev main_call4_v6 : Ref sig .tc := ⟨.hbm, 133, rfl⟩
abbrev main_call4_v7 : Ref sig .tc := ⟨.hbm, 134, rfl⟩
abbrev main_call4_v8 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_v74_0 : Ref sig .tc := ⟨.hbm, 139, rfl⟩
abbrev main_call4_cst_0 : Ref sig .tc := ⟨.hbm, 140, rfl⟩
abbrev main_call4_v13 : Ref sig .tc := ⟨.hbm, 141, rfl⟩
abbrev main_call4_v14 : Ref sig .tc := ⟨.hbm, 142, rfl⟩
abbrev main_call4_cst_1 : Ref sig .tc := ⟨.hbm, 143, rfl⟩
abbrev main_call4_v15 : Ref sig .tc := ⟨.hbm, 144, rfl⟩
abbrev main_call4_v16 : Ref sig .tc := ⟨.hbm, 145, rfl⟩
abbrev main_call4_cst_2 : Ref sig .tc := ⟨.hbm, 146, rfl⟩
abbrev main_call4_v17 : Ref sig .tc := ⟨.hbm, 147, rfl⟩
abbrev main_call4_v18 : Ref sig .tc := ⟨.hbm, 148, rfl⟩
abbrev main_call4_cst_3 : Ref sig .tc := ⟨.hbm, 149, rfl⟩
abbrev main_call4_v19 : Ref sig .tc := ⟨.hbm, 150, rfl⟩
abbrev main_call4_v20 : Ref sig .tc := ⟨.hbm, 151, rfl⟩
abbrev main_call4_v21 : Ref sig .tc := ⟨.hbm, 152, rfl⟩
abbrev main_v74_1 : Ref sig .tc := ⟨.hbm, 153, rfl⟩
abbrev main_call4_cst_4 : Ref sig .tc := ⟨.hbm, 154, rfl⟩
abbrev main_call4_cst_5 : Ref sig .tc := ⟨.hbm, 155, rfl⟩
abbrev main_call4_v23 : Ref sig .tc := ⟨.hbm, 156, rfl⟩
abbrev main_call4_cst_6 : Ref sig .tc := ⟨.hbm, 157, rfl⟩
abbrev main_call4_cst_7 : Ref sig .tc := ⟨.hbm, 158, rfl⟩
abbrev main_call4_v24 : Ref sig .tc := ⟨.hbm, 159, rfl⟩
abbrev main_call4_cst_8 : Ref sig .tc := ⟨.hbm, 160, rfl⟩
abbrev main_call4_v25 : Ref sig .tc := ⟨.hbm, 161, rfl⟩
abbrev main_call4_v26 : Ref sig .tc := ⟨.hbm, 162, rfl⟩
abbrev main_call4_cst_9 : Ref sig .tc := ⟨.hbm, 163, rfl⟩
abbrev main_call4_v27 : Ref sig .tc := ⟨.hbm, 164, rfl⟩
abbrev main_call4_v28 : Ref sig .tc := ⟨.hbm, 165, rfl⟩
abbrev main_call4_v29 : Ref sig .tc := ⟨.hbm, 166, rfl⟩
abbrev main_call4_v30 : Ref sig .tc := ⟨.hbm, 167, rfl⟩
abbrev main_call4_v31 : Ref sig .tc := ⟨.hbm, 168, rfl⟩
abbrev main_call4_cst_10 : Ref sig .tc := ⟨.hbm, 169, rfl⟩
abbrev main_call4_v32 : Ref sig .tc := ⟨.hbm, 170, rfl⟩
abbrev main_v74_2 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_cst_10 : Ref sig .tc := ⟨.hbm, 180, rfl⟩
abbrev main_v83 : Ref sig .tc := ⟨.hbm, 181, rfl⟩
abbrev main_v84 : Ref sig .tc := ⟨.hbm, 182, rfl⟩
abbrev main_cst_11 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_cst_12 : Ref sig .tc := ⟨.hbm, 193, rfl⟩
abbrev main_v94 : Ref sig .tc := ⟨.hbm, 194, rfl⟩
abbrev main_v95 : Ref sig .tc := ⟨.hbm, 195, rfl⟩
abbrev main_cst_13 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_cst_14 : Ref sig .tc := ⟨.hbm, 203, rfl⟩
abbrev main_v102 : Ref sig .tc := ⟨.hbm, 204, rfl⟩
abbrev main_v103 : Ref sig .tc := ⟨.hbm, 205, rfl⟩
abbrev main_cst_15 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_cst_16 : Ref sig .tc := ⟨.hbm, 210, rfl⟩
abbrev main_v107 : Ref sig .tc := ⟨.hbm, 211, rfl⟩
abbrev main_v108 : Ref sig .tc := ⟨.hbm, 212, rfl⟩
abbrev main_cst_17 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_cst_18 : Ref sig .tc := ⟨.hbm, 217, rfl⟩
abbrev main_v112 : Ref sig .tc := ⟨.hbm, 218, rfl⟩
abbrev main_v113 : Ref sig .tc := ⟨.hbm, 219, rfl⟩
abbrev main_cst_19 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_cst_20 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩
abbrev main_v126 : Ref sig .tc := ⟨.hbm, 234, rfl⟩
abbrev main_cst_21 : Ref sig .tc := ⟨.hbm, 235, rfl⟩
abbrev main_call5_v0 : Ref sig .tc := ⟨.hbm, 236, rfl⟩
abbrev main_v127_1 : Ref sig .tc := ⟨.hbm, 237, rfl⟩
abbrev main_call5_v2 : Ref sig .tc := ⟨.hbm, 238, rfl⟩
abbrev main_v127_0 : Ref sig .tc := ⟨.hbm, 239, rfl⟩
abbrev main_call5_cst : Ref sig .tc := ⟨.hbm, 240, rfl⟩
abbrev main_v127_2 : Ref sig .tc := ⟨.hbm, 241, rfl⟩
abbrev main_v128 : Ref sig .tc := ⟨.hbm, 242, rfl⟩
abbrev main_cst_22 : Ref sig .tc := ⟨.hbm, 243, rfl⟩
abbrev main_call6_v0 : Ref sig .tc := ⟨.hbm, 244, rfl⟩
abbrev main_v129_1 : Ref sig .tc := ⟨.hbm, 245, rfl⟩
abbrev main_call6_v2 : Ref sig .tc := ⟨.hbm, 246, rfl⟩
abbrev main_v129_0 : Ref sig .tc := ⟨.hbm, 247, rfl⟩
abbrev main_call6_cst : Ref sig .tc := ⟨.hbm, 248, rfl⟩
abbrev main_v129_2 : Ref sig .tc := ⟨.hbm, 249, rfl⟩
abbrev main_v130 : Ref sig .tc := ⟨.hbm, 250, rfl⟩
abbrev main_v131 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_v140 : Ref sig .tc := ⟨.hbm, 260, rfl⟩
abbrev main_v141 : Ref sig .tc := ⟨.hbm, 261, rfl⟩
abbrev main_v142 : Ref sig .tc := ⟨.hbm, 262, rfl⟩
abbrev main_v143 : Ref sig .tc := ⟨.hbm, 263, rfl⟩
abbrev main_v144 : Ref sig .tc := ⟨.hbm, 264, rfl⟩
abbrev main_v145 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_v150 : Ref sig .tc := ⟨.hbm, 270, rfl⟩
abbrev main_v151 : Ref sig .tc := ⟨.hbm, 271, rfl⟩
abbrev main_v152 : Ref sig .tc := ⟨.hbm, 272, rfl⟩
abbrev main_v153 : Ref sig .tc := ⟨.hbm, 273, rfl⟩
abbrev main_v154 : Ref sig .tc := ⟨.hbm, 274, rfl⟩
abbrev main_v155 : Ref sig .tc := ⟨.hbm, 275, rfl⟩
abbrev main_v156 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩
abbrev main_v160 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_cst_23 : Ref sig .tc := ⟨.hbm, 298, rfl⟩
abbrev main_call7_v0 : Ref sig .tc := ⟨.hbm, 299, rfl⟩
abbrev main_call7_v1 : Ref sig .tc := ⟨.hbm, 300, rfl⟩
abbrev main_call7_v2 : Ref sig .tc := ⟨.hbm, 301, rfl⟩
abbrev main_v178 : Ref sig .tc := ⟨.hbm, 302, rfl⟩
abbrev main_v179 : Ref sig .tc := ⟨.hbm, 303, rfl⟩
abbrev main_v180 : Ref sig .tc := ⟨.hbm, 304, rfl⟩
abbrev main_v181 : Ref sig .tc := ⟨.hbm, 305, rfl⟩
abbrev main_v182 : Ref sig .tc := ⟨.hbm, 306, rfl⟩
abbrev main_v183 : Ref sig .tc := ⟨.hbm, 307, rfl⟩
abbrev main_cst_24 : Ref sig .tc := ⟨.hbm, 308, rfl⟩
abbrev main_v184 : Ref sig .tc := ⟨.hbm, 309, rfl⟩
abbrev main_cst_25 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_v190 : Ref sig .tc := ⟨.hbm, 316, rfl⟩
abbrev main_cst_26 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩
abbrev main_cst_27 : Ref sig .tc := ⟨.hbm, 322, rfl⟩
abbrev main_v195 : Ref sig .tc := ⟨.hbm, 323, rfl⟩
abbrev main_v196 : Ref sig .tc := ⟨.hbm, 324, rfl⟩
abbrev main_v197 : Ref sig .tc := ⟨.hbm, 325, rfl⟩
abbrev main_v198 : Ref sig .tc := ⟨.hbm, 326, rfl⟩
abbrev main_v199 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_v203 : Ref sig .tc := ⟨.hbm, 331, rfl⟩
abbrev main_v204 : Ref sig .tc := ⟨.hbm, 332, rfl⟩
abbrev main_v205 : Ref sig .tc := ⟨.hbm, 333, rfl⟩
abbrev main_v206 : Ref sig .tc := ⟨.hbm, 334, rfl⟩
abbrev main_v207 : Ref sig .tc := ⟨.hbm, 335, rfl⟩
abbrev main_v208 : Ref sig .tc := ⟨.hbm, 336, rfl⟩
abbrev main_v209 : Ref sig .tc := ⟨.hbm, 337, rfl⟩
abbrev main_cst_28 : Ref sig .tc := ⟨.hbm, 338, rfl⟩
abbrev main_v210 : Ref sig .tc := ⟨.hbm, 339, rfl⟩
abbrev main_v211 : Ref sig .tc := ⟨.hbm, 340, rfl⟩
abbrev main_cst_29 : Ref sig .tc := ⟨.hbm, 341, rfl⟩
abbrev main_v212 : Ref sig .tc := ⟨.hbm, 342, rfl⟩
abbrev main_v213 : Ref sig .tc := ⟨.hbm, 343, rfl⟩
abbrev main_cst_30 : Ref sig .tc := ⟨.hbm, 344, rfl⟩
abbrev main_v214 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_cst_31 : Ref sig .tc := ⟨.hbm, 349, rfl⟩
abbrev main_v218 : Ref sig .tc := ⟨.hbm, 350, rfl⟩
abbrev main_v219 : Ref sig .tc := ⟨.hbm, 351, rfl⟩
abbrev main_v220 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_v224 : Ref sig .tc := ⟨.hbm, 356, rfl⟩
abbrev main_v225 : Ref sig .tc := ⟨.hbm, 357, rfl⟩
abbrev main_v226 : Ref sig .tc := ⟨.hbm, 358, rfl⟩
abbrev main_v227 : Ref sig .tc := ⟨.hbm, 359, rfl⟩
abbrev main_cst_32 : Ref sig .tc := ⟨.hbm, 360, rfl⟩
abbrev main_v228 : Ref sig .tc := ⟨.hbm, 361, rfl⟩
abbrev main_v229 : Ref sig .tc := ⟨.hbm, 362, rfl⟩
abbrev main_cst_33 : Ref sig .tc := ⟨.hbm, 363, rfl⟩
abbrev main_v230 : Ref sig .tc := ⟨.hbm, 364, rfl⟩
abbrev main_v231 : Ref sig .tc := ⟨.hbm, 365, rfl⟩
abbrev main_v232 : Ref sig .tc := ⟨.hbm, 366, rfl⟩
abbrev main_v233 : Ref sig .tc := ⟨.hbm, 367, rfl⟩
abbrev main_v234 : Ref sig .tc := ⟨.hbm, 368, rfl⟩
abbrev main_v235 : Ref sig .tc := ⟨.hbm, 369, rfl⟩
abbrev main_v236 : Ref sig .tc := ⟨.hbm, 370, rfl⟩
abbrev main_call8_cst : Ref sig .tc := ⟨.hbm, 371, rfl⟩
abbrev main_call8_v0 : Ref sig .tc := ⟨.hbm, 372, rfl⟩
abbrev main_v237 : Ref sig .tc := ⟨.hbm, 373, rfl⟩
abbrev main_v238 : Ref sig .tc := ⟨.hbm, 374, rfl⟩
abbrev main_call9_cst : Ref sig .tc := ⟨.hbm, 375, rfl⟩
abbrev main_call9_v0 : Ref sig .tc := ⟨.hbm, 376, rfl⟩
abbrev main_v239 : Ref sig .tc := ⟨.hbm, 377, rfl⟩
abbrev main_cst_34 : Ref sig .tc := ⟨.hbm, 378, rfl⟩
abbrev main_v240 : Ref sig .tc := ⟨.hbm, 379, rfl⟩
abbrev main_v241 : Ref sig .tc := ⟨.hbm, 380, rfl⟩
abbrev main_v242 : Ref sig .tc := ⟨.hbm, 381, rfl⟩
abbrev main_cst_35 : Ref sig .tc := ⟨.hbm, 382, rfl⟩
abbrev main_v243 : Ref sig .tc := ⟨.hbm, 383, rfl⟩
abbrev main_v244 : Ref sig .tc := ⟨.hbm, 384, rfl⟩
abbrev main_cst_36 : Ref sig .tc := ⟨.hbm, 385, rfl⟩
abbrev main_v245 : Ref sig .tc := ⟨.hbm, 386, rfl⟩
abbrev main_cst_37 : Ref sig .tc := ⟨.hbm, 387, rfl⟩
abbrev main_v246 : Ref sig .tc := ⟨.hbm, 388, rfl⟩
abbrev main_v247 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_v251 : Ref sig .tc := ⟨.hbm, 393, rfl⟩
abbrev main_v252 : Ref sig .tc := ⟨.hbm, 394, rfl⟩
abbrev main_v253 : Ref sig .tc := ⟨.hbm, 395, rfl⟩
abbrev main_v254 : Ref sig .tc := ⟨.hbm, 396, rfl⟩
abbrev main_v255 : Ref sig .tc := ⟨.hbm, 397, rfl⟩
abbrev main_v256 : Ref sig .tc := ⟨.hbm, 398, rfl⟩
abbrev main_v257 : Ref sig .tc := ⟨.hbm, 399, rfl⟩
abbrev main_v258 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_v262 : Ref sig .tc := ⟨.hbm, 404, rfl⟩
abbrev main_v263 : Ref sig .tc := ⟨.hbm, 405, rfl⟩
abbrev main_v264 : Ref sig .tc := ⟨.hbm, 406, rfl⟩
abbrev main_v265 : Ref sig .tc := ⟨.hbm, 407, rfl⟩
abbrev main_v266 : Ref sig .tc := ⟨.hbm, 408, rfl⟩
abbrev main_v267 : Ref sig .tc := ⟨.hbm, 409, rfl⟩
abbrev main_v268 : Ref sig .tc := ⟨.hbm, 410, rfl⟩
abbrev main_v269 : Ref sig .tc := ⟨.hbm, 411, rfl⟩
abbrev main_cst_38 : Ref sig .tc := ⟨.hbm, 412, rfl⟩
abbrev main_v270 : Ref sig .tc := ⟨.hbm, 413, rfl⟩
abbrev main_v271 : Ref sig .tc := ⟨.hbm, 414, rfl⟩
abbrev main_v272 : Ref sig .tc := ⟨.hbm, 415, rfl⟩
abbrev main_v273 : Ref sig .tc := ⟨.hbm, 416, rfl⟩
abbrev main_cst_39 : Ref sig .tc := ⟨.hbm, 417, rfl⟩
abbrev main_v274 : Ref sig .tc := ⟨.hbm, 418, rfl⟩
abbrev main_v275 : Ref sig .tc := ⟨.hbm, 419, rfl⟩
abbrev main_v276 : Ref sig .tc := ⟨.hbm, 420, rfl⟩
abbrev main_v277 : Ref sig .tc := ⟨.hbm, 421, rfl⟩
abbrev main_v278 : Ref sig .tc := ⟨.hbm, 422, rfl⟩
abbrev main_v279 : Ref sig .tc := ⟨.hbm, 423, rfl⟩
abbrev main_v280 : Ref sig .tc := ⟨.hbm, 424, rfl⟩
abbrev main_cst_40 : Ref sig .tc := ⟨.hbm, 425, rfl⟩
abbrev main_v281 : Ref sig .tc := ⟨.hbm, 426, rfl⟩
abbrev main_v282 : Ref sig .tc := ⟨.hbm, 427, rfl⟩
abbrev main_v283 : Ref sig .tc := ⟨.hbm, 428, rfl⟩
abbrev main_v284 : Ref sig .tc := ⟨.hbm, 429, rfl⟩
abbrev main_cst_41 : Ref sig .tc := ⟨.hbm, 430, rfl⟩
abbrev main_v285 : Ref sig .tc := ⟨.hbm, 431, rfl⟩
abbrev main_cst_42 : Ref sig .tc := ⟨.hbm, 432, rfl⟩
abbrev main_v286 : Ref sig .tc := ⟨.hbm, 433, rfl⟩
abbrev main_v287 : Ref sig .tc := ⟨.hbm, 434, rfl⟩
abbrev main_cst_43 : Ref sig .tc := ⟨.hbm, 435, rfl⟩
abbrev main_v288 : Ref sig .tc := ⟨.hbm, 436, rfl⟩
abbrev main_v289 : Ref sig .tc := ⟨.hbm, 437, rfl⟩
abbrev main_v290 : Ref sig .tc := ⟨.hbm, 438, rfl⟩
abbrev main_v291 : Ref sig .tc := ⟨.hbm, 439, rfl⟩
abbrev main_v292 : Ref sig .tc := ⟨.hbm, 440, rfl⟩
abbrev main_v293 : Ref sig .tc := ⟨.hbm, 441, rfl⟩
abbrev main_v294 : Ref sig .tc := ⟨.hbm, 442, rfl⟩
abbrev main_cst_44 : Ref sig .tc := ⟨.hbm, 443, rfl⟩
abbrev main_v295 : Ref sig .tc := ⟨.hbm, 444, rfl⟩
abbrev main_v296 : Ref sig .tc := ⟨.hbm, 445, rfl⟩
abbrev main_v297 : Ref sig .tc := ⟨.hbm, 446, rfl⟩
abbrev main_v298 : Ref sig .tc := ⟨.hbm, 447, rfl⟩
abbrev main_v299 : Ref sig .tc := ⟨.hbm, 448, rfl⟩
abbrev main_cst_45 : Ref sig .tc := ⟨.hbm, 449, rfl⟩
abbrev main_v300 : Ref sig .tc := ⟨.hbm, 450, rfl⟩
abbrev main_v301 : Ref sig .tc := ⟨.hbm, 451, rfl⟩
abbrev main_v302 : Ref sig .tc := ⟨.hbm, 452, rfl⟩
abbrev main_v303 : Ref sig .tc := ⟨.hbm, 453, rfl⟩
abbrev main_v304 : Ref sig .tc := ⟨.hbm, 454, rfl⟩
abbrev main_v305 : Ref sig .tc := ⟨.hbm, 455, rfl⟩
abbrev main_cst_46 : Ref sig .tc := ⟨.hbm, 456, rfl⟩
abbrev main_v306 : Ref sig .tc := ⟨.hbm, 457, rfl⟩
abbrev main_v307 : Ref sig .tc := ⟨.hbm, 458, rfl⟩
abbrev main_cst_47 : Ref sig .tc := ⟨.hbm, 459, rfl⟩
abbrev main_v308 : Ref sig .tc := ⟨.hbm, 460, rfl⟩
abbrev main_v309 : Ref sig .tc := ⟨.hbm, 461, rfl⟩
abbrev main_v310 : Ref sig .tc := ⟨.hbm, 462, rfl⟩
abbrev main_cst_48 : Ref sig .tc := ⟨.hbm, 463, rfl⟩
abbrev main_v311 : Ref sig .tc := ⟨.hbm, 464, rfl⟩
abbrev main_v312 : Ref sig .tc := ⟨.hbm, 465, rfl⟩
abbrev main_v313 : Ref sig .tc := ⟨.hbm, 466, rfl⟩
abbrev main_cst_49 : Ref sig .tc := ⟨.hbm, 467, rfl⟩
abbrev main_v314 : Ref sig .tc := ⟨.hbm, 468, rfl⟩
abbrev main_v315 : Ref sig .tc := ⟨.hbm, 469, rfl⟩
abbrev main_v316 : Ref sig .tc := ⟨.hbm, 470, rfl⟩
abbrev main_v317 : Ref sig .tc := ⟨.hbm, 471, rfl⟩
abbrev main_cst_50 : Ref sig .tc := ⟨.hbm, 472, rfl⟩
abbrev main_v318 : Ref sig .tc := ⟨.hbm, 473, rfl⟩
abbrev main_v319 : Ref sig .tc := ⟨.hbm, 474, rfl⟩
abbrev main_v320 : Ref sig .tc := ⟨.hbm, 475, rfl⟩
abbrev main_v321 : Ref sig .tc := ⟨.hbm, 476, rfl⟩
abbrev main_v322 : Ref sig .tc := ⟨.hbm, 477, rfl⟩
abbrev main_cst_51 : Ref sig .tc := ⟨.hbm, 478, rfl⟩
abbrev main_v323 : Ref sig .tc := ⟨.hbm, 479, rfl⟩
abbrev main_v324 : Ref sig .tc := ⟨.hbm, 480, rfl⟩
abbrev main_v325 : Ref sig .tc := ⟨.hbm, 481, rfl⟩
abbrev main_cst_52 : Ref sig .tc := ⟨.hbm, 482, rfl⟩
abbrev main_v326 : Ref sig .tc := ⟨.hbm, 483, rfl⟩
abbrev main_v327 : Ref sig .tc := ⟨.hbm, 484, rfl⟩
abbrev main_v328 : Ref sig .tc := ⟨.hbm, 485, rfl⟩
abbrev main_cst_53 : Ref sig .tc := ⟨.hbm, 486, rfl⟩
abbrev main_v329 : Ref sig .tc := ⟨.hbm, 487, rfl⟩
abbrev main_v330 : Ref sig .tc := ⟨.hbm, 488, rfl⟩

abbrev nD : Nat := 1
abbrev τ : Topo := Topo.v7x

variable {F : FTy → Type} [FloatOps F]
-- ==== Kernel6.lean ====
abbrev S4224x6272 : Shape := ⟨2, ![4224, 6272]⟩
abbrev S4224x1024 : Shape := ⟨2, ![4224, 1024]⟩
abbrev S6272x1024 : Shape := ⟨2, ![6272, 1024]⟩
abbrev S4224x896 : Shape := ⟨2, ![4224, 896]⟩
abbrev S896x1024 : Shape := ⟨2, ![896, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x6272, .bf16⟩
  | .hbm, ⟨1, _⟩ => ⟨S4224x1024, .bf16⟩
  | .hbm, ⟨2, _⟩ => ⟨S6272x1024, .f32⟩
  | .local _ .vmem, ⟨0, _⟩ => ⟨S4224x896, .bf16⟩
  | .local _ .vmem, ⟨1, _⟩ => ⟨S4224x896, .bf16⟩
  | .local _ .vmem, ⟨2, _⟩ => ⟨S4224x1024, .bf16⟩
  | .local _ .vmem, ⟨3, _⟩ => ⟨S896x1024, .f32⟩
  | .local _ .vmem, ⟨4, _⟩ => ⟨S896x1024, .f32⟩
  | .local _ .vmem, ⟨5, _⟩ => ⟨S8x128, .f32⟩
  | _, _ => ⟨S4224x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![7, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4224x6272 : Shape := ⟨2, ![4224, 6272]⟩
abbrev S4224x1024 : Shape := ⟨2, ![4224, 1024]⟩
abbrev S2x2112x1024 : Shape := ⟨3, ![2, 2112, 1024]⟩
abbrev S2x2112x6272 : Shape := ⟨3, ![2, 2112, 6272]⟩
abbrev S_ : Shape := ⟨0, ![]⟩
abbrev S1024x6272 : Shape := ⟨2, ![1024, 6272]⟩
abbrev S6272x1024 : Shape := ⟨2, ![6272, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4224x6272, .bf16⟩
  | .hbm, ⟨1, _⟩ => ⟨S4224x1024, .bf16⟩
  | .hbm, ⟨2, _⟩ => ⟨S2x2112x1024, .bf16⟩
  | .hbm, ⟨3, _⟩ => ⟨S2x2112x1024, .f32⟩
  | .hbm, ⟨4, _⟩ => ⟨S2x2112x6272, .bf16⟩
  | .hbm, ⟨5, _⟩ => ⟨S2x2112x6272, .f32⟩
  | .hbm, ⟨6, _⟩ => ⟨S_, .f32⟩
  | .hbm, ⟨7, _⟩ => ⟨S1024x6272, .f32⟩
  | .hbm, ⟨8, _⟩ => ⟨S2x2112x6272, .f32⟩
  | .hbm, ⟨9, _⟩ => ⟨S6272x1024, .f32⟩
  | .hbm, ⟨10, _⟩ => ⟨S1024x6272, .f32⟩
  | .hbm, ⟨11, _⟩ => ⟨S6272x1024, .f32⟩
  | _, _ => ⟨S4224x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4224x6272 : Shape := ⟨2, ![4224, 6272]⟩
abbrev S6272x1024 : Shape := ⟨2, ![6272, 1024]⟩
abbrev S4224x1024 : Shape := ⟨2, ![4224, 1024]⟩
abbrev S384x6272 : Shape := ⟨2, ![384, 6272]⟩
abbrev S384x1024 : Shape := ⟨2, ![384, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x6272, .bf16⟩
  | .hbm, ⟨1, _⟩ => ⟨S6272x1024, .bf16⟩
  | .hbm, ⟨2, _⟩ => ⟨S4224x1024, .bf16⟩
  | .local _ .vmem, ⟨0, _⟩ => ⟨S384x6272, .bf16⟩
  | .local _ .vmem, ⟨1, _⟩ => ⟨S384x6272, .bf16⟩
  | .local _ .vmem, ⟨2, _⟩ => ⟨S6272x1024, .bf16⟩
  | .local _ .vmem, ⟨3, _⟩ => ⟨S384x1024, .bf16⟩
  | .local _ .vmem, ⟨4, _⟩ => ⟨S384x1024, .bf16⟩
  | .local _ .vmem, ⟨5, _⟩ => ⟨S8x128, .f32⟩
  | _, _ => ⟨S4224x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S6272x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4224x6272 : Shape := ⟨2, ![4224, 6272]⟩
abbrev S6272x1024 : Shape := ⟨2, ![6272, 1024]⟩
abbrev S1024x6272 : Shape := ⟨2, ![1024, 6272]⟩
abbrev S2x2112x6272 : Shape := ⟨3, ![2, 2112, 6272]⟩
abbrev S_ : Shape := ⟨0, ![]⟩
abbrev S2x2112x1024 : Shape := ⟨3, ![2, 2112, 1024]⟩
abbrev S4224x1024 : Shape := ⟨2, ![4224, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4224x6272, .bf16⟩
  | .hbm, ⟨1, _⟩ => ⟨S6272x1024, .bf16⟩
  | .hbm, ⟨2, _⟩ => ⟨S6272x1024, .f32⟩
  | .hbm, ⟨3, _⟩ => ⟨S1024x6272, .f32⟩
  | .hbm, ⟨4, _⟩ => ⟨S2x2112x6272, .bf16⟩
  | .hbm, ⟨5, _⟩ => ⟨S2x2112x6272, .f32⟩
  | .hbm, ⟨6, _⟩ => ⟨S_, .f32⟩
  | .hbm, ⟨7, _⟩ => ⟨S2x2112x1024, .f32⟩
  | .hbm, ⟨8, _⟩ => ⟨S2x2112x6272, .f32⟩
  | .hbm, ⟨9, _⟩ => ⟨S2x2112x1024, .f32⟩
  | .hbm, ⟨10, _⟩ => ⟨S4224x1024, .f32⟩
  | .hbm, ⟨11, _⟩ => ⟨S4224x1024, .bf16⟩
  | _, _ => ⟨S4224x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4224x1024 : Shape := ⟨2, ![4224, 1024]⟩
abbrev S2048x1024 : Shape := ⟨2, ![2048, 1024]⟩
abbrev S4224x2048 : Shape := ⟨2, ![4224, 2048]⟩
abbrev S1408x1024 : Shape := ⟨2, ![1408, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S2048x1024, .bf16⟩
  | .hbm, ⟨2, _⟩ => ⟨S4224x2048, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S8x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x1024 : Shape := ⟨2, ![4224, 1024]⟩
abbrev S2048x1024 : Shape := ⟨2, ![2048, 1024]⟩
abbrev S2x2112x1024 : Shape := ⟨3, ![2, 2112, 1024]⟩
abbrev S_ : Shape := ⟨0, ![]⟩
abbrev S2x2112x2048 : Shape := ⟨3, ![2, 2112, 2048]⟩
abbrev S4224x2048 : Shape := ⟨2, ![4224, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S2048x1024, .bf16⟩
  | .hbm, ⟨2, _⟩ => ⟨S2048x1024, .f32⟩
  | .hbm, ⟨3, _⟩ => ⟨S2x2112x1024, .bf16⟩
  | .hbm, ⟨4, _⟩ => ⟨S2x2112x1024, .f32⟩
  | .hbm, ⟨5, _⟩ => ⟨S_, .f32⟩
  | .hbm, ⟨6, _⟩ => ⟨S2x2112x2048, .f32⟩
  | .hbm, ⟨7, _⟩ => ⟨S2x2112x1024, .f32⟩
  | .hbm, ⟨8, _⟩ => ⟨S2x2112x2048, .f32⟩
  | .hbm, ⟨9, _⟩ => ⟨S4224x2048, .f32⟩
  | .hbm, ⟨10, _⟩ => ⟨S4224x2048, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4224x2048 : Shape := ⟨2, ![4224, 2048]⟩
abbrev S4224x1024 : Shape := ⟨2, ![4224, 1024]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S2048x1024, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4224x2048 : Shape := ⟨2, ![4224, 2048]⟩
abbrev S4224x1024 : Shape := ⟨2, ![4224, 1024]⟩
abbrev S2x2112x2048 : Shape := ⟨3, ![2, 2112, 2048]⟩
abbrev S2x2112x1024 : Shape := ⟨3, ![2, 2112, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S2x2112x2048, .bf16⟩
  | .hbm, ⟨3, _⟩ => ⟨S2x2112x2048, .f32⟩
  | .hbm, ⟨4, _⟩ => ⟨S2x2112x1024, .bf16⟩
  | .hbm, ⟨5, _⟩ => ⟨S2x2112x1024, .f32⟩
  | .hbm, ⟨6, _⟩ => ⟨S_, .f32⟩
  | .hbm, ⟨7, _⟩ => ⟨S2048x1024, .f32⟩
  | .hbm, ⟨8, _⟩ => ⟨S2x2112x1024, .f32⟩
  | .hbm, ⟨9, _⟩ => ⟨S1024x2048, .f32⟩
  | .hbm, ⟨10, _⟩ => ⟨S2048x1024, .f32⟩
  | .hbm, ⟨11, _⟩ => ⟨S2048x1024, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S4224x1024 : Shape := ⟨2, ![4224, 1024]⟩
abbrev S6272x1024 : Shape := ⟨2, ![6272, 1024]⟩
abbrev S4224x6272 : Shape := ⟨2, ![4224, 6272]⟩
abbrev S1408x1024 : Shape := ⟨2, ![1408, 1024]⟩
abbrev S896x1024 : Shape := ⟨2, ![896, 1024]⟩
abbrev S1408x896 : Shape := ⟨2, ![1408, 896]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S6272x1024, .bf16⟩
  | .hbm, ⟨2, _⟩ => ⟨S4224x6272, .bf16⟩
  | .local _ .vmem, ⟨0, _⟩ => ⟨S1408x1024, .bf16⟩
  | .local _ .vmem, ⟨1, _⟩ => ⟨S1408x1024, .bf16⟩
  | .local _ .vmem, ⟨2, _⟩ => ⟨S896x1024, .bf16⟩
  | .local _ .vmem, ⟨3, _⟩ => ⟨S896x1024, .bf16⟩
  | .local _ .vmem, ⟨4, _⟩ => ⟨S1408x896, .bf16⟩
  | .local _ .vmem, ⟨5, _⟩ => ⟨S1408x896, .bf16⟩
  | .local _ .vmem, ⟨6, _⟩ => ⟨S8x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4224x1024 : Shape := ⟨2, ![4224, 1024]⟩
abbrev S6272x1024 : Shape := ⟨2, ![6272, 1024]⟩
abbrev S2x2112x1024 : Shape := ⟨3, ![2, 2112, 1024]⟩
abbrev S1024x6272 : Shape := ⟨2, ![1024, 6272]⟩
abbrev S2x2112x6272 : Shape := ⟨3, ![2, 2112, 6272]⟩
abbrev S4224x6272 : Shape := ⟨2, ![4224, 6272]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S6272x1024, .bf16⟩
  | .hbm, ⟨2, _⟩ => ⟨S2x2112x1024, .bf16⟩
  | .hbm, ⟨3, _⟩ => ⟨S2x2112x1024, .f32⟩
  | .hbm, ⟨4, _⟩ => ⟨S6272x1024, .f32⟩
  | .hbm, ⟨5, _⟩ => ⟨S1024x6272, .f32⟩
  | .hbm, ⟨6, _⟩ => ⟨S2x2112x6272, .f32⟩
  | .hbm, ⟨7, _⟩ => ⟨S4224x6272, .f32⟩
  | .hbm, ⟨8, _⟩ => ⟨S4224x6272, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel11.lean ====
abbrev S4224x2048 : Shape := ⟨2, ![4224, 2048]⟩
abbrev S2048x1024 : Shape := ⟨2, ![2048, 1024]⟩
abbrev S4224x1024 : Shape := ⟨2, ![4224, 1024]⟩
abbrev S704x2048 : Shape := ⟨2, ![704, 2048]⟩
abbrev S704x1024 : Shape := ⟨2, ![704, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x1024, .bf16⟩
  | .hbm, ⟨2, _⟩ => ⟨S4224x1024, .f32⟩
  | .local _ .vmem, ⟨0, _⟩ => ⟨S704x2048, .bf16⟩
  | .local _ .vmem, ⟨1, _⟩ => ⟨S704x2048, .bf16⟩
  | .local _ .vmem, ⟨2, _⟩ => ⟨S2048x1024, .bf16⟩
  | .local _ .vmem, ⟨3, _⟩ => ⟨S704x1024, .f32⟩
  | .local _ .vmem, ⟨4, _⟩ => ⟨S704x1024, .f32⟩
  | .local _ .vmem, ⟨5, _⟩ => ⟨S8x128, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4224x2048 : Shape := ⟨2, ![4224, 2048]⟩
abbrev S2048x1024 : Shape := ⟨2, ![2048, 1024]⟩
abbrev S2x2112x2048 : Shape := ⟨3, ![2, 2112, 2048]⟩
abbrev S2x2112x1024 : Shape := ⟨3, ![2, 2112, 1024]⟩
abbrev S4224x1024 : Shape := ⟨2, ![4224, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x1024, .bf16⟩
  | .hbm, ⟨2, _⟩ => ⟨S2x2112x2048, .bf16⟩
  | .hbm, ⟨3, _⟩ => ⟨S2x2112x2048, .f32⟩
  | .hbm, ⟨4, _⟩ => ⟨S2048x1024, .f32⟩
  | .hbm, ⟨5, _⟩ => ⟨S2x2112x1024, .f32⟩
  | .hbm, ⟨6, _⟩ => ⟨S4224x1024, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference12Ideal.lean ====
abbrev S4x256x1024 : Shape := ⟨3, ![4, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S328x128 : Shape := ⟨2, ![328, 128]⟩

abbrev nBuf : Space → Nat
  | .hbm => 7
  | .vmem => 7
  | .smem => 0
  | _ => 0

abbrev bufTy : (tb : Table) → Fin (tcTables nBuf tb) → BufTy
  | .hbm, ⟨0, _⟩ => ⟨S328x128, .f32⟩
  | .hbm, ⟨1, _⟩ => ⟨S328x128, .f32⟩
  | .hbm, ⟨2, _⟩ => ⟨S328x128, .f32⟩
  | .hbm, ⟨3, _⟩ => ⟨S328x128, .f32⟩
  | .hbm, ⟨4, _⟩ => ⟨S328x128, .f32⟩
  | .hbm, ⟨5, _⟩ => ⟨S328x128, .f32⟩
  | .hbm, ⟨6, _⟩ => ⟨S328x128, .f32⟩
  | .local _ .vmem, ⟨0, _⟩ => ⟨S328x128, .f32⟩
  | .local _ .vmem, ⟨1, _⟩ => ⟨S328x128, .f32⟩
  | .local _ .vmem, ⟨2, _⟩ => ⟨S328x128, .f32⟩
  | .local _ .vmem, ⟨3, _⟩ => ⟨S328x128, .f32⟩
  | .local _ .vmem, ⟨4, _⟩ => ⟨S328x128, .f32⟩
  | .local _ .vmem, ⟨5, _⟩ => ⟨S328x128, .f32⟩
  | .local _ .vmem, ⟨6, _⟩ => ⟨S328x128, .f32⟩
  | _, _ => ⟨S328x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S328x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S328x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S328x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S328x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S328x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S328x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S328x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S328x128 : Shape := ⟨2, ![328, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S328x128, .f32⟩
  | .hbm, ⟨1, _⟩ => ⟨S328x128, .f32⟩
  | .hbm, ⟨2, _⟩ => ⟨S328x128, .f32⟩
  | .hbm, ⟨3, _⟩ => ⟨S328x128, .f32⟩
  | .hbm, ⟨4, _⟩ => ⟨S_, .f32⟩
  | .hbm, ⟨5, _⟩ => ⟨S328x128, .f32⟩
  | .hbm, ⟨6, _⟩ => ⟨S328x128, .f32⟩
  | .hbm, ⟨7, _⟩ => ⟨S_, .f32⟩
  | .hbm, ⟨8, _⟩ => ⟨S328x128, .f32⟩
  | .hbm, ⟨9, _⟩ => ⟨S328x128, .f32⟩
  | .hbm, ⟨10, _⟩ => ⟨S328x128, .f32⟩
  | .hbm, ⟨11, _⟩ => ⟨S_, .f32⟩
  | .hbm, ⟨12, _⟩ => ⟨S328x128, .f32⟩
  | .hbm, ⟨13, _⟩ => ⟨S328x128, .f32⟩
  | .hbm, ⟨14, _⟩ => ⟨S328x128, .f32⟩
  | .hbm, ⟨15, _⟩ => ⟨S_, .f32⟩
  | .hbm, ⟨16, _⟩ => ⟨S328x128, .f32⟩
  | .hbm, ⟨17, _⟩ => ⟨S328x128, .f32⟩
  | .hbm, ⟨18, _⟩ => ⟨S328x128, .f32⟩
  | .hbm, ⟨19, _⟩ => ⟨S_, .f32⟩
  | .hbm, ⟨20, _⟩ => ⟨S328x128, .f32⟩
  | .hbm, ⟨21, _⟩ => ⟨S328x128, .f32⟩
  | .hbm, ⟨22, _⟩ => ⟨S_, .f32⟩
  | .hbm, ⟨23, _⟩ => ⟨S328x128, .f32⟩
  | .hbm, ⟨24, _⟩ => ⟨S328x128, .f32⟩
  | .hbm, ⟨25, _⟩ => ⟨S328x128, .f32⟩
  | .hbm, ⟨26, _⟩ => ⟨S_, .f32⟩
  | .hbm, ⟨27, _⟩ => ⟨S328x128, .f32⟩
  | .hbm, ⟨28, _⟩ => ⟨S328x128, .f32⟩
  | .hbm, ⟨29, _⟩ => ⟨S328x128, .f32⟩
  | .hbm, ⟨30, _⟩ => ⟨S_, .f32⟩
  | .hbm, ⟨31, _⟩ => ⟨S328x128, .f32⟩
  | .hbm, ⟨32, _⟩ => ⟨S328x128, .f32⟩
  | .hbm, ⟨33, _⟩ => ⟨S328x128, .f32⟩
  | .hbm, ⟨34, _⟩ => ⟨S_, .f32⟩
  | .hbm, ⟨35, _⟩ => ⟨S328x128, .f32⟩
  | .hbm, ⟨36, _⟩ => ⟨S328x128, .f32⟩
  | _, _ => ⟨S328x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S4x784x1024 : Shape := ⟨3, ![4, 784, 1024]⟩
abbrev S4x1024x784 : Shape := ⟨3, ![4, 1024, 784]⟩
abbrev S784x4x1024 : Shape := ⟨3, ![784, 4, 1024]⟩
abbrev S4x56x1024 : Shape := ⟨3, ![4, 56, 1024]⟩
abbrev S56x4x1024 : Shape := ⟨3, ![56, 4, 1024]⟩
abbrev S1x56x1024 : Shape := ⟨3, ![1, 56, 1024]⟩
abbrev S56x1024 : Shape := ⟨2, ![56, 1024]⟩
abbrev S56x1x1024 : Shape := ⟨3, ![56, 1, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x784x1024, .f32⟩
  | .hbm, ⟨1, _⟩ => ⟨S4x1024x784, .f32⟩
  | .hbm, ⟨2, _⟩ => ⟨S4x1024x784, .f32⟩
  | .hbm, ⟨3, _⟩ => ⟨S4x1024x784, .f32⟩
  | .hbm, ⟨4, _⟩ => ⟨S784x4x1024, .f32⟩
  | .hbm, ⟨5, _⟩ => ⟨S784x4x1024, .f32⟩
  | .hbm, ⟨6, _⟩ => ⟨S784x4x1024, .f32⟩
  | .hbm, ⟨7, _⟩ => ⟨S784x4x1024, .f32⟩
  | .hbm, ⟨8, _⟩ => ⟨S784x4x1024, .f32⟩
  | .hbm, ⟨9, _⟩ => ⟨S784x4x1024, .f32⟩
  | .hbm, ⟨10, _⟩ => ⟨S784x4x1024, .f32⟩
  | .local _ .vmem, ⟨0, _⟩ => ⟨S4x56x1024, .f32⟩
  | .local _ .vmem, ⟨1, _⟩ => ⟨S4x56x1024, .f32⟩
  | .local _ .vmem, ⟨2, _⟩ => ⟨S56x4x1024, .f32⟩
  | .local _ .vmem, ⟨3, _⟩ => ⟨S56x4x1024, .f32⟩
  | .local _ .vmem, ⟨4, _⟩ => ⟨S56x4x1024, .f32⟩
  | .local _ .vmem, ⟨5, _⟩ => ⟨S56x4x1024, .f32⟩
  | .local _ .vmem, ⟨6, _⟩ => ⟨S56x4x1024, .f32⟩
  | .local _ .vmem, ⟨7, _⟩ => ⟨S56x4x1024, .f32⟩
  | .local _ .vmem, ⟨8, _⟩ => ⟨S56x4x1024, .f32⟩
  | .local _ .vmem, ⟨9, _⟩ => ⟨S56x4x1024, .f32⟩
  | .local _ .vmem, ⟨10, _⟩ => ⟨S56x4x1024, .f32⟩
  | .local _ .vmem, ⟨11, _⟩ => ⟨S56x4x1024, .f32⟩
  | .local _ .vmem, ⟨12, _⟩ => ⟨S56x4x1024, .f32⟩
  | .local _ .vmem, ⟨13, _⟩ => ⟨S56x4x1024, .f32⟩
  | .local _ .vmem, ⟨14, _⟩ => ⟨S56x4x1024, .f32⟩
  | .local _ .vmem, ⟨15, _⟩ => ⟨S56x4x1024, .f32⟩
  | _, _ => ⟨S4x784x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![14], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x56x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S56x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S56x4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S56x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S56x4x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S4x784x1024 : Shape := ⟨3, ![4, 784, 1024]⟩
abbrev S4x1024x784 : Shape := ⟨3, ![4, 1024, 784]⟩
abbrev S_ : Shape := ⟨0, ![]⟩
abbrev S784x4x1024 : Shape := ⟨3, ![784, 4, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x784x1024, .f32⟩
  | .hbm, ⟨1, _⟩ => ⟨S4x1024x784, .f32⟩
  | .hbm, ⟨2, _⟩ => ⟨S4x1024x784, .f32⟩
  | .hbm, ⟨3, _⟩ => ⟨S4x1024x784, .f32⟩
  | .hbm, ⟨4, _⟩ => ⟨S4x1024x784, .f32⟩
  | .hbm, ⟨5, _⟩ => ⟨S_, .f32⟩
  | .hbm, ⟨6, _⟩ => ⟨S4x1024x784, .f32⟩
  | .hbm, ⟨7, _⟩ => ⟨S4x1024x784, .f32⟩
  | .hbm, ⟨8, _⟩ => ⟨S_, .f32⟩
  | .hbm, ⟨9, _⟩ => ⟨S4x1024x784, .f32⟩
  | .hbm, ⟨10, _⟩ => ⟨S4x1024x784, .f32⟩
  | .hbm, ⟨11, _⟩ => ⟨S4x1024x784, .f32⟩
  | .hbm, ⟨12, _⟩ => ⟨S_, .f32⟩
  | .hbm, ⟨13, _⟩ => ⟨S4x1024x784, .f32⟩
  | .hbm, ⟨14, _⟩ => ⟨S4x1024x784, .f32⟩
  | .hbm, ⟨15, _⟩ => ⟨S4x1024x784, .f32⟩
  | .hbm, ⟨16, _⟩ => ⟨S_, .f32⟩
  | .hbm, ⟨17, _⟩ => ⟨S4x1024x784, .f32⟩
  | .hbm, ⟨18, _⟩ => ⟨S4x1024x784, .f32⟩
  | .hbm, ⟨19, _⟩ => ⟨S4x1024x784, .f32⟩
  | .hbm, ⟨20, _⟩ => ⟨S_, .f32⟩
  | .hbm, ⟨21, _⟩ => ⟨S4x1024x784, .f32⟩
  | .hbm, ⟨22, _⟩ => ⟨S4x1024x784, .f32⟩
  | .hbm, ⟨23, _⟩ => ⟨S_, .f32⟩
  | .hbm, ⟨24, _⟩ => ⟨S4x1024x784, .f32⟩
  | .hbm, ⟨25, _⟩ => ⟨S4x1024x784, .f32⟩
  | .hbm, ⟨26, _⟩ => ⟨S4x1024x784, .f32⟩
  | .hbm, ⟨27, _⟩ => ⟨S_, .f32⟩
  | .hbm, ⟨28, _⟩ => ⟨S4x1024x784, .f32⟩
  | .hbm, ⟨29, _⟩ => ⟨S4x1024x784, .f32⟩
  | .hbm, ⟨30, _⟩ => ⟨S4x1024x784, .f32⟩
  | .hbm, ⟨31, _⟩ => ⟨S_, .f32⟩
  | .hbm, ⟨32, _⟩ => ⟨S4x1024x784, .f32⟩
  | .hbm, ⟨33, _⟩ => ⟨S4x1024x784, .f32⟩
  | .hbm, ⟨34, _⟩ => ⟨S4x1024x784, .f32⟩
  | .hbm, ⟨35, _⟩ => ⟨S_, .f32⟩
  | .hbm, ⟨36, _⟩ => ⟨S4x1024x784, .f32⟩
  | .hbm, ⟨37, _⟩ => ⟨S4x1024x784, .f32⟩
  | .hbm, ⟨38, _⟩ => ⟨S784x4x1024, .f32⟩
  | .hbm, ⟨39, _⟩ => ⟨S784x4x1024, .f32⟩
  | .hbm, ⟨40, _⟩ => ⟨S784x4x1024, .f32⟩
  | .hbm, ⟨41, _⟩ => ⟨S784x4x1024, .f32⟩
  | _, _ => ⟨S4x784x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Proof.SsdOps.lean ====
module

public import proofs.«01_k».proof.Proof.Gen.KernelIdeal
public import Idealize.ShloMosaic.Lib.ValueIdx
public import Idealize.ShloMosaic.Lib.Pointwise
public import Idealize.ShloMosaic.PureOps.Ideal.Laws
public import Idealize.ShloMosaic.Lib.IdealHost
public import Idealize.ShloMosaic.Lib.ValueLayout
public import Idealize.ShloMosaic.Lib.Pipeline.Value

@[expose] public section

set_option maxRecDepth 16384

noncomputable section

namespace Cert.Ssd

open Cert.KernelIdeal Idealize.ShloMosaic
open scoped BigOperators

/-- A matrix as a function of the row and the column. -/
abbrev M2 := ℕ → ℕ → ℝ

/-- The array of `a` rows and `b` columns whose entries are the real numbers `f`. -/
def mk2 {φ : FTy} (a b : ℕ) (f : M2) : FVec Ideal ⟨2, ![a, b]⟩ φ := fun i => ((f (i 0).val (i 1).val : ℝ) : EReal)

/-- The mask of `a` rows and `b` columns that holds where `p` does. -/
def mkB (a b : ℕ) (p : ℕ → ℕ → Bool) : IVec ⟨2, ![a, b]⟩ 1 := fun i => BitVec.ofBool (p (i 0).val (i 1).val)

/-- The constant matrix. -/
def kc (x : ℝ) : M2 := fun _ _ => x
/-- The exponential of each entry. -/
def rex (f : M2) : M2 := fun r c => Real.exp (f r c)
/-- The logarithm of each entry. -/
def rlog (f : M2) : M2 := fun r c => Real.log (f r c)
/-- The larger of two entries. -/
def rmax (f g : M2) : M2 := fun r c => max (f r c) (g r c)
/-- The smaller of two entries. -/
def rmin (f g : M2) : M2 := fun r c => min (f r c) (g r c)
/-- The absolute value of each entry. -/
def rab (f : M2) : M2 := fun r c => |f r c|
/-- The logistic function of each entry. -/
def rsg (f : M2) : M2 := fun r c => 1 / (1 + Real.exp (-f r c))
/-- One over the square root of each entry. -/
def rrs (f : M2) : M2 := fun r c => (Real.sqrt (f r c))⁻¹
/-- The first row in every row. -/
def row0 {α : Type} (f : ℕ → ℕ → α) : ℕ → ℕ → α := fun _ c => f 0 c
/-- The first column in every column. -/
def col0 {α : Type} (f : ℕ → ℕ → α) : ℕ → ℕ → α := fun r _ => f r 0
/-- The part that begins at row `p` and column `q`. -/
def sh (p q : ℕ) (f : M2) : M2 := fun r c => f (p + r) (q + c)
/-- The transposed matrix. -/
def tr (f : M2) : M2 := fun r c => f c r
/-- The product of two matrices over `K` contracted coordinates. -/
def mmN (K : ℕ) (f g : M2) : M2 := fun r c => ∑ k ∈ Finset.range K, f r k * g k c
/-- The product with the second matrix transposed. -/
def mmT (K : ℕ) (f g : M2) : M2 := fun r c => ∑ k ∈ Finset.range K, f r k * g c k
/-- The product with the first matrix transposed. -/
def mmL (K : ℕ) (f g : M2) : M2 := fun r c => ∑ k ∈ Finset.range K, f k r * g k c
/-- The sums of the rows over `n` columns. -/
def sumC (n : ℕ) (f : M2) : M2 := fun r _ => ∑ c ∈ Finset.range n, f r c
/-- The sums of the columns over `n` rows. -/
def sumR (n : ℕ) (f : M2) : M2 := fun _ c => ∑ r ∈ Finset.range n, f r c
/-- The one matrix where the mask holds and the other elsewhere. -/
def sel (p : ℕ → ℕ → Bool) (f g : M2) : M2 := fun r c => if p r c = true then f r c else g r c
/-- One where the mask holds and zero elsewhere. -/
def ind (p : ℕ → ℕ → Bool) : M2 := fun r c => if p r c = true then 1 else 0
/-- Two matrices side by side, the first of `w` columns. -/
def catC (w : ℕ) (f g : M2) : M2 := fun r c => if c < w then f r c else g r (c - w)
/-- Two matrices one above the other, the first of `w` rows. -/
def catR (w : ℕ) (f g : M2) : M2 := fun r c => if r < w then f r c else g (r - w) c
/-- Columns below `n`. -/
def ltB (n : ℕ) : ℕ → ℕ → Bool := fun _ c => decide (c < n)
/-- The column `n`. -/
def eqB (n : ℕ) : ℕ → ℕ → Bool := fun _ c => decide (c = n)
/-- The row `n`. -/
def eqR (n : ℕ) : ℕ → ℕ → Bool := fun r _ => decide (r = n)
/-- The row is not before the column. -/
def geB : ℕ → ℕ → Bool := fun r c => decide (c ≤ r)
/-- The row is not after the column. -/
def leB : ℕ → ℕ → Bool := fun r c => decide (r ≤ c)
/-- Each head's number in that head's 64 columns. -/
def lx (f : M2) : M2 := fun r c => f r (c / 64)
/-- The sum over a head's 64 columns, for the 16 heads. -/
def hs (f : M2) : M2 := fun r h => if h < 16 then ∑ j ∈ Finset.range 64, f r (64 * h + j) else 0
/-- The matrix that spreads the heads over their columns. -/
def e01 : M2 := fun h c => if c / 64 = h then 1 else 0

variable {φ : FTy} {a b : ℕ}

/-- The array of three axes whose entries are the real numbers `f`. -/
def mk3 {φ : FTy} (n a b : ℕ) (f : ℕ → M2) : FVec Ideal ⟨3, ![n, a, b]⟩ φ := fun i => ((f (i 0).val (i 1).val (i 2).val : ℝ) : EReal)

/-- The array of four axes whose entries are the real numbers `f`. -/
def mk4 {φ : FTy} (n m a b : ℕ) (f : ℕ → ℕ → M2) : FVec Ideal ⟨4, ![n, m, a, b]⟩ φ :=
  fun i => ((f (i 0).val (i 1).val (i 2).val (i 3).val : ℝ) : EReal)

theorem coe_max (x y : ℝ) : max (x : EReal) (y : EReal) = ((max x y : ℝ) : EReal) :=
  (EReal.coe_strictMono.monotone.map_max).symm

theorem coe_min (x y : ℝ) : min (x : EReal) (y : EReal) = ((min x y : ℝ) : EReal) :=
  (EReal.coe_strictMono.monotone.map_min).symm

theorem coe_sum {ι : Type} (s : Finset ι) (f : ι → ℝ) : (∑ k ∈ s, ((f k : ℝ) : EReal)) = ((∑ k ∈ s, f k : ℝ) : EReal) := by
  classical
  induction s using Finset.induction_on with
  | empty => simp
  | insert x s hx ih => rw [Finset.sum_insert hx, Finset.sum_insert hx, ih, EReal.coe_add]

theorem mul_mk (f g : M2) : mulf (mk2 (φ := φ) a b f) (mk2 a b g) = mk2 a b (f * g) := by
  funext i; exact (EReal.coe_mul _ _).symm

theorem add_mk (f g : M2) : addf (mk2 (φ := φ) a b f) (mk2 a b g) = mk2 a b (f + g) := by
  funext i; exact (EReal.coe_add _ _).symm

theorem sub_mk (f g : M2) : subf (mk2 (φ := φ) a b f) (mk2 a b g) = mk2 a b (f - g) := by
  funext i; exact (EReal.coe_sub _ _).symm

theorem max_mk (f g : M2) : maximumf (mk2 (φ := φ) a b f) (mk2 a b g) = mk2 a b (rmax f g) := by
  funext i; exact coe_max _ _

theorem min_mk (f g : M2) : minimumf (mk2 (φ := φ) a b f) (mk2 a b g) = mk2 a b (rmin f g) := by
  funext i; exact coe_min _ _

theorem abs_mk (f : M2) : absf (mk2 (φ := φ) a b f) = mk2 a b (rab f) := by
  funext i
  show max ((f (i 0).val (i 1).val : ℝ) : EReal) (-((f (i 0).val (i 1).val : ℝ) : EReal)) = _
  rw [← EReal.coe_neg, coe_max]; rfl

theorem exp_mk (f : M2) : exp (mk2 (φ := φ) a b f) = mk2 a b (rex f) := by
  funext i; rfl

theorem log_mk (f : M2) : log (mk2 (φ := φ) a b (kc 1 + rex f)) = mk2 a b (rlog (kc 1 + rex f)) := by
  funext i
  have h : (0 : ℝ) < 1 + Real.exp (f (i 0).val (i 1).val) := by positivity
  show Ideal.log (((1 + Real.exp (f (i 0).val (i 1).val) : ℝ)) : EReal) = _
  show (if (1 + Real.exp (f (i 0).val (i 1).val) : ℝ) ≤ 0 then (⊥ : EReal) else _) = _
  rw [if_neg (not_le.mpr h)]; rfl

theorem logistic_mk (f : M2) : logistic (mk2 (φ := φ) a b f) = mk2 a b (rsg f) := by
  funext i
  show Ideal.div 1 (1 + Ideal.exp (-((f (i 0).val (i 1).val : ℝ) : EReal))) = _
  have h : (1 + Real.exp (-f (i 0).val (i 1).val) : ℝ) ≠ 0 := by positivity
  rw [← EReal.coe_neg]
  show Ideal.div 1 (1 + ((Real.exp (-f (i 0).val (i 1).val) : ℝ) : EReal)) = _
  rw [← EReal.coe_one, ← EReal.coe_add]
  unfold Ideal.div
  rw [if_neg (by exact_mod_cast h)]
  rw [← EReal.coe_inv, ← EReal.coe_mul]
  unfold mk2 rsg
  rw [one_mul, one_div]

theorem rsqrt_mk (f : M2) (e : ℝ) (he : 0 < e) :
    rsqrt (mk2 (φ := φ) a b (sumC 1024 (f * f) * kc (1 / 1024) + kc e)) = mk2 a b (rrs (sumC 1024 (f * f) * kc (1 / 1024) + kc e)) := by
  funext i
  set x : ℝ := (sumC 1024 (f * f) * kc (1 / 1024) + kc e) (i 0).val (i 1).val with hx
  have h : 0 < x := by
    rw [hx]
    have : 0 ≤ (∑ c ∈ Finset.range 1024, (f * f) (i 0).val c) * (1 / 1024 : ℝ) :=
      mul_nonneg (Finset.sum_nonneg fun c _ => mul_self_nonneg (f (i 0).val c)) (by norm_num)
    show 0 < (∑ c ∈ Finset.range 1024, (f * f) (i 0).val c) * (1 / 1024 : ℝ) + e
    linarith
  show Ideal.rsqrt ((x : ℝ) : EReal) = _
  show (if x < 0 then (⊥ : EReal) else if x = 0 then ⊤ else _) = _
  rw [if_neg (not_lt.mpr h.le), if_neg h.ne']; rfl

theorem div_mk (f : M2) : divf (mk2 (φ := φ) a b f) (mk2 a b (kc 1024)) = mk2 a b (f * kc (1 / 1024)) := by
  funext i
  show Ideal.div ((f (i 0).val (i 1).val : ℝ) : EReal) ((1024 : ℝ) : EReal) = _
  unfold Ideal.div
  rw [if_neg (by exact_mod_cast (by norm_num : (1024 : ℝ) ≠ 0)), ← EReal.coe_inv, ← EReal.coe_mul]
  unfold mk2 kc
  rw [Pi.mul_apply, Pi.mul_apply, one_div]

theorem trunc_mk (ψ : FTy) (f : M2) (h : ψ.bits < φ.bits) : truncf ψ (mk2 (φ := φ) a b f) h = mk2 a b f := rfl

theorem ext_mk (ψ : FTy) (f : M2) (h : φ.bits < ψ.bits) : extf ψ (mk2 (φ := φ) a b f) h = mk2 a b f := rfl

theorem zero_mk : (broadcast ⟨2, ![a, b]⟩ (Scalar.ofBits .f32 0x00000000#32) : FVec Ideal ⟨2, ![a, b]⟩ .f32) = mk2 a b 0 := by
  funext i; exact Ideal.ofBits_zero_f32

theorem one_mk : (broadcast ⟨2, ![a, b]⟩ (Scalar.ofBits .f32 0x3F800000#32) : FVec Ideal ⟨2, ![a, b]⟩ .f32) = mk2 a b (kc 1) := by
  funext i; exact Ideal.ofBits_one_f32

theorem k1024_mk : (broadcast ⟨2, ![a, b]⟩ (Scalar.ofBits .f32 0x44800000#32) : FVec Ideal ⟨2, ![a, b]⟩ .f32) = mk2 a b (kc 1024) := by
  funext i
  show Ideal.ofBits .f32 0x44800000#32 = _
  simp [Ideal.ofBits, Ideal.ieee, mk2, kc]
  rw [← EReal.coe_mul]; norm_num

/-- The small number that is added to the mean square. -/
def epsR : ℝ := 8796093 / 2 ^ 43

theorem eps_pos : 0 < epsR := by unfold epsR; norm_num

theorem eps_mk : (broadcast ⟨2, ![a, b]⟩ (Scalar.ofBits .f32 0x358637BD#32) : FVec Ideal ⟨2, ![a, b]⟩ .f32) = mk2 a b (kc epsR) := by
  funext i
  show Ideal.ofBits .f32 0x358637BD#32 = _
  simp [Ideal.ofBits, Ideal.ieee, mk2, kc, epsR]
  rw [← EReal.coe_mul]; norm_num

theorem select_mk (p : ℕ → ℕ → Bool) (f g : M2) : select (mkB a b p) (mk2 (φ := φ) a b f) (mk2 a b g) = mk2 a b (sel p f g) := by
  funext i
  show (if BitVec.ofBool (p (i 0).val (i 1).val) = 1 then ((f (i 0).val (i 1).val : ℝ) : EReal) else ((g (i 0).val (i 1).val : ℝ) : EReal))
    = (((if p (i 0).val (i 1).val = true then f (i 0).val (i 1).val else g (i 0).val (i 1).val : ℝ)) : EReal)
  cases p (i 0).val (i 1).val <;> rfl

theorem slice_mk {a' b' : ℕ} (p q : ℕ) (f : M2) (h) :
    extractStridedSlice ⟨2, ![a', b']⟩ ![p, q] (mk2 (φ := φ) a b f) h = mk2 a' b' (sh p q f) := by
  funext i; rfl

theorem brow_mk (f : M2) (h) (hb : b ≠ 1) : broadcastTo ⟨2, ![a, b]⟩ (mk2 (φ := φ) 1 b f) h = mk2 a b (row0 f) := by
  funext i
  show ((f _ _ : ℝ) : EReal) = ((f 0 (i 1).val : ℝ) : EReal)
  congr 2
  simp [hb]

theorem bcol_mk (f : M2) (h) (ha : a ≠ 1) : broadcastTo ⟨2, ![a, b]⟩ (mk2 (φ := φ) a 1 f) h = mk2 a b (col0 f) := by
  funext i
  show ((f _ _ : ℝ) : EReal) = ((f (i 0).val 0 : ℝ) : EReal)
  congr 2
  simp [ha]

theorem browB_mk (f : ℕ → ℕ → Bool) (h) (hb : b ≠ 1) : broadcastTo ⟨2, ![a, b]⟩ (mkB 1 b f) h = mkB a b (row0 f) := by
  funext i
  show BitVec.ofBool (f _ _) = BitVec.ofBool (f 0 (i 1).val)
  congr 2
  simp [hb]

theorem bcolB_mk (f : ℕ → ℕ → Bool) (h) (ha : a ≠ 1) : broadcastTo ⟨2, ![a, b]⟩ (mkB a 1 f) h = mkB a b (col0 f) := by
  funext i
  show BitVec.ofBool (f _ _) = BitVec.ofBool (f (i 0).val 0)
  congr 2
  simp [ha]

theorem cast_same {s : Shape} {α : Type} (x : s.Idx → α) (h : s.ShapeCasts s) : shapeCast s x h = x := by
  funext i
  show x _ = x i
  congr 1
  simp [Shape.reshapeEquiv]

theorem transpose_mk (f : M2) (l : List (Fin 2)) (h) (hl : l = [1, 0]) : transpose ⟨2, ![b, a]⟩ l (mk2 (φ := φ) a b f) h = mk2 b a (tr f) := by
  subst hl
  funext i
  simp only [pointwise]
  rfl

theorem ind_mk (p : ℕ → ℕ → Bool) (h) : (sitofp .f32 (extui 32 (mkB a b p) h) : FVec Ideal ⟨2, ![a, b]⟩ .f32) = mk2 a b (ind p) := by
  funext i
  show (((BitVec.setWidth 32 (BitVec.ofBool (p (i 0).val (i 1).val))).toInt : ℝ) : EReal) = (((if p (i 0).val (i 1).val = true then 1 else 0 : ℝ)) : EReal)
  cases p (i 0).val (i 1).val
  · have : (BitVec.setWidth 32 (BitVec.ofBool false)).toInt = 0 := by decide
    rw [this]; simp
  · have : (BitVec.setWidth 32 (BitVec.ofBool true)).toInt = 1 := by decide
    rw [this]; simp

theorem sum_mul_coe (K : ℕ) (f g : ℕ → ℝ) :
    (0 + ∑ k : Fin K, ((f k.val : ℝ) : EReal) * ((g k.val : ℝ) : EReal)) = ((∑ k ∈ Finset.range K, f k * g k : ℝ) : EReal) := by
  rw [zero_add, Finset.sum_range, ← coe_sum]
  exact Finset.sum_congr rfl fun k _ => (EReal.coe_mul _ _).symm

theorem sum_coe (K : ℕ) (f : ℕ → ℝ) : (∑ k : Fin K, ((f k.val : ℝ) : EReal)) = ((∑ k ∈ Finset.range K, f k : ℝ) : EReal) := by
  rw [Finset.sum_range, ← coe_sum]

theorem mmA (f g : M2) : matmul dot_S64x64_S64x384_S64x384_1_0_0_1_n_n none (mk2 (φ := .bf16) 64 64 f) (mk2 (φ := .bf16) 64 384 g)
    (constant S64x384 .f32 0x00000000#32) = mk2 64 384 (mmN 64 f g) := by
  funext i
  simp only [pointwise]
  exact sum_mul_coe 64 (fun k => f (i 0).val k) (fun k => g k (i 1).val)

theorem mmB (f g : M2) : matmul dot_S48x64_S64x64_S48x64_1_0_0_1_n_n none (mk2 (φ := .bf16) 48 64 f) (mk2 (φ := .bf16) 64 64 g)
    (constant S48x64 .f32 0x00000000#32) = mk2 48 64 (mmN 64 f g) := by
  funext i
  simp only [pointwise]
  exact sum_mul_coe 64 (fun k => f (i 0).val k) (fun k => g k (i 1).val)

theorem mmC (f g : M2) : matmul dot_S256x128_S128x1024_S256x1024_1_0_0_1_n_n none (mk2 (φ := .bf16) 256 128 f) (mk2 (φ := .bf16) 128 1024 g)
    (constant S256x1024 .f32 0x00000000#32) = mk2 256 1024 (mmN 128 f g) := by
  funext i
  simp only [pointwise]
  exact sum_mul_coe 128 (fun k => f (i 0).val k) (fun k => g k (i 1).val)

theorem mmD (f g : M2) : matmul dot_S208x1024_S1024x128_S208x128_1_0_0_1_n_n none (mk2 (φ := .bf16) 208 1024 f) (mk2 (φ := .bf16) 1024 128 g)
    (constant S208x128 .f32 0x00000000#32) = mk2 208 128 (mmN 1024 f g) := by
  funext i
  simp only [pointwise]
  exact sum_mul_coe 1024 (fun k => f (i 0).val k) (fun k => g k (i 1).val)

theorem mmE (f g : M2) : matmul dot_S64x128_S128x512_S64x512_1_0_0_1_n_n none (mk2 (φ := .bf16) 64 128 f) (mk2 (φ := .bf16) 128 512 g)
    (constant S64x512 .f32 0x00000000#32) = mk2 64 512 (mmN 128 f g) := by
  funext i
  simp only [pointwise]
  exact sum_mul_coe 128 (fun k => f (i 0).val k) (fun k => g k (i 1).val)

theorem mmF (f g : M2) : matmul dot_S64x512_S128x512_S64x128_1_1_0_0_n_n none (mk2 (φ := .bf16) 64 512 f) (mk2 (φ := .bf16) 128 512 g)
    (constant S64x128 .f32 0x00000000#32) = mk2 64 128 (mmT 512 f g) := by
  funext i
  simp only [pointwise]
  exact sum_mul_coe 512 (fun k => f (i 0).val k) (fun k => g (i 1).val k)

theorem mmG (f g : M2) : matmul dot_S64x128_S64x512_S128x512_0_0_1_1_n_n none (mk2 (φ := .bf16) 64 128 f) (mk2 (φ := .bf16) 64 512 g)
    (constant S128x512 .f32 0x00000000#32) = mk2 128 512 (mmL 64 f g) := by
  funext i
  simp only [pointwise]
  exact sum_mul_coe 64 (fun k => f k (i 0).val) (fun k => g k (i 1).val)

theorem mmH (f g : M2) : matmul dot_S64x128_S64x128_S64x64_1_1_0_0_n_n none (mk2 (φ := .bf16) 64 128 f) (mk2 (φ := .bf16) 64 128 g)
    (constant S64x64 .f32 0x00000000#32) = mk2 64 64 (mmT 128 f g) := by
  funext i
  simp only [pointwise]
  exact sum_mul_coe 128 (fun k => f (i 0).val k) (fun k => g (i 1).val k)

theorem mmI (f g : M2) : matmul dot_S64x64_S64x128_S64x128_1_0_0_1_n_n none (mk2 (φ := .bf16) 64 64 f) (mk2 (φ := .bf16) 64 128 g)
    (constant S64x128 .f32 0x00000000#32) = mk2 64 128 (mmN 64 f g) := by
  funext i
  simp only [pointwise]
  exact sum_mul_coe 64 (fun k => f (i 0).val k) (fun k => g k (i 1).val)

theorem mmJ (f g : M2) : matmul dot_S64x64_S64x64_S64x64_1_0_0_1_n_n none (mk2 (φ := .bf16) 64 64 f) (mk2 (φ := .bf16) 64 64 g)
    (constant S64x64 .f32 0x00000000#32) = mk2 64 64 (mmN 64 f g) := by
  funext i
  simp only [pointwise]
  exact sum_mul_coe 64 (fun k => f (i 0).val k) (fun k => g k (i 1).val)

theorem mmK (f g : M2) : matmul dot_S64x64_S64x64_S64x64_1_1_0_0_n_n none (mk2 (φ := .bf16) 64 64 f) (mk2 (φ := .bf16) 64 64 g)
    (constant S64x64 .f32 0x00000000#32) = mk2 64 64 (mmT 64 f g) := by
  funext i
  simp only [pointwise]
  exact sum_mul_coe 64 (fun k => f (i 0).val k) (fun k => g (i 1).val k)

theorem redCa (f : M2) (l : List (Fin 2)) (h : S64x1024.Reduces l S64) (h' : S64.ShapeCasts S64x1) (hl : l = [1]) :
    shapeCast S64x1 (FloatOps.reduceAdd l h (mk2 (φ := .f32) 64 1024 f)) h'
      = mk2 64 1 (sumC 1024 f) := by
  subst hl
  funext i
  simp only [pointwise]
  exact sum_coe 1024 (fun k => f (i 0).val k)

theorem redCb (f : M2) (l : List (Fin 2)) (h : S64x64.Reduces l S64) (h' : S64.ShapeCasts S64x1) (hl : l = [1]) :
    shapeCast S64x1 (FloatOps.reduceAdd l h (mk2 (φ := .f32) 64 64 f)) h'
      = mk2 64 1 (sumC 64 f) := by
  subst hl
  funext i
  simp only [pointwise]
  exact sum_coe 64 (fun k => f (i 0).val k)

theorem redRa (f : M2) (l : List (Fin 2)) (h : S64x1024.Reduces l S1024) (h' : S1024.ShapeCasts S1x1024) (hl : l = [0]) :
    shapeCast S1x1024 (FloatOps.reduceAdd l h (mk2 (φ := .f32) 64 1024 f)) h'
      = mk2 1 1024 (sumR 64 f) := by
  subst hl
  funext i
  simp only [pointwise]
  exact sum_coe 64 (fun k => f k (i 1).val)

theorem redRb (f : M2) (l : List (Fin 2)) (h : S128x1024.Reduces l S1024) (h' : S1024.ShapeCasts S1x1024) (hl : l = [0]) :
    shapeCast S1x1024 (FloatOps.reduceAdd l h (mk2 (φ := .f32) 128 1024 f)) h'
      = mk2 1 1024 (sumR 128 f) := by
  subst hl
  funext i
  simp only [pointwise]
  exact sum_coe 128 (fun k => f k (i 1).val)

theorem redRc (f : M2) (l : List (Fin 2)) (h : S64x128.Reduces l S128) (h' : S128.ShapeCasts S1x128) (hl : l = [0]) :
    shapeCast S1x128 (FloatOps.reduceAdd l h (mk2 (φ := .f32) 64 128 f)) h'
      = mk2 1 128 (sumR 64 f) := by
  subst hl
  funext i
  simp only [pointwise]
  exact sum_coe 64 (fun k => f k (i 1).val)

theorem cat1 (f0 f1 : M2) (h) : concatenate S128x1024 1 [⟨S128x512, mk2 (φ := φ) 128 512 f0⟩, ⟨S128x512, mk2 (φ := φ) 128 512 f1⟩] h = mk2 128 1024 (catC 512 f0 f1) := by
  funext i
  have hi0 : (i 0).val < 128 := (i 0).isLt
  have hi1 : (i 1).val < 1024 := (i 1).isLt
  simp only [pointwise]
  dsimp only [mk2, catC, ix2]
  push_cast
  split_ifs <;> simp_all <;> first | rfl | (congr 2; omega) | omega

theorem cat2 (f0 f1 : M2) (h) : concatenate S64x1024 1 [⟨S64x512, mk2 (φ := φ) 64 512 f0⟩, ⟨S64x512, mk2 (φ := φ) 64 512 f1⟩] h = mk2 64 1024 (catC 512 f0 f1) := by
  funext i
  have hi0 : (i 0).val < 64 := (i 0).isLt
  have hi1 : (i 1).val < 1024 := (i 1).isLt
  simp only [pointwise]
  dsimp only [mk2, catC, ix2]
  push_cast
  split_ifs <;> simp_all <;> first | rfl | (congr 2; omega) | omega

theorem cat3 (f0 f1 : M2) (h) : concatenate S16x1024 0 [⟨S8x1024, mk2 (φ := φ) 8 1024 f0⟩, ⟨S8x1024, mk2 (φ := φ) 8 1024 f1⟩] h = mk2 16 1024 (catR 8 f0 f1) := by
  funext i
  have hi0 : (i 0).val < 16 := (i 0).isLt
  have hi1 : (i 1).val < 1024 := (i 1).isLt
  simp only [pointwise]
  dsimp only [mk2, catR, ix2]
  push_cast
  split_ifs <;> simp_all <;> first | rfl | (congr 2; omega) | omega

theorem cat4 (f0 f1 f2 f3 : M2) (h) : concatenate S208x1024 0 [⟨S64x1024, mk2 (φ := φ) 64 1024 f0⟩, ⟨S64x1024, mk2 (φ := φ) 64 1024 f1⟩, ⟨S64x1024, mk2 (φ := φ) 64 1024 f2⟩, ⟨S16x1024, mk2 (φ := φ) 16 1024 f3⟩] h = mk2 208 1024 (catR 64 f0 (catR 64 f1 (catR 64 f2 f3))) := by
  funext i
  have hi0 : (i 0).val < 208 := (i 0).isLt
  have hi1 : (i 1).val < 1024 := (i 1).isLt
  simp only [pointwise]
  dsimp only [mk2, catR, ix2]
  push_cast
  split_ifs <;> simp_all <;> first | rfl | (congr 2; omega) | omega

theorem cat5 (f0 f1 f2 f3 : M2) (h) : concatenate S256x128 0 [⟨S64x128, mk2 (φ := φ) 64 128 f0⟩, ⟨S64x128, mk2 (φ := φ) 64 128 f1⟩, ⟨S64x128, mk2 (φ := φ) 64 128 f2⟩, ⟨S64x128, mk2 (φ := φ) 64 128 f3⟩] h = mk2 256 128 (catR 64 f0 (catR 64 f1 (catR 64 f2 f3))) := by
  funext i
  have hi0 : (i 0).val < 256 := (i 0).isLt
  have hi1 : (i 1).val < 128 := (i 1).isLt
  simp only [pointwise]
  dsimp only [mk2, catR, ix2]
  push_cast
  split_ifs <;> simp_all <;> first | rfl | (congr 2; omega) | omega

theorem cat6 (f0 f1 f2 : M2) (h) : concatenate S48x64 0 [⟨S16x64, mk2 (φ := φ) 16 64 f0⟩, ⟨S16x64, mk2 (φ := φ) 16 64 f1⟩, ⟨S16x64, mk2 (φ := φ) 16 64 f2⟩] h = mk2 48 64 (catR 16 f0 (catR 16 f1 f2)) := by
  funext i
  have hi0 : (i 0).val < 48 := (i 0).isLt
  have hi1 : (i 1).val < 64 := (i 1).isLt
  simp only [pointwise]
  dsimp only [mk2, catR, ix2]
  push_cast
  split_ifs <;> simp_all <;> first | rfl | (congr 2; omega) | omega

theorem cat7 (f0 f1 f2 f3 f4 : M2) (h) : concatenate S64x1536 1 [⟨S64x1024, mk2 (φ := φ) 64 1024 f0⟩, ⟨S64x128, mk2 (φ := φ) 64 128 f1⟩, ⟨S64x128, mk2 (φ := φ) 64 128 f2⟩, ⟨S64x128, mk2 (φ := φ) 64 128 f3⟩, ⟨S64x128, mk2 (φ := φ) 64 128 f4⟩] h = mk2 64 1536 (catC 1024 f0 (catC 128 f1 (catC 128 f2 (catC 128 f3 f4)))) := by
  funext i
  have hi0 : (i 0).val < 64 := (i 0).isLt
  have hi1 : (i 1).val < 1536 := (i 1).isLt
  simp only [pointwise]
  dsimp only [mk2, catC, ix2]
  push_cast
  split_ifs <;> simp_all <;> first | rfl | (congr 2; omega) | omega

theorem cat8 (f0 f1 f2 : M2) (h) : concatenate S64x384 1 [⟨S64x128, mk2 (φ := φ) 64 128 f0⟩, ⟨S64x128, mk2 (φ := φ) 64 128 f1⟩, ⟨S64x128, mk2 (φ := φ) 64 128 f2⟩] h = mk2 64 384 (catC 128 f0 (catC 128 f1 f2)) := by
  funext i
  have hi0 : (i 0).val < 64 := (i 0).isLt
  have hi1 : (i 1).val < 384 := (i 1).isLt
  simp only [pointwise]
  dsimp only [mk2, catC, ix2]
  push_cast
  split_ifs <;> simp_all <;> first | rfl | (congr 2; omega) | omega

theorem cat9 (f0 f1 f2 f3 f4 f5 f6 f7 : M2) (h) : concatenate S64x512 1 [⟨S64x64, mk2 (φ := φ) 64 64 f0⟩, ⟨S64x64, mk2 (φ := φ) 64 64 f1⟩, ⟨S64x64, mk2 (φ := φ) 64 64 f2⟩, ⟨S64x64, mk2 (φ := φ) 64 64 f3⟩, ⟨S64x64, mk2 (φ := φ) 64 64 f4⟩, ⟨S64x64, mk2 (φ := φ) 64 64 f5⟩, ⟨S64x64, mk2 (φ := φ) 64 64 f6⟩, ⟨S64x64, mk2 (φ := φ) 64 64 f7⟩] h = mk2 64 512 (catC 64 f0 (catC 64 f1 (catC 64 f2 (catC 64 f3 (catC 64 f4 (catC 64 f5 (catC 64 f6 f7))))))) := by
  funext i
  have hi0 : (i 0).val < 64 := (i 0).isLt
  have hi1 : (i 1).val < 512 := (i 1).isLt
  simp only [pointwise]
  dsimp only [mk2, catC, ix2]
  push_cast
  split_ifs <;> simp_all <;> first | rfl | (congr 2; omega) | omega
theorem cat_congr2 {φ : FTy} {t : Shape} {s1 s2 : Shape} {d : Fin t.rank} {x1 y1 : FVec Ideal s1 φ} {x2 y2 : FVec Ideal s2 φ} (h1 : x1 = y1) (h2 : x2 = y2) (hc) :
    concatenate t d [⟨s1, x1⟩, ⟨s2, x2⟩] hc = concatenate t d [⟨s1, y1⟩, ⟨s2, y2⟩] hc := by
  subst h1 h2; rfl
theorem cat_congr3 {φ : FTy} {t : Shape} {s1 s2 s3 : Shape} {d : Fin t.rank} {x1 y1 : FVec Ideal s1 φ} {x2 y2 : FVec Ideal s2 φ} {x3 y3 : FVec Ideal s3 φ} (h1 : x1 = y1) (h2 : x2 = y2) (h3 : x3 = y3) (hc) :
    concatenate t d [⟨s1, x1⟩, ⟨s2, x2⟩, ⟨s3, x3⟩] hc = concatenate t d [⟨s1, y1⟩, ⟨s2, y2⟩, ⟨s3, y3⟩] hc := by
  subst h1 h2 h3; rfl
theorem cat_congr4 {φ : FTy} {t : Shape} {s1 s2 s3 s4 : Shape} {d : Fin t.rank} {x1 y1 : FVec Ideal s1 φ} {x2 y2 : FVec Ideal s2 φ} {x3 y3 : FVec Ideal s3 φ} {x4 y4 : FVec Ideal s4 φ} (h1 : x1 = y1) (h2 : x2 = y2) (h3 : x3 = y3) (h4 : x4 = y4) (hc) :
    concatenate t d [⟨s1, x1⟩, ⟨s2, x2⟩, ⟨s3, x3⟩, ⟨s4, x4⟩] hc = concatenate t d [⟨s1, y1⟩, ⟨s2, y2⟩, ⟨s3, y3⟩, ⟨s4, y4⟩] hc := by
  subst h1 h2 h3 h4; rfl
theorem cat_congr5 {φ : FTy} {t : Shape} {s1 s2 s3 s4 s5 : Shape} {d : Fin t.rank} {x1 y1 : FVec Ideal s1 φ} {x2 y2 : FVec Ideal s2 φ} {x3 y3 : FVec Ideal s3 φ} {x4 y4 : FVec Ideal s4 φ} {x5 y5 : FVec Ideal s5 φ} (h1 : x1 = y1) (h2 : x2 = y2) (h3 : x3 = y3) (h4 : x4 = y4) (h5 : x5 = y5) (hc) :
    concatenate t d [⟨s1, x1⟩, ⟨s2, x2⟩, ⟨s3, x3⟩, ⟨s4, x4⟩, ⟨s5, x5⟩] hc = concatenate t d [⟨s1, y1⟩, ⟨s2, y2⟩, ⟨s3, y3⟩, ⟨s4, y4⟩, ⟨s5, y5⟩] hc := by
  subst h1 h2 h3 h4 h5; rfl
theorem cat_congr8 {φ : FTy} {t : Shape} {s1 s2 s3 s4 s5 s6 s7 s8 : Shape} {d : Fin t.rank} {x1 y1 : FVec Ideal s1 φ} {x2 y2 : FVec Ideal s2 φ} {x3 y3 : FVec Ideal s3 φ} {x4 y4 : FVec Ideal s4 φ} {x5 y5 : FVec Ideal s5 φ} {x6 y6 : FVec Ideal s6 φ} {x7 y7 : FVec Ideal s7 φ} {x8 y8 : FVec Ideal s8 φ} (h1 : x1 = y1) (h2 : x2 = y2) (h3 : x3 = y3) (h4 : x4 = y4) (h5 : x5 = y5) (h6 : x6 = y6) (h7 : x7 = y7) (h8 : x8 = y8) (hc) :
    concatenate t d [⟨s1, x1⟩, ⟨s2, x2⟩, ⟨s3, x3⟩, ⟨s4, x4⟩, ⟨s5, x5⟩, ⟨s6, x6⟩, ⟨s7, x7⟩, ⟨s8, x8⟩] hc = concatenate t d [⟨s1, y1⟩, ⟨s2, y2⟩, ⟨s3, y3⟩, ⟨s4, y4⟩, ⟨s5, y5⟩, ⟨s6, y6⟩, ⟨s7, y7⟩, ⟨s8, y8⟩] hc := by
  subst h1 h2 h3 h4 h5 h6 h7 h8; rfl

theorem cmp_slt (n m : ℕ) (hn : n < 2 ^ 31) (hm : m < 2 ^ 31) :
    IntOp.cmpi CmpIPredicate.slt (BitVec.ofNat 32 n) (BitVec.ofNat 32 m) = BitVec.ofBool (decide (n < m)) := by
  show BitVec.ofBool (BitVec.slt _ _) = _
  congr 1
  simp only [BitVec.slt, BitVec.toInt_eq_toNat_cond, BitVec.toNat_ofNat]
  rw [Nat.mod_eq_of_lt (by omega), Nat.mod_eq_of_lt (by omega), if_pos (by omega), if_pos (by omega)]
  simp

theorem cmp_sge (n m : ℕ) (hn : n < 2 ^ 31) (hm : m < 2 ^ 31) :
    IntOp.cmpi CmpIPredicate.sge (BitVec.ofNat 32 n) (BitVec.ofNat 32 m) = BitVec.ofBool (decide (m ≤ n)) := by
  show BitVec.ofBool (BitVec.sle _ _) = _
  congr 1
  simp only [BitVec.sle, BitVec.toInt_eq_toNat_cond, BitVec.toNat_ofNat]
  rw [Nat.mod_eq_of_lt (by omega), Nat.mod_eq_of_lt (by omega), if_pos (by omega), if_pos (by omega)]
  simp

theorem cmp_sle (n m : ℕ) (hn : n < 2 ^ 31) (hm : m < 2 ^ 31) :
    IntOp.cmpi CmpIPredicate.sle (BitVec.ofNat 32 n) (BitVec.ofNat 32 m) = BitVec.ofBool (decide (n ≤ m)) := by
  show BitVec.ofBool (BitVec.sle _ _) = _
  congr 1
  simp only [BitVec.sle, BitVec.toInt_eq_toNat_cond, BitVec.toNat_ofNat]
  rw [Nat.mod_eq_of_lt (by omega), Nat.mod_eq_of_lt (by omega), if_pos (by omega), if_pos (by omega)]
  simp

theorem cmp_eq (n m : ℕ) (hn : n < 2 ^ 31) (hm : m < 2 ^ 31) :
    IntOp.cmpi CmpIPredicate.eq (BitVec.ofNat 32 n) (BitVec.ofNat 32 m) = BitVec.ofBool (decide (n = m)) := by
  show BitVec.ofBool (BitVec.ofNat 32 n == BitVec.ofNat 32 m) = _
  congr 1
  rw [Bool.eq_iff_iff]
  simp only [beq_iff_eq, decide_eq_true_eq, ← BitVec.toNat_inj, BitVec.toNat_ofNat]
  rw [Nat.mod_eq_of_lt (by omega), Nat.mod_eq_of_lt (by omega)]

/-- The number of an index along the second axis. -/
def io (a b : ℕ) (f : ℕ → ℕ → ℕ) : IVec ⟨2, ![a, b]⟩ 32 := fun i => BitVec.ofNat 32 (f (i 0).val (i 1).val)

theorem iota1 {κ} (l : List (Fin 2)) (h) (hl : l = [1]) : iota κ ⟨2, ![a, b]⟩ 32 l h = io a b (fun _ c => c) := by
  subst hl
  funext i
  show BitVec.ofNat 32 (0 * _ + (i 1).val) = _
  rw [Nat.zero_mul, Nat.zero_add]; rfl

theorem iota0 {κ} (l : List (Fin 2)) (h) (hl : l = [0]) : iota κ ⟨2, ![a, b]⟩ 32 l h = io a b (fun r _ => r) := by
  subst hl
  funext i
  show BitVec.ofNat 32 (0 * _ + (i 0).val) = _
  rw [Nat.zero_mul, Nat.zero_add]; rfl

theorem lt_lane (n : ℕ) (hn : n < 2 ^ 31) : cmpi .slt (io 1 128 (fun _ c => c)) (broadcast S1x128 (BitVec.ofNat 32 n)) = mkB 1 128 (ltB n) := by
  funext i
  have h : (i 1).val < 128 := (i 1).isLt
  exact cmp_slt (i 1).val n (by omega) hn

theorem eq_lane (n : ℕ) (hn : n < 2 ^ 31) : cmpi .eq (io 1 128 (fun _ c => c)) (broadcast S1x128 (BitVec.ofNat 32 n)) = mkB 1 128 (eqB n) := by
  funext i
  have h : (i 1).val < 128 := (i 1).isLt
  exact cmp_eq (i 1).val n (by omega) hn

theorem eq_row (n : ℕ) (hn : n < 2 ^ 31) : cmpi .eq (io 64 1 (fun r _ => r)) (broadcast S64x1 (BitVec.ofNat 32 n)) = mkB 64 1 (eqR n) := by
  funext i
  have h : (i 0).val < 64 := (i 0).isLt
  exact cmp_eq (i 0).val n (by omega) hn

theorem ge_tri : cmpi .sge (io 64 64 (fun r _ => r)) (io 64 64 (fun _ c => c)) = mkB 64 64 geB := by
  funext i
  have h0 := (i 0).isLt
  have h1 := (i 1).isLt
  change (i 0).val < 64 at h0
  change (i 1).val < 64 at h1
  exact cmp_sge (i 0).val (i 1).val (by omega) (by omega)

theorem le_tri : cmpi .sle (io 64 64 (fun r _ => r)) (io 64 64 (fun _ c => c)) = mkB 64 64 leB := by
  funext i
  have h0 := (i 0).isLt
  have h1 := (i 1).isLt
  change (i 0).val < 64 at h0
  change (i 1).val < 64 at h1
  exact cmp_sle (i 0).val (i 1).val (by omega) (by omega)

/-- The rows of the chunk that hold a position of the sequence: all of them, or all but the first 48. -/
def okR (p : Bool) : ℕ → ℕ → Bool := fun r _ => p || decide (48 ≤ r)
/-- The same of the columns. -/
def okC (p : Bool) : ℕ → ℕ → Bool := fun _ c => p || decide (48 ≤ c)

theorem sgt_sub (i : grid0.Coords) : Scalar.cmpi .sgt (Scalar.subi 32#32 (BitVec.ofNat 32 (i 0).val)) 0#32 = BitVec.ofBool (decide ((i 0).val < 32)) := by
  have h : ∀ t : Fin 33, Scalar.cmpi .sgt (Scalar.subi 32#32 (BitVec.ofNat 32 t.val)) 0#32 = BitVec.ofBool (decide (t.val < 32)) := by decide
  exact h (i 0)

theorem ok_row (p : Bool) :
    ori (broadcast S64x1 (BitVec.ofBool p)) (cmpi .sge (io 64 1 (fun r _ => r)) (broadcast S64x1 (48#32)))
      = mkB 64 1 (okR p) := by
  funext i
  have := (i 0).isLt
  show BitVec.ofBool p ||| IntOp.cmpi CmpIPredicate.sge (BitVec.ofNat 32 (i 0).val) (48#32) = _
  rw [cmp_sge _ _ (by change (i 0).val < 64 at this; omega) (by decide)]
  show _ = BitVec.ofBool (p || decide (48 ≤ (i 0).val))
  cases p <;> cases decide (48 ≤ (i 0).val) <;> rfl

theorem ok_col (p : Bool) :
    ori (broadcast S1x64 (BitVec.ofBool p)) (cmpi .sge (io 1 64 (fun _ c => c)) (broadcast S1x64 (48#32)))
      = mkB 1 64 (okC p) := by
  funext i
  have := (i 1).isLt
  show BitVec.ofBool p ||| IntOp.cmpi CmpIPredicate.sge (BitVec.ofNat 32 (i 1).val) (48#32) = _
  rw [cmp_sge _ _ (by change (i 1).val < 64 at this; omega) (by decide)]
  show _ = BitVec.ofBool (p || decide (48 ≤ (i 1).val))
  cases p <;> cases decide (48 ≤ (i 1).val) <;> rfl

theorem ix2_self {n m : ℕ} (i : (⟨2, ![n, m]⟩ : Shape).Idx) : i = ix2 (i 0) (i 1) := by
  funext k
  match k with
  | ⟨0, _⟩ => rfl
  | ⟨1, _⟩ => rfl

theorem cast3 (f : ℕ → M2) (h) : shapeCast ⟨2, ![a, b]⟩ (mk3 (φ := φ) 1 a b f) h = mk2 a b (f 0) := by
  funext i
  show mk3 1 a b f (Shape.reshapeEquiv h i) = _
  exact congrArg (mk3 1 a b f) ((congrArg (Shape.reshapeEquiv h) (ix2_self i)).trans (ValueIdx.reshapeEquiv_ix2_1ab h (i 0) (i 1)))

theorem cast4 (f : ℕ → ℕ → M2) (h) : shapeCast ⟨2, ![a, b]⟩ (mk4 (φ := φ) 1 1 a b f) h = mk2 a b (f 0 0) := by
  funext i
  show mk4 1 1 a b f (Shape.reshapeEquiv h i) = _
  exact congrArg (mk4 1 1 a b f) ((congrArg (Shape.reshapeEquiv h) (ix2_self i)).trans (ValueIdx.reshapeEquiv_ix2_11ab h (i 0) (i 1)))

theorem cast23 (f : M2) (h) : shapeCast ⟨3, ![1, a, b]⟩ (mk2 (φ := φ) a b f) h = mk3 1 a b (fun _ => f) := by
  funext i
  have hi : i = ix3 (i 0) (i 1) (i 2) := by
    funext k
    match k with
    | ⟨0, _⟩ => rfl
    | ⟨1, _⟩ => rfl
    | ⟨2, _⟩ => rfl
  exact (congrArg (shapeCast ⟨3, ![1, a, b]⟩ (mk2 (φ := φ) a b f) h) hi).trans (ValueIdx.shapeCast_ab_1ab_apply (mk2 a b f) h (i 0) (i 1) (i 2))

theorem ld3 {n a' b' : ℕ} (e : ℕ) (f : ℕ → M2) (inb) :
    View.ld (Val := Elt Ideal) (e' := .bf16) (mk3 (φ := .bf16) n a' b' f) (Rect.unit (s := ⟨3, ![n, a', b']⟩) ![e, 0, 0] ![1, a', b'] inb)
      = mk3 (φ := .bf16) 1 a' b' (fun _ => f e) := by
  funext i
  show ((f (e + 1 * (i 0).val) (0 + 1 * (i 1).val) (0 + 1 * (i 2).val) : ℝ) : EReal) = ((f e (i 1).val (i 2).val : ℝ) : EReal)
  have h0 : (i 0).val < 1 := (i 0).isLt
  have : (i 0).val = 0 := by omega
  rw [this]; simp

theorem ld4 {n m a' b' : ℕ} (e : ℕ) (f : ℕ → ℕ → M2) (inb) :
    View.ld (Val := Elt Ideal) (e' := .bf16) (mk4 (φ := .bf16) n m a' b' f) (Rect.unit (s := ⟨4, ![n, m, a', b']⟩) ![e, 0, 0, 0] ![1, 1, a', b'] inb)
      = mk4 (φ := .bf16) 1 1 a' b' (fun _ _ => f e 0) := by
  funext i
  show ((f (e + 1 * (i 0).val) (0 + 1 * (i 1).val) (0 + 1 * (i 2).val) (0 + 1 * (i 3).val) : ℝ) : EReal)
    = ((f e 0 (i 2).val (i 3).val : ℝ) : EReal)
  have h0 : (i 0).val < 1 := (i 0).isLt
  have h1 : (i 1).val < 1 := (i 1).isLt
  have e0 : (i 0).val = 0 := by omega
  have e1 : (i 1).val = 0 := by omega
  rw [e0, e1]; simp

theorem ld2 {n m : ℕ} {ψ : FTy} (f : M2) (inb) :
    View.ld (Val := fun _ => EReal) (e' := .f32) (mk2 (φ := ψ) n m f) (Rect.unit (s := ⟨2, ![n, m]⟩) ![0, 0] ![n, m] inb)
      = mk2 (φ := ψ) n m f := by
  funext i
  show ((f (0 + 1 * (i 0).val) (0 + 1 * (i 1).val) : ℝ) : EReal) = ((f (i 0).val (i 1).val : ℝ) : EReal)
  simp

theorem ld2f {n m : ℕ} (f : M2) (inb) :
    View.ld (Val := Elt Ideal) (e' := .f32) (mk2 (φ := .f32) n m f) (Rect.unit (s := ⟨2, ![n, m]⟩) ![0, 0] ![n, m] inb)
      = mk2 (φ := .f32) n m f := ld2 f inb

theorem ld2b {n m : ℕ} (f : M2) (inb) :
    View.ld (Val := Elt Ideal) (e' := .bf16) (mk2 (φ := .bf16) n m f) (Rect.unit (s := ⟨2, ![n, m]⟩) ![0, 0] ![n, m] inb)
      = mk2 (φ := .bf16) n m f := ld2 f inb

theorem mk2_congr {f g : M2} (h : ∀ r c, r < a → c < b → f r c = g r c) : mk2 (φ := φ) a b f = mk2 a b g := by
  funext i
  have h0 : (i 0).val < a := (i 0).isLt
  have h1 : (i 1).val < b := (i 1).isLt
  unfold mk2
  rw [h _ _ h0 h1]

theorem sh00 (f : M2) : sh 0 0 f = f := by
  funext r c; unfold sh; rw [Nat.zero_add, Nat.zero_add]

theorem catC0 {q w : ℕ} (p : ℕ) (f g : M2) (h : q + b ≤ w) : mk2 (φ := φ) a b (sh p q (catC w f g)) = mk2 a b (sh p q f) :=
  mk2_congr fun r c _ hc => by unfold sh catC; rw [if_pos (by omega)]

theorem catC1 {q w : ℕ} (p : ℕ) (f g : M2) (h : w ≤ q) : sh p q (catC w f g) = sh p (q - w) g := by
  funext r c; unfold sh catC; rw [if_neg (by omega)]; congr 1; omega

theorem catR0 {p w : ℕ} (q : ℕ) (f g : M2) (h : p + a ≤ w) : mk2 (φ := φ) a b (sh p q (catR w f g)) = mk2 a b (sh p q f) :=
  mk2_congr fun r c hr _ => by unfold sh catR; rw [if_pos (by omega)]

theorem catR1 {p w : ℕ} (q : ℕ) (f g : M2) (h : w ≤ p) : sh p q (catR w f g) = sh (p - w) q g := by
  funext r c; unfold sh catR; rw [if_neg (by omega)]; congr 1; omega

theorem lx_cat (w : ℕ) (f g : M2) : lx (catR w f g) = catR w (lx f) (lx g) := by
  funext r c; unfold lx catR; split_ifs <;> rfl

theorem hs_cat (w : ℕ) (f g : M2) : hs (catR w f g) = catR w (hs f) (hs g) := by
  funext r c; unfold hs catR; by_cases h : r < w <;> simp [h]

theorem mmN_catR (K w : ℕ) (f g M : M2) : mmN K (catR w f g) M = catR w (mmN K f M) (mmN K g M) := by
  funext r c; unfold mmN catR; split_ifs <;> rfl

theorem mmN_catC (K w : ℕ) (f g M : M2) : mmN K M (catC w f g) = catC w (mmN K M f) (mmN K M g) := by
  funext r c; unfold mmN catC; split_ifs <;> rfl

theorem mmN_zero (K : ℕ) (M : M2) : mmN K M 0 = 0 := by
  funext r c; unfold mmN; simp

theorem zero_mmN (K : ℕ) (M : M2) : mmN K 0 M = 0 := by
  funext r c; unfold mmN; simp

theorem lx_zero : lx 0 = 0 := rfl

theorem sh_zero (p q : ℕ) : sh p q 0 = 0 := rfl

/-- The matrix that sums a head's columns. -/
def et01 : M2 := fun r h => if r / 64 = h then 1 else 0

theorem e01_mk (f : M2) : mk2 (φ := φ) 256 1024 (mmN 128 f e01) = mk2 256 1024 (lx f) :=
  mk2_congr fun r c _ hc => by
    unfold mmN e01 lx
    rw [Finset.sum_eq_single (c / 64)]
    · simp
    · intro k _ hk; rw [if_neg (Ne.symm hk), mul_zero]
    · intro h; exact absurd (Finset.mem_range.mpr (by omega)) h

theorem et01_mk (f : M2) : mk2 (φ := φ) 208 128 (mmN 1024 f et01) = mk2 208 128 (hs f) :=
  mk2_congr fun r h _ _ => by
    unfold mmN et01 hs
    rw [show (1024 : ℕ) = 16 * 64 from rfl, Finset.sum_range (n := 16 * 64)]
    rw [← finProdFinEquiv.sum_comp, Fintype.sum_prod_type]
    simp only [finProdFinEquiv_apply_val]
    have : ∀ (x : Fin 16) (y : Fin 64), (y.val + 64 * x.val) / 64 = x.val := fun x y => by
      have := y.isLt; omega
    simp only [this, mul_ite, mul_one, mul_zero]
    split_ifs with hh
    · rw [Finset.sum_eq_single (⟨h, hh⟩ : Fin 16)]
      · simp only [if_true, Finset.sum_range]
        exact Finset.sum_congr rfl fun y _ => by rw [Nat.add_comm]
      · intro x _ hx
        exact Finset.sum_eq_zero fun y _ => if_neg fun e => hx (Fin.ext e)
      · intro h'; exact absurd (Finset.mem_univ _) h'
    · exact Finset.sum_eq_zero fun x _ => Finset.sum_eq_zero fun y _ => if_neg fun e => hh (by have := x.isLt; omega)

theorem mmCe (f : M2) : matmul dot_S256x128_S128x1024_S256x1024_1_0_0_1_n_n none (mk2 (φ := .bf16) 256 128 f) (mk2 (φ := .bf16) 128 1024 e01)
    (constant S256x1024 .f32 0x00000000#32) = mk2 256 1024 (lx f) := (mmC f e01).trans (e01_mk f)

theorem mmDe (f : M2) : matmul dot_S208x1024_S1024x128_S208x128_1_0_0_1_n_n none (mk2 (φ := .bf16) 208 1024 f) (mk2 (φ := .bf16) 1024 128 et01)
    (constant S208x128 .f32 0x00000000#32) = mk2 208 128 (hs f) := (mmD f et01).trans (et01_mk f)

theorem mkC0 {w : ℕ} (f g : M2) (h : b ≤ w) : mk2 (φ := φ) a b (catC w f g) = mk2 a b f :=
  mk2_congr fun r c _ hc => by unfold catC; rw [if_pos (by omega)]

theorem mkR0 {w : ℕ} (f g : M2) (h : a ≤ w) : mk2 (φ := φ) a b (catR w f g) = mk2 a b f :=
  mk2_congr fun r c hr _ => by unfold catR; rw [if_pos (by omega)]

/-- The step sizes of a chunk: the softplus of the raw ones and the bias, zero on the rows in front of the sequence and past the heads. -/
def dtF (p : Bool) (x y : M2) : M2 :=
  sel (row0 (ltB 16)) (sel (col0 (okR p)) (rmax (x + row0 y) 0 + rlog (kc 1 + rex (0 - rab (x + row0 y)))) 0) 0

theorem dtF_fold (p : Bool) (x y : M2) :
    sel (row0 (ltB 16)) (sel (col0 (okR p)) (rmax (x + row0 y) 0 + rlog (kc 1 + rex (0 - rab (x + row0 y)))) 0) 0 = dtF p x y := by
  exact (rfl)

/-- The same with the heads as rows. -/
def dtT (p : Bool) (x y : M2) : M2 :=
  sel (row0 (okC p)) (rmax (tr x + col0 y) 0 + rlog (kc 1 + rex (0 - rab (tr x + col0 y)))) 0

theorem dtT_fold (p : Bool) (x y : M2) :
    sel (row0 (okC p)) (rmax (tr x + col0 y) 0 + rlog (kc 1 + rex (0 - rab (tr x + col0 y)))) 0 = dtT p x y := by
  exact (rfl)

/-- The decay rates, zero past the heads. -/
def aF (x : M2) : M2 := sel (ltB 16) (0 - rex x) 0

theorem aF_fold (x : M2) : sel (ltB 16) (0 - rex x) 0 = aF x := by exact (rfl)

/-- The sums of the log decays up to each row. -/
def bA (p : Bool) (x y z : M2) : M2 := mmN 64 (ind geB) (dtF p x y * row0 (aF z))

theorem bA_fold (p : Bool) (x y z : M2) : mmN 64 (ind geB) (dtF p x y * row0 (aF z)) = bA p x y z := by exact (rfl)

/-- The same with the heads as rows. -/
def bT (p : Bool) (x y z : M2) : M2 := mmN 64 (dtT p x y * col0 (0 - rex z)) (ind leB)

theorem bT_fold (p : Bool) (x y z : M2) : mmN 64 (dtT p x y * col0 (0 - rex z)) (ind leB) = bT p x y z := by exact (rfl)

/-- The gate. -/
def silF (x : M2) : M2 := x * rsg x

theorem silF_fold (x : M2) : x * rsg x = silF x := by exact (rfl)

/-- One over the root of the mean square of each row. -/
def rF (z : M2) : M2 := rrs (sumC 1024 (z * z) * kc (1 / 1024) + kc epsR)

theorem rF_fold (z : M2) : rrs (sumC 1024 (z * z) * kc (1 / 1024) + kc epsR) = rF z := by exact (rfl)

/-- The gradient of the normalised gate's input. -/
def dzF (dy ys bz g : M2) : M2 :=
  col0 (rF (ys * silF bz)) * (dy * row0 g) -
    ys * silF bz * col0 (rF (ys * silF bz) * rF (ys * silF bz) * rF (ys * silF bz)) *
      col0 (sumC 1024 (dy * row0 g * (ys * silF bz)) * kc (1 / 1024))

theorem dzF_fold (dy ys bz g : M2) :
    col0 (rF (ys * silF bz)) * (dy * row0 g) -
    ys * silF bz * col0 (rF (ys * silF bz) * rF (ys * silF bz) * rF (ys * silF bz)) *
      col0 (sumC 1024 (dy * row0 g * (ys * silF bz)) * kc (1 / 1024)) = dzF dy ys bz g := by exact (rfl)

/-- The gradient of the scan's result. -/
def dyF (dy ys bz g : M2) : M2 := dzF dy ys bz g * silF bz

theorem dyF_fold (dy ys bz g : M2) : dzF dy ys bz g * silF bz = dyF dy ys bz g := by exact (rfl)

/-- The decay from row `s` to row `l` of head `h`. -/
def dec (h : ℕ) (A T : M2) : M2 := sel geB (rex (rmin (col0 (sh 0 h A) - row0 (sh h 0 T)) 0)) 0

theorem dec_fold (h : ℕ) (A T : M2) : sel geB (rex (rmin (col0 (sh 0 h A) - row0 (sh h 0 T)) 0)) 0 = dec h A T := by exact (rfl)

theorem dec_fold0 (p : Bool) (x y z x' y' z' : M2) :
    sel geB (rex (rmin (col0 (bA p x y z) - row0 (bT p x' y' z')) 0)) 0 = dec 0 (bA p x y z) (bT p x' y' z') := by
  unfold dec; rw [sh00, sh00]

/-- The same with the two rows exchanged. -/
def deT (h : ℕ) (A T : M2) : M2 := sel leB (rex (rmin (row0 (sh h 0 T) - col0 (sh 0 h A)) 0)) 0

theorem deT_fold (h : ℕ) (A T : M2) : sel leB (rex (rmin (row0 (sh h 0 T) - col0 (sh 0 h A)) 0)) 0 = deT h A T := by exact (rfl)

theorem deT_fold0 (p : Bool) (x y z x' y' z' : M2) :
    sel leB (rex (rmin (row0 (bT p x' y' z') - col0 (bA p x y z)) 0)) 0 = deT 0 (bA p x y z) (bT p x' y' z') := by
  unfold deT; rw [sh00, sh00]

end Cert.Ssd

end
-- ==== Proof.SsdNf.lean ====
module

public import proofs.«01_k».proof.Proof.SsdOps
public import Idealize.ShloMosaic.Lib.Pipeline.ValueKit.Tiles
public import proofs.«01_k».proof.Proof.Gen.KernelIdeal.Value

@[expose] public section

set_option maxRecDepth 16384

noncomputable section

namespace Cert.Ssd

open Cert.KernelIdeal Idealize.ShloMosaic
open scoped BigOperators

/-- The gradient of the summed log decays of a chunk, a column for each head. -/
def daF (dy xd x st A T DA DB : M2) : M2 :=
    (sel (row0 (eqB 0)) (col0 (sumC 64 (mmT 64 dy xd * (mmT 128 (sh 0 1280 x) (sh 0 1024 x) * dec 0 A T) - mmT 64 xd
    dy * (mmT 128 (sh 0 1024 x) (sh 0 1280 x) * deT 0 A T)))) 0 + sel (row0 (eqB 1)) (col0 (sumC 64 (mmT 64 (sh 0 64
    dy) (sh 0 64 xd) * (mmT 128 (sh 0 1280 x) (sh 0 1024 x) * dec 1 A T) - mmT 64 (sh 0 64 xd) (sh 0 64 dy) * (mmT
    128 (sh 0 1024 x) (sh 0 1280 x) * deT 1 A T)))) 0 + sel (row0 (eqB 2)) (col0 (sumC 64 (mmT 64 (sh 0 128 dy) (sh 0
    128 xd) * (mmT 128 (sh 0 1280 x) (sh 0 1024 x) * dec 2 A T) - mmT 64 (sh 0 128 xd) (sh 0 128 dy) * (mmT 128 (sh 0
    1024 x) (sh 0 1280 x) * deT 2 A T)))) 0 + sel (row0 (eqB 3)) (col0 (sumC 64 (mmT 64 (sh 0 192 dy) (sh 0 192 xd) *
    (mmT 128 (sh 0 1280 x) (sh 0 1024 x) * dec 3 A T) - mmT 64 (sh 0 192 xd) (sh 0 192 dy) * (mmT 128 (sh 0 1024 x)
    (sh 0 1280 x) * deT 3 A T)))) 0 + sel (row0 (eqB 4)) (col0 (sumC 64 (mmT 64 (sh 0 256 dy) (sh 0 256 xd) * (mmT
    128 (sh 0 1280 x) (sh 0 1024 x) * dec 4 A T) - mmT 64 (sh 0 256 xd) (sh 0 256 dy) * (mmT 128 (sh 0 1024 x) (sh 0
    1280 x) * deT 4 A T)))) 0 + sel (row0 (eqB 5)) (col0 (sumC 64 (mmT 64 (sh 0 320 dy) (sh 0 320 xd) * (mmT 128 (sh
    0 1280 x) (sh 0 1024 x) * dec 5 A T) - mmT 64 (sh 0 320 xd) (sh 0 320 dy) * (mmT 128 (sh 0 1024 x) (sh 0 1280 x)
    * deT 5 A T)))) 0 + sel (row0 (eqB 6)) (col0 (sumC 64 (mmT 64 (sh 0 384 dy) (sh 0 384 xd) * (mmT 128 (sh 0 1280
    x) (sh 0 1024 x) * dec 6 A T) - mmT 64 (sh 0 384 xd) (sh 0 384 dy) * (mmT 128 (sh 0 1024 x) (sh 0 1280 x) * deT 6
    A T)))) 0 + sel (row0 (eqB 7)) (col0 (sumC 64 (mmT 64 (sh 0 448 dy) (sh 0 448 xd) * (mmT 128 (sh 0 1280 x) (sh 0
    1024 x) * dec 7 A T) - mmT 64 (sh 0 448 xd) (sh 0 448 dy) * (mmT 128 (sh 0 1024 x) (sh 0 1280 x) * deT 7 A T))))
    0 + sel (row0 (eqB 8)) (col0 (sumC 64 (mmT 64 (sh 0 512 dy) (sh 0 512 xd) * (mmT 128 (sh 0 128 (sh 0 1280 x)) (sh
    0 128 (sh 0 1024 x)) * dec 8 A T) - mmT 64 (sh 0 512 xd) (sh 0 512 dy) * (mmT 128 (sh 0 128 (sh 0 1024 x)) (sh 0
    128 (sh 0 1280 x)) * deT 8 A T)))) 0 + sel (row0 (eqB 9)) (col0 (sumC 64 (mmT 64 (sh 0 576 dy) (sh 0 576 xd) *
    (mmT 128 (sh 0 128 (sh 0 1280 x)) (sh 0 128 (sh 0 1024 x)) * dec 9 A T) - mmT 64 (sh 0 576 xd) (sh 0 576 dy) *
    (mmT 128 (sh 0 128 (sh 0 1024 x)) (sh 0 128 (sh 0 1280 x)) * deT 9 A T)))) 0 + sel (row0 (eqB 10)) (col0 (sumC 64
    (mmT 64 (sh 0 640 dy) (sh 0 640 xd) * (mmT 128 (sh 0 128 (sh 0 1280 x)) (sh 0 128 (sh 0 1024 x)) * dec 10 A T) -
    mmT 64 (sh 0 640 xd) (sh 0 640 dy) * (mmT 128 (sh 0 128 (sh 0 1024 x)) (sh 0 128 (sh 0 1280 x)) * deT 10 A T))))
    0 + sel (row0 (eqB 11)) (col0 (sumC 64 (mmT 64 (sh 0 704 dy) (sh 0 704 xd) * (mmT 128 (sh 0 128 (sh 0 1280 x))
    (sh 0 128 (sh 0 1024 x)) * dec 11 A T) - mmT 64 (sh 0 704 xd) (sh 0 704 dy) * (mmT 128 (sh 0 128 (sh 0 1024 x))
    (sh 0 128 (sh 0 1280 x)) * deT 11 A T)))) 0 + sel (row0 (eqB 12)) (col0 (sumC 64 (mmT 64 (sh 0 768 dy) (sh 0 768
    xd) * (mmT 128 (sh 0 128 (sh 0 1280 x)) (sh 0 128 (sh 0 1024 x)) * dec 12 A T) - mmT 64 (sh 0 768 xd) (sh 0 768
    dy) * (mmT 128 (sh 0 128 (sh 0 1024 x)) (sh 0 128 (sh 0 1280 x)) * deT 12 A T)))) 0 + sel (row0 (eqB 13)) (col0
    (sumC 64 (mmT 64 (sh 0 832 dy) (sh 0 832 xd) * (mmT 128 (sh 0 128 (sh 0 1280 x)) (sh 0 128 (sh 0 1024 x)) * dec
    13 A T) - mmT 64 (sh 0 832 xd) (sh 0 832 dy) * (mmT 128 (sh 0 128 (sh 0 1024 x)) (sh 0 128 (sh 0 1280 x)) * deT
    13 A T)))) 0 + sel (row0 (eqB 14)) (col0 (sumC 64 (mmT 64 (sh 0 896 dy) (sh 0 896 xd) * (mmT 128 (sh 0 128 (sh 0
    1280 x)) (sh 0 128 (sh 0 1024 x)) * dec 14 A T) - mmT 64 (sh 0 896 xd) (sh 0 896 dy) * (mmT 128 (sh 0 128 (sh 0
    1024 x)) (sh 0 128 (sh 0 1280 x)) * deT 14 A T)))) 0 + sel (row0 (eqB 15)) (col0 (sumC 64 (mmT 64 (sh 0 960 dy)
    (sh 0 960 xd) * (mmT 128 (sh 0 128 (sh 0 1280 x)) (sh 0 128 (sh 0 1024 x)) * dec 15 A T) - mmT 64 (sh 0 960 xd)
    (sh 0 960 dy) * (mmT 128 (sh 0 128 (sh 0 1024 x)) (sh 0 128 (sh 0 1280 x)) * deT 15 A T)))) 0 + hs (dy * lx (rex
    A) * catC 512 (mmN 128 (sh 0 1280 x) st) (mmN 128 (sh 0 128 (sh 0 1280 x)) (sh 0 512 st))) - hs (catC 512 (mmN
    128 (sh 0 1024 x) DA) (mmN 128 (sh 0 128 (sh 0 1024 x)) DB) * xd) * rex (row0 (sh 63 0 A) - A) + sel (col0 (eqR
    63)) (row0 (sumR 64 (hs (catC 512 (mmN 128 (sh 0 1024 x) DA) (mmN 128 (sh 0 128 (sh 0 1024 x)) DB) * xd) * rex
    (row0 (sh 63 0 A) - A)) + hs (row0 (sumR 128 (catC 512 DA DB * st))) * sh 63 0 (rex A))) 0)

/-- The gradient of the rows that enter the scan. -/
def dxF (dy x A T DA DB : M2) : M2 :=
    catC 512 (catC 64 (mmN 64 (mmT 128 (sh 0 1024 x) (sh 0 1280 x) * deT 0 A T) dy) (catC 64 (mmN 64 (mmT 128 (sh 0
    1024 x) (sh 0 1280 x) * deT 1 A T) (sh 0 64 dy)) (catC 64 (mmN 64 (mmT 128 (sh 0 1024 x) (sh 0 1280 x) * deT 2 A
    T) (sh 0 128 dy)) (catC 64 (mmN 64 (mmT 128 (sh 0 1024 x) (sh 0 1280 x) * deT 3 A T) (sh 0 192 dy)) (catC 64 (mmN
    64 (mmT 128 (sh 0 1024 x) (sh 0 1280 x) * deT 4 A T) (sh 0 256 dy)) (catC 64 (mmN 64 (mmT 128 (sh 0 1024 x) (sh 0
    1280 x) * deT 5 A T) (sh 0 320 dy)) (catC 64 (mmN 64 (mmT 128 (sh 0 1024 x) (sh 0 1280 x) * deT 6 A T) (sh 0 384
    dy)) (mmN 64 (mmT 128 (sh 0 1024 x) (sh 0 1280 x) * deT 7 A T) (sh 0 448 dy)))))))) + mmN 128 (sh 0 1024 x) DA *
    lx (rex (row0 (sh 63 0 A) - A))) (catC 64 (mmN 64 (mmT 128 (sh 0 128 (sh 0 1024 x)) (sh 0 128 (sh 0 1280 x)) *
    deT 8 A T) (sh 0 512 dy)) (catC 64 (mmN 64 (mmT 128 (sh 0 128 (sh 0 1024 x)) (sh 0 128 (sh 0 1280 x)) * deT 9 A
    T) (sh 0 576 dy)) (catC 64 (mmN 64 (mmT 128 (sh 0 128 (sh 0 1024 x)) (sh 0 128 (sh 0 1280 x)) * deT 10 A T) (sh 0
    640 dy)) (catC 64 (mmN 64 (mmT 128 (sh 0 128 (sh 0 1024 x)) (sh 0 128 (sh 0 1280 x)) * deT 11 A T) (sh 0 704 dy))
    (catC 64 (mmN 64 (mmT 128 (sh 0 128 (sh 0 1024 x)) (sh 0 128 (sh 0 1280 x)) * deT 12 A T) (sh 0 768 dy)) (catC 64
    (mmN 64 (mmT 128 (sh 0 128 (sh 0 1024 x)) (sh 0 128 (sh 0 1280 x)) * deT 13 A T) (sh 0 832 dy)) (catC 64 (mmN 64
    (mmT 128 (sh 0 128 (sh 0 1024 x)) (sh 0 128 (sh 0 1280 x)) * deT 14 A T) (sh 0 896 dy)) (mmN 64 (mmT 128 (sh 0
    128 (sh 0 1024 x)) (sh 0 128 (sh 0 1280 x)) * deT 15 A T) (sh 0 960 dy)))))))) + mmN 128 (sh 0 128 (sh 0 1024 x))
    DB * sh 0 512 (lx (rex (row0 (sh 63 0 A) - A))))

/-- The gradient of the scan's three arrays, beside each other. -/
def dxbcG (p : Bool) (dy xd x st A T dt DA DB X10 : M2) : M2 :=
    sel (col0 (okR p)) (catC 1024 (dy * row0 X10 + dxF dy x A T DA DB * lx dt) (catC 128 (mmT 512 (xd * lx (rex (row0
    (sh 63 0 A) - A))) DA + mmN 64 (mmT 64 xd dy * deT 0 A T + mmT 64 (sh 0 64 xd) (sh 0 64 dy) * deT 1 A T + mmT 64
    (sh 0 128 xd) (sh 0 128 dy) * deT 2 A T + mmT 64 (sh 0 192 xd) (sh 0 192 dy) * deT 3 A T + mmT 64 (sh 0 256 xd)
    (sh 0 256 dy) * deT 4 A T + mmT 64 (sh 0 320 xd) (sh 0 320 dy) * deT 5 A T + mmT 64 (sh 0 384 xd) (sh 0 384 dy) *
    deT 6 A T + mmT 64 (sh 0 448 xd) (sh 0 448 dy) * deT 7 A T) (sh 0 1280 x)) (catC 128 (mmT 512 (sh 0 512 (xd * lx
    (rex (row0 (sh 63 0 A) - A)))) DB + mmN 64 (mmT 64 (sh 0 512 xd) (sh 0 512 dy) * deT 8 A T + mmT 64 (sh 0 576 xd)
    (sh 0 576 dy) * deT 9 A T + mmT 64 (sh 0 640 xd) (sh 0 640 dy) * deT 10 A T + mmT 64 (sh 0 704 xd) (sh 0 704 dy)
    * deT 11 A T + mmT 64 (sh 0 768 xd) (sh 0 768 dy) * deT 12 A T + mmT 64 (sh 0 832 xd) (sh 0 832 dy) * deT 13 A T
    + mmT 64 (sh 0 896 xd) (sh 0 896 dy) * deT 14 A T + mmT 64 (sh 0 960 xd) (sh 0 960 dy) * deT 15 A T) (sh 0 128
    (sh 0 1280 x))) (catC 128 (mmT 512 (dy * lx (rex A)) st + mmN 64 (mmT 64 dy xd * dec 0 A T + mmT 64 (sh 0 64 dy)
    (sh 0 64 xd) * dec 1 A T + mmT 64 (sh 0 128 dy) (sh 0 128 xd) * dec 2 A T + mmT 64 (sh 0 192 dy) (sh 0 192 xd) *
    dec 3 A T + mmT 64 (sh 0 256 dy) (sh 0 256 xd) * dec 4 A T + mmT 64 (sh 0 320 dy) (sh 0 320 xd) * dec 5 A T + mmT
    64 (sh 0 384 dy) (sh 0 384 xd) * dec 6 A T + mmT 64 (sh 0 448 dy) (sh 0 448 xd) * dec 7 A T) (sh 0 1024 x)) (mmT
    512 (sh 0 512 (dy * lx (rex A))) (sh 0 512 st) + mmN 64 (mmT 64 (sh 0 512 dy) (sh 0 512 xd) * dec 8 A T + mmT 64
    (sh 0 576 dy) (sh 0 576 xd) * dec 9 A T + mmT 64 (sh 0 640 dy) (sh 0 640 xd) * dec 10 A T + mmT 64 (sh 0 704 dy)
    (sh 0 704 xd) * dec 11 A T + mmT 64 (sh 0 768 dy) (sh 0 768 xd) * dec 12 A T + mmT 64 (sh 0 832 dy) (sh 0 832 xd)
    * dec 13 A T + mmT 64 (sh 0 896 dy) (sh 0 896 xd) * dec 14 A T + mmT 64 (sh 0 960 dy) (sh 0 960 xd) * dec 15 A T)
    (sh 0 128 (sh 0 1024 x))))))) 0

/-- The gradient of the log decays. -/
def ddaF (p : Bool) (X0 X1 x X3 dr st X6 X7 X8 X9 X11 DA DB : M2) : M2 :=
  mmN 64 (ind leB) (daF (dyF X0 X1 X3 X11) (x * lx (dtF p dr X6)) x st (bA p dr X6 X8) (bT p dr X7 X9) DA DB)

/-- The gradient of the scan's three arrays as a function of the windows of one example. -/
def dxbcF (p : Bool) (X0 X1 x X3 dr st X6 X7 X8 X9 X10 X11 DA DB : M2) : M2 :=
  dxbcG p (dyF X0 X1 X3 X11) (x * lx (dtF p dr X6)) x st (bA p dr X6 X8) (bT p dr X7 X9) (dtF p dr X6) DA DB X10

/-- The gradient of the raw step sizes. -/
def ddtF (p : Bool) (X0 X1 x X3 dr st X6 X7 X8 X9 X11 DA DB : M2) : M2 :=
  sel (row0 (ltB 16)) (sel (col0 (okR p)) ((ddaF p X0 X1 x X3 dr st X6 X7 X8 X9 X11 DA DB * row0 (aF X8) +
    hs (dxF (dyF X0 X1 X3 X11) x (bA p dr X6 X8) (bT p dr X7 X9) DA DB * x)) * rsg (dr + row0 X6)) 0) 0

/-- The gradient of the gate's input. -/
def dbzF (X0 X1 X3 X11 : M2) : M2 :=
  dzF X0 X1 X3 X11 * X1 * (rsg X3 * (kc 1 + X3 * (kc 1 - rsg X3)))

/-- The terms of the gradient of the norm's weight. -/
def dgF (X0 X1 X3 : M2) : M2 := X0 * (X1 * silF X3) * col0 (rF (X1 * silF X3))

/-- The terms of the gradient of the decay rates. -/
def dalF (p : Bool) (X0 X1 x X3 dr st X6 X7 X8 X9 X11 DA DB : M2) : M2 :=
  ddaF p X0 X1 x X3 dr st X6 X7 X8 X9 X11 DA DB * dtF p dr X6 * row0 (aF X8)

/-- The gradient of the skip weights, from one example of a chunk. -/
def ddF (X0 X1 x X3 X11 : M2) : M2 := hs (row0 (sumR 64 (dyF X0 X1 X3 X11 * x)))

/-- The state gradient of the first group after a chunk. -/
def sAF (p : Bool) (X0 X1 x X3 dr X6 X8 X11 DA : M2) : M2 :=
  DA * row0 (sh 63 0 (lx (rex (bA p dr X6 X8)))) + mmL 64 (sh 0 1280 x) (dyF X0 X1 X3 X11 * lx (rex (bA p dr X6 X8)))

/-- The state gradient of the second group after a chunk. -/
def sBF (p : Bool) (X0 X1 x X3 dr X6 X8 X11 DB : M2) : M2 :=
  DB * row0 (sh 0 512 (sh 63 0 (lx (rex (bA p dr X6 X8))))) +
    mmL 64 (sh 0 128 (sh 0 1280 x)) (sh 0 512 (dyF X0 X1 X3 X11 * lx (rex (bA p dr X6 X8))))

/-- The zero matrix that a first point starts from. -/
def zz : M2 := 0

theorem hz2 : (![0, 0] : Fin 2 → Nat) = fun _ => 0 := by funext a; fin_cases a <;> rfl

/-- Two stores, one for each example, read back. -/
theorem canon14 (G : ℕ → M2) (i1 i0) :
    View.canon (Val := Elt Ideal) (s := S2x64x1536) (e := .bf16) [⟨Rect.unit ![1, 0, 0] ![1, 64, 1536] i1, mk3 (φ := .bf16) 1 64 1536 fun _ => G 1⟩,
      ⟨Rect.unit ![0, 0, 0] ![1, 64, 1536] i0, mk3 (φ := .bf16) 1 64 1536 fun _ => G 0⟩] = mk3 (φ := .bf16) 2 64 1536 G := by
  funext y
  have hy : (y 0).val < 2 := (y 0).isLt
  refine View.canon_eq_of_allAt _ y _ (View.cover_of_tiledL _ ![1, 64, 1536] (by sl_kernel_rfl) y)
    (View.allAt_cons_unit _ _ _ _ _ (fun x h => ?_) (View.allAt_cons_unit _ _ _ _ _ (fun x h => ?_) (View.allAt_nil _ _)))
  all_goals
    have h0 : (y 0).val = _ + (x 0).val := h 0
    have h1 : (y 1).val = 0 + (x 1).val := h 1
    have h2 : (y 2).val = _ + (x 2).val := h 2
    have b0 : (x 0).val < 1 := (x 0).isLt
    unfold mk3
  · rw [show (y 0).val = 1 from h0.trans (by show 1 + (x 0).val = 1; omega), show (y 1).val = (x 1).val by omega,
      show (y 2).val = (x 2).val from h2.trans (Nat.zero_add _)]
  · rw [show (y 0).val = 0 from h0.trans (by show 0 + (x 0).val = 0; omega), show (y 1).val = (x 1).val by omega,
      show (y 2).val = (x 2).val from h2.trans (Nat.zero_add _)]

/-- Four stores, two for each example, read back. -/
theorem canon15 (G H : ℕ → M2) (i1 i0 j1 j0) :
    View.canon (Val := Elt Ideal) (s := S2x64x1152) (e := .bf16) [⟨Rect.unit ![1, 0, 1024] ![1, 64, 128] i1, mk3 (φ := .bf16) 1 64 128 fun _ => G 1⟩,
      ⟨Rect.unit ![0, 0, 1024] ![1, 64, 128] i0, mk3 (φ := .bf16) 1 64 128 fun _ => G 0⟩,
      ⟨Rect.unit ![1, 0, 0] ![1, 64, 1024] j1, mk3 (φ := .bf16) 1 64 1024 fun _ => H 1⟩,
      ⟨Rect.unit ![0, 0, 0] ![1, 64, 1024] j0, mk3 (φ := .bf16) 1 64 1024 fun _ => H 0⟩] =
      mk3 (φ := .bf16) 2 64 1152 fun e => catC 1024 (H e) (G e) := by
  funext y
  have hy : (y 0).val < 2 := (y 0).isLt
  refine View.canon_eq_of_allAt _ y _ (View.cover_of_tiledBy _ ![1, 64, 128] (by sl_kernel_rfl) y)
    (View.allAt_cons_unit _ _ _ _ _ (fun x h => ?_) (View.allAt_cons_unit _ _ _ _ _ (fun x h => ?_)
      (View.allAt_cons_unit _ _ _ _ _ (fun x h => ?_) (View.allAt_cons_unit _ _ _ _ _ (fun x h => ?_) (View.allAt_nil _ _)))))
  all_goals
    have h0 : (y 0).val = _ + (x 0).val := h 0
    have h1 : (y 1).val = 0 + (x 1).val := h 1
    have h2 : (y 2).val = _ + (x 2).val := h 2
    have b0 : (x 0).val < 1 := (x 0).isLt
    unfold mk3 catC
    dsimp only
  · have e2 : (y 2).val = 1024 + (x 2).val := h2
    rw [if_neg (by omega), show (y 0).val = 1 from h0.trans (by show 1 + (x 0).val = 1; omega), show (y 1).val = (x 1).val by omega,
      show (y 2).val - 1024 = (x 2).val by omega]
  · have e2 : (y 2).val = 1024 + (x 2).val := h2
    rw [if_neg (by omega), show (y 0).val = 0 from h0.trans (by show 0 + (x 0).val = 0; omega), show (y 1).val = (x 1).val by omega,
      show (y 2).val - 1024 = (x 2).val by omega]
  · have e2 : (y 2).val = (x 2).val := h2.trans (Nat.zero_add _)
    have b2 : (x 2).val < 1024 := (x 2).isLt
    rw [if_pos (by omega), show (y 0).val = 1 from h0.trans (by show 1 + (x 0).val = 1; omega), show (y 1).val = (x 1).val by omega, e2]
  · have e2 : (y 2).val = (x 2).val := h2.trans (Nat.zero_add _)
    have b2 : (x 2).val < 1024 := (x 2).isLt
    rw [if_pos (by omega), show (y 0).val = 0 from h0.trans (by show 0 + (x 0).val = 0; omega), show (y 1).val = (x 1).val by omega, e2]

/-- A store of the whole array reads back. -/
theorem canonG (inb) (f : M2) (L : List (View.Piece (Elt Ideal) S1x1024 .f32)) :
    View.canon (Val := Elt Ideal) (s := S1x1024) (e := .f32) (⟨Rect.unit ![0, 0] ![1, 1024] inb, mk2 (φ := .f32) 1 1024 f⟩ :: L) = mk2 (φ := .f32) 1 1024 f :=
  View.canon_cons_unit_lit (Val := Elt Ideal) (S := S1x1024) (e := .f32) (off := ![0, 0]) inb (mk2 (φ := .f32) 1 1024 f) L (by decide)

/-- A store of the whole array reads back. -/
theorem canonL (inb) (f : M2) (L : List (View.Piece (Elt Ideal) S1x128 .f32)) :
    View.canon (Val := Elt Ideal) (s := S1x128) (e := .f32) (⟨Rect.unit ![0, 0] ![1, 128] inb, mk2 (φ := .f32) 1 128 f⟩ :: L) = mk2 (φ := .f32) 1 128 f :=
  View.canon_cons_unit_lit (Val := Elt Ideal) (S := S1x128) (e := .f32) (off := ![0, 0]) inb (mk2 (φ := .f32) 1 128 f) L (by decide)

/-- A store of the whole array reads back. -/
theorem canonS (inb) (f : M2) (L : List (View.Piece (Elt Ideal) S128x512 .f32)) :
    View.canon (Val := Elt Ideal) (s := S128x512) (e := .f32) (⟨Rect.unit ![0, 0] ![128, 512] inb, mk2 (φ := .f32) 128 512 f⟩ :: L) = mk2 (φ := .f32) 128 512 f :=
  View.canon_cons_unit_lit (Val := Elt Ideal) (S := S128x512) (e := .f32) (off := ![0, 0]) inb (mk2 (φ := .f32) 128 512 f) L (by decide)

end Cert.Ssd

end
-- ==== Proof.SsdK.lean ====
module

public import Idealize.ShloMosaic.PureOps.Ideal.Laws

/-! The reference's operations on arrays of real numbers: `K_<operation>` is the value an operation has at an index given by
its coordinates (a chunk as example and number, a row as example and position). The operations that only move elements, and
the constants, have none of their own. -/

@[expose] public section

noncomputable section

namespace Cert.SsdR

open scoped BigOperators

/-- The arguments as real numbers. -/
structure Inp where
  a0 : ℕ → ℕ → ℕ → ℝ
  a1 : ℕ → ℕ → ℕ → ℝ
  a2 : ℕ → ℕ → ℕ → ℝ
  a3 : ℕ → ℕ → ℕ → ℝ
  a4 : ℕ → ℕ → ℕ → ℕ → ℝ
  a5 : ℕ → ℝ
  a6 : ℕ → ℝ
  a7 : ℕ → ℝ
  a8 : ℕ → ℝ

/-- The number added to the mean square. -/
def eps : ℝ := 8796093 / 2 ^ 43

/-- The real value of operation call0_v0 of the reference. -/
def K_call0_v0 (I : Inp) (u0 v0 x1 : ℕ) : ℝ := (-(I.a3 u0 v0 (x1 + 2048)))

/-- The real value of operation call0_v1 of the reference. -/
def K_call0_v1 (I : Inp) (u0 v0 x1 : ℕ) : ℝ := (Real.exp (K_call0_v0 I u0 v0 x1))

/-- The real value of operation call0_v3 of the reference. -/
def K_call0_v3 (I : Inp) (u0 v0 x1 : ℕ) : ℝ := ((1 : ℝ) + (K_call0_v1 I u0 v0 x1))

/-- The real value of operation v5_2 of the reference. -/
def K_v5_2 (I : Inp) (u0 v0 x1 : ℕ) : ℝ := ((1 : ℝ) / (K_call0_v3 I u0 v0 x1))

/-- The real value of operation call0_v7 of the reference. -/
def K_call0_v7 (I : Inp) (u0 v0 x1 : ℕ) : ℝ := ((1 : ℝ) - (K_v5_2 I u0 v0 x1))

/-- The real value of operation v5_1 of the reference. -/
def K_v5_1 (I : Inp) (u0 v0 x1 : ℕ) : ℝ := ((K_v5_2 I u0 v0 x1) * (K_call0_v7 I u0 v0 x1))

/-- The real value of operation v5_0 of the reference. -/
def K_v5_0 (I : Inp) (u0 v0 x1 : ℕ) : ℝ := ((I.a3 u0 v0 (x1 + 2048)) * (K_v5_2 I u0 v0 x1))

/-- The real value of operation v6 of the reference. -/
def K_v6 (I : Inp) (u0 v0 x1 : ℕ) : ℝ := ((I.a1 u0 v0 x1) * (K_v5_0 I u0 v0 x1))

/-- The real value of operation v7 of the reference. -/
def K_v7 (I : Inp) (u0 v0 x1 : ℕ) : ℝ := ((K_v6 I u0 v0 x1) * (K_v6 I u0 v0 x1))

/-- The real value of operation v8 of the reference. -/
def K_v8 (I : Inp) (u0 v0 : ℕ) : ℝ := (∑ k ∈ Finset.range 1024, (K_v7 I u0 v0 k))

/-- The real value of operation v11 of the reference. -/
def K_v11 (I : Inp) (u0 v0 : ℕ) : ℝ := ((K_v8 I u0 v0) / (1024 : ℝ))

/-- The real value of operation v13 of the reference. -/
def K_v13 (I : Inp) (u0 v0 : ℕ) : ℝ := ((K_v11 I u0 v0) + (eps : ℝ))

/-- The real value of operation v14 of the reference. -/
def K_v14 (I : Inp) (u0 v0 : ℕ) : ℝ := ((Real.sqrt (K_v13 I u0 v0))⁻¹)

/-- The real value of operation v15 of the reference. -/
def K_v15 (I : Inp) (u0 v0 : ℕ) : ℝ := ((K_v14 I u0 v0) / (K_v13 I u0 v0))

/-- The real value of operation v17 of the reference. -/
def K_v17 (I : Inp) (u0 v0 : ℕ) : ℝ := (((-(1/2)) : ℝ) * (K_v15 I u0 v0))

/-- The real value of operation v19 of the reference. -/
def K_v19 (I : Inp) (u0 v0 x1 : ℕ) : ℝ := ((K_v6 I u0 v0 x1) * (K_v14 I u0 v0))

/-- The real value of operation v26 of the reference. -/
def K_v26 (I : Inp) (u0 v0 x1 : ℕ) : ℝ := ((K_v19 I u0 v0 x1) * (I.a0 u0 v0 x1))

/-- The real value of operation v27 of the reference. -/
def K_v27 (I : Inp) (x0 : ℕ) : ℝ := (∑ k ∈ Finset.range 4128, (K_v26 I (((k) / 2064)) (((k) % 2064)) x0))

/-- The real value of operation v30 of the reference. -/
def K_v30 (I : Inp) (u0 v0 x1 : ℕ) : ℝ := ((I.a0 u0 v0 x1) * (I.a8 x1))

/-- The real value of operation v32 of the reference. -/
def K_v32 (I : Inp) (u0 v0 x1 : ℕ) : ℝ := ((K_v6 I u0 v0 x1) * (K_v30 I u0 v0 x1))

/-- The real value of operation v33 of the reference. -/
def K_v33 (I : Inp) (u0 v0 : ℕ) : ℝ := (∑ k ∈ Finset.range 1024, (K_v32 I u0 v0 k))

/-- The real value of operation v36 of the reference. -/
def K_v36 (I : Inp) (u0 v0 x1 : ℕ) : ℝ := ((K_v30 I u0 v0 x1) * (K_v14 I u0 v0))

/-- The real value of operation v37 of the reference. -/
def K_v37 (I : Inp) (u0 v0 : ℕ) : ℝ := ((K_v33 I u0 v0) * (K_v17 I u0 v0))

/-- The real value of operation v39 of the reference. -/
def K_v39 (I : Inp) (u0 v0 : ℕ) : ℝ := ((K_v37 I u0 v0) / (1024 : ℝ))

/-- The real value of operation v42 of the reference. -/
def K_v42 (I : Inp) (u0 v0 x1 : ℕ) : ℝ := ((K_v6 I u0 v0 x1) * (K_v39 I u0 v0))

/-- The real value of operation v43 of the reference. -/
def K_v43 (I : Inp) (u0 v0 x1 : ℕ) : ℝ := ((K_v36 I u0 v0 x1) + (K_v42 I u0 v0 x1))

/-- The real value of operation v44 of the reference. -/
def K_v44 (I : Inp) (u0 v0 x1 : ℕ) : ℝ := ((K_v39 I u0 v0) * (K_v6 I u0 v0 x1))

/-- The real value of operation v45 of the reference. -/
def K_v45 (I : Inp) (u0 v0 x1 : ℕ) : ℝ := ((K_v43 I u0 v0 x1) + (K_v44 I u0 v0 x1))

/-- The real value of operation v46 of the reference. -/
def K_v46 (I : Inp) (u0 v0 x1 : ℕ) : ℝ := ((I.a1 u0 v0 x1) * (K_v45 I u0 v0 x1))

/-- The real value of operation v47 of the reference. -/
def K_v47 (I : Inp) (u0 v0 x1 : ℕ) : ℝ := ((K_v45 I u0 v0 x1) * (K_v5_0 I u0 v0 x1))

/-- The real value of operation call1_v0 of the reference. -/
def K_call1_v0 (I : Inp) (u0 v0 x1 : ℕ) : ℝ := ((I.a3 u0 v0 (x1 + 2048)) * (K_v46 I u0 v0 x1))

/-- The real value of operation call1_v1 of the reference. -/
def K_call1_v1 (I : Inp) (u0 v0 x1 : ℕ) : ℝ := ((K_v46 I u0 v0 x1) * (K_v5_2 I u0 v0 x1))

/-- The real value of operation call1_v2 of the reference. -/
def K_call1_v2 (I : Inp) (u0 v0 x1 : ℕ) : ℝ := ((K_call1_v0 I u0 v0 x1) * (K_v5_1 I u0 v0 x1))

/-- The real value of operation v48 of the reference. -/
def K_v48 (I : Inp) (u0 v0 x1 : ℕ) : ℝ := ((K_call1_v1 I u0 v0 x1) + (K_call1_v2 I u0 v0 x1))

/-- The real value of operation v50 of the reference. -/
def K_v50 (I : Inp) (x0 x1 : ℕ) : ℝ := (if (x1 ≤ x0) then (1 : ℝ) else (0 : ℝ))

/-- The real value of operation v55 of the reference. -/
def K_v55 (I : Inp) (x0 u1 v1 x2 : ℕ) : ℝ := (if 64 * u1 + v1 < 48 then 0 else (K_v47 I x0 (64 * u1 + v1 - 48) x2))

/-- The real value of operation v57 of the reference. -/
def K_v57 (I : Inp) (x0 x1 x2 x3 : ℕ) : ℝ := (I.a4 x0 x1 x2 x3)

/-- The real value of operation v73 of the reference. -/
def K_v73 (I : Inp) (u0 v0 x1 : ℕ) : ℝ := ((I.a3 u0 v0 (x1 + 3072)) + (I.a5 x1))

/-- The real value of operation call4_v1 of the reference. -/
def K_call4_v1 (I : Inp) (u0 v0 x1 : ℕ) : ℝ := (max (K_v73 I u0 v0 x1) (0 : ℝ))

/-- The real value of operation call4_v3 of the reference. -/
def K_call4_v3 (I : Inp) (u0 v0 x1 : ℕ) : ℝ := ((K_v73 I u0 v0 x1) - (0 : ℝ))

/-- The real value of operation call4_v6 of the reference. -/
def K_call4_v6 (I : Inp) (u0 v0 x1 : ℕ) : ℝ := ((K_v73 I u0 v0 x1) + (0 : ℝ))

/-- The real value of operation call4_v7 of the reference. -/
def K_call4_v7 (I : Inp) (u0 v0 x1 : ℕ) : ℝ := |(K_call4_v3 I u0 v0 x1)|

/-- The real value of operation call4_v8 of the reference. -/
def K_call4_v8 (I : Inp) (u0 v0 x1 : ℕ) : ℝ := (-(K_call4_v7 I u0 v0 x1))

/-- The real value of operation call4_v9 of the reference. -/
def K_call4_v9 (I : Inp) (u0 v0 x1 : ℕ) : ℝ := (Real.exp (K_call4_v8 I u0 v0 x1))

/-- The real value of operation call4_v10 of the reference. -/
def K_call4_v10 (I : Inp) (u0 v0 x1 : ℕ) : ℝ := (Real.log (1 + (K_call4_v9 I u0 v0 x1)))

/-- The real value of operation call4_v11 of the reference. -/
def K_call4_v11 (I : Inp) (u0 v0 x1 : ℕ) : ℝ := ((K_call4_v1 I u0 v0 x1) + (K_call4_v10 I u0 v0 x1))

/-- The real value of operation call4_v21 of the reference. -/
def K_call4_v21 (I : Inp) (u0 v0 x1 : ℕ) : ℝ := ((K_v73 I u0 v0 x1) - (K_call4_v11 I u0 v0 x1))

/-- The real value of operation v74_1 of the reference. -/
def K_v74_1 (I : Inp) (u0 v0 x1 : ℕ) : ℝ := (Real.exp (K_call4_v21 I u0 v0 x1))

/-- The real value of operation v75 of the reference. -/
def K_v75 (I : Inp) (x0 : ℕ) : ℝ := (Real.exp (I.a6 x0))

/-- The real value of operation v76 of the reference. -/
def K_v76 (I : Inp) (x0 : ℕ) : ℝ := (-(K_v75 I x0))

/-- The real value of operation v80 of the reference. -/
def K_v80 (I : Inp) (u0 v0 x1 x2 : ℕ) : ℝ := ((I.a2 u0 v0 (64 * x1 + x2)) * (K_call4_v11 I u0 v0 x1))

/-- The real value of operation v84 of the reference. -/
def K_v84 (I : Inp) (x0 u1 v1 x2 : ℕ) : ℝ := (if 64 * u1 + v1 < 48 then 0 else (K_v80 I x0 (64 * u1 + v1 - 48) (((x2) / 64)) (((x2) % 64))))

/-- The real value of operation v100 of the reference. -/
def K_v100 (I : Inp) (u0 v0 x1 : ℕ) : ℝ := ((K_call4_v11 I u0 v0 x1) * (K_v76 I x1))

/-- The real value of operation v103 of the reference. -/
def K_v103 (I : Inp) (x0 u1 v1 x2 : ℕ) : ℝ := (if 64 * u1 + v1 < 48 then 0 else (K_v100 I x0 (64 * u1 + v1 - 48) x2))

/-- The real value of operation v108 of the reference. -/
def K_v108 (I : Inp) (x0 u1 v1 x2 : ℕ) : ℝ := (if 64 * u1 + v1 < 48 then 0 else (I.a2 x0 (64 * u1 + v1 - 48) (x2 + 1024)))

/-- The real value of operation v113 of the reference. -/
def K_v113 (I : Inp) (x0 u1 v1 x2 : ℕ) : ℝ := (if 64 * u1 + v1 < 48 then 0 else (I.a2 x0 (64 * u1 + v1 - 48) (x2 + 1280)))

/-- The real value of operation v116 of the reference. -/
def K_v116 (I : Inp) (u0 v0 x1 x2 : ℕ) : ℝ := (∑ k ∈ Finset.range 64, (K_v103 I u0 v0 k x1) * (K_v50 I x2 k))

/-- The real value of operation v119 of the reference. -/
def K_v119 (I : Inp) (u0 v0 x1 : ℕ) : ℝ := (∑ k ∈ Finset.range 64, (K_v103 I u0 v0 k x1))

/-- The real value of operation v126 of the reference. -/
def K_v126 (I : Inp) (u0 v0 x1 x2 x3 x4 : ℕ) : ℝ := ((K_v116 I u0 v0 (8 * x1 + x2) x3) - (K_v116 I u0 v0 (8 * x1 + x2) x4))

/-- The real value of operation v127_0 of the reference. -/
def K_v127_0 (I : Inp) (u0 v0 x1 x2 x3 x4 : ℕ) : ℝ := (if (x4 ≤ x3) then (K_v126 I u0 v0 x1 x2 x3 x4) else (0 : ℝ))

/-- The real value of operation v128 of the reference. -/
def K_v128 (I : Inp) (u0 v0 x1 x2 x3 x4 : ℕ) : ℝ := (Real.exp (K_v127_0 I u0 v0 x1 x2 x3 x4))

/-- The real value of operation v129_0 of the reference. -/
def K_v129_0 (I : Inp) (u0 v0 x1 x2 x3 x4 : ℕ) : ℝ := (if (x4 ≤ x3) then (K_v128 I u0 v0 x1 x2 x3 x4) else (0 : ℝ))

/-- The real value of operation v130 of the reference. -/
def K_v130 (I : Inp) (u0 v0 x1 x2 x3 : ℕ) : ℝ := (∑ k ∈ Finset.range 128, (K_v113 I u0 v0 x2 (128 * x1 + k)) * (K_v108 I u0 v0 x3 (128 * x1 + k)))

/-- The real value of operation v133 of the reference. -/
def K_v133 (I : Inp) (u0 v0 x1 x2 x3 x4 : ℕ) : ℝ := ((K_v130 I u0 v0 x1 x3 x4) * (K_v129_0 I u0 v0 x1 x2 x3 x4))

/-- The real value of operation v138 of the reference. -/
def K_v138 (I : Inp) (u0 v0 x1 x2 x3 : ℕ) : ℝ := ((K_v119 I u0 v0 (8 * x2 + x3)) - (K_v116 I u0 v0 (8 * x2 + x3) x1))

/-- The real value of operation v139 of the reference. -/
def K_v139 (I : Inp) (u0 v0 x1 x2 x3 : ℕ) : ℝ := (Real.exp (K_v138 I u0 v0 x1 x2 x3))

/-- The real value of operation v142 of the reference. -/
def K_v142 (I : Inp) (u0 v0 x1 x2 x3 x4 : ℕ) : ℝ := ((K_v139 I u0 v0 x1 x2 x3) * (K_v84 I u0 v0 x1 (512 * x2 + 64 * x3 + x4)))

/-- The real value of operation v146 of the reference. -/
def K_v146 (I : Inp) (u0 v0 x1 x2 x3 : ℕ) : ℝ := (Real.exp (K_v116 I u0 v0 (8 * x2 + x3) x1))

/-- The real value of operation v147 of the reference. -/
def K_v147 (I : Inp) (u0 v0 x1 x2 x3 : ℕ) : ℝ := (∑ k ∈ Finset.range 128, (K_v57 I u0 v0 k (512 * x1 + x2)) * (K_v113 I u0 v0 x3 (128 * x1 + k)))

/-- The real value of operation v156 of the reference. -/
def K_v156 (I : Inp) (u0 v0 x1 x2 : ℕ) : ℝ := (Real.exp (K_v119 I u0 v0 (8 * x1 + x2)))

/-- The real value of operation v160 of the reference. -/
def K_v160 (I : Inp) (u0 v0 x1 x2 x3 x4 : ℕ) : ℝ := ((K_v55 I u0 v0 x1 (512 * x2 + 64 * x3 + x4)) * (K_v146 I u0 v0 x1 x2 x3))

/-- The real value of operation v162 of the reference. -/
def K_v162 (I : Inp) (u0 v0 x1 x2 x3 : ℕ) : ℝ := (∑ k ∈ Finset.range 64, (K_v160 I u0 v0 k x1 (((x2) / 64)) (((x2) % 64))) * (K_v113 I u0 v0 k (128 * x1 + x3)))

/-- The real value of operation v173 of the reference. -/
def K_v173 (I : Inp) (x0 x1 x2 x3 : ℕ) : ℝ := (∑ k ∈ Finset.range 33, (K_v119 I x0 k (8 * (((x1) / 8)) + (((x1) % 8)))) * (if ((x2 < k) ∧ (k < x3)) then (1:ℝ) else 0))

/-- The real value of operation v177 of the reference. -/
def K_v177 (I : Inp) (x0 x1 x2 x3 : ℕ) : ℝ := (Real.exp (K_v173 I x0 x1 x2 x3))

/-- The real value of operation v178 of the reference. -/
def K_v178 (I : Inp) (x0 x1 x2 x3 : ℕ) : ℝ := (if (x2 < x3) then (K_v177 I x0 x1 x2 x3) else (0 : ℝ))

/-- The real value of operation v179 of the reference. -/
def K_v179 (I : Inp) (x0 x1 x2 x3 x4 : ℕ) : ℝ := (∑ k ∈ Finset.range 33, (K_v162 I x0 k (((64 * x1 + x3) / 512)) (((64 * x1 + x3) % 512)) x2) * (K_v178 I x0 x1 x4 k))

/-- The real value of operation v183 of the reference. -/
def K_v183 (I : Inp) (u0 v0 x1 x2 x3 : ℕ) : ℝ := ((K_v179 I u0 x2 x1 x3 v0) * (K_v57 I u0 v0 x1 (512 * (((64 * x2 + x3) / 512)) + (((64 * x2 + x3) % 512)))))

/-- The real value of operation v184 of the reference. -/
def K_v184 (I : Inp) (u0 v0 x1 x2 : ℕ) : ℝ := (∑ k ∈ Finset.range 128, (K_v183 I u0 v0 k x1 x2))

/-- The real value of operation v185 of the reference. -/
def K_v185 (I : Inp) (u0 v0 x1 : ℕ) : ℝ := (∑ k ∈ Finset.range 64, (K_v184 I u0 v0 x1 k))

/-- The real value of operation v188 of the reference. -/
def K_v188 (I : Inp) (u0 v0 x1 x2 : ℕ) : ℝ := ((K_v185 I u0 v0 (8 * x1 + x2)) * (K_v156 I u0 v0 x1 x2))

/-- The real value of operation v190 of the reference. -/
def K_v190 (I : Inp) (u0 v0 x1 x2 x3 x4 : ℕ) : ℝ := ((K_v147 I u0 v0 x2 (64 * x3 + x4) x1) * (K_v55 I u0 v0 x1 (512 * x2 + 64 * x3 + x4)))

/-- The real value of operation v191 of the reference. -/
def K_v191 (I : Inp) (u0 v0 x1 x2 x3 : ℕ) : ℝ := (∑ k ∈ Finset.range 64, (K_v190 I u0 v0 x1 x2 x3 k))

/-- The real value of operation v194 of the reference. -/
def K_v194 (I : Inp) (u0 v0 x1 x2 x3 x4 : ℕ) : ℝ := ((K_v55 I u0 v0 x1 (512 * x2 + 64 * x3 + x4)) * (K_v146 I u0 v0 x1 x2 x3))

/-- The real value of operation v198 of the reference. -/
def K_v198 (I : Inp) (u0 v0 x1 x2 x3 : ℕ) : ℝ := (∑ k ∈ Finset.range 512, (K_v194 I u0 v0 x2 x1 (((k) / 64)) (((k) % 64))) * (K_v57 I u0 v0 x3 (512 * x1 + k)))

/-- The real value of operation v200 of the reference. -/
def K_v200 (I : Inp) (u0 v0 x1 x2 x3 : ℕ) : ℝ := ((K_v191 I u0 v0 x1 x2 x3) * (K_v146 I u0 v0 x1 x2 x3))

/-- The real value of operation v202 of the reference. -/
def K_v202 (I : Inp) (u0 v0 x1 x2 x3 : ℕ) : ℝ := (∑ k ∈ Finset.range 512, (K_v179 I u0 (8 * x1 + ((k) / 64)) x2 (((k) % 64)) v0) * (K_v142 I u0 v0 x3 x1 (((k) / 64)) (((k) % 64))))

/-- The real value of operation v204 of the reference. -/
def K_v204 (I : Inp) (u0 v0 x1 x2 x3 : ℕ) : ℝ := (∑ k ∈ Finset.range 128, (K_v179 I u0 (8 * x1 + ((x2) / 64)) k (((x2) % 64)) v0) * (K_v108 I u0 v0 x3 (128 * x1 + k)))

/-- The real value of operation v208 of the reference. -/
def K_v208 (I : Inp) (u0 v0 x1 x2 x3 x4 : ℕ) : ℝ := ((K_v139 I u0 v0 x1 x2 x3) * (K_v204 I u0 v0 x2 (64 * x3 + x4) x1))

/-- The real value of operation v209 of the reference. -/
def K_v209 (I : Inp) (u0 v0 x1 x2 x3 x4 : ℕ) : ℝ := ((K_v204 I u0 v0 x2 (64 * x3 + x4) x1) * (K_v84 I u0 v0 x1 (512 * x2 + 64 * x3 + x4)))

/-- The real value of operation v210 of the reference. -/
def K_v210 (I : Inp) (u0 v0 x1 x2 x3 : ℕ) : ℝ := (∑ k ∈ Finset.range 64, (K_v209 I u0 v0 x1 x2 x3 k))

/-- The real value of operation v213 of the reference. -/
def K_v213 (I : Inp) (u0 v0 x1 x2 x3 : ℕ) : ℝ := ((K_v210 I u0 v0 x1 x2 x3) * (K_v139 I u0 v0 x1 x2 x3))

/-- The real value of operation v214 of the reference. -/
def K_v214 (I : Inp) (u0 v0 x1 x2 : ℕ) : ℝ := (∑ k ∈ Finset.range 64, (K_v213 I u0 v0 k x1 x2))

/-- The real value of operation v216 of the reference. -/
def K_v216 (I : Inp) (u0 v0 x1 x2 x3 : ℕ) : ℝ := (-(K_v213 I u0 v0 x1 x2 x3))

/-- The real value of operation v217 of the reference. -/
def K_v217 (I : Inp) (u0 v0 x1 x2 x3 : ℕ) : ℝ := ((K_v200 I u0 v0 x1 x2 x3) + (K_v216 I u0 v0 x1 x2 x3))

/-- The real value of operation v219 of the reference. -/
def K_v219 (I : Inp) (u0 v0 x1 x2 : ℕ) : ℝ := ((K_v188 I u0 v0 x1 x2) + (K_v214 I u0 v0 x1 x2))

/-- The real value of operation v221 of the reference. -/
def K_v221 (I : Inp) (u0 v0 x1 x2 x3 x4 : ℕ) : ℝ := (∑ k ∈ Finset.range 64, (K_v55 I u0 v0 x3 (512 * x1 + 64 * x2 + k)) * (K_v84 I u0 v0 x4 (512 * x1 + 64 * x2 + k)))

/-- The real value of operation v222 of the reference. -/
def K_v222 (I : Inp) (u0 v0 x1 x2 x3 x4 : ℕ) : ℝ := (∑ k ∈ Finset.range 64, (K_v55 I u0 v0 k (512 * x1 + 64 * x2 + x3)) * (K_v133 I u0 v0 x1 x2 k x4))

/-- The real value of operation v224 of the reference. -/
def K_v224 (I : Inp) (u0 v0 x1 x2 x3 x4 : ℕ) : ℝ := ((K_v208 I u0 v0 x1 x2 x3 x4) + (K_v222 I u0 v0 x2 x3 x4 x1))

/-- The real value of operation v226 of the reference. -/
def K_v226 (I : Inp) (u0 v0 x1 x2 x3 x4 : ℕ) : ℝ := ((K_v130 I u0 v0 x1 x3 x4) * (K_v221 I u0 v0 x1 x2 x3 x4))

/-- The real value of operation v227 of the reference. -/
def K_v227 (I : Inp) (u0 v0 x1 x2 x3 x4 : ℕ) : ℝ := ((K_v221 I u0 v0 x1 x2 x3 x4) * (K_v129_0 I u0 v0 x1 x2 x3 x4))

/-- The real value of operation v228 of the reference. -/
def K_v228 (I : Inp) (u0 v0 x1 x2 x3 : ℕ) : ℝ := (∑ k ∈ Finset.range 8, (K_v227 I u0 v0 x1 k x2 x3))

/-- The real value of operation v231 of the reference. -/
def K_v231 (I : Inp) (u0 v0 x1 x2 x3 : ℕ) : ℝ := (∑ k ∈ Finset.range 64, (K_v228 I u0 v0 x1 k x2) * (K_v113 I u0 v0 k (128 * x1 + x3)))

/-- The real value of operation v233 of the reference. -/
def K_v233 (I : Inp) (u0 v0 x1 x2 x3 : ℕ) : ℝ := ((K_v202 I u0 v0 x2 x3 x1) + (K_v231 I u0 v0 x2 x1 x3))

/-- The real value of operation v234 of the reference. -/
def K_v234 (I : Inp) (u0 v0 x1 x2 x3 : ℕ) : ℝ := (∑ k ∈ Finset.range 64, (K_v228 I u0 v0 x1 x2 k) * (K_v108 I u0 v0 k (128 * x1 + x3)))

/-- The real value of operation v236 of the reference. -/
def K_v236 (I : Inp) (u0 v0 x1 x2 x3 : ℕ) : ℝ := ((K_v198 I u0 v0 x2 x1 x3) + (K_v234 I u0 v0 x2 x1 x3))

/-- The real value of operation v237 of the reference. -/
def K_v237 (I : Inp) (u0 v0 x1 x2 x3 x4 : ℕ) : ℝ := (if (x4 ≤ x3) then (K_v226 I u0 v0 x1 x2 x3 x4) else (0 : ℝ))

/-- The real value of operation v238 of the reference. -/
def K_v238 (I : Inp) (u0 v0 x1 x2 x3 x4 : ℕ) : ℝ := ((K_v237 I u0 v0 x1 x2 x3 x4) * (K_v128 I u0 v0 x1 x2 x3 x4))

/-- The real value of operation v239 of the reference. -/
def K_v239 (I : Inp) (u0 v0 x1 x2 x3 x4 : ℕ) : ℝ := (if (x4 ≤ x3) then (K_v238 I u0 v0 x1 x2 x3 x4) else (0 : ℝ))

/-- The real value of operation v240 of the reference. -/
def K_v240 (I : Inp) (u0 v0 x1 x2 x3 : ℕ) : ℝ := (∑ k ∈ Finset.range 64, (K_v239 I u0 v0 x1 x2 x3 k))

/-- The real value of operation v242 of the reference. -/
def K_v242 (I : Inp) (u0 v0 x1 x2 x3 x4 : ℕ) : ℝ := (-(K_v239 I u0 v0 x1 x2 x3 x4))

/-- The real value of operation v243 of the reference. -/
def K_v243 (I : Inp) (u0 v0 x1 x2 x3 : ℕ) : ℝ := (∑ k ∈ Finset.range 64, (K_v242 I u0 v0 x1 x2 k x3))

/-- The real value of operation v247 of the reference. -/
def K_v247 (I : Inp) (u0 v0 x1 x2 x3 : ℕ) : ℝ := ((K_v243 I u0 v0 x1 x2 x3) + (K_v240 I u0 v0 x1 x2 x3))

/-- The real value of operation v249 of the reference. -/
def K_v249 (I : Inp) (u0 v0 x1 x2 x3 : ℕ) : ℝ := ((K_v217 I u0 v0 x1 x2 x3) + (K_v247 I u0 v0 x2 x3 x1))

/-- The real value of operation v254 of the reference. -/
def K_v254 (I : Inp) (u0 v0 x1 x2 : ℕ) : ℝ := (∑ k ∈ Finset.range 64, (K_v249 I u0 v0 k (((x1) / 8)) (((x1) % 8))) * (K_v50 I k x2))

/-- The real value of operation v256 of the reference. -/
def K_v256 (I : Inp) (u0 v0 x1 x2 : ℕ) : ℝ := ((K_v219 I u0 v0 (((x2) / 8)) (((x2) % 8))) + (K_v254 I u0 v0 x2 x1))

/-- The real value of operation v269 of the reference. -/
def K_v269 (I : Inp) (u0 v0 x1 : ℕ) : ℝ := ((K_call4_v11 I u0 v0 x1) * (K_v256 I u0 (((v0 + 48) / 64)) (((v0 + 48) % 64)) x1))

/-- The real value of operation v270 of the reference. -/
def K_v270 (I : Inp) (x0 : ℕ) : ℝ := (∑ k ∈ Finset.range 4128, (K_v269 I (((k) / 2064)) (((k) % 2064)) x0))

/-- The real value of operation v273 of the reference. -/
def K_v273 (I : Inp) (u0 v0 x1 : ℕ) : ℝ := ((K_v256 I u0 (((v0 + 48) / 64)) (((v0 + 48) % 64)) x1) * (K_v76 I x1))

/-- The real value of operation v280 of the reference. -/
def K_v280 (I : Inp) (u0 v0 x1 x2 : ℕ) : ℝ := ((I.a2 u0 v0 (64 * x1 + x2)) * (K_v55 I u0 (((v0 + 48) / 64)) (((v0 + 48) % 64)) (64 * x1 + x2)))

/-- The real value of operation v281 of the reference. -/
def K_v281 (I : Inp) (x0 x1 : ℕ) : ℝ := (∑ k ∈ Finset.range 4128, (K_v280 I (((k) / 2064)) (((k) % 2064)) x0 x1))

/-- The real value of operation v284 of the reference. -/
def K_v284 (I : Inp) (u0 v0 x1 x2 : ℕ) : ℝ := ((K_v55 I u0 (((v0 + 48) / 64)) (((v0 + 48) % 64)) (64 * x1 + x2)) * (I.a7 x1))

/-- The real value of operation v286 of the reference. -/
def K_v286 (I : Inp) (x0 : ℕ) : ℝ := (∑ k ∈ Finset.range 64, (K_v281 I x0 k))

/-- The real value of operation v294 of the reference. -/
def K_v294 (I : Inp) (u0 v0 x1 x2 : ℕ) : ℝ := ((I.a2 u0 v0 (64 * x1 + x2)) * (K_v224 I u0 (((v0 + 48) / 64)) (((v0 + 48) % 64)) ((((64 * x1 + x2)) / 512)) ((((((64 * x1 + x2)) / 64)) % 8)) ((((64 * x1 + x2)) % 64))))

/-- The real value of operation v295 of the reference. -/
def K_v295 (I : Inp) (u0 v0 x1 : ℕ) : ℝ := (∑ k ∈ Finset.range 64, (K_v294 I u0 v0 x1 k))

/-- The real value of operation v298 of the reference. -/
def K_v298 (I : Inp) (u0 v0 x1 x2 : ℕ) : ℝ := ((K_v224 I u0 (((v0 + 48) / 64)) (((v0 + 48) % 64)) ((((64 * x1 + x2)) / 512)) ((((((64 * x1 + x2)) / 64)) % 8)) ((((64 * x1 + x2)) % 64))) * (K_call4_v11 I u0 v0 x1))

/-- The real value of operation v299 of the reference. -/
def K_v299 (I : Inp) (u0 v0 x1 x2 : ℕ) : ℝ := ((K_v284 I u0 v0 x1 x2) + (K_v298 I u0 v0 x1 x2))

/-- The real value of operation v301 of the reference. -/
def K_v301 (I : Inp) (u0 v0 x1 : ℕ) : ℝ := ((K_v273 I u0 v0 x1) + (K_v295 I u0 v0 x1))

/-- The real value of operation v303 of the reference. -/
def K_v303 (I : Inp) (x0 : ℕ) : ℝ := (-(K_v270 I x0))

/-- The real value of operation v304 of the reference. -/
def K_v304 (I : Inp) (x0 : ℕ) : ℝ := ((K_v303 I x0) * (K_v75 I x0))

/-- The real value of operation v305 of the reference. -/
def K_v305 (I : Inp) (u0 v0 x1 : ℕ) : ℝ := ((K_v301 I u0 v0 x1) * (K_v74_1 I u0 v0 x1))

/-- The real value of operation v306 of the reference. -/
def K_v306 (I : Inp) (x0 : ℕ) : ℝ := (∑ k ∈ Finset.range 4128, (K_v305 I (((k) / 2064)) (((k) % 2064)) x0))

/-- The real value of operation v309 of the reference. -/
def K_v309 (I : Inp) (u0 v0 x1 : ℕ) : ℝ := (if x1 < 1024 then (K_v299 I u0 v0 (((x1) / 64)) (((x1) % 64))) else if x1 < 1280 then (K_v233 I u0 (((v0 + 48) / 64)) (((v0 + 48) % 64)) ((((x1 - 1024)) / 128)) ((((x1 - 1024)) % 128))) else (K_v236 I u0 (((v0 + 48) / 64)) (((v0 + 48) % 64)) ((((x1 - 1280)) / 128)) ((((x1 - 1280)) % 128))))

/-- The real value of operation v312 of the reference. -/
def K_v312 (I : Inp) (x0 u1 v1 x2 : ℕ) : ℝ := (if 64 * u1 + v1 < 48 then 0 else (K_v309 I x0 (64 * u1 + v1 - 48) x2))

/-- The real value of operation v315 of the reference. -/
def K_v315 (I : Inp) (u0 v0 x1 : ℕ) : ℝ := (if x1 < 16 then (K_v305 I u0 v0 x1) else (0 : ℝ))

/-- The real value of operation v316 of the reference. -/
def K_v316 (I : Inp) (u0 v0 x1 : ℕ) : ℝ := (if x1 < 1024 then (K_v48 I u0 v0 x1) else (K_v315 I u0 v0 (x1 - 1024)))

/-- The real value of operation v319 of the reference. -/
def K_v319 (I : Inp) (x0 u1 v1 x2 : ℕ) : ℝ := (if 64 * u1 + v1 < 48 then 0 else (K_v316 I x0 (64 * u1 + v1 - 48) x2))

/-- The real value of operation v324 of the reference. -/
def K_v324 (I : Inp) (x1 : ℕ) : ℝ := (if x1 < 16 then (K_v306 I x1) else (0 : ℝ))

/-- The real value of operation v327 of the reference. -/
def K_v327 (I : Inp) (x1 : ℕ) : ℝ := (if x1 < 16 then (K_v304 I x1) else (0 : ℝ))

/-- The real value of operation v330 of the reference. -/
def K_v330 (I : Inp) (x1 : ℕ) : ℝ := (if x1 < 16 then (K_v286 I x1) else (0 : ℝ))

end Cert.SsdR

end
-- ==== Proof.SsdAlgA.lean ====
module

public import proofs.«01_k».proof.Proof.SsdNf
public import proofs.«01_k».proof.Proof.SsdK

/-! What a grid point computes from the windows of one example, and what the reference has in the same chunk: the gate and
its norm, the step sizes, the decays. -/

@[expose] public section

set_option maxRecDepth 16384

noncomputable section

namespace Cert.Ssd

open Cert.SsdR
open scoped BigOperators

/-- The rows of an example behind 48 zero rows. -/
def pz (g : ℕ → ℕ → ℝ) (r j : ℕ) : ℝ := if r < 48 then 0 else g (r - 48) j

/-- The first window, of example `e` and chunk `c`. -/
def W0 (I : Inp) (c e : ℕ) : M2 := fun l j => pz (I.a0 e) (64 * c + l) j
/-- The second window. -/
def W1 (I : Inp) (c e : ℕ) : M2 := fun l j => pz (I.a1 e) (64 * c + l) j
/-- The third window. -/
def W2 (I : Inp) (c e : ℕ) : M2 := fun l j => pz (I.a2 e) (64 * c + l) j
/-- The fourth window. -/
def W3 (I : Inp) (c e : ℕ) : M2 := fun l j => pz (I.a3 e) (64 * c + l) (j + 2048)
/-- The fifth window. -/
def W4 (I : Inp) (c e : ℕ) : M2 := fun l j => pz (I.a3 e) (64 * c + l) (j + 3072)
/-- The sixth window. -/
def W5 (I : Inp) (c e : ℕ) : M2 := fun n j => I.a4 e c n j
/-- The step biases in a row. -/
def D6 (I : Inp) : M2 := fun _ h => if h < 16 then I.a5 h else 0
/-- The step biases in a column. -/
def D7 (I : Inp) : M2 := fun h _ => I.a5 h
/-- The logarithms of the decay rates in a row. -/
def D8 (I : Inp) : M2 := fun _ h => if h < 16 then I.a6 h else 0
/-- The logarithms of the decay rates in a column. -/
def D9 (I : Inp) : M2 := fun h _ => I.a6 h
/-- The skip weights, each over its head's columns. -/
def D10 (I : Inp) : M2 := fun _ j => I.a7 (j / 64)
/-- The weight of the norm. -/
def D11 (I : Inp) : M2 := fun _ j => I.a8 j

variable (I : Inp) (c e : ℕ)

theorem sil_eq (l j : ℕ) : silF (W3 I c e) l j = if 64 * c + l < 48 then 0 else K_v5_0 I e (64 * c + l - 48) j := by
  show W3 I c e l j * (1 / (1 + Real.exp (-W3 I c e l j))) = _
  unfold W3 pz
  split_ifs
  · rw [zero_mul]
  · rfl

theorem z_eq (l j : ℕ) : (W1 I c e * silF (W3 I c e)) l j = if 64 * c + l < 48 then 0 else K_v6 I e (64 * c + l - 48) j := by
  show W1 I c e l j * silF (W3 I c e) l j = _
  rw [sil_eq]
  unfold W1 pz
  split_ifs
  · rw [zero_mul]
  · rfl

theorem v13_pos (u v : ℕ) : 0 < K_v13 I u v := by
  unfold K_v13 K_v11 K_v8
  have h : 0 ≤ ∑ k ∈ Finset.range 1024, K_v7 I u v k := Finset.sum_nonneg fun k _ => mul_self_nonneg _
  have h' : (0 : ℝ) < eps := by unfold eps; norm_num
  positivity

theorem rF_eq (l k : ℕ) (h : ¬64 * c + l < 48) : rF (W1 I c e * silF (W3 I c e)) l k = K_v14 I e (64 * c + l - 48) := by
  show (Real.sqrt ((∑ j ∈ Finset.range 1024, (W1 I c e * silF (W3 I c e)) l j * (W1 I c e * silF (W3 I c e)) l j) * (1 / 1024) + epsR))⁻¹ = _
  unfold K_v14 K_v13 K_v11 K_v8
  have e1 : (∑ j ∈ Finset.range 1024, (W1 I c e * silF (W3 I c e)) l j * (W1 I c e * silF (W3 I c e)) l j) =
      ∑ j ∈ Finset.range 1024, K_v7 I e (64 * c + l - 48) j :=
    Finset.sum_congr rfl fun j _ => by rw [z_eq, if_neg h]; rfl
  rw [e1, mul_one_div]
  rfl

theorem r3_eq (u v : ℕ) : K_v14 I u v * K_v14 I u v * K_v14 I u v = K_v15 I u v := by
  have h := v13_pos I u v
  unfold K_v15 K_v14
  rw [div_eq_mul_inv, mul_assoc, ← mul_inv, Real.mul_self_sqrt h.le]

theorem dz_eq (l j : ℕ) (h : ¬64 * c + l < 48) :
    dzF (W0 I c e) (W1 I c e) (W3 I c e) (D11 I) l j = K_v45 I e (64 * c + l - 48) j := by
  show rF (W1 I c e * silF (W3 I c e)) l 0 * (W0 I c e l j * D11 I 0 j) - (W1 I c e * silF (W3 I c e)) l j *
    (rF (W1 I c e * silF (W3 I c e)) l 0 * rF (W1 I c e * silF (W3 I c e)) l 0 * rF (W1 I c e * silF (W3 I c e)) l 0) *
    ((∑ k ∈ Finset.range 1024, W0 I c e l k * D11 I 0 k * (W1 I c e * silF (W3 I c e)) l k) * (1 / 1024)) = _
  have e1 : (∑ k ∈ Finset.range 1024, W0 I c e l k * D11 I 0 k * (W1 I c e * silF (W3 I c e)) l k) = K_v33 I e (64 * c + l - 48) :=
    Finset.sum_congr rfl fun k _ => by
      rw [z_eq, if_neg h]
      unfold W0 pz K_v32 K_v30 D11
      rw [if_neg h]; ring
  rw [e1, rF_eq I c e l 0 h, r3_eq, z_eq, if_neg h]
  unfold W0 pz D11 K_v45 K_v44 K_v43 K_v42 K_v39 K_v37 K_v36 K_v30 K_v17
  rw [if_neg h]
  ring

theorem dy_eq (l j : ℕ) : dyF (W0 I c e) (W1 I c e) (W3 I c e) (D11 I) l j = K_v55 I e c l j := by
  show dzF (W0 I c e) (W1 I c e) (W3 I c e) (D11 I) l j * silF (W3 I c e) l j = _
  rw [sil_eq]
  unfold K_v55
  split_ifs with h
  · rw [mul_zero]
  · rw [dz_eq I c e l j h]; rfl

theorem dbz_eq (l j : ℕ) : dbzF (W0 I c e) (W1 I c e) (W3 I c e) (D11 I) l j =
    if 64 * c + l < 48 then 0 else K_v48 I e (64 * c + l - 48) j := by
  show dzF (W0 I c e) (W1 I c e) (W3 I c e) (D11 I) l j * W1 I c e l j *
    (1 / (1 + Real.exp (-W3 I c e l j)) * (1 + W3 I c e l j * (1 - 1 / (1 + Real.exp (-W3 I c e l j))))) = _
  split_ifs with h
  · unfold W1 pz; rw [if_pos h]; ring
  · rw [dz_eq I c e l j h]
    unfold W1 W3 pz K_v48 K_call1_v1 K_call1_v2 K_call1_v0 K_v46 K_v5_1 K_call0_v7 K_v5_2 K_call0_v3 K_call0_v1 K_call0_v0
    rw [if_neg h, if_neg h]; ring

theorem dg_eq (l j : ℕ) : dgF (W0 I c e) (W1 I c e) (W3 I c e) l j =
    if 64 * c + l < 48 then 0 else K_v26 I e (64 * c + l - 48) j := by
  show W0 I c e l j * (W1 I c e * silF (W3 I c e)) l j * rF (W1 I c e * silF (W3 I c e)) l 0 = _
  rw [z_eq]
  split_ifs with h
  · ring
  · rw [rF_eq I c e l 0 h]
    unfold W0 pz K_v26 K_v19
    rw [if_neg h]; ring

/-- A row is one of the example's own. -/
theorem ok_iff (l : ℕ) (hl : l < 64) : ((decide (0 < c) || decide (48 ≤ l)) = true) ↔ ¬64 * c + l < 48 := by
  rw [Bool.or_eq_true, decide_eq_true_eq, decide_eq_true_eq]; omega

theorem dt_eq (l h : ℕ) (hl : l < 64) (hh : h < 16) : dtF (decide (0 < c)) (W4 I c e) (D6 I) l h =
    if 64 * c + l < 48 then 0 else K_call4_v11 I e (64 * c + l - 48) h := by
  show (if decide (h < 16) = true then (if (decide (0 < c) || decide (48 ≤ l)) = true then
    max (W4 I c e l h + D6 I 0 h) 0 + Real.log (1 + Real.exp (0 - |W4 I c e l h + D6 I 0 h|)) else 0) else (0 : ℝ)) = _
  rw [if_pos (decide_eq_true hh)]
  by_cases hp : 64 * c + l < 48
  · rw [if_neg (fun H => (ok_iff c l hl).1 H hp), if_pos hp]
  · rw [if_pos ((ok_iff c l hl).2 hp), if_neg hp]
    unfold W4 D6 pz K_call4_v11 K_call4_v10 K_call4_v9 K_call4_v8 K_call4_v7 K_call4_v3 K_call4_v1 K_v73
    rw [if_neg hp, if_pos hh, zero_sub, sub_zero]

theorem dtT_eq (l h : ℕ) (hl : l < 64) : dtT (decide (0 < c)) (W4 I c e) (D7 I) h l =
    if 64 * c + l < 48 then 0 else K_call4_v11 I e (64 * c + l - 48) h := by
  show (if (decide (0 < c) || decide (48 ≤ l)) = true then
    max (W4 I c e l h + D7 I h 0) 0 + Real.log (1 + Real.exp (0 - |W4 I c e l h + D7 I h 0|)) else (0 : ℝ)) = _
  by_cases hp : 64 * c + l < 48
  · rw [if_neg (fun H => (ok_iff c l hl).1 H hp), if_pos hp]
  · rw [if_pos ((ok_iff c l hl).2 hp), if_neg hp]
    unfold W4 D7 pz K_call4_v11 K_call4_v10 K_call4_v9 K_call4_v8 K_call4_v7 K_call4_v3 K_call4_v1 K_v73
    rw [if_neg hp, zero_sub, sub_zero]

theorem aF_eq (h : ℕ) (hh : h < 16) : aF (D8 I) 0 h = K_v76 I h := by
  show (if decide (h < 16) = true then 0 - Real.exp (D8 I 0 h) else (0 : ℝ)) = _
  unfold D8 K_v76 K_v75
  rw [if_pos (decide_eq_true hh), if_pos hh, zero_sub]

/-- The running sums of the log decays. -/
theorem A_eq (l h : ℕ) (hh : h < 16) : bA (decide (0 < c)) (W4 I c e) (D6 I) (D8 I) l h = K_v116 I e c h l := by
  show (∑ k ∈ Finset.range 64, (if decide (k ≤ l) = true then (1 : ℝ) else 0) * (dtF (decide (0 < c)) (W4 I c e) (D6 I) k h * aF (D8 I) 0 h)) = _
  unfold K_v116
  refine Finset.sum_congr rfl fun k hk => ?_
  rw [dt_eq I c e k h (Finset.mem_range.1 hk) hh, aF_eq I h hh, mul_comm]
  unfold K_v103 K_v100 K_v50
  congr 1
  · split_ifs
    · rw [zero_mul]
    · rfl
  · simp only [decide_eq_true_eq]

/-- The same, heads as rows. -/
theorem T_eq (l h : ℕ) : bT (decide (0 < c)) (W4 I c e) (D7 I) (D9 I) h l = K_v116 I e c h l := by
  show (∑ k ∈ Finset.range 64, dtT (decide (0 < c)) (W4 I c e) (D7 I) h k * (0 - Real.exp (D9 I h 0)) *
    (if decide (k ≤ l) = true then (1 : ℝ) else 0)) = _
  unfold K_v116
  refine Finset.sum_congr rfl fun k hk => ?_
  rw [dtT_eq I c e k h (Finset.mem_range.1 hk)]
  unfold K_v103 K_v100 K_v50 D9 K_v76 K_v75
  congr 1
  · split_ifs
    · rw [zero_mul]
    · rw [zero_sub]
  · simp only [decide_eq_true_eq]

theorem sp_nonneg (u v h : ℕ) : 0 ≤ K_call4_v11 I u v h := by
  unfold K_call4_v11 K_call4_v10 K_call4_v1
  exact add_nonneg (le_max_right _ _) (Real.log_nonneg (by have := Real.exp_pos (K_call4_v8 I u v h); unfold K_call4_v9; linarith))

theorem v103_nonpos (k h : ℕ) : K_v103 I e c k h ≤ 0 := by
  unfold K_v103
  split_ifs
  · exact le_refl _
  · exact mul_nonpos_of_nonneg_of_nonpos (sp_nonneg I _ _ _) (by unfold K_v76 K_v75; exact neg_nonpos.2 (Real.exp_pos _).le)

/-- The log decays sum to less and less. -/
theorem v116_anti (h l s : ℕ) (hs : s ≤ l) : K_v116 I e c h l - K_v116 I e c h s ≤ 0 := by
  unfold K_v116
  rw [sub_nonpos]
  refine Finset.sum_le_sum fun k _ => mul_le_mul_of_nonpos_left ?_ (v103_nonpos I c e k h)
  unfold K_v50
  split_ifs <;> first | omega | norm_num

theorem A63_eq (h : ℕ) : K_v116 I e c h 63 = K_v119 I e c h := by
  unfold K_v116 K_v119
  refine Finset.sum_congr rfl fun k hk => ?_
  have := Finset.mem_range.1 hk
  unfold K_v50
  rw [if_pos (by omega), mul_one]

/-- The decay between two rows of a chunk. -/
theorem dec_eq (A T : M2) (hA : ∀ l h, h < 16 → A l h = K_v116 I e c h l) (hT : ∀ l h, T h l = K_v116 I e c h l)
    (g i l s : ℕ) (hg : g < 2) (hi : i < 8) : dec (8 * g + i) A T l s = K_v129_0 I e c g i l s := by
  show (if decide (s ≤ l) = true then Real.exp (min (A (0 + l) (8 * g + i + 0) - T (8 * g + i + 0) (0 + s)) 0) else (0 : ℝ)) = _
  unfold K_v129_0 K_v128 K_v127_0 K_v126
  rw [Nat.zero_add, Nat.zero_add, Nat.add_zero, hA _ _ (by omega), hT]
  simp only [decide_eq_true_eq]
  split_ifs with h
  · rw [min_eq_left (v116_anti I c e _ _ _ h)]
  · rfl

/-- The same with the rows exchanged. -/
theorem deT_eq (A T : M2) (hA : ∀ l h, h < 16 → A l h = K_v116 I e c h l) (hT : ∀ l h, T h l = K_v116 I e c h l)
    (g i l s : ℕ) (hg : g < 2) (hi : i < 8) : deT (8 * g + i) A T l s = K_v129_0 I e c g i s l := by
  show (if decide (l ≤ s) = true then Real.exp (min (T (8 * g + i + 0) (0 + s) - A (0 + l) (8 * g + i + 0)) 0) else (0 : ℝ)) = _
  unfold K_v129_0 K_v128 K_v127_0 K_v126
  rw [Nat.zero_add, Nat.zero_add, Nat.add_zero, hA _ _ (by omega), hT]
  simp only [decide_eq_true_eq]
  split_ifs with h
  · rw [min_eq_left (v116_anti I c e _ _ _ h)]
  · rfl

theorem xd_eq (l j : ℕ) (hl : l < 64) (hj : j < 1024) :
    (W2 I c e * lx (dtF (decide (0 < c)) (W4 I c e) (D6 I))) l j = K_v84 I e c l j := by
  show W2 I c e l j * dtF (decide (0 < c)) (W4 I c e) (D6 I) l (j / 64) = _
  rw [dt_eq I c e l (j / 64) hl (by omega)]
  unfold W2 pz K_v84 K_v80
  split_ifs
  · rw [zero_mul]
  · rw [show 64 * (j / 64) + j % 64 = j by omega]

theorem B_eq (l n : ℕ) : W2 I c e l (1024 + n) = K_v108 I e c l n := by
  unfold W2 pz K_v108
  rw [Nat.add_comm n]

theorem C_eq (l n : ℕ) : W2 I c e l (1280 + n) = K_v113 I e c l n := by
  unfold W2 pz K_v113
  rw [Nat.add_comm n]

end Cert.Ssd

end
-- ==== Proof.SsdAlgB.lean ====
module

public import proofs.«01_k».proof.Proof.SsdAlgA

/-! The scan's gradients of one chunk, head by head. -/

@[expose] public section

set_option maxRecDepth 16384

noncomputable section

namespace Cert.Ssd

open Cert.SsdR
open scoped BigOperators

/-- The columns from `q` on. -/
def shz (q : ℕ) (f : M2) : M2 := match q with
  | 0 => f
  | n + 1 => sh 0 (n + 1) f

theorem shz_apply (q : ℕ) (f : M2) (r c : ℕ) : shz q f r c = f r (q + c) := by
  cases q with
  | zero => rw [Nat.zero_add]; rfl
  | succ n => show f (0 + r) (n + 1 + c) = _; rw [Nat.zero_add]

/-- Eight blocks of 64 columns beside each other. -/
def cat8H (F : ℕ → M2) : M2 :=
  catC 64 (F 0) (catC 64 (F 1) (catC 64 (F 2) (catC 64 (F 3) (catC 64 (F 4) (catC 64 (F 5) (catC 64 (F 6) (F 7)))))))

theorem cat8H_apply (F : ℕ → M2) (l i p : ℕ) (hi : i < 8) (hp : p < 64) : cat8H F l (64 * i + p) = F i l p := by
  unfold cat8H catC
  interval_cases i
  all_goals
    repeat' (first | rw [if_pos (by omega)] | rw [if_neg (by omega)])
    congr 1
    try omega

/-- The sum of eight matrices. -/
def sum8 (F : ℕ → M2) : M2 := F 0 + F 1 + F 2 + F 3 + F 4 + F 5 + F 6 + F 7

theorem sum8_apply (F : ℕ → M2) (l s : ℕ) : sum8 F l s = ∑ i ∈ Finset.range 8, F i l s := by
  simp only [Finset.sum_range_succ, Finset.sum_range_zero, zero_add]; rfl

/-- Sixteen columns, each in its own place. -/
def diag16 (F : ℕ → M2) : M2 :=
  sel (row0 (eqB 0)) (col0 (F 0)) 0 + sel (row0 (eqB 1)) (col0 (F 1)) 0 + sel (row0 (eqB 2)) (col0 (F 2)) 0 +
  sel (row0 (eqB 3)) (col0 (F 3)) 0 + sel (row0 (eqB 4)) (col0 (F 4)) 0 + sel (row0 (eqB 5)) (col0 (F 5)) 0 +
  sel (row0 (eqB 6)) (col0 (F 6)) 0 + sel (row0 (eqB 7)) (col0 (F 7)) 0 + sel (row0 (eqB 8)) (col0 (F 8)) 0 +
  sel (row0 (eqB 9)) (col0 (F 9)) 0 + sel (row0 (eqB 10)) (col0 (F 10)) 0 + sel (row0 (eqB 11)) (col0 (F 11)) 0 +
  sel (row0 (eqB 12)) (col0 (F 12)) 0 + sel (row0 (eqB 13)) (col0 (F 13)) 0 + sel (row0 (eqB 14)) (col0 (F 14)) 0 +
  sel (row0 (eqB 15)) (col0 (F 15)) 0

theorem diag16_apply (F : ℕ → M2) (l h : ℕ) (hh : h < 16) : diag16 F l h = F h l 0 := by
  unfold diag16
  interval_cases h <;> simp [sel, row0, col0, eqB]

/-- The products of the rows' gradients with the rows that enter, of one head. -/
def dmF (f g : M2) (h : ℕ) : M2 := mmT 64 (shz (64 * h) f) (shz (64 * h) g)
/-- The products of the read vectors with the written ones, of one group. -/
def cbF (x : M2) (g : ℕ) : M2 := mmT 128 (shz (128 * g) (sh 0 1280 x)) (shz (128 * g) (sh 0 1024 x))
/-- The same transposed. -/
def cbtF (x : M2) (g : ℕ) : M2 := mmT 128 (shz (128 * g) (sh 0 1024 x)) (shz (128 * g) (sh 0 1280 x))
/-- A head's gradient of the log decays, within the chunk. -/
def daH (dy x xd A T : M2) (h : ℕ) : M2 :=
  sumC 64 (dmF dy xd h * (cbF x (h / 8) * dec h A T) - dmF xd dy h * (cbtF x (h / 8) * deT h A T))
/-- What the states give to the outputs. -/
def yoF (x st : M2) : M2 := catC 512 (mmN 128 (sh 0 1280 x) st) (mmN 128 (sh 0 128 (sh 0 1280 x)) (sh 0 512 st))
/-- What the state gradients give to the rows. -/
def g1F (x DA DB : M2) : M2 := catC 512 (mmN 128 (sh 0 1024 x) DA) (mmN 128 (sh 0 128 (sh 0 1024 x)) DB)

theorem daF_eq (dy xd x st A T DA DB : M2) : daF dy xd x st A T DA DB =
    diag16 (daH dy x xd A T) + hs (dy * lx (rex A) * yoF x st) - hs (g1F x DA DB * xd) * rex (row0 (sh 63 0 A) - A) +
      sel (col0 (eqR 63)) (row0 (sumR 64 (hs (g1F x DA DB * xd) * rex (row0 (sh 63 0 A) - A)) +
        hs (row0 (sumR 128 (catC 512 DA DB * st))) * sh 63 0 (rex A))) 0 := by exact (rfl)

/-- A head's rows' gradient, within the chunk. -/
def dxH (dy x A T : M2) (g h : ℕ) : M2 := mmN 64 (cbtF x g * deT h A T) (shz (64 * h) dy)

theorem dxF_eq (dy x A T DA DB : M2) : dxF dy x A T DA DB =
    catC 512 (cat8H (fun i => dxH dy x A T 0 (8 * 0 + i)) + mmN 128 (shz (128 * 0) (sh 0 1024 x)) DA * lx (rex (row0 (sh 63 0 A) - A)))
      (cat8H (fun i => dxH dy x A T 1 (8 * 1 + i)) +
        mmN 128 (shz (128 * 1) (sh 0 1024 x)) DB * sh 0 512 (lx (rex (row0 (sh 63 0 A) - A)))) := by exact (rfl)

/-- A group's gradient of the products of read and written vectors, transposed. -/
def dcbtF (dy xd A T : M2) (g : ℕ) : M2 := sum8 fun i => dmF xd dy (8 * g + i) * deT (8 * g + i) A T
/-- The same, not transposed. -/
def dcbF (dy xd A T : M2) (g : ℕ) : M2 := sum8 fun i => dmF dy xd (8 * g + i) * dec (8 * g + i) A T

theorem dxbcG_eq (p : Bool) (dy xd x st A T dt DA DB X10 : M2) : dxbcG p dy xd x st A T dt DA DB X10 =
    sel (col0 (okR p)) (catC 1024 (dy * row0 X10 + dxF dy x A T DA DB * lx dt)
      (catC 128 (mmT 512 (xd * lx (rex (row0 (sh 63 0 A) - A))) DA + mmN 64 (dcbtF dy xd A T 0) (shz (128 * 0) (sh 0 1280 x)))
      (catC 128 (mmT 512 (sh 0 512 (xd * lx (rex (row0 (sh 63 0 A) - A)))) DB + mmN 64 (dcbtF dy xd A T 1) (shz (128 * 1) (sh 0 1280 x)))
      (catC 128 (mmT 512 (dy * lx (rex A)) st + mmN 64 (dcbF dy xd A T 0) (shz (128 * 0) (sh 0 1024 x)))
        (mmT 512 (sh 0 512 (dy * lx (rex A))) (sh 0 512 st) + mmN 64 (dcbF dy xd A T 1) (shz (128 * 1) (sh 0 1024 x))))))) 0 := by exact (rfl)

/-- The matrices of a grid point are those of chunk `c` of example `e`. -/
structure Rel (I : Inp) (c e : ℕ) (dy xd x st A T DA DB : M2) : Prop where
  hdy : ∀ l j, dy l j = K_v55 I e c l j
  hxd : ∀ l j, l < 64 → j < 1024 → xd l j = K_v84 I e c l j
  hB : ∀ l n, x l (1024 + n) = K_v108 I e c l n
  hC : ∀ l n, x l (1280 + n) = K_v113 I e c l n
  hst : ∀ n j, st n j = K_v57 I e c n j
  hA : ∀ l h, h < 16 → A l h = K_v116 I e c h l
  hT : ∀ l h, T h l = K_v116 I e c h l
  hDA : ∀ n q, q < 512 → DA n q = K_v179 I e (q / 64) n (q % 64) c
  hDB : ∀ n q, q < 512 → DB n q = K_v179 I e (8 + q / 64) n (q % 64) c

variable {I : Inp} {c e : ℕ} {dy xd x st A T DA DB : M2} (R : Rel I c e dy xd x st A T DA DB)

include R

theorem cb_eq (g l s : ℕ) : cbF x g l s = K_v130 I e c g l s := by
  show (∑ k ∈ Finset.range 128, shz (128 * g) (sh 0 1280 x) l k * shz (128 * g) (sh 0 1024 x) s k) = _
  unfold K_v130
  refine Finset.sum_congr rfl fun k _ => ?_
  rw [shz_apply, shz_apply, ← R.hC, ← R.hB]
  show x (0 + l) _ * x (0 + s) _ = _
  rw [Nat.zero_add, Nat.zero_add]

theorem cbt_eq (g l s : ℕ) : cbtF x g l s = K_v130 I e c g s l := by
  rw [← cb_eq R g s l]
  unfold cbtF cbF mmT
  exact Finset.sum_congr rfl fun k _ => mul_comm _ _

theorem dm_eq (g i l s : ℕ) (hg : g < 2) (hi : i < 8) (hs : s < 64) : dmF dy xd (8 * g + i) l s = K_v221 I e c g i l s := by
  show (∑ k ∈ Finset.range 64, shz (64 * (8 * g + i)) dy l k * shz (64 * (8 * g + i)) xd s k) = _
  unfold K_v221
  refine Finset.sum_congr rfl fun k hk => ?_
  have := Finset.mem_range.1 hk
  rw [shz_apply, shz_apply, R.hdy, R.hxd _ _ hs (by omega), show 64 * (8 * g + i) + k = 512 * g + 64 * i + k by omega]

theorem dmt_eq (g i l s : ℕ) (hg : g < 2) (hi : i < 8) (hl : l < 64) : dmF xd dy (8 * g + i) l s = K_v221 I e c g i s l := by
  rw [← dm_eq R g i s l hg hi hl]
  unfold dmF mmT
  exact Finset.sum_congr rfl fun k _ => mul_comm _ _

theorem decR (g i l s : ℕ) (hg : g < 2) (hi : i < 8) : dec (8 * g + i) A T l s = K_v129_0 I e c g i l s :=
  dec_eq I c e A T R.hA R.hT g i l s hg hi

theorem deTR (g i l s : ℕ) (hg : g < 2) (hi : i < 8) : deT (8 * g + i) A T l s = K_v129_0 I e c g i s l :=
  deT_eq I c e A T R.hA R.hT g i l s hg hi

omit R in
theorem v239_eq (u v g i l s : ℕ) : K_v239 I u v g i l s = K_v221 I u v g i l s * (K_v130 I u v g l s * K_v129_0 I u v g i l s) := by
  unfold K_v239 K_v238 K_v237 K_v226 K_v129_0
  split_ifs <;> ring

theorem daH_eq (g i l : ℕ) (hg : g < 2) (hi : i < 8) (hl : l < 64) : daH dy x xd A T (8 * g + i) l 0 = K_v247 I e c g i l := by
  show (∑ s ∈ Finset.range 64, (dmF dy xd (8 * g + i) l s * (cbF x ((8 * g + i) / 8) l s * dec (8 * g + i) A T l s) -
    dmF xd dy (8 * g + i) l s * (cbtF x ((8 * g + i) / 8) l s * deT (8 * g + i) A T l s))) = _
  unfold K_v247 K_v243 K_v240 K_v242
  rw [← Finset.sum_add_distrib]
  refine Finset.sum_congr rfl fun s hs => ?_
  have hs' := Finset.mem_range.1 hs
  rw [show (8 * g + i) / 8 = g by omega, dm_eq R g i l s hg hi hs', dmt_eq R g i l s hg hi hl, cb_eq R, cbt_eq R, decR R g i l s hg hi,
    deTR R g i l s hg hi, v239_eq, v239_eq]
  ring

theorem D_eq (g i k p : ℕ) (hg : g < 2) (hi : i < 8) (hp : p < 64) :
    catC 512 DA DB k (512 * g + 64 * i + p) = K_v179 I e (8 * g + i) k p c := by
  unfold catC
  interval_cases g
  · rw [if_pos (by omega), R.hDA _ _ (by omega)]; congr 1 <;> omega
  · rw [if_neg (by omega), R.hDB _ _ (by omega)]; congr 1 <;> omega

theorem g1_eq (g i l p : ℕ) (hg : g < 2) (hi : i < 8) (hp : p < 64) :
    g1F x DA DB l (512 * g + 64 * i + p) = K_v204 I e c g (64 * i + p) l := by
  unfold g1F catC K_v204
  interval_cases g
  · rw [if_pos (by omega)]
    refine Finset.sum_congr rfl fun k _ => ?_
    show x (0 + l) (1024 + k) * DA k _ = _
    rw [Nat.zero_add, R.hB, R.hDA _ _ (by omega), mul_comm]
    congr 2 <;> omega
  · rw [if_neg (by omega)]
    refine Finset.sum_congr rfl fun k _ => ?_
    show x (0 + (0 + l)) (1024 + (128 + k)) * DB k _ = _
    rw [Nat.zero_add, Nat.zero_add, R.hB, R.hDB _ _ (by omega), mul_comm]
    congr 2 <;> omega

theorem yo_eq (g i l p : ℕ) (hg : g < 2) (hi : i < 8) (hp : p < 64) :
    yoF x st l (512 * g + 64 * i + p) = K_v147 I e c g (64 * i + p) l := by
  unfold yoF catC K_v147
  interval_cases g
  · rw [if_pos (by omega)]
    refine Finset.sum_congr rfl fun k _ => ?_
    show x (0 + l) (1280 + k) * st k _ = _
    rw [Nat.zero_add, R.hC, R.hst, mul_comm]
    congr 2 <;> omega
  · rw [if_neg (by omega)]
    refine Finset.sum_congr rfl fun k _ => ?_
    show x (0 + (0 + l)) (1280 + (128 + k)) * st (0 + k) (512 + _) = _
    rw [Nat.zero_add, Nat.zero_add, Nat.zero_add, R.hC, R.hst, mul_comm]
    congr 2 <;> omega

theorem expA (g i l : ℕ) (hg : g < 2) (hi : i < 8) : Real.exp (A l (8 * g + i)) = K_v146 I e c l g i := by
  rw [R.hA _ _ (by omega)]; rfl

theorem expT (g i : ℕ) (hg : g < 2) (hi : i < 8) : Real.exp (A 63 (8 * g + i)) = K_v156 I e c g i := by
  rw [R.hA _ _ (by omega), A63_eq]; rfl

theorem expD (g i l : ℕ) (hg : g < 2) (hi : i < 8) : Real.exp (A 63 (8 * g + i) - A l (8 * g + i)) = K_v139 I e c l g i := by
  rw [R.hA _ _ (by omega), R.hA _ _ (by omega), A63_eq]; rfl

theorem off_eq (g i l : ℕ) (hg : g < 2) (hi : i < 8) : hs (dy * lx (rex A) * yoF x st) l (8 * g + i) = K_v200 I e c l g i := by
  unfold hs
  rw [if_pos (by omega)]
  unfold K_v200 K_v191
  rw [Finset.sum_mul]
  refine Finset.sum_congr rfl fun p hp => ?_
  have hp' := Finset.mem_range.1 hp
  show dy l _ * Real.exp (A l ((64 * (8 * g + i) + p) / 64)) * yoF x st l _ = _
  rw [show (64 * (8 * g + i) + p) / 64 = 8 * g + i by omega, expA R g i l hg hi,
    show 64 * (8 * g + i) + p = 512 * g + 64 * i + p by omega, yo_eq R g i l p hg hi hp', R.hdy]
  unfold K_v190
  ring

theorem tds_eq (g i l : ℕ) (hg : g < 2) (hi : i < 8) (hl : l < 64) :
    hs (g1F x DA DB * xd) l (8 * g + i) * Real.exp (A 63 (8 * g + i) - A l (8 * g + i)) = K_v213 I e c l g i := by
  rw [expD R g i l hg hi]
  unfold hs
  rw [if_pos (by omega)]
  unfold K_v213 K_v210
  congr 1
  refine Finset.sum_congr rfl fun p hp => ?_
  have hp' := Finset.mem_range.1 hp
  show g1F x DA DB l _ * xd l _ = _
  rw [show 64 * (8 * g + i) + p = 512 * g + 64 * i + p by omega, g1_eq R g i l p hg hi hp', R.hxd _ _ hl (by omega)]
  rfl

theorem dcd_eq (g i : ℕ) (hg : g < 2) (hi : i < 8) (r : ℕ) :
    hs (row0 (sumR 128 (catC 512 DA DB * st))) r (8 * g + i) = K_v185 I e c (8 * g + i) := by
  unfold hs
  rw [if_pos (by omega)]
  unfold K_v185 K_v184
  refine Finset.sum_congr rfl fun p hp => ?_
  have hp' := Finset.mem_range.1 hp
  show (∑ k ∈ Finset.range 128, catC 512 DA DB k _ * st k _) = _
  refine Finset.sum_congr rfl fun k _ => ?_
  rw [show 64 * (8 * g + i) + p = 512 * g + 64 * i + p by omega, D_eq R g i k p hg hi hp', R.hst]
  unfold K_v183
  congr 2
  omega

theorem da_eq (g i l : ℕ) (hg : g < 2) (hi : i < 8) (hl : l < 64) : daF dy xd x st A T DA DB l (8 * g + i) =
    K_v249 I e c l g i + if l = 63 then K_v219 I e c g i else 0 := by
  rw [daF_eq]
  show diag16 (daH dy x xd A T) l (8 * g + i) + hs (dy * lx (rex A) * yoF x st) l (8 * g + i) -
    hs (g1F x DA DB * xd) l (8 * g + i) * Real.exp (A (63 + 0) (0 + (8 * g + i)) - A l (8 * g + i)) +
    (if decide (l = 63) = true then (∑ k ∈ Finset.range 64, hs (g1F x DA DB * xd) k (8 * g + i) *
      Real.exp (A (63 + 0) (0 + (8 * g + i)) - A k (8 * g + i))) +
      hs (row0 (sumR 128 (catC 512 DA DB * st))) 0 (8 * g + i) * Real.exp (A (63 + 0) (0 + (8 * g + i))) else 0) = _
  rw [Nat.add_zero 63, Nat.zero_add, diag16_apply _ _ _ (by omega), daH_eq R g i l hg hi hl, off_eq R g i l hg hi, tds_eq R g i l hg hi hl,
    dcd_eq R g i hg hi, expT R g i hg hi,
    Finset.sum_congr rfl fun k hk => tds_eq R g i k hg hi (Finset.mem_range.1 hk)]
  simp only [decide_eq_true_eq]
  unfold K_v249 K_v217 K_v216 K_v219 K_v214 K_v188
  split_ifs <;> ring

/-- The gradient of the log decays. -/
theorem dda_eq (g i l : ℕ) (hg : g < 2) (hi : i < 8) (hl : l < 64) :
    mmN 64 (ind leB) (daF dy xd x st A T DA DB) l (8 * g + i) = K_v256 I e c l (8 * g + i) := by
  show (∑ k ∈ Finset.range 64, (if decide (l ≤ k) = true then (1 : ℝ) else 0) * daF dy xd x st A T DA DB k (8 * g + i)) = _
  have e1 : ∀ k ∈ Finset.range 64, (if decide (l ≤ k) = true then (1 : ℝ) else 0) * daF dy xd x st A T DA DB k (8 * g + i) =
      K_v249 I e c k g i * K_v50 I k l + if k = 63 then K_v219 I e c g i else 0 := fun k hk => by
    have hk' := Finset.mem_range.1 hk
    rw [da_eq R g i k hg hi hk']
    unfold K_v50
    simp only [decide_eq_true_eq]
    split_ifs <;> first | omega | ring
  rw [Finset.sum_congr rfl e1, Finset.sum_add_distrib, Finset.sum_ite_eq' , if_pos (by decide)]
  unfold K_v256 K_v254
  rw [show (8 * g + i) / 8 = g by omega, show (8 * g + i) % 8 = i by omega, add_comm]

/-- The gradient of the rows that enter the scan. -/
theorem dx_eq (g i l p : ℕ) (hg : g < 2) (hi : i < 8) (hl : l < 64) (hp : p < 64) :
    dxF dy x A T DA DB l (512 * g + 64 * i + p) = K_v224 I e c l g i p := by
  have h1 : dxH dy x A T g (8 * g + i) l p = K_v222 I e c g i p l := by
    show (∑ k ∈ Finset.range 64, cbtF x g l k * deT (8 * g + i) A T l k * shz (64 * (8 * g + i)) dy k p) = _
    unfold K_v222
    refine Finset.sum_congr rfl fun k hk => ?_
    rw [cbt_eq R, deTR R g i l k hg hi, shz_apply, R.hdy, show 64 * (8 * g + i) + p = 512 * g + 64 * i + p by omega, mul_comm]
    rfl
  have h2 := g1_eq R g i l p hg hi hp
  have h3 := expD R g i l hg hi
  rw [dxF_eq]
  unfold K_v224 K_v208
  rw [← h1, ← h2, ← h3]
  interval_cases g
  · show (if 512 * 0 + 64 * i + p < 512 then cat8H (fun i => dxH dy x A T 0 (8 * 0 + i)) l _ + mmN 128 (sh 0 1024 x) DA l _ *
      Real.exp (A (63 + 0) (0 + (512 * 0 + 64 * i + p) / 64) - A l ((512 * 0 + 64 * i + p) / 64)) else _) =
      _ * (if 512 * 0 + 64 * i + p < 512 then _ else _) + _
    rw [if_pos (by omega), if_pos (by omega), show 512 * 0 + 64 * i + p = 64 * i + p by omega, cat8H_apply _ _ _ _ hi hp,
      show (64 * i + p) / 64 = 8 * 0 + i by omega, Nat.zero_add, Nat.zero_add, Nat.add_zero 63]
    ring
  · show (if 512 * 1 + 64 * i + p < 512 then _ else cat8H (fun i => dxH dy x A T 1 (8 * 1 + i)) l (512 * 1 + 64 * i + p - 512) +
      mmN 128 (sh 0 128 (sh 0 1024 x)) DB l (512 * 1 + 64 * i + p - 512) *
      Real.exp (A (63 + 0) (0 + (512 + (512 * 1 + 64 * i + p - 512)) / 64) - A (0 + l) ((512 + (512 * 1 + 64 * i + p - 512)) / 64))) =
      _ * (if 512 * 1 + 64 * i + p < 512 then _ else _) + _
    rw [if_neg (by omega), if_neg (by omega), show 512 * 1 + 64 * i + p - 512 = 64 * i + p by omega, cat8H_apply _ _ _ _ hi hp,
      show (512 + (64 * i + p)) / 64 = 8 * 1 + i by omega, Nat.zero_add, Nat.zero_add, Nat.add_zero 63]
    ring

theorem dcbt_eq (g l s : ℕ) (hg : g < 2) (hl : l < 64) : dcbtF dy xd A T g l s = K_v228 I e c g s l := by
  unfold dcbtF K_v228
  rw [sum8_apply]
  refine Finset.sum_congr rfl fun i hi => ?_
  have hi' := Finset.mem_range.1 hi
  show dmF xd dy (8 * g + i) l s * deT (8 * g + i) A T l s = _
  rw [dmt_eq R g i l s hg hi' hl, deTR R g i l s hg hi']
  rfl

theorem dcb_eq (g l s : ℕ) (hg : g < 2) (hs : s < 64) : dcbF dy xd A T g l s = K_v228 I e c g l s := by
  unfold dcbF K_v228
  rw [sum8_apply]
  refine Finset.sum_congr rfl fun i hi => ?_
  have hi' := Finset.mem_range.1 hi
  show dmF dy xd (8 * g + i) l s * dec (8 * g + i) A T l s = _
  rw [dm_eq R g i l s hg hi' hs, decR R g i l s hg hi']
  rfl

theorem dbC_eq (g l n : ℕ) (hg : g < 2) (hl : l < 64) :
    mmN 64 (dcbtF dy xd A T g) (shz (128 * g) (sh 0 1280 x)) l n = K_v231 I e c g l n := by
  show (∑ k ∈ Finset.range 64, dcbtF dy xd A T g l k * shz (128 * g) (sh 0 1280 x) k n) = _
  unfold K_v231
  refine Finset.sum_congr rfl fun k _ => ?_
  rw [dcbt_eq R g l k hg hl, shz_apply]
  show _ * x (0 + k) _ = _
  rw [Nat.zero_add, R.hC]

theorem dcB_eq (g l n : ℕ) (hg : g < 2) :
    mmN 64 (dcbF dy xd A T g) (shz (128 * g) (sh 0 1024 x)) l n = K_v234 I e c g l n := by
  show (∑ k ∈ Finset.range 64, dcbF dy xd A T g l k * shz (128 * g) (sh 0 1024 x) k n) = _
  unfold K_v234
  refine Finset.sum_congr rfl fun k hk => ?_
  rw [dcb_eq R g l k hg (Finset.mem_range.1 hk), shz_apply]
  show _ * x (0 + k) _ = _
  rw [Nat.zero_add, R.hB]

theorem dbs0_eq (l n : ℕ) (hl : l < 64) :
    (mmT 512 (xd * lx (rex (row0 (sh 63 0 A) - A))) DA + mmN 64 (dcbtF dy xd A T 0) (shz (128 * 0) (sh 0 1280 x))) l n = K_v233 I e c l 0 n := by
  show (∑ k ∈ Finset.range 512, xd l k * Real.exp (A (63 + 0) (0 + k / 64) - A l (k / 64)) * DA n k) + mmN 64 _ _ l n = _
  rw [dbC_eq R 0 l n (by omega) hl]
  unfold K_v233 K_v202
  congr 1
  refine Finset.sum_congr rfl fun k hk => ?_
  have hk' := Finset.mem_range.1 hk
  rw [Nat.zero_add, Nat.add_zero, R.hDA _ _ hk', R.hxd _ _ hl (by omega), R.hA _ _ (by omega), R.hA _ _ (by omega), A63_eq]
  unfold K_v142 K_v139 K_v138
  rw [show 8 * 0 + k / 64 = k / 64 by omega, show 512 * 0 + 64 * (k / 64) + k % 64 = k by omega]
  ring

theorem dbs1_eq (l n : ℕ) (hl : l < 64) :
    (mmT 512 (sh 0 512 (xd * lx (rex (row0 (sh 63 0 A) - A)))) DB + mmN 64 (dcbtF dy xd A T 1) (shz (128 * 1) (sh 0 1280 x))) l n =
      K_v233 I e c l 1 n := by
  show (∑ k ∈ Finset.range 512, xd (0 + l) (512 + k) * Real.exp (A (63 + 0) (0 + (512 + k) / 64) - A (0 + l) ((512 + k) / 64)) * DB n k) +
    mmN 64 _ _ l n = _
  rw [dbC_eq R 1 l n (by omega) hl]
  unfold K_v233 K_v202
  congr 1
  refine Finset.sum_congr rfl fun k hk => ?_
  have hk' := Finset.mem_range.1 hk
  rw [Nat.zero_add, Nat.zero_add, Nat.add_zero, R.hDB _ _ hk', R.hxd _ _ hl (by omega), R.hA _ _ (by omega), R.hA _ _ (by omega), A63_eq]
  unfold K_v142 K_v139 K_v138
  rw [show (512 + k) / 64 = 8 + k / 64 by omega, show 8 * 1 + k / 64 = 8 + k / 64 by omega,
    show 512 * 1 + 64 * (k / 64) + k % 64 = 512 + k by omega]
  ring

theorem dcs0_eq (l n : ℕ) :
    (mmT 512 (dy * lx (rex A)) st + mmN 64 (dcbF dy xd A T 0) (shz (128 * 0) (sh 0 1024 x))) l n = K_v236 I e c l 0 n := by
  show (∑ k ∈ Finset.range 512, dy l k * Real.exp (A l (k / 64)) * st n k) + mmN 64 _ _ l n = _
  rw [dcB_eq R 0 l n (by omega)]
  unfold K_v236 K_v198
  congr 1
  refine Finset.sum_congr rfl fun k hk => ?_
  have hk' := Finset.mem_range.1 hk
  rw [R.hdy, R.hst, R.hA _ _ (by omega)]
  unfold K_v194 K_v146
  rw [show 8 * 0 + k / 64 = k / 64 by omega, show 512 * 0 + 64 * (k / 64) + k % 64 = k by omega, show 512 * 0 + k = k by omega]

theorem dcs1_eq (l n : ℕ) :
    (mmT 512 (sh 0 512 (dy * lx (rex A))) (sh 0 512 st) + mmN 64 (dcbF dy xd A T 1) (shz (128 * 1) (sh 0 1024 x))) l n = K_v236 I e c l 1 n := by
  show (∑ k ∈ Finset.range 512, dy (0 + l) (512 + k) * Real.exp (A (0 + l) ((512 + k) / 64)) * st (0 + n) (512 + k)) + mmN 64 _ _ l n = _
  rw [dcB_eq R 1 l n (by omega)]
  unfold K_v236 K_v198
  congr 1
  refine Finset.sum_congr rfl fun k hk => ?_
  have hk' := Finset.mem_range.1 hk
  rw [Nat.zero_add, Nat.zero_add, R.hdy, R.hst, R.hA _ _ (by omega)]
  unfold K_v194 K_v146
  rw [show (512 + k) / 64 = 8 * 1 + k / 64 by omega, show 512 * 1 + 64 * (k / 64) + k % 64 = 512 + k by omega, show 512 * 1 + k = 512 + k by omega]

end Cert.Ssd

end
-- ==== Proof.SsdAlgC.lean ====
module

public import proofs.«01_k».proof.Proof.SsdAlgB

/-! The results of a grid point and their sums over the grid are the reference's. -/

@[expose] public section

set_option maxRecDepth 16384

noncomputable section

namespace Cert.Ssd

open Cert.SsdR
open scoped BigOperators

/-- The state gradient of the first group after chunk `c`. -/
def DAs (I : Inp) (e c : ℕ) : M2 := fun n q => K_v179 I e (q / 64) n (q % 64) c
/-- The state gradient of the second group after chunk `c`. -/
def DBs (I : Inp) (e c : ℕ) : M2 := fun n q => K_v179 I e (8 + q / 64) n (q % 64) c

variable (I : Inp) (c e : ℕ)

/-- The matrices of the grid point at chunk `c` are the reference's. -/
theorem rel : Rel I c e (dyF (W0 I c e) (W1 I c e) (W3 I c e) (D11 I)) (W2 I c e * lx (dtF (decide (0 < c)) (W4 I c e) (D6 I))) (W2 I c e)
    (W5 I c e) (bA (decide (0 < c)) (W4 I c e) (D6 I) (D8 I)) (bT (decide (0 < c)) (W4 I c e) (D7 I) (D9 I)) (DAs I e c) (DBs I e c) where
  hdy := dy_eq I c e
  hxd := xd_eq I c e
  hB := B_eq I c e
  hC := C_eq I c e
  hst := fun _ _ => rfl
  hA := A_eq I c e
  hT := T_eq I c e
  hDA := fun _ _ _ => rfl
  hDB := fun _ _ _ => rfl

/-- The decays between two chunks, one chunk further back. -/
theorem v178_succ (h k : ℕ) (hc : c + 1 < 33) : K_v178 I e h c k =
    K_v178 I e h (c + 1) k * Real.exp (K_v119 I e (c + 1) (8 * (h / 8) + h % 8)) + if k = c + 1 then 1 else 0 := by
  unfold K_v178 K_v177
  rcases Nat.lt_trichotomy k (c + 1) with hk | rfl | hk
  · rw [if_neg (by omega), if_neg (by omega), if_neg (by omega)]; ring
  · rw [if_pos (by omega), if_neg (by omega), if_pos rfl]
    have : K_v173 I e h c (c + 1) = 0 := by
      unfold K_v173
      exact Finset.sum_eq_zero fun i _ => by rw [if_neg (by omega), mul_zero]
    rw [this, Real.exp_zero]; ring
  · rw [if_pos (by omega), if_pos (by omega), if_neg (by omega), add_zero, ← Real.exp_add]
    congr 1
    unfold K_v173
    have e1 : ∀ i ∈ Finset.range 33, K_v119 I e i (8 * (h / 8) + h % 8) * (if c < i ∧ i < k then (1 : ℝ) else 0) =
        K_v119 I e i (8 * (h / 8) + h % 8) * (if c + 1 < i ∧ i < k then (1 : ℝ) else 0) +
          if i = c + 1 then K_v119 I e i (8 * (h / 8) + h % 8) else 0 := fun i _ => by
      split_ifs <;> first | omega | ring
    rw [Finset.sum_congr rfl e1, Finset.sum_add_distrib, Finset.sum_ite_eq', if_pos (Finset.mem_range.2 hc)]

/-- The state gradient, one chunk further back. -/
theorem v179_succ (h n p : ℕ) (hc : c + 1 < 33) : K_v179 I e h n p c =
    K_v179 I e h n p (c + 1) * Real.exp (K_v119 I e (c + 1) h) + K_v162 I e (c + 1) ((64 * h + p) / 512) ((64 * h + p) % 512) n := by
  unfold K_v179
  have e1 : ∀ k ∈ Finset.range 33, K_v162 I e k ((64 * h + p) / 512) ((64 * h + p) % 512) n * K_v178 I e h c k =
      K_v162 I e k ((64 * h + p) / 512) ((64 * h + p) % 512) n * K_v178 I e h (c + 1) k * Real.exp (K_v119 I e (c + 1) h) +
        if k = c + 1 then K_v162 I e k ((64 * h + p) / 512) ((64 * h + p) % 512) n else 0 := fun k _ => by
    rw [v178_succ I c e h k hc, show 8 * (h / 8) + h % 8 = h by omega]
    split_ifs <;> ring
  rw [Finset.sum_congr rfl e1, Finset.sum_add_distrib, Finset.sum_ite_eq', if_pos (Finset.mem_range.2 hc), Finset.sum_mul]

theorem DAs_last : DAs I e 32 = zz := by
  funext n q
  show K_v179 I e _ n _ 32 = 0
  unfold K_v179 K_v178
  refine Finset.sum_eq_zero fun k hk => ?_
  have := Finset.mem_range.1 hk
  rw [if_neg (by omega), mul_zero]

theorem DBs_last : DBs I e 32 = zz := by
  funext n q
  show K_v179 I e _ n _ 32 = 0
  unfold K_v179 K_v178
  refine Finset.sum_eq_zero fun k hk => ?_
  have := Finset.mem_range.1 hk
  rw [if_neg (by omega), mul_zero]

/-- The first group's state gradient goes from chunk to chunk as in the reference. -/
theorem sA_eq (n q : ℕ) (hq : q < 512) (hc : c + 1 < 33) :
    sAF (decide (0 < c + 1)) (W0 I (c + 1) e) (W1 I (c + 1) e) (W2 I (c + 1) e) (W3 I (c + 1) e) (W4 I (c + 1) e) (D6 I) (D8 I) (D11 I)
      (DAs I e (c + 1)) n q = DAs I e c n q := by
  show DAs I e (c + 1) n q * Real.exp (bA (decide (0 < c + 1)) (W4 I (c + 1) e) (D6 I) (D8 I) (63 + 0) ((0 + q) / 64)) +
    (∑ l ∈ Finset.range 64, W2 I (c + 1) e (0 + l) (1280 + n) * (dyF (W0 I (c + 1) e) (W1 I (c + 1) e) (W3 I (c + 1) e) (D11 I) l q *
      Real.exp (bA (decide (0 < c + 1)) (W4 I (c + 1) e) (D6 I) (D8 I) l (q / 64)))) = K_v179 I e (q / 64) n (q % 64) c
  rw [v179_succ I c e _ _ _ hc, Nat.zero_add, Nat.add_zero, A_eq I (c + 1) e _ _ (by omega), A63_eq]
  unfold DAs
  congr 1
  rw [show (64 * (q / 64) + q % 64) / 512 = 0 by omega, show (64 * (q / 64) + q % 64) % 512 = q by omega]
  unfold K_v162
  refine Finset.sum_congr rfl fun l _ => ?_
  rw [Nat.zero_add, C_eq, dy_eq, A_eq I (c + 1) e _ _ (by omega)]
  unfold K_v160 K_v146
  rw [show 512 * 0 + 64 * (q / 64) + q % 64 = q by omega, show 8 * 0 + q / 64 = q / 64 by omega, show 128 * 0 + n = n by omega]
  ring

/-- The same of the second group. -/
theorem sB_eq (n q : ℕ) (hq : q < 512) (hc : c + 1 < 33) :
    sBF (decide (0 < c + 1)) (W0 I (c + 1) e) (W1 I (c + 1) e) (W2 I (c + 1) e) (W3 I (c + 1) e) (W4 I (c + 1) e) (D6 I) (D8 I) (D11 I)
      (DBs I e (c + 1)) n q = DBs I e c n q := by
  show DBs I e (c + 1) n q * Real.exp (bA (decide (0 < c + 1)) (W4 I (c + 1) e) (D6 I) (D8 I) (63 + (0 + 0)) ((0 + (512 + q)) / 64)) +
    (∑ l ∈ Finset.range 64, W2 I (c + 1) e (0 + (0 + l)) (1280 + (128 + n)) * (dyF (W0 I (c + 1) e) (W1 I (c + 1) e) (W3 I (c + 1) e) (D11 I) (0 + l) (512 + q) *
      Real.exp (bA (decide (0 < c + 1)) (W4 I (c + 1) e) (D6 I) (D8 I) (0 + l) ((512 + q) / 64)))) = K_v179 I e (8 + q / 64) n (q % 64) c
  rw [v179_succ I c e _ _ _ hc, show 63 + (0 + 0) = 63 from rfl, show (0 + (512 + q)) / 64 = 8 + q / 64 by omega,
    show (512 + q) / 64 = 8 + q / 64 by omega, A_eq I (c + 1) e _ _ (by omega), A63_eq]
  unfold DBs
  congr 1
  rw [show (64 * (8 + q / 64) + q % 64) / 512 = 1 by omega, show (64 * (8 + q / 64) + q % 64) % 512 = q by omega]
  unfold K_v162
  refine Finset.sum_congr rfl fun l _ => ?_
  rw [Nat.zero_add, Nat.zero_add, C_eq, dy_eq, A_eq I (c + 1) e _ _ (by omega)]
  unfold K_v160 K_v146
  rw [show 512 * 1 + 64 * (q / 64) + q % 64 = 512 + q by omega, show 8 * 1 + q / 64 = 8 + q / 64 by omega, show 128 * 1 + n = 128 + n by omega]
  ring

/-- The first result's block. -/
def o14 : M2 :=
  dxbcF (decide (0 < c)) (W0 I c e) (W1 I c e) (W2 I c e) (W3 I c e) (W4 I c e) (W5 I c e) (D6 I) (D7 I) (D8 I) (D9 I) (D10 I) (D11 I) (DAs I e c) (DBs I e c)
/-- The raw steps' gradient. -/
def o15t : M2 :=
  ddtF (decide (0 < c)) (W0 I c e) (W1 I c e) (W2 I c e) (W3 I c e) (W4 I c e) (W5 I c e) (D6 I) (D7 I) (D8 I) (D9 I) (D11 I) (DAs I e c) (DBs I e c)
/-- The second result's block. -/
def o15 : M2 := catC 1024 (dbzF (W0 I c e) (W1 I c e) (W3 I c e) (D11 I)) (o15t I c e)
/-- The terms of the decay rates' gradient. -/
def o18 : M2 :=
  dalF (decide (0 < c)) (W0 I c e) (W1 I c e) (W2 I c e) (W3 I c e) (W4 I c e) (W5 I c e) (D6 I) (D7 I) (D8 I) (D9 I) (D11 I) (DAs I e c) (DBs I e c)

theorem o14_eq (l j : ℕ) (hl : l < 64) (hj : j < 1536) : o14 I c e l j = K_v312 I e c l j := by
  have R := rel I c e
  unfold o14 dxbcF
  rw [dxbcG_eq]
  unfold K_v312
  by_cases hp : 64 * c + l < 48
  · rw [if_pos hp]
    exact if_neg (fun H => (ok_iff c l hl).1 H hp)
  · rw [if_neg hp]
    refine (if_pos ((ok_iff c l hl).2 hp)).trans ?_
    unfold K_v309
    have hc : (64 * c + l - 48 + 48) / 64 = c := by omega
    have hl' : (64 * c + l - 48 + 48) % 64 = l := by omega
    rw [hc, hl']
    by_cases h1 : j < 1024
    · rw [if_pos h1]
      refine (if_pos h1).trans ?_
      have hx := dx_eq R (j / 512) ((j / 64) % 8) l (j % 64) (by omega) (by omega) hl (by omega)
      rw [show 512 * (j / 512) + 64 * (j / 64 % 8) + j % 64 = j by omega] at hx
      show dyF _ _ _ _ l j * D10 I 0 j + dxF _ _ _ _ _ _ l j * dtF _ _ _ l (j / 64) = _
      rw [hx, dy_eq, dt_eq I c e l _ hl (by omega), if_neg hp]
      unfold K_v299 K_v284 K_v298 D10
      rw [hc, hl', show 64 * (j / 64) + j % 64 = j by omega]
    · rw [if_neg h1]
      refine (if_neg h1).trans ?_
      by_cases h2 : j - 1024 < 128
      · refine (if_pos h2).trans ?_
        rw [if_pos (by omega), show (j - 1024) / 128 = 0 by omega, show (j - 1024) % 128 = j - 1024 by omega]
        exact dbs0_eq R l _ hl
      refine (if_neg h2).trans ?_
      by_cases h3 : j - 1024 - 128 < 128
      · refine (if_pos h3).trans ?_
        rw [if_pos (by omega), show (j - 1024) / 128 = 1 by omega, show (j - 1024) % 128 = j - 1024 - 128 by omega]
        exact dbs1_eq R l _ hl
      refine (if_neg h3).trans ?_
      by_cases h4 : j - 1024 - 128 - 128 < 128
      · refine (if_pos h4).trans ?_
        rw [if_neg (by omega), show (j - 1280) / 128 = 0 by omega, show (j - 1280) % 128 = j - 1024 - 128 - 128 by omega]
        exact dcs0_eq R l _
      refine (if_neg h4).trans ?_
      rw [if_neg (by omega), show (j - 1280) / 128 = 1 by omega, show (j - 1280) % 128 = j - 1024 - 128 - 128 - 128 by omega]
      exact dcs1_eq R l _

/-- One over one plus the exponential, from the softplus. -/
theorem sig_eq (x : ℝ) : Real.exp (x - (max x 0 + Real.log (1 + Real.exp (-|x - 0|)))) = 1 / (1 + Real.exp (-x)) := by
  rw [sub_zero]
  have hp : ∀ y : ℝ, 0 < 1 + Real.exp y := fun y => by positivity
  rcases le_total 0 x with h | h
  · rw [max_eq_left h, abs_of_nonneg h, show x - (x + Real.log (1 + Real.exp (-x))) = -Real.log (1 + Real.exp (-x)) by ring,
      Real.exp_neg, Real.exp_log (hp _), one_div]
  · rw [max_eq_right h, abs_of_nonpos h, zero_add, neg_neg, Real.exp_sub, Real.exp_log (hp _), Real.exp_neg]
    have := Real.exp_pos x
    field_simp
    try ring

theorem dda_at (l h : ℕ) (hl : l < 64) (hh : h < 16) :
    ddaF (decide (0 < c)) (W0 I c e) (W1 I c e) (W2 I c e) (W3 I c e) (W4 I c e) (W5 I c e) (D6 I) (D7 I) (D8 I) (D9 I) (D11 I) (DAs I e c) (DBs I e c) l h =
      K_v256 I e c l h := by
  have := dda_eq (rel I c e) (h / 8) (h % 8) l (by omega) (by omega) hl
  rw [show 8 * (h / 8) + h % 8 = h by omega] at this
  exact this

theorem o15t_eq (l h : ℕ) (hl : l < 64) : o15t I c e l h =
    if 64 * c + l < 48 then 0 else K_v315 I e (64 * c + l - 48) h := by
  have R := rel I c e
  unfold o15t ddtF K_v315
  by_cases hh : h < 16
  swap
  · rw [if_neg hh, ite_self]
    exact if_neg (fun H => hh (of_decide_eq_true H))
  refine (if_pos (decide_eq_true hh)).trans ?_
  by_cases hp : 64 * c + l < 48
  · rw [if_pos hp]
    exact if_neg (fun H => (ok_iff c l hl).1 H hp)
  rw [if_neg hp, if_pos hh]
  refine (if_pos ((ok_iff c l hl).2 hp)).trans ?_
  have hc : (64 * c + l - 48 + 48) / 64 = c := by omega
  have hl' : (64 * c + l - 48 + 48) % 64 = l := by omega
  show (ddaF _ _ _ _ _ _ _ _ _ _ _ _ _ _ l h * aF (D8 I) 0 h + hs _ l h) * (1 / (1 + Real.exp (-(W4 I c e l h + D6 I 0 h)))) = _
  rw [dda_at I c e l h hl hh, aF_eq I h hh, ← sig_eq]
  unfold K_v305 K_v301 K_v273 K_v295
  rw [hc, hl']
  congr 1
  · congr 1
    unfold hs
    rw [if_pos hh]
    refine Finset.sum_congr rfl fun p hp' => ?_
    have hp'' := Finset.mem_range.1 hp'
    have hx := dx_eq R (h / 8) (h % 8) l p (by omega) (by omega) hl hp''
    rw [show 512 * (h / 8) + 64 * (h % 8) + p = 64 * h + p by omega] at hx
    show dxF _ _ _ _ _ _ l (64 * h + p) * W2 I c e l (64 * h + p) = _
    rw [hx]
    unfold K_v294 W2 pz
    rw [if_neg hp, hc, hl', show (64 * h + p) / 512 = h / 8 by omega, show (64 * h + p) / 64 % 8 = h % 8 by omega,
      show (64 * h + p) % 64 = p by omega, mul_comm]
  · unfold W4 D6 pz K_v74_1 K_call4_v21 K_call4_v11 K_call4_v10 K_call4_v9 K_call4_v8 K_call4_v7 K_call4_v3 K_call4_v1 K_v73
    rw [if_neg hp, if_pos hh]

theorem o15_eq (l j : ℕ) (hl : l < 64) : o15 I c e l j = K_v319 I e c l j := by
  unfold o15 catC K_v319 K_v316
  by_cases h1 : j < 1024
  · rw [if_pos h1, if_pos h1, dbz_eq]
  · rw [if_neg h1, if_neg h1, o15t_eq I c e l _ hl]

theorem o18_eq (l h : ℕ) (hl : l < 64) (hh : h < 16) : o18 I c e l h =
    if 64 * c + l < 48 then 0 else K_v269 I e (64 * c + l - 48) h * K_v76 I h := by
  show ddaF _ _ _ _ _ _ _ _ _ _ _ _ _ _ l h * dtF _ _ _ l h * aF (D8 I) 0 h = _
  rw [dda_at I c e l h hl hh, aF_eq I h hh, dt_eq I c e l h hl hh]
  by_cases hp : 64 * c + l < 48
  · rw [if_pos hp, if_pos hp]; ring
  · rw [if_neg hp, if_neg hp]
    unfold K_v269
    rw [show (64 * c + l - 48 + 48) / 64 = c by omega, show (64 * c + l - 48 + 48) % 64 = l by omega]
    ring

theorem o18_zero (l h : ℕ) (hh : ¬h < 16) : o18 I c e l h = 0 := by
  show ddaF _ _ _ _ _ _ _ _ _ _ _ _ _ _ l h * dtF _ _ _ l h * aF (D8 I) 0 h = _
  have : aF (D8 I) 0 h = 0 := if_neg (fun H => hh (of_decide_eq_true H))
  rw [this, mul_zero]

theorem two (f : ℕ → ℝ) : ∑ e ∈ Finset.range 2, f e = f 0 + f 1 := by rw [Finset.sum_range_succ, Finset.sum_range_one]

/-- A sum in blocks. -/
theorem sum_blocks (n m : ℕ) (g : ℕ → ℝ) : ∑ k ∈ Finset.range (n * m), g k = ∑ a ∈ Finset.range n, ∑ b ∈ Finset.range m, g (m * a + b) := by
  induction n with
  | zero => simp
  | succ n ih => rw [Nat.succ_mul, Finset.sum_range_add, ih, Finset.sum_range_succ]; simp only [Nat.mul_comm]

/-- The sum over all rows, chunk by chunk with the zero rows in front. -/
theorem sum4128 (f : ℕ → ℕ → ℝ) : ∑ k ∈ Finset.range 4128, f (k / 2064) (k % 2064) =
    ∑ c ∈ Finset.range 33, ∑ e ∈ Finset.range 2, ∑ l ∈ Finset.range 64, if 64 * c + l < 48 then 0 else f e (64 * c + l - 48) := by
  rw [Finset.sum_comm, show (4128 : ℕ) = 2 * 2064 from rfl, sum_blocks]
  refine Finset.sum_congr rfl fun e _ => ?_
  have h := sum_blocks 33 64 fun r => if r < 48 then 0 else f e (r - 48)
  rw [← h, show 33 * 64 = 48 + 2064 from rfl, Finset.sum_range_add]
  have h0 : ∑ r ∈ Finset.range 48, (if r < 48 then (0 : ℝ) else f e (r - 48)) = 0 :=
    Finset.sum_eq_zero fun r hr => if_pos (Finset.mem_range.1 hr)
  rw [h0, zero_add]
  refine Finset.sum_congr rfl fun x hx => ?_
  have := Finset.mem_range.1 hx
  rw [if_neg (by omega), show (2064 * e + x) / 2064 = e by omega, show (2064 * e + x) % 2064 = x by omega,
    show 48 + x - 48 = x by omega]

/-- The sums over the two examples of a chunk that are added to the third result. -/
def s16 : M2 := sumR 64 (dgF (W0 I c 0) (W1 I c 0) (W3 I c 0)) + sumR 64 (dgF (W0 I c 1) (W1 I c 1) (W3 I c 1))
/-- The same of the fourth result. -/
def s17 : M2 := sumR 64 (o15t I c 0) + sumR 64 (o15t I c 1)
/-- The same of the fifth result. -/
def s18 : M2 := sumR 64 (o18 I c 0) + sumR 64 (o18 I c 1)
/-- The same of the sixth result. -/
def s19 : M2 := ddF (W0 I c 0) (W1 I c 0) (W2 I c 0) (W3 I c 0) (D11 I) + ddF (W0 I c 1) (W1 I c 1) (W2 I c 1) (W3 I c 1) (D11 I)

/-- A sum over the chunks. -/
def tot (s : ℕ → M2) : M2 := fun r j => ∑ c ∈ Finset.range 33, s c r j

theorem tot16 (r j : ℕ) : tot (s16 I) r j = K_v27 I j := by
  unfold tot K_v27
  rw [sum4128 fun u v => K_v26 I u v j]
  refine Finset.sum_congr rfl fun c _ => ?_
  show (∑ l ∈ Finset.range 64, dgF (W0 I c 0) (W1 I c 0) (W3 I c 0) l j) + (∑ l ∈ Finset.range 64, dgF (W0 I c 1) (W1 I c 1) (W3 I c 1) l j) = _
  refine Eq.trans ?_ (two _).symm
  congr 1 <;> exact Finset.sum_congr rfl fun l _ => dg_eq I c _ l j

theorem tot17 (r h : ℕ) : tot (s17 I) r h = K_v324 I h := by
  unfold tot K_v324
  have e1 : ∀ c ∈ Finset.range 33, s17 I c r h =
      ∑ e ∈ Finset.range 2, ∑ l ∈ Finset.range 64, if 64 * c + l < 48 then 0 else K_v315 I e (64 * c + l - 48) h := fun c _ => by
    show (∑ l ∈ Finset.range 64, o15t I c 0 l h) + (∑ l ∈ Finset.range 64, o15t I c 1 l h) = _
    refine Eq.trans ?_ (two _).symm
    congr 1 <;> exact Finset.sum_congr rfl fun l hl => o15t_eq I c _ l h (Finset.mem_range.1 hl)
  rw [Finset.sum_congr rfl e1, ← sum4128 fun u v => K_v315 I u v h]
  unfold K_v315 K_v306
  split_ifs
  · rfl
  · exact Finset.sum_const_zero

theorem tot18 (r h : ℕ) : tot (s18 I) r h = K_v327 I h := by
  unfold tot K_v327
  by_cases hh : h < 16
  · rw [if_pos hh]
    have e1 : ∀ c ∈ Finset.range 33, s18 I c r h =
        ∑ e ∈ Finset.range 2, ∑ l ∈ Finset.range 64, if 64 * c + l < 48 then 0 else K_v269 I e (64 * c + l - 48) h * K_v76 I h := fun c _ => by
      show (∑ l ∈ Finset.range 64, o18 I c 0 l h) + (∑ l ∈ Finset.range 64, o18 I c 1 l h) = _
      refine Eq.trans ?_ (two _).symm
      congr 1 <;> exact Finset.sum_congr rfl fun l hl => o18_eq I c _ l h (Finset.mem_range.1 hl) hh
    rw [Finset.sum_congr rfl e1, ← sum4128 fun u v => K_v269 I u v h * K_v76 I h]
    unfold K_v304 K_v303 K_v270 K_v76
    rw [← Finset.sum_mul]
    ring
  · rw [if_neg hh]
    refine Finset.sum_eq_zero fun c _ => ?_
    show (∑ l ∈ Finset.range 64, o18 I c 0 l h) + (∑ l ∈ Finset.range 64, o18 I c 1 l h) = 0
    rw [Finset.sum_eq_zero fun l _ => o18_zero I c 0 l h hh, Finset.sum_eq_zero fun l _ => o18_zero I c 1 l h hh, add_zero]

theorem tot19 (r h : ℕ) : tot (s19 I) r h = K_v330 I h := by
  unfold tot K_v330
  by_cases hh : h < 16
  · rw [if_pos hh]
    unfold K_v286
    have e1 : ∀ c ∈ Finset.range 33, s19 I c r h = ∑ p ∈ Finset.range 64, ∑ e ∈ Finset.range 2, ∑ l ∈ Finset.range 64,
        if 64 * c + l < 48 then 0 else K_v280 I e (64 * c + l - 48) h p := fun c _ => by
      have e2 : ∀ e, ddF (W0 I c e) (W1 I c e) (W2 I c e) (W3 I c e) (D11 I) r h = ∑ p ∈ Finset.range 64, ∑ l ∈ Finset.range 64,
          if 64 * c + l < 48 then 0 else K_v280 I e (64 * c + l - 48) h p := fun e => by
        unfold ddF hs
        rw [if_pos hh]
        refine Finset.sum_congr rfl fun p _ => ?_
        show (∑ l ∈ Finset.range 64, dyF (W0 I c e) (W1 I c e) (W3 I c e) (D11 I) l (64 * h + p) * W2 I c e l (64 * h + p)) = _
        refine Finset.sum_congr rfl fun l hl => ?_
        have hl' := Finset.mem_range.1 hl
        show dyF _ _ _ _ l _ * W2 I c e l _ = _
        rw [dy_eq]
        unfold W2 pz K_v280
        by_cases hp : 64 * c + l < 48
        · rw [if_pos hp, if_pos hp, mul_zero]
        · rw [if_neg hp, if_neg hp, show (64 * c + l - 48 + 48) / 64 = c by omega, show (64 * c + l - 48 + 48) % 64 = l by omega, mul_comm]
      show ddF _ _ _ _ _ r h + ddF _ _ _ _ _ r h = _
      rw [e2, e2, ← Finset.sum_add_distrib]
      refine Finset.sum_congr rfl fun p _ => ?_
      exact (two fun e => ∑ l ∈ Finset.range 64, if 64 * c + l < 48 then 0 else K_v280 I e (64 * c + l - 48) h p).symm
    rw [Finset.sum_congr rfl e1, Finset.sum_comm]
    refine Finset.sum_congr rfl fun p _ => ?_
    exact (sum4128 fun u v => K_v280 I u v h p).symm
  · rw [if_neg hh]
    refine Finset.sum_eq_zero fun c _ => ?_
    show ddF _ _ _ _ _ r h + ddF _ _ _ _ _ r h = 0
    unfold ddF hs
    rw [if_neg hh, if_neg hh, add_zero]

end Cert.Ssd

end
-- ==== Proof.SsdArgs.lean ====
module

public import proofs.«01_k».proof.Proof.SsdAlgC
public import proofs.«01_k».proof.Proof.SsdNf
public import proofs.«01_k».proof.Proof.Gen.KernelIdeal.Value
public import Idealize.ShloMosaic.Lib.KernelVsHost
public import Idealize.ShloMosaic.Lib.StableHlo.Run
public import Idealize.ShloMosaic.Lib.Tactic

/-! What the host prepares for the kernel, and the blocks a grid point is given, on arrays of real numbers. -/

@[expose] public section

set_option maxRecDepth 16384

noncomputable section

namespace Cert.Ssd

open Cert.KernelIdeal Cert.KernelIdeal.Gen Cert.SsdR Idealize.ShloMosaic Idealize.ShloMosaic.TcCoe
open scoped BigOperators

/-- The arguments in memory `m` are the real numbers of `I`. -/
structure Args (m : (ℓ : Loc nD τ sig) → Buf (Elt Ideal) ℓ) (c : Dev nD) (I : Inp) : Prop where
  h0 : ∀ i : S2x2064x2048.Idx, m ((c : Thread nD τ).loc main_arg0) i = ((I.a0 (i 0).val (i 1).val (i 2).val : ℝ) : EReal)
  h1 : ∀ i : S2x2064x1024.Idx, m ((c : Thread nD τ).loc main_arg1) i = ((I.a1 (i 0).val (i 1).val (i 2).val : ℝ) : EReal)
  h2 : ∀ i : S2x2064x1536.Idx, m ((c : Thread nD τ).loc main_arg2) i = ((I.a2 (i 0).val (i 1).val (i 2).val : ℝ) : EReal)
  h3 : ∀ i : S2x2064x6272.Idx, m ((c : Thread nD τ).loc main_arg3) i = ((I.a3 (i 0).val (i 1).val (i 2).val : ℝ) : EReal)
  h4 : ∀ i : S2x33x128x1024.Idx, m ((c : Thread nD τ).loc main_arg4) i = ((I.a4 (i 0).val (i 1).val (i 2).val (i 3).val : ℝ) : EReal)
  h5 : ∀ i : S16.Idx, m ((c : Thread nD τ).loc main_arg5) i = ((I.a5 (i 0).val : ℝ) : EReal)
  h6 : ∀ i : S16.Idx, m ((c : Thread nD τ).loc main_arg6) i = ((I.a6 (i 0).val : ℝ) : EReal)
  h7 : ∀ i : S16.Idx, m ((c : Thread nD τ).loc main_arg7) i = ((I.a7 (i 0).val : ℝ) : EReal)
  h8 : ∀ i : S1024.Idx, m ((c : Thread nD τ).loc main_arg8) i = ((I.a8 (i 0).val : ℝ) : EReal)

/-- Forty-eight rows of zeros in front of each example. -/
theorem pad_rows {n : ℕ} (x : (⟨3, ![2, 2064, n]⟩ : Shape).Idx → EReal) {u : Shape} (z : u.Idx → EReal)
    (h : (⟨3, ![2, 2064, n]⟩ : Shape).Pads ![0, 48, 0] ![0, 0, 0] ![0, 0, 0] ⟨3, ![2, 2112, n]⟩) (hu : 0 < u.numel) (g : ℕ → ℕ → ℕ → ℝ)
    (hx : ∀ j, x j = ((g (j 0).val (j 1).val (j 2).val : ℝ) : EReal)) (hz : ∀ j, z j = ((0 : ℝ) : EReal))
    (j : (⟨3, ![2, 2112, n]⟩ : Shape).Idx) :
    pad ⟨3, ![2, 2112, n]⟩ ![0, 48, 0] ![0, 0, 0] ![0, 0, 0] x z h hu j = ((pz (g (j 0).val) (j 1).val (j 2).val : ℝ) : EReal) := by
  have b0 : (j 0).val < 2 := (j 0).isLt
  have b1 : (j 1).val < 2112 := (j 1).isLt
  have b2 : (j 2).val < n := (j 2).isLt
  unfold pz
  by_cases hr : (j 1).val < 48
  · rw [if_pos hr]
    refine (pad_apply_of_not_inside _ _ _ x z h hu j 1 fun hh => ?_).trans (hz _)
    have : 48 ≤ (j 1).val := hh.1
    omega
  · rw [if_neg hr]
    refine (pad_apply_of_inside _ _ _ x z h hu j (fun a => match a with
      | ⟨0, _⟩ => ⟨(j 0).val, b0⟩ | ⟨1, _⟩ => ⟨(j 1).val - 48, by show (j 1).val - 48 < 2064; omega⟩ | ⟨2, _⟩ => ⟨(j 2).val, b2⟩)
      (fun a => match a with
      | ⟨0, _⟩ => by show (j 0).val = 0 + (j 0).val * (0 + 1); omega
      | ⟨1, _⟩ => by show (j 1).val = 48 + ((j 1).val - 48) * (0 + 1); omega
      | ⟨2, _⟩ => by show (j 2).val = 0 + (j 2).val * (0 + 1); omega)).trans (hx _)

/-- Zeros after the sixteen columns of a row. -/
theorem pad_cols (x : (⟨2, ![1, 16]⟩ : Shape).Idx → EReal) {u : Shape} (z : u.Idx → EReal)
    (h : (⟨2, ![1, 16]⟩ : Shape).Pads ![0, 0] ![0, 112] ![0, 0] ⟨2, ![1, 128]⟩) (hu : 0 < u.numel) (g : ℕ → ℝ)
    (hx : ∀ j, x j = ((g (j 1).val : ℝ) : EReal)) (hz : ∀ j, z j = ((0 : ℝ) : EReal)) (j : (⟨2, ![1, 128]⟩ : Shape).Idx) :
    pad ⟨2, ![1, 128]⟩ ![0, 0] ![0, 112] ![0, 0] x z h hu j = (((if (j 1).val < 16 then g (j 1).val else 0 : ℝ)) : EReal) := by
  have b0 : (j 0).val < 1 := (j 0).isLt
  have b1 : (j 1).val < 128 := (j 1).isLt
  by_cases hr : (j 1).val < 16
  · rw [if_pos hr]
    refine (pad_apply_of_inside _ _ _ x z h hu j (fun a => match a with
      | ⟨0, _⟩ => ⟨(j 0).val, b0⟩ | ⟨1, _⟩ => ⟨(j 1).val, hr⟩)
      (fun a => match a with
      | ⟨0, _⟩ => by show (j 0).val = 0 + (j 0).val * (0 + 1); omega
      | ⟨1, _⟩ => by show (j 1).val = 0 + (j 1).val * (0 + 1); omega)).trans (hx _)
  · rw [if_neg hr]
    refine (pad_apply_of_not_inside _ _ _ x z h hu j 1 fun hh => ?_).trans (hz _)
    have : ((j 1).val - 0) / (0 + 1) < 16 := hh.2.2
    omega

/-- A vector laid out as a row. -/
theorem row_apply {n : ℕ} (x : (⟨1, ![n]⟩ : Shape).Idx → EReal) (h : (⟨1, ![n]⟩ : Shape).ShapeCasts ⟨2, ![1, n]⟩) (g : ℕ → ℝ)
    (hx : ∀ j, x j = ((g (j 0).val : ℝ) : EReal)) (j : (⟨2, ![1, n]⟩ : Shape).Idx) :
    shapeCast ⟨2, ![1, n]⟩ x h j = ((g (j 1).val : ℝ) : EReal) := by
  have b0 : (j 0).val < 1 := (j 0).isLt
  have z0 : (j 0).val = 0 := by omega
  refine (shapeCast_apply x h j (fun a => ⟨(j 1).val, by rw [Subsingleton.elim a 0]; exact (j 1).isLt⟩) ?_).trans (hx _)
  rw [Shape.rowMajor_val_one, Shape.rowMajor_val_two]
  show (j 1).val = (j 0).val * n + (j 1).val
  rw [z0]; omega

/-- A vector laid out as a column. -/
theorem col_apply {n : ℕ} (x : (⟨1, ![n]⟩ : Shape).Idx → EReal) (h : (⟨1, ![n]⟩ : Shape).ShapeCasts ⟨2, ![n, 1]⟩) (g : ℕ → ℝ)
    (hx : ∀ j, x j = ((g (j 0).val : ℝ) : EReal)) (j : (⟨2, ![n, 1]⟩ : Shape).Idx) :
    shapeCast ⟨2, ![n, 1]⟩ x h j = ((g (j 0).val : ℝ) : EReal) := by
  have b1 : (j 1).val < 1 := (j 1).isLt
  refine (shapeCast_apply x h j (fun a => ⟨(j 0).val, by rw [Subsingleton.elim a 0]; exact (j 0).isLt⟩) ?_).trans (hx _)
  rw [Shape.rowMajor_val_one, Shape.rowMajor_val_two]
  show (j 0).val = (j 0).val * 1 + (j 1).val
  omega

/-- Each entry of a vector repeated 64 times. -/
theorem rep_apply (x : S16.Idx → EReal) (g : ℕ → ℝ)
    (hx : ∀ j, x j = ((g (j 0).val : ℝ) : EReal)) (j : S1024.Idx) :
    shapeCast S1024 (broadcastInDim S16x64 ![0] bcast_S16_S16x64_0 x : S16x64.Idx → EReal) shapeCasts_S16x64_S1024 j = ((g ((j 0).val / 64) : ℝ) : EReal) := by
  have b0 : (j 0).val < 1024 := (j 0).isLt
  refine (shapeCast_apply _ _ j (fun a => match a with
    | ⟨0, _⟩ => ⟨(j 0).val / 64, by show (j 0).val / 64 < 16; omega⟩
    | ⟨1, _⟩ => ⟨(j 0).val % 64, by show (j 0).val % 64 < 64; omega⟩) ?_).trans
    ((broadcastInDim_apply ![0] bcast_S16_S16x64_0 x _ (fun a => match a with
    | ⟨0, _⟩ => ⟨(j 0).val / 64, by show (j 0).val / 64 < 16; omega⟩) (fun a => match a with | ⟨0, _⟩ => rfl)).trans (hx _))
  rw [Shape.rowMajor_val_one, Shape.rowMajor_val_two]
  show (j 0).val / 64 * 64 + (j 0).val % 64 = (j 0).val
  omega

/-- The sign of a word. -/
def sgn (x : BitVec 32) : BitVec 32 := if x = 0 then 0 else if x.msb then -1 else 1

/-- The quotient by 64 rounded down, of the first 1024 numbers. -/
theorem floor64 : ∀ k : Fin 1024, Scalar.select (IntOp.andi (IntOp.cmpi .ne (sgn (BitVec.ofNat 32 k.val)) (sgn 64#32))
      (IntOp.cmpi .ne (IntOp.remsi .host (BitVec.ofNat 32 k.val) 64#32) 0#32))
    (IntOp.subi (IntOp.divsi .host (BitVec.ofNat 32 k.val) 64#32) 1#32) (IntOp.divsi .host (BitVec.ofNat 32 k.val) 64#32)
      = BitVec.ofNat 32 (k.val / 64) := by
  decide +kernel

theorem eq_ofNat {n k : ℕ} (hn : n < 2 ^ 32) (hk : k < 2 ^ 32) :
    IntOp.cmpi .eq (BitVec.ofNat 32 n) (BitVec.ofNat 32 k) = BitVec.ofBool (decide (n = k)) := by
  show BitVec.ofBool _ = _
  congr 1
  rw [Bool.eq_iff_iff]
  simp only [beq_iff_eq, decide_eq_true_eq, ← BitVec.toNat_inj, BitVec.toNat_ofNat, Nat.mod_eq_of_lt hn, Nat.mod_eq_of_lt hk]

theorem z_bf16 (j : S_.Idx) : (sitofp .bf16 (constantI S_ 32 0#32) : FVec Ideal S_ .bf16) j = ((0 : ℝ) : EReal) := by
  show (((0#32).toInt : ℝ) : EReal) = _
  simp
theorem z_f32 (j : S_.Idx) : (sitofp .f32 (constantI S_ 32 0#32) : FVec Ideal S_ .f32) j = ((0 : ℝ) : EReal) := by
  show (((0#32).toInt : ℝ) : EReal) = _
  simp

variable {m : (ℓ : Loc nD τ sig) → Buf (Elt Ideal) ℓ} {c : Dev nD} {I : Inp} (A : Args m c I)

section
include A
theorem V_v25 (i : S2x2112x2048.Idx) : V m c main_v25 i = ((pz (I.a0 (i 0).val) (i 1).val (i 2).val : ℝ) : EReal) := by
  refine Eq.trans (?_ : _ = pad S2x2112x2048 ![0, 48, 0] ![0, 0, 0] ![0, 0, 0] (m ((c : Thread nD τ).loc main_arg0) : S2x2064x2048.Idx → EReal) (sitofp .bf16 (constantI S_ 32 0#32) : FVec Ideal S_ .bf16)
          pads_S2x2064x2048_S2x2112x2048_000_4800_000 h_S_ i) (pad_rows _ _ _ _ I.a0 A.h0 z_bf16 i)
  show StableHlo.after _ _ (Proc.devRef .tc main_v25) i = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  exact congrFun (shapeCast_shapeCast _ _ _) i
theorem V_v26 (i : S2x2112x1024.Idx) : V m c main_v26 i = ((pz (I.a1 (i 0).val) (i 1).val (i 2).val : ℝ) : EReal) := by
  refine Eq.trans (?_ : _ = pad S2x2112x1024 ![0, 48, 0] ![0, 0, 0] ![0, 0, 0] (m ((c : Thread nD τ).loc main_arg1) : S2x2064x1024.Idx → EReal) (sitofp .bf16 (constantI S_ 32 0#32) : FVec Ideal S_ .bf16)
          pads_S2x2064x1024_S2x2112x1024_000_4800_000 h_S_ i) (pad_rows _ _ _ _ I.a1 A.h1 z_bf16 i)
  show StableHlo.after _ _ (Proc.devRef .tc main_v26) i = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  exact congrFun (shapeCast_shapeCast _ _ _) i
theorem V_v27 (i : S2x2112x1536.Idx) : V m c main_v27 i = ((pz (I.a2 (i 0).val) (i 1).val (i 2).val : ℝ) : EReal) := by
  refine Eq.trans (?_ : _ = pad S2x2112x1536 ![0, 48, 0] ![0, 0, 0] ![0, 0, 0] (m ((c : Thread nD τ).loc main_arg2) : S2x2064x1536.Idx → EReal) (sitofp .bf16 (constantI S_ 32 0#32) : FVec Ideal S_ .bf16)
          pads_S2x2064x1536_S2x2112x1536_000_4800_000 h_S_ i) (pad_rows _ _ _ _ I.a2 A.h2 z_bf16 i)
  show StableHlo.after _ _ (Proc.devRef .tc main_v27) i = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  exact congrFun (shapeCast_shapeCast _ _ _) i
theorem V_v24 (i : S2x2112x6272.Idx) : V m c main_v24 i = ((pz (I.a3 (i 0).val) (i 1).val (i 2).val : ℝ) : EReal) := by
  refine Eq.trans (?_ : _ = pad S2x2112x6272 ![0, 48, 0] ![0, 0, 0] ![0, 0, 0] (m ((c : Thread nD τ).loc main_arg3) : S2x2064x6272.Idx → EReal) (sitofp .bf16 (constantI S_ 32 0#32) : FVec Ideal S_ .bf16)
          pads_S2x2064x6272_S2x2112x6272_000_4800_000 h_S_ i) (pad_rows _ _ _ _ I.a3 A.h3 z_bf16 i)
  show StableHlo.after _ _ (Proc.devRef .tc main_v24) i = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  exact congrFun (shapeCast_shapeCast _ _ _) i
theorem V_v19 (i : S1x128.Idx) : V m c main_v19 i = ((D6 I (i 0).val (i 1).val : ℝ) : EReal) := by
  refine Eq.trans (?_ : _ = pad S1x128 ![0, 0] ![0, 112] ![0, 0] (shapeCast S1x16 (m ((c : Thread nD τ).loc main_arg5) : S16.Idx → EReal) shapeCasts_S16_S1x16 : S1x16.Idx → EReal) (sitofp .f32 (constantI S_ 32 0#32) : FVec Ideal S_ .f32)
          pads_S1x16_S1x128_000_01120 h_S_ i) (pad_cols _ _ _ _ I.a5 (fun j => ?_) z_f32 i)
  · show StableHlo.after _ _ (Proc.devRef .tc main_v19) i = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  · exact row_apply _ _ I.a5 A.h5 j
theorem V_v21 (i : S1x128.Idx) : V m c main_v21 i = ((D8 I (i 0).val (i 1).val : ℝ) : EReal) := by
  refine Eq.trans (?_ : _ = pad S1x128 ![0, 0] ![0, 112] ![0, 0] (shapeCast S1x16 (m ((c : Thread nD τ).loc main_arg6) : S16.Idx → EReal) shapeCasts_S16_S1x16 : S1x16.Idx → EReal) (sitofp .f32 (constantI S_ 32 0#32) : FVec Ideal S_ .f32)
          pads_S1x16_S1x128_000_01120 h_S_ i) (pad_cols _ _ _ _ I.a6 (fun j => ?_) z_f32 i)
  · show StableHlo.after _ _ (Proc.devRef .tc main_v21) i = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  · exact row_apply _ _ I.a6 A.h6 j
theorem V_v22 (i : S16x1.Idx) : V m c main_v22 i = ((D7 I (i 0).val (i 1).val : ℝ) : EReal) := by
  refine Eq.trans (?_ : _ = (shapeCast S16x1 (m ((c : Thread nD τ).loc main_arg5) : S16.Idx → EReal) shapeCasts_S16_S16x1 : S16x1.Idx → EReal) i) ?_
  · show StableHlo.after _ _ (Proc.devRef .tc main_v22) i = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  · exact col_apply _ _ I.a5 A.h5 i
theorem V_v23 (i : S16x1.Idx) : V m c main_v23 i = ((D9 I (i 0).val (i 1).val : ℝ) : EReal) := by
  refine Eq.trans (?_ : _ = (shapeCast S16x1 (m ((c : Thread nD τ).loc main_arg6) : S16.Idx → EReal) shapeCasts_S16_S16x1 : S16x1.Idx → EReal) i) ?_
  · show StableHlo.after _ _ (Proc.devRef .tc main_v23) i = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  · exact col_apply _ _ I.a6 A.h6 i
theorem V_v16 (i : S1x1024.Idx) : V m c main_v16 i = ((D11 I (i 0).val (i 1).val : ℝ) : EReal) := by
  refine Eq.trans (?_ : _ = (shapeCast S1x1024 (m ((c : Thread nD τ).loc main_arg8) : S1024.Idx → EReal) shapeCasts_S1024_S1x1024 : S1x1024.Idx → EReal) i) ?_
  · show StableHlo.after _ _ (Proc.devRef .tc main_v16) i = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  · exact row_apply _ _ I.a8 A.h8 i
theorem V_v7 (i : S1x1024.Idx) : V m c main_v7 i = ((D10 I (i 0).val (i 1).val : ℝ) : EReal) := by
  refine Eq.trans (?_ : _ = (shapeCast S1x1024 (shapeCast S1024 (broadcastInDim S16x64 ![0] bcast_S16_S16x64_0 (m ((c : Thread nD τ).loc main_arg7) : S16.Idx → EReal) : S16x64.Idx → EReal) shapeCasts_S16x64_S1024) shapeCasts_S1024_S1x1024 : S1x1024.Idx → EReal) i) ?_
  · show StableHlo.after _ _ (Proc.devRef .tc main_v7) i = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  · exact row_apply _ _ (fun q => I.a7 (q / 64)) (rep_apply _ I.a7 A.h7) i
end

theorem V_v4 (i : S128x1024.Idx) : V m c main_v4 i = ((e01 (i 0).val (i 1).val : ℝ) : EReal) := by
  have b0 : (i 0).val < 128 := (i 0).isLt
  have b1 : (i 1).val < 1024 := (i 1).isLt
  refine Eq.trans (?_ : _ = (FloatOps.uitofp (F := Ideal) .bf16 (IntOp.cmpi .eq (BitVec.ofNat 32 (i 0).val)
      (Scalar.select (IntOp.andi (IntOp.cmpi .ne (sgn (BitVec.ofNat 32 (i 1).val)) (sgn 64#32))
      (IntOp.cmpi .ne (IntOp.remsi .host (BitVec.ofNat 32 (i 1).val) 64#32) 0#32))
    (IntOp.subi (IntOp.divsi .host (BitVec.ofNat 32 (i 1).val) 64#32) 1#32) (IntOp.divsi .host (BitVec.ofNat 32 (i 1).val) 64#32))) : EReal)) ?_
  · show StableHlo.after _ _ (Proc.devRef .tc main_v4) i = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    simp only [StableHlo.TRef.ofBuf_toBuf, id]
    change FloatOps.uitofp (F := Ideal) .bf16 (IntOp.cmpi .eq (BitVec.ofNat 32 (i 0).val) (select (andi (cmpi .ne (signi (iotaInDim S128x1024 32 1)) (broadcastInDim S128x1024 ![] bcast_S_S128x1024 (signi (constantI S_ 32 64#32))))
      (cmpi .ne (Host.remsi (iotaInDim S128x1024 32 1) (broadcastInDim S128x1024 ![] bcast_S_S128x1024 (constantI S_ 32 64#32))) (broadcastInDim S128x1024 ![] bcast_S_S128x1024 (constantI S_ 32 0#32))))
      (subi (Host.divsi (iotaInDim S128x1024 32 1) (broadcastInDim S128x1024 ![] bcast_S_S128x1024 (constantI S_ 32 64#32))) (broadcastInDim S128x1024 ![] bcast_S_S128x1024 (constantI S_ 32 1#32)))
      (Host.divsi (iotaInDim S128x1024 32 1) (broadcastInDim S128x1024 ![] bcast_S_S128x1024 (constantI S_ 32 64#32))) i)) = _
    refine congrArg _ (congrArg _ ?_)
    show Scalar.select (IntOp.andi (IntOp.cmpi .ne _ _) (IntOp.cmpi .ne _ _)) (IntOp.subi _ _) _ = _
    congr 1
  · rw [floor64 ⟨(i 1).val, b1⟩, eq_ofNat (by omega) (by show (i 1).val / 64 < _; omega)]
    show (((BitVec.ofBool _).toNat : ℝ) : EReal) = _
    unfold e01
    by_cases h : (i 1).val / 64 = (i 0).val
    · rw [if_pos h, decide_eq_true h.symm]; simp
    · rw [if_neg h, decide_eq_false (Ne.symm h)]; simp
theorem V_v17 (i : S1024x128.Idx) : V m c main_v17 i = ((et01 (i 0).val (i 1).val : ℝ) : EReal) := by
  refine Eq.trans (?_ : _ = V m c main_v4 (fun a => match a with | ⟨0, _⟩ => ⟨(i 1).val, (i 1).isLt⟩ | ⟨1, _⟩ => ⟨(i 0).val, (i 0).isLt⟩)) (V_v4 _)
  show StableHlo.after _ _ (Proc.devRef .tc main_v17) i = StableHlo.after _ _ (Proc.devRef .tc main_v4) _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  refine congrArg _ ?_
  funext a
  match a with
  | ⟨0, _⟩ => rfl
  | ⟨1, _⟩ => rfl
end Cert.Ssd
end
-- ==== Proof.SsdBlk.lean ====
module

public import proofs.«01_k».proof.Proof.SsdArgs

/-! The blocks a grid point is given, on arrays of real numbers. -/

@[expose] public section

set_option maxRecDepth 16384

noncomputable section

namespace Cert.Ssd

open Cert.KernelIdeal Cert.KernelIdeal.Gen Cert.SsdR Idealize.ShloMosaic Idealize.ShloMosaic.TcCoe
open scoped BigOperators

variable {m : (ℓ : Loc nD τ sig) → Buf (Elt Ideal) ℓ} {c : Dev nD} {I : Inp} (A : Args m c I)
theorem ix0 : ∀ t : Fin cfg0.N, win0_0.index t 0 = 0 ∧ win0_0.index t 1 = 32 - t.val ∧ win0_0.index t 2 = 0 := by decide +kernel
/-- Where window 0 reads its array. -/
theorem rd0 (v : (b : Ref sig .tc) → Buf (Elt Ideal) ((c : Thread nD τ).loc b)) (t : Fin cfg0.N) (j : S2x64x1024.Idx) :
    ((cfg0.win 0).blk t).view.read (Elt Ideal) (v (Pipeline.arrRef spec0 0)) j = v main_v25 (fun a => match a with | ⟨0, _⟩ => ⟨(j 0).val, by have := (j 0).isLt; have ht : t.val < 33 := t.isLt.trans_eq N_0; change (j 0).val < 2 at this; show (j 0).val < 2; omega⟩ | ⟨1, _⟩ => ⟨64 * (32 - t.val) + (j 1).val, by have := (j 1).isLt; have ht : t.val < 33 := t.isLt.trans_eq N_0; change (j 1).val < 64 at this; show 64 * (32 - t.val) + (j 1).val < 2112; omega⟩ | ⟨2, _⟩ => ⟨(j 2).val, by have := (j 2).isLt; have ht : t.val < 33 := t.isLt.trans_eq N_0; change (j 2).val < 1024 at this; show (j 2).val < 2048; omega⟩ : S2x2112x2048.Idx) := by
  obtain ⟨h0, h1, h2⟩ := ix0 t
  have ht : t.val < 33 := t.isLt.trans_eq N_0
  have b0 : (j 0).val < 2 := (j 0).isLt
  have b1 : (j 1).val < 64 := (j 1).isLt
  have b2 : (j 2).val < 1024 := (j 2).isLt
  rw [View.read_apply]
  show v main_v25 _ = v main_v25 _
  refine congrArg (v main_v25) ?_
  funext a
  apply Fin.ext
  match a with
  | ⟨0, _⟩ =>
    show win0_0.index t 0 * 2 + 1 * (j 0).val = (j 0).val
    rw [h0]; omega
  | ⟨1, _⟩ =>
    show win0_0.index t 1 * 64 + 1 * (j 1).val = 64 * (32 - t.val) + (j 1).val
    rw [h1]; omega
  | ⟨2, _⟩ =>
    show win0_0.index t 2 * 1024 + 1 * (j 2).val = (j 2).val
    rw [h2]; omega
include A in
/-- The block of window 0 at a grid point. -/
theorem blk0 (t : Fin cfg0.N) : (iblk m c 0 t : Vec Ideal S2x64x1024 .bf16) = mk3 (φ := .bf16) 2 64 1024 (fun e => W0 I (32 - t.val) e) := by
  funext j
  unfold iblk
  exact (rd0 (fun b => V m c b) t j).trans (V_v25 A _)
theorem ix1 : ∀ t : Fin cfg0.N, win0_1.index t 0 = 0 ∧ win0_1.index t 1 = 32 - t.val ∧ win0_1.index t 2 = 0 := by decide +kernel
/-- Where window 1 reads its array. -/
theorem rd1 (v : (b : Ref sig .tc) → Buf (Elt Ideal) ((c : Thread nD τ).loc b)) (t : Fin cfg0.N) (j : S2x64x1024.Idx) :
    ((cfg0.win 1).blk t).view.read (Elt Ideal) (v (Pipeline.arrRef spec0 1)) j = v main_v26 (fun a => match a with | ⟨0, _⟩ => ⟨(j 0).val, by have := (j 0).isLt; have ht : t.val < 33 := t.isLt.trans_eq N_0; change (j 0).val < 2 at this; show (j 0).val < 2; omega⟩ | ⟨1, _⟩ => ⟨64 * (32 - t.val) + (j 1).val, by have := (j 1).isLt; have ht : t.val < 33 := t.isLt.trans_eq N_0; change (j 1).val < 64 at this; show 64 * (32 - t.val) + (j 1).val < 2112; omega⟩ | ⟨2, _⟩ => ⟨(j 2).val, by have := (j 2).isLt; have ht : t.val < 33 := t.isLt.trans_eq N_0; change (j 2).val < 1024 at this; show (j 2).val < 1024; omega⟩ : S2x2112x1024.Idx) := by
  obtain ⟨h0, h1, h2⟩ := ix1 t
  have ht : t.val < 33 := t.isLt.trans_eq N_0
  have b0 : (j 0).val < 2 := (j 0).isLt
  have b1 : (j 1).val < 64 := (j 1).isLt
  have b2 : (j 2).val < 1024 := (j 2).isLt
  rw [View.read_apply]
  show v main_v26 _ = v main_v26 _
  refine congrArg (v main_v26) ?_
  funext a
  apply Fin.ext
  match a with
  | ⟨0, _⟩ =>
    show win0_1.index t 0 * 2 + 1 * (j 0).val = (j 0).val
    rw [h0]; omega
  | ⟨1, _⟩ =>
    show win0_1.index t 1 * 64 + 1 * (j 1).val = 64 * (32 - t.val) + (j 1).val
    rw [h1]; omega
  | ⟨2, _⟩ =>
    show win0_1.index t 2 * 1024 + 1 * (j 2).val = (j 2).val
    rw [h2]; omega
include A in
/-- The block of window 1 at a grid point. -/
theorem blk1 (t : Fin cfg0.N) : (iblk m c 1 t : Vec Ideal S2x64x1024 .bf16) = mk3 (φ := .bf16) 2 64 1024 (fun e => W1 I (32 - t.val) e) := by
  funext j
  unfold iblk
  exact (rd1 (fun b => V m c b) t j).trans (V_v26 A _)
theorem ix2 : ∀ t : Fin cfg0.N, win0_2.index t 0 = 0 ∧ win0_2.index t 1 = 32 - t.val ∧ win0_2.index t 2 = 0 := by decide +kernel
/-- Where window 2 reads its array. -/
theorem rd2 (v : (b : Ref sig .tc) → Buf (Elt Ideal) ((c : Thread nD τ).loc b)) (t : Fin cfg0.N) (j : S2x64x1536.Idx) :
    ((cfg0.win 2).blk t).view.read (Elt Ideal) (v (Pipeline.arrRef spec0 2)) j = v main_v27 (fun a => match a with | ⟨0, _⟩ => ⟨(j 0).val, by have := (j 0).isLt; have ht : t.val < 33 := t.isLt.trans_eq N_0; change (j 0).val < 2 at this; show (j 0).val < 2; omega⟩ | ⟨1, _⟩ => ⟨64 * (32 - t.val) + (j 1).val, by have := (j 1).isLt; have ht : t.val < 33 := t.isLt.trans_eq N_0; change (j 1).val < 64 at this; show 64 * (32 - t.val) + (j 1).val < 2112; omega⟩ | ⟨2, _⟩ => ⟨(j 2).val, by have := (j 2).isLt; have ht : t.val < 33 := t.isLt.trans_eq N_0; change (j 2).val < 1536 at this; show (j 2).val < 1536; omega⟩ : S2x2112x1536.Idx) := by
  obtain ⟨h0, h1, h2⟩ := ix2 t
  have ht : t.val < 33 := t.isLt.trans_eq N_0
  have b0 : (j 0).val < 2 := (j 0).isLt
  have b1 : (j 1).val < 64 := (j 1).isLt
  have b2 : (j 2).val < 1536 := (j 2).isLt
  rw [View.read_apply]
  show v main_v27 _ = v main_v27 _
  refine congrArg (v main_v27) ?_
  funext a
  apply Fin.ext
  match a with
  | ⟨0, _⟩ =>
    show win0_2.index t 0 * 2 + 1 * (j 0).val = (j 0).val
    rw [h0]; omega
  | ⟨1, _⟩ =>
    show win0_2.index t 1 * 64 + 1 * (j 1).val = 64 * (32 - t.val) + (j 1).val
    rw [h1]; omega
  | ⟨2, _⟩ =>
    show win0_2.index t 2 * 1536 + 1 * (j 2).val = (j 2).val
    rw [h2]; omega
include A in
/-- The block of window 2 at a grid point. -/
theorem blk2 (t : Fin cfg0.N) : (iblk m c 2 t : Vec Ideal S2x64x1536 .bf16) = mk3 (φ := .bf16) 2 64 1536 (fun e => W2 I (32 - t.val) e) := by
  funext j
  unfold iblk
  exact (rd2 (fun b => V m c b) t j).trans (V_v27 A _)
theorem ix3 : ∀ t : Fin cfg0.N, win0_3.index t 0 = 0 ∧ win0_3.index t 1 = 32 - t.val ∧ win0_3.index t 2 = 2 := by decide +kernel
/-- Where window 3 reads its array. -/
theorem rd3 (v : (b : Ref sig .tc) → Buf (Elt Ideal) ((c : Thread nD τ).loc b)) (t : Fin cfg0.N) (j : S2x64x1024.Idx) (k : ((cfg0.win 3).xblock (cfg0.grid.coords t)).Idx) (hk : ∀ a, (k a).val = (j a).val) :
    ((cfg0.win 3).blk t).view.read (Elt Ideal) (v (Pipeline.arrRef spec0 3)) k = v main_v24 (fun a => match a with | ⟨0, _⟩ => ⟨(j 0).val, by have := (j 0).isLt; have ht : t.val < 33 := t.isLt.trans_eq N_0; change (j 0).val < 2 at this; show (j 0).val < 2; omega⟩ | ⟨1, _⟩ => ⟨64 * (32 - t.val) + (j 1).val, by have := (j 1).isLt; have ht : t.val < 33 := t.isLt.trans_eq N_0; change (j 1).val < 64 at this; show 64 * (32 - t.val) + (j 1).val < 2112; omega⟩ | ⟨2, _⟩ => ⟨(j 2).val + 2048, by have := (j 2).isLt; have ht : t.val < 33 := t.isLt.trans_eq N_0; change (j 2).val < 1024 at this; show (j 2).val + 2048 < 6272; omega⟩ : S2x2112x6272.Idx) := by
  obtain ⟨h0, h1, h2⟩ := ix3 t
  have ht : t.val < 33 := t.isLt.trans_eq N_0
  have b0 : (j 0).val < 2 := (j 0).isLt
  have b1 : (j 1).val < 64 := (j 1).isLt
  have b2 : (j 2).val < 1024 := (j 2).isLt
  rw [View.read_apply]
  show v main_v24 _ = v main_v24 _
  refine congrArg (v main_v24) ?_
  funext a
  apply Fin.ext
  match a with
  | ⟨0, _⟩ =>
    show win0_3.index t 0 * 2 + 1 * (k 0).val = (j 0).val
    rw [h0, show (k 0).val = (j 0).val from hk 0]; omega
  | ⟨1, _⟩ =>
    show win0_3.index t 1 * 64 + 1 * (k 1).val = 64 * (32 - t.val) + (j 1).val
    rw [h1, show (k 1).val = (j 1).val from hk 1]; omega
  | ⟨2, _⟩ =>
    show win0_3.index t 2 * 1024 + 1 * (k 2).val = (j 2).val + 2048
    rw [h2, show (k 2).val = (j 2).val from hk 2]; omega
include A in
/-- The block of window 3 at a grid point. -/
theorem blk3 (t : Fin cfg0.N) : (X0_3 m c t : Vec Ideal S2x64x1024 .bf16) = mk3 (φ := .bf16) 2 64 1024 (fun e => W3 I (32 - t.val) e) := by
  funext j
  unfold X0_3 Pipeline.Window.fill
  rw [dif_pos (moved0_3 t j)]
  unfold iblk
  exact (rd3 (fun b => V m c b) t j _ (fun _ => rfl)).trans (V_v24 A _)
theorem ix4 : ∀ t : Fin cfg0.N, win0_4.index t 0 = 0 ∧ win0_4.index t 1 = 32 - t.val ∧ win0_4.index t 2 = 24 := by decide +kernel
/-- Where window 4 reads its array. -/
theorem rd4 (v : (b : Ref sig .tc) → Buf (Elt Ideal) ((c : Thread nD τ).loc b)) (t : Fin cfg0.N) (j : S2x64x128.Idx) :
    ((cfg0.win 4).blk t).view.read (Elt Ideal) (v (Pipeline.arrRef spec0 4)) j = v main_v24 (fun a => match a with | ⟨0, _⟩ => ⟨(j 0).val, by have := (j 0).isLt; have ht : t.val < 33 := t.isLt.trans_eq N_0; change (j 0).val < 2 at this; show (j 0).val < 2; omega⟩ | ⟨1, _⟩ => ⟨64 * (32 - t.val) + (j 1).val, by have := (j 1).isLt; have ht : t.val < 33 := t.isLt.trans_eq N_0; change (j 1).val < 64 at this; show 64 * (32 - t.val) + (j 1).val < 2112; omega⟩ | ⟨2, _⟩ => ⟨(j 2).val + 3072, by have := (j 2).isLt; have ht : t.val < 33 := t.isLt.trans_eq N_0; change (j 2).val < 128 at this; show (j 2).val + 3072 < 6272; omega⟩ : S2x2112x6272.Idx) := by
  obtain ⟨h0, h1, h2⟩ := ix4 t
  have ht : t.val < 33 := t.isLt.trans_eq N_0
  have b0 : (j 0).val < 2 := (j 0).isLt
  have b1 : (j 1).val < 64 := (j 1).isLt
  have b2 : (j 2).val < 128 := (j 2).isLt
  rw [View.read_apply]
  show v main_v24 _ = v main_v24 _
  refine congrArg (v main_v24) ?_
  funext a
  apply Fin.ext
  match a with
  | ⟨0, _⟩ =>
    show win0_4.index t 0 * 2 + 1 * (j 0).val = (j 0).val
    rw [h0]; omega
  | ⟨1, _⟩ =>
    show win0_4.index t 1 * 64 + 1 * (j 1).val = 64 * (32 - t.val) + (j 1).val
    rw [h1]; omega
  | ⟨2, _⟩ =>
    show win0_4.index t 2 * 128 + 1 * (j 2).val = (j 2).val + 3072
    rw [h2]; omega
include A in
/-- The block of window 4 at a grid point. -/
theorem blk4 (t : Fin cfg0.N) : (iblk m c 4 t : Vec Ideal S2x64x128 .bf16) = mk3 (φ := .bf16) 2 64 128 (fun e => W4 I (32 - t.val) e) := by
  funext j
  unfold iblk
  exact (rd4 (fun b => V m c b) t j).trans (V_v24 A _)
theorem ix5 : ∀ t : Fin cfg0.N, win0_5.index t 0 = 0 ∧ win0_5.index t 1 = 32 - t.val ∧ win0_5.index t 2 = 0 ∧ win0_5.index t 3 = 0 := by decide +kernel
/-- Where window 5 reads its array. -/
theorem rd5 (v : (b : Ref sig .tc) → Buf (Elt Ideal) ((c : Thread nD τ).loc b)) (t : Fin cfg0.N) (j : S2x1x128x1024.Idx) :
    ((cfg0.win 5).blk t).view.read (Elt Ideal) (v (Pipeline.arrRef spec0 5)) j = v main_arg4 (fun a => match a with | ⟨0, _⟩ => ⟨(j 0).val, by have := (j 0).isLt; have ht : t.val < 33 := t.isLt.trans_eq N_0; change (j 0).val < 2 at this; show (j 0).val < 2; omega⟩ | ⟨1, _⟩ => ⟨32 - t.val, by have := (j 1).isLt; have ht : t.val < 33 := t.isLt.trans_eq N_0; change (j 1).val < 1 at this; show 32 - t.val < 33; omega⟩ | ⟨2, _⟩ => ⟨(j 2).val, by have := (j 2).isLt; have ht : t.val < 33 := t.isLt.trans_eq N_0; change (j 2).val < 128 at this; show (j 2).val < 128; omega⟩ | ⟨3, _⟩ => ⟨(j 3).val, by have := (j 3).isLt; have ht : t.val < 33 := t.isLt.trans_eq N_0; change (j 3).val < 1024 at this; show (j 3).val < 1024; omega⟩ : S2x33x128x1024.Idx) := by
  obtain ⟨h0, h1, h2, h3⟩ := ix5 t
  have ht : t.val < 33 := t.isLt.trans_eq N_0
  have b0 : (j 0).val < 2 := (j 0).isLt
  have b1 : (j 1).val < 1 := (j 1).isLt
  have b2 : (j 2).val < 128 := (j 2).isLt
  have b3 : (j 3).val < 1024 := (j 3).isLt
  rw [View.read_apply]
  show v main_arg4 _ = v main_arg4 _
  refine congrArg (v main_arg4) ?_
  funext a
  apply Fin.ext
  match a with
  | ⟨0, _⟩ =>
    show win0_5.index t 0 * 2 + 1 * (j 0).val = (j 0).val
    rw [h0]; omega
  | ⟨1, _⟩ =>
    show win0_5.index t 1 * 1 + 1 * (j 1).val = 32 - t.val
    rw [h1]; omega
  | ⟨2, _⟩ =>
    show win0_5.index t 2 * 128 + 1 * (j 2).val = (j 2).val
    rw [h2]; omega
  | ⟨3, _⟩ =>
    show win0_5.index t 3 * 1024 + 1 * (j 3).val = (j 3).val
    rw [h3]; omega
include A in
/-- The block of window 5 at a grid point. -/
theorem blk5 (t : Fin cfg0.N) : (iblk m c 5 t : Vec Ideal S2x1x128x1024 .bf16) = mk4 (φ := .bf16) 2 1 128 1024 (fun e _ => W5 I (32 - t.val) e) := by
  funext j
  unfold iblk
  exact (rd5 (fun b => V m c b) t j).trans ((congrFun (V_main_arg4 m c) _).trans (A.h4 _))
theorem ix6 : ∀ t : Fin cfg0.N, win0_6.index t 0 = 0 ∧ win0_6.index t 1 = 0 := by decide +kernel
/-- Where window 6 reads its array. -/
theorem rd6 (v : (b : Ref sig .tc) → Buf (Elt Ideal) ((c : Thread nD τ).loc b)) (t : Fin cfg0.N) (j : S1x128.Idx) :
    ((cfg0.win 6).blk t).view.read (Elt Ideal) (v (Pipeline.arrRef spec0 6)) j = v main_v19 (fun a => match a with | ⟨0, _⟩ => ⟨(j 0).val, by have := (j 0).isLt; have ht : t.val < 33 := t.isLt.trans_eq N_0; change (j 0).val < 1 at this; show (j 0).val < 1; omega⟩ | ⟨1, _⟩ => ⟨(j 1).val, by have := (j 1).isLt; have ht : t.val < 33 := t.isLt.trans_eq N_0; change (j 1).val < 128 at this; show (j 1).val < 128; omega⟩ : S1x128.Idx) := by
  obtain ⟨h0, h1⟩ := ix6 t
  have ht : t.val < 33 := t.isLt.trans_eq N_0
  have b0 : (j 0).val < 1 := (j 0).isLt
  have b1 : (j 1).val < 128 := (j 1).isLt
  rw [View.read_apply]
  show v main_v19 _ = v main_v19 _
  refine congrArg (v main_v19) ?_
  funext a
  apply Fin.ext
  match a with
  | ⟨0, _⟩ =>
    show win0_6.index t 0 * 1 + 1 * (j 0).val = (j 0).val
    rw [h0]; omega
  | ⟨1, _⟩ =>
    show win0_6.index t 1 * 128 + 1 * (j 1).val = (j 1).val
    rw [h1]; omega
include A in
/-- The block of window 6 at a grid point. -/
theorem blk6 (t : Fin cfg0.N) : (iblk m c 6 t : Vec Ideal S1x128 .f32) = mk2 (φ := .f32) 1 128 (D6 I) := by
  funext j
  unfold iblk
  exact (rd6 (fun b => V m c b) t j).trans (V_v19 A _)
theorem ix7 : ∀ t : Fin cfg0.N, win0_7.index t 0 = 0 ∧ win0_7.index t 1 = 0 := by decide +kernel
/-- Where window 7 reads its array. -/
theorem rd7 (v : (b : Ref sig .tc) → Buf (Elt Ideal) ((c : Thread nD τ).loc b)) (t : Fin cfg0.N) (j : S16x1.Idx) :
    ((cfg0.win 7).blk t).view.read (Elt Ideal) (v (Pipeline.arrRef spec0 7)) j = v main_v22 (fun a => match a with | ⟨0, _⟩ => ⟨(j 0).val, by have := (j 0).isLt; have ht : t.val < 33 := t.isLt.trans_eq N_0; change (j 0).val < 16 at this; show (j 0).val < 16; omega⟩ | ⟨1, _⟩ => ⟨(j 1).val, by have := (j 1).isLt; have ht : t.val < 33 := t.isLt.trans_eq N_0; change (j 1).val < 1 at this; show (j 1).val < 1; omega⟩ : S16x1.Idx) := by
  obtain ⟨h0, h1⟩ := ix7 t
  have ht : t.val < 33 := t.isLt.trans_eq N_0
  have b0 : (j 0).val < 16 := (j 0).isLt
  have b1 : (j 1).val < 1 := (j 1).isLt
  rw [View.read_apply]
  show v main_v22 _ = v main_v22 _
  refine congrArg (v main_v22) ?_
  funext a
  apply Fin.ext
  match a with
  | ⟨0, _⟩ =>
    show win0_7.index t 0 * 16 + 1 * (j 0).val = (j 0).val
    rw [h0]; omega
  | ⟨1, _⟩ =>
    show win0_7.index t 1 * 1 + 1 * (j 1).val = (j 1).val
    rw [h1]; omega
include A in
/-- The block of window 7 at a grid point. -/
theorem blk7 (t : Fin cfg0.N) : (iblk m c 7 t : Vec Ideal S16x1 .f32) = mk2 (φ := .f32) 16 1 (D7 I) := by
  funext j
  unfold iblk
  exact (rd7 (fun b => V m c b) t j).trans (V_v22 A _)
theorem ix8 : ∀ t : Fin cfg0.N, win0_8.index t 0 = 0 ∧ win0_8.index t 1 = 0 := by decide +kernel
/-- Where window 8 reads its array. -/
theorem rd8 (v : (b : Ref sig .tc) → Buf (Elt Ideal) ((c : Thread nD τ).loc b)) (t : Fin cfg0.N) (j : S1x128.Idx) :
    ((cfg0.win 8).blk t).view.read (Elt Ideal) (v (Pipeline.arrRef spec0 8)) j = v main_v21 (fun a => match a with | ⟨0, _⟩ => ⟨(j 0).val, by have := (j 0).isLt; have ht : t.val < 33 := t.isLt.trans_eq N_0; change (j 0).val < 1 at this; show (j 0).val < 1; omega⟩ | ⟨1, _⟩ => ⟨(j 1).val, by have := (j 1).isLt; have ht : t.val < 33 := t.isLt.trans_eq N_0; change (j 1).val < 128 at this; show (j 1).val < 128; omega⟩ : S1x128.Idx) := by
  obtain ⟨h0, h1⟩ := ix8 t
  have ht : t.val < 33 := t.isLt.trans_eq N_0
  have b0 : (j 0).val < 1 := (j 0).isLt
  have b1 : (j 1).val < 128 := (j 1).isLt
  rw [View.read_apply]
  show v main_v21 _ = v main_v21 _
  refine congrArg (v main_v21) ?_
  funext a
  apply Fin.ext
  match a with
  | ⟨0, _⟩ =>
    show win0_8.index t 0 * 1 + 1 * (j 0).val = (j 0).val
    rw [h0]; omega
  | ⟨1, _⟩ =>
    show win0_8.index t 1 * 128 + 1 * (j 1).val = (j 1).val
    rw [h1]; omega
include A in
/-- The block of window 8 at a grid point. -/
theorem blk8 (t : Fin cfg0.N) : (iblk m c 8 t : Vec Ideal S1x128 .f32) = mk2 (φ := .f32) 1 128 (D8 I) := by
  funext j
  unfold iblk
  exact (rd8 (fun b => V m c b) t j).trans (V_v21 A _)
theorem ix9 : ∀ t : Fin cfg0.N, win0_9.index t 0 = 0 ∧ win0_9.index t 1 = 0 := by decide +kernel
/-- Where window 9 reads its array. -/
theorem rd9 (v : (b : Ref sig .tc) → Buf (Elt Ideal) ((c : Thread nD τ).loc b)) (t : Fin cfg0.N) (j : S16x1.Idx) :
    ((cfg0.win 9).blk t).view.read (Elt Ideal) (v (Pipeline.arrRef spec0 9)) j = v main_v23 (fun a => match a with | ⟨0, _⟩ => ⟨(j 0).val, by have := (j 0).isLt; have ht : t.val < 33 := t.isLt.trans_eq N_0; change (j 0).val < 16 at this; show (j 0).val < 16; omega⟩ | ⟨1, _⟩ => ⟨(j 1).val, by have := (j 1).isLt; have ht : t.val < 33 := t.isLt.trans_eq N_0; change (j 1).val < 1 at this; show (j 1).val < 1; omega⟩ : S16x1.Idx) := by
  obtain ⟨h0, h1⟩ := ix9 t
  have ht : t.val < 33 := t.isLt.trans_eq N_0
  have b0 : (j 0).val < 16 := (j 0).isLt
  have b1 : (j 1).val < 1 := (j 1).isLt
  rw [View.read_apply]
  show v main_v23 _ = v main_v23 _
  refine congrArg (v main_v23) ?_
  funext a
  apply Fin.ext
  match a with
  | ⟨0, _⟩ =>
    show win0_9.index t 0 * 16 + 1 * (j 0).val = (j 0).val
    rw [h0]; omega
  | ⟨1, _⟩ =>
    show win0_9.index t 1 * 1 + 1 * (j 1).val = (j 1).val
    rw [h1]; omega
include A in
/-- The block of window 9 at a grid point. -/
theorem blk9 (t : Fin cfg0.N) : (iblk m c 9 t : Vec Ideal S16x1 .f32) = mk2 (φ := .f32) 16 1 (D9 I) := by
  funext j
  unfold iblk
  exact (rd9 (fun b => V m c b) t j).trans (V_v23 A _)
theorem ix10 : ∀ t : Fin cfg0.N, win0_10.index t 0 = 0 ∧ win0_10.index t 1 = 0 := by decide +kernel
/-- Where window 10 reads its array. -/
theorem rd10 (v : (b : Ref sig .tc) → Buf (Elt Ideal) ((c : Thread nD τ).loc b)) (t : Fin cfg0.N) (j : S1x1024.Idx) :
    ((cfg0.win 10).blk t).view.read (Elt Ideal) (v (Pipeline.arrRef spec0 10)) j = v main_v7 (fun a => match a with | ⟨0, _⟩ => ⟨(j 0).val, by have := (j 0).isLt; have ht : t.val < 33 := t.isLt.trans_eq N_0; change (j 0).val < 1 at this; show (j 0).val < 1; omega⟩ | ⟨1, _⟩ => ⟨(j 1).val, by have := (j 1).isLt; have ht : t.val < 33 := t.isLt.trans_eq N_0; change (j 1).val < 1024 at this; show (j 1).val < 1024; omega⟩ : S1x1024.Idx) := by
  obtain ⟨h0, h1⟩ := ix10 t
  have ht : t.val < 33 := t.isLt.trans_eq N_0
  have b0 : (j 0).val < 1 := (j 0).isLt
  have b1 : (j 1).val < 1024 := (j 1).isLt
  rw [View.read_apply]
  show v main_v7 _ = v main_v7 _
  refine congrArg (v main_v7) ?_
  funext a
  apply Fin.ext
  match a with
  | ⟨0, _⟩ =>
    show win0_10.index t 0 * 1 + 1 * (j 0).val = (j 0).val
    rw [h0]; omega
  | ⟨1, _⟩ =>
    show win0_10.index t 1 * 1024 + 1 * (j 1).val = (j 1).val
    rw [h1]; omega
include A in
/-- The block of window 10 at a grid point. -/
theorem blk10 (t : Fin cfg0.N) : (iblk m c 10 t : Vec Ideal S1x1024 .f32) = mk2 (φ := .f32) 1 1024 (D10 I) := by
  funext j
  unfold iblk
  exact (rd10 (fun b => V m c b) t j).trans (V_v7 A _)
theorem ix11 : ∀ t : Fin cfg0.N, win0_11.index t 0 = 0 ∧ win0_11.index t 1 = 0 := by decide +kernel
/-- Where window 11 reads its array. -/
theorem rd11 (v : (b : Ref sig .tc) → Buf (Elt Ideal) ((c : Thread nD τ).loc b)) (t : Fin cfg0.N) (j : S1x1024.Idx) :
    ((cfg0.win 11).blk t).view.read (Elt Ideal) (v (Pipeline.arrRef spec0 11)) j = v main_v16 (fun a => match a with | ⟨0, _⟩ => ⟨(j 0).val, by have := (j 0).isLt; have ht : t.val < 33 := t.isLt.trans_eq N_0; change (j 0).val < 1 at this; show (j 0).val < 1; omega⟩ | ⟨1, _⟩ => ⟨(j 1).val, by have := (j 1).isLt; have ht : t.val < 33 := t.isLt.trans_eq N_0; change (j 1).val < 1024 at this; show (j 1).val < 1024; omega⟩ : S1x1024.Idx) := by
  obtain ⟨h0, h1⟩ := ix11 t
  have ht : t.val < 33 := t.isLt.trans_eq N_0
  have b0 : (j 0).val < 1 := (j 0).isLt
  have b1 : (j 1).val < 1024 := (j 1).isLt
  rw [View.read_apply]
  show v main_v16 _ = v main_v16 _
  refine congrArg (v main_v16) ?_
  funext a
  apply Fin.ext
  match a with
  | ⟨0, _⟩ =>
    show win0_11.index t 0 * 1 + 1 * (j 0).val = (j 0).val
    rw [h0]; omega
  | ⟨1, _⟩ =>
    show win0_11.index t 1 * 1024 + 1 * (j 1).val = (j 1).val
    rw [h1]; omega
include A in
/-- The block of window 11 at a grid point. -/
theorem blk11 (t : Fin cfg0.N) : (iblk m c 11 t : Vec Ideal S1x1024 .f32) = mk2 (φ := .f32) 1 1024 (D11 I) := by
  funext j
  unfold iblk
  exact (rd11 (fun b => V m c b) t j).trans (V_v16 A _)
theorem ix12 : ∀ t : Fin cfg0.N, win0_12.index t 0 = 0 ∧ win0_12.index t 1 = 0 := by decide +kernel
/-- Where window 12 reads its array. -/
theorem rd12 (v : (b : Ref sig .tc) → Buf (Elt Ideal) ((c : Thread nD τ).loc b)) (t : Fin cfg0.N) (j : S128x1024.Idx) :
    ((cfg0.win 12).blk t).view.read (Elt Ideal) (v (Pipeline.arrRef spec0 12)) j = v main_v4 (fun a => match a with | ⟨0, _⟩ => ⟨(j 0).val, by have := (j 0).isLt; have ht : t.val < 33 := t.isLt.trans_eq N_0; change (j 0).val < 128 at this; show (j 0).val < 128; omega⟩ | ⟨1, _⟩ => ⟨(j 1).val, by have := (j 1).isLt; have ht : t.val < 33 := t.isLt.trans_eq N_0; change (j 1).val < 1024 at this; show (j 1).val < 1024; omega⟩ : S128x1024.Idx) := by
  obtain ⟨h0, h1⟩ := ix12 t
  have ht : t.val < 33 := t.isLt.trans_eq N_0
  have b0 : (j 0).val < 128 := (j 0).isLt
  have b1 : (j 1).val < 1024 := (j 1).isLt
  rw [View.read_apply]
  show v main_v4 _ = v main_v4 _
  refine congrArg (v main_v4) ?_
  funext a
  apply Fin.ext
  match a with
  | ⟨0, _⟩ =>
    show win0_12.index t 0 * 128 + 1 * (j 0).val = (j 0).val
    rw [h0]; omega
  | ⟨1, _⟩ =>
    show win0_12.index t 1 * 1024 + 1 * (j 1).val = (j 1).val
    rw [h1]; omega
/-- The block of window 12 at a grid point. -/
theorem blk12 (t : Fin cfg0.N) : (iblk m c 12 t : Vec Ideal S128x1024 .bf16) = mk2 (φ := .bf16) 128 1024 e01 := by
  funext j
  unfold iblk
  exact (rd12 (fun b => V m c b) t j).trans (V_v4 (m := m) (c := c) _)
theorem ix13 : ∀ t : Fin cfg0.N, win0_13.index t 0 = 0 ∧ win0_13.index t 1 = 0 := by decide +kernel
/-- Where window 13 reads its array. -/
theorem rd13 (v : (b : Ref sig .tc) → Buf (Elt Ideal) ((c : Thread nD τ).loc b)) (t : Fin cfg0.N) (j : S1024x128.Idx) :
    ((cfg0.win 13).blk t).view.read (Elt Ideal) (v (Pipeline.arrRef spec0 13)) j = v main_v17 (fun a => match a with | ⟨0, _⟩ => ⟨(j 0).val, by have := (j 0).isLt; have ht : t.val < 33 := t.isLt.trans_eq N_0; change (j 0).val < 1024 at this; show (j 0).val < 1024; omega⟩ | ⟨1, _⟩ => ⟨(j 1).val, by have := (j 1).isLt; have ht : t.val < 33 := t.isLt.trans_eq N_0; change (j 1).val < 128 at this; show (j 1).val < 128; omega⟩ : S1024x128.Idx) := by
  obtain ⟨h0, h1⟩ := ix13 t
  have ht : t.val < 33 := t.isLt.trans_eq N_0
  have b0 : (j 0).val < 1024 := (j 0).isLt
  have b1 : (j 1).val < 128 := (j 1).isLt
  rw [View.read_apply]
  show v main_v17 _ = v main_v17 _
  refine congrArg (v main_v17) ?_
  funext a
  apply Fin.ext
  match a with
  | ⟨0, _⟩ =>
    show win0_13.index t 0 * 1024 + 1 * (j 0).val = (j 0).val
    rw [h0]; omega
  | ⟨1, _⟩ =>
    show win0_13.index t 1 * 128 + 1 * (j 1).val = (j 1).val
    rw [h1]; omega
/-- The block of window 13 at a grid point. -/
theorem blk13 (t : Fin cfg0.N) : (iblk m c 13 t : Vec Ideal S1024x128 .bf16) = mk2 (φ := .bf16) 1024 128 et01 := by
  funext j
  unfold iblk
  exact (rd13 (fun b => V m c b) t j).trans (V_v17 (m := m) (c := c) _)

end Cert.Ssd
end
-- ==== Proof.SsdRunA.lean ====
module

public import proofs.«01_k».proof.Proof.Gen.KernelIdeal.Value
public import proofs.«01_k».proof.Proof.SsdNf

@[expose] public section
set_option maxRecDepth 16384
noncomputable section
namespace Cert.Ssd
open Cert.KernelIdeal Cert.KernelIdeal.Gen Cert.KernelIdeal.Value Idealize.ShloMosaic Idealize.ShloMosaic.TcCoe Idealize.SL.Sem
theorem ldA_v147 (c : Dev nD) (arg3 : Memref sig .tc .vmem S2x64x1536 .bf16) (harg3 : arg3.IsWhole) (f : ℕ → M2) (inb : ∀ a, (![0, 0] : Fin 2 → Nat) a + S64x1024.size a ≤ S64x1536.size a) (h) :
    (LoadRect.valAlong (lr := (Rect.unit (s := S64x1536) ![0, 0] (Shape.size S64x1024) inb).toLoadRect) h (kernelRun0_A.sl.v147 (F := Ideal) c arg3 harg3 (mk3 (φ := .bf16) 2 64 1536 f)) : FVec Ideal S64x1024 .bf16) = mk2 (φ := .bf16) 64 1024 (sh 0 0 (f 0)) := by
  unfold kernelRun0_A.sl.v147
  funext i
  refine (congrArg (fun z => View.readAt _ _ _ _ z) (Shape.reshapeEquiv_cons_one h i)).trans ?_
  refine (congrFun (harg3.read_unread _) _).trans ?_
  show ((f (0 + 0 + 1 * 0) (0 + 0 + 1 * (i 0).val) (0 + 0 + 1 * (i 1).val) : ℝ) : EReal) = ((f 0 (0 + (i 0).val) (0 + (i 1).val) : ℝ) : EReal)
  simp
theorem ldA_v152 (c : Dev nD) (arg3 : Memref sig .tc .vmem S2x64x1536 .bf16) (harg3 : arg3.IsWhole) (f : ℕ → M2) (inb : ∀ a, (![0, 1024] : Fin 2 → Nat) a + S64x256.size a ≤ S64x1536.size a) (h) :
    (LoadRect.valAlong (lr := (Rect.unit (s := S64x1536) ![0, 1024] (Shape.size S64x256) inb).toLoadRect) h (kernelRun0_A.sl.v152 (F := Ideal) c arg3 harg3 (mk3 (φ := .bf16) 2 64 1536 f)) : FVec Ideal S64x256 .bf16) = mk2 (φ := .bf16) 64 256 (sh 0 1024 (f 0)) := by
  unfold kernelRun0_A.sl.v152
  funext i
  refine (congrArg (fun z => View.readAt _ _ _ _ z) (Shape.reshapeEquiv_cons_one h i)).trans ?_
  refine (congrFun (harg3.read_unread _) _).trans ?_
  show ((f (0 + 0 + 1 * 0) (0 + 0 + 1 * (i 0).val) (0 + 1024 + 1 * (i 1).val) : ℝ) : EReal) = ((f 0 (0 + (i 0).val) (1024 + (i 1).val) : ℝ) : EReal)
  simp
theorem ldA_v156 (c : Dev nD) (arg3 : Memref sig .tc .vmem S2x64x1536 .bf16) (harg3 : arg3.IsWhole) (f : ℕ → M2) (inb : ∀ a, (![0, 1280] : Fin 2 → Nat) a + S64x256.size a ≤ S64x1536.size a) (h) :
    (LoadRect.valAlong (lr := (Rect.unit (s := S64x1536) ![0, 1280] (Shape.size S64x256) inb).toLoadRect) h (kernelRun0_A.sl.v156 (F := Ideal) c arg3 harg3 (mk3 (φ := .bf16) 2 64 1536 f)) : FVec Ideal S64x256 .bf16) = mk2 (φ := .bf16) 64 256 (sh 0 1280 (f 0)) := by
  unfold kernelRun0_A.sl.v156
  funext i
  refine (congrArg (fun z => View.readAt _ _ _ _ z) (Shape.reshapeEquiv_cons_one h i)).trans ?_
  refine (congrFun (harg3.read_unread _) _).trans ?_
  show ((f (0 + 0 + 1 * 0) (0 + 0 + 1 * (i 0).val) (0 + 1280 + 1 * (i 1).val) : ℝ) : EReal) = ((f 0 (0 + (i 0).val) (1280 + (i 1).val) : ℝ) : EReal)
  simp
theorem ldA_v451 (c : Dev nD) (arg3 : Memref sig .tc .vmem S2x64x1536 .bf16) (harg3 : arg3.IsWhole) (f : ℕ → M2) (inb : ∀ a, (![0, 0] : Fin 2 → Nat) a + S64x1024.size a ≤ S64x1536.size a) (h) :
    (LoadRect.valAlong (lr := (Rect.unit (s := S64x1536) ![0, 0] (Shape.size S64x1024) inb).toLoadRect) h (kernelRun0_A.sl.v451 (F := Ideal) c arg3 harg3 (mk3 (φ := .bf16) 2 64 1536 f)) : FVec Ideal S64x1024 .bf16) = mk2 (φ := .bf16) 64 1024 (sh 0 0 (f 1)) := by
  unfold kernelRun0_A.sl.v451
  funext i
  refine (congrArg (fun z => View.readAt _ _ _ _ z) (Shape.reshapeEquiv_cons_one h i)).trans ?_
  refine (congrFun (harg3.read_unread _) _).trans ?_
  show ((f (1 + 0 + 1 * 0) (0 + 0 + 1 * (i 0).val) (0 + 0 + 1 * (i 1).val) : ℝ) : EReal) = ((f 1 (0 + (i 0).val) (0 + (i 1).val) : ℝ) : EReal)
  simp
theorem ldA_v456 (c : Dev nD) (arg3 : Memref sig .tc .vmem S2x64x1536 .bf16) (harg3 : arg3.IsWhole) (f : ℕ → M2) (inb : ∀ a, (![0, 1024] : Fin 2 → Nat) a + S64x256.size a ≤ S64x1536.size a) (h) :
    (LoadRect.valAlong (lr := (Rect.unit (s := S64x1536) ![0, 1024] (Shape.size S64x256) inb).toLoadRect) h (kernelRun0_A.sl.v456 (F := Ideal) c arg3 harg3 (mk3 (φ := .bf16) 2 64 1536 f)) : FVec Ideal S64x256 .bf16) = mk2 (φ := .bf16) 64 256 (sh 0 1024 (f 1)) := by
  unfold kernelRun0_A.sl.v456
  funext i
  refine (congrArg (fun z => View.readAt _ _ _ _ z) (Shape.reshapeEquiv_cons_one h i)).trans ?_
  refine (congrFun (harg3.read_unread _) _).trans ?_
  show ((f (1 + 0 + 1 * 0) (0 + 0 + 1 * (i 0).val) (0 + 1024 + 1 * (i 1).val) : ℝ) : EReal) = ((f 1 (0 + (i 0).val) (1024 + (i 1).val) : ℝ) : EReal)
  simp
theorem ldA_v460 (c : Dev nD) (arg3 : Memref sig .tc .vmem S2x64x1536 .bf16) (harg3 : arg3.IsWhole) (f : ℕ → M2) (inb : ∀ a, (![0, 1280] : Fin 2 → Nat) a + S64x256.size a ≤ S64x1536.size a) (h) :
    (LoadRect.valAlong (lr := (Rect.unit (s := S64x1536) ![0, 1280] (Shape.size S64x256) inb).toLoadRect) h (kernelRun0_A.sl.v460 (F := Ideal) c arg3 harg3 (mk3 (φ := .bf16) 2 64 1536 f)) : FVec Ideal S64x256 .bf16) = mk2 (φ := .bf16) 64 256 (sh 0 1280 (f 1)) := by
  unfold kernelRun0_A.sl.v460
  funext i
  refine (congrArg (fun z => View.readAt _ _ _ _ z) (Shape.reshapeEquiv_cons_one h i)).trans ?_
  refine (congrFun (harg3.read_unread _) _).trans ?_
  show ((f (1 + 0 + 1 * 0) (0 + 0 + 1 * (i 0).val) (0 + 1280 + 1 * (i 1).val) : ℝ) : EReal) = ((f 1 (0 + (i 0).val) (1280 + (i 1).val) : ℝ) : EReal)
  simp
theorem rA_20 (c : Dev nD) (arg3 : Memref sig .tc .vmem S2x64x1536 .bf16) (harg3 : arg3.IsWhole) (f : ℕ → M2) : kernelRun0_A.sl.r_20 (F := Ideal) c arg3 harg3 (mk3 (φ := .bf16) 2 64 1536 f) = k0_pay31 (mk2 (φ := .bf16) 64 1024 (sh 0 0 (f 0))) :=
  congrArg k0_pay31 (ldA_v147 c arg3 harg3 f _ _)
theorem rA_21 (c : Dev nD) (arg3 : Memref sig .tc .vmem S2x64x1536 .bf16) (harg3 : arg3.IsWhole) (f : ℕ → M2) : kernelRun0_A.sl.r_21 (F := Ideal) c arg3 harg3 (mk3 (φ := .bf16) 2 64 1536 f) = k0_pay32 (mk2 (φ := .bf16) 64 256 (sh 0 1024 (f 0))) :=
  congrArg k0_pay32 (ldA_v152 c arg3 harg3 f _ _)
theorem rA_22 (c : Dev nD) (arg3 : Memref sig .tc .vmem S2x64x1536 .bf16) (harg3 : arg3.IsWhole) (f : ℕ → M2) : kernelRun0_A.sl.r_22 (F := Ideal) c arg3 harg3 (mk3 (φ := .bf16) 2 64 1536 f) = k0_pay33 (mk2 (φ := .bf16) 64 256 (sh 0 1280 (f 0))) :=
  congrArg k0_pay33 (ldA_v156 c arg3 harg3 f _ _)
theorem rA_78 (c : Dev nD) (arg3 : Memref sig .tc .vmem S2x64x1536 .bf16) (harg3 : arg3.IsWhole) (f : ℕ → M2) : kernelRun0_A.sl.r_78 (F := Ideal) c arg3 harg3 (mk3 (φ := .bf16) 2 64 1536 f) = k0_pay105 (mk2 (φ := .bf16) 64 256 (sh 0 1024 (f 1))) :=
  congrArg k0_pay105 (ldA_v456 c arg3 harg3 f _ _)
theorem rA_79 (c : Dev nD) (arg3 : Memref sig .tc .vmem S2x64x1536 .bf16) (harg3 : arg3.IsWhole) (f : ℕ → M2) : kernelRun0_A.sl.r_79 (F := Ideal) c arg3 harg3 (mk3 (φ := .bf16) 2 64 1536 f) = k0_pay106 (mk2 (φ := .bf16) 64 256 (sh 0 1280 (f 1))) :=
  congrArg k0_pay106 (ldA_v460 c arg3 harg3 f _ _)
theorem rA_76 (c : Dev nD) (arg3 : Memref sig .tc .vmem S2x64x1536 .bf16) (harg3 : arg3.IsWhole) (f : ℕ → M2) : kernelRun0_A.sl.r_76 (F := Ideal) c arg3 harg3 (mk3 (φ := .bf16) 2 64 1536 f) = mk2 (φ := .bf16) 64 1024 (sh 0 0 (f 1)) :=
  ldA_v451 c arg3 harg3 f _ _
theorem rA_23 (c : Dev nD) (i : grid0.Coords) (arg3 : Memref sig .tc .vmem S2x64x1536 .bf16) (harg3 : arg3.IsWhole) (arg5 : Memref sig .tc .vmem S2x64x128 .bf16) (harg5 : arg5.IsWhole) (arg7 : Memref sig .tc .vmem S1x128 .f32) (harg7 : arg7.IsWhole) (arg9 : Memref sig .tc .vmem S1x128 .f32) (harg9 : arg9.IsWhole) (arg13 : Memref sig .tc .vmem S128x1024 .bf16) (harg13 : arg13.IsWhole) (f : ℕ → M2) (x4 : Vec Ideal S2x64x128 .bf16) (x6 x8 : Vec Ideal S1x128 .f32) (x12 : Vec Ideal S128x1024 .bf16) : kernelRun0_A.sl.r_23 (F := Ideal) c i arg3 harg3 arg5 harg5 arg7 harg7 arg9 harg9 arg13 harg13 (mk3 (φ := .bf16) 2 64 1536 f) x4 x6 x8 x12 = k0_pay34 (kernelRun0_A.sl.r_15 (F := Ideal) c i arg5 harg5 arg7 harg7 arg9 harg9 arg13 harg13 x4 x6 x8 x12) (mk2 (φ := .bf16) 64 1024 (sh 0 0 (f 0))) :=
  congrArg (k0_pay34 _) (ldA_v147 c arg3 harg3 f _ _)
theorem rA_24 (c : Dev nD) (i : grid0.Coords) (arg3 : Memref sig .tc .vmem S2x64x1536 .bf16) (harg3 : arg3.IsWhole) (arg5 : Memref sig .tc .vmem S2x64x128 .bf16) (harg5 : arg5.IsWhole) (arg7 : Memref sig .tc .vmem S1x128 .f32) (harg7 : arg7.IsWhole) (arg9 : Memref sig .tc .vmem S1x128 .f32) (harg9 : arg9.IsWhole) (arg13 : Memref sig .tc .vmem S128x1024 .bf16) (harg13 : arg13.IsWhole) (f : ℕ → M2) (x4 : Vec Ideal S2x64x128 .bf16) (x6 x8 : Vec Ideal S1x128 .f32) (x12 : Vec Ideal S128x1024 .bf16) : kernelRun0_A.sl.r_24 (F := Ideal) c i arg3 harg3 arg5 harg5 arg7 harg7 arg9 harg9 arg13 harg13 (mk3 (φ := .bf16) 2 64 1536 f) x4 x6 x8 x12 = k0_pay35 (kernelRun0_A.sl.r_15 (F := Ideal) c i arg5 harg5 arg7 harg7 arg9 harg9 arg13 harg13 x4 x6 x8 x12) (mk2 (φ := .bf16) 64 1024 (sh 0 0 (f 0))) :=
  congrArg (k0_pay35 _) (ldA_v147 c arg3 harg3 f _ _)
theorem rA_v162 (c : Dev nD) (arg21 : Memref sig .tc .vmem S128x512 .f32) : kernelRun0_A.sl.v162 (F := Ideal) c arg21 = (mk2 (φ := .f32) 128 512 zz : FVec Ideal S128x512 .f32) := by
  unfold kernelRun0_A.sl.v162 kernelRun0_A.sl.HS0_1
  exact (View.readCov_unit_lit _ _ _ (by decide)).trans zero_mk
theorem rA_v163 (c : Dev nD) (arg22 : Memref sig .tc .vmem S128x512 .f32) : kernelRun0_A.sl.v163 (F := Ideal) c arg22 = (mk2 (φ := .f32) 128 512 zz : FVec Ideal S128x512 .f32) := by
  unfold kernelRun0_A.sl.v163 kernelRun0_A.sl.HS1_1
  exact (View.readCov_unit_lit _ _ _ (by decide)).trans zero_mk
theorem rA_v466 (c : Dev nD) (arg23 : Memref sig .tc .vmem S128x512 .f32) : kernelRun0_A.sl.v466 (F := Ideal) c arg23 = (mk2 (φ := .f32) 128 512 zz : FVec Ideal S128x512 .f32) := by
  unfold kernelRun0_A.sl.v466 kernelRun0_A.sl.HS2_1
  exact (View.readCov_unit_lit _ _ _ (by decide)).trans zero_mk
theorem rA_v467 (c : Dev nD) (arg24 : Memref sig .tc .vmem S128x512 .f32) : kernelRun0_A.sl.v467 (F := Ideal) c arg24 = (mk2 (φ := .f32) 128 512 zz : FVec Ideal S128x512 .f32) := by
  unfold kernelRun0_A.sl.v467 kernelRun0_A.sl.HS3_1
  exact (View.readCov_unit_lit _ _ _ (by decide)).trans zero_mk
theorem rA_v2586 (c : Dev nD) (arg17 : Memref sig .tc .vmem S1x1024 .f32) : kernelRun0_A.sl.v2586 (F := Ideal) c arg17 = (mk2 (φ := .f32) 1 1024 zz : FVec Ideal S1x1024 .f32) := by
  unfold kernelRun0_A.sl.v2586 kernelRun0_A.sl.H16_1
  exact (View.readCov_unit_lit _ _ _ (by decide)).trans zero_mk
theorem rA_v2591 (c : Dev nD) (arg18 : Memref sig .tc .vmem S1x128 .f32) : kernelRun0_A.sl.v2591 (F := Ideal) c arg18 = (mk2 (φ := .f32) 1 128 zz : FVec Ideal S1x128 .f32) := by
  unfold kernelRun0_A.sl.v2591 kernelRun0_A.sl.H17_1
  exact (View.readCov_unit_lit _ _ _ (by decide)).trans zero_mk
theorem rA_v2596 (c : Dev nD) (arg19 : Memref sig .tc .vmem S1x128 .f32) : kernelRun0_A.sl.v2596 (F := Ideal) c arg19 = (mk2 (φ := .f32) 1 128 zz : FVec Ideal S1x128 .f32) := by
  unfold kernelRun0_A.sl.v2596 kernelRun0_A.sl.H18_1
  exact (View.readCov_unit_lit _ _ _ (by decide)).trans zero_mk
theorem rA_v2601 (c : Dev nD) (arg20 : Memref sig .tc .vmem S1x128 .f32) : kernelRun0_A.sl.v2601 (F := Ideal) c arg20 = (mk2 (φ := .f32) 1 128 zz : FVec Ideal S1x128 .f32) := by
  unfold kernelRun0_A.sl.v2601 kernelRun0_A.sl.H19_1
  exact (View.readCov_unit_lit _ _ _ (by decide)).trans zero_mk
set_option maxHeartbeats 8000000
attribute [local congr] cat_congr2 cat_congr3 cat_congr4 cat_congr5 cat_congr8

open kernelRun0_A in
/-- The first point of the grid: the six results' blocks and the four state gradients, from the windows. -/
theorem runA  (c : Dev nD) (i : grid0.Coords) (arg1 : Memref sig .tc .vmem S2x64x1024 .bf16) (harg1 : arg1.IsWhole) (arg2 : Memref sig .tc .vmem S2x64x1024 .bf16) (harg2 : arg2.IsWhole) (arg3 : Memref sig .tc .vmem S2x64x1536 .bf16) (harg3 : arg3.IsWhole) (arg4 : Memref sig .tc .vmem S2x64x1024 .bf16) (harg4 : arg4.IsWhole) (arg5 : Memref sig .tc .vmem S2x64x128 .bf16) (harg5 : arg5.IsWhole) (arg6 : Memref sig .tc .vmem S2x1x128x1024 .bf16) (harg6 : arg6.IsWhole) (arg7 : Memref sig .tc .vmem S1x128 .f32) (harg7 : arg7.IsWhole) (arg8 : Memref sig .tc .vmem S16x1 .f32) (harg8 : arg8.IsWhole) (arg9 : Memref sig .tc .vmem S1x128 .f32) (harg9 : arg9.IsWhole) (arg10 : Memref sig .tc .vmem S16x1 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S1024x128 .bf16) (harg14 : arg14.IsWhole) (arg15 : Memref sig .tc .vmem S2x64x1536 .bf16) (harg15 : arg15.IsWhole) (arg16 : Memref sig .tc .vmem S2x64x1152 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x512 .f32) (harg21 : arg21.IsWhole) (arg22 : Memref sig .tc .vmem S128x512 .f32) (harg22 : arg22.IsWhole) (arg23 : Memref sig .tc .vmem S128x512 .f32) (harg23 : arg23.IsWhole) (arg24 : Memref sig .tc .vmem S128x512 .f32) (harg24 : arg24.IsWhole) (hc0 : cond0_0 i)
    (x0 : Vec Ideal S2x64x1024 .bf16) (x1 : Vec Ideal S2x64x1024 .bf16) (x2 : Vec Ideal S2x64x1536 .bf16) (x3 : Vec Ideal S2x64x1024 .bf16) (x4 : Vec Ideal S2x64x128 .bf16) (x5 : Vec Ideal S2x1x128x1024 .bf16) (x6 : Vec Ideal S1x128 .f32) (x7 : Vec Ideal S16x1 .f32) (x8 : Vec Ideal S1x128 .f32) (x9 : Vec Ideal S16x1 .f32) (x10 : Vec Ideal S1x1024 .f32) (x11 : Vec Ideal S1x1024 .f32) (x12 : Vec Ideal S128x1024 .bf16) (x13 : Vec Ideal S1024x128 .bf16) (X0 X1 X2 X3 X4 : ℕ → M2) (X5 : ℕ → ℕ → M2) (X6 X7 X8 X9 X10 X11 : M2) (h_x0 : x0 = (mk3 (φ := .bf16) 2 64 1024 X0)) (h_x1 : x1 = (mk3 (φ := .bf16) 2 64 1024 X1)) (h_x2 : x2 = (mk3 (φ := .bf16) 2 64 1536 X2)) (h_x3 : x3 = (mk3 (φ := .bf16) 2 64 1024 X3)) (h_x4 : x4 = (mk3 (φ := .bf16) 2 64 128 X4)) (h_x5 : x5 = (mk4 (φ := .bf16) 2 1 128 1024 X5)) (h_x6 : x6 = (mk2 (φ := .f32) 1 128 X6)) (h_x7 : x7 = (mk2 (φ := .f32) 16 1 X7)) (h_x8 : x8 = (mk2 (φ := .f32) 1 128 X8)) (h_x9 : x9 = (mk2 (φ := .f32) 16 1 X9)) (h_x10 : x10 = (mk2 (φ := .f32) 1 1024 X10)) (h_x11 : x11 = (mk2 (φ := .f32) 1 1024 X11)) (h_x12 : x12 = (mk2 (φ := .bf16) 128 1024 e01)) (h_x13 : x13 = (mk2 (φ := .bf16) 1024 128 et01)) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = mk3 (φ := .bf16) 2 64 1536 (fun e => dxbcF (decide ((i 0).val < 32)) (X0 e) (X1 e) (X2 e) (X3 e) (X4 e) (X5 e 0) X6 X7 X8 X9 X10 X11 zz zz) ∧
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = mk3 (φ := .bf16) 2 64 1152 (fun e => catC 1024 ((fun e => dbzF (X0 e) (X1 e) (X3 e) X11) e) ((fun e => ddtF (decide ((i 0).val < 32)) (X0 e) (X1 e) (X2 e) (X3 e) (X4 e) (X5 e 0) X6 X7 X8 X9 X11 zz zz) e)) ∧
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = mk2 (φ := .f32) 1 1024 (zz + (sumR 64 (dgF (X0 0) (X1 0) (X3 0)) + sumR 64 (dgF (X0 1) (X1 1) (X3 1)))) ∧
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = mk2 (φ := .f32) 1 128 (zz + (sumR 64 (ddtF (decide ((i 0).val < 32)) (X0 0) (X1 0) (X2 0) (X3 0) (X4 0) (X5 0 0) X6 X7 X8 X9 X11 zz zz) + sumR 64 (ddtF (decide ((i 0).val < 32)) (X0 1) (X1 1) (X2 1) (X3 1) (X4 1) (X5 1 0) X6 X7 X8 X9 X11 zz zz))) ∧
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = mk2 (φ := .f32) 1 128 (zz + (sumR 64 (dalF (decide ((i 0).val < 32)) (X0 0) (X1 0) (X2 0) (X3 0) (X4 0) (X5 0 0) X6 X7 X8 X9 X11 zz zz) + sumR 64 (dalF (decide ((i 0).val < 32)) (X0 1) (X1 1) (X2 1) (X3 1) (X4 1) (X5 1 0) X6 X7 X8 X9 X11 zz zz))) ∧
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = mk2 (φ := .f32) 1 128 (zz + (ddF (X0 0) (X1 0) (X2 0) (X3 0) X11 + ddF (X0 1) (X1 1) (X2 1) (X3 1) X11)) ∧
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = mk2 (φ := .f32) 128 512 (sAF (decide ((i 0).val < 32)) (X0 0) (X1 0) (X2 0) (X3 0) (X4 0) X6 X8 X11 zz) ∧
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = mk2 (φ := .f32) 128 512 (sBF (decide ((i 0).val < 32)) (X0 0) (X1 0) (X2 0) (X3 0) (X4 0) X6 X8 X11 zz) ∧
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = mk2 (φ := .f32) 128 512 (sAF (decide ((i 0).val < 32)) (X0 1) (X1 1) (X2 1) (X3 1) (X4 1) X6 X8 X11 zz) ∧
    sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = mk2 (φ := .f32) 128 512 (sBF (decide ((i 0).val < 32)) (X0 1) (X1 1) (X2 1) (X3 1) (X4 1) X6 X8 X11 zz) := by
  refine ⟨?_, ?_, ?_, ?_, ?_, ?_, ?_, ?_, ?_, ?_⟩
  on_goal 1 => refine (show out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = _ from View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)).trans ?_
  on_goal 2 => refine (show out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = _ from View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)).trans ?_
  on_goal 3 => refine (show out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = _ from View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)).trans ?_
  on_goal 4 => refine (show out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = _ from View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)).trans ?_
  on_goal 5 => refine (show out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = _ from View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)).trans ?_
  on_goal 6 => refine (show out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = _ from View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)).trans ?_
  on_goal 7 => refine (show sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = _ from View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)).trans ?_
  on_goal 8 => refine (show sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = _ from View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)).trans ?_
  on_goal 9 => refine (show sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = _ from View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)).trans ?_
  on_goal 10 => refine (show sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 = _ from View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13)).trans ?_
  all_goals unfold kernelRun0_A
  all_goals dsimp only
  all_goals simp -implicitDefEqProofs only [h_x0, h_x1, h_x2, h_x3, h_x4, h_x5, h_x6, h_x7, h_x8, h_x9, h_x10, h_x11, h_x12, h_x13, ne_eq, Nat.reduceEqDiff, not_false_eq_true, OfNat.ofNat_ne_one, Nat.reducePow, Nat.reduceLT, Nat.zero_add, Nat.reduceAdd, Nat.reduceSub, Nat.reduceLeDiff, le_refl, Nat.sub_self, sub_self, add_zero, zero_add, sl.cst_243, sl.cst_352, sl.cst_472, sl.r, sl.r_1, sl.r_10, sl.r_100, sl.r_101, sl.r_102, sl.r_103, sl.r_104, sl.r_105, sl.r_106, sl.r_107, sl.r_108, sl.r_109, sl.r_11, sl.r_110, sl.r_111, sl.r_112, sl.r_113, sl.r_114, sl.r_115, sl.r_116, sl.r_117, sl.r_118, sl.r_119, sl.r_12, sl.r_120, sl.r_121, sl.r_122, sl.r_123, sl.r_124, sl.r_125, sl.r_126, sl.r_127, sl.r_128, sl.r_129, sl.r_13, sl.r_130, sl.r_131, sl.r_132, sl.r_133, sl.r_134, sl.r_135, sl.r_136, sl.r_137, sl.r_138, sl.r_139, sl.r_14, sl.r_140, sl.r_141, sl.r_142, sl.r_143, sl.r_144, sl.r_145, sl.r_146, sl.r_147, sl.r_148, sl.r_149, sl.r_15, sl.r_150, sl.r_151, sl.r_152, sl.r_153, sl.r_154, sl.r_155, sl.r_156, sl.r_157, sl.r_158, sl.r_159, sl.r_16, sl.r_160, sl.r_161, sl.r_162, sl.r_163, sl.r_164, sl.r_165, sl.r_166, sl.r_167, sl.r_168, sl.r_169, sl.r_17, sl.r_170, sl.r_171, sl.r_172, sl.r_173, sl.r_174, sl.r_175, sl.r_176, sl.r_177, sl.r_178, sl.r_179, sl.r_18, sl.r_180, sl.r_181, sl.r_182, sl.r_183, sl.r_184, sl.r_185, sl.r_186, sl.r_187, sl.r_188, sl.r_189, sl.r_19, sl.r_190, sl.r_191, sl.r_192, sl.r_193, sl.r_194, sl.r_195, sl.r_196, sl.r_197, sl.r_198, sl.r_199, sl.r_2, sl.r_200, sl.r_201, sl.r_202, sl.r_203, sl.r_204, sl.r_205, sl.r_206, sl.r_207, sl.r_208, sl.r_209, sl.r_210, sl.r_211, sl.r_212, sl.r_213, sl.r_214, sl.r_215, sl.r_216, sl.r_217, sl.r_218, sl.r_219, sl.r_220, sl.r_221, sl.r_222, sl.r_223, sl.r_224, sl.r_225, sl.r_226, sl.r_227, sl.r_228, sl.r_229, sl.r_230, sl.r_231, sl.r_232, sl.r_233, sl.r_234, sl.r_235, sl.r_236, sl.r_237, sl.r_238, sl.r_239, sl.r_240, sl.r_241, sl.r_242, sl.r_243, sl.r_244, sl.r_245, sl.r_246, sl.r_247, sl.r_248, sl.r_249, sl.r_25, sl.r_250, sl.r_251, sl.r_252, sl.r_253, sl.r_254, sl.r_255, sl.r_256, sl.r_257, sl.r_258, sl.r_259, sl.r_26, sl.r_260, sl.r_261, sl.r_262, sl.r_263, sl.r_264, sl.r_265, sl.r_266, sl.r_267, sl.r_268, sl.r_269, sl.r_27, sl.r_270, sl.r_271, sl.r_272, sl.r_273, sl.r_274, sl.r_275, sl.r_276, sl.r_277, sl.r_278, sl.r_279, sl.r_28, sl.r_280, sl.r_281, sl.r_282, sl.r_283, sl.r_284, sl.r_285, sl.r_286, sl.r_287, sl.r_288, sl.r_289, sl.r_29, sl.r_290, sl.r_291, sl.r_292, sl.r_293, sl.r_294, sl.r_295, sl.r_296, sl.r_297, sl.r_298, sl.r_299, sl.r_3, sl.r_30, sl.r_300, sl.r_301, sl.r_302, sl.r_303, sl.r_304, sl.r_305, sl.r_306, sl.r_307, sl.r_308, sl.r_309, sl.r_31, sl.r_310, sl.r_311, sl.r_312, sl.r_313, sl.r_314, sl.r_315, sl.r_316, sl.r_317, sl.r_318, sl.r_319, sl.r_32, sl.r_320, sl.r_321, sl.r_322, sl.r_323, sl.r_324, sl.r_325, sl.r_326, sl.r_327, sl.r_328, sl.r_329, sl.r_33, sl.r_330, sl.r_331, sl.r_332, sl.r_333, sl.r_334, sl.r_335, sl.r_336, sl.r_337, sl.r_338, sl.r_339, sl.r_34, sl.r_340, sl.r_341, sl.r_342, sl.r_343, sl.r_344, sl.r_345, sl.r_346, sl.r_347, sl.r_348, sl.r_349, sl.r_35, sl.r_350, sl.r_351, sl.r_352, sl.r_353, sl.r_354, sl.r_355, sl.r_356, sl.r_357, sl.r_358, sl.r_359, sl.r_36, sl.r_360, sl.r_361, sl.r_362, sl.r_363, sl.r_364, sl.r_365, sl.r_366, sl.r_367, sl.r_368, sl.r_369, sl.r_37, sl.r_370, sl.r_371, sl.r_372, sl.r_373, sl.r_374, sl.r_375, sl.r_376, sl.r_377, sl.r_378, sl.r_379, sl.r_38, sl.r_380, sl.r_381, sl.r_382, sl.r_383, sl.r_39, sl.r_4, sl.r_40, sl.r_41, sl.r_42, sl.r_43, sl.r_44, sl.r_45, sl.r_46, sl.r_47, sl.r_48, sl.r_49, sl.r_5, sl.r_50, sl.r_51, sl.r_52, sl.r_53, sl.r_54, sl.r_55, sl.r_56, sl.r_57, sl.r_58, sl.r_59, sl.r_6, sl.r_60, sl.r_61, sl.r_62, sl.r_63, sl.r_64, sl.r_65, sl.r_66, sl.r_67, sl.r_68, sl.r_69, sl.r_7, sl.r_70, sl.r_71, sl.r_72, sl.r_73, sl.r_74, sl.r_75, sl.r_77, sl.r_8, sl.r_80, sl.r_81, sl.r_82, sl.r_83, sl.r_84, sl.r_85, sl.r_86, sl.r_87, sl.r_88, sl.r_89, sl.r_9, sl.r_90, sl.r_91, sl.r_92, sl.r_93, sl.r_94, sl.r_95, sl.r_96, sl.r_97, sl.r_98, sl.r_99, sl.v307, sl.v309, sl.v310, sl.v34, sl.v4, sl.v629, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, View.readAt_eq_ld, multiReduction, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, mul_mk, add_mk, sub_mk, max_mk, min_mk, abs_mk, exp_mk, log_mk, logistic_mk, rsqrt_mk, div_mk, trunc_mk, ext_mk, zero_mk, one_mk, k1024_mk, eps_pos, eps_mk, select_mk, slice_mk, brow_mk, bcol_mk, browB_mk, bcolB_mk, cast_same, transpose_mk, ind_mk, mmA, mmB, mmE, mmF, mmG, mmH, mmI, mmJ, mmK, redCa, redCb, redRa, redRb, redRc, cat1, cat2, cat3, cat4, cat5, cat6, cat7, cat8, cat9, cmp_slt, cmp_sge, cmp_sle, cmp_eq, iota1, iota0, lt_lane, eq_lane, eq_row, ge_tri, le_tri, sgt_sub, ok_row, ok_col, cast3, cast4, cast23, ld3, ld4, ld2f, ld2b, sh00, catC0, catC1, catR0, catR1, lx_cat, hs_cat, mmN_catR, mmN_catC, mmN_zero, zero_mmN, lx_zero, sh_zero, mmCe, mmDe, mkC0, mkR0, dtF_fold, dtT_fold, aF_fold, bA_fold, bT_fold, silF_fold, rF_fold, dzF_fold, dyF_fold, dec_fold, dec_fold0, deT_fold, deT_fold0, rA_20, rA_21, rA_22, rA_23, rA_24, rA_76, rA_78, rA_79, rA_v162, rA_v163, rA_v466, rA_v467, rA_v2586, rA_v2591, rA_v2596, rA_v2601]
  · exact canon14 (fun e => dxbcF (decide ((i 0).val < 32)) (X0 e) (X1 e) (X2 e) (X3 e) (X4 e) (X5 e 0) X6 X7 X8 X9 X10 X11 zz zz) _ _
  · exact canon15 (fun e => ddtF (decide ((i 0).val < 32)) (X0 e) (X1 e) (X2 e) (X3 e) (X4 e) (X5 e 0) X6 X7 X8 X9 X11 zz zz) (fun e => dbzF (X0 e) (X1 e) (X3 e) X11) _ _ _ _
  · exact canonG _ _ _
  · exact canonL _ _ _
  · exact canonL _ _ _
  · exact canonL _ _ _
  · exact canonS _ _ _
  · exact canonS _ _ _
  · exact canonS _ _ _
  · exact canonS _ _ _

end Cert.Ssd

end
-- ==== Proof.SsdRunB.lean ====
module

public import proofs.«01_k».proof.Proof.Gen.KernelIdeal.Value
public import proofs.«01_k».proof.Proof.SsdNf

@[expose] public section
set_option maxRecDepth 16384
noncomputable section
namespace Cert.Ssd
open Cert.KernelIdeal Cert.KernelIdeal.Gen Cert.KernelIdeal.Value Idealize.ShloMosaic Idealize.ShloMosaic.TcCoe Idealize.SL.Sem
theorem ldB_v147 (c : Dev nD) (arg3 : Memref sig .tc .vmem S2x64x1536 .bf16) (harg3 : arg3.IsWhole) (f : ℕ → M2) (inb : ∀ a, (![0, 0] : Fin 2 → Nat) a + S64x1024.size a ≤ S64x1536.size a) (h) :
    (LoadRect.valAlong (lr := (Rect.unit (s := S64x1536) ![0, 0] (Shape.size S64x1024) inb).toLoadRect) h (kernelRun0_B.sl.v147 (F := Ideal) c arg3 harg3 (mk3 (φ := .bf16) 2 64 1536 f)) : FVec Ideal S64x1024 .bf16) = mk2 (φ := .bf16) 64 1024 (sh 0 0 (f 0)) := by
  unfold kernelRun0_B.sl.v147
  funext i
  refine (congrArg (fun z => View.readAt _ _ _ _ z) (Shape.reshapeEquiv_cons_one h i)).trans ?_
  refine (congrFun (harg3.read_unread _) _).trans ?_
  show ((f (0 + 0 + 1 * 0) (0 + 0 + 1 * (i 0).val) (0 + 0 + 1 * (i 1).val) : ℝ) : EReal) = ((f 0 (0 + (i 0).val) (0 + (i 1).val) : ℝ) : EReal)
  simp
theorem ldB_v152 (c : Dev nD) (arg3 : Memref sig .tc .vmem S2x64x1536 .bf16) (harg3 : arg3.IsWhole) (f : ℕ → M2) (inb : ∀ a, (![0, 1024] : Fin 2 → Nat) a + S64x256.size a ≤ S64x1536.size a) (h) :
    (LoadRect.valAlong (lr := (Rect.unit (s := S64x1536) ![0, 1024] (Shape.size S64x256) inb).toLoadRect) h (kernelRun0_B.sl.v152 (F := Ideal) c arg3 harg3 (mk3 (φ := .bf16) 2 64 1536 f)) : FVec Ideal S64x256 .bf16) = mk2 (φ := .bf16) 64 256 (sh 0 1024 (f 0)) := by
  unfold kernelRun0_B.sl.v152
  funext i
  refine (congrArg (fun z => View.readAt _ _ _ _ z) (Shape.reshapeEquiv_cons_one h i)).trans ?_
  refine (congrFun (harg3.read_unread _) _).trans ?_
  show ((f (0 + 0 + 1 * 0) (0 + 0 + 1 * (i 0).val) (0 + 1024 + 1 * (i 1).val) : ℝ) : EReal) = ((f 0 (0 + (i 0).val) (1024 + (i 1).val) : ℝ) : EReal)
  simp
theorem ldB_v156 (c : Dev nD) (arg3 : Memref sig .tc .vmem S2x64x1536 .bf16) (harg3 : arg3.IsWhole) (f : ℕ → M2) (inb : ∀ a, (![0, 1280] : Fin 2 → Nat) a + S64x256.size a ≤ S64x1536.size a) (h) :
    (LoadRect.valAlong (lr := (Rect.unit (s := S64x1536) ![0, 1280] (Shape.size S64x256) inb).toLoadRect) h (kernelRun0_B.sl.v156 (F := Ideal) c arg3 harg3 (mk3 (φ := .bf16) 2 64 1536 f)) : FVec Ideal S64x256 .bf16) = mk2 (φ := .bf16) 64 256 (sh 0 1280 (f 0)) := by
  unfold kernelRun0_B.sl.v156
  funext i
  refine (congrArg (fun z => View.readAt _ _ _ _ z) (Shape.reshapeEquiv_cons_one h i)).trans ?_
  refine (congrFun (harg3.read_unread _) _).trans ?_
  show ((f (0 + 0 + 1 * 0) (0 + 0 + 1 * (i 0).val) (0 + 1280 + 1 * (i 1).val) : ℝ) : EReal) = ((f 0 (0 + (i 0).val) (1280 + (i 1).val) : ℝ) : EReal)
  simp
theorem ldB_v451 (c : Dev nD) (arg3 : Memref sig .tc .vmem S2x64x1536 .bf16) (harg3 : arg3.IsWhole) (f : ℕ → M2) (inb : ∀ a, (![0, 0] : Fin 2 → Nat) a + S64x1024.size a ≤ S64x1536.size a) (h) :
    (LoadRect.valAlong (lr := (Rect.unit (s := S64x1536) ![0, 0] (Shape.size S64x1024) inb).toLoadRect) h (kernelRun0_B.sl.v451 (F := Ideal) c arg3 harg3 (mk3 (φ := .bf16) 2 64 1536 f)) : FVec Ideal S64x1024 .bf16) = mk2 (φ := .bf16) 64 1024 (sh 0 0 (f 1)) := by
  unfold kernelRun0_B.sl.v451
  funext i
  refine (congrArg (fun z => View.readAt _ _ _ _ z) (Shape.reshapeEquiv_cons_one h i)).trans ?_
  refine (congrFun (harg3.read_unread _) _).trans ?_
  show ((f (1 + 0 + 1 * 0) (0 + 0 + 1 * (i 0).val) (0 + 0 + 1 * (i 1).val) : ℝ) : EReal) = ((f 1 (0 + (i 0).val) (0 + (i 1).val) : ℝ) : EReal)
  simp
theorem ldB_v456 (c : Dev nD) (arg3 : Memref sig .tc .vmem S2x64x1536 .bf16) (harg3 : arg3.IsWhole) (f : ℕ → M2) (inb : ∀ a, (![0, 1024] : Fin 2 → Nat) a + S64x256.size a ≤ S64x1536.size a) (h) :
    (LoadRect.valAlong (lr := (Rect.unit (s := S64x1536) ![0, 1024] (Shape.size S64x256) inb).toLoadRect) h (kernelRun0_B.sl.v456 (F := Ideal) c arg3 harg3 (mk3 (φ := .bf16) 2 64 1536 f)) : FVec Ideal S64x256 .bf16) = mk2 (φ := .bf16) 64 256 (sh 0 1024 (f 1)) := by
  unfold kernelRun0_B.sl.v456
  funext i
  refine (congrArg (fun z => View.readAt _ _ _ _ z) (Shape.reshapeEquiv_cons_one h i)).trans ?_
  refine (congrFun (harg3.read_unread _) _).trans ?_
  show ((f (1 + 0 + 1 * 0) (0 + 0 + 1 * (i 0).val) (0 + 1024 + 1 * (i 1).val) : ℝ) : EReal) = ((f 1 (0 + (i 0).val) (1024 + (i 1).val) : ℝ) : EReal)
  simp
theorem ldB_v460 (c : Dev nD) (arg3 : Memref sig .tc .vmem S2x64x1536 .bf16) (harg3 : arg3.IsWhole) (f : ℕ → M2) (inb : ∀ a, (![0, 1280] : Fin 2 → Nat) a + S64x256.size a ≤ S64x1536.size a) (h) :
    (LoadRect.valAlong (lr := (Rect.unit (s := S64x1536) ![0, 1280] (Shape.size S64x256) inb).toLoadRect) h (kernelRun0_B.sl.v460 (F := Ideal) c arg3 harg3 (mk3 (φ := .bf16) 2 64 1536 f)) : FVec Ideal S64x256 .bf16) = mk2 (φ := .bf16) 64 256 (sh 0 1280 (f 1)) := by
  unfold kernelRun0_B.sl.v460
  funext i
  refine (congrArg (fun z => View.readAt _ _ _ _ z) (Shape.reshapeEquiv_cons_one h i)).trans ?_
  refine (congrFun (harg3.read_unread _) _).trans ?_
  show ((f (1 + 0 + 1 * 0) (0 + 0 + 1 * (i 0).val) (0 + 1280 + 1 * (i 1).val) : ℝ) : EReal) = ((f 1 (0 + (i 0).val) (1280 + (i 1).val) : ℝ) : EReal)
  simp
theorem rB_20 (c : Dev nD) (arg3 : Memref sig .tc .vmem S2x64x1536 .bf16) (harg3 : arg3.IsWhole) (f : ℕ → M2) : kernelRun0_B.sl.r_20 (F := Ideal) c arg3 harg3 (mk3 (φ := .bf16) 2 64 1536 f) = k0_pay31 (mk2 (φ := .bf16) 64 1024 (sh 0 0 (f 0))) :=
  congrArg k0_pay31 (ldB_v147 c arg3 harg3 f _ _)
theorem rB_21 (c : Dev nD) (arg3 : Memref sig .tc .vmem S2x64x1536 .bf16) (harg3 : arg3.IsWhole) (f : ℕ → M2) : kernelRun0_B.sl.r_21 (F := Ideal) c arg3 harg3 (mk3 (φ := .bf16) 2 64 1536 f) = k0_pay32 (mk2 (φ := .bf16) 64 256 (sh 0 1024 (f 0))) :=
  congrArg k0_pay32 (ldB_v152 c arg3 harg3 f _ _)
theorem rB_22 (c : Dev nD) (arg3 : Memref sig .tc .vmem S2x64x1536 .bf16) (harg3 : arg3.IsWhole) (f : ℕ → M2) : kernelRun0_B.sl.r_22 (F := Ideal) c arg3 harg3 (mk3 (φ := .bf16) 2 64 1536 f) = k0_pay33 (mk2 (φ := .bf16) 64 256 (sh 0 1280 (f 0))) :=
  congrArg k0_pay33 (ldB_v156 c arg3 harg3 f _ _)
theorem rB_78 (c : Dev nD) (arg3 : Memref sig .tc .vmem S2x64x1536 .bf16) (harg3 : arg3.IsWhole) (f : ℕ → M2) : kernelRun0_B.sl.r_78 (F := Ideal) c arg3 harg3 (mk3 (φ := .bf16) 2 64 1536 f) = k0_pay105 (mk2 (φ := .bf16) 64 256 (sh 0 1024 (f 1))) :=
  congrArg k0_pay105 (ldB_v456 c arg3 harg3 f _ _)
theorem rB_79 (c : Dev nD) (arg3 : Memref sig .tc .vmem S2x64x1536 .bf16) (harg3 : arg3.IsWhole) (f : ℕ → M2) : kernelRun0_B.sl.r_79 (F := Ideal) c arg3 harg3 (mk3 (φ := .bf16) 2 64 1536 f) = k0_pay106 (mk2 (φ := .bf16) 64 256 (sh 0 1280 (f 1))) :=
  congrArg k0_pay106 (ldB_v460 c arg3 harg3 f _ _)
theorem rB_76 (c : Dev nD) (arg3 : Memref sig .tc .vmem S2x64x1536 .bf16) (harg3 : arg3.IsWhole) (f : ℕ → M2) : kernelRun0_B.sl.r_76 (F := Ideal) c arg3 harg3 (mk3 (φ := .bf16) 2 64 1536 f) = mk2 (φ := .bf16) 64 1024 (sh 0 0 (f 1)) :=
  ldB_v451 c arg3 harg3 f _ _
theorem rB_23 (c : Dev nD) (i : grid0.Coords) (arg3 : Memref sig .tc .vmem S2x64x1536 .bf16) (harg3 : arg3.IsWhole) (arg5 : Memref sig .tc .vmem S2x64x128 .bf16) (harg5 : arg5.IsWhole) (arg7 : Memref sig .tc .vmem S1x128 .f32) (harg7 : arg7.IsWhole) (arg9 : Memref sig .tc .vmem S1x128 .f32) (harg9 : arg9.IsWhole) (arg13 : Memref sig .tc .vmem S128x1024 .bf16) (harg13 : arg13.IsWhole) (f : ℕ → M2) (x4 : Vec Ideal S2x64x128 .bf16) (x6 x8 : Vec Ideal S1x128 .f32) (x12 : Vec Ideal S128x1024 .bf16) : kernelRun0_B.sl.r_23 (F := Ideal) c i arg3 harg3 arg5 harg5 arg7 harg7 arg9 harg9 arg13 harg13 (mk3 (φ := .bf16) 2 64 1536 f) x4 x6 x8 x12 = k0_pay34 (kernelRun0_B.sl.r_15 (F := Ideal) c i arg5 harg5 arg7 harg7 arg9 harg9 arg13 harg13 x4 x6 x8 x12) (mk2 (φ := .bf16) 64 1024 (sh 0 0 (f 0))) :=
  congrArg (k0_pay34 _) (ldB_v147 c arg3 harg3 f _ _)
theorem rB_24 (c : Dev nD) (i : grid0.Coords) (arg3 : Memref sig .tc .vmem S2x64x1536 .bf16) (harg3 : arg3.IsWhole) (arg5 : Memref sig .tc .vmem S2x64x128 .bf16) (harg5 : arg5.IsWhole) (arg7 : Memref sig .tc .vmem S1x128 .f32) (harg7 : arg7.IsWhole) (arg9 : Memref sig .tc .vmem S1x128 .f32) (harg9 : arg9.IsWhole) (arg13 : Memref sig .tc .vmem S128x1024 .bf16) (harg13 : arg13.IsWhole) (f : ℕ → M2) (x4 : Vec Ideal S2x64x128 .bf16) (x6 x8 : Vec Ideal S1x128 .f32) (x12 : Vec Ideal S128x1024 .bf16) : kernelRun0_B.sl.r_24 (F := Ideal) c i arg3 harg3 arg5 harg5 arg7 harg7 arg9 harg9 arg13 harg13 (mk3 (φ := .bf16) 2 64 1536 f) x4 x6 x8 x12 = k0_pay35 (kernelRun0_B.sl.r_15 (F := Ideal) c i arg5 harg5 arg7 harg7 arg9 harg9 arg13 harg13 x4 x6 x8 x12) (mk2 (φ := .bf16) 64 1024 (sh 0 0 (f 0))) :=
  congrArg (k0_pay35 _) (ldB_v147 c arg3 harg3 f _ _)
set_option maxHeartbeats 8000000
attribute [local congr] cat_congr2 cat_congr3 cat_congr4 cat_congr5 cat_congr8

open kernelRun0_B in
/-- A later point of the grid: the six results' blocks and the four state gradients, from the windows and what the point before left. -/
theorem runB  (c : Dev nD) (i : grid0.Coords) (arg1 : Memref sig .tc .vmem S2x64x1024 .bf16) (harg1 : arg1.IsWhole) (arg2 : Memref sig .tc .vmem S2x64x1024 .bf16) (harg2 : arg2.IsWhole) (arg3 : Memref sig .tc .vmem S2x64x1536 .bf16) (harg3 : arg3.IsWhole) (arg4 : Memref sig .tc .vmem S2x64x1024 .bf16) (harg4 : arg4.IsWhole) (arg5 : Memref sig .tc .vmem S2x64x128 .bf16) (harg5 : arg5.IsWhole) (arg6 : Memref sig .tc .vmem S2x1x128x1024 .bf16) (harg6 : arg6.IsWhole) (arg7 : Memref sig .tc .vmem S1x128 .f32) (harg7 : arg7.IsWhole) (arg8 : Memref sig .tc .vmem S16x1 .f32) (harg8 : arg8.IsWhole) (arg9 : Memref sig .tc .vmem S1x128 .f32) (harg9 : arg9.IsWhole) (arg10 : Memref sig .tc .vmem S16x1 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S1024x128 .bf16) (harg14 : arg14.IsWhole) (arg15 : Memref sig .tc .vmem S2x64x1536 .bf16) (harg15 : arg15.IsWhole) (arg16 : Memref sig .tc .vmem S2x64x1152 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x512 .f32) (harg21 : arg21.IsWhole) (arg22 : Memref sig .tc .vmem S128x512 .f32) (harg22 : arg22.IsWhole) (arg23 : Memref sig .tc .vmem S128x512 .f32) (harg23 : arg23.IsWhole) (arg24 : Memref sig .tc .vmem S128x512 .f32) (harg24 : arg24.IsWhole) (hc0 : ¬cond0_0 i)
    (x0 : Vec Ideal S2x64x1024 .bf16) (x1 : Vec Ideal S2x64x1024 .bf16) (x2 : Vec Ideal S2x64x1536 .bf16) (x3 : Vec Ideal S2x64x1024 .bf16) (x4 : Vec Ideal S2x64x128 .bf16) (x5 : Vec Ideal S2x1x128x1024 .bf16) (x6 : Vec Ideal S1x128 .f32) (x7 : Vec Ideal S16x1 .f32) (x8 : Vec Ideal S1x128 .f32) (x9 : Vec Ideal S16x1 .f32) (x10 : Vec Ideal S1x1024 .f32) (x11 : Vec Ideal S1x1024 .f32) (x12 : Vec Ideal S128x1024 .bf16) (x13 : Vec Ideal S1024x128 .bf16) (xo16 : Vec Ideal S1x1024 .f32) (xo17 : Vec Ideal S1x128 .f32) (xo18 : Vec Ideal S1x128 .f32) (xo19 : Vec Ideal S1x128 .f32) (xs0 : Vec Ideal S128x512 .f32) (xs1 : Vec Ideal S128x512 .f32) (xs2 : Vec Ideal S128x512 .f32) (xs3 : Vec Ideal S128x512 .f32) (X0 X1 X2 X3 X4 : ℕ → M2) (X5 : ℕ → ℕ → M2) (X6 X7 X8 X9 X10 X11 : M2) (O16 O17 O18 O19 : M2) (DA DB : ℕ → M2) (h_x0 : x0 = (mk3 (φ := .bf16) 2 64 1024 X0)) (h_x1 : x1 = (mk3 (φ := .bf16) 2 64 1024 X1)) (h_x2 : x2 = (mk3 (φ := .bf16) 2 64 1536 X2)) (h_x3 : x3 = (mk3 (φ := .bf16) 2 64 1024 X3)) (h_x4 : x4 = (mk3 (φ := .bf16) 2 64 128 X4)) (h_x5 : x5 = (mk4 (φ := .bf16) 2 1 128 1024 X5)) (h_x6 : x6 = (mk2 (φ := .f32) 1 128 X6)) (h_x7 : x7 = (mk2 (φ := .f32) 16 1 X7)) (h_x8 : x8 = (mk2 (φ := .f32) 1 128 X8)) (h_x9 : x9 = (mk2 (φ := .f32) 16 1 X9)) (h_x10 : x10 = (mk2 (φ := .f32) 1 1024 X10)) (h_x11 : x11 = (mk2 (φ := .f32) 1 1024 X11)) (h_x12 : x12 = (mk2 (φ := .bf16) 128 1024 e01)) (h_x13 : x13 = (mk2 (φ := .bf16) 1024 128 et01)) (h_xo16 : xo16 = (mk2 (φ := .f32) 1 1024 O16)) (h_xo17 : xo17 = (mk2 (φ := .f32) 1 128 O17)) (h_xo18 : xo18 = (mk2 (φ := .f32) 1 128 O18)) (h_xo19 : xo19 = (mk2 (φ := .f32) 1 128 O19)) (h_xs0 : xs0 = (mk2 (φ := .f32) 128 512 (DA 0))) (h_xs1 : xs1 = (mk2 (φ := .f32) 128 512 (DB 0))) (h_xs2 : xs2 = (mk2 (φ := .f32) 128 512 (DA 1))) (h_xs3 : xs3 = (mk2 (φ := .f32) 128 512 (DB 1))) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = mk3 (φ := .bf16) 2 64 1536 (fun e => dxbcF (decide ((i 0).val < 32)) (X0 e) (X1 e) (X2 e) (X3 e) (X4 e) (X5 e 0) X6 X7 X8 X9 X10 X11 (DA e) (DB e)) ∧
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = mk3 (φ := .bf16) 2 64 1152 (fun e => catC 1024 ((fun e => dbzF (X0 e) (X1 e) (X3 e) X11) e) ((fun e => ddtF (decide ((i 0).val < 32)) (X0 e) (X1 e) (X2 e) (X3 e) (X4 e) (X5 e 0) X6 X7 X8 X9 X11 (DA e) (DB e)) e)) ∧
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = mk2 (φ := .f32) 1 1024 (O16 + (sumR 64 (dgF (X0 0) (X1 0) (X3 0)) + sumR 64 (dgF (X0 1) (X1 1) (X3 1)))) ∧
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = mk2 (φ := .f32) 1 128 (O17 + (sumR 64 (ddtF (decide ((i 0).val < 32)) (X0 0) (X1 0) (X2 0) (X3 0) (X4 0) (X5 0 0) X6 X7 X8 X9 X11 (DA 0) (DB 0)) + sumR 64 (ddtF (decide ((i 0).val < 32)) (X0 1) (X1 1) (X2 1) (X3 1) (X4 1) (X5 1 0) X6 X7 X8 X9 X11 (DA 1) (DB 1)))) ∧
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = mk2 (φ := .f32) 1 128 (O18 + (sumR 64 (dalF (decide ((i 0).val < 32)) (X0 0) (X1 0) (X2 0) (X3 0) (X4 0) (X5 0 0) X6 X7 X8 X9 X11 (DA 0) (DB 0)) + sumR 64 (dalF (decide ((i 0).val < 32)) (X0 1) (X1 1) (X2 1) (X3 1) (X4 1) (X5 1 0) X6 X7 X8 X9 X11 (DA 1) (DB 1)))) ∧
    out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = mk2 (φ := .f32) 1 128 (O19 + (ddF (X0 0) (X1 0) (X2 0) (X3 0) X11 + ddF (X0 1) (X1 1) (X2 1) (X3 1) X11)) ∧
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = mk2 (φ := .f32) 128 512 (sAF (decide ((i 0).val < 32)) (X0 0) (X1 0) (X2 0) (X3 0) (X4 0) X6 X8 X11 (DA 0)) ∧
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = mk2 (φ := .f32) 128 512 (sBF (decide ((i 0).val < 32)) (X0 0) (X1 0) (X2 0) (X3 0) (X4 0) X6 X8 X11 (DB 0)) ∧
    sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = mk2 (φ := .f32) 128 512 (sAF (decide ((i 0).val < 32)) (X0 1) (X1 1) (X2 1) (X3 1) (X4 1) X6 X8 X11 (DA 1)) ∧
    sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = mk2 (φ := .f32) 128 512 (sBF (decide ((i 0).val < 32)) (X0 1) (X1 1) (X2 1) (X3 1) (X4 1) X6 X8 X11 (DB 1)) := by
  refine ⟨?_, ?_, ?_, ?_, ?_, ?_, ?_, ?_, ?_, ?_⟩
  on_goal 1 => refine (show out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = _ from View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3)).trans ?_
  on_goal 2 => refine (show out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = _ from View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3)).trans ?_
  on_goal 3 => refine (show out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = _ from View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3)).trans ?_
  on_goal 4 => refine (show out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = _ from View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3)).trans ?_
  on_goal 5 => refine (show out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = _ from View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3)).trans ?_
  on_goal 6 => refine (show out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = _ from View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3)).trans ?_
  on_goal 7 => refine (show sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = _ from View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3)).trans ?_
  on_goal 8 => refine (show sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = _ from View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3)).trans ?_
  on_goal 9 => refine (show sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = _ from View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3)).trans ?_
  on_goal 10 => refine (show sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3 = _ from View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo16 xo17 xo18 xo19 xs0 xs1 xs2 xs3)).trans ?_
  all_goals unfold kernelRun0_B
  all_goals dsimp only
  all_goals simp -implicitDefEqProofs only [h_x0, h_x1, h_x2, h_x3, h_x4, h_x5, h_x6, h_x7, h_x8, h_x9, h_x10, h_x11, h_x12, h_x13, h_xo16, h_xo17, h_xo18, h_xo19, h_xs0, h_xs1, h_xs2, h_xs3, ne_eq, Nat.reduceEqDiff, not_false_eq_true, OfNat.ofNat_ne_one, Nat.reducePow, Nat.reduceLT, Nat.zero_add, Nat.reduceAdd, Nat.reduceSub, Nat.reduceLeDiff, le_refl, Nat.sub_self, sub_self, add_zero, zero_add, sl.cst_243, sl.cst_352, sl.cst_472, sl.r, sl.r_1, sl.r_10, sl.r_100, sl.r_101, sl.r_102, sl.r_103, sl.r_104, sl.r_105, sl.r_106, sl.r_107, sl.r_108, sl.r_109, sl.r_11, sl.r_110, sl.r_111, sl.r_112, sl.r_113, sl.r_114, sl.r_115, sl.r_116, sl.r_117, sl.r_118, sl.r_119, sl.r_12, sl.r_120, sl.r_121, sl.r_122, sl.r_123, sl.r_124, sl.r_125, sl.r_126, sl.r_127, sl.r_128, sl.r_129, sl.r_13, sl.r_130, sl.r_131, sl.r_132, sl.r_133, sl.r_134, sl.r_135, sl.r_136, sl.r_137, sl.r_138, sl.r_139, sl.r_14, sl.r_140, sl.r_141, sl.r_142, sl.r_143, sl.r_144, sl.r_145, sl.r_146, sl.r_147, sl.r_148, sl.r_149, sl.r_15, sl.r_150, sl.r_151, sl.r_152, sl.r_153, sl.r_154, sl.r_155, sl.r_156, sl.r_157, sl.r_158, sl.r_159, sl.r_16, sl.r_160, sl.r_161, sl.r_162, sl.r_163, sl.r_164, sl.r_165, sl.r_166, sl.r_167, sl.r_168, sl.r_169, sl.r_17, sl.r_170, sl.r_171, sl.r_172, sl.r_173, sl.r_174, sl.r_175, sl.r_176, sl.r_177, sl.r_178, sl.r_179, sl.r_18, sl.r_180, sl.r_181, sl.r_182, sl.r_183, sl.r_184, sl.r_185, sl.r_186, sl.r_187, sl.r_188, sl.r_189, sl.r_19, sl.r_190, sl.r_191, sl.r_192, sl.r_193, sl.r_194, sl.r_195, sl.r_196, sl.r_197, sl.r_198, sl.r_199, sl.r_2, sl.r_200, sl.r_201, sl.r_202, sl.r_203, sl.r_204, sl.r_205, sl.r_206, sl.r_207, sl.r_208, sl.r_209, sl.r_210, sl.r_211, sl.r_212, sl.r_213, sl.r_214, sl.r_215, sl.r_216, sl.r_217, sl.r_218, sl.r_219, sl.r_220, sl.r_221, sl.r_222, sl.r_223, sl.r_224, sl.r_225, sl.r_226, sl.r_227, sl.r_228, sl.r_229, sl.r_230, sl.r_231, sl.r_232, sl.r_233, sl.r_234, sl.r_235, sl.r_236, sl.r_237, sl.r_238, sl.r_239, sl.r_240, sl.r_241, sl.r_242, sl.r_243, sl.r_244, sl.r_245, sl.r_246, sl.r_247, sl.r_248, sl.r_249, sl.r_25, sl.r_250, sl.r_251, sl.r_252, sl.r_253, sl.r_254, sl.r_255, sl.r_256, sl.r_257, sl.r_258, sl.r_259, sl.r_26, sl.r_260, sl.r_261, sl.r_262, sl.r_263, sl.r_264, sl.r_265, sl.r_266, sl.r_267, sl.r_268, sl.r_269, sl.r_27, sl.r_270, sl.r_271, sl.r_272, sl.r_273, sl.r_274, sl.r_275, sl.r_276, sl.r_277, sl.r_278, sl.r_279, sl.r_28, sl.r_280, sl.r_281, sl.r_282, sl.r_283, sl.r_284, sl.r_285, sl.r_286, sl.r_287, sl.r_288, sl.r_289, sl.r_29, sl.r_290, sl.r_291, sl.r_292, sl.r_293, sl.r_294, sl.r_295, sl.r_296, sl.r_297, sl.r_298, sl.r_299, sl.r_3, sl.r_30, sl.r_300, sl.r_301, sl.r_302, sl.r_303, sl.r_304, sl.r_305, sl.r_306, sl.r_307, sl.r_308, sl.r_309, sl.r_31, sl.r_310, sl.r_311, sl.r_312, sl.r_313, sl.r_314, sl.r_315, sl.r_316, sl.r_317, sl.r_318, sl.r_319, sl.r_32, sl.r_320, sl.r_321, sl.r_322, sl.r_323, sl.r_324, sl.r_325, sl.r_326, sl.r_327, sl.r_328, sl.r_329, sl.r_33, sl.r_330, sl.r_331, sl.r_332, sl.r_333, sl.r_334, sl.r_335, sl.r_336, sl.r_337, sl.r_338, sl.r_339, sl.r_34, sl.r_340, sl.r_341, sl.r_342, sl.r_343, sl.r_344, sl.r_345, sl.r_346, sl.r_347, sl.r_348, sl.r_349, sl.r_35, sl.r_350, sl.r_351, sl.r_352, sl.r_353, sl.r_354, sl.r_355, sl.r_356, sl.r_357, sl.r_358, sl.r_359, sl.r_36, sl.r_360, sl.r_361, sl.r_362, sl.r_363, sl.r_364, sl.r_365, sl.r_366, sl.r_367, sl.r_368, sl.r_369, sl.r_37, sl.r_370, sl.r_371, sl.r_372, sl.r_373, sl.r_374, sl.r_375, sl.r_376, sl.r_377, sl.r_378, sl.r_379, sl.r_38, sl.r_380, sl.r_381, sl.r_382, sl.r_383, sl.r_39, sl.r_4, sl.r_40, sl.r_41, sl.r_42, sl.r_43, sl.r_44, sl.r_45, sl.r_46, sl.r_47, sl.r_48, sl.r_49, sl.r_5, sl.r_50, sl.r_51, sl.r_52, sl.r_53, sl.r_54, sl.r_55, sl.r_56, sl.r_57, sl.r_58, sl.r_59, sl.r_6, sl.r_60, sl.r_61, sl.r_62, sl.r_63, sl.r_64, sl.r_65, sl.r_66, sl.r_67, sl.r_68, sl.r_69, sl.r_7, sl.r_70, sl.r_71, sl.r_72, sl.r_73, sl.r_74, sl.r_75, sl.r_77, sl.r_8, sl.r_80, sl.r_81, sl.r_82, sl.r_83, sl.r_84, sl.r_85, sl.r_86, sl.r_87, sl.r_88, sl.r_89, sl.r_9, sl.r_90, sl.r_91, sl.r_92, sl.r_93, sl.r_94, sl.r_95, sl.r_96, sl.r_97, sl.r_98, sl.r_99, sl.v307, sl.v309, sl.v310, sl.v34, sl.v4, sl.v629, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, View.readAt_eq_ld, multiReduction, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, mul_mk, add_mk, sub_mk, max_mk, min_mk, abs_mk, exp_mk, log_mk, logistic_mk, rsqrt_mk, div_mk, trunc_mk, ext_mk, zero_mk, one_mk, k1024_mk, eps_pos, eps_mk, select_mk, slice_mk, brow_mk, bcol_mk, browB_mk, bcolB_mk, cast_same, transpose_mk, ind_mk, mmA, mmB, mmE, mmF, mmG, mmH, mmI, mmJ, mmK, redCa, redCb, redRa, redRb, redRc, cat1, cat2, cat3, cat4, cat5, cat6, cat7, cat8, cat9, cmp_slt, cmp_sge, cmp_sle, cmp_eq, iota1, iota0, lt_lane, eq_lane, eq_row, ge_tri, le_tri, sgt_sub, ok_row, ok_col, cast3, cast4, cast23, ld3, ld4, ld2f, ld2b, sh00, catC0, catC1, catR0, catR1, lx_cat, hs_cat, mmN_catR, mmN_catC, mmN_zero, zero_mmN, lx_zero, sh_zero, mmCe, mmDe, mkC0, mkR0, dtF_fold, dtT_fold, aF_fold, bA_fold, bT_fold, silF_fold, rF_fold, dzF_fold, dyF_fold, dec_fold, dec_fold0, deT_fold, deT_fold0, rB_20, rB_21, rB_22, rB_23, rB_24, rB_76, rB_78, rB_79]
  · exact canon14 (fun e => dxbcF (decide ((i 0).val < 32)) (X0 e) (X1 e) (X2 e) (X3 e) (X4 e) (X5 e 0) X6 X7 X8 X9 X10 X11 (DA e) (DB e)) _ _
  · exact canon15 (fun e => ddtF (decide ((i 0).val < 32)) (X0 e) (X1 e) (X2 e) (X3 e) (X4 e) (X5 e 0) X6 X7 X8 X9 X11 (DA e) (DB e)) (fun e => dbzF (X0 e) (X1 e) (X3 e) X11) _ _ _ _
  · exact canonG _ _ _
  · exact canonL _ _ _
  · exact canonL _ _ _
  · exact canonL _ _ _
  · exact canonS _ _ _
  · exact canonS _ _ _
  · exact canonS _ _ _
  · exact canonS _ _ _

end Cert.Ssd

end
-- ==== Proof.SsdSt.lean ====
module

public import proofs.«01_k».proof.Proof.SsdBlk
public import proofs.«01_k».proof.Proof.SsdRunA
public import proofs.«01_k».proof.Proof.SsdRunB

/-! What the kernel's run leaves after each grid point, on arrays of real numbers: by induction over the points. -/

@[expose] public section

set_option maxRecDepth 16384
set_option maxHeartbeats 4000000

noncomputable section

namespace Cert.Ssd

open Cert.KernelIdeal Cert.KernelIdeal.Gen Cert.SsdR Idealize.ShloMosaic Idealize.ShloMosaic.TcCoe
open scoped BigOperators

/-- The first group's state gradient that a chunk hands on. -/
def sa (I : Inp) (c e : ℕ) : M2 := sAF (decide (0 < c)) (W0 I c e) (W1 I c e) (W2 I c e) (W3 I c e) (W4 I c e) (D6 I) (D8 I) (D11 I) (DAs I e c)
/-- The second group's state gradient that a chunk hands on. -/
def sb (I : Inp) (c e : ℕ) : M2 := sBF (decide (0 < c)) (W0 I c e) (W1 I c e) (W2 I c e) (W3 I c e) (W4 I c e) (D6 I) (D8 I) (D11 I) (DBs I e c)
/-- The sum of the terms of the chunks down from the last, up to point `t`. -/
def acc (s : ℕ → M2) (t : ℕ) : M2 := fun r j => ∑ k ∈ Finset.range (t + 1), s (32 - k) r j

theorem acc_zero (s : ℕ → M2) : acc s 0 = zz + s 32 := by
  funext r j
  show ∑ k ∈ Finset.range 1, s (32 - k) r j = 0 + s 32 r j
  rw [Finset.sum_range_one, zero_add]
theorem acc_succ (s : ℕ → M2) (t : ℕ) : acc s (t + 1) = acc s t + s (32 - (t + 1)) := by
  funext r j
  exact Finset.sum_range_succ _ _

theorem co0 : ∀ t : Fin cfg0.N, (grid0.coords t 0).val = t.val := by decide +kernel
theorem co_lt (t : Fin cfg0.N) : decide ((grid0.coords t 0).val < 32) = decide (0 < 32 - t.val) := by
  rw [co0 t]
  congr 1
  exact propext ⟨fun h => by omega, fun h => by omega⟩

variable {m : (ℓ : Loc nD τ sig) → Buf (Elt Ideal) ℓ} {c : Dev nD} {I : Inp} (A : Args m c I)

/-- What the six result windows and the four scratch arrays hold after grid point `n`. -/
def St (m : (ℓ : Loc nD τ sig) → Buf (Elt Ideal) ℓ) (c : Dev nD) (I : Inp) (n : ℕ) (hn : n < cfg0.N) : Prop :=
  (outsAt0 m c n hn).1 = mk3 (φ := .bf16) 2 64 1536 (fun e => o14 I (32 - n) e) ∧
  (outsAt0 m c n hn).2.1 = mk3 (φ := .bf16) 2 64 1152 (fun e => o15 I (32 - n) e) ∧
  (outsAt0 m c n hn).2.2.1 = mk2 (φ := .f32) 1 1024 (acc (s16 I) n) ∧
  (outsAt0 m c n hn).2.2.2.1 = mk2 (φ := .f32) 1 128 (acc (s17 I) n) ∧
  (outsAt0 m c n hn).2.2.2.2.1 = mk2 (φ := .f32) 1 128 (acc (s18 I) n) ∧
  (outsAt0 m c n hn).2.2.2.2.2.1 = mk2 (φ := .f32) 1 128 (acc (s19 I) n) ∧
  (outsAt0 m c n hn).2.2.2.2.2.2.1 = mk2 (φ := .f32) 128 512 (sa I (32 - n) 0) ∧
  (outsAt0 m c n hn).2.2.2.2.2.2.2.1 = mk2 (φ := .f32) 128 512 (sb I (32 - n) 0) ∧
  (outsAt0 m c n hn).2.2.2.2.2.2.2.2.1 = mk2 (φ := .f32) 128 512 (sa I (32 - n) 1) ∧
  (outsAt0 m c n hn).2.2.2.2.2.2.2.2.2 = mk2 (φ := .f32) 128 512 (sb I (32 - n) 1)

include A in
/-- After the first point. -/
theorem st_A (t : Fin cfg0.N) (h0 : t.val % 33 = 0) : St m c I t.val t.isLt := by
  have ht : t.val < 33 := t.isLt.trans_eq N_0
  have hz : t.val = 0 := by omega
  have R := runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (fun e => W0 I (32 - t.val) e) (fun e => W1 I (32 - t.val) e) (fun e => W2 I (32 - t.val) e) (fun e => W3 I (32 - t.val) e) (fun e => W4 I (32 - t.val) e) (fun e _ => W5 I (32 - t.val) e) (D6 I) (D7 I) (D8 I) (D9 I) (D10 I) (D11 I) (blk0 A t) (blk1 A t) (blk2 A t) (blk3 A t) (blk4 A t) (blk5 A t) (blk6 A t) (blk7 A t) (blk8 A t) (blk9 A t) (blk10 A t) (blk11 A t) (blk12 t) (blk13 t)
  rw [co_lt t] at R
  have e32 : 32 - t.val = 32 := by omega
  have hDA : ∀ e, DAs I e (32 - t.val) = zz := fun e => by rw [e32]; exact DAs_last I e
  have hDB : ∀ e, DBs I e (32 - t.val) = zz := fun e => by rw [e32]; exact DBs_last I e
  have ha : ∀ s : ℕ → M2, acc s t.val = zz + s (32 - t.val) := fun s => by rw [e32, hz]; exact acc_zero s
  unfold St
  rw [ha, ha, ha, ha]
  unfold s16 s17 s18 s19 o14 o15 o15t o18 sa sb
  simp only [hDA, hDB]
  rw [outsAt0_A m c t h0]
  dsimp only
  refine ⟨R.1, R.2.1, R.2.2.1, R.2.2.2.1, R.2.2.2.2.1, R.2.2.2.2.2.1, R.2.2.2.2.2.2.1, R.2.2.2.2.2.2.2.1, R.2.2.2.2.2.2.2.2.1, R.2.2.2.2.2.2.2.2.2⟩

include A in
/-- After a later point, from the point before. -/
theorem st_B (t : Fin cfg0.N) (h0 : ¬t.val % 33 = 0) (hp : St m c I (t.val - 1) (Nat.lt_of_le_of_lt (Nat.sub_le _ _) t.isLt)) :
    St m c I t.val t.isLt := by
  have ht : t.val < 33 := t.isLt.trans_eq N_0
  have hz : 0 < t.val := by omega
  have ec : 32 - (t.val - 1) = 32 - t.val + 1 := by omega
  obtain ⟨-, -, p16, p17, p18, p19, q0, q1, q2, q3⟩ := hp
  have hA : ∀ e, mk2 (φ := .f32) 128 512 (sa I (32 - (t.val - 1)) e) = mk2 128 512 (DAs I e (32 - t.val)) := fun e =>
    mk2_congr fun n q _ hq => by rw [ec]; exact sA_eq I (32 - t.val) e n q hq (by omega)
  have hB : ∀ e, mk2 (φ := .f32) 128 512 (sb I (32 - (t.val - 1)) e) = mk2 128 512 (DBs I e (32 - t.val)) := fun e =>
    mk2_congr fun n q _ hq => by rw [ec]; exact sB_eq I (32 - t.val) e n q hq (by omega)
  have R := runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (fun e => W0 I (32 - t.val) e) (fun e => W1 I (32 - t.val) e) (fun e => W2 I (32 - t.val) e) (fun e => W3 I (32 - t.val) e) (fun e => W4 I (32 - t.val) e) (fun e _ => W5 I (32 - t.val) e) (D6 I) (D7 I) (D8 I) (D9 I) (D10 I) (D11 I) (acc (s16 I) (t.val - 1)) (acc (s17 I) (t.val - 1)) (acc (s18 I) (t.val - 1)) (acc (s19 I) (t.val - 1))
    (fun e => DAs I e (32 - t.val)) (fun e => DBs I e (32 - t.val)) (blk0 A t) (blk1 A t) (blk2 A t) (blk3 A t) (blk4 A t) (blk5 A t) (blk6 A t) (blk7 A t) (blk8 A t) (blk9 A t) (blk10 A t) (blk11 A t) (blk12 t) (blk13 t) p16 p17 p18 p19 (q0.trans (hA 0)) (q1.trans (hB 0)) (q2.trans (hA 1)) (q3.trans (hB 1))
  rw [co_lt t] at R
  have hs : ∀ s : ℕ → M2, acc s t.val = acc s (t.val - 1) + s (32 - t.val) := fun s => by
    have := acc_succ s (t.val - 1)
    rw [show t.val - 1 + 1 = t.val by omega] at this
    exact this
  unfold St
  rw [outsAt0_B m c t h0, hs, hs, hs, hs]
  dsimp only
  refine ⟨R.1, R.2.1, R.2.2.1, R.2.2.2.1, R.2.2.2.2.1, R.2.2.2.2.2.1, R.2.2.2.2.2.2.1, R.2.2.2.2.2.2.2.1, R.2.2.2.2.2.2.2.2.1, R.2.2.2.2.2.2.2.2.2⟩

include A in
/-- After every point. -/
theorem st : ∀ (n : ℕ) (hn : n < cfg0.N), St m c I n hn
  | 0, hn => st_A A ⟨0, hn⟩ rfl
  | n + 1, hn => st_B A ⟨n + 1, hn⟩ (by
      have : n + 1 < 33 := hn.trans_eq N_0
      show ¬(n + 1) % 33 = 0
      omega) (st n (Nat.lt_of_succ_lt hn))

end Cert.Ssd
end
-- ==== Proof.SsdOut.lean ====
module

public import proofs.«01_k».proof.Proof.SsdSt

/-! The six result arrays after the kernel's run, on arrays of real numbers. -/

@[expose] public section

set_option maxRecDepth 16384

noncomputable section

namespace Cert.Ssd

open Cert.KernelIdeal Cert.KernelIdeal.Gen Cert.KernelIdeal.Value Cert.SsdR Idealize.ShloMosaic Idealize.ShloMosaic.TcCoe
open scoped BigOperators

/-- After the last point all chunks are summed. -/
theorem acc_last (s : ℕ → M2) (r j : ℕ) : acc s 32 r j = tot s r j :=
  Finset.sum_range_reflect (fun c => s c r j) 33

/-- Result 1, from the reference's closed form. -/
def R14 (I : Inp) : Vec Ideal S2x2112x1536 .bf16 := fun i => ((K_v312 I (i 0).val ((i 1).val / 64) ((i 1).val % 64) (i 2).val : ℝ) : EReal)
theorem ix14 : ∀ t : Fin cfg0.N, win0_14.index t 0 = 0 ∧ win0_14.index t 1 = 32 - t.val ∧ win0_14.index t 2 = 0 := by decide +kernel
/-- Result 2, from the reference's closed form. -/
def R15 (I : Inp) : Vec Ideal S2x2112x1152 .bf16 := fun i => ((K_v319 I (i 0).val ((i 1).val / 64) ((i 1).val % 64) (i 2).val : ℝ) : EReal)
theorem ix15 : ∀ t : Fin cfg0.N, win0_15.index t 0 = 0 ∧ win0_15.index t 1 = 32 - t.val ∧ win0_15.index t 2 = 0 := by decide +kernel
/-- Result 3, from the reference's closed form. -/
def R16 (I : Inp) : Vec Ideal S1x1024 .f32 := fun i => ((K_v27 I (i 1).val : ℝ) : EReal)
theorem ix16 : ∀ t : Fin cfg0.N, win0_16.index t 0 = 0 ∧ win0_16.index t 1 = 0 := by decide +kernel
/-- Result 4, from the reference's closed form. -/
def R17 (I : Inp) : Vec Ideal S1x128 .f32 := fun i => ((K_v324 I (i 1).val : ℝ) : EReal)
theorem ix17 : ∀ t : Fin cfg0.N, win0_17.index t 0 = 0 ∧ win0_17.index t 1 = 0 := by decide +kernel
/-- Result 5, from the reference's closed form. -/
def R18 (I : Inp) : Vec Ideal S1x128 .f32 := fun i => ((K_v327 I (i 1).val : ℝ) : EReal)
theorem ix18 : ∀ t : Fin cfg0.N, win0_18.index t 0 = 0 ∧ win0_18.index t 1 = 0 := by decide +kernel
/-- Result 6, from the reference's closed form. -/
def R19 (I : Inp) : Vec Ideal S1x128 .f32 := fun i => ((K_v330 I (i 1).val : ℝ) : EReal)
theorem ix19 : ∀ t : Fin cfg0.N, win0_19.index t 0 = 0 ∧ win0_19.index t 1 = 0 := by decide +kernel

variable {m : (ℓ : Loc nD τ sig) → Buf (Elt Ideal) ℓ} {c : Dev nD} {I : Inp} (A : Args m c I)

include A in
/-- What a point writes back to result 1. -/
theorem fl14 (t : Fin cfg0.N) : (dats m 0 c).flushed 14 t = ((cfg0.win 14).blk t).view.read (Elt Ideal) (R14 I) := by
  obtain ⟨h0, h1, h2⟩ := ix14 t
  have ht : t.val < 33 := t.isLt.trans_eq N_0
  rw [flushed14, (st A t.val t.isLt).1]
  funext j
  have b0 : (j 0).val < 2 := (j 0).isLt
  have b1 : (j 1).val < 64 := (j 1).isLt
  have b2 : (j 2).val < 1536 := (j 2).isLt
  have e : (((cfg0.win 14).blk t).view.emb j : S2x2112x1536.Idx) = (fun a => match a with
      | ⟨0, _⟩ => ⟨(j 0).val, b0⟩
      | ⟨1, _⟩ => ⟨64 * (32 - t.val) + (j 1).val, by show 64 * (32 - t.val) + (j 1).val < 2112; omega⟩
      | ⟨2, _⟩ => ⟨(j 2).val, b2⟩ : S2x2112x1536.Idx) := by
    funext a
    apply Fin.ext
    match a with
    | ⟨0, _⟩ => show win0_14.index t 0 * 2 + 1 * (j 0).val = (j 0).val; rw [h0]; omega
    | ⟨1, _⟩ => show win0_14.index t 1 * 64 + 1 * (j 1).val = 64 * (32 - t.val) + (j 1).val; rw [h1]; omega
    | ⟨2, _⟩ => show win0_14.index t 2 * 1536 + 1 * (j 2).val = (j 2).val; rw [h2]; omega
  refine Eq.trans (b := R14 I (((cfg0.win 14).blk t).view.emb j)) ?_ rfl
  rw [e]
  show ((o14 I (32 - t.val) (j 0).val (j 1).val (j 2).val : ℝ) : EReal) =
    ((K_v312 I (j 0).val ((64 * (32 - t.val) + (j 1).val) / 64) ((64 * (32 - t.val) + (j 1).val) % 64) (j 2).val : ℝ) : EReal)
  rw [o14_eq I _ _ _ _ b1 b2, show (64 * (32 - t.val) + (j 1).val) / 64 = 32 - t.val by omega, show (64 * (32 - t.val) + (j 1).val) % 64 = (j 1).val by omega]

/-- Every index of result 1 is in some point's block. -/
theorem cov14 (i : S2x2112x1536.Idx) : ∃ t : Fin cfg0.N, (cfg0.win 14).flush t = true ∧ i ∈ ((cfg0.win 14).blk t).view.set := by
  have b0 : (i 0).val < 2 := (i 0).isLt
  have b1 : (i 1).val < 2112 := (i 1).isLt
  have b2 : (i 2).val < 1536 := (i 2).isLt
  obtain ⟨t, ht⟩ : ∃ t : Fin cfg0.N, t.val = 32 - (i 1).val / 64 := ⟨⟨32 - (i 1).val / 64, by show _ < grid0.N; rw [N_0]; omega⟩, rfl⟩
  obtain ⟨h0, h1, h2⟩ := ix14 t
  refine ⟨t, flush0_14 t, ?_⟩
  show i ∈ ((View.whole main_v28_0).slice (win0_14.rect t)).set
  rw [View.set_slice_whole, Rect.mem_set_unit]
  intro a
  match a with
  | ⟨0, _⟩ => show win0_14.index t 0 * 2 ≤ (i 0).val ∧ (i 0).val < win0_14.index t 0 * 2 + 2
              rw [h0]; omega
  | ⟨1, _⟩ => show win0_14.index t 1 * 64 ≤ (i 1).val ∧ (i 1).val < win0_14.index t 1 * 64 + 64
              rw [h1, ht]; omega
  | ⟨2, _⟩ => show win0_14.index t 2 * 1536 ≤ (i 2).val ∧ (i 2).val < win0_14.index t 2 * 1536 + 1536
              rw [h2]; omega

include A in
/-- Result 1 after the run. -/
theorem arr14 : (dats m 0 c).arrAt 14 cfg0.N = R14 I :=
  (dats m 0 c).arrAt_eq_of_cover 14 (R14 I) (fun t _ => fl14 A t) cov14

include A in
/-- What a point writes back to result 2. -/
theorem fl15 (t : Fin cfg0.N) : (dats m 0 c).flushed 15 t = ((cfg0.win 15).blk t).view.read (Elt Ideal) (R15 I) := by
  obtain ⟨h0, h1, h2⟩ := ix15 t
  have ht : t.val < 33 := t.isLt.trans_eq N_0
  rw [flushed15, (st A t.val t.isLt).2.1]
  funext j
  have b0 : (j 0).val < 2 := (j 0).isLt
  have b1 : (j 1).val < 64 := (j 1).isLt
  have b2 : (j 2).val < 1152 := (j 2).isLt
  have e : (((cfg0.win 15).blk t).view.emb j : S2x2112x1152.Idx) = (fun a => match a with
      | ⟨0, _⟩ => ⟨(j 0).val, b0⟩
      | ⟨1, _⟩ => ⟨64 * (32 - t.val) + (j 1).val, by show 64 * (32 - t.val) + (j 1).val < 2112; omega⟩
      | ⟨2, _⟩ => ⟨(j 2).val, b2⟩ : S2x2112x1152.Idx) := by
    funext a
    apply Fin.ext
    match a with
    | ⟨0, _⟩ => show win0_15.index t 0 * 2 + 1 * (j 0).val = (j 0).val; rw [h0]; omega
    | ⟨1, _⟩ => show win0_15.index t 1 * 64 + 1 * (j 1).val = 64 * (32 - t.val) + (j 1).val; rw [h1]; omega
    | ⟨2, _⟩ => show win0_15.index t 2 * 1152 + 1 * (j 2).val = (j 2).val; rw [h2]; omega
  refine Eq.trans (b := R15 I (((cfg0.win 15).blk t).view.emb j)) ?_ rfl
  rw [e]
  show ((o15 I (32 - t.val) (j 0).val (j 1).val (j 2).val : ℝ) : EReal) =
    ((K_v319 I (j 0).val ((64 * (32 - t.val) + (j 1).val) / 64) ((64 * (32 - t.val) + (j 1).val) % 64) (j 2).val : ℝ) : EReal)
  rw [o15_eq I _ _ _ _ b1, show (64 * (32 - t.val) + (j 1).val) / 64 = 32 - t.val by omega, show (64 * (32 - t.val) + (j 1).val) % 64 = (j 1).val by omega]

/-- Every index of result 2 is in some point's block. -/
theorem cov15 (i : S2x2112x1152.Idx) : ∃ t : Fin cfg0.N, (cfg0.win 15).flush t = true ∧ i ∈ ((cfg0.win 15).blk t).view.set := by
  have b0 : (i 0).val < 2 := (i 0).isLt
  have b1 : (i 1).val < 2112 := (i 1).isLt
  have b2 : (i 2).val < 1152 := (i 2).isLt
  obtain ⟨t, ht⟩ : ∃ t : Fin cfg0.N, t.val = 32 - (i 1).val / 64 := ⟨⟨32 - (i 1).val / 64, by show _ < grid0.N; rw [N_0]; omega⟩, rfl⟩
  obtain ⟨h0, h1, h2⟩ := ix15 t
  refine ⟨t, flush0_15 t, ?_⟩
  show i ∈ ((View.whole main_v28_1).slice (win0_15.rect t)).set
  rw [View.set_slice_whole, Rect.mem_set_unit]
  intro a
  match a with
  | ⟨0, _⟩ => show win0_15.index t 0 * 2 ≤ (i 0).val ∧ (i 0).val < win0_15.index t 0 * 2 + 2
              rw [h0]; omega
  | ⟨1, _⟩ => show win0_15.index t 1 * 64 ≤ (i 1).val ∧ (i 1).val < win0_15.index t 1 * 64 + 64
              rw [h1, ht]; omega
  | ⟨2, _⟩ => show win0_15.index t 2 * 1152 ≤ (i 2).val ∧ (i 2).val < win0_15.index t 2 * 1152 + 1152
              rw [h2]; omega

include A in
/-- Result 2 after the run. -/
theorem arr15 : (dats m 0 c).arrAt 15 cfg0.N = R15 I :=
  (dats m 0 c).arrAt_eq_of_cover 15 (R15 I) (fun t _ => fl15 A t) cov15

include A in
/-- What the last point writes back to result 3. -/
theorem fl16 (t : Fin cfg0.N) (hf : (cfg0.win 16).flush t = true) : (dats m 0 c).flushed 16 t = ((cfg0.win 16).blk t).view.read (Elt Ideal) (R16 I) := by
  obtain ⟨h0, h1⟩ := ix16 t
  have ht : t.val < 33 := t.isLt.trans_eq N_0
  have h32 : t.val = 32 := by have := (flush0_16 t).1 hf; omega
  rw [flushed16, (st A t.val t.isLt).2.2.1]
  funext j
  have b0 : (j 0).val < 1 := (j 0).isLt
  have b1 : (j 1).val < 1024 := (j 1).isLt
  have e : (((cfg0.win 16).blk t).view.emb j : S1x1024.Idx) = (fun a => match a with
      | ⟨0, _⟩ => ⟨(j 0).val, b0⟩
      | ⟨1, _⟩ => ⟨(j 1).val, b1⟩ : S1x1024.Idx) := by
    funext a
    apply Fin.ext
    match a with
    | ⟨0, _⟩ => show win0_16.index t 0 * 1 + 1 * (j 0).val = (j 0).val; rw [h0]; omega
    | ⟨1, _⟩ => show win0_16.index t 1 * 1024 + 1 * (j 1).val = (j 1).val; rw [h1]; omega
  refine Eq.trans (b := R16 I (((cfg0.win 16).blk t).view.emb j)) ?_ rfl
  rw [e]
  show ((acc (s16 I) t.val (j 0).val (j 1).val : ℝ) : EReal) = ((K_v27 I (j 1).val : ℝ) : EReal)
  rw [h32, acc_last, tot16]

/-- The last point's block is the whole of result 3. -/
theorem cov16 (i : S1x1024.Idx) : ∃ t : Fin cfg0.N, (cfg0.win 16).flush t = true ∧ i ∈ ((cfg0.win 16).blk t).view.set := by
  have b0 : (i 0).val < 1 := (i 0).isLt
  have b1 : (i 1).val < 1024 := (i 1).isLt
  obtain ⟨t, ht⟩ : ∃ t : Fin cfg0.N, t.val = 32 := ⟨⟨32, by show _ < grid0.N; rw [N_0]; omega⟩, rfl⟩
  obtain ⟨h0, h1⟩ := ix16 t
  refine ⟨t, (flush0_16 t).2 (by omega), ?_⟩
  show i ∈ ((View.whole main_v28_2).slice (win0_16.rect t)).set
  rw [View.set_slice_whole, Rect.mem_set_unit]
  intro a
  match a with
  | ⟨0, _⟩ => show win0_16.index t 0 * 1 ≤ (i 0).val ∧ (i 0).val < win0_16.index t 0 * 1 + 1
              rw [h0]; omega
  | ⟨1, _⟩ => show win0_16.index t 1 * 1024 ≤ (i 1).val ∧ (i 1).val < win0_16.index t 1 * 1024 + 1024
              rw [h1]; omega

include A in
/-- Result 3 after the run. -/
theorem arr16 : (dats m 0 c).arrAt 16 cfg0.N = R16 I :=
  (dats m 0 c).arrAt_eq_of_cover 16 (R16 I) (fl16 A) cov16

include A in
/-- What the last point writes back to result 4. -/
theorem fl17 (t : Fin cfg0.N) (hf : (cfg0.win 17).flush t = true) : (dats m 0 c).flushed 17 t = ((cfg0.win 17).blk t).view.read (Elt Ideal) (R17 I) := by
  obtain ⟨h0, h1⟩ := ix17 t
  have ht : t.val < 33 := t.isLt.trans_eq N_0
  have h32 : t.val = 32 := by have := (flush0_17 t).1 hf; omega
  rw [flushed17, (st A t.val t.isLt).2.2.2.1]
  funext j
  have b0 : (j 0).val < 1 := (j 0).isLt
  have b1 : (j 1).val < 128 := (j 1).isLt
  have e : (((cfg0.win 17).blk t).view.emb j : S1x128.Idx) = (fun a => match a with
      | ⟨0, _⟩ => ⟨(j 0).val, b0⟩
      | ⟨1, _⟩ => ⟨(j 1).val, b1⟩ : S1x128.Idx) := by
    funext a
    apply Fin.ext
    match a with
    | ⟨0, _⟩ => show win0_17.index t 0 * 1 + 1 * (j 0).val = (j 0).val; rw [h0]; omega
    | ⟨1, _⟩ => show win0_17.index t 1 * 128 + 1 * (j 1).val = (j 1).val; rw [h1]; omega
  refine Eq.trans (b := R17 I (((cfg0.win 17).blk t).view.emb j)) ?_ rfl
  rw [e]
  show ((acc (s17 I) t.val (j 0).val (j 1).val : ℝ) : EReal) = ((K_v324 I (j 1).val : ℝ) : EReal)
  rw [h32, acc_last, tot17]

/-- The last point's block is the whole of result 4. -/
theorem cov17 (i : S1x128.Idx) : ∃ t : Fin cfg0.N, (cfg0.win 17).flush t = true ∧ i ∈ ((cfg0.win 17).blk t).view.set := by
  have b0 : (i 0).val < 1 := (i 0).isLt
  have b1 : (i 1).val < 128 := (i 1).isLt
  obtain ⟨t, ht⟩ : ∃ t : Fin cfg0.N, t.val = 32 := ⟨⟨32, by show _ < grid0.N; rw [N_0]; omega⟩, rfl⟩
  obtain ⟨h0, h1⟩ := ix17 t
  refine ⟨t, (flush0_17 t).2 (by omega), ?_⟩
  show i ∈ ((View.whole main_v28_3).slice (win0_17.rect t)).set
  rw [View.set_slice_whole, Rect.mem_set_unit]
  intro a
  match a with
  | ⟨0, _⟩ => show win0_17.index t 0 * 1 ≤ (i 0).val ∧ (i 0).val < win0_17.index t 0 * 1 + 1
              rw [h0]; omega
  | ⟨1, _⟩ => show win0_17.index t 1 * 128 ≤ (i 1).val ∧ (i 1).val < win0_17.index t 1 * 128 + 128
              rw [h1]; omega

include A in
/-- Result 4 after the run. -/
theorem arr17 : (dats m 0 c).arrAt 17 cfg0.N = R17 I :=
  (dats m 0 c).arrAt_eq_of_cover 17 (R17 I) (fl17 A) cov17

include A in
/-- What the last point writes back to result 5. -/
theorem fl18 (t : Fin cfg0.N) (hf : (cfg0.win 18).flush t = true) : (dats m 0 c).flushed 18 t = ((cfg0.win 18).blk t).view.read (Elt Ideal) (R18 I) := by
  obtain ⟨h0, h1⟩ := ix18 t
  have ht : t.val < 33 := t.isLt.trans_eq N_0
  have h32 : t.val = 32 := by have := (flush0_18 t).1 hf; omega
  rw [flushed18, (st A t.val t.isLt).2.2.2.2.1]
  funext j
  have b0 : (j 0).val < 1 := (j 0).isLt
  have b1 : (j 1).val < 128 := (j 1).isLt
  have e : (((cfg0.win 18).blk t).view.emb j : S1x128.Idx) = (fun a => match a with
      | ⟨0, _⟩ => ⟨(j 0).val, b0⟩
      | ⟨1, _⟩ => ⟨(j 1).val, b1⟩ : S1x128.Idx) := by
    funext a
    apply Fin.ext
    match a with
    | ⟨0, _⟩ => show win0_18.index t 0 * 1 + 1 * (j 0).val = (j 0).val; rw [h0]; omega
    | ⟨1, _⟩ => show win0_18.index t 1 * 128 + 1 * (j 1).val = (j 1).val; rw [h1]; omega
  refine Eq.trans (b := R18 I (((cfg0.win 18).blk t).view.emb j)) ?_ rfl
  rw [e]
  show ((acc (s18 I) t.val (j 0).val (j 1).val : ℝ) : EReal) = ((K_v327 I (j 1).val : ℝ) : EReal)
  rw [h32, acc_last, tot18]

/-- The last point's block is the whole of result 5. -/
theorem cov18 (i : S1x128.Idx) : ∃ t : Fin cfg0.N, (cfg0.win 18).flush t = true ∧ i ∈ ((cfg0.win 18).blk t).view.set := by
  have b0 : (i 0).val < 1 := (i 0).isLt
  have b1 : (i 1).val < 128 := (i 1).isLt
  obtain ⟨t, ht⟩ : ∃ t : Fin cfg0.N, t.val = 32 := ⟨⟨32, by show _ < grid0.N; rw [N_0]; omega⟩, rfl⟩
  obtain ⟨h0, h1⟩ := ix18 t
  refine ⟨t, (flush0_18 t).2 (by omega), ?_⟩
  show i ∈ ((View.whole main_v28_4).slice (win0_18.rect t)).set
  rw [View.set_slice_whole, Rect.mem_set_unit]
  intro a
  match a with
  | ⟨0, _⟩ => show win0_18.index t 0 * 1 ≤ (i 0).val ∧ (i 0).val < win0_18.index t 0 * 1 + 1
              rw [h0]; omega
  | ⟨1, _⟩ => show win0_18.index t 1 * 128 ≤ (i 1).val ∧ (i 1).val < win0_18.index t 1 * 128 + 128
              rw [h1]; omega

include A in
/-- Result 5 after the run. -/
theorem arr18 : (dats m 0 c).arrAt 18 cfg0.N = R18 I :=
  (dats m 0 c).arrAt_eq_of_cover 18 (R18 I) (fl18 A) cov18

include A in
/-- What the last point writes back to result 6. -/
theorem fl19 (t : Fin cfg0.N) (hf : (cfg0.win 19).flush t = true) : (dats m 0 c).flushed 19 t = ((cfg0.win 19).blk t).view.read (Elt Ideal) (R19 I) := by
  obtain ⟨h0, h1⟩ := ix19 t
  have ht : t.val < 33 := t.isLt.trans_eq N_0
  have h32 : t.val = 32 := by have := (flush0_19 t).1 hf; omega
  rw [flushed19, (st A t.val t.isLt).2.2.2.2.2.1]
  funext j
  have b0 : (j 0).val < 1 := (j 0).isLt
  have b1 : (j 1).val < 128 := (j 1).isLt
  have e : (((cfg0.win 19).blk t).view.emb j : S1x128.Idx) = (fun a => match a with
      | ⟨0, _⟩ => ⟨(j 0).val, b0⟩
      | ⟨1, _⟩ => ⟨(j 1).val, b1⟩ : S1x128.Idx) := by
    funext a
    apply Fin.ext
    match a with
    | ⟨0, _⟩ => show win0_19.index t 0 * 1 + 1 * (j 0).val = (j 0).val; rw [h0]; omega
    | ⟨1, _⟩ => show win0_19.index t 1 * 128 + 1 * (j 1).val = (j 1).val; rw [h1]; omega
  refine Eq.trans (b := R19 I (((cfg0.win 19).blk t).view.emb j)) ?_ rfl
  rw [e]
  show ((acc (s19 I) t.val (j 0).val (j 1).val : ℝ) : EReal) = ((K_v330 I (j 1).val : ℝ) : EReal)
  rw [h32, acc_last, tot19]

/-- The last point's block is the whole of result 6. -/
theorem cov19 (i : S1x128.Idx) : ∃ t : Fin cfg0.N, (cfg0.win 19).flush t = true ∧ i ∈ ((cfg0.win 19).blk t).view.set := by
  have b0 : (i 0).val < 1 := (i 0).isLt
  have b1 : (i 1).val < 128 := (i 1).isLt
  obtain ⟨t, ht⟩ : ∃ t : Fin cfg0.N, t.val = 32 := ⟨⟨32, by show _ < grid0.N; rw [N_0]; omega⟩, rfl⟩
  obtain ⟨h0, h1⟩ := ix19 t
  refine ⟨t, (flush0_19 t).2 (by omega), ?_⟩
  show i ∈ ((View.whole main_v28_5).slice (win0_19.rect t)).set
  rw [View.set_slice_whole, Rect.mem_set_unit]
  intro a
  match a with
  | ⟨0, _⟩ => show win0_19.index t 0 * 1 ≤ (i 0).val ∧ (i 0).val < win0_19.index t 0 * 1 + 1
              rw [h0]; omega
  | ⟨1, _⟩ => show win0_19.index t 1 * 128 ≤ (i 1).val ∧ (i 1).val < win0_19.index t 1 * 128 + 128
              rw [h1]; omega

include A in
/-- Result 6 after the run. -/
theorem arr19 : (dats m 0 c).arrAt 19 cfg0.N = R19 I :=
  (dats m 0 c).arrAt_eq_of_cover 19 (R19 I) (fl19 A) cov19

end Cert.Ssd
end
-- ==== Proof.SsdRefA.lean ====
module

public import proofs.«01_k».proof.Proof.Gen.ReferenceIdeal.Read
public import Idealize.ShloMosaic.Lib.ValueIdx
public import Idealize.ShloMosaic.Lib.Pointwise
public import Idealize.ShloMosaic.PureOps.Ideal.Laws
public import Idealize.ShloMosaic.Lib.IdealHost
public import Idealize.ShloMosaic.Lib.WordArith
public import Idealize.ShloMosaic.Lib.Pipeline.Value
public import proofs.«01_k».proof.Proof.SsdK

/-! The reference, one operation at a time, on arrays of real numbers: `K_<operation>` is the real value an operation has at
an index given by its coordinates (a chunk as example and number, a row as example and position), and `L_<operation>` says
that the operation has this value. The operations that only move elements, and the constants, have no `K_` of their own. -/

@[expose] public section

set_option maxRecDepth 16384

noncomputable section

namespace Cert.SsdR

open Cert.ReferenceIdeal Cert.ReferenceIdeal.Gen Cert.ReferenceIdeal.Read Idealize.ShloMosaic
open scoped BigOperators

/-- The first argument's array. -/
def Inp.x0 (I : Inp) : (⟨S2x2064x2048, .bf16⟩ : BufTy).Contents (Elt Ideal) := fun i => ((I.a0 (i 0).val (i 1).val (i 2).val : ℝ) : EReal)
/-- The second argument's array. -/
def Inp.x1 (I : Inp) : (⟨S2x2064x1024, .bf16⟩ : BufTy).Contents (Elt Ideal) := fun i => ((I.a1 (i 0).val (i 1).val (i 2).val : ℝ) : EReal)
/-- The third argument's array. -/
def Inp.x2 (I : Inp) : (⟨S2x2064x1536, .bf16⟩ : BufTy).Contents (Elt Ideal) := fun i => ((I.a2 (i 0).val (i 1).val (i 2).val : ℝ) : EReal)
/-- The fourth argument's array. -/
def Inp.x3 (I : Inp) : (⟨S2x2064x6272, .bf16⟩ : BufTy).Contents (Elt Ideal) := fun i => ((I.a3 (i 0).val (i 1).val (i 2).val : ℝ) : EReal)
/-- The fifth argument's array. -/
def Inp.x4 (I : Inp) : (⟨S2x33x128x1024, .bf16⟩ : BufTy).Contents (Elt Ideal) := fun i => ((I.a4 (i 0).val (i 1).val (i 2).val (i 3).val : ℝ) : EReal)
/-- The sixth argument's array. -/
def Inp.x5 (I : Inp) : (⟨S16, .f32⟩ : BufTy).Contents (Elt Ideal) := fun i => ((I.a5 (i 0).val : ℝ) : EReal)
/-- The seventh argument's array. -/
def Inp.x6 (I : Inp) : (⟨S16, .f32⟩ : BufTy).Contents (Elt Ideal) := fun i => ((I.a6 (i 0).val : ℝ) : EReal)
/-- The eighth argument's array. -/
def Inp.x7 (I : Inp) : (⟨S16, .f32⟩ : BufTy).Contents (Elt Ideal) := fun i => ((I.a7 (i 0).val : ℝ) : EReal)
/-- The ninth argument's array. -/
def Inp.x8 (I : Inp) : (⟨S1024, .f32⟩ : BufTy).Contents (Elt Ideal) := fun i => ((I.a8 (i 0).val : ℝ) : EReal)

section

/-- A finite sum of real numbers among the extended reals. -/
theorem coe_sum' (K : ℕ) (g : ℕ → ℝ) : ((∑ k ∈ Finset.range K, g k : ℝ) : EReal) = ∑ k ∈ Finset.range K, ((g k : ℝ) : EReal) := by
  induction K with
  | zero => simp
  | succ n ih => rw [Finset.sum_range_succ, Finset.sum_range_succ, EReal.coe_add, ih]

theorem cg1 (f : ℕ → ℝ) {a a' : ℕ} (h : a = a') : @Eq EReal ((f a : ℝ) : EReal) ((f a' : ℝ) : EReal) := by rw [h]
theorem cg3 (f : ℕ → ℕ → ℕ → ℝ) {a a' b b' c c' : ℕ} (h : a = a') (h' : b = b') (h'' : c = c') :
    @Eq EReal ((f a b c : ℝ) : EReal) ((f a' b' c' : ℝ) : EReal) := by rw [h, h', h'']
theorem cg4 (f : ℕ → ℕ → ℕ → ℕ → ℝ) {a a' b b' c c' d d' : ℕ} (h : a = a') (h' : b = b') (h'' : c = c') (h3 : d = d') :
    @Eq EReal ((f a b c d : ℝ) : EReal) ((f a' b' c' d' : ℝ) : EReal) := by rw [h, h', h'', h3]

theorem zeroR : @Eq EReal (FloatOps.ofBits (F := Ideal) .f32 0x00000000#32) ((0 : ℝ) : EReal) := by
  show Ideal.ofBits .f32 0x00000000#32 = _
  simp [Ideal.ofBits, Ideal.ieee]
theorem oneR : @Eq EReal (FloatOps.ofBits (F := Ideal) .f32 0x3F800000#32) ((1 : ℝ) : EReal) := by
  show Ideal.ofBits .f32 0x3F800000#32 = _
  rw [Ideal.ofBits_one_f32]; rfl
theorem kR : @Eq EReal (FloatOps.ofBits (F := Ideal) .f32 0x44800000#32) ((1024 : ℝ) : EReal) := by
  show Ideal.ofBits .f32 0x44800000#32 = _
  simp [Ideal.ofBits, Ideal.ieee]
  rw [← EReal.coe_mul]; norm_num
theorem epsRR : @Eq EReal (FloatOps.ofBits (F := Ideal) .f32 0x358637BD#32) ((eps : ℝ) : EReal) := by
  show Ideal.ofBits .f32 0x358637BD#32 = _
  simp [Ideal.ofBits, Ideal.ieee, eps]
  rw [← EReal.coe_mul]; norm_num
theorem mhalfR : @Eq EReal (FloatOps.ofBits (F := Ideal) .f32 0xBF000000#32) (((-(1/2)) : ℝ) : EReal) := by
  show Ideal.ofBits .f32 0xBF000000#32 = _
  simp [Ideal.ofBits, Ideal.ieee]
  norm_num [← EReal.coe_mul, ← EReal.coe_neg]
theorem topR : @Eq EReal (FloatOps.ofBits (F := Ideal) .f32 0x7F800000#32) ⊤ := by
  show Ideal.ofBits .f32 0x7F800000#32 = _
  simp [Ideal.ofBits, Ideal.ieee]

variable {a b : EReal} {x y : ℝ}

theorem extR (ha : a = (x : EReal)) : @Eq EReal (FloatOps.extf (F := Ideal) (φ := .bf16) .f32 bitsLt_bf16_f32 a) (x : EReal) := ha
theorem truncR (ha : a = (x : EReal)) : @Eq EReal (FloatOps.truncf (F := Ideal) (φ := .f32) .bf16 bitsLt_bf16_f32 a) (x : EReal) := ha
theorem negR (ha : a = (x : EReal)) : @Eq EReal (FloatOps.hostNegf (F := Ideal) (φ := .f32) a) ((-x : ℝ) : EReal) := by
  subst ha; rfl
theorem absR (ha : a = (x : EReal)) : @Eq EReal (FloatOps.hostAbsf (F := Ideal) (φ := .f32) a) ((|x| : ℝ) : EReal) := by
  subst ha
  show max (x : EReal) (-(x : EReal)) = _
  rw [← EReal.coe_neg, abs_eq_max_neg]; exact (EReal.coe_strictMono.monotone.map_max (a := x) (b := -x)).symm
theorem expR (ha : a = (x : EReal)) : @Eq EReal (FloatOps.hostUnary (F := Ideal) (φ := .f32) .exp a) ((Real.exp x : ℝ) : EReal) := by
  subst ha; rfl
theorem addR (ha : a = (x : EReal)) (hb : b = (y : EReal)) : @Eq EReal (FloatOps.addf (F := Ideal) (φ := .f32) a b) ((x + y : ℝ) : EReal) := by
  subst ha hb; exact (EReal.coe_add x y).symm
theorem subR (ha : a = (x : EReal)) (hb : b = (y : EReal)) : @Eq EReal (FloatOps.subf (F := Ideal) (φ := .f32) a b) ((x - y : ℝ) : EReal) := by
  subst ha hb; exact (EReal.coe_sub x y).symm
theorem mulR (ha : a = (x : EReal)) (hb : b = (y : EReal)) : @Eq EReal (FloatOps.mulf (F := Ideal) (φ := .f32) a b) ((x * y : ℝ) : EReal) := by
  subst ha hb; exact (EReal.coe_mul x y).symm
theorem maxR (ha : a = (x : EReal)) (hb : b = (y : EReal)) : @Eq EReal (FloatOps.maximumf (F := Ideal) (φ := .f32) a b) ((max x y : ℝ) : EReal) := by
  subst ha hb; exact (EReal.coe_strictMono.monotone.map_max (a := x) (b := y)).symm
theorem divR (ha : a = (x : EReal)) (hb : b = (y : EReal)) (hy : y ≠ 0) :
    @Eq EReal (FloatOps.hostDivf (F := Ideal) (φ := .f32) a b) ((x / y : ℝ) : EReal) := by
  subst ha hb
  show Ideal.div (x : EReal) (y : EReal) = _
  unfold Ideal.div
  rw [if_neg (by exact_mod_cast hy), ← EReal.coe_inv, ← EReal.coe_mul, div_eq_mul_inv]
theorem rsqrtR (hx : 0 < x) (ha : a = (x : EReal)) :
    @Eq EReal (FloatOps.hostUnary (F := Ideal) (φ := .f32) .rsqrt a) (((Real.sqrt x)⁻¹ : ℝ) : EReal) := by
  subst ha
  show (if x < 0 then (⊥ : EReal) else if x = 0 then ⊤ else (((Real.sqrt x)⁻¹ : ℝ) : EReal)) = _
  rw [if_neg (not_lt.mpr hx.le), if_neg hx.ne']
theorem l1pR (hx : 0 < x) (ha : a = (x : EReal)) :
    @Eq EReal (FloatOps.hostUnary (F := Ideal) (φ := .f32) .log1p a) ((Real.log (1 + x) : ℝ) : EReal) := by
  subst ha
  show Ideal.log (1 + (x : EReal)) = _
  rw [← EReal.coe_one, ← EReal.coe_add]
  show (if (1 + x : ℝ) ≤ 0 then (⊥ : EReal) else _) = _
  rw [if_neg (not_le.mpr (by positivity))]

theorem redR {K : ℕ} {f : Fin K → EReal} {g : ℕ → ℝ} (ha : a = ((0 : ℝ) : EReal)) (h : ∀ k : Fin K, f k = ((g k.val : ℝ) : EReal)) :
    @Eq EReal (a + ∑ k : Fin K, f k) ((∑ k ∈ Finset.range K, g k : ℝ) : EReal) := by
  rw [ha, EReal.coe_zero, zero_add, Finset.sum_congr rfl (fun k _ => h k), Fin.sum_univ_eq_sum_range (fun k => ((g k : ℝ) : EReal)) K]
  exact (Cert.SsdR.coe_sum' K g).symm
theorem red1R {f : Fin 1 → EReal} (ha : a = ((0 : ℝ) : EReal)) (h : f 0 = (x : EReal)) :
    @Eq EReal (a + ∑ k : Fin 1, f k) (x : EReal) := by
  rw [ha, EReal.coe_zero, zero_add, Fin.sum_univ_one, h]
theorem dotR {K : ℕ} {f f' : Fin K → EReal} {g g' : ℕ → ℝ} (h : ∀ k : Fin K, f k = ((g k.val : ℝ) : EReal))
    (h' : ∀ k : Fin K, f' k = ((g' k.val : ℝ) : EReal)) :
    @Eq EReal (∑ k : Fin K, f k * f' k) ((∑ k ∈ Finset.range K, g k * g' k : ℝ) : EReal) := by
  rw [Finset.sum_congr rfl (fun k _ => by rw [h k, h' k, ← EReal.coe_mul]),
    Fin.sum_univ_eq_sum_range (fun k => ((g k * g' k : ℝ) : EReal)) K]
  exact (Cert.SsdR.coe_sum' K fun k => g k * g' k).symm

theorem ofNatR {n m : ℕ} (h : n = m) : BitVec.ofNat 32 n = BitVec.ofNat 32 m := by rw [h]
theorem addzR {p q : BitVec 32} {n : ℕ} (hp : p = BitVec.ofNat 32 n) (hq : q = BitVec.ofNat 32 0) :
    IntOp.addi p q = BitVec.ofNat 32 n := by
  subst hp hq; exact BitVec.add_zero _
theorem sgeR {p q : BitVec 32} {n m : ℕ} (hn : n < 2 ^ 31) (hm : m < 2 ^ 31) (hp : p = BitVec.ofNat 32 n) (hq : q = BitVec.ofNat 32 m) :
    IntOp.cmpi .sge p q = BitVec.ofBool (decide (m ≤ n)) := by
  subst hp hq
  show BitVec.ofBool (BitVec.sle _ _) = _
  congr 1
  simp only [BitVec.sle, BitVec.toInt_eq_toNat_cond, BitVec.toNat_ofNat]
  rw [Nat.mod_eq_of_lt (by omega), Nat.mod_eq_of_lt (by omega), if_pos (by omega), if_pos (by omega)]
  simp
theorem sltR {p q : BitVec 32} {n m : ℕ} (hn : n < 2 ^ 31) (hm : m < 2 ^ 31) (hp : p = BitVec.ofNat 32 n) (hq : q = BitVec.ofNat 32 m) :
    IntOp.cmpi .slt p q = BitVec.ofBool (decide (n < m)) := by
  subst hp hq
  show BitVec.ofBool (BitVec.slt _ _) = _
  congr 1
  simp only [BitVec.slt, BitVec.toInt_eq_toNat_cond, BitVec.toNat_ofNat]
  rw [Nat.mod_eq_of_lt (by omega), Nat.mod_eq_of_lt (by omega), if_pos (by omega), if_pos (by omega)]
  simp
theorem oneB : (1#1 : BitVec 1) = BitVec.ofBool (decide True) := by simp
theorem zeroB : (0#1 : BitVec 1) = BitVec.ofBool (decide False) := by simp

variable {P Q : Prop} [Decidable P] [Decidable Q] {p q r : BitVec 1}

theorem andB (hp : p = BitVec.ofBool (decide P)) (hq : q = BitVec.ofBool (decide Q)) : IntOp.andi p q = BitVec.ofBool (decide (P ∧ Q)) := by
  subst hp hq; rw [WordArith.andi_ofBool, Bool.decide_and]
theorem uiR (hp : p = BitVec.ofBool (decide P)) : @Eq EReal (FloatOps.uitofp (F := Ideal) .f32 p) ((if P then (1 : ℝ) else 0 : ℝ) : EReal) := by
  subst hp
  show (((BitVec.ofBool (decide P)).toNat : ℝ) : EReal) = _
  by_cases h : P <;> simp [h]
theorem uneR (ha : a = (x : EReal)) : FloatOps.cmpf (F := Ideal) (φ := .f32) .une a a = BitVec.ofBool (decide False) := by
  subst ha
  simp [Ideal.cmpf_def, Ideal.cmp]
theorem oeqR (ha : a = (x : EReal)) (hb : b = ⊤) : FloatOps.cmpf (F := Ideal) (φ := .f32) .oeq a b = BitVec.ofBool (decide False) := by
  subst ha hb
  simp [Ideal.cmpf_def, Ideal.cmp]
theorem selF {α : Type} {u v w : α} (hp : p = BitVec.ofBool (decide False)) (hv : v = w) : Scalar.select p u v = w := by
  subst hp hv; rfl
theorem selR (hp : p = BitVec.ofBool (decide P)) (ha : a = (x : EReal)) (hb : b = (y : EReal)) :
    @Eq EReal (Scalar.select p a b) ((if P then x else y : ℝ) : EReal) := by
  subst hp ha hb
  by_cases h : P <;> simp [h, Scalar.select]
theorem selB (hp : p = BitVec.ofBool (decide P)) (hq : q = BitVec.ofBool (decide True)) (hr : r = BitVec.ofBool (decide False)) :
    Scalar.select p q r = BitVec.ofBool (decide P) := by
  subst hp hq hr
  by_cases h : P <;> simp [h, Scalar.select]

/-- An array of 2112 rows is one of 48 zero rows and then one of 2064 rows. -/
theorem catP {n : ℕ} {z : (⟨3, ![2, 48, n]⟩ : Shape).Idx → EReal} {w : (⟨3, ![2, 2064, n]⟩ : Shape).Idx → EReal} {h}
    {i : (⟨3, ![2, 2112, n]⟩ : Shape).Idx} {R : ℕ} (e1 : (i 1).val = R)
    (hz : ∀ j, z j = ((0 : ℝ) : EReal))
    (hw : ¬ R < 48 → ∀ j : (⟨3, ![2, 2064, n]⟩ : Shape).Idx, (j 0).val = (i 0).val → (j 1).val = R - 48 → (j 2).val = (i 2).val → w j = (x : EReal)) :
    @Eq EReal (concatenate ⟨3, ![2, 2112, n]⟩ 1 [⟨⟨3, ![2, 48, n]⟩, z⟩, ⟨⟨3, ![2, 2064, n]⟩, w⟩] h i) ((if R < 48 then 0 else x : ℝ) : EReal) := by
  have h1 : (i 1).val < 2112 := (i 1).isLt
  by_cases c : R < 48
  · rw [if_pos c]
    refine (concatenate_pair_apply_left 1 z w h i rfl (fun a => match a with
      | ⟨0, _⟩ => ⟨(i 0).val, (i 0).isLt⟩ | ⟨1, _⟩ => ⟨(i 1).val, by show (i 1).val < 48; omega⟩ | ⟨2, _⟩ => ⟨(i 2).val, (i 2).isLt⟩) ?_).trans (hz _)
    intro a
    match a with
    | ⟨0, _⟩ => rfl
    | ⟨1, _⟩ => rfl
    | ⟨2, _⟩ => rfl
  · rw [if_neg c]
    refine (concatenate_pair_apply_right 1 z w h i rfl rfl (fun a => match a with
      | ⟨0, _⟩ => ⟨(i 0).val, (i 0).isLt⟩ | ⟨1, _⟩ => ⟨(i 1).val - 48, by show (i 1).val - 48 < 2064; omega⟩ | ⟨2, _⟩ => ⟨(i 2).val, (i 2).isLt⟩) ?_ ?_).trans
        (hw c _ rfl (by show (i 1).val - 48 = R - 48; rw [e1]) rfl)
    · intro a ha
      match a with
      | ⟨0, _⟩ => rfl
      | ⟨1, _⟩ => exact absurd rfl ha
      | ⟨2, _⟩ => rfl
    · show (i 1).val - 48 + 48 = (i 1).val
      omega

/-- Two arrays side by side. -/
theorem cat2C {m n1 n2 n : ℕ} (hn : n = n1 + n2) {z : (⟨2, ![m, n1]⟩ : Shape).Idx → EReal} {w : (⟨2, ![m, n2]⟩ : Shape).Idx → EReal} {h}
    {i : (⟨2, ![m, n]⟩ : Shape).Idx} {R : ℕ} (e1 : (i 1).val = R)
    (hz : R < n1 → ∀ j : (⟨2, ![m, n1]⟩ : Shape).Idx, (j 0).val = (i 0).val → (j 1).val = R → z j = (x : EReal))
    (hw : ¬ R < n1 → ∀ j : (⟨2, ![m, n2]⟩ : Shape).Idx, (j 0).val = (i 0).val → (j 1).val = R - n1 → w j = (y : EReal)) :
    @Eq EReal (concatenate ⟨2, ![m, n]⟩ 1 [⟨⟨2, ![m, n1]⟩, z⟩, ⟨⟨2, ![m, n2]⟩, w⟩] h i) ((if R < n1 then x else y : ℝ) : EReal) := by
  have h1 : (i 1).val < n := (i 1).isLt
  by_cases c : R < n1
  · rw [if_pos c]
    refine (concatenate_pair_apply_left 1 z w h i rfl (fun a => match a with
      | ⟨0, _⟩ => ⟨(i 0).val, (i 0).isLt⟩ | ⟨1, _⟩ => ⟨(i 1).val, by show (i 1).val < n1; omega⟩) ?_).trans (hz c _ rfl e1)
    intro a
    match a with
    | ⟨0, _⟩ => rfl
    | ⟨1, _⟩ => rfl
  · rw [if_neg c]
    refine (concatenate_pair_apply_right 1 z w h i rfl rfl (fun a => match a with
      | ⟨0, _⟩ => ⟨(i 0).val, (i 0).isLt⟩ | ⟨1, _⟩ => ⟨(i 1).val - n1, by show (i 1).val - n1 < n2; omega⟩) ?_ ?_).trans
        (hw c _ rfl (by show (i 1).val - n1 = R - n1; rw [e1]))
    · intro a ha
      match a with
      | ⟨0, _⟩ => rfl
      | ⟨1, _⟩ => exact absurd rfl ha
    · show (i 1).val - n1 + n1 = (i 1).val
      omega

/-- Three arrays of 1024, 256 and 256 columns side by side. -/
theorem cat3C {w0 : S4128x1024.Idx → EReal} {w1 w2 : S4128x256.Idx → EReal} {h} {i : S4128x1536.Idx} {R : ℕ} {x0 x1 x2 : ℝ} (e1 : (i 1).val = R)
    (h0 : R < 1024 → ∀ j : S4128x1024.Idx, (j 0).val = (i 0).val → (j 1).val = R → w0 j = (x0 : EReal))
    (h1 : ¬ R < 1024 → R < 1280 → ∀ j : S4128x256.Idx, (j 0).val = (i 0).val → (j 1).val = R - 1024 → w1 j = (x1 : EReal))
    (h2 : ¬ R < 1280 → ∀ j : S4128x256.Idx, (j 0).val = (i 0).val → (j 1).val = R - 1280 → w2 j = (x2 : EReal)) :
    @Eq EReal (concatenate S4128x1536 1 [⟨S4128x1024, w0⟩, ⟨S4128x256, w1⟩, ⟨S4128x256, w2⟩] h i)
      ((if R < 1024 then x0 else if R < 1280 then x1 else x2 : ℝ) : EReal) := by
  have b1 : (i 1).val < 1536 := (i 1).isLt
  have piece : ∀ (k : ℕ) (hk : k < 3) (n : ℕ) (w : (⟨2, ![4128, n]⟩ : Shape).Idx → EReal)
      (hx : [(⟨S4128x1024, w0⟩ : (s : Shape) × (s.Idx → EReal)), ⟨S4128x256, w1⟩, ⟨S4128x256, w2⟩][k] = ⟨⟨2, ![4128, n]⟩, w⟩) (pre : ℕ)
      (hp : ((([(⟨S4128x1024, w0⟩ : (s : Shape) × (s.Idx → EReal)), ⟨S4128x256, w1⟩, ⟨S4128x256, w2⟩].take k).map (·.1)).map
        fun s => if h : s.rank = S4128x1536.rank then s.size ((1 : Fin S4128x1536.rank).cast h.symm) else 0).sum = pre)
      (hl : pre ≤ R) (hu : R - pre < n) (z : ℝ)
      (hw : ∀ j : (⟨2, ![4128, n]⟩ : Shape).Idx, (j 0).val = (i 0).val → (j 1).val = R - pre → w j = (z : EReal)),
      @Eq EReal (concatenate S4128x1536 1 [⟨S4128x1024, w0⟩, ⟨S4128x256, w1⟩, ⟨S4128x256, w2⟩] h i) (z : EReal) := by
    intro k hk n w hx pre hp hl hu z hw
    refine (concatenate_apply_piece 1 [⟨S4128x1024, w0⟩, ⟨S4128x256, w1⟩, ⟨S4128x256, w2⟩] h i k hk _ w hx rfl pre hp (fun a => match a with
      | ⟨0, _⟩ => ⟨(i 0).val, (i 0).isLt⟩ | ⟨1, _⟩ => ⟨(i 1).val - pre, by show (i 1).val - pre < n; omega⟩) ?_ ?_).trans
        (hw _ rfl (by show (i 1).val - pre = R - pre; rw [e1]))
    · intro a ha
      match a with
      | ⟨0, _⟩ => rfl
      | ⟨1, _⟩ => exact absurd rfl ha
    · show pre + ((i 1).val - pre) = (i 1).val
      omega
  by_cases c : R < 1024
  · rw [if_pos c]
    exact piece 0 (by omega) 1024 w0 rfl 0 rfl (by omega) (by omega) x0 (h0 c)
  · rw [if_neg c]
    by_cases c' : R < 1280
    · rw [if_pos c']
      exact piece 1 (by omega) 256 w1 rfl 1024 rfl (by omega) (by omega) x1 (h1 c c')
    · rw [if_neg c']
      exact piece 2 (by omega) 256 w2 rfl 1280 rfl (by omega) (by omega) x2 (h2 c')

end

theorem L_v0 (I : Inp) (i : S2x2064x1024.Idx) (x0 x1 x2 : ℕ) (hx0 : x0 < 2) (hx1 : x1 < 2064) (hx2 : x2 < 1024) (e0 : (i 0).val = x0) (e1 : (i 1).val = x1) (e2 : (i 2).val = x2) : @Eq EReal (val_main_v0 (F := Ideal) I.x1 i) (((I.a1 x0 x1 x2) : ℝ) : EReal) :=
  (val_main_v0_apply I.x1 i).trans (extR (cg3 I.a1 e0 e1 e2))

theorem L_v1 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v1 (F := Ideal) I.x1 i) (((I.a1 u0 v0 x1) : ℝ) : EReal) :=
  (val_main_v1_apply I.x1 i).trans (L_v0 I _ u0 v0 x1 hu0 hv0 hx1 (show ((i 0).val * 1024 + (i 1).val) / 2113536 = u0 from by omega) (show ((i 0).val * 1024 + (i 1).val) / 1024 % 2064 = v0 from by omega) (show ((i 0).val * 1024 + (i 1).val) % 1024 = x1 from by omega))

theorem L_v2 (I : Inp) (i : S2x2064x1024.Idx) (x0 x1 x2 : ℕ) (hx0 : x0 < 2) (hx1 : x1 < 2064) (hx2 : x2 < 1024) (e0 : (i 0).val = x0) (e1 : (i 1).val = x1) (e2 : (i 2).val = x2) : @Eq EReal (val_main_v2 (F := Ideal) I.x3 i) (((I.a3 x0 x1 (x2 + 2048)) : ℝ) : EReal) :=
  (val_main_v2_apply I.x3 i).trans (cg3 I.a3 e0 e1 (show 2048 + (i 2).val = x2 + 2048 from by omega))

theorem L_v3 (I : Inp) (i : S2x2064x1024.Idx) (x0 x1 x2 : ℕ) (hx0 : x0 < 2) (hx1 : x1 < 2064) (hx2 : x2 < 1024) (e0 : (i 0).val = x0) (e1 : (i 1).val = x1) (e2 : (i 2).val = x2) : @Eq EReal (val_main_v3 (F := Ideal) I.x3 i) (((I.a3 x0 x1 (x2 + 2048)) : ℝ) : EReal) :=
  (val_main_v3_apply I.x3 i).trans (extR (L_v2 I _ x0 x1 x2 hx0 hx1 hx2 e0 e1 e2))

theorem L_v4 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v4 (F := Ideal) I.x3 i) (((I.a3 u0 v0 (x1 + 2048)) : ℝ) : EReal) :=
  (val_main_v4_apply I.x3 i).trans (L_v3 I _ u0 v0 x1 hu0 hv0 hx1 (show ((i 0).val * 1024 + (i 1).val) / 2113536 = u0 from by omega) (show ((i 0).val * 1024 + (i 1).val) / 1024 % 2064 = v0 from by omega) (show ((i 0).val * 1024 + (i 1).val) % 1024 = x1 from by omega))

theorem L_call0_v0 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_call0_v0 (F := Ideal) I.x3 i) (((K_call0_v0 I u0 v0 x1) : ℝ) : EReal) :=
  by unfold K_call0_v0; exact (val_main_call0_v0_apply I.x3 i).trans (negR (L_v4 I _ u0 v0 x1 hu0 hv0 hx1 e0 e1))

theorem L_call0_v1 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_call0_v1 (F := Ideal) I.x3 i) (((K_call0_v1 I u0 v0 x1) : ℝ) : EReal) :=
  by unfold K_call0_v1; exact (val_main_call0_v1_apply I.x3 i).trans (expR (L_call0_v0 I _ u0 v0 x1 hu0 hv0 hx1 e0 e1))

theorem L_call0_cst (I : Inp) (i : S_.Idx) : @Eq EReal (val_main_call0_cst (F := Ideal) i) (((1 : ℝ) : ℝ) : EReal) :=
  (val_main_call0_cst_apply (F := Ideal) i).trans oneR

theorem L_call0_v2 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_call0_v2 (F := Ideal) i) (((1 : ℝ) : ℝ) : EReal) :=
  (val_main_call0_v2_apply (F := Ideal) i).trans (L_call0_cst I _ )

theorem pos_call0_v3 (I : Inp) (u0 v0 x1 : ℕ) : 0 < K_call0_v3 I u0 v0 x1 := by
  unfold K_call0_v3 K_call0_v1
  positivity

theorem L_call0_v3 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_call0_v3 (F := Ideal) I.x3 i) (((K_call0_v3 I u0 v0 x1) : ℝ) : EReal) :=
  by unfold K_call0_v3; exact (val_main_call0_v3_apply I.x3 i).trans (addR (L_call0_v2 I _ u0 v0 x1 hu0 hv0 hx1 e0 e1) (L_call0_v1 I _ u0 v0 x1 hu0 hv0 hx1 e0 e1))

theorem L_call0_cst_0 (I : Inp) (i : S_.Idx) : @Eq EReal (val_main_call0_cst_0 (F := Ideal) i) (((1 : ℝ) : ℝ) : EReal) :=
  (val_main_call0_cst_0_apply (F := Ideal) i).trans oneR

theorem L_call0_v4 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_call0_v4 (F := Ideal) i) (((1 : ℝ) : ℝ) : EReal) :=
  (val_main_call0_v4_apply (F := Ideal) i).trans (L_call0_cst_0 I _ )

theorem L_v5_2 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v5_2 (F := Ideal) I.x3 i) (((K_v5_2 I u0 v0 x1) : ℝ) : EReal) :=
  by unfold K_v5_2; exact (val_main_v5_2_apply (F := Ideal) I.x3 i).trans (divR (L_call0_v4 I _ u0 v0 x1 hu0 hv0 hx1 e0 e1) (L_call0_v3 I _ u0 v0 x1 hu0 hv0 hx1 e0 e1) (pos_call0_v3 I u0 v0 x1).ne')

theorem L_call0_cst_1 (I : Inp) (i : S_.Idx) : @Eq EReal (val_main_call0_cst_1 (F := Ideal) i) (((1 : ℝ) : ℝ) : EReal) :=
  (val_main_call0_cst_1_apply (F := Ideal) i).trans oneR

theorem L_call0_v6 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_call0_v6 (F := Ideal) i) (((1 : ℝ) : ℝ) : EReal) :=
  (val_main_call0_v6_apply (F := Ideal) i).trans (L_call0_cst_1 I _ )

theorem L_call0_v7 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_call0_v7 (F := Ideal) I.x3 i) (((K_call0_v7 I u0 v0 x1) : ℝ) : EReal) :=
  by unfold K_call0_v7; exact (val_main_call0_v7_apply I.x3 i).trans (subR (L_call0_v6 I _ u0 v0 x1 hu0 hv0 hx1 e0 e1) (L_v5_2 I _ u0 v0 x1 hu0 hv0 hx1 e0 e1))

theorem L_v5_1 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v5_1 (F := Ideal) I.x3 i) (((K_v5_1 I u0 v0 x1) : ℝ) : EReal) :=
  by unfold K_v5_1; exact (val_main_v5_1_apply I.x3 i).trans (mulR (L_v5_2 I _ u0 v0 x1 hu0 hv0 hx1 e0 e1) (L_call0_v7 I _ u0 v0 x1 hu0 hv0 hx1 e0 e1))

theorem L_v5_0 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v5_0 (F := Ideal) I.x3 i) (((K_v5_0 I u0 v0 x1) : ℝ) : EReal) :=
  by unfold K_v5_0; exact (val_main_v5_0_apply I.x3 i).trans (mulR (L_v4 I _ u0 v0 x1 hu0 hv0 hx1 e0 e1) (L_v5_2 I _ u0 v0 x1 hu0 hv0 hx1 e0 e1))

theorem L_v6 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v6 (F := Ideal) I.x1 I.x3 i) (((K_v6 I u0 v0 x1) : ℝ) : EReal) :=
  by unfold K_v6; exact (val_main_v6_apply I.x1 I.x3 i).trans (mulR (L_v1 I _ u0 v0 x1 hu0 hv0 hx1 e0 e1) (L_v5_0 I _ u0 v0 x1 hu0 hv0 hx1 e0 e1))

theorem L_v7 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v7 (F := Ideal) I.x1 I.x3 i) (((K_v7 I u0 v0 x1) : ℝ) : EReal) :=
  by unfold K_v7; exact (val_main_v7_apply I.x1 I.x3 i).trans (mulR (L_v6 I _ u0 v0 x1 hu0 hv0 hx1 e0 e1) (L_v6 I _ u0 v0 x1 hu0 hv0 hx1 e0 e1))

theorem L_cst (I : Inp) (i : S_.Idx) : @Eq EReal (val_main_cst (F := Ideal) i) (((0 : ℝ) : ℝ) : EReal) :=
  (val_main_cst_apply (F := Ideal) i).trans zeroR

theorem L_v8 (I : Inp) (i : S4128.Idx) (u0 v0 : ℕ) (hu0 : u0 < 2) (hv0 : v0 < 2064) (e0 : (i 0).val = 2064 * u0 + v0) : @Eq EReal (val_main_v8 (F := Ideal) I.x1 I.x3 i) (((K_v8 I u0 v0) : ℝ) : EReal) :=
  by unfold K_v8; exact (val_main_v8_apply I.x1 I.x3 i).trans (redR (L_cst I _) fun k => (L_v7 I _ u0 v0 k.val hu0 hv0 k.isLt e0 rfl))

theorem L_v9 (I : Inp) (i : S4128x1.Idx) (u0 v0 : ℕ) (hu0 : u0 < 2) (hv0 : v0 < 2064) (e0 : (i 0).val = 2064 * u0 + v0) (e1 : (i 1).val = 0) : @Eq EReal (val_main_v9 (F := Ideal) I.x1 I.x3 i) (((K_v8 I u0 v0) : ℝ) : EReal) :=
  (val_main_v9_apply I.x1 I.x3 i).trans (L_v8 I _ u0 v0 hu0 hv0 e0)

theorem L_cst_0 (I : Inp) (i : S_.Idx) : @Eq EReal (val_main_cst_0 (F := Ideal) i) (((1024 : ℝ) : ℝ) : EReal) :=
  (val_main_cst_0_apply (F := Ideal) i).trans kR

theorem L_v10 (I : Inp) (i : S4128x1.Idx) (u0 v0 : ℕ) (hu0 : u0 < 2) (hv0 : v0 < 2064) (e0 : (i 0).val = 2064 * u0 + v0) (e1 : (i 1).val = 0) : @Eq EReal (val_main_v10 (F := Ideal) i) (((1024 : ℝ) : ℝ) : EReal) :=
  (val_main_v10_apply (F := Ideal) i).trans (L_cst_0 I _ )

theorem L_v11 (I : Inp) (i : S4128x1.Idx) (u0 v0 : ℕ) (hu0 : u0 < 2) (hv0 : v0 < 2064) (e0 : (i 0).val = 2064 * u0 + v0) (e1 : (i 1).val = 0) : @Eq EReal (val_main_v11 (F := Ideal) I.x1 I.x3 i) (((K_v11 I u0 v0) : ℝ) : EReal) :=
  by unfold K_v11; exact (val_main_v11_apply (F := Ideal) I.x1 I.x3 i).trans (divR (L_v9 I _ u0 v0 hu0 hv0 e0 e1) (L_v10 I _ u0 v0 hu0 hv0 e0 e1) (by norm_num))

theorem L_cst_1 (I : Inp) (i : S_.Idx) : @Eq EReal (val_main_cst_1 (F := Ideal) i) (((eps : ℝ) : ℝ) : EReal) :=
  (val_main_cst_1_apply (F := Ideal) i).trans epsRR

theorem L_v12 (I : Inp) (i : S4128x1.Idx) (u0 v0 : ℕ) (hu0 : u0 < 2) (hv0 : v0 < 2064) (e0 : (i 0).val = 2064 * u0 + v0) (e1 : (i 1).val = 0) : @Eq EReal (val_main_v12 (F := Ideal) i) (((eps : ℝ) : ℝ) : EReal) :=
  (val_main_v12_apply (F := Ideal) i).trans (L_cst_1 I _ )

theorem pos_v13 (I : Inp) (u0 v0 : ℕ) : 0 < K_v13 I u0 v0 := by
  unfold K_v13 K_v11 K_v8 K_v7
  exact add_pos_of_nonneg_of_pos (div_nonneg (Finset.sum_nonneg fun k _ => mul_self_nonneg _) (by norm_num)) (by unfold eps; norm_num)

theorem L_v13 (I : Inp) (i : S4128x1.Idx) (u0 v0 : ℕ) (hu0 : u0 < 2) (hv0 : v0 < 2064) (e0 : (i 0).val = 2064 * u0 + v0) (e1 : (i 1).val = 0) : @Eq EReal (val_main_v13 (F := Ideal) I.x1 I.x3 i) (((K_v13 I u0 v0) : ℝ) : EReal) :=
  by unfold K_v13; exact (val_main_v13_apply I.x1 I.x3 i).trans (addR (L_v11 I _ u0 v0 hu0 hv0 e0 e1) (L_v12 I _ u0 v0 hu0 hv0 e0 e1))

theorem L_v14 (I : Inp) (i : S4128x1.Idx) (u0 v0 : ℕ) (hu0 : u0 < 2) (hv0 : v0 < 2064) (e0 : (i 0).val = 2064 * u0 + v0) (e1 : (i 1).val = 0) : @Eq EReal (val_main_v14 (F := Ideal) I.x1 I.x3 i) (((K_v14 I u0 v0) : ℝ) : EReal) :=
  by unfold K_v14; exact (val_main_v14_apply (F := Ideal) I.x1 I.x3 i).trans (rsqrtR (pos_v13 I u0 v0) (L_v13 I _ u0 v0 hu0 hv0 e0 e1))

theorem L_v15 (I : Inp) (i : S4128x1.Idx) (u0 v0 : ℕ) (hu0 : u0 < 2) (hv0 : v0 < 2064) (e0 : (i 0).val = 2064 * u0 + v0) (e1 : (i 1).val = 0) : @Eq EReal (val_main_v15 (F := Ideal) I.x1 I.x3 i) (((K_v15 I u0 v0) : ℝ) : EReal) :=
  by unfold K_v15; exact (val_main_v15_apply (F := Ideal) I.x1 I.x3 i).trans (divR (L_v14 I _ u0 v0 hu0 hv0 e0 e1) (L_v13 I _ u0 v0 hu0 hv0 e0 e1) (pos_v13 I u0 v0).ne')

theorem L_cst_2 (I : Inp) (i : S_.Idx) : @Eq EReal (val_main_cst_2 (F := Ideal) i) ((((-(1/2)) : ℝ) : ℝ) : EReal) :=
  (val_main_cst_2_apply (F := Ideal) i).trans mhalfR

theorem L_v16 (I : Inp) (i : S4128x1.Idx) (u0 v0 : ℕ) (hu0 : u0 < 2) (hv0 : v0 < 2064) (e0 : (i 0).val = 2064 * u0 + v0) (e1 : (i 1).val = 0) : @Eq EReal (val_main_v16 (F := Ideal) i) ((((-(1/2)) : ℝ) : ℝ) : EReal) :=
  (val_main_v16_apply (F := Ideal) i).trans (L_cst_2 I _ )

theorem L_v17 (I : Inp) (i : S4128x1.Idx) (u0 v0 : ℕ) (hu0 : u0 < 2) (hv0 : v0 < 2064) (e0 : (i 0).val = 2064 * u0 + v0) (e1 : (i 1).val = 0) : @Eq EReal (val_main_v17 (F := Ideal) I.x1 I.x3 i) (((K_v17 I u0 v0) : ℝ) : EReal) :=
  by unfold K_v17; exact (val_main_v17_apply I.x1 I.x3 i).trans (mulR (L_v16 I _ u0 v0 hu0 hv0 e0 e1) (L_v15 I _ u0 v0 hu0 hv0 e0 e1))

theorem L_v18 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v18 (F := Ideal) I.x1 I.x3 i) (((K_v14 I u0 v0) : ℝ) : EReal) :=
  (val_main_v18_apply I.x1 I.x3 i).trans (L_v14 I _ u0 v0 hu0 hv0 e0 rfl)

theorem L_v19 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v19 (F := Ideal) I.x1 I.x3 i) (((K_v19 I u0 v0 x1) : ℝ) : EReal) :=
  by unfold K_v19; exact (val_main_v19_apply I.x1 I.x3 i).trans (mulR (L_v6 I _ u0 v0 x1 hu0 hv0 hx1 e0 e1) (L_v18 I _ u0 v0 x1 hu0 hv0 hx1 e0 e1))

theorem L_v20 (I : Inp) (i : S1x1024.Idx) (x1 : ℕ) (hx1 : x1 < 1024) (e0 : (i 0).val = 0) (e1 : (i 1).val = x1) : @Eq EReal (val_main_v20 (F := Ideal) I.x8 i) (((I.a8 x1) : ℝ) : EReal) :=
  (val_main_v20_apply I.x8 i).trans (cg1 I.a8 e1)

theorem L_v23 (I : Inp) (i : S2x2064x1024.Idx) (x0 x1 x2 : ℕ) (hx0 : x0 < 2) (hx1 : x1 < 2064) (hx2 : x2 < 1024) (e0 : (i 0).val = x0) (e1 : (i 1).val = x1) (e2 : (i 2).val = x2) : @Eq EReal (val_main_v23 (F := Ideal) I.x0 i) (((I.a0 x0 x1 x2) : ℝ) : EReal) :=
  (val_main_v23_apply I.x0 i).trans (cg3 I.a0 e0 e1 e2)

theorem L_v24 (I : Inp) (i : S2x2064x1024.Idx) (x0 x1 x2 : ℕ) (hx0 : x0 < 2) (hx1 : x1 < 2064) (hx2 : x2 < 1024) (e0 : (i 0).val = x0) (e1 : (i 1).val = x1) (e2 : (i 2).val = x2) : @Eq EReal (val_main_v24 (F := Ideal) I.x0 i) (((I.a0 x0 x1 x2) : ℝ) : EReal) :=
  (val_main_v24_apply I.x0 i).trans (extR (L_v23 I _ x0 x1 x2 hx0 hx1 hx2 e0 e1 e2))

theorem L_v25 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v25 (F := Ideal) I.x0 i) (((I.a0 u0 v0 x1) : ℝ) : EReal) :=
  (val_main_v25_apply I.x0 i).trans (L_v24 I _ u0 v0 x1 hu0 hv0 hx1 (show ((i 0).val * 1024 + (i 1).val) / 2113536 = u0 from by omega) (show ((i 0).val * 1024 + (i 1).val) / 1024 % 2064 = v0 from by omega) (show ((i 0).val * 1024 + (i 1).val) % 1024 = x1 from by omega))

theorem L_v26 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v26 (F := Ideal) I.x0 I.x1 I.x3 i) (((K_v26 I u0 v0 x1) : ℝ) : EReal) :=
  by unfold K_v26; exact (val_main_v26_apply I.x0 I.x1 I.x3 i).trans (mulR (L_v19 I _ u0 v0 x1 hu0 hv0 hx1 e0 e1) (L_v25 I _ u0 v0 x1 hu0 hv0 hx1 e0 e1))

theorem L_cst_3 (I : Inp) (i : S_.Idx) : @Eq EReal (val_main_cst_3 (F := Ideal) i) (((0 : ℝ) : ℝ) : EReal) :=
  (val_main_cst_3_apply (F := Ideal) i).trans zeroR

theorem L_v27 (I : Inp) (i : S1024.Idx) (x0 : ℕ) (hx0 : x0 < 1024) (e0 : (i 0).val = x0) : @Eq EReal (val_main_v27 (F := Ideal) I.x0 I.x1 I.x3 i) (((K_v27 I x0) : ℝ) : EReal) :=
  by unfold K_v27; exact (val_main_v27_apply I.x0 I.x1 I.x3 i).trans (redR (L_cst_3 I _) fun k => (L_v26 I _ (((k.val) / 2064)) (((k.val) % 2064)) x0 (by omega) (by omega) hx0 (show k.val = 2064 * (((k.val) / 2064)) + (((k.val) % 2064)) from by omega) e0))

theorem L_v28 (I : Inp) (i : S1x1024.Idx) (x1 : ℕ) (hx1 : x1 < 1024) (e0 : (i 0).val = 0) (e1 : (i 1).val = x1) : @Eq EReal (val_main_v28 (F := Ideal) I.x0 I.x1 I.x3 i) (((K_v27 I x1) : ℝ) : EReal) :=
  (val_main_v28_apply I.x0 I.x1 I.x3 i).trans (L_v27 I _ x1 hx1 (show (i 0).val * 1024 + (i 1).val = x1 from by omega))

theorem L_v29 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v29 (F := Ideal) I.x8 i) (((I.a8 x1) : ℝ) : EReal) :=
  (val_main_v29_apply I.x8 i).trans (L_v20 I _ x1 hx1 rfl e1)

theorem L_v30 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v30 (F := Ideal) I.x0 I.x8 i) (((K_v30 I u0 v0 x1) : ℝ) : EReal) :=
  by unfold K_v30; exact (val_main_v30_apply I.x0 I.x8 i).trans (mulR (L_v25 I _ u0 v0 x1 hu0 hv0 hx1 e0 e1) (L_v29 I _ u0 v0 x1 hu0 hv0 hx1 e0 e1))

theorem L_cst_4 (I : Inp) (i : S_.Idx) : @Eq EReal (val_main_cst_4 (F := Ideal) i) (((0 : ℝ) : ℝ) : EReal) :=
  (val_main_cst_4_apply (F := Ideal) i).trans zeroR

theorem L_v31 (I : Inp) (i : S1024.Idx) (x0 : ℕ) (hx0 : x0 < 1024) (e0 : (i 0).val = x0) : @Eq EReal (val_main_v31 (F := Ideal) I.x0 I.x1 I.x3 i) (((K_v27 I x0) : ℝ) : EReal) :=
  (val_main_v31_apply I.x0 I.x1 I.x3 i).trans (red1R (L_cst_4 I _) (L_v28 I _ x0 hx0 rfl e0))

theorem L_v32 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v32 (F := Ideal) I.x0 I.x1 I.x3 I.x8 i) (((K_v32 I u0 v0 x1) : ℝ) : EReal) :=
  by unfold K_v32; exact (val_main_v32_apply I.x0 I.x1 I.x3 I.x8 i).trans (mulR (L_v6 I _ u0 v0 x1 hu0 hv0 hx1 e0 e1) (L_v30 I _ u0 v0 x1 hu0 hv0 hx1 e0 e1))

theorem L_cst_5 (I : Inp) (i : S_.Idx) : @Eq EReal (val_main_cst_5 (F := Ideal) i) (((0 : ℝ) : ℝ) : EReal) :=
  (val_main_cst_5_apply (F := Ideal) i).trans zeroR

theorem L_v33 (I : Inp) (i : S4128.Idx) (u0 v0 : ℕ) (hu0 : u0 < 2) (hv0 : v0 < 2064) (e0 : (i 0).val = 2064 * u0 + v0) : @Eq EReal (val_main_v33 (F := Ideal) I.x0 I.x1 I.x3 I.x8 i) (((K_v33 I u0 v0) : ℝ) : EReal) :=
  by unfold K_v33; exact (val_main_v33_apply I.x0 I.x1 I.x3 I.x8 i).trans (redR (L_cst_5 I _) fun k => (L_v32 I _ u0 v0 k.val hu0 hv0 k.isLt e0 rfl))

theorem L_v34 (I : Inp) (i : S4128x1.Idx) (u0 v0 : ℕ) (hu0 : u0 < 2) (hv0 : v0 < 2064) (e0 : (i 0).val = 2064 * u0 + v0) (e1 : (i 1).val = 0) : @Eq EReal (val_main_v34 (F := Ideal) I.x0 I.x1 I.x3 I.x8 i) (((K_v33 I u0 v0) : ℝ) : EReal) :=
  (val_main_v34_apply I.x0 I.x1 I.x3 I.x8 i).trans (L_v33 I _ u0 v0 hu0 hv0 (show (i 0).val * 1 + (i 1).val = 2064 * u0 + v0 from by omega))

theorem L_v35 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v35 (F := Ideal) I.x1 I.x3 i) (((K_v14 I u0 v0) : ℝ) : EReal) :=
  (val_main_v35_apply I.x1 I.x3 i).trans (L_v14 I _ u0 v0 hu0 hv0 e0 rfl)

theorem L_v36 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v36 (F := Ideal) I.x0 I.x1 I.x3 I.x8 i) (((K_v36 I u0 v0 x1) : ℝ) : EReal) :=
  by unfold K_v36; exact (val_main_v36_apply I.x0 I.x1 I.x3 I.x8 i).trans (mulR (L_v30 I _ u0 v0 x1 hu0 hv0 hx1 e0 e1) (L_v35 I _ u0 v0 x1 hu0 hv0 hx1 e0 e1))

theorem L_v37 (I : Inp) (i : S4128x1.Idx) (u0 v0 : ℕ) (hu0 : u0 < 2) (hv0 : v0 < 2064) (e0 : (i 0).val = 2064 * u0 + v0) (e1 : (i 1).val = 0) : @Eq EReal (val_main_v37 (F := Ideal) I.x0 I.x1 I.x3 I.x8 i) (((K_v37 I u0 v0) : ℝ) : EReal) :=
  by unfold K_v37; exact (val_main_v37_apply I.x0 I.x1 I.x3 I.x8 i).trans (mulR (L_v34 I _ u0 v0 hu0 hv0 e0 e1) (L_v17 I _ u0 v0 hu0 hv0 e0 e1))

theorem L_cst_6 (I : Inp) (i : S_.Idx) : @Eq EReal (val_main_cst_6 (F := Ideal) i) (((1024 : ℝ) : ℝ) : EReal) :=
  (val_main_cst_6_apply (F := Ideal) i).trans kR

theorem L_v38 (I : Inp) (i : S4128x1.Idx) (u0 v0 : ℕ) (hu0 : u0 < 2) (hv0 : v0 < 2064) (e0 : (i 0).val = 2064 * u0 + v0) (e1 : (i 1).val = 0) : @Eq EReal (val_main_v38 (F := Ideal) i) (((1024 : ℝ) : ℝ) : EReal) :=
  (val_main_v38_apply (F := Ideal) i).trans (L_cst_6 I _ )

theorem L_v39 (I : Inp) (i : S4128x1.Idx) (u0 v0 : ℕ) (hu0 : u0 < 2) (hv0 : v0 < 2064) (e0 : (i 0).val = 2064 * u0 + v0) (e1 : (i 1).val = 0) : @Eq EReal (val_main_v39 (F := Ideal) I.x0 I.x1 I.x3 I.x8 i) (((K_v39 I u0 v0) : ℝ) : EReal) :=
  by unfold K_v39; exact (val_main_v39_apply (F := Ideal) I.x0 I.x1 I.x3 I.x8 i).trans (divR (L_v37 I _ u0 v0 hu0 hv0 e0 e1) (L_v38 I _ u0 v0 hu0 hv0 e0 e1) (by norm_num))

theorem L_cst_7 (I : Inp) (i : S_.Idx) : @Eq EReal (val_main_cst_7 (F := Ideal) i) (((0 : ℝ) : ℝ) : EReal) :=
  (val_main_cst_7_apply (F := Ideal) i).trans zeroR

theorem L_v40 (I : Inp) (i : S4128.Idx) (u0 v0 : ℕ) (hu0 : u0 < 2) (hv0 : v0 < 2064) (e0 : (i 0).val = 2064 * u0 + v0) : @Eq EReal (val_main_v40 (F := Ideal) I.x0 I.x1 I.x3 I.x8 i) (((K_v39 I u0 v0) : ℝ) : EReal) :=
  (val_main_v40_apply I.x0 I.x1 I.x3 I.x8 i).trans (red1R (L_cst_7 I _) (L_v39 I _ u0 v0 hu0 hv0 e0 rfl))

theorem L_v41 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v41 (F := Ideal) I.x0 I.x1 I.x3 I.x8 i) (((K_v39 I u0 v0) : ℝ) : EReal) :=
  (val_main_v41_apply I.x0 I.x1 I.x3 I.x8 i).trans (L_v40 I _ u0 v0 hu0 hv0 e0)

theorem L_v42 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v42 (F := Ideal) I.x0 I.x1 I.x3 I.x8 i) (((K_v42 I u0 v0 x1) : ℝ) : EReal) :=
  by unfold K_v42; exact (val_main_v42_apply I.x0 I.x1 I.x3 I.x8 i).trans (mulR (L_v6 I _ u0 v0 x1 hu0 hv0 hx1 e0 e1) (L_v41 I _ u0 v0 x1 hu0 hv0 hx1 e0 e1))

theorem L_v43 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v43 (F := Ideal) I.x0 I.x1 I.x3 I.x8 i) (((K_v43 I u0 v0 x1) : ℝ) : EReal) :=
  by unfold K_v43; exact (val_main_v43_apply I.x0 I.x1 I.x3 I.x8 i).trans (addR (L_v36 I _ u0 v0 x1 hu0 hv0 hx1 e0 e1) (L_v42 I _ u0 v0 x1 hu0 hv0 hx1 e0 e1))

theorem L_v44 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v44 (F := Ideal) I.x0 I.x1 I.x3 I.x8 i) (((K_v44 I u0 v0 x1) : ℝ) : EReal) :=
  by unfold K_v44; exact (val_main_v44_apply I.x0 I.x1 I.x3 I.x8 i).trans (mulR (L_v41 I _ u0 v0 x1 hu0 hv0 hx1 e0 e1) (L_v6 I _ u0 v0 x1 hu0 hv0 hx1 e0 e1))

theorem L_v45 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v45 (F := Ideal) I.x0 I.x1 I.x3 I.x8 i) (((K_v45 I u0 v0 x1) : ℝ) : EReal) :=
  by unfold K_v45; exact (val_main_v45_apply I.x0 I.x1 I.x3 I.x8 i).trans (addR (L_v43 I _ u0 v0 x1 hu0 hv0 hx1 e0 e1) (L_v44 I _ u0 v0 x1 hu0 hv0 hx1 e0 e1))

theorem L_v46 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v46 (F := Ideal) I.x0 I.x1 I.x3 I.x8 i) (((K_v46 I u0 v0 x1) : ℝ) : EReal) :=
  by unfold K_v46; exact (val_main_v46_apply I.x0 I.x1 I.x3 I.x8 i).trans (mulR (L_v1 I _ u0 v0 x1 hu0 hv0 hx1 e0 e1) (L_v45 I _ u0 v0 x1 hu0 hv0 hx1 e0 e1))

theorem L_v47 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v47 (F := Ideal) I.x0 I.x1 I.x3 I.x8 i) (((K_v47 I u0 v0 x1) : ℝ) : EReal) :=
  by unfold K_v47; exact (val_main_v47_apply I.x0 I.x1 I.x3 I.x8 i).trans (mulR (L_v45 I _ u0 v0 x1 hu0 hv0 hx1 e0 e1) (L_v5_0 I _ u0 v0 x1 hu0 hv0 hx1 e0 e1))

theorem L_call1_v0 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_call1_v0 (F := Ideal) I.x0 I.x1 I.x3 I.x8 i) (((K_call1_v0 I u0 v0 x1) : ℝ) : EReal) :=
  by unfold K_call1_v0; exact (val_main_call1_v0_apply I.x0 I.x1 I.x3 I.x8 i).trans (mulR (L_v4 I _ u0 v0 x1 hu0 hv0 hx1 e0 e1) (L_v46 I _ u0 v0 x1 hu0 hv0 hx1 e0 e1))

theorem L_call1_v1 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_call1_v1 (F := Ideal) I.x0 I.x1 I.x3 I.x8 i) (((K_call1_v1 I u0 v0 x1) : ℝ) : EReal) :=
  by unfold K_call1_v1; exact (val_main_call1_v1_apply I.x0 I.x1 I.x3 I.x8 i).trans (mulR (L_v46 I _ u0 v0 x1 hu0 hv0 hx1 e0 e1) (L_v5_2 I _ u0 v0 x1 hu0 hv0 hx1 e0 e1))

theorem L_call1_v2 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_call1_v2 (F := Ideal) I.x0 I.x1 I.x3 I.x8 i) (((K_call1_v2 I u0 v0 x1) : ℝ) : EReal) :=
  by unfold K_call1_v2; exact (val_main_call1_v2_apply I.x0 I.x1 I.x3 I.x8 i).trans (mulR (L_call1_v0 I _ u0 v0 x1 hu0 hv0 hx1 e0 e1) (L_v5_1 I _ u0 v0 x1 hu0 hv0 hx1 e0 e1))

theorem L_v48 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v48 (F := Ideal) I.x0 I.x1 I.x3 I.x8 i) (((K_v48 I u0 v0 x1) : ℝ) : EReal) :=
  by unfold K_v48; exact (val_main_v48_apply I.x0 I.x1 I.x3 I.x8 i).trans (addR (L_call1_v1 I _ u0 v0 x1 hu0 hv0 hx1 e0 e1) (L_call1_v2 I _ u0 v0 x1 hu0 hv0 hx1 e0 e1))

theorem L_cst_8 (I : Inp) (i : S_.Idx) : @Eq EReal (val_main_cst_8 (F := Ideal) i) (((1 : ℝ) : ℝ) : EReal) :=
  (val_main_cst_8_apply (F := Ideal) i).trans oneR

theorem L_v49 (I : Inp) (i : S64x64.Idx) (x0 x1 : ℕ) (hx0 : x0 < 64) (hx1 : x1 < 64) (e0 : (i 0).val = x0) (e1 : (i 1).val = x1) : @Eq EReal (val_main_v49 (F := Ideal) i) (((1 : ℝ) : ℝ) : EReal) :=
  (val_main_v49_apply (F := Ideal) i).trans (L_cst_8 I _ )

theorem L_call2_v0 (I : Inp) (i : S64x64.Idx) (x0 x1 : ℕ) (hx0 : x0 < 64) (hx1 : x1 < 64) (e0 : (i 0).val = x0) (e1 : (i 1).val = x1) : (val_main_call2_v0 (F := Ideal) i) = BitVec.ofNat 32 (x0) :=
  (val_main_call2_v0_apply (F := Ideal) i).trans (ofNatR e0)

theorem L_call2_c (I : Inp) (i : S_.Idx) : (val_main_call2_c (F := Ideal) i) = BitVec.ofNat 32 (0) :=
  (val_main_call2_c_apply (F := Ideal) i)

theorem L_call2_v1 (I : Inp) (i : S64x64.Idx) (x0 x1 : ℕ) (hx0 : x0 < 64) (hx1 : x1 < 64) (e0 : (i 0).val = x0) (e1 : (i 1).val = x1) : (val_main_call2_v1 (F := Ideal) i) = BitVec.ofNat 32 (0) :=
  (val_main_call2_v1_apply (F := Ideal) i).trans (L_call2_c I _ )

theorem L_call2_v2 (I : Inp) (i : S64x64.Idx) (x0 x1 : ℕ) (hx0 : x0 < 64) (hx1 : x1 < 64) (e0 : (i 0).val = x0) (e1 : (i 1).val = x1) : (val_main_call2_v2 (F := Ideal) i) = BitVec.ofNat 32 (x0) :=
  (val_main_call2_v2_apply (F := Ideal) i).trans (addzR (L_call2_v0 I _ x0 x1 hx0 hx1 e0 e1) (L_call2_v1 I _ x0 x1 hx0 hx1 e0 e1))

theorem L_call2_v3 (I : Inp) (i : S64x64.Idx) (x0 x1 : ℕ) (hx0 : x0 < 64) (hx1 : x1 < 64) (e0 : (i 0).val = x0) (e1 : (i 1).val = x1) : (val_main_call2_v3 (F := Ideal) i) = BitVec.ofNat 32 (x1) :=
  (val_main_call2_v3_apply (F := Ideal) i).trans (ofNatR e1)

theorem L_call2_v4 (I : Inp) (i : S64x64.Idx) (x0 x1 : ℕ) (hx0 : x0 < 64) (hx1 : x1 < 64) (e0 : (i 0).val = x0) (e1 : (i 1).val = x1) : (val_main_call2_v4 (F := Ideal) i) = BitVec.ofBool (decide ((x1 ≤ x0))) :=
  (val_main_call2_v4_apply (F := Ideal) i).trans (sgeR (by omega) (by omega) (L_call2_v2 I _ x0 x1 hx0 hx1 e0 e1) (L_call2_v3 I _ x0 x1 hx0 hx1 e0 e1))

theorem L_call2_cst (I : Inp) (i : S_.Idx) : @Eq EReal (val_main_call2_cst (F := Ideal) i) (((0 : ℝ) : ℝ) : EReal) :=
  (val_main_call2_cst_apply (F := Ideal) i).trans zeroR

theorem L_call2_v5 (I : Inp) (i : S64x64.Idx) (x0 x1 : ℕ) (hx0 : x0 < 64) (hx1 : x1 < 64) (e0 : (i 0).val = x0) (e1 : (i 1).val = x1) : @Eq EReal (val_main_call2_v5 (F := Ideal) i) (((0 : ℝ) : ℝ) : EReal) :=
  (val_main_call2_v5_apply (F := Ideal) i).trans (L_call2_cst I _ )

theorem L_v50 (I : Inp) (i : S64x64.Idx) (x0 x1 : ℕ) (hx0 : x0 < 64) (hx1 : x1 < 64) (e0 : (i 0).val = x0) (e1 : (i 1).val = x1) : @Eq EReal (val_main_v50 (F := Ideal) i) (((K_v50 I x0 x1) : ℝ) : EReal) :=
  by unfold K_v50; exact (val_main_v50_apply (F := Ideal) i).trans (selR (L_call2_v4 I _ x0 x1 hx0 hx1 e0 e1) (L_v49 I _ x0 x1 hx0 hx1 e0 e1) (L_call2_v5 I _ x0 x1 hx0 hx1 e0 e1))

theorem L_c (I : Inp) (i : S_.Idx) : (val_main_c (F := Ideal) i) = BitVec.ofBool (decide (True)) :=
  (val_main_c_apply (F := Ideal) i).trans oneB

theorem L_v51 (I : Inp) (i : S64x64.Idx) (x0 x1 : ℕ) (hx0 : x0 < 64) (hx1 : x1 < 64) (e0 : (i 0).val = x0) (e1 : (i 1).val = x1) : (val_main_v51 (F := Ideal) i) = BitVec.ofBool (decide (True)) :=
  (val_main_v51_apply (F := Ideal) i).trans (L_c I _ )

theorem L_call3_v0 (I : Inp) (i : S64x64.Idx) (x0 x1 : ℕ) (hx0 : x0 < 64) (hx1 : x1 < 64) (e0 : (i 0).val = x0) (e1 : (i 1).val = x1) : (val_main_call3_v0 (F := Ideal) i) = BitVec.ofNat 32 (x0) :=
  (val_main_call3_v0_apply (F := Ideal) i).trans (ofNatR e0)

theorem L_call3_c (I : Inp) (i : S_.Idx) : (val_main_call3_c (F := Ideal) i) = BitVec.ofNat 32 (0) :=
  (val_main_call3_c_apply (F := Ideal) i)

theorem L_call3_v1 (I : Inp) (i : S64x64.Idx) (x0 x1 : ℕ) (hx0 : x0 < 64) (hx1 : x1 < 64) (e0 : (i 0).val = x0) (e1 : (i 1).val = x1) : (val_main_call3_v1 (F := Ideal) i) = BitVec.ofNat 32 (0) :=
  (val_main_call3_v1_apply (F := Ideal) i).trans (L_call3_c I _ )

theorem L_call3_v2 (I : Inp) (i : S64x64.Idx) (x0 x1 : ℕ) (hx0 : x0 < 64) (hx1 : x1 < 64) (e0 : (i 0).val = x0) (e1 : (i 1).val = x1) : (val_main_call3_v2 (F := Ideal) i) = BitVec.ofNat 32 (x0) :=
  (val_main_call3_v2_apply (F := Ideal) i).trans (addzR (L_call3_v0 I _ x0 x1 hx0 hx1 e0 e1) (L_call3_v1 I _ x0 x1 hx0 hx1 e0 e1))

theorem L_call3_v3 (I : Inp) (i : S64x64.Idx) (x0 x1 : ℕ) (hx0 : x0 < 64) (hx1 : x1 < 64) (e0 : (i 0).val = x0) (e1 : (i 1).val = x1) : (val_main_call3_v3 (F := Ideal) i) = BitVec.ofNat 32 (x1) :=
  (val_main_call3_v3_apply (F := Ideal) i).trans (ofNatR e1)

theorem L_call3_v4 (I : Inp) (i : S64x64.Idx) (x0 x1 : ℕ) (hx0 : x0 < 64) (hx1 : x1 < 64) (e0 : (i 0).val = x0) (e1 : (i 1).val = x1) : (val_main_call3_v4 (F := Ideal) i) = BitVec.ofBool (decide ((x1 ≤ x0))) :=
  (val_main_call3_v4_apply (F := Ideal) i).trans (sgeR (by omega) (by omega) (L_call3_v2 I _ x0 x1 hx0 hx1 e0 e1) (L_call3_v3 I _ x0 x1 hx0 hx1 e0 e1))

theorem L_call3_c_0 (I : Inp) (i : S_.Idx) : (val_main_call3_c_0 (F := Ideal) i) = BitVec.ofBool (decide (False)) :=
  (val_main_call3_c_0_apply (F := Ideal) i).trans zeroB

theorem L_call3_v5 (I : Inp) (i : S64x64.Idx) (x0 x1 : ℕ) (hx0 : x0 < 64) (hx1 : x1 < 64) (e0 : (i 0).val = x0) (e1 : (i 1).val = x1) : (val_main_call3_v5 (F := Ideal) i) = BitVec.ofBool (decide (False)) :=
  (val_main_call3_v5_apply (F := Ideal) i).trans (L_call3_c_0 I _ )

theorem L_v52 (I : Inp) (i : S64x64.Idx) (x0 x1 : ℕ) (hx0 : x0 < 64) (hx1 : x1 < 64) (e0 : (i 0).val = x0) (e1 : (i 1).val = x1) : (val_main_v52 (F := Ideal) i) = BitVec.ofBool (decide ((x1 ≤ x0))) :=
  (val_main_v52_apply (F := Ideal) i).trans (selB (L_call3_v4 I _ x0 x1 hx0 hx1 e0 e1) (L_v51 I _ x0 x1 hx0 hx1 e0 e1) (L_call3_v5 I _ x0 x1 hx0 hx1 e0 e1))

theorem L_v53 (I : Inp) (i : S2x2064x1024.Idx) (x0 x1 x2 : ℕ) (hx0 : x0 < 2) (hx1 : x1 < 2064) (hx2 : x2 < 1024) (e0 : (i 0).val = x0) (e1 : (i 1).val = x1) (e2 : (i 2).val = x2) : @Eq EReal (val_main_v53 (F := Ideal) I.x0 I.x1 I.x3 I.x8 i) (((K_v47 I x0 x1 x2) : ℝ) : EReal) :=
  (val_main_v53_apply I.x0 I.x1 I.x3 I.x8 i).trans (L_v47 I _ x0 x1 x2 hx0 hx1 hx2 (show (((i 0).val * 2064 + (i 1).val) * 1024 + (i 2).val) / 1024 = 2064 * x0 + x1 from by omega) (show (((i 0).val * 2064 + (i 1).val) * 1024 + (i 2).val) % 1024 = x2 from by omega))

theorem L_cst_9 (I : Inp) (i : S_.Idx) : @Eq EReal (val_main_cst_9 (F := Ideal) i) (((0 : ℝ) : ℝ) : EReal) :=
  (val_main_cst_9_apply (F := Ideal) i).trans zeroR

theorem L_v54 (I : Inp) (i : S2x48x1024.Idx) (x0 x1 x2 : ℕ) (hx0 : x0 < 2) (hx1 : x1 < 48) (hx2 : x2 < 1024) (e0 : (i 0).val = x0) (e1 : (i 1).val = x1) (e2 : (i 2).val = x2) : @Eq EReal (val_main_v54 (F := Ideal) i) (((0 : ℝ) : ℝ) : EReal) :=
  (val_main_v54_apply (F := Ideal) i).trans (L_cst_9 I _ )

theorem L_v55 (I : Inp) (i : S2x2112x1024.Idx) (x0 u1 v1 x2 : ℕ) (hx0 : x0 < 2) (hu1 : u1 < 33) (hv1 : v1 < 64) (hx2 : x2 < 1024) (e0 : (i 0).val = x0) (e1 : (i 1).val = 64 * u1 + v1) (e2 : (i 2).val = x2) : @Eq EReal (val_main_v55 (F := Ideal) I.x0 I.x1 I.x3 I.x8 i) (((K_v55 I x0 u1 v1 x2) : ℝ) : EReal) :=
  by unfold K_v55; exact (catP e1 (fun j => L_v54 I j _ _ _ (j 0).isLt (j 1).isLt (j 2).isLt rfl rfl rfl) fun hR j f0 f1 f2 => L_v53 I j x0 (64 * u1 + v1 - 48) x2 hx0 (by omega) hx2 (f0.trans e0) f1 (f2.trans e2))

theorem L_v56 (I : Inp) (i : S66x64x1024.Idx) (u0 v0 x1 x2 : ℕ) (hu0 : u0 < 2) (hv0 : v0 < 33) (hx1 : x1 < 64) (hx2 : x2 < 1024) (e0 : (i 0).val = 33 * u0 + v0) (e1 : (i 1).val = x1) (e2 : (i 2).val = x2) : @Eq EReal (val_main_v56 (F := Ideal) I.x0 I.x1 I.x3 I.x8 i) (((K_v55 I u0 v0 x1 x2) : ℝ) : EReal) :=
  (val_main_v56_apply I.x0 I.x1 I.x3 I.x8 i).trans (L_v55 I _ u0 v0 x1 x2 hu0 hv0 hx1 hx2 (show (((i 0).val * 64 + (i 1).val) * 1024 + (i 2).val) / 2162688 = u0 from by omega) (show (((i 0).val * 64 + (i 1).val) * 1024 + (i 2).val) / 1024 % 2112 = 64 * v0 + x1 from by omega) (show (((i 0).val * 64 + (i 1).val) * 1024 + (i 2).val) % 1024 = x2 from by omega))

theorem L_v57 (I : Inp) (i : S2x33x128x1024.Idx) (x0 x1 x2 x3 : ℕ) (hx0 : x0 < 2) (hx1 : x1 < 33) (hx2 : x2 < 128) (hx3 : x3 < 1024) (e0 : (i 0).val = x0) (e1 : (i 1).val = x1) (e2 : (i 2).val = x2) (e3 : (i 3).val = x3) : @Eq EReal (val_main_v57 (F := Ideal) I.x4 i) (((K_v57 I x0 x1 x2 x3) : ℝ) : EReal) :=
  by unfold K_v57; exact (val_main_v57_apply I.x4 i).trans (extR (cg4 I.a4 e0 e1 e2 e3))

theorem L_v58 (I : Inp) (i : S66x128x2x512.Idx) (u0 v0 x1 x2 x3 : ℕ) (hu0 : u0 < 2) (hv0 : v0 < 33) (hx1 : x1 < 128) (hx2 : x2 < 2) (hx3 : x3 < 512) (e0 : (i 0).val = 33 * u0 + v0) (e1 : (i 1).val = x1) (e2 : (i 2).val = x2) (e3 : (i 3).val = x3) : @Eq EReal (val_main_v58 (F := Ideal) I.x4 i) (((K_v57 I u0 v0 x1 (512 * x2 + x3)) : ℝ) : EReal) :=
  (val_main_v58_apply I.x4 i).trans (L_v57 I _ u0 v0 x1 (512 * x2 + x3) hu0 hv0 hx1 (by omega) (show ((((i 0).val * 128 + (i 1).val) * 2 + (i 2).val) * 512 + (i 3).val) / 4325376 = u0 from by omega) (show ((((i 0).val * 128 + (i 1).val) * 2 + (i 2).val) * 512 + (i 3).val) / 131072 % 33 = v0 from by omega) (show ((((i 0).val * 128 + (i 1).val) * 2 + (i 2).val) * 512 + (i 3).val) / 1024 % 128 = x1 from by omega) (show ((((i 0).val * 128 + (i 1).val) * 2 + (i 2).val) * 512 + (i 3).val) % 1024 = (512 * x2 + x3) from by omega))

theorem L_v59 (I : Inp) (i : S2x2064x1024.Idx) (x0 x1 x2 : ℕ) (hx0 : x0 < 2) (hx1 : x1 < 2064) (hx2 : x2 < 1024) (e0 : (i 0).val = x0) (e1 : (i 1).val = x1) (e2 : (i 2).val = x2) : @Eq EReal (val_main_v59 (F := Ideal) I.x2 i) (((I.a2 x0 x1 x2) : ℝ) : EReal) :=
  (val_main_v59_apply I.x2 i).trans (cg3 I.a2 e0 e1 e2)

theorem L_v60 (I : Inp) (i : S2x2064x1024.Idx) (x0 x1 x2 : ℕ) (hx0 : x0 < 2) (hx1 : x1 < 2064) (hx2 : x2 < 1024) (e0 : (i 0).val = x0) (e1 : (i 1).val = x1) (e2 : (i 2).val = x2) : @Eq EReal (val_main_v60 (F := Ideal) I.x2 i) (((I.a2 x0 x1 x2) : ℝ) : EReal) :=
  (val_main_v60_apply I.x2 i).trans (extR (L_v59 I _ x0 x1 x2 hx0 hx1 hx2 e0 e1 e2))

theorem L_v61 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v61 (F := Ideal) I.x2 i) (((I.a2 u0 v0 x1) : ℝ) : EReal) :=
  (val_main_v61_apply I.x2 i).trans (L_v60 I _ u0 v0 x1 hu0 hv0 hx1 (show ((i 0).val * 1024 + (i 1).val) / 2113536 = u0 from by omega) (show ((i 0).val * 1024 + (i 1).val) / 1024 % 2064 = v0 from by omega) (show ((i 0).val * 1024 + (i 1).val) % 1024 = x1 from by omega))

theorem L_v62 (I : Inp) (i : S2x2064x256.Idx) (x0 x1 x2 : ℕ) (hx0 : x0 < 2) (hx1 : x1 < 2064) (hx2 : x2 < 256) (e0 : (i 0).val = x0) (e1 : (i 1).val = x1) (e2 : (i 2).val = x2) : @Eq EReal (val_main_v62 (F := Ideal) I.x2 i) (((I.a2 x0 x1 (x2 + 1024)) : ℝ) : EReal) :=
  (val_main_v62_apply I.x2 i).trans (cg3 I.a2 e0 e1 (show 1024 + (i 2).val = x2 + 1024 from by omega))

theorem L_v63 (I : Inp) (i : S2x2064x256.Idx) (x0 x1 x2 : ℕ) (hx0 : x0 < 2) (hx1 : x1 < 2064) (hx2 : x2 < 256) (e0 : (i 0).val = x0) (e1 : (i 1).val = x1) (e2 : (i 2).val = x2) : @Eq EReal (val_main_v63 (F := Ideal) I.x2 i) (((I.a2 x0 x1 (x2 + 1024)) : ℝ) : EReal) :=
  (val_main_v63_apply I.x2 i).trans (extR (L_v62 I _ x0 x1 x2 hx0 hx1 hx2 e0 e1 e2))

theorem L_v64 (I : Inp) (i : S4128x256.Idx) (u0 v0 x1 : ℕ) (hu0 : u0 < 2) (hv0 : v0 < 2064) (hx1 : x1 < 256) (e0 : (i 0).val = 2064 * u0 + v0) (e1 : (i 1).val = x1) : @Eq EReal (val_main_v64 (F := Ideal) I.x2 i) (((I.a2 u0 v0 (x1 + 1024)) : ℝ) : EReal) :=
  (val_main_v64_apply I.x2 i).trans (L_v63 I _ u0 v0 x1 hu0 hv0 hx1 (show ((i 0).val * 256 + (i 1).val) / 528384 = u0 from by omega) (show ((i 0).val * 256 + (i 1).val) / 256 % 2064 = v0 from by omega) (show ((i 0).val * 256 + (i 1).val) % 256 = x1 from by omega))

theorem L_v65 (I : Inp) (i : S2x2064x256.Idx) (x0 x1 x2 : ℕ) (hx0 : x0 < 2) (hx1 : x1 < 2064) (hx2 : x2 < 256) (e0 : (i 0).val = x0) (e1 : (i 1).val = x1) (e2 : (i 2).val = x2) : @Eq EReal (val_main_v65 (F := Ideal) I.x2 i) (((I.a2 x0 x1 (x2 + 1280)) : ℝ) : EReal) :=
  (val_main_v65_apply I.x2 i).trans (cg3 I.a2 e0 e1 (show 1280 + (i 2).val = x2 + 1280 from by omega))

theorem L_v66 (I : Inp) (i : S2x2064x256.Idx) (x0 x1 x2 : ℕ) (hx0 : x0 < 2) (hx1 : x1 < 2064) (hx2 : x2 < 256) (e0 : (i 0).val = x0) (e1 : (i 1).val = x1) (e2 : (i 2).val = x2) : @Eq EReal (val_main_v66 (F := Ideal) I.x2 i) (((I.a2 x0 x1 (x2 + 1280)) : ℝ) : EReal) :=
  (val_main_v66_apply I.x2 i).trans (extR (L_v65 I _ x0 x1 x2 hx0 hx1 hx2 e0 e1 e2))

theorem L_v67 (I : Inp) (i : S4128x256.Idx) (u0 v0 x1 : ℕ) (hu0 : u0 < 2) (hv0 : v0 < 2064) (hx1 : x1 < 256) (e0 : (i 0).val = 2064 * u0 + v0) (e1 : (i 1).val = x1) : @Eq EReal (val_main_v67 (F := Ideal) I.x2 i) (((I.a2 u0 v0 (x1 + 1280)) : ℝ) : EReal) :=
  (val_main_v67_apply I.x2 i).trans (L_v66 I _ u0 v0 x1 hu0 hv0 hx1 (show ((i 0).val * 256 + (i 1).val) / 528384 = u0 from by omega) (show ((i 0).val * 256 + (i 1).val) / 256 % 2064 = v0 from by omega) (show ((i 0).val * 256 + (i 1).val) % 256 = x1 from by omega))

theorem L_v68 (I : Inp) (i : S2x2064x16.Idx) (x0 x1 x2 : ℕ) (hx0 : x0 < 2) (hx1 : x1 < 2064) (hx2 : x2 < 16) (e0 : (i 0).val = x0) (e1 : (i 1).val = x1) (e2 : (i 2).val = x2) : @Eq EReal (val_main_v68 (F := Ideal) I.x3 i) (((I.a3 x0 x1 (x2 + 3072)) : ℝ) : EReal) :=
  (val_main_v68_apply I.x3 i).trans (cg3 I.a3 e0 e1 (show 3072 + (i 2).val = x2 + 3072 from by omega))

theorem L_v69 (I : Inp) (i : S2x2064x16.Idx) (x0 x1 x2 : ℕ) (hx0 : x0 < 2) (hx1 : x1 < 2064) (hx2 : x2 < 16) (e0 : (i 0).val = x0) (e1 : (i 1).val = x1) (e2 : (i 2).val = x2) : @Eq EReal (val_main_v69 (F := Ideal) I.x3 i) (((I.a3 x0 x1 (x2 + 3072)) : ℝ) : EReal) :=
  (val_main_v69_apply I.x3 i).trans (extR (L_v68 I _ x0 x1 x2 hx0 hx1 hx2 e0 e1 e2))

theorem L_v70 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v70 (F := Ideal) I.x3 i) (((I.a3 u0 v0 (x1 + 3072)) : ℝ) : EReal) :=
  (val_main_v70_apply I.x3 i).trans (L_v69 I _ u0 v0 x1 hu0 hv0 hx1 (show ((i 0).val * 16 + (i 1).val) / 33024 = u0 from by omega) (show ((i 0).val * 16 + (i 1).val) / 16 % 2064 = v0 from by omega) (show ((i 0).val * 16 + (i 1).val) % 16 = x1 from by omega))

theorem L_v71 (I : Inp) (i : S1x16.Idx) (x1 : ℕ) (hx1 : x1 < 16) (e0 : (i 0).val = 0) (e1 : (i 1).val = x1) : @Eq EReal (val_main_v71 (F := Ideal) I.x5 i) (((I.a5 x1) : ℝ) : EReal) :=
  (val_main_v71_apply I.x5 i).trans (cg1 I.a5 e1)

theorem L_v72 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v72 (F := Ideal) I.x5 i) (((I.a5 x1) : ℝ) : EReal) :=
  (val_main_v72_apply I.x5 i).trans (L_v71 I _ x1 hx1 rfl e1)

theorem L_v73 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v73 (F := Ideal) I.x3 I.x5 i) (((K_v73 I u0 v0 x1) : ℝ) : EReal) :=
  by unfold K_v73; exact (val_main_v73_apply I.x3 I.x5 i).trans (addR (L_v70 I _ u0 v0 x1 hu0 hv0 hx1 e0 e1) (L_v72 I _ u0 v0 x1 hu0 hv0 hx1 e0 e1))

theorem L_call4_cst (I : Inp) (i : S_.Idx) : @Eq EReal (val_main_call4_cst (F := Ideal) i) (((0 : ℝ) : ℝ) : EReal) :=
  (val_main_call4_cst_apply (F := Ideal) i).trans zeroR

theorem L_call4_v0 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v0 (F := Ideal) i) (((0 : ℝ) : ℝ) : EReal) :=
  (val_main_call4_v0_apply (F := Ideal) i).trans (L_call4_cst I _ )

theorem L_call4_v1 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v1 (F := Ideal) I.x3 I.x5 i) (((K_call4_v1 I u0 v0 x1) : ℝ) : EReal) :=
  by unfold K_call4_v1; exact (val_main_call4_v1_apply I.x3 I.x5 i).trans (maxR (L_v73 I _ u0 v0 x1 hu0 hv0 hx1 e0 e1) (L_call4_v0 I _ u0 v0 x1 hu0 hv0 hx1 e0 e1))

theorem L_call4_v2 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v2 (F := Ideal) i) (((0 : ℝ) : ℝ) : EReal) :=
  (val_main_call4_v2_apply (F := Ideal) i).trans (L_call4_cst I _ )

theorem L_call4_v3 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v3 (F := Ideal) I.x3 I.x5 i) (((K_call4_v3 I u0 v0 x1) : ℝ) : EReal) :=
  by unfold K_call4_v3; exact (val_main_call4_v3_apply I.x3 I.x5 i).trans (subR (L_v73 I _ u0 v0 x1 hu0 hv0 hx1 e0 e1) (L_call4_v2 I _ u0 v0 x1 hu0 hv0 hx1 e0 e1))

theorem L_call4_v4 (I : Inp) (i : S4128x16.Idx) (u0 v0 x1 : ℕ) (hu0 : u0 < 2) (hv0 : v0 < 2064) (hx1 : x1 < 16) (e0 : (i 0).val = 2064 * u0 + v0) (e1 : (i 1).val = x1) : (val_main_call4_v4 (F := Ideal) I.x3 I.x5 i) = BitVec.ofBool (decide (False)) :=
  (val_main_call4_v4_apply I.x3 I.x5 i).trans (uneR (L_call4_v3 I _ u0 v0 x1 hu0 hv0 hx1 e0 e1))

theorem L_call4_v5 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v5 (F := Ideal) i) (((0 : ℝ) : ℝ) : EReal) :=
  (val_main_call4_v5_apply (F := Ideal) i).trans (L_call4_cst I _ )

theorem L_call4_v6 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v6 (F := Ideal) I.x3 I.x5 i) (((K_call4_v6 I u0 v0 x1) : ℝ) : EReal) :=
  by unfold K_call4_v6; exact (val_main_call4_v6_apply I.x3 I.x5 i).trans (addR (L_v73 I _ u0 v0 x1 hu0 hv0 hx1 e0 e1) (L_call4_v5 I _ u0 v0 x1 hu0 hv0 hx1 e0 e1))

theorem L_call4_v7 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v7 (F := Ideal) I.x3 I.x5 i) (((K_call4_v7 I u0 v0 x1) : ℝ) : EReal) :=
  by unfold K_call4_v7; exact (val_main_call4_v7_apply I.x3 I.x5 i).trans (absR (L_call4_v3 I _ u0 v0 x1 hu0 hv0 hx1 e0 e1))

theorem L_call4_v8 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v8 (F := Ideal) I.x3 I.x5 i) (((K_call4_v8 I u0 v0 x1) : ℝ) : EReal) :=
  by unfold K_call4_v8; exact (val_main_call4_v8_apply I.x3 I.x5 i).trans (negR (L_call4_v7 I _ u0 v0 x1 hu0 hv0 hx1 e0 e1))

theorem L_call4_v9 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v9 (F := Ideal) I.x3 I.x5 i) (((K_call4_v9 I u0 v0 x1) : ℝ) : EReal) :=
  by unfold K_call4_v9; exact (val_main_call4_v9_apply I.x3 I.x5 i).trans (expR (L_call4_v8 I _ u0 v0 x1 hu0 hv0 hx1 e0 e1))

theorem L_call4_v10 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v10 (F := Ideal) I.x3 I.x5 i) (((K_call4_v10 I u0 v0 x1) : ℝ) : EReal) :=
  by unfold K_call4_v10; exact (val_main_call4_v10_apply (F := Ideal) I.x3 I.x5 i).trans (l1pR (by unfold K_call4_v9; exact Real.exp_pos _) (L_call4_v9 I _ u0 v0 x1 hu0 hv0 hx1 e0 e1))

theorem L_call4_v11 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v11 (F := Ideal) I.x3 I.x5 i) (((K_call4_v11 I u0 v0 x1) : ℝ) : EReal) :=
  by unfold K_call4_v11; exact (val_main_call4_v11_apply I.x3 I.x5 i).trans (addR (L_call4_v1 I _ u0 v0 x1 hu0 hv0 hx1 e0 e1) (L_call4_v10 I _ u0 v0 x1 hu0 hv0 hx1 e0 e1))

theorem L_v74_0 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v74_0 (F := Ideal) I.x3 I.x5 i) (((K_call4_v11 I u0 v0 x1) : ℝ) : EReal) :=
  (val_main_v74_0_apply I.x3 I.x5 i).trans (selF (L_call4_v4 I _ u0 v0 x1 hu0 hv0 hx1 e0 e1) (L_call4_v11 I _ u0 v0 x1 hu0 hv0 hx1 e0 e1))

theorem L_call4_cst_0 (I : Inp) (i : S_.Idx) : @Eq EReal (val_main_call4_cst_0 (F := Ideal) i) ⊤ :=
  (val_main_call4_cst_0_apply (F := Ideal) i).trans topR

theorem L_call4_v13 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v13 (F := Ideal) i) ⊤ :=
  (val_main_call4_v13_apply (F := Ideal) i).trans (L_call4_cst_0 I _ )

theorem L_call4_v14 (I : Inp) (i : S4128x16.Idx) (u0 v0 x1 : ℕ) (hu0 : u0 < 2) (hv0 : v0 < 2064) (hx1 : x1 < 16) (e0 : (i 0).val = 2064 * u0 + v0) (e1 : (i 1).val = x1) : (val_main_call4_v14 (F := Ideal) I.x3 I.x5 i) = BitVec.ofBool (decide (False)) :=
  (val_main_call4_v14_apply I.x3 I.x5 i).trans (oeqR (L_v73 I _ u0 v0 x1 hu0 hv0 hx1 e0 e1) (L_call4_v13 I _ u0 v0 x1 hu0 hv0 hx1 e0 e1))

theorem L_call4_cst_1 (I : Inp) (i : S_.Idx) : @Eq EReal (val_main_call4_cst_1 (F := Ideal) i) (((0 : ℝ) : ℝ) : EReal) :=
  (val_main_call4_cst_1_apply (F := Ideal) i).trans zeroR

theorem L_call4_v15 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v15 (F := Ideal) i) (((0 : ℝ) : ℝ) : EReal) :=
  (val_main_call4_v15_apply (F := Ideal) i).trans (L_call4_cst_1 I _ )

theorem L_call4_v16 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v16 (F := Ideal) I.x3 I.x5 i) (((K_v73 I u0 v0 x1) : ℝ) : EReal) :=
  (val_main_call4_v16_apply I.x3 I.x5 i).trans (selF (L_call4_v14 I _ u0 v0 x1 hu0 hv0 hx1 e0 e1) (L_v73 I _ u0 v0 x1 hu0 hv0 hx1 e0 e1))

theorem L_call4_cst_2 (I : Inp) (i : S_.Idx) : @Eq EReal (val_main_call4_cst_2 (F := Ideal) i) ⊤ :=
  (val_main_call4_cst_2_apply (F := Ideal) i).trans topR

theorem L_call4_v17 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v17 (F := Ideal) i) ⊤ :=
  (val_main_call4_v17_apply (F := Ideal) i).trans (L_call4_cst_2 I _ )

theorem L_call4_v18 (I : Inp) (i : S4128x16.Idx) (u0 v0 x1 : ℕ) (hu0 : u0 < 2) (hv0 : v0 < 2064) (hx1 : x1 < 16) (e0 : (i 0).val = 2064 * u0 + v0) (e1 : (i 1).val = x1) : (val_main_call4_v18 (F := Ideal) I.x3 I.x5 i) = BitVec.ofBool (decide (False)) :=
  (val_main_call4_v18_apply I.x3 I.x5 i).trans (oeqR (L_v74_0 I _ u0 v0 x1 hu0 hv0 hx1 e0 e1) (L_call4_v17 I _ u0 v0 x1 hu0 hv0 hx1 e0 e1))

theorem L_call4_cst_3 (I : Inp) (i : S_.Idx) : @Eq EReal (val_main_call4_cst_3 (F := Ideal) i) (((0 : ℝ) : ℝ) : EReal) :=
  (val_main_call4_cst_3_apply (F := Ideal) i).trans zeroR

theorem L_call4_v19 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v19 (F := Ideal) i) (((0 : ℝ) : ℝ) : EReal) :=
  (val_main_call4_v19_apply (F := Ideal) i).trans (L_call4_cst_3 I _ )

theorem L_call4_v20 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v20 (F := Ideal) I.x3 I.x5 i) (((K_call4_v11 I u0 v0 x1) : ℝ) : EReal) :=
  (val_main_call4_v20_apply I.x3 I.x5 i).trans (selF (L_call4_v18 I _ u0 v0 x1 hu0 hv0 hx1 e0 e1) (L_v74_0 I _ u0 v0 x1 hu0 hv0 hx1 e0 e1))

theorem L_call4_v21 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_call4_v21 (F := Ideal) I.x3 I.x5 i) (((K_call4_v21 I u0 v0 x1) : ℝ) : EReal) :=
  by unfold K_call4_v21; exact (val_main_call4_v21_apply I.x3 I.x5 i).trans (subR (L_call4_v16 I _ u0 v0 x1 hu0 hv0 hx1 e0 e1) (L_call4_v20 I _ u0 v0 x1 hu0 hv0 hx1 e0 e1))

theorem L_v74_1 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v74_1 (F := Ideal) I.x3 I.x5 i) (((K_v74_1 I u0 v0 x1) : ℝ) : EReal) :=
  by unfold K_v74_1; exact (val_main_v74_1_apply I.x3 I.x5 i).trans (expR (L_call4_v21 I _ u0 v0 x1 hu0 hv0 hx1 e0 e1))

theorem L_v75 (I : Inp) (i : S16.Idx) (x0 : ℕ) (hx0 : x0 < 16) (e0 : (i 0).val = x0) : @Eq EReal (val_main_v75 (F := Ideal) I.x6 i) (((K_v75 I x0) : ℝ) : EReal) :=
  by unfold K_v75; exact (val_main_v75_apply I.x6 i).trans (expR (cg1 I.a6 e0))

theorem L_v76 (I : Inp) (i : S16.Idx) (x0 : ℕ) (hx0 : x0 < 16) (e0 : (i 0).val = x0) : @Eq EReal (val_main_v76 (F := Ideal) I.x6 i) (((K_v76 I x0) : ℝ) : EReal) :=
  by unfold K_v76; exact (val_main_v76_apply I.x6 i).trans (negR (L_v75 I _ x0 hx0 e0))

theorem L_v77 (I : Inp) (i : S4128x16x64.Idx) (u0 v0 x1 x2 : ℕ) (hu0 : u0 < 2) (hv0 : v0 < 2064) (hx1 : x1 < 16) (hx2 : x2 < 64) (e0 : (i 0).val = 2064 * u0 + v0) (e1 : (i 1).val = x1) (e2 : (i 2).val = x2) : @Eq EReal (val_main_v77 (F := Ideal) I.x2 i) (((I.a2 u0 v0 (64 * x1 + x2)) : ℝ) : EReal) :=
  (val_main_v77_apply I.x2 i).trans (L_v61 I _ u0 v0 (64 * x1 + x2) hu0 hv0 (by omega) (show (((i 0).val * 16 + (i 1).val) * 64 + (i 2).val) / 1024 = 2064 * u0 + v0 from by omega) (show (((i 0).val * 16 + (i 1).val) * 64 + (i 2).val) % 1024 = (64 * x1 + x2) from by omega))

theorem L_v78 (I : Inp) (i : S4128x16x1.Idx) (u0 v0 x1 : ℕ) (hu0 : u0 < 2) (hv0 : v0 < 2064) (hx1 : x1 < 16) (e0 : (i 0).val = 2064 * u0 + v0) (e1 : (i 1).val = x1) (e2 : (i 2).val = 0) : @Eq EReal (val_main_v78 (F := Ideal) I.x3 I.x5 i) (((K_call4_v11 I u0 v0 x1) : ℝ) : EReal) :=
  (val_main_v78_apply I.x3 I.x5 i).trans (L_v74_0 I _ u0 v0 x1 hu0 hv0 hx1 e0 e1)

theorem L_v79 (I : Inp) (i : S4128x16x64.Idx) (u0 v0 x1 x2 : ℕ) (hu0 : u0 < 2) (hv0 : v0 < 2064) (hx1 : x1 < 16) (hx2 : x2 < 64) (e0 : (i 0).val = 2064 * u0 + v0) (e1 : (i 1).val = x1) (e2 : (i 2).val = x2) : @Eq EReal (val_main_v79 (F := Ideal) I.x3 I.x5 i) (((K_call4_v11 I u0 v0 x1) : ℝ) : EReal) :=
  (val_main_v79_apply I.x3 I.x5 i).trans (L_v78 I _ u0 v0 x1 hu0 hv0 hx1 e0 e1 rfl)

theorem L_v80 (I : Inp) (i : S4128x16x64.Idx) (u0 v0 x1 x2 : ℕ) (hu0 : u0 < 2) (hv0 : v0 < 2064) (hx1 : x1 < 16) (hx2 : x2 < 64) (e0 : (i 0).val = 2064 * u0 + v0) (e1 : (i 1).val = x1) (e2 : (i 2).val = x2) : @Eq EReal (val_main_v80 (F := Ideal) I.x2 I.x3 I.x5 i) (((K_v80 I u0 v0 x1 x2) : ℝ) : EReal) :=
  by unfold K_v80; exact (val_main_v80_apply I.x2 I.x3 I.x5 i).trans (mulR (L_v77 I _ u0 v0 x1 x2 hu0 hv0 hx1 hx2 e0 e1 e2) (L_v79 I _ u0 v0 x1 x2 hu0 hv0 hx1 hx2 e0 e1 e2))

theorem L_v81 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v81 (F := Ideal) I.x2 I.x3 I.x5 i) (((K_v80 I u0 v0 (((x1) / 64)) (((x1) % 64))) : ℝ) : EReal) :=
  (val_main_v81_apply I.x2 I.x3 I.x5 i).trans (L_v80 I _ u0 v0 (((x1) / 64)) (((x1) % 64)) hu0 hv0 (by omega) (by omega) (show ((i 0).val * 1024 + (i 1).val) / 1024 = 2064 * u0 + v0 from by omega) (show ((i 0).val * 1024 + (i 1).val) / 64 % 16 = (((x1) / 64)) from by omega) (show ((i 0).val * 1024 + (i 1).val) % 64 = (((x1) % 64)) from by omega))

theorem L_v82 (I : Inp) (i : S2x2064x1024.Idx) (x0 x1 x2 : ℕ) (hx0 : x0 < 2) (hx1 : x1 < 2064) (hx2 : x2 < 1024) (e0 : (i 0).val = x0) (e1 : (i 1).val = x1) (e2 : (i 2).val = x2) : @Eq EReal (val_main_v82 (F := Ideal) I.x2 I.x3 I.x5 i) (((K_v80 I x0 x1 (((x2) / 64)) (((x2) % 64))) : ℝ) : EReal) :=
  (val_main_v82_apply I.x2 I.x3 I.x5 i).trans (L_v81 I _ x0 x1 x2 hx0 hx1 hx2 (show (((i 0).val * 2064 + (i 1).val) * 1024 + (i 2).val) / 1024 = 2064 * x0 + x1 from by omega) (show (((i 0).val * 2064 + (i 1).val) * 1024 + (i 2).val) % 1024 = x2 from by omega))

theorem L_cst_10 (I : Inp) (i : S_.Idx) : @Eq EReal (val_main_cst_10 (F := Ideal) i) (((0 : ℝ) : ℝ) : EReal) :=
  (val_main_cst_10_apply (F := Ideal) i).trans zeroR

theorem L_v83 (I : Inp) (i : S2x48x1024.Idx) (x0 x1 x2 : ℕ) (hx0 : x0 < 2) (hx1 : x1 < 48) (hx2 : x2 < 1024) (e0 : (i 0).val = x0) (e1 : (i 1).val = x1) (e2 : (i 2).val = x2) : @Eq EReal (val_main_v83 (F := Ideal) i) (((0 : ℝ) : ℝ) : EReal) :=
  (val_main_v83_apply (F := Ideal) i).trans (L_cst_10 I _ )

theorem L_v84 (I : Inp) (i : S2x2112x1024.Idx) (x0 u1 v1 x2 : ℕ) (hx0 : x0 < 2) (hu1 : u1 < 33) (hv1 : v1 < 64) (hx2 : x2 < 1024) (e0 : (i 0).val = x0) (e1 : (i 1).val = 64 * u1 + v1) (e2 : (i 2).val = x2) : @Eq EReal (val_main_v84 (F := Ideal) I.x2 I.x3 I.x5 i) (((K_v84 I x0 u1 v1 x2) : ℝ) : EReal) :=
  by unfold K_v84; exact (catP e1 (fun j => L_v83 I j _ _ _ (j 0).isLt (j 1).isLt (j 2).isLt rfl rfl rfl) fun hR j f0 f1 f2 => L_v82 I j x0 (64 * u1 + v1 - 48) x2 hx0 (by omega) hx2 (f0.trans e0) f1 (f2.trans e2))

theorem L_v86 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v86 (F := Ideal) I.x2 I.x3 I.x5 i) (((K_v84 I u0 v0 x1 (512 * x2 + 64 * x3 + x4)) : ℝ) : EReal) :=
  (val_main_v86_apply I.x2 I.x3 I.x5 i).trans (L_v84 I _ u0 v0 x1 (512 * x2 + 64 * x3 + x4) hu0 hv0 hx1 (by omega) (show (((((i 0).val * 64 + (i 1).val) * 2 + (i 2).val) * 8 + (i 3).val) * 64 + (i 4).val) / 2162688 = u0 from by omega) (show (((((i 0).val * 64 + (i 1).val) * 2 + (i 2).val) * 8 + (i 3).val) * 64 + (i 4).val) / 1024 % 2112 = 64 * v0 + x1 from by omega) (show (((((i 0).val * 64 + (i 1).val) * 2 + (i 2).val) * 8 + (i 3).val) * 64 + (i 4).val) % 1024 = (512 * x2 + 64 * x3 + x4) from by omega))

theorem L_v87 (I : Inp) (i : S16x1.Idx) (x0 : ℕ) (hx0 : x0 < 16) (e0 : (i 0).val = x0) (e1 : (i 1).val = 0) : @Eq EReal (val_main_v87 (F := Ideal) I.x7 i) (((I.a7 x0) : ℝ) : EReal) :=
  (val_main_v87_apply I.x7 i).trans (cg1 I.a7 e0)

theorem L_v88 (I : Inp) (i : S16x64.Idx) (x0 x1 : ℕ) (hx0 : x0 < 16) (hx1 : x1 < 64) (e0 : (i 0).val = x0) (e1 : (i 1).val = x1) : @Eq EReal (val_main_v88 (F := Ideal) I.x7 i) (((I.a7 x0) : ℝ) : EReal) :=
  (val_main_v88_apply I.x7 i).trans (L_v87 I _ x0 hx0 e0 rfl)

theorem L_v89 (I : Inp) (i : S1x16x64.Idx) (x1 x2 : ℕ) (hx1 : x1 < 16) (hx2 : x2 < 64) (e0 : (i 0).val = 0) (e1 : (i 1).val = x1) (e2 : (i 2).val = x2) : @Eq EReal (val_main_v89 (F := Ideal) I.x7 i) (((I.a7 x1) : ℝ) : EReal) :=
  (val_main_v89_apply I.x7 i).trans (L_v88 I _ x1 x2 hx1 hx2 e1 e2)

theorem L_v98 (I : Inp) (i : S1x16.Idx) (x1 : ℕ) (hx1 : x1 < 16) (e0 : (i 0).val = 0) (e1 : (i 1).val = x1) : @Eq EReal (val_main_v98 (F := Ideal) I.x6 i) (((K_v76 I x1) : ℝ) : EReal) :=
  (val_main_v98_apply I.x6 i).trans (L_v76 I _ x1 hx1 e1)

theorem L_v99 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v99 (F := Ideal) I.x6 i) (((K_v76 I x1) : ℝ) : EReal) :=
  (val_main_v99_apply I.x6 i).trans (L_v98 I _ x1 hx1 rfl e1)

theorem L_v100 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v100 (F := Ideal) I.x3 I.x5 I.x6 i) (((K_v100 I u0 v0 x1) : ℝ) : EReal) :=
  by unfold K_v100; exact (val_main_v100_apply I.x3 I.x5 I.x6 i).trans (mulR (L_v74_0 I _ u0 v0 x1 hu0 hv0 hx1 e0 e1) (L_v99 I _ u0 v0 x1 hu0 hv0 hx1 e0 e1))

theorem L_v101 (I : Inp) (i : S2x2064x16.Idx) (x0 x1 x2 : ℕ) (hx0 : x0 < 2) (hx1 : x1 < 2064) (hx2 : x2 < 16) (e0 : (i 0).val = x0) (e1 : (i 1).val = x1) (e2 : (i 2).val = x2) : @Eq EReal (val_main_v101 (F := Ideal) I.x3 I.x5 I.x6 i) (((K_v100 I x0 x1 x2) : ℝ) : EReal) :=
  (val_main_v101_apply I.x3 I.x5 I.x6 i).trans (L_v100 I _ x0 x1 x2 hx0 hx1 hx2 (show (((i 0).val * 2064 + (i 1).val) * 16 + (i 2).val) / 16 = 2064 * x0 + x1 from by omega) (show (((i 0).val * 2064 + (i 1).val) * 16 + (i 2).val) % 16 = x2 from by omega))

theorem L_cst_14 (I : Inp) (i : S_.Idx) : @Eq EReal (val_main_cst_14 (F := Ideal) i) (((0 : ℝ) : ℝ) : EReal) :=
  (val_main_cst_14_apply (F := Ideal) i).trans zeroR

theorem L_v102 (I : Inp) (i : S2x48x16.Idx) (x0 x1 x2 : ℕ) (hx0 : x0 < 2) (hx1 : x1 < 48) (hx2 : x2 < 16) (e0 : (i 0).val = x0) (e1 : (i 1).val = x1) (e2 : (i 2).val = x2) : @Eq EReal (val_main_v102 (F := Ideal) i) (((0 : ℝ) : ℝ) : EReal) :=
  (val_main_v102_apply (F := Ideal) i).trans (L_cst_14 I _ )

theorem L_v103 (I : Inp) (i : S2x2112x16.Idx) (x0 u1 v1 x2 : ℕ) (hx0 : x0 < 2) (hu1 : u1 < 33) (hv1 : v1 < 64) (hx2 : x2 < 16) (e0 : (i 0).val = x0) (e1 : (i 1).val = 64 * u1 + v1) (e2 : (i 2).val = x2) : @Eq EReal (val_main_v103 (F := Ideal) I.x3 I.x5 I.x6 i) (((K_v103 I x0 u1 v1 x2) : ℝ) : EReal) :=
  by unfold K_v103; exact (catP e1 (fun j => L_v102 I j _ _ _ (j 0).isLt (j 1).isLt (j 2).isLt rfl rfl rfl) fun hR j f0 f1 f2 => L_v101 I j x0 (64 * u1 + v1 - 48) x2 hx0 (by omega) hx2 (f0.trans e0) f1 (f2.trans e2))

theorem L_v105 (I : Inp) (i : S66x64x16.Idx) (u0 v0 x1 x2 : ℕ) (hu0 : u0 < 2) (hv0 : v0 < 33) (hx1 : x1 < 64) (hx2 : x2 < 16) (e0 : (i 0).val = 33 * u0 + v0) (e1 : (i 1).val = x1) (e2 : (i 2).val = x2) : @Eq EReal (val_main_v105 (F := Ideal) I.x3 I.x5 I.x6 i) (((K_v103 I u0 v0 x1 x2) : ℝ) : EReal) :=
  (val_main_v105_apply I.x3 I.x5 I.x6 i).trans (L_v103 I _ u0 v0 x1 x2 hu0 hv0 hx1 hx2 (show (((i 0).val * 64 + (i 1).val) * 16 + (i 2).val) / 33792 = u0 from by omega) (show (((i 0).val * 64 + (i 1).val) * 16 + (i 2).val) / 16 % 2112 = 64 * v0 + x1 from by omega) (show (((i 0).val * 64 + (i 1).val) * 16 + (i 2).val) % 16 = x2 from by omega))

theorem L_v106 (I : Inp) (i : S2x2064x256.Idx) (x0 x1 x2 : ℕ) (hx0 : x0 < 2) (hx1 : x1 < 2064) (hx2 : x2 < 256) (e0 : (i 0).val = x0) (e1 : (i 1).val = x1) (e2 : (i 2).val = x2) : @Eq EReal (val_main_v106 (F := Ideal) I.x2 i) (((I.a2 x0 x1 (x2 + 1024)) : ℝ) : EReal) :=
  (val_main_v106_apply I.x2 i).trans (L_v64 I _ x0 x1 x2 hx0 hx1 hx2 (show (((i 0).val * 2064 + (i 1).val) * 256 + (i 2).val) / 256 = 2064 * x0 + x1 from by omega) (show (((i 0).val * 2064 + (i 1).val) * 256 + (i 2).val) % 256 = x2 from by omega))

theorem L_cst_16 (I : Inp) (i : S_.Idx) : @Eq EReal (val_main_cst_16 (F := Ideal) i) (((0 : ℝ) : ℝ) : EReal) :=
  (val_main_cst_16_apply (F := Ideal) i).trans zeroR

theorem L_v107 (I : Inp) (i : S2x48x256.Idx) (x0 x1 x2 : ℕ) (hx0 : x0 < 2) (hx1 : x1 < 48) (hx2 : x2 < 256) (e0 : (i 0).val = x0) (e1 : (i 1).val = x1) (e2 : (i 2).val = x2) : @Eq EReal (val_main_v107 (F := Ideal) i) (((0 : ℝ) : ℝ) : EReal) :=
  (val_main_v107_apply (F := Ideal) i).trans (L_cst_16 I _ )

theorem L_v108 (I : Inp) (i : S2x2112x256.Idx) (x0 u1 v1 x2 : ℕ) (hx0 : x0 < 2) (hu1 : u1 < 33) (hv1 : v1 < 64) (hx2 : x2 < 256) (e0 : (i 0).val = x0) (e1 : (i 1).val = 64 * u1 + v1) (e2 : (i 2).val = x2) : @Eq EReal (val_main_v108 (F := Ideal) I.x2 i) (((K_v108 I x0 u1 v1 x2) : ℝ) : EReal) :=
  by unfold K_v108; exact (catP e1 (fun j => L_v107 I j _ _ _ (j 0).isLt (j 1).isLt (j 2).isLt rfl rfl rfl) fun hR j f0 f1 f2 => L_v106 I j x0 (64 * u1 + v1 - 48) x2 hx0 (by omega) hx2 (f0.trans e0) f1 (f2.trans e2))

theorem L_v110 (I : Inp) (i : S66x64x2x128.Idx) (u0 v0 x1 x2 x3 : ℕ) (hu0 : u0 < 2) (hv0 : v0 < 33) (hx1 : x1 < 64) (hx2 : x2 < 2) (hx3 : x3 < 128) (e0 : (i 0).val = 33 * u0 + v0) (e1 : (i 1).val = x1) (e2 : (i 2).val = x2) (e3 : (i 3).val = x3) : @Eq EReal (val_main_v110 (F := Ideal) I.x2 i) (((K_v108 I u0 v0 x1 (128 * x2 + x3)) : ℝ) : EReal) :=
  (val_main_v110_apply I.x2 i).trans (L_v108 I _ u0 v0 x1 (128 * x2 + x3) hu0 hv0 hx1 (by omega) (show ((((i 0).val * 64 + (i 1).val) * 2 + (i 2).val) * 128 + (i 3).val) / 540672 = u0 from by omega) (show ((((i 0).val * 64 + (i 1).val) * 2 + (i 2).val) * 128 + (i 3).val) / 256 % 2112 = 64 * v0 + x1 from by omega) (show ((((i 0).val * 64 + (i 1).val) * 2 + (i 2).val) * 128 + (i 3).val) % 256 = (128 * x2 + x3) from by omega))

theorem L_v111 (I : Inp) (i : S2x2064x256.Idx) (x0 x1 x2 : ℕ) (hx0 : x0 < 2) (hx1 : x1 < 2064) (hx2 : x2 < 256) (e0 : (i 0).val = x0) (e1 : (i 1).val = x1) (e2 : (i 2).val = x2) : @Eq EReal (val_main_v111 (F := Ideal) I.x2 i) (((I.a2 x0 x1 (x2 + 1280)) : ℝ) : EReal) :=
  (val_main_v111_apply I.x2 i).trans (L_v67 I _ x0 x1 x2 hx0 hx1 hx2 (show (((i 0).val * 2064 + (i 1).val) * 256 + (i 2).val) / 256 = 2064 * x0 + x1 from by omega) (show (((i 0).val * 2064 + (i 1).val) * 256 + (i 2).val) % 256 = x2 from by omega))

theorem L_cst_18 (I : Inp) (i : S_.Idx) : @Eq EReal (val_main_cst_18 (F := Ideal) i) (((0 : ℝ) : ℝ) : EReal) :=
  (val_main_cst_18_apply (F := Ideal) i).trans zeroR

theorem L_v112 (I : Inp) (i : S2x48x256.Idx) (x0 x1 x2 : ℕ) (hx0 : x0 < 2) (hx1 : x1 < 48) (hx2 : x2 < 256) (e0 : (i 0).val = x0) (e1 : (i 1).val = x1) (e2 : (i 2).val = x2) : @Eq EReal (val_main_v112 (F := Ideal) i) (((0 : ℝ) : ℝ) : EReal) :=
  (val_main_v112_apply (F := Ideal) i).trans (L_cst_18 I _ )

theorem L_v113 (I : Inp) (i : S2x2112x256.Idx) (x0 u1 v1 x2 : ℕ) (hx0 : x0 < 2) (hu1 : u1 < 33) (hv1 : v1 < 64) (hx2 : x2 < 256) (e0 : (i 0).val = x0) (e1 : (i 1).val = 64 * u1 + v1) (e2 : (i 2).val = x2) : @Eq EReal (val_main_v113 (F := Ideal) I.x2 i) (((K_v113 I x0 u1 v1 x2) : ℝ) : EReal) :=
  by unfold K_v113; exact (catP e1 (fun j => L_v112 I j _ _ _ (j 0).isLt (j 1).isLt (j 2).isLt rfl rfl rfl) fun hR j f0 f1 f2 => L_v111 I j x0 (64 * u1 + v1 - 48) x2 hx0 (by omega) hx2 (f0.trans e0) f1 (f2.trans e2))

theorem L_v115 (I : Inp) (i : S66x64x2x128.Idx) (u0 v0 x1 x2 x3 : ℕ) (hu0 : u0 < 2) (hv0 : v0 < 33) (hx1 : x1 < 64) (hx2 : x2 < 2) (hx3 : x3 < 128) (e0 : (i 0).val = 33 * u0 + v0) (e1 : (i 1).val = x1) (e2 : (i 2).val = x2) (e3 : (i 3).val = x3) : @Eq EReal (val_main_v115 (F := Ideal) I.x2 i) (((K_v113 I u0 v0 x1 (128 * x2 + x3)) : ℝ) : EReal) :=
  (val_main_v115_apply I.x2 i).trans (L_v113 I _ u0 v0 x1 (128 * x2 + x3) hu0 hv0 hx1 (by omega) (show ((((i 0).val * 64 + (i 1).val) * 2 + (i 2).val) * 128 + (i 3).val) / 540672 = u0 from by omega) (show ((((i 0).val * 64 + (i 1).val) * 2 + (i 2).val) * 128 + (i 3).val) / 256 % 2112 = 64 * v0 + x1 from by omega) (show ((((i 0).val * 64 + (i 1).val) * 2 + (i 2).val) * 128 + (i 3).val) % 256 = (128 * x2 + x3) from by omega))

theorem L_v116 (I : Inp) (i : S66x16x64.Idx) (u0 v0 x1 x2 : ℕ) (hu0 : u0 < 2) (hv0 : v0 < 33) (hx1 : x1 < 16) (hx2 : x2 < 64) (e0 : (i 0).val = 33 * u0 + v0) (e1 : (i 1).val = x1) (e2 : (i 2).val = x2) : @Eq EReal (val_main_v116 (F := Ideal) I.x3 I.x5 I.x6 i) (((K_v116 I u0 v0 x1 x2) : ℝ) : EReal) :=
  by unfold K_v116; exact (val_main_v116_apply I.x3 I.x5 I.x6 i).trans (dotR (fun k => (L_v105 I _ u0 v0 k.val x1 hu0 hv0 k.isLt hx1 e0 rfl e1)) fun k => (L_v50 I _ x2 k.val hx2 k.isLt e2 rfl))

theorem L_v117 (I : Inp) (i : S66x64x16.Idx) (u0 v0 x1 x2 : ℕ) (hu0 : u0 < 2) (hv0 : v0 < 33) (hx1 : x1 < 64) (hx2 : x2 < 16) (e0 : (i 0).val = 33 * u0 + v0) (e1 : (i 1).val = x1) (e2 : (i 2).val = x2) : @Eq EReal (val_main_v117 (F := Ideal) I.x3 I.x5 I.x6 i) (((K_v116 I u0 v0 x2 x1) : ℝ) : EReal) :=
  (val_main_v117_apply I.x3 I.x5 I.x6 i).trans (L_v116 I _ u0 v0 x2 x1 hu0 hv0 hx2 hx1 e0 e2 e1)

theorem L_v118 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v118 (F := Ideal) I.x3 I.x5 I.x6 i) (((K_v116 I u0 v0 (8 * x2 + x3) x1) : ℝ) : EReal) :=
  (val_main_v118_apply I.x3 I.x5 I.x6 i).trans (L_v117 I _ u0 v0 x1 (8 * x2 + x3) hu0 hv0 hx1 (by omega) (show ((((i 0).val * 64 + (i 1).val) * 2 + (i 2).val) * 8 + (i 3).val) / 1024 = 33 * u0 + v0 from by omega) (show ((((i 0).val * 64 + (i 1).val) * 2 + (i 2).val) * 8 + (i 3).val) / 16 % 64 = x1 from by omega) (show ((((i 0).val * 64 + (i 1).val) * 2 + (i 2).val) * 8 + (i 3).val) % 16 = (8 * x2 + x3) from by omega))

theorem L_cst_20 (I : Inp) (i : S_.Idx) : @Eq EReal (val_main_cst_20 (F := Ideal) i) (((0 : ℝ) : ℝ) : EReal) :=
  (val_main_cst_20_apply (F := Ideal) i).trans zeroR

theorem L_v119 (I : Inp) (i : S66x16.Idx) (u0 v0 x1 : ℕ) (hu0 : u0 < 2) (hv0 : v0 < 33) (hx1 : x1 < 16) (e0 : (i 0).val = 33 * u0 + v0) (e1 : (i 1).val = x1) : @Eq EReal (val_main_v119 (F := Ideal) I.x3 I.x5 I.x6 i) (((K_v119 I u0 v0 x1) : ℝ) : EReal) :=
  by unfold K_v119; exact (val_main_v119_apply I.x3 I.x5 I.x6 i).trans (redR (L_cst_20 I _) fun k => (L_v105 I _ u0 v0 k.val x1 hu0 hv0 k.isLt hx1 e0 rfl e1))

theorem L_v120 (I : Inp) (i : S66x2x8.Idx) (u0 v0 x1 x2 : ℕ) (hu0 : u0 < 2) (hv0 : v0 < 33) (hx1 : x1 < 2) (hx2 : x2 < 8) (e0 : (i 0).val = 33 * u0 + v0) (e1 : (i 1).val = x1) (e2 : (i 2).val = x2) : @Eq EReal (val_main_v120 (F := Ideal) I.x3 I.x5 I.x6 i) (((K_v119 I u0 v0 (8 * x1 + x2)) : ℝ) : EReal) :=
  (val_main_v120_apply I.x3 I.x5 I.x6 i).trans (L_v119 I _ u0 v0 (8 * x1 + x2) hu0 hv0 (by omega) (show (((i 0).val * 2 + (i 1).val) * 8 + (i 2).val) / 16 = 33 * u0 + v0 from by omega) (show (((i 0).val * 2 + (i 1).val) * 8 + (i 2).val) % 16 = (8 * x1 + x2) from by omega))

theorem L_v121 (I : Inp) (i : S66x2x8x64.Idx) (u0 v0 x1 x2 x3 : ℕ) (hu0 : u0 < 2) (hv0 : v0 < 33) (hx1 : x1 < 2) (hx2 : x2 < 8) (hx3 : x3 < 64) (e0 : (i 0).val = 33 * u0 + v0) (e1 : (i 1).val = x1) (e2 : (i 2).val = x2) (e3 : (i 3).val = x3) : @Eq EReal (val_main_v121 (F := Ideal) I.x3 I.x5 I.x6 i) (((K_v116 I u0 v0 (8 * x1 + x2) x3) : ℝ) : EReal) :=
  (val_main_v121_apply I.x3 I.x5 I.x6 i).trans (L_v118 I _ u0 v0 x3 x1 x2 hu0 hv0 hx3 hx1 hx2 e0 e3 e1 e2)

theorem L_v122 (I : Inp) (i : S66x2x8x64x1.Idx) (u0 v0 x1 x2 x3 : ℕ) (hu0 : u0 < 2) (hv0 : v0 < 33) (hx1 : x1 < 2) (hx2 : x2 < 8) (hx3 : x3 < 64) (e0 : (i 0).val = 33 * u0 + v0) (e1 : (i 1).val = x1) (e2 : (i 2).val = x2) (e3 : (i 3).val = x3) (e4 : (i 4).val = 0) : @Eq EReal (val_main_v122 (F := Ideal) I.x3 I.x5 I.x6 i) (((K_v116 I u0 v0 (8 * x1 + x2) x3) : ℝ) : EReal) :=
  (val_main_v122_apply I.x3 I.x5 I.x6 i).trans (L_v121 I _ u0 v0 x1 x2 x3 hu0 hv0 hx1 hx2 hx3 e0 e1 e2 e3)

theorem L_v123 (I : Inp) (i : S66x2x8x1x64.Idx) (u0 v0 x1 x2 x4 : ℕ) (hu0 : u0 < 2) (hv0 : v0 < 33) (hx1 : x1 < 2) (hx2 : x2 < 8) (hx4 : x4 < 64) (e0 : (i 0).val = 33 * u0 + v0) (e1 : (i 1).val = x1) (e2 : (i 2).val = x2) (e3 : (i 3).val = 0) (e4 : (i 4).val = x4) : @Eq EReal (val_main_v123 (F := Ideal) I.x3 I.x5 I.x6 i) (((K_v116 I u0 v0 (8 * x1 + x2) x4) : ℝ) : EReal) :=
  (val_main_v123_apply I.x3 I.x5 I.x6 i).trans (L_v121 I _ u0 v0 x1 x2 x4 hu0 hv0 hx1 hx2 hx4 e0 e1 e2 e4)

theorem L_v124 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v124 (F := Ideal) I.x3 I.x5 I.x6 i) (((K_v116 I u0 v0 (8 * x1 + x2) x3) : ℝ) : EReal) :=
  (val_main_v124_apply I.x3 I.x5 I.x6 i).trans (L_v122 I _ u0 v0 x1 x2 x3 hu0 hv0 hx1 hx2 hx3 e0 e1 e2 e3 rfl)

theorem L_v125 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v125 (F := Ideal) I.x3 I.x5 I.x6 i) (((K_v116 I u0 v0 (8 * x1 + x2) x4) : ℝ) : EReal) :=
  (val_main_v125_apply I.x3 I.x5 I.x6 i).trans (L_v123 I _ u0 v0 x1 x2 x4 hu0 hv0 hx1 hx2 hx4 e0 e1 e2 rfl e4)

theorem L_v126 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v126 (F := Ideal) I.x3 I.x5 I.x6 i) (((K_v126 I u0 v0 x1 x2 x3 x4) : ℝ) : EReal) :=
  by unfold K_v126; exact (val_main_v126_apply I.x3 I.x5 I.x6 i).trans (subR (L_v124 I _ u0 v0 x1 x2 x3 x4 hu0 hv0 hx1 hx2 hx3 hx4 e0 e1 e2 e3 e4) (L_v125 I _ u0 v0 x1 x2 x3 x4 hu0 hv0 hx1 hx2 hx3 hx4 e0 e1 e2 e3 e4))

theorem L_cst_21 (I : Inp) (i : S_.Idx) : @Eq EReal (val_main_cst_21 (F := Ideal) i) (((0 : ℝ) : ℝ) : EReal) :=
  (val_main_cst_21_apply (F := Ideal) i).trans zeroR

theorem L_call5_v0 (I : Inp) (i : S_.Idx) : @Eq EReal (val_main_call5_v0 (F := Ideal) i) (((0 : ℝ) : ℝ) : EReal) :=
  (val_main_call5_v0_apply (F := Ideal) i).trans (L_cst_21 I _ )

theorem L_v127_1 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : (val_main_v127_1 (F := Ideal) i) = BitVec.ofBool (decide ((x4 ≤ x3))) :=
  (val_main_v127_1_apply (F := Ideal) i).trans (L_v52 I _ x3 x4 hx3 hx4 e3 e4)

theorem L_call5_v2 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_call5_v2 (F := Ideal) i) (((0 : ℝ) : ℝ) : EReal) :=
  (val_main_call5_v2_apply (F := Ideal) i).trans (L_call5_v0 I _ )

theorem L_v127_0 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v127_0 (F := Ideal) I.x3 I.x5 I.x6 i) (((K_v127_0 I u0 v0 x1 x2 x3 x4) : ℝ) : EReal) :=
  by unfold K_v127_0; exact (val_main_v127_0_apply I.x3 I.x5 I.x6 i).trans (selR (L_v127_1 I _ u0 v0 x1 x2 x3 x4 hu0 hv0 hx1 hx2 hx3 hx4 e0 e1 e2 e3 e4) (L_v126 I _ u0 v0 x1 x2 x3 x4 hu0 hv0 hx1 hx2 hx3 hx4 e0 e1 e2 e3 e4) (L_call5_v2 I _ u0 v0 x1 x2 x3 x4 hu0 hv0 hx1 hx2 hx3 hx4 e0 e1 e2 e3 e4))

theorem L_v128 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v128 (F := Ideal) I.x3 I.x5 I.x6 i) (((K_v128 I u0 v0 x1 x2 x3 x4) : ℝ) : EReal) :=
  by unfold K_v128; exact (val_main_v128_apply I.x3 I.x5 I.x6 i).trans (expR (L_v127_0 I _ u0 v0 x1 x2 x3 x4 hu0 hv0 hx1 hx2 hx3 hx4 e0 e1 e2 e3 e4))

theorem L_cst_22 (I : Inp) (i : S_.Idx) : @Eq EReal (val_main_cst_22 (F := Ideal) i) (((0 : ℝ) : ℝ) : EReal) :=
  (val_main_cst_22_apply (F := Ideal) i).trans zeroR

theorem L_call6_v0 (I : Inp) (i : S_.Idx) : @Eq EReal (val_main_call6_v0 (F := Ideal) i) (((0 : ℝ) : ℝ) : EReal) :=
  (val_main_call6_v0_apply (F := Ideal) i).trans (L_cst_22 I _ )

theorem L_v129_1 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : (val_main_v129_1 (F := Ideal) i) = BitVec.ofBool (decide ((x4 ≤ x3))) :=
  (val_main_v129_1_apply (F := Ideal) i).trans (L_v52 I _ x3 x4 hx3 hx4 e3 e4)

theorem L_call6_v2 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_call6_v2 (F := Ideal) i) (((0 : ℝ) : ℝ) : EReal) :=
  (val_main_call6_v2_apply (F := Ideal) i).trans (L_call6_v0 I _ )

theorem L_v129_0 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v129_0 (F := Ideal) I.x3 I.x5 I.x6 i) (((K_v129_0 I u0 v0 x1 x2 x3 x4) : ℝ) : EReal) :=
  by unfold K_v129_0; exact (val_main_v129_0_apply I.x3 I.x5 I.x6 i).trans (selR (L_v129_1 I _ u0 v0 x1 x2 x3 x4 hu0 hv0 hx1 hx2 hx3 hx4 e0 e1 e2 e3 e4) (L_v128 I _ u0 v0 x1 x2 x3 x4 hu0 hv0 hx1 hx2 hx3 hx4 e0 e1 e2 e3 e4) (L_call6_v2 I _ u0 v0 x1 x2 x3 x4 hu0 hv0 hx1 hx2 hx3 hx4 e0 e1 e2 e3 e4))

theorem L_v130 (I : Inp) (i : S66x2x64x64.Idx) (u0 v0 x1 x2 x3 : ℕ) (hu0 : u0 < 2) (hv0 : v0 < 33) (hx1 : x1 < 2) (hx2 : x2 < 64) (hx3 : x3 < 64) (e0 : (i 0).val = 33 * u0 + v0) (e1 : (i 1).val = x1) (e2 : (i 2).val = x2) (e3 : (i 3).val = x3) : @Eq EReal (val_main_v130 (F := Ideal) I.x2 i) (((K_v130 I u0 v0 x1 x2 x3) : ℝ) : EReal) :=
  by unfold K_v130; exact (val_main_v130_apply I.x2 i).trans (dotR (fun k => (L_v115 I _ u0 v0 x2 x1 k.val hu0 hv0 hx2 hx1 k.isLt e0 e2 e1 rfl)) fun k => (L_v110 I _ u0 v0 x3 x1 k.val hu0 hv0 hx3 hx1 k.isLt e0 e3 e1 rfl))

theorem L_v131 (I : Inp) (i : S66x2x1x64x64.Idx) (u0 v0 x1 x3 x4 : ℕ) (hu0 : u0 < 2) (hv0 : v0 < 33) (hx1 : x1 < 2) (hx3 : x3 < 64) (hx4 : x4 < 64) (e0 : (i 0).val = 33 * u0 + v0) (e1 : (i 1).val = x1) (e2 : (i 2).val = 0) (e3 : (i 3).val = x3) (e4 : (i 4).val = x4) : @Eq EReal (val_main_v131 (F := Ideal) I.x2 i) (((K_v130 I u0 v0 x1 x3 x4) : ℝ) : EReal) :=
  (val_main_v131_apply I.x2 i).trans (L_v130 I _ u0 v0 x1 x3 x4 hu0 hv0 hx1 hx3 hx4 e0 e1 e3 e4)

theorem L_v132 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v132 (F := Ideal) I.x2 i) (((K_v130 I u0 v0 x1 x3 x4) : ℝ) : EReal) :=
  (val_main_v132_apply I.x2 i).trans (L_v131 I _ u0 v0 x1 x3 x4 hu0 hv0 hx1 hx3 hx4 e0 e1 rfl e3 e4)

theorem L_v133 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v133 (F := Ideal) I.x2 I.x3 I.x5 I.x6 i) (((K_v133 I u0 v0 x1 x2 x3 x4) : ℝ) : EReal) :=
  by unfold K_v133; exact (val_main_v133_apply I.x2 I.x3 I.x5 I.x6 i).trans (mulR (L_v132 I _ u0 v0 x1 x2 x3 x4 hu0 hv0 hx1 hx2 hx3 hx4 e0 e1 e2 e3 e4) (L_v129_0 I _ u0 v0 x1 x2 x3 x4 hu0 hv0 hx1 hx2 hx3 hx4 e0 e1 e2 e3 e4))

theorem L_v136 (I : Inp) (i : S66x1x2x8.Idx) (u0 v0 x2 x3 : ℕ) (hu0 : u0 < 2) (hv0 : v0 < 33) (hx2 : x2 < 2) (hx3 : x3 < 8) (e0 : (i 0).val = 33 * u0 + v0) (e1 : (i 1).val = 0) (e2 : (i 2).val = x2) (e3 : (i 3).val = x3) : @Eq EReal (val_main_v136 (F := Ideal) I.x3 I.x5 I.x6 i) (((K_v119 I u0 v0 (8 * x2 + x3)) : ℝ) : EReal) :=
  (val_main_v136_apply I.x3 I.x5 I.x6 i).trans (L_v120 I _ u0 v0 x2 x3 hu0 hv0 hx2 hx3 e0 e2 e3)

theorem L_v137 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v137 (F := Ideal) I.x3 I.x5 I.x6 i) (((K_v119 I u0 v0 (8 * x2 + x3)) : ℝ) : EReal) :=
  (val_main_v137_apply I.x3 I.x5 I.x6 i).trans (L_v136 I _ u0 v0 x2 x3 hu0 hv0 hx2 hx3 e0 rfl e2 e3)

theorem L_v138 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v138 (F := Ideal) I.x3 I.x5 I.x6 i) (((K_v138 I u0 v0 x1 x2 x3) : ℝ) : EReal) :=
  by unfold K_v138; exact (val_main_v138_apply I.x3 I.x5 I.x6 i).trans (subR (L_v137 I _ u0 v0 x1 x2 x3 hu0 hv0 hx1 hx2 hx3 e0 e1 e2 e3) (L_v118 I _ u0 v0 x1 x2 x3 hu0 hv0 hx1 hx2 hx3 e0 e1 e2 e3))

theorem L_v139 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v139 (F := Ideal) I.x3 I.x5 I.x6 i) (((K_v139 I u0 v0 x1 x2 x3) : ℝ) : EReal) :=
  by unfold K_v139; exact (val_main_v139_apply I.x3 I.x5 I.x6 i).trans (expR (L_v138 I _ u0 v0 x1 x2 x3 hu0 hv0 hx1 hx2 hx3 e0 e1 e2 e3))

theorem L_v140 (I : Inp) (i : S66x64x2x8x1.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) (e4 : (i 4).val = 0) : @Eq EReal (val_main_v140 (F := Ideal) I.x3 I.x5 I.x6 i) (((K_v139 I u0 v0 x1 x2 x3) : ℝ) : EReal) :=
  (val_main_v140_apply I.x3 I.x5 I.x6 i).trans (L_v139 I _ u0 v0 x1 x2 x3 hu0 hv0 hx1 hx2 hx3 e0 e1 e2 e3)

theorem L_v141 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v141 (F := Ideal) I.x3 I.x5 I.x6 i) (((K_v139 I u0 v0 x1 x2 x3) : ℝ) : EReal) :=
  (val_main_v141_apply I.x3 I.x5 I.x6 i).trans (L_v140 I _ u0 v0 x1 x2 x3 hu0 hv0 hx1 hx2 hx3 e0 e1 e2 e3 rfl)

theorem L_v142 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v142 (F := Ideal) I.x2 I.x3 I.x5 I.x6 i) (((K_v142 I u0 v0 x1 x2 x3 x4) : ℝ) : EReal) :=
  by unfold K_v142; exact (val_main_v142_apply I.x2 I.x3 I.x5 I.x6 i).trans (mulR (L_v141 I _ u0 v0 x1 x2 x3 x4 hu0 hv0 hx1 hx2 hx3 hx4 e0 e1 e2 e3 e4) (L_v86 I _ u0 v0 x1 x2 x3 x4 hu0 hv0 hx1 hx2 hx3 hx4 e0 e1 e2 e3 e4))

theorem L_v143 (I : Inp) (i : S66x64x2x512.Idx) (u0 v0 x1 x2 x3 : ℕ) (hu0 : u0 < 2) (hv0 : v0 < 33) (hx1 : x1 < 64) (hx2 : x2 < 2) (hx3 : x3 < 512) (e0 : (i 0).val = 33 * u0 + v0) (e1 : (i 1).val = x1) (e2 : (i 2).val = x2) (e3 : (i 3).val = x3) : @Eq EReal (val_main_v143 (F := Ideal) I.x2 I.x3 I.x5 I.x6 i) (((K_v142 I u0 v0 x1 x2 (((x3) / 64)) (((x3) % 64))) : ℝ) : EReal) :=
  (val_main_v143_apply I.x2 I.x3 I.x5 I.x6 i).trans (L_v142 I _ u0 v0 x1 x2 (((x3) / 64)) (((x3) % 64)) hu0 hv0 hx1 hx2 (by omega) (by omega) (show ((((i 0).val * 64 + (i 1).val) * 2 + (i 2).val) * 512 + (i 3).val) / 65536 = 33 * u0 + v0 from by omega) (show ((((i 0).val * 64 + (i 1).val) * 2 + (i 2).val) * 512 + (i 3).val) / 1024 % 64 = x1 from by omega) (show ((((i 0).val * 64 + (i 1).val) * 2 + (i 2).val) * 512 + (i 3).val) / 512 % 2 = x2 from by omega) (show ((((i 0).val * 64 + (i 1).val) * 2 + (i 2).val) * 512 + (i 3).val) / 64 % 8 = (((x3) / 64)) from by omega) (show ((((i 0).val * 64 + (i 1).val) * 2 + (i 2).val) * 512 + (i 3).val) % 64 = (((x3) % 64)) from by omega))

theorem L_v146 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v146 (F := Ideal) I.x3 I.x5 I.x6 i) (((K_v146 I u0 v0 x1 x2 x3) : ℝ) : EReal) :=
  by unfold K_v146; exact (val_main_v146_apply I.x3 I.x5 I.x6 i).trans (expR (L_v118 I _ u0 v0 x1 x2 x3 hu0 hv0 hx1 hx2 hx3 e0 e1 e2 e3))

theorem L_v147 (I : Inp) (i : S66x2x512x64.Idx) (u0 v0 x1 x2 x3 : ℕ) (hu0 : u0 < 2) (hv0 : v0 < 33) (hx1 : x1 < 2) (hx2 : x2 < 512) (hx3 : x3 < 64) (e0 : (i 0).val = 33 * u0 + v0) (e1 : (i 1).val = x1) (e2 : (i 2).val = x2) (e3 : (i 3).val = x3) : @Eq EReal (val_main_v147 (F := Ideal) I.x2 I.x4 i) (((K_v147 I u0 v0 x1 x2 x3) : ℝ) : EReal) :=
  by unfold K_v147; exact (val_main_v147_apply I.x2 I.x4 i).trans (dotR (fun k => (L_v58 I _ u0 v0 k.val x1 x2 hu0 hv0 k.isLt hx1 hx2 e0 rfl e1 e2)) fun k => (L_v115 I _ u0 v0 x3 x1 k.val hu0 hv0 hx3 hx1 k.isLt e0 e3 e1 rfl))

theorem L_v148 (I : Inp) (i : S66x64x2x512.Idx) (u0 v0 x1 x2 x3 : ℕ) (hu0 : u0 < 2) (hv0 : v0 < 33) (hx1 : x1 < 64) (hx2 : x2 < 2) (hx3 : x3 < 512) (e0 : (i 0).val = 33 * u0 + v0) (e1 : (i 1).val = x1) (e2 : (i 2).val = x2) (e3 : (i 3).val = x3) : @Eq EReal (val_main_v148 (F := Ideal) I.x2 I.x4 i) (((K_v147 I u0 v0 x2 x3 x1) : ℝ) : EReal) :=
  (val_main_v148_apply I.x2 I.x4 i).trans (L_v147 I _ u0 v0 x2 x3 x1 hu0 hv0 hx2 hx3 hx1 e0 e2 e3 e1)

theorem L_v149 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v149 (F := Ideal) I.x2 I.x4 i) (((K_v147 I u0 v0 x2 (64 * x3 + x4) x1) : ℝ) : EReal) :=
  (val_main_v149_apply I.x2 I.x4 i).trans (L_v148 I _ u0 v0 x1 x2 (64 * x3 + x4) hu0 hv0 hx1 hx2 (by omega) (show (((((i 0).val * 64 + (i 1).val) * 2 + (i 2).val) * 8 + (i 3).val) * 64 + (i 4).val) / 65536 = 33 * u0 + v0 from by omega) (show (((((i 0).val * 64 + (i 1).val) * 2 + (i 2).val) * 8 + (i 3).val) * 64 + (i 4).val) / 1024 % 64 = x1 from by omega) (show (((((i 0).val * 64 + (i 1).val) * 2 + (i 2).val) * 8 + (i 3).val) * 64 + (i 4).val) / 512 % 2 = x2 from by omega) (show (((((i 0).val * 64 + (i 1).val) * 2 + (i 2).val) * 8 + (i 3).val) * 64 + (i 4).val) % 512 = (64 * x3 + x4) from by omega))

theorem L_v150 (I : Inp) (i : S66x64x2x8x1.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) (e4 : (i 4).val = 0) : @Eq EReal (val_main_v150 (F := Ideal) I.x3 I.x5 I.x6 i) (((K_v146 I u0 v0 x1 x2 x3) : ℝ) : EReal) :=
  (val_main_v150_apply I.x3 I.x5 I.x6 i).trans (L_v146 I _ u0 v0 x1 x2 x3 hu0 hv0 hx1 hx2 hx3 e0 e1 e2 e3)

theorem L_v156 (I : Inp) (i : S66x2x8.Idx) (u0 v0 x1 x2 : ℕ) (hu0 : u0 < 2) (hv0 : v0 < 33) (hx1 : x1 < 2) (hx2 : x2 < 8) (e0 : (i 0).val = 33 * u0 + v0) (e1 : (i 1).val = x1) (e2 : (i 2).val = x2) : @Eq EReal (val_main_v156 (F := Ideal) I.x3 I.x5 I.x6 i) (((K_v156 I u0 v0 x1 x2) : ℝ) : EReal) :=
  by unfold K_v156; exact (val_main_v156_apply I.x3 I.x5 I.x6 i).trans (expR (L_v120 I _ u0 v0 x1 x2 hu0 hv0 hx1 hx2 e0 e1 e2))

theorem L_v157 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v157 (F := Ideal) I.x0 I.x1 I.x3 I.x8 i) (((K_v55 I u0 v0 x1 (512 * x2 + 64 * x3 + x4)) : ℝ) : EReal) :=
  (val_main_v157_apply I.x0 I.x1 I.x3 I.x8 i).trans (L_v56 I _ u0 v0 x1 (512 * x2 + 64 * x3 + x4) hu0 hv0 hx1 (by omega) (show (((((i 0).val * 64 + (i 1).val) * 2 + (i 2).val) * 8 + (i 3).val) * 64 + (i 4).val) / 65536 = 33 * u0 + v0 from by omega) (show (((((i 0).val * 64 + (i 1).val) * 2 + (i 2).val) * 8 + (i 3).val) * 64 + (i 4).val) / 1024 % 64 = x1 from by omega) (show (((((i 0).val * 64 + (i 1).val) * 2 + (i 2).val) * 8 + (i 3).val) * 64 + (i 4).val) % 1024 = (512 * x2 + 64 * x3 + x4) from by omega))

theorem L_v158 (I : Inp) (i : S66x64x2x8x1.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) (e4 : (i 4).val = 0) : @Eq EReal (val_main_v158 (F := Ideal) I.x3 I.x5 I.x6 i) (((K_v146 I u0 v0 x1 x2 x3) : ℝ) : EReal) :=
  (val_main_v158_apply I.x3 I.x5 I.x6 i).trans (L_v146 I _ u0 v0 x1 x2 x3 hu0 hv0 hx1 hx2 hx3 e0 e1 e2 e3)

theorem L_v159 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v159 (F := Ideal) I.x3 I.x5 I.x6 i) (((K_v146 I u0 v0 x1 x2 x3) : ℝ) : EReal) :=
  (val_main_v159_apply I.x3 I.x5 I.x6 i).trans (L_v158 I _ u0 v0 x1 x2 x3 hu0 hv0 hx1 hx2 hx3 e0 e1 e2 e3 rfl)

theorem L_v160 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v160 (F := Ideal) I.x0 I.x1 I.x3 I.x5 I.x6 I.x8 i) (((K_v160 I u0 v0 x1 x2 x3 x4) : ℝ) : EReal) :=
  by unfold K_v160; exact (val_main_v160_apply I.x0 I.x1 I.x3 I.x5 I.x6 I.x8 i).trans (mulR (L_v157 I _ u0 v0 x1 x2 x3 x4 hu0 hv0 hx1 hx2 hx3 hx4 e0 e1 e2 e3 e4) (L_v159 I _ u0 v0 x1 x2 x3 x4 hu0 hv0 hx1 hx2 hx3 hx4 e0 e1 e2 e3 e4))

theorem L_v161 (I : Inp) (i : S66x64x2x512.Idx) (u0 v0 x1 x2 x3 : ℕ) (hu0 : u0 < 2) (hv0 : v0 < 33) (hx1 : x1 < 64) (hx2 : x2 < 2) (hx3 : x3 < 512) (e0 : (i 0).val = 33 * u0 + v0) (e1 : (i 1).val = x1) (e2 : (i 2).val = x2) (e3 : (i 3).val = x3) : @Eq EReal (val_main_v161 (F := Ideal) I.x0 I.x1 I.x3 I.x5 I.x6 I.x8 i) (((K_v160 I u0 v0 x1 x2 (((x3) / 64)) (((x3) % 64))) : ℝ) : EReal) :=
  (val_main_v161_apply I.x0 I.x1 I.x3 I.x5 I.x6 I.x8 i).trans (L_v160 I _ u0 v0 x1 x2 (((x3) / 64)) (((x3) % 64)) hu0 hv0 hx1 hx2 (by omega) (by omega) (show ((((i 0).val * 64 + (i 1).val) * 2 + (i 2).val) * 512 + (i 3).val) / 65536 = 33 * u0 + v0 from by omega) (show ((((i 0).val * 64 + (i 1).val) * 2 + (i 2).val) * 512 + (i 3).val) / 1024 % 64 = x1 from by omega) (show ((((i 0).val * 64 + (i 1).val) * 2 + (i 2).val) * 512 + (i 3).val) / 512 % 2 = x2 from by omega) (show ((((i 0).val * 64 + (i 1).val) * 2 + (i 2).val) * 512 + (i 3).val) / 64 % 8 = (((x3) / 64)) from by omega) (show ((((i 0).val * 64 + (i 1).val) * 2 + (i 2).val) * 512 + (i 3).val) % 64 = (((x3) % 64)) from by omega))

theorem L_v162 (I : Inp) (i : S66x2x512x128.Idx) (u0 v0 x1 x2 x3 : ℕ) (hu0 : u0 < 2) (hv0 : v0 < 33) (hx1 : x1 < 2) (hx2 : x2 < 512) (hx3 : x3 < 128) (e0 : (i 0).val = 33 * u0 + v0) (e1 : (i 1).val = x1) (e2 : (i 2).val = x2) (e3 : (i 3).val = x3) : @Eq EReal (val_main_v162 (F := Ideal) I.x0 I.x1 I.x2 I.x3 I.x5 I.x6 I.x8 i) (((K_v162 I u0 v0 x1 x2 x3) : ℝ) : EReal) :=
  by unfold K_v162; exact (val_main_v162_apply I.x0 I.x1 I.x2 I.x3 I.x5 I.x6 I.x8 i).trans (dotR (fun k => (L_v161 I _ u0 v0 k.val x1 x2 hu0 hv0 k.isLt hx1 hx2 e0 rfl e1 e2)) fun k => (L_v115 I _ u0 v0 k.val x1 x3 hu0 hv0 k.isLt hx1 hx3 e0 rfl e1 e3))

theorem L_v163 (I : Inp) (i : S66x128x2x512.Idx) (u0 v0 x1 x2 x3 : ℕ) (hu0 : u0 < 2) (hv0 : v0 < 33) (hx1 : x1 < 128) (hx2 : x2 < 2) (hx3 : x3 < 512) (e0 : (i 0).val = 33 * u0 + v0) (e1 : (i 1).val = x1) (e2 : (i 2).val = x2) (e3 : (i 3).val = x3) : @Eq EReal (val_main_v163 (F := Ideal) I.x0 I.x1 I.x2 I.x3 I.x5 I.x6 I.x8 i) (((K_v162 I u0 v0 x2 x3 x1) : ℝ) : EReal) :=
  (val_main_v163_apply I.x0 I.x1 I.x2 I.x3 I.x5 I.x6 I.x8 i).trans (L_v162 I _ u0 v0 x2 x3 x1 hu0 hv0 hx2 hx3 hx1 e0 e2 e3 e1)

theorem L_v164 (I : Inp) (i : S2x33x128x16x64.Idx) (x0 x1 x2 x3 x4 : ℕ) (hx0 : x0 < 2) (hx1 : x1 < 33) (hx2 : x2 < 128) (hx3 : x3 < 16) (hx4 : x4 < 64) (e0 : (i 0).val = x0) (e1 : (i 1).val = x1) (e2 : (i 2).val = x2) (e3 : (i 3).val = x3) (e4 : (i 4).val = x4) : @Eq EReal (val_main_v164 (F := Ideal) I.x0 I.x1 I.x2 I.x3 I.x5 I.x6 I.x8 i) (((K_v162 I x0 x1 (((64 * x3 + x4) / 512)) (((64 * x3 + x4) % 512)) x2) : ℝ) : EReal) :=
  (val_main_v164_apply I.x0 I.x1 I.x2 I.x3 I.x5 I.x6 I.x8 i).trans (L_v163 I _ x0 x1 x2 (((64 * x3 + x4) / 512)) (((64 * x3 + x4) % 512)) hx0 hx1 hx2 (by omega) (by omega) (show (((((i 0).val * 33 + (i 1).val) * 128 + (i 2).val) * 16 + (i 3).val) * 64 + (i 4).val) / 131072 = 33 * x0 + x1 from by omega) (show (((((i 0).val * 33 + (i 1).val) * 128 + (i 2).val) * 16 + (i 3).val) * 64 + (i 4).val) / 1024 % 128 = x2 from by omega) (show (((((i 0).val * 33 + (i 1).val) * 128 + (i 2).val) * 16 + (i 3).val) * 64 + (i 4).val) / 512 % 2 = (((64 * x3 + x4) / 512)) from by omega) (show (((((i 0).val * 33 + (i 1).val) * 128 + (i 2).val) * 16 + (i 3).val) * 64 + (i 4).val) % 512 = (((64 * x3 + x4) % 512)) from by omega))

end Cert.SsdR
-- ==== Proof.SsdRefB.lean ====
module

public import proofs.«01_k».proof.Proof.SsdRefA

/-! The second half of the reference, one operation at a time. -/

@[expose] public section

set_option maxRecDepth 16384

noncomputable section

namespace Cert.SsdR

open Cert.ReferenceIdeal Cert.ReferenceIdeal.Gen Cert.ReferenceIdeal.Read Idealize.ShloMosaic
open scoped BigOperators

theorem L_v165 (I : Inp) (i : S33x33x33.Idx) (x0 x1 x2 : ℕ) (hx0 : x0 < 33) (hx1 : x1 < 33) (hx2 : x2 < 33) (e0 : (i 0).val = x0) (e1 : (i 1).val = x1) (e2 : (i 2).val = x2) : (val_main_v165 (F := Ideal) i) = BitVec.ofNat 32 (x1) :=
  (val_main_v165_apply (F := Ideal) i).trans (ofNatR e1)

theorem L_v166 (I : Inp) (i : S33x33x33.Idx) (x0 x1 x2 : ℕ) (hx0 : x0 < 33) (hx1 : x1 < 33) (hx2 : x2 < 33) (e0 : (i 0).val = x0) (e1 : (i 1).val = x1) (e2 : (i 2).val = x2) : (val_main_v166 (F := Ideal) i) = BitVec.ofNat 32 (x0) :=
  (val_main_v166_apply (F := Ideal) i).trans (ofNatR e0)

theorem L_v167 (I : Inp) (i : S33x33x33.Idx) (x0 x1 x2 : ℕ) (hx0 : x0 < 33) (hx1 : x1 < 33) (hx2 : x2 < 33) (e0 : (i 0).val = x0) (e1 : (i 1).val = x1) (e2 : (i 2).val = x2) : (val_main_v167 (F := Ideal) i) = BitVec.ofNat 32 (x2) :=
  (val_main_v167_apply (F := Ideal) i).trans (ofNatR e2)

theorem L_v168 (I : Inp) (i : S33x33x33.Idx) (x0 x1 x2 : ℕ) (hx0 : x0 < 33) (hx1 : x1 < 33) (hx2 : x2 < 33) (e0 : (i 0).val = x0) (e1 : (i 1).val = x1) (e2 : (i 2).val = x2) : (val_main_v168 (F := Ideal) i) = BitVec.ofBool (decide ((x0 < x2))) :=
  (val_main_v168_apply (F := Ideal) i).trans (sltR (by omega) (by omega) (L_v166 I _ x0 x1 x2 hx0 hx1 hx2 e0 e1 e2) (L_v167 I _ x0 x1 x2 hx0 hx1 hx2 e0 e1 e2))

theorem L_v169 (I : Inp) (i : S33x33x33.Idx) (x0 x1 x2 : ℕ) (hx0 : x0 < 33) (hx1 : x1 < 33) (hx2 : x2 < 33) (e0 : (i 0).val = x0) (e1 : (i 1).val = x1) (e2 : (i 2).val = x2) : (val_main_v169 (F := Ideal) i) = BitVec.ofBool (decide ((x2 < x1))) :=
  (val_main_v169_apply (F := Ideal) i).trans (sltR (by omega) (by omega) (L_v167 I _ x0 x1 x2 hx0 hx1 hx2 e0 e1 e2) (L_v165 I _ x0 x1 x2 hx0 hx1 hx2 e0 e1 e2))

theorem L_v170 (I : Inp) (i : S33x33x33.Idx) (x0 x1 x2 : ℕ) (hx0 : x0 < 33) (hx1 : x1 < 33) (hx2 : x2 < 33) (e0 : (i 0).val = x0) (e1 : (i 1).val = x1) (e2 : (i 2).val = x2) : (val_main_v170 (F := Ideal) i) = BitVec.ofBool (decide (((x0 < x2) ∧ (x2 < x1)))) :=
  (val_main_v170_apply (F := Ideal) i).trans (andB (L_v168 I _ x0 x1 x2 hx0 hx1 hx2 e0 e1 e2) (L_v169 I _ x0 x1 x2 hx0 hx1 hx2 e0 e1 e2))

theorem L_v171 (I : Inp) (i : S33x33x33.Idx) (x0 x1 x2 : ℕ) (hx0 : x0 < 33) (hx1 : x1 < 33) (hx2 : x2 < 33) (e0 : (i 0).val = x0) (e1 : (i 1).val = x1) (e2 : (i 2).val = x2) : @Eq EReal (val_main_v171 (F := Ideal) i) (((if ((x0 < x2) ∧ (x2 < x1)) then (1:ℝ) else 0) : ℝ) : EReal) :=
  (val_main_v171_apply (F := Ideal) i).trans (uiR (L_v170 I _ x0 x1 x2 hx0 hx1 hx2 e0 e1 e2))

theorem L_v172 (I : Inp) (i : S2x33x16.Idx) (x0 x1 x2 : ℕ) (hx0 : x0 < 2) (hx1 : x1 < 33) (hx2 : x2 < 16) (e0 : (i 0).val = x0) (e1 : (i 1).val = x1) (e2 : (i 2).val = x2) : @Eq EReal (val_main_v172 (F := Ideal) I.x3 I.x5 I.x6 i) (((K_v119 I x0 x1 (8 * (((x2) / 8)) + (((x2) % 8)))) : ℝ) : EReal) :=
  (val_main_v172_apply I.x3 I.x5 I.x6 i).trans (L_v120 I _ x0 x1 (((x2) / 8)) (((x2) % 8)) hx0 hx1 (by omega) (by omega) (show (((i 0).val * 33 + (i 1).val) * 16 + (i 2).val) / 16 = 33 * x0 + x1 from by omega) (show (((i 0).val * 33 + (i 1).val) * 16 + (i 2).val) / 8 % 2 = (((x2) / 8)) from by omega) (show (((i 0).val * 33 + (i 1).val) * 16 + (i 2).val) % 8 = (((x2) % 8)) from by omega))

theorem L_v173 (I : Inp) (i : S2x16x33x33.Idx) (x0 x1 x2 x3 : ℕ) (hx0 : x0 < 2) (hx1 : x1 < 16) (hx2 : x2 < 33) (hx3 : x3 < 33) (e0 : (i 0).val = x0) (e1 : (i 1).val = x1) (e2 : (i 2).val = x2) (e3 : (i 3).val = x3) : @Eq EReal (val_main_v173 (F := Ideal) I.x3 I.x5 I.x6 i) (((K_v173 I x0 x1 x2 x3) : ℝ) : EReal) :=
  by unfold K_v173; exact (val_main_v173_apply I.x3 I.x5 I.x6 i).trans (dotR (fun k => (L_v172 I _ x0 k.val x1 hx0 k.isLt hx1 e0 rfl e1)) fun k => (L_v171 I _ x2 x3 k.val hx2 hx3 k.isLt e2 e3 rfl))

theorem L_v174 (I : Inp) (i : S33x33.Idx) (x0 x1 : ℕ) (hx0 : x0 < 33) (hx1 : x1 < 33) (e0 : (i 0).val = x0) (e1 : (i 1).val = x1) : (val_main_v174 (F := Ideal) i) = BitVec.ofNat 32 (x0) :=
  (val_main_v174_apply (F := Ideal) i).trans (ofNatR e0)

theorem L_v175 (I : Inp) (i : S33x33.Idx) (x0 x1 : ℕ) (hx0 : x0 < 33) (hx1 : x1 < 33) (e0 : (i 0).val = x0) (e1 : (i 1).val = x1) : (val_main_v175 (F := Ideal) i) = BitVec.ofNat 32 (x1) :=
  (val_main_v175_apply (F := Ideal) i).trans (ofNatR e1)

theorem L_v176 (I : Inp) (i : S33x33.Idx) (x0 x1 : ℕ) (hx0 : x0 < 33) (hx1 : x1 < 33) (e0 : (i 0).val = x0) (e1 : (i 1).val = x1) : (val_main_v176 (F := Ideal) i) = BitVec.ofBool (decide ((x0 < x1))) :=
  (val_main_v176_apply (F := Ideal) i).trans (sltR (by omega) (by omega) (L_v174 I _ x0 x1 hx0 hx1 e0 e1) (L_v175 I _ x0 x1 hx0 hx1 e0 e1))

theorem L_v177 (I : Inp) (i : S2x16x33x33.Idx) (x0 x1 x2 x3 : ℕ) (hx0 : x0 < 2) (hx1 : x1 < 16) (hx2 : x2 < 33) (hx3 : x3 < 33) (e0 : (i 0).val = x0) (e1 : (i 1).val = x1) (e2 : (i 2).val = x2) (e3 : (i 3).val = x3) : @Eq EReal (val_main_v177 (F := Ideal) I.x3 I.x5 I.x6 i) (((K_v177 I x0 x1 x2 x3) : ℝ) : EReal) :=
  by unfold K_v177; exact (val_main_v177_apply I.x3 I.x5 I.x6 i).trans (expR (L_v173 I _ x0 x1 x2 x3 hx0 hx1 hx2 hx3 e0 e1 e2 e3))

theorem L_cst_23 (I : Inp) (i : S_.Idx) : @Eq EReal (val_main_cst_23 (F := Ideal) i) (((0 : ℝ) : ℝ) : EReal) :=
  (val_main_cst_23_apply (F := Ideal) i).trans zeroR

theorem L_call7_v0 (I : Inp) (i : S_.Idx) : @Eq EReal (val_main_call7_v0 (F := Ideal) i) (((0 : ℝ) : ℝ) : EReal) :=
  (val_main_call7_v0_apply (F := Ideal) i).trans (L_cst_23 I _ )

theorem L_call7_v1 (I : Inp) (i : S2x16x33x33.Idx) (x0 x1 x2 x3 : ℕ) (hx0 : x0 < 2) (hx1 : x1 < 16) (hx2 : x2 < 33) (hx3 : x3 < 33) (e0 : (i 0).val = x0) (e1 : (i 1).val = x1) (e2 : (i 2).val = x2) (e3 : (i 3).val = x3) : (val_main_call7_v1 (F := Ideal) i) = BitVec.ofBool (decide ((x2 < x3))) :=
  (val_main_call7_v1_apply (F := Ideal) i).trans (L_v176 I _ x2 x3 hx2 hx3 e2 e3)

theorem L_call7_v2 (I : Inp) (i : S2x16x33x33.Idx) (x0 x1 x2 x3 : ℕ) (hx0 : x0 < 2) (hx1 : x1 < 16) (hx2 : x2 < 33) (hx3 : x3 < 33) (e0 : (i 0).val = x0) (e1 : (i 1).val = x1) (e2 : (i 2).val = x2) (e3 : (i 3).val = x3) : @Eq EReal (val_main_call7_v2 (F := Ideal) i) (((0 : ℝ) : ℝ) : EReal) :=
  (val_main_call7_v2_apply (F := Ideal) i).trans (L_call7_v0 I _ )

theorem L_v178 (I : Inp) (i : S2x16x33x33.Idx) (x0 x1 x2 x3 : ℕ) (hx0 : x0 < 2) (hx1 : x1 < 16) (hx2 : x2 < 33) (hx3 : x3 < 33) (e0 : (i 0).val = x0) (e1 : (i 1).val = x1) (e2 : (i 2).val = x2) (e3 : (i 3).val = x3) : @Eq EReal (val_main_v178 (F := Ideal) I.x3 I.x5 I.x6 i) (((K_v178 I x0 x1 x2 x3) : ℝ) : EReal) :=
  by unfold K_v178; exact (val_main_v178_apply I.x3 I.x5 I.x6 i).trans (selR (L_call7_v1 I _ x0 x1 x2 x3 hx0 hx1 hx2 hx3 e0 e1 e2 e3) (L_v177 I _ x0 x1 x2 x3 hx0 hx1 hx2 hx3 e0 e1 e2 e3) (L_call7_v2 I _ x0 x1 x2 x3 hx0 hx1 hx2 hx3 e0 e1 e2 e3))

theorem L_v179 (I : Inp) (i : S2x16x128x64x33.Idx) (x0 x1 x2 x3 x4 : ℕ) (hx0 : x0 < 2) (hx1 : x1 < 16) (hx2 : x2 < 128) (hx3 : x3 < 64) (hx4 : x4 < 33) (e0 : (i 0).val = x0) (e1 : (i 1).val = x1) (e2 : (i 2).val = x2) (e3 : (i 3).val = x3) (e4 : (i 4).val = x4) : @Eq EReal (val_main_v179 (F := Ideal) I.x0 I.x1 I.x2 I.x3 I.x5 I.x6 I.x8 i) (((K_v179 I x0 x1 x2 x3 x4) : ℝ) : EReal) :=
  by unfold K_v179; exact (val_main_v179_apply I.x0 I.x1 I.x2 I.x3 I.x5 I.x6 I.x8 i).trans (dotR (fun k => (L_v164 I _ x0 k.val x2 x1 x3 hx0 k.isLt hx2 hx1 hx3 e0 rfl e2 e1 e3)) fun k => (L_v178 I _ x0 x1 x4 k.val hx0 hx1 hx4 k.isLt e0 e1 e4 rfl))

theorem L_v180 (I : Inp) (i : S2x33x128x16x64.Idx) (x0 x1 x2 x3 x4 : ℕ) (hx0 : x0 < 2) (hx1 : x1 < 33) (hx2 : x2 < 128) (hx3 : x3 < 16) (hx4 : x4 < 64) (e0 : (i 0).val = x0) (e1 : (i 1).val = x1) (e2 : (i 2).val = x2) (e3 : (i 3).val = x3) (e4 : (i 4).val = x4) : @Eq EReal (val_main_v180 (F := Ideal) I.x0 I.x1 I.x2 I.x3 I.x5 I.x6 I.x8 i) (((K_v179 I x0 x3 x2 x4 x1) : ℝ) : EReal) :=
  (val_main_v180_apply I.x0 I.x1 I.x2 I.x3 I.x5 I.x6 I.x8 i).trans (L_v179 I _ x0 x3 x2 x4 x1 hx0 hx3 hx2 hx4 hx1 e0 e3 e2 e4 e1)

theorem L_v181 (I : Inp) (i : S66x128x16x64.Idx) (u0 v0 x1 x2 x3 : ℕ) (hu0 : u0 < 2) (hv0 : v0 < 33) (hx1 : x1 < 128) (hx2 : x2 < 16) (hx3 : x3 < 64) (e0 : (i 0).val = 33 * u0 + v0) (e1 : (i 1).val = x1) (e2 : (i 2).val = x2) (e3 : (i 3).val = x3) : @Eq EReal (val_main_v181 (F := Ideal) I.x0 I.x1 I.x2 I.x3 I.x5 I.x6 I.x8 i) (((K_v179 I u0 x2 x1 x3 v0) : ℝ) : EReal) :=
  (val_main_v181_apply I.x0 I.x1 I.x2 I.x3 I.x5 I.x6 I.x8 i).trans (L_v180 I _ u0 v0 x1 x2 x3 hu0 hv0 hx1 hx2 hx3 (show ((((i 0).val * 128 + (i 1).val) * 16 + (i 2).val) * 64 + (i 3).val) / 4325376 = u0 from by omega) (show ((((i 0).val * 128 + (i 1).val) * 16 + (i 2).val) * 64 + (i 3).val) / 131072 % 33 = v0 from by omega) (show ((((i 0).val * 128 + (i 1).val) * 16 + (i 2).val) * 64 + (i 3).val) / 1024 % 128 = x1 from by omega) (show ((((i 0).val * 128 + (i 1).val) * 16 + (i 2).val) * 64 + (i 3).val) / 64 % 16 = x2 from by omega) (show ((((i 0).val * 128 + (i 1).val) * 16 + (i 2).val) * 64 + (i 3).val) % 64 = x3 from by omega))

theorem L_v182 (I : Inp) (i : S66x128x16x64.Idx) (u0 v0 x1 x2 x3 : ℕ) (hu0 : u0 < 2) (hv0 : v0 < 33) (hx1 : x1 < 128) (hx2 : x2 < 16) (hx3 : x3 < 64) (e0 : (i 0).val = 33 * u0 + v0) (e1 : (i 1).val = x1) (e2 : (i 2).val = x2) (e3 : (i 3).val = x3) : @Eq EReal (val_main_v182 (F := Ideal) I.x4 i) (((K_v57 I u0 v0 x1 (512 * (((64 * x2 + x3) / 512)) + (((64 * x2 + x3) % 512)))) : ℝ) : EReal) :=
  (val_main_v182_apply I.x4 i).trans (L_v58 I _ u0 v0 x1 (((64 * x2 + x3) / 512)) (((64 * x2 + x3) % 512)) hu0 hv0 hx1 (by omega) (by omega) (show ((((i 0).val * 128 + (i 1).val) * 16 + (i 2).val) * 64 + (i 3).val) / 131072 = 33 * u0 + v0 from by omega) (show ((((i 0).val * 128 + (i 1).val) * 16 + (i 2).val) * 64 + (i 3).val) / 1024 % 128 = x1 from by omega) (show ((((i 0).val * 128 + (i 1).val) * 16 + (i 2).val) * 64 + (i 3).val) / 512 % 2 = (((64 * x2 + x3) / 512)) from by omega) (show ((((i 0).val * 128 + (i 1).val) * 16 + (i 2).val) * 64 + (i 3).val) % 512 = (((64 * x2 + x3) % 512)) from by omega))

theorem L_v183 (I : Inp) (i : S66x128x16x64.Idx) (u0 v0 x1 x2 x3 : ℕ) (hu0 : u0 < 2) (hv0 : v0 < 33) (hx1 : x1 < 128) (hx2 : x2 < 16) (hx3 : x3 < 64) (e0 : (i 0).val = 33 * u0 + v0) (e1 : (i 1).val = x1) (e2 : (i 2).val = x2) (e3 : (i 3).val = x3) : @Eq EReal (val_main_v183 (F := Ideal) I.x0 I.x1 I.x2 I.x3 I.x4 I.x5 I.x6 I.x8 i) (((K_v183 I u0 v0 x1 x2 x3) : ℝ) : EReal) :=
  by unfold K_v183; exact (val_main_v183_apply I.x0 I.x1 I.x2 I.x3 I.x4 I.x5 I.x6 I.x8 i).trans (mulR (L_v181 I _ u0 v0 x1 x2 x3 hu0 hv0 hx1 hx2 hx3 e0 e1 e2 e3) (L_v182 I _ u0 v0 x1 x2 x3 hu0 hv0 hx1 hx2 hx3 e0 e1 e2 e3))

theorem L_cst_24 (I : Inp) (i : S_.Idx) : @Eq EReal (val_main_cst_24 (F := Ideal) i) (((0 : ℝ) : ℝ) : EReal) :=
  (val_main_cst_24_apply (F := Ideal) i).trans zeroR

theorem L_v184 (I : Inp) (i : S66x16x64.Idx) (u0 v0 x1 x2 : ℕ) (hu0 : u0 < 2) (hv0 : v0 < 33) (hx1 : x1 < 16) (hx2 : x2 < 64) (e0 : (i 0).val = 33 * u0 + v0) (e1 : (i 1).val = x1) (e2 : (i 2).val = x2) : @Eq EReal (val_main_v184 (F := Ideal) I.x0 I.x1 I.x2 I.x3 I.x4 I.x5 I.x6 I.x8 i) (((K_v184 I u0 v0 x1 x2) : ℝ) : EReal) :=
  by unfold K_v184; exact (val_main_v184_apply I.x0 I.x1 I.x2 I.x3 I.x4 I.x5 I.x6 I.x8 i).trans (redR (L_cst_24 I _) fun k => (L_v183 I _ u0 v0 k.val x1 x2 hu0 hv0 k.isLt hx1 hx2 e0 rfl e1 e2))

theorem L_cst_25 (I : Inp) (i : S_.Idx) : @Eq EReal (val_main_cst_25 (F := Ideal) i) (((0 : ℝ) : ℝ) : EReal) :=
  (val_main_cst_25_apply (F := Ideal) i).trans zeroR

theorem L_v185 (I : Inp) (i : S66x16.Idx) (u0 v0 x1 : ℕ) (hu0 : u0 < 2) (hv0 : v0 < 33) (hx1 : x1 < 16) (e0 : (i 0).val = 33 * u0 + v0) (e1 : (i 1).val = x1) : @Eq EReal (val_main_v185 (F := Ideal) I.x0 I.x1 I.x2 I.x3 I.x4 I.x5 I.x6 I.x8 i) (((K_v185 I u0 v0 x1) : ℝ) : EReal) :=
  by unfold K_v185; exact (val_main_v185_apply I.x0 I.x1 I.x2 I.x3 I.x4 I.x5 I.x6 I.x8 i).trans (redR (L_cst_25 I _) fun k => (L_v184 I _ u0 v0 x1 k.val hu0 hv0 hx1 k.isLt e0 e1 rfl))

theorem L_v186 (I : Inp) (i : S66x128x2x512.Idx) (u0 v0 x1 x2 x3 : ℕ) (hu0 : u0 < 2) (hv0 : v0 < 33) (hx1 : x1 < 128) (hx2 : x2 < 2) (hx3 : x3 < 512) (e0 : (i 0).val = 33 * u0 + v0) (e1 : (i 1).val = x1) (e2 : (i 2).val = x2) (e3 : (i 3).val = x3) : @Eq EReal (val_main_v186 (F := Ideal) I.x0 I.x1 I.x2 I.x3 I.x5 I.x6 I.x8 i) (((K_v179 I u0 (8 * x2 + ((x3) / 64)) x1 (((x3) % 64)) v0) : ℝ) : EReal) :=
  (val_main_v186_apply I.x0 I.x1 I.x2 I.x3 I.x5 I.x6 I.x8 i).trans (L_v180 I _ u0 v0 x1 (8 * x2 + ((x3) / 64)) (((x3) % 64)) hu0 hv0 hx1 (by omega) (by omega) (show ((((i 0).val * 128 + (i 1).val) * 2 + (i 2).val) * 512 + (i 3).val) / 4325376 = u0 from by omega) (show ((((i 0).val * 128 + (i 1).val) * 2 + (i 2).val) * 512 + (i 3).val) / 131072 % 33 = v0 from by omega) (show ((((i 0).val * 128 + (i 1).val) * 2 + (i 2).val) * 512 + (i 3).val) / 1024 % 128 = x1 from by omega) (show ((((i 0).val * 128 + (i 1).val) * 2 + (i 2).val) * 512 + (i 3).val) / 64 % 16 = (8 * x2 + ((x3) / 64)) from by omega) (show ((((i 0).val * 128 + (i 1).val) * 2 + (i 2).val) * 512 + (i 3).val) % 64 = (((x3) % 64)) from by omega))

theorem L_v187 (I : Inp) (i : S66x2x8.Idx) (u0 v0 x1 x2 : ℕ) (hu0 : u0 < 2) (hv0 : v0 < 33) (hx1 : x1 < 2) (hx2 : x2 < 8) (e0 : (i 0).val = 33 * u0 + v0) (e1 : (i 1).val = x1) (e2 : (i 2).val = x2) : @Eq EReal (val_main_v187 (F := Ideal) I.x0 I.x1 I.x2 I.x3 I.x4 I.x5 I.x6 I.x8 i) (((K_v185 I u0 v0 (8 * x1 + x2)) : ℝ) : EReal) :=
  (val_main_v187_apply I.x0 I.x1 I.x2 I.x3 I.x4 I.x5 I.x6 I.x8 i).trans (L_v185 I _ u0 v0 (8 * x1 + x2) hu0 hv0 (by omega) (show (((i 0).val * 2 + (i 1).val) * 8 + (i 2).val) / 16 = 33 * u0 + v0 from by omega) (show (((i 0).val * 2 + (i 1).val) * 8 + (i 2).val) % 16 = (8 * x1 + x2) from by omega))

theorem L_v188 (I : Inp) (i : S66x2x8.Idx) (u0 v0 x1 x2 : ℕ) (hu0 : u0 < 2) (hv0 : v0 < 33) (hx1 : x1 < 2) (hx2 : x2 < 8) (e0 : (i 0).val = 33 * u0 + v0) (e1 : (i 1).val = x1) (e2 : (i 2).val = x2) : @Eq EReal (val_main_v188 (F := Ideal) I.x0 I.x1 I.x2 I.x3 I.x4 I.x5 I.x6 I.x8 i) (((K_v188 I u0 v0 x1 x2) : ℝ) : EReal) :=
  by unfold K_v188; exact (val_main_v188_apply I.x0 I.x1 I.x2 I.x3 I.x4 I.x5 I.x6 I.x8 i).trans (mulR (L_v187 I _ u0 v0 x1 x2 hu0 hv0 hx1 hx2 e0 e1 e2) (L_v156 I _ u0 v0 x1 x2 hu0 hv0 hx1 hx2 e0 e1 e2))

theorem L_v189 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v189 (F := Ideal) I.x0 I.x1 I.x3 I.x8 i) (((K_v55 I u0 v0 x1 (512 * x2 + 64 * x3 + x4)) : ℝ) : EReal) :=
  (val_main_v189_apply I.x0 I.x1 I.x3 I.x8 i).trans (L_v56 I _ u0 v0 x1 (512 * x2 + 64 * x3 + x4) hu0 hv0 hx1 (by omega) (show (((((i 0).val * 64 + (i 1).val) * 2 + (i 2).val) * 8 + (i 3).val) * 64 + (i 4).val) / 65536 = 33 * u0 + v0 from by omega) (show (((((i 0).val * 64 + (i 1).val) * 2 + (i 2).val) * 8 + (i 3).val) * 64 + (i 4).val) / 1024 % 64 = x1 from by omega) (show (((((i 0).val * 64 + (i 1).val) * 2 + (i 2).val) * 8 + (i 3).val) * 64 + (i 4).val) % 1024 = (512 * x2 + 64 * x3 + x4) from by omega))

theorem L_v190 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v190 (F := Ideal) I.x0 I.x1 I.x2 I.x3 I.x4 I.x8 i) (((K_v190 I u0 v0 x1 x2 x3 x4) : ℝ) : EReal) :=
  by unfold K_v190; exact (val_main_v190_apply I.x0 I.x1 I.x2 I.x3 I.x4 I.x8 i).trans (mulR (L_v149 I _ u0 v0 x1 x2 x3 x4 hu0 hv0 hx1 hx2 hx3 hx4 e0 e1 e2 e3 e4) (L_v189 I _ u0 v0 x1 x2 x3 x4 hu0 hv0 hx1 hx2 hx3 hx4 e0 e1 e2 e3 e4))

theorem L_cst_26 (I : Inp) (i : S_.Idx) : @Eq EReal (val_main_cst_26 (F := Ideal) i) (((0 : ℝ) : ℝ) : EReal) :=
  (val_main_cst_26_apply (F := Ideal) i).trans zeroR

theorem L_v191 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v191 (F := Ideal) I.x0 I.x1 I.x2 I.x3 I.x4 I.x8 i) (((K_v191 I u0 v0 x1 x2 x3) : ℝ) : EReal) :=
  by unfold K_v191; exact (val_main_v191_apply I.x0 I.x1 I.x2 I.x3 I.x4 I.x8 i).trans (redR (L_cst_26 I _) fun k => (L_v190 I _ u0 v0 x1 x2 x3 k.val hu0 hv0 hx1 hx2 hx3 k.isLt e0 e1 e2 e3 rfl))

theorem L_v192 (I : Inp) (i : S66x64x2x8x1.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) (e4 : (i 4).val = 0) : @Eq EReal (val_main_v192 (F := Ideal) I.x0 I.x1 I.x2 I.x3 I.x4 I.x8 i) (((K_v191 I u0 v0 x1 x2 x3) : ℝ) : EReal) :=
  (val_main_v192_apply I.x0 I.x1 I.x2 I.x3 I.x4 I.x8 i).trans (L_v191 I _ u0 v0 x1 x2 x3 hu0 hv0 hx1 hx2 hx3 (show (((((i 0).val * 64 + (i 1).val) * 2 + (i 2).val) * 8 + (i 3).val) * 1 + (i 4).val) / 1024 = 33 * u0 + v0 from by omega) (show (((((i 0).val * 64 + (i 1).val) * 2 + (i 2).val) * 8 + (i 3).val) * 1 + (i 4).val) / 16 % 64 = x1 from by omega) (show (((((i 0).val * 64 + (i 1).val) * 2 + (i 2).val) * 8 + (i 3).val) * 1 + (i 4).val) / 8 % 2 = x2 from by omega) (show (((((i 0).val * 64 + (i 1).val) * 2 + (i 2).val) * 8 + (i 3).val) * 1 + (i 4).val) % 8 = x3 from by omega))

theorem L_v193 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v193 (F := Ideal) I.x3 I.x5 I.x6 i) (((K_v146 I u0 v0 x1 x2 x3) : ℝ) : EReal) :=
  (val_main_v193_apply I.x3 I.x5 I.x6 i).trans (L_v150 I _ u0 v0 x1 x2 x3 hu0 hv0 hx1 hx2 hx3 e0 e1 e2 e3 rfl)

theorem L_v194 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v194 (F := Ideal) I.x0 I.x1 I.x3 I.x5 I.x6 I.x8 i) (((K_v194 I u0 v0 x1 x2 x3 x4) : ℝ) : EReal) :=
  by unfold K_v194; exact (val_main_v194_apply I.x0 I.x1 I.x3 I.x5 I.x6 I.x8 i).trans (mulR (L_v189 I _ u0 v0 x1 x2 x3 x4 hu0 hv0 hx1 hx2 hx3 hx4 e0 e1 e2 e3 e4) (L_v193 I _ u0 v0 x1 x2 x3 x4 hu0 hv0 hx1 hx2 hx3 hx4 e0 e1 e2 e3 e4))

theorem L_cst_27 (I : Inp) (i : S_.Idx) : @Eq EReal (val_main_cst_27 (F := Ideal) i) (((0 : ℝ) : ℝ) : EReal) :=
  (val_main_cst_27_apply (F := Ideal) i).trans zeroR

theorem L_v195 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v195 (F := Ideal) I.x0 I.x1 I.x2 I.x3 I.x4 I.x8 i) (((K_v191 I u0 v0 x1 x2 x3) : ℝ) : EReal) :=
  (val_main_v195_apply I.x0 I.x1 I.x2 I.x3 I.x4 I.x8 i).trans (red1R (L_cst_27 I _) (L_v192 I _ u0 v0 x1 x2 x3 hu0 hv0 hx1 hx2 hx3 e0 e1 e2 e3 rfl))

theorem L_v196 (I : Inp) (i : S66x64x2x512.Idx) (u0 v0 x1 x2 x3 : ℕ) (hu0 : u0 < 2) (hv0 : v0 < 33) (hx1 : x1 < 64) (hx2 : x2 < 2) (hx3 : x3 < 512) (e0 : (i 0).val = 33 * u0 + v0) (e1 : (i 1).val = x1) (e2 : (i 2).val = x2) (e3 : (i 3).val = x3) : @Eq EReal (val_main_v196 (F := Ideal) I.x0 I.x1 I.x3 I.x5 I.x6 I.x8 i) (((K_v194 I u0 v0 x1 x2 (((x3) / 64)) (((x3) % 64))) : ℝ) : EReal) :=
  (val_main_v196_apply I.x0 I.x1 I.x3 I.x5 I.x6 I.x8 i).trans (L_v194 I _ u0 v0 x1 x2 (((x3) / 64)) (((x3) % 64)) hu0 hv0 hx1 hx2 (by omega) (by omega) (show ((((i 0).val * 64 + (i 1).val) * 2 + (i 2).val) * 512 + (i 3).val) / 65536 = 33 * u0 + v0 from by omega) (show ((((i 0).val * 64 + (i 1).val) * 2 + (i 2).val) * 512 + (i 3).val) / 1024 % 64 = x1 from by omega) (show ((((i 0).val * 64 + (i 1).val) * 2 + (i 2).val) * 512 + (i 3).val) / 512 % 2 = x2 from by omega) (show ((((i 0).val * 64 + (i 1).val) * 2 + (i 2).val) * 512 + (i 3).val) / 64 % 8 = (((x3) / 64)) from by omega) (show ((((i 0).val * 64 + (i 1).val) * 2 + (i 2).val) * 512 + (i 3).val) % 64 = (((x3) % 64)) from by omega))

theorem L_v197 (I : Inp) (i : S66x2x512x64.Idx) (u0 v0 x1 x2 x3 : ℕ) (hu0 : u0 < 2) (hv0 : v0 < 33) (hx1 : x1 < 2) (hx2 : x2 < 512) (hx3 : x3 < 64) (e0 : (i 0).val = 33 * u0 + v0) (e1 : (i 1).val = x1) (e2 : (i 2).val = x2) (e3 : (i 3).val = x3) : @Eq EReal (val_main_v197 (F := Ideal) I.x0 I.x1 I.x3 I.x5 I.x6 I.x8 i) (((K_v194 I u0 v0 x3 x1 (((x2) / 64)) (((x2) % 64))) : ℝ) : EReal) :=
  (val_main_v197_apply I.x0 I.x1 I.x3 I.x5 I.x6 I.x8 i).trans (L_v196 I _ u0 v0 x3 x1 x2 hu0 hv0 hx3 hx1 hx2 e0 e3 e1 e2)

theorem L_v198 (I : Inp) (i : S66x2x64x128.Idx) (u0 v0 x1 x2 x3 : ℕ) (hu0 : u0 < 2) (hv0 : v0 < 33) (hx1 : x1 < 2) (hx2 : x2 < 64) (hx3 : x3 < 128) (e0 : (i 0).val = 33 * u0 + v0) (e1 : (i 1).val = x1) (e2 : (i 2).val = x2) (e3 : (i 3).val = x3) : @Eq EReal (val_main_v198 (F := Ideal) I.x0 I.x1 I.x3 I.x4 I.x5 I.x6 I.x8 i) (((K_v198 I u0 v0 x1 x2 x3) : ℝ) : EReal) :=
  by unfold K_v198; exact (val_main_v198_apply I.x0 I.x1 I.x3 I.x4 I.x5 I.x6 I.x8 i).trans (dotR (fun k => (L_v197 I _ u0 v0 x1 k.val x2 hu0 hv0 hx1 k.isLt hx2 e0 e1 rfl e2)) fun k => (L_v58 I _ u0 v0 x3 x1 k.val hu0 hv0 hx3 hx1 k.isLt e0 e3 e1 rfl))

theorem L_v199 (I : Inp) (i : S66x64x2x128.Idx) (u0 v0 x1 x2 x3 : ℕ) (hu0 : u0 < 2) (hv0 : v0 < 33) (hx1 : x1 < 64) (hx2 : x2 < 2) (hx3 : x3 < 128) (e0 : (i 0).val = 33 * u0 + v0) (e1 : (i 1).val = x1) (e2 : (i 2).val = x2) (e3 : (i 3).val = x3) : @Eq EReal (val_main_v199 (F := Ideal) I.x0 I.x1 I.x3 I.x4 I.x5 I.x6 I.x8 i) (((K_v198 I u0 v0 x2 x1 x3) : ℝ) : EReal) :=
  (val_main_v199_apply I.x0 I.x1 I.x3 I.x4 I.x5 I.x6 I.x8 i).trans (L_v198 I _ u0 v0 x2 x1 x3 hu0 hv0 hx2 hx1 hx3 e0 e2 e1 e3)

theorem L_v200 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v200 (F := Ideal) I.x0 I.x1 I.x2 I.x3 I.x4 I.x5 I.x6 I.x8 i) (((K_v200 I u0 v0 x1 x2 x3) : ℝ) : EReal) :=
  by unfold K_v200; exact (val_main_v200_apply I.x0 I.x1 I.x2 I.x3 I.x4 I.x5 I.x6 I.x8 i).trans (mulR (L_v195 I _ u0 v0 x1 x2 x3 hu0 hv0 hx1 hx2 hx3 e0 e1 e2 e3) (L_v146 I _ u0 v0 x1 x2 x3 hu0 hv0 hx1 hx2 hx3 e0 e1 e2 e3))

theorem L_v201 (I : Inp) (i : S66x2x512x128.Idx) (u0 v0 x1 x2 x3 : ℕ) (hu0 : u0 < 2) (hv0 : v0 < 33) (hx1 : x1 < 2) (hx2 : x2 < 512) (hx3 : x3 < 128) (e0 : (i 0).val = 33 * u0 + v0) (e1 : (i 1).val = x1) (e2 : (i 2).val = x2) (e3 : (i 3).val = x3) : @Eq EReal (val_main_v201 (F := Ideal) I.x0 I.x1 I.x2 I.x3 I.x5 I.x6 I.x8 i) (((K_v179 I u0 (8 * x1 + ((x2) / 64)) x3 (((x2) % 64)) v0) : ℝ) : EReal) :=
  (val_main_v201_apply I.x0 I.x1 I.x2 I.x3 I.x5 I.x6 I.x8 i).trans (L_v186 I _ u0 v0 x3 x1 x2 hu0 hv0 hx3 hx1 hx2 e0 e3 e1 e2)

theorem L_v202 (I : Inp) (i : S66x2x128x64.Idx) (u0 v0 x1 x2 x3 : ℕ) (hu0 : u0 < 2) (hv0 : v0 < 33) (hx1 : x1 < 2) (hx2 : x2 < 128) (hx3 : x3 < 64) (e0 : (i 0).val = 33 * u0 + v0) (e1 : (i 1).val = x1) (e2 : (i 2).val = x2) (e3 : (i 3).val = x3) : @Eq EReal (val_main_v202 (F := Ideal) I.x0 I.x1 I.x2 I.x3 I.x5 I.x6 I.x8 i) (((K_v202 I u0 v0 x1 x2 x3) : ℝ) : EReal) :=
  by unfold K_v202; exact (val_main_v202_apply I.x0 I.x1 I.x2 I.x3 I.x5 I.x6 I.x8 i).trans (dotR (fun k => (L_v201 I _ u0 v0 x1 k.val x2 hu0 hv0 hx1 k.isLt hx2 e0 e1 rfl e2)) fun k => (L_v143 I _ u0 v0 x3 x1 k.val hu0 hv0 hx3 hx1 k.isLt e0 e3 e1 rfl))

theorem L_v203 (I : Inp) (i : S66x64x2x128.Idx) (u0 v0 x1 x2 x3 : ℕ) (hu0 : u0 < 2) (hv0 : v0 < 33) (hx1 : x1 < 64) (hx2 : x2 < 2) (hx3 : x3 < 128) (e0 : (i 0).val = 33 * u0 + v0) (e1 : (i 1).val = x1) (e2 : (i 2).val = x2) (e3 : (i 3).val = x3) : @Eq EReal (val_main_v203 (F := Ideal) I.x0 I.x1 I.x2 I.x3 I.x5 I.x6 I.x8 i) (((K_v202 I u0 v0 x2 x3 x1) : ℝ) : EReal) :=
  (val_main_v203_apply I.x0 I.x1 I.x2 I.x3 I.x5 I.x6 I.x8 i).trans (L_v202 I _ u0 v0 x2 x3 x1 hu0 hv0 hx2 hx3 hx1 e0 e2 e3 e1)

theorem L_v204 (I : Inp) (i : S66x2x512x64.Idx) (u0 v0 x1 x2 x3 : ℕ) (hu0 : u0 < 2) (hv0 : v0 < 33) (hx1 : x1 < 2) (hx2 : x2 < 512) (hx3 : x3 < 64) (e0 : (i 0).val = 33 * u0 + v0) (e1 : (i 1).val = x1) (e2 : (i 2).val = x2) (e3 : (i 3).val = x3) : @Eq EReal (val_main_v204 (F := Ideal) I.x0 I.x1 I.x2 I.x3 I.x5 I.x6 I.x8 i) (((K_v204 I u0 v0 x1 x2 x3) : ℝ) : EReal) :=
  by unfold K_v204; exact (val_main_v204_apply I.x0 I.x1 I.x2 I.x3 I.x5 I.x6 I.x8 i).trans (dotR (fun k => (L_v201 I _ u0 v0 x1 x2 k.val hu0 hv0 hx1 hx2 k.isLt e0 e1 e2 rfl)) fun k => (L_v110 I _ u0 v0 x3 x1 k.val hu0 hv0 hx3 hx1 k.isLt e0 e3 e1 rfl))

theorem L_v205 (I : Inp) (i : S66x64x2x512.Idx) (u0 v0 x1 x2 x3 : ℕ) (hu0 : u0 < 2) (hv0 : v0 < 33) (hx1 : x1 < 64) (hx2 : x2 < 2) (hx3 : x3 < 512) (e0 : (i 0).val = 33 * u0 + v0) (e1 : (i 1).val = x1) (e2 : (i 2).val = x2) (e3 : (i 3).val = x3) : @Eq EReal (val_main_v205 (F := Ideal) I.x0 I.x1 I.x2 I.x3 I.x5 I.x6 I.x8 i) (((K_v204 I u0 v0 x2 x3 x1) : ℝ) : EReal) :=
  (val_main_v205_apply I.x0 I.x1 I.x2 I.x3 I.x5 I.x6 I.x8 i).trans (L_v204 I _ u0 v0 x2 x3 x1 hu0 hv0 hx2 hx3 hx1 e0 e2 e3 e1)

theorem L_v206 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v206 (F := Ideal) I.x0 I.x1 I.x2 I.x3 I.x5 I.x6 I.x8 i) (((K_v204 I u0 v0 x2 (64 * x3 + x4) x1) : ℝ) : EReal) :=
  (val_main_v206_apply I.x0 I.x1 I.x2 I.x3 I.x5 I.x6 I.x8 i).trans (L_v205 I _ u0 v0 x1 x2 (64 * x3 + x4) hu0 hv0 hx1 hx2 (by omega) (show (((((i 0).val * 64 + (i 1).val) * 2 + (i 2).val) * 8 + (i 3).val) * 64 + (i 4).val) / 65536 = 33 * u0 + v0 from by omega) (show (((((i 0).val * 64 + (i 1).val) * 2 + (i 2).val) * 8 + (i 3).val) * 64 + (i 4).val) / 1024 % 64 = x1 from by omega) (show (((((i 0).val * 64 + (i 1).val) * 2 + (i 2).val) * 8 + (i 3).val) * 64 + (i 4).val) / 512 % 2 = x2 from by omega) (show (((((i 0).val * 64 + (i 1).val) * 2 + (i 2).val) * 8 + (i 3).val) * 64 + (i 4).val) % 512 = (64 * x3 + x4) from by omega))

theorem L_v207 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v207 (F := Ideal) I.x3 I.x5 I.x6 i) (((K_v139 I u0 v0 x1 x2 x3) : ℝ) : EReal) :=
  (val_main_v207_apply I.x3 I.x5 I.x6 i).trans (L_v140 I _ u0 v0 x1 x2 x3 hu0 hv0 hx1 hx2 hx3 e0 e1 e2 e3 rfl)

theorem L_v208 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v208 (F := Ideal) I.x0 I.x1 I.x2 I.x3 I.x5 I.x6 I.x8 i) (((K_v208 I u0 v0 x1 x2 x3 x4) : ℝ) : EReal) :=
  by unfold K_v208; exact (val_main_v208_apply I.x0 I.x1 I.x2 I.x3 I.x5 I.x6 I.x8 i).trans (mulR (L_v207 I _ u0 v0 x1 x2 x3 x4 hu0 hv0 hx1 hx2 hx3 hx4 e0 e1 e2 e3 e4) (L_v206 I _ u0 v0 x1 x2 x3 x4 hu0 hv0 hx1 hx2 hx3 hx4 e0 e1 e2 e3 e4))

theorem L_v209 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v209 (F := Ideal) I.x0 I.x1 I.x2 I.x3 I.x5 I.x6 I.x8 i) (((K_v209 I u0 v0 x1 x2 x3 x4) : ℝ) : EReal) :=
  by unfold K_v209; exact (val_main_v209_apply I.x0 I.x1 I.x2 I.x3 I.x5 I.x6 I.x8 i).trans (mulR (L_v206 I _ u0 v0 x1 x2 x3 x4 hu0 hv0 hx1 hx2 hx3 hx4 e0 e1 e2 e3 e4) (L_v86 I _ u0 v0 x1 x2 x3 x4 hu0 hv0 hx1 hx2 hx3 hx4 e0 e1 e2 e3 e4))

theorem L_cst_28 (I : Inp) (i : S_.Idx) : @Eq EReal (val_main_cst_28 (F := Ideal) i) (((0 : ℝ) : ℝ) : EReal) :=
  (val_main_cst_28_apply (F := Ideal) i).trans zeroR

theorem L_v210 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v210 (F := Ideal) I.x0 I.x1 I.x2 I.x3 I.x5 I.x6 I.x8 i) (((K_v210 I u0 v0 x1 x2 x3) : ℝ) : EReal) :=
  by unfold K_v210; exact (val_main_v210_apply I.x0 I.x1 I.x2 I.x3 I.x5 I.x6 I.x8 i).trans (redR (L_cst_28 I _) fun k => (L_v209 I _ u0 v0 x1 x2 x3 k.val hu0 hv0 hx1 hx2 hx3 k.isLt e0 e1 e2 e3 rfl))

theorem L_v211 (I : Inp) (i : S66x64x2x8x1.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) (e4 : (i 4).val = 0) : @Eq EReal (val_main_v211 (F := Ideal) I.x0 I.x1 I.x2 I.x3 I.x5 I.x6 I.x8 i) (((K_v210 I u0 v0 x1 x2 x3) : ℝ) : EReal) :=
  (val_main_v211_apply I.x0 I.x1 I.x2 I.x3 I.x5 I.x6 I.x8 i).trans (L_v210 I _ u0 v0 x1 x2 x3 hu0 hv0 hx1 hx2 hx3 (show (((((i 0).val * 64 + (i 1).val) * 2 + (i 2).val) * 8 + (i 3).val) * 1 + (i 4).val) / 1024 = 33 * u0 + v0 from by omega) (show (((((i 0).val * 64 + (i 1).val) * 2 + (i 2).val) * 8 + (i 3).val) * 1 + (i 4).val) / 16 % 64 = x1 from by omega) (show (((((i 0).val * 64 + (i 1).val) * 2 + (i 2).val) * 8 + (i 3).val) * 1 + (i 4).val) / 8 % 2 = x2 from by omega) (show (((((i 0).val * 64 + (i 1).val) * 2 + (i 2).val) * 8 + (i 3).val) * 1 + (i 4).val) % 8 = x3 from by omega))

theorem L_cst_29 (I : Inp) (i : S_.Idx) : @Eq EReal (val_main_cst_29 (F := Ideal) i) (((0 : ℝ) : ℝ) : EReal) :=
  (val_main_cst_29_apply (F := Ideal) i).trans zeroR

theorem L_v212 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v212 (F := Ideal) I.x0 I.x1 I.x2 I.x3 I.x5 I.x6 I.x8 i) (((K_v210 I u0 v0 x1 x2 x3) : ℝ) : EReal) :=
  (val_main_v212_apply I.x0 I.x1 I.x2 I.x3 I.x5 I.x6 I.x8 i).trans (red1R (L_cst_29 I _) (L_v211 I _ u0 v0 x1 x2 x3 hu0 hv0 hx1 hx2 hx3 e0 e1 e2 e3 rfl))

theorem L_v213 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v213 (F := Ideal) I.x0 I.x1 I.x2 I.x3 I.x5 I.x6 I.x8 i) (((K_v213 I u0 v0 x1 x2 x3) : ℝ) : EReal) :=
  by unfold K_v213; exact (val_main_v213_apply I.x0 I.x1 I.x2 I.x3 I.x5 I.x6 I.x8 i).trans (mulR (L_v212 I _ u0 v0 x1 x2 x3 hu0 hv0 hx1 hx2 hx3 e0 e1 e2 e3) (L_v139 I _ u0 v0 x1 x2 x3 hu0 hv0 hx1 hx2 hx3 e0 e1 e2 e3))

theorem L_cst_30 (I : Inp) (i : S_.Idx) : @Eq EReal (val_main_cst_30 (F := Ideal) i) (((0 : ℝ) : ℝ) : EReal) :=
  (val_main_cst_30_apply (F := Ideal) i).trans zeroR

theorem L_v214 (I : Inp) (i : S66x2x8.Idx) (u0 v0 x1 x2 : ℕ) (hu0 : u0 < 2) (hv0 : v0 < 33) (hx1 : x1 < 2) (hx2 : x2 < 8) (e0 : (i 0).val = 33 * u0 + v0) (e1 : (i 1).val = x1) (e2 : (i 2).val = x2) : @Eq EReal (val_main_v214 (F := Ideal) I.x0 I.x1 I.x2 I.x3 I.x5 I.x6 I.x8 i) (((K_v214 I u0 v0 x1 x2) : ℝ) : EReal) :=
  by unfold K_v214; exact (val_main_v214_apply I.x0 I.x1 I.x2 I.x3 I.x5 I.x6 I.x8 i).trans (redR (L_cst_30 I _) fun k => (L_v213 I _ u0 v0 k.val x1 x2 hu0 hv0 k.isLt hx1 hx2 e0 rfl e1 e2))

theorem L_v215 (I : Inp) (i : S66x1x2x8.Idx) (u0 v0 x2 x3 : ℕ) (hu0 : u0 < 2) (hv0 : v0 < 33) (hx2 : x2 < 2) (hx3 : x3 < 8) (e0 : (i 0).val = 33 * u0 + v0) (e1 : (i 1).val = 0) (e2 : (i 2).val = x2) (e3 : (i 3).val = x3) : @Eq EReal (val_main_v215 (F := Ideal) I.x0 I.x1 I.x2 I.x3 I.x5 I.x6 I.x8 i) (((K_v214 I u0 v0 x2 x3) : ℝ) : EReal) :=
  (val_main_v215_apply I.x0 I.x1 I.x2 I.x3 I.x5 I.x6 I.x8 i).trans (L_v214 I _ u0 v0 x2 x3 hu0 hv0 hx2 hx3 (show ((((i 0).val * 1 + (i 1).val) * 2 + (i 2).val) * 8 + (i 3).val) / 16 = 33 * u0 + v0 from by omega) (show ((((i 0).val * 1 + (i 1).val) * 2 + (i 2).val) * 8 + (i 3).val) / 8 % 2 = x2 from by omega) (show ((((i 0).val * 1 + (i 1).val) * 2 + (i 2).val) * 8 + (i 3).val) % 8 = x3 from by omega))

theorem L_v216 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v216 (F := Ideal) I.x0 I.x1 I.x2 I.x3 I.x5 I.x6 I.x8 i) (((K_v216 I u0 v0 x1 x2 x3) : ℝ) : EReal) :=
  by unfold K_v216; exact (val_main_v216_apply I.x0 I.x1 I.x2 I.x3 I.x5 I.x6 I.x8 i).trans (negR (L_v213 I _ u0 v0 x1 x2 x3 hu0 hv0 hx1 hx2 hx3 e0 e1 e2 e3))

theorem L_v217 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v217 (F := Ideal) I.x0 I.x1 I.x2 I.x3 I.x4 I.x5 I.x6 I.x8 i) (((K_v217 I u0 v0 x1 x2 x3) : ℝ) : EReal) :=
  by unfold K_v217; exact (val_main_v217_apply I.x0 I.x1 I.x2 I.x3 I.x4 I.x5 I.x6 I.x8 i).trans (addR (L_v200 I _ u0 v0 x1 x2 x3 hu0 hv0 hx1 hx2 hx3 e0 e1 e2 e3) (L_v216 I _ u0 v0 x1 x2 x3 hu0 hv0 hx1 hx2 hx3 e0 e1 e2 e3))

theorem L_cst_31 (I : Inp) (i : S_.Idx) : @Eq EReal (val_main_cst_31 (F := Ideal) i) (((0 : ℝ) : ℝ) : EReal) :=
  (val_main_cst_31_apply (F := Ideal) i).trans zeroR

theorem L_v218 (I : Inp) (i : S66x2x8.Idx) (u0 v0 x1 x2 : ℕ) (hu0 : u0 < 2) (hv0 : v0 < 33) (hx1 : x1 < 2) (hx2 : x2 < 8) (e0 : (i 0).val = 33 * u0 + v0) (e1 : (i 1).val = x1) (e2 : (i 2).val = x2) : @Eq EReal (val_main_v218 (F := Ideal) I.x0 I.x1 I.x2 I.x3 I.x5 I.x6 I.x8 i) (((K_v214 I u0 v0 x1 x2) : ℝ) : EReal) :=
  (val_main_v218_apply I.x0 I.x1 I.x2 I.x3 I.x5 I.x6 I.x8 i).trans (red1R (L_cst_31 I _) (L_v215 I _ u0 v0 x1 x2 hu0 hv0 hx1 hx2 e0 rfl e1 e2))

theorem L_v219 (I : Inp) (i : S66x2x8.Idx) (u0 v0 x1 x2 : ℕ) (hu0 : u0 < 2) (hv0 : v0 < 33) (hx1 : x1 < 2) (hx2 : x2 < 8) (e0 : (i 0).val = 33 * u0 + v0) (e1 : (i 1).val = x1) (e2 : (i 2).val = x2) : @Eq EReal (val_main_v219 (F := Ideal) I.x0 I.x1 I.x2 I.x3 I.x4 I.x5 I.x6 I.x8 i) (((K_v219 I u0 v0 x1 x2) : ℝ) : EReal) :=
  by unfold K_v219; exact (val_main_v219_apply I.x0 I.x1 I.x2 I.x3 I.x4 I.x5 I.x6 I.x8 i).trans (addR (L_v188 I _ u0 v0 x1 x2 hu0 hv0 hx1 hx2 e0 e1 e2) (L_v218 I _ u0 v0 x1 x2 hu0 hv0 hx1 hx2 e0 e1 e2))

theorem L_v220 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v220 (F := Ideal) I.x0 I.x1 I.x3 I.x8 i) (((K_v55 I u0 v0 x4 (512 * x1 + 64 * x2 + x3)) : ℝ) : EReal) :=
  (val_main_v220_apply I.x0 I.x1 I.x3 I.x8 i).trans (L_v189 I _ u0 v0 x4 x1 x2 x3 hu0 hv0 hx4 hx1 hx2 hx3 e0 e4 e1 e2 e3)

theorem L_v221 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v221 (F := Ideal) I.x0 I.x1 I.x2 I.x3 I.x5 I.x8 i) (((K_v221 I u0 v0 x1 x2 x3 x4) : ℝ) : EReal) :=
  by unfold K_v221; exact (val_main_v221_apply I.x0 I.x1 I.x2 I.x3 I.x5 I.x8 i).trans (dotR (fun k => (L_v220 I _ u0 v0 x1 x2 k.val x3 hu0 hv0 hx1 hx2 k.isLt hx3 e0 e1 e2 rfl e3)) fun k => (L_v86 I _ u0 v0 x4 x1 x2 k.val hu0 hv0 hx4 hx1 hx2 k.isLt e0 e4 e1 e2 rfl))

theorem L_v222 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v222 (F := Ideal) I.x0 I.x1 I.x2 I.x3 I.x5 I.x6 I.x8 i) (((K_v222 I u0 v0 x1 x2 x3 x4) : ℝ) : EReal) :=
  by unfold K_v222; exact (val_main_v222_apply I.x0 I.x1 I.x2 I.x3 I.x5 I.x6 I.x8 i).trans (dotR (fun k => (L_v220 I _ u0 v0 x1 x2 x3 k.val hu0 hv0 hx1 hx2 hx3 k.isLt e0 e1 e2 e3 rfl)) fun k => (L_v133 I _ u0 v0 x1 x2 k.val x4 hu0 hv0 hx1 hx2 k.isLt hx4 e0 e1 e2 rfl e4))

theorem L_v223 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v223 (F := Ideal) I.x0 I.x1 I.x2 I.x3 I.x5 I.x6 I.x8 i) (((K_v222 I u0 v0 x2 x3 x4 x1) : ℝ) : EReal) :=
  (val_main_v223_apply I.x0 I.x1 I.x2 I.x3 I.x5 I.x6 I.x8 i).trans (L_v222 I _ u0 v0 x2 x3 x4 x1 hu0 hv0 hx2 hx3 hx4 hx1 e0 e2 e3 e4 e1)

theorem L_v224 (I : Inp) (i : S66x64x2x8x64.Idx) (u0 v0 x1 x2 x3 x4 : ℕ) (hu0 : u0 < 2) (hv0 : v0 < 33) (hx1 : x1 < 64) (hx2 : x2 < 2) (hx3 : x3 < 8) (hx4 : x4 < 64) (e0 : (i 0).val = 33 * u0 + v0) (e1 : (i 1).val = x1) (e2 : (i 2).val = x2) (e3 : (i 3).val = x3) (e4 : (i 4).val = x4) : @Eq EReal (val_main_v224 (F := Ideal) I.x0 I.x1 I.x2 I.x3 I.x5 I.x6 I.x8 i) (((K_v224 I u0 v0 x1 x2 x3 x4) : ℝ) : EReal) :=
  by unfold K_v224; exact (val_main_v224_apply I.x0 I.x1 I.x2 I.x3 I.x5 I.x6 I.x8 i).trans (addR (L_v208 I _ u0 v0 x1 x2 x3 x4 hu0 hv0 hx1 hx2 hx3 hx4 e0 e1 e2 e3 e4) (L_v223 I _ u0 v0 x1 x2 x3 x4 hu0 hv0 hx1 hx2 hx3 hx4 e0 e1 e2 e3 e4))

theorem L_v225 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v225 (F := Ideal) I.x2 i) (((K_v130 I u0 v0 x1 x3 x4) : ℝ) : EReal) :=
  (val_main_v225_apply I.x2 i).trans (L_v131 I _ u0 v0 x1 x3 x4 hu0 hv0 hx1 hx3 hx4 e0 e1 rfl e3 e4)

theorem L_v226 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v226 (F := Ideal) I.x0 I.x1 I.x2 I.x3 I.x5 I.x8 i) (((K_v226 I u0 v0 x1 x2 x3 x4) : ℝ) : EReal) :=
  by unfold K_v226; exact (val_main_v226_apply I.x0 I.x1 I.x2 I.x3 I.x5 I.x8 i).trans (mulR (L_v225 I _ u0 v0 x1 x2 x3 x4 hu0 hv0 hx1 hx2 hx3 hx4 e0 e1 e2 e3 e4) (L_v221 I _ u0 v0 x1 x2 x3 x4 hu0 hv0 hx1 hx2 hx3 hx4 e0 e1 e2 e3 e4))

theorem L_v227 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v227 (F := Ideal) I.x0 I.x1 I.x2 I.x3 I.x5 I.x6 I.x8 i) (((K_v227 I u0 v0 x1 x2 x3 x4) : ℝ) : EReal) :=
  by unfold K_v227; exact (val_main_v227_apply I.x0 I.x1 I.x2 I.x3 I.x5 I.x6 I.x8 i).trans (mulR (L_v221 I _ u0 v0 x1 x2 x3 x4 hu0 hv0 hx1 hx2 hx3 hx4 e0 e1 e2 e3 e4) (L_v129_0 I _ u0 v0 x1 x2 x3 x4 hu0 hv0 hx1 hx2 hx3 hx4 e0 e1 e2 e3 e4))

theorem L_cst_32 (I : Inp) (i : S_.Idx) : @Eq EReal (val_main_cst_32 (F := Ideal) i) (((0 : ℝ) : ℝ) : EReal) :=
  (val_main_cst_32_apply (F := Ideal) i).trans zeroR

theorem L_v228 (I : Inp) (i : S66x2x64x64.Idx) (u0 v0 x1 x2 x3 : ℕ) (hu0 : u0 < 2) (hv0 : v0 < 33) (hx1 : x1 < 2) (hx2 : x2 < 64) (hx3 : x3 < 64) (e0 : (i 0).val = 33 * u0 + v0) (e1 : (i 1).val = x1) (e2 : (i 2).val = x2) (e3 : (i 3).val = x3) : @Eq EReal (val_main_v228 (F := Ideal) I.x0 I.x1 I.x2 I.x3 I.x5 I.x6 I.x8 i) (((K_v228 I u0 v0 x1 x2 x3) : ℝ) : EReal) :=
  by unfold K_v228; exact (val_main_v228_apply I.x0 I.x1 I.x2 I.x3 I.x5 I.x6 I.x8 i).trans (redR (L_cst_32 I _) fun k => (L_v227 I _ u0 v0 x1 k.val x2 x3 hu0 hv0 hx1 k.isLt hx2 hx3 e0 e1 rfl e2 e3))

theorem L_v229 (I : Inp) (i : S66x2x1x64x64.Idx) (u0 v0 x1 x3 x4 : ℕ) (hu0 : u0 < 2) (hv0 : v0 < 33) (hx1 : x1 < 2) (hx3 : x3 < 64) (hx4 : x4 < 64) (e0 : (i 0).val = 33 * u0 + v0) (e1 : (i 1).val = x1) (e2 : (i 2).val = 0) (e3 : (i 3).val = x3) (e4 : (i 4).val = x4) : @Eq EReal (val_main_v229 (F := Ideal) I.x0 I.x1 I.x2 I.x3 I.x5 I.x6 I.x8 i) (((K_v228 I u0 v0 x1 x3 x4) : ℝ) : EReal) :=
  (val_main_v229_apply I.x0 I.x1 I.x2 I.x3 I.x5 I.x6 I.x8 i).trans (L_v228 I _ u0 v0 x1 x3 x4 hu0 hv0 hx1 hx3 hx4 (show (((((i 0).val * 2 + (i 1).val) * 1 + (i 2).val) * 64 + (i 3).val) * 64 + (i 4).val) / 8192 = 33 * u0 + v0 from by omega) (show (((((i 0).val * 2 + (i 1).val) * 1 + (i 2).val) * 64 + (i 3).val) * 64 + (i 4).val) / 4096 % 2 = x1 from by omega) (show (((((i 0).val * 2 + (i 1).val) * 1 + (i 2).val) * 64 + (i 3).val) * 64 + (i 4).val) / 64 % 64 = x3 from by omega) (show (((((i 0).val * 2 + (i 1).val) * 1 + (i 2).val) * 64 + (i 3).val) * 64 + (i 4).val) % 64 = x4 from by omega))

theorem L_cst_33 (I : Inp) (i : S_.Idx) : @Eq EReal (val_main_cst_33 (F := Ideal) i) (((0 : ℝ) : ℝ) : EReal) :=
  (val_main_cst_33_apply (F := Ideal) i).trans zeroR

theorem L_v230 (I : Inp) (i : S66x2x64x64.Idx) (u0 v0 x1 x2 x3 : ℕ) (hu0 : u0 < 2) (hv0 : v0 < 33) (hx1 : x1 < 2) (hx2 : x2 < 64) (hx3 : x3 < 64) (e0 : (i 0).val = 33 * u0 + v0) (e1 : (i 1).val = x1) (e2 : (i 2).val = x2) (e3 : (i 3).val = x3) : @Eq EReal (val_main_v230 (F := Ideal) I.x0 I.x1 I.x2 I.x3 I.x5 I.x6 I.x8 i) (((K_v228 I u0 v0 x1 x2 x3) : ℝ) : EReal) :=
  (val_main_v230_apply I.x0 I.x1 I.x2 I.x3 I.x5 I.x6 I.x8 i).trans (red1R (L_cst_33 I _) (L_v229 I _ u0 v0 x1 x2 x3 hu0 hv0 hx1 hx2 hx3 e0 e1 rfl e2 e3))

theorem L_v231 (I : Inp) (i : S66x2x64x128.Idx) (u0 v0 x1 x2 x3 : ℕ) (hu0 : u0 < 2) (hv0 : v0 < 33) (hx1 : x1 < 2) (hx2 : x2 < 64) (hx3 : x3 < 128) (e0 : (i 0).val = 33 * u0 + v0) (e1 : (i 1).val = x1) (e2 : (i 2).val = x2) (e3 : (i 3).val = x3) : @Eq EReal (val_main_v231 (F := Ideal) I.x0 I.x1 I.x2 I.x3 I.x5 I.x6 I.x8 i) (((K_v231 I u0 v0 x1 x2 x3) : ℝ) : EReal) :=
  by unfold K_v231; exact (val_main_v231_apply I.x0 I.x1 I.x2 I.x3 I.x5 I.x6 I.x8 i).trans (dotR (fun k => (L_v230 I _ u0 v0 x1 k.val x2 hu0 hv0 hx1 k.isLt hx2 e0 e1 rfl e2)) fun k => (L_v115 I _ u0 v0 k.val x1 x3 hu0 hv0 k.isLt hx1 hx3 e0 rfl e1 e3))

theorem L_v232 (I : Inp) (i : S66x64x2x128.Idx) (u0 v0 x1 x2 x3 : ℕ) (hu0 : u0 < 2) (hv0 : v0 < 33) (hx1 : x1 < 64) (hx2 : x2 < 2) (hx3 : x3 < 128) (e0 : (i 0).val = 33 * u0 + v0) (e1 : (i 1).val = x1) (e2 : (i 2).val = x2) (e3 : (i 3).val = x3) : @Eq EReal (val_main_v232 (F := Ideal) I.x0 I.x1 I.x2 I.x3 I.x5 I.x6 I.x8 i) (((K_v231 I u0 v0 x2 x1 x3) : ℝ) : EReal) :=
  (val_main_v232_apply I.x0 I.x1 I.x2 I.x3 I.x5 I.x6 I.x8 i).trans (L_v231 I _ u0 v0 x2 x1 x3 hu0 hv0 hx2 hx1 hx3 e0 e2 e1 e3)

theorem L_v233 (I : Inp) (i : S66x64x2x128.Idx) (u0 v0 x1 x2 x3 : ℕ) (hu0 : u0 < 2) (hv0 : v0 < 33) (hx1 : x1 < 64) (hx2 : x2 < 2) (hx3 : x3 < 128) (e0 : (i 0).val = 33 * u0 + v0) (e1 : (i 1).val = x1) (e2 : (i 2).val = x2) (e3 : (i 3).val = x3) : @Eq EReal (val_main_v233 (F := Ideal) I.x0 I.x1 I.x2 I.x3 I.x5 I.x6 I.x8 i) (((K_v233 I u0 v0 x1 x2 x3) : ℝ) : EReal) :=
  by unfold K_v233; exact (val_main_v233_apply I.x0 I.x1 I.x2 I.x3 I.x5 I.x6 I.x8 i).trans (addR (L_v203 I _ u0 v0 x1 x2 x3 hu0 hv0 hx1 hx2 hx3 e0 e1 e2 e3) (L_v232 I _ u0 v0 x1 x2 x3 hu0 hv0 hx1 hx2 hx3 e0 e1 e2 e3))

theorem L_v234 (I : Inp) (i : S66x2x64x128.Idx) (u0 v0 x1 x2 x3 : ℕ) (hu0 : u0 < 2) (hv0 : v0 < 33) (hx1 : x1 < 2) (hx2 : x2 < 64) (hx3 : x3 < 128) (e0 : (i 0).val = 33 * u0 + v0) (e1 : (i 1).val = x1) (e2 : (i 2).val = x2) (e3 : (i 3).val = x3) : @Eq EReal (val_main_v234 (F := Ideal) I.x0 I.x1 I.x2 I.x3 I.x5 I.x6 I.x8 i) (((K_v234 I u0 v0 x1 x2 x3) : ℝ) : EReal) :=
  by unfold K_v234; exact (val_main_v234_apply I.x0 I.x1 I.x2 I.x3 I.x5 I.x6 I.x8 i).trans (dotR (fun k => (L_v230 I _ u0 v0 x1 x2 k.val hu0 hv0 hx1 hx2 k.isLt e0 e1 e2 rfl)) fun k => (L_v110 I _ u0 v0 k.val x1 x3 hu0 hv0 k.isLt hx1 hx3 e0 rfl e1 e3))

theorem L_v235 (I : Inp) (i : S66x64x2x128.Idx) (u0 v0 x1 x2 x3 : ℕ) (hu0 : u0 < 2) (hv0 : v0 < 33) (hx1 : x1 < 64) (hx2 : x2 < 2) (hx3 : x3 < 128) (e0 : (i 0).val = 33 * u0 + v0) (e1 : (i 1).val = x1) (e2 : (i 2).val = x2) (e3 : (i 3).val = x3) : @Eq EReal (val_main_v235 (F := Ideal) I.x0 I.x1 I.x2 I.x3 I.x5 I.x6 I.x8 i) (((K_v234 I u0 v0 x2 x1 x3) : ℝ) : EReal) :=
  (val_main_v235_apply I.x0 I.x1 I.x2 I.x3 I.x5 I.x6 I.x8 i).trans (L_v234 I _ u0 v0 x2 x1 x3 hu0 hv0 hx2 hx1 hx3 e0 e2 e1 e3)

theorem L_v236 (I : Inp) (i : S66x64x2x128.Idx) (u0 v0 x1 x2 x3 : ℕ) (hu0 : u0 < 2) (hv0 : v0 < 33) (hx1 : x1 < 64) (hx2 : x2 < 2) (hx3 : x3 < 128) (e0 : (i 0).val = 33 * u0 + v0) (e1 : (i 1).val = x1) (e2 : (i 2).val = x2) (e3 : (i 3).val = x3) : @Eq EReal (val_main_v236 (F := Ideal) I.x0 I.x1 I.x2 I.x3 I.x4 I.x5 I.x6 I.x8 i) (((K_v236 I u0 v0 x1 x2 x3) : ℝ) : EReal) :=
  by unfold K_v236; exact (val_main_v236_apply I.x0 I.x1 I.x2 I.x3 I.x4 I.x5 I.x6 I.x8 i).trans (addR (L_v199 I _ u0 v0 x1 x2 x3 hu0 hv0 hx1 hx2 hx3 e0 e1 e2 e3) (L_v235 I _ u0 v0 x1 x2 x3 hu0 hv0 hx1 hx2 hx3 e0 e1 e2 e3))

theorem L_call8_cst (I : Inp) (i : S_.Idx) : @Eq EReal (val_main_call8_cst (F := Ideal) i) (((0 : ℝ) : ℝ) : EReal) :=
  (val_main_call8_cst_apply (F := Ideal) i).trans zeroR

theorem L_call8_v0 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_call8_v0 (F := Ideal) i) (((0 : ℝ) : ℝ) : EReal) :=
  (val_main_call8_v0_apply (F := Ideal) i).trans (L_call8_cst I _ )

theorem L_v237 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v237 (F := Ideal) I.x0 I.x1 I.x2 I.x3 I.x5 I.x8 i) (((K_v237 I u0 v0 x1 x2 x3 x4) : ℝ) : EReal) :=
  by unfold K_v237; exact (val_main_v237_apply I.x0 I.x1 I.x2 I.x3 I.x5 I.x8 i).trans (selR (L_v129_1 I _ u0 v0 x1 x2 x3 x4 hu0 hv0 hx1 hx2 hx3 hx4 e0 e1 e2 e3 e4) (L_v226 I _ u0 v0 x1 x2 x3 x4 hu0 hv0 hx1 hx2 hx3 hx4 e0 e1 e2 e3 e4) (L_call8_v0 I _ u0 v0 x1 x2 x3 x4 hu0 hv0 hx1 hx2 hx3 hx4 e0 e1 e2 e3 e4))

theorem L_v238 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v238 (F := Ideal) I.x0 I.x1 I.x2 I.x3 I.x5 I.x6 I.x8 i) (((K_v238 I u0 v0 x1 x2 x3 x4) : ℝ) : EReal) :=
  by unfold K_v238; exact (val_main_v238_apply I.x0 I.x1 I.x2 I.x3 I.x5 I.x6 I.x8 i).trans (mulR (L_v237 I _ u0 v0 x1 x2 x3 x4 hu0 hv0 hx1 hx2 hx3 hx4 e0 e1 e2 e3 e4) (L_v128 I _ u0 v0 x1 x2 x3 x4 hu0 hv0 hx1 hx2 hx3 hx4 e0 e1 e2 e3 e4))

theorem L_call9_cst (I : Inp) (i : S_.Idx) : @Eq EReal (val_main_call9_cst (F := Ideal) i) (((0 : ℝ) : ℝ) : EReal) :=
  (val_main_call9_cst_apply (F := Ideal) i).trans zeroR

theorem L_call9_v0 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_call9_v0 (F := Ideal) i) (((0 : ℝ) : ℝ) : EReal) :=
  (val_main_call9_v0_apply (F := Ideal) i).trans (L_call9_cst I _ )

theorem L_v239 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v239 (F := Ideal) I.x0 I.x1 I.x2 I.x3 I.x5 I.x6 I.x8 i) (((K_v239 I u0 v0 x1 x2 x3 x4) : ℝ) : EReal) :=
  by unfold K_v239; exact (val_main_v239_apply I.x0 I.x1 I.x2 I.x3 I.x5 I.x6 I.x8 i).trans (selR (L_v127_1 I _ u0 v0 x1 x2 x3 x4 hu0 hv0 hx1 hx2 hx3 hx4 e0 e1 e2 e3 e4) (L_v238 I _ u0 v0 x1 x2 x3 x4 hu0 hv0 hx1 hx2 hx3 hx4 e0 e1 e2 e3 e4) (L_call9_v0 I _ u0 v0 x1 x2 x3 x4 hu0 hv0 hx1 hx2 hx3 hx4 e0 e1 e2 e3 e4))

theorem L_cst_34 (I : Inp) (i : S_.Idx) : @Eq EReal (val_main_cst_34 (F := Ideal) i) (((0 : ℝ) : ℝ) : EReal) :=
  (val_main_cst_34_apply (F := Ideal) i).trans zeroR

theorem L_v240 (I : Inp) (i : S66x2x8x64.Idx) (u0 v0 x1 x2 x3 : ℕ) (hu0 : u0 < 2) (hv0 : v0 < 33) (hx1 : x1 < 2) (hx2 : x2 < 8) (hx3 : x3 < 64) (e0 : (i 0).val = 33 * u0 + v0) (e1 : (i 1).val = x1) (e2 : (i 2).val = x2) (e3 : (i 3).val = x3) : @Eq EReal (val_main_v240 (F := Ideal) I.x0 I.x1 I.x2 I.x3 I.x5 I.x6 I.x8 i) (((K_v240 I u0 v0 x1 x2 x3) : ℝ) : EReal) :=
  by unfold K_v240; exact (val_main_v240_apply I.x0 I.x1 I.x2 I.x3 I.x5 I.x6 I.x8 i).trans (redR (L_cst_34 I _) fun k => (L_v239 I _ u0 v0 x1 x2 x3 k.val hu0 hv0 hx1 hx2 hx3 k.isLt e0 e1 e2 e3 rfl))

theorem L_v241 (I : Inp) (i : S66x2x8x64x1.Idx) (u0 v0 x1 x2 x3 : ℕ) (hu0 : u0 < 2) (hv0 : v0 < 33) (hx1 : x1 < 2) (hx2 : x2 < 8) (hx3 : x3 < 64) (e0 : (i 0).val = 33 * u0 + v0) (e1 : (i 1).val = x1) (e2 : (i 2).val = x2) (e3 : (i 3).val = x3) (e4 : (i 4).val = 0) : @Eq EReal (val_main_v241 (F := Ideal) I.x0 I.x1 I.x2 I.x3 I.x5 I.x6 I.x8 i) (((K_v240 I u0 v0 x1 x2 x3) : ℝ) : EReal) :=
  (val_main_v241_apply I.x0 I.x1 I.x2 I.x3 I.x5 I.x6 I.x8 i).trans (L_v240 I _ u0 v0 x1 x2 x3 hu0 hv0 hx1 hx2 hx3 (show (((((i 0).val * 2 + (i 1).val) * 8 + (i 2).val) * 64 + (i 3).val) * 1 + (i 4).val) / 1024 = 33 * u0 + v0 from by omega) (show (((((i 0).val * 2 + (i 1).val) * 8 + (i 2).val) * 64 + (i 3).val) * 1 + (i 4).val) / 512 % 2 = x1 from by omega) (show (((((i 0).val * 2 + (i 1).val) * 8 + (i 2).val) * 64 + (i 3).val) * 1 + (i 4).val) / 64 % 8 = x2 from by omega) (show (((((i 0).val * 2 + (i 1).val) * 8 + (i 2).val) * 64 + (i 3).val) * 1 + (i 4).val) % 64 = x3 from by omega))

theorem L_v242 (I : Inp) (i : S66x2x8x64x64.Idx) (u0 v0 x1 x2 x3 x4 : ℕ) (hu0 : u0 < 2) (hv0 : v0 < 33) (hx1 : x1 < 2) (hx2 : x2 < 8) (hx3 : x3 < 64) (hx4 : x4 < 64) (e0 : (i 0).val = 33 * u0 + v0) (e1 : (i 1).val = x1) (e2 : (i 2).val = x2) (e3 : (i 3).val = x3) (e4 : (i 4).val = x4) : @Eq EReal (val_main_v242 (F := Ideal) I.x0 I.x1 I.x2 I.x3 I.x5 I.x6 I.x8 i) (((K_v242 I u0 v0 x1 x2 x3 x4) : ℝ) : EReal) :=
  by unfold K_v242; exact (val_main_v242_apply I.x0 I.x1 I.x2 I.x3 I.x5 I.x6 I.x8 i).trans (negR (L_v239 I _ u0 v0 x1 x2 x3 x4 hu0 hv0 hx1 hx2 hx3 hx4 e0 e1 e2 e3 e4))

theorem L_cst_35 (I : Inp) (i : S_.Idx) : @Eq EReal (val_main_cst_35 (F := Ideal) i) (((0 : ℝ) : ℝ) : EReal) :=
  (val_main_cst_35_apply (F := Ideal) i).trans zeroR

theorem L_v243 (I : Inp) (i : S66x2x8x64.Idx) (u0 v0 x1 x2 x3 : ℕ) (hu0 : u0 < 2) (hv0 : v0 < 33) (hx1 : x1 < 2) (hx2 : x2 < 8) (hx3 : x3 < 64) (e0 : (i 0).val = 33 * u0 + v0) (e1 : (i 1).val = x1) (e2 : (i 2).val = x2) (e3 : (i 3).val = x3) : @Eq EReal (val_main_v243 (F := Ideal) I.x0 I.x1 I.x2 I.x3 I.x5 I.x6 I.x8 i) (((K_v243 I u0 v0 x1 x2 x3) : ℝ) : EReal) :=
  by unfold K_v243; exact (val_main_v243_apply I.x0 I.x1 I.x2 I.x3 I.x5 I.x6 I.x8 i).trans (redR (L_cst_35 I _) fun k => (L_v242 I _ u0 v0 x1 x2 k.val x3 hu0 hv0 hx1 hx2 k.isLt hx3 e0 e1 e2 rfl e3))

theorem L_v244 (I : Inp) (i : S66x2x8x1x64.Idx) (u0 v0 x1 x2 x4 : ℕ) (hu0 : u0 < 2) (hv0 : v0 < 33) (hx1 : x1 < 2) (hx2 : x2 < 8) (hx4 : x4 < 64) (e0 : (i 0).val = 33 * u0 + v0) (e1 : (i 1).val = x1) (e2 : (i 2).val = x2) (e3 : (i 3).val = 0) (e4 : (i 4).val = x4) : @Eq EReal (val_main_v244 (F := Ideal) I.x0 I.x1 I.x2 I.x3 I.x5 I.x6 I.x8 i) (((K_v243 I u0 v0 x1 x2 x4) : ℝ) : EReal) :=
  (val_main_v244_apply I.x0 I.x1 I.x2 I.x3 I.x5 I.x6 I.x8 i).trans (L_v243 I _ u0 v0 x1 x2 x4 hu0 hv0 hx1 hx2 hx4 (show (((((i 0).val * 2 + (i 1).val) * 8 + (i 2).val) * 1 + (i 3).val) * 64 + (i 4).val) / 1024 = 33 * u0 + v0 from by omega) (show (((((i 0).val * 2 + (i 1).val) * 8 + (i 2).val) * 1 + (i 3).val) * 64 + (i 4).val) / 512 % 2 = x1 from by omega) (show (((((i 0).val * 2 + (i 1).val) * 8 + (i 2).val) * 1 + (i 3).val) * 64 + (i 4).val) / 64 % 8 = x2 from by omega) (show (((((i 0).val * 2 + (i 1).val) * 8 + (i 2).val) * 1 + (i 3).val) * 64 + (i 4).val) % 64 = x4 from by omega))

theorem L_cst_36 (I : Inp) (i : S_.Idx) : @Eq EReal (val_main_cst_36 (F := Ideal) i) (((0 : ℝ) : ℝ) : EReal) :=
  (val_main_cst_36_apply (F := Ideal) i).trans zeroR

theorem L_v245 (I : Inp) (i : S66x2x8x64.Idx) (u0 v0 x1 x2 x3 : ℕ) (hu0 : u0 < 2) (hv0 : v0 < 33) (hx1 : x1 < 2) (hx2 : x2 < 8) (hx3 : x3 < 64) (e0 : (i 0).val = 33 * u0 + v0) (e1 : (i 1).val = x1) (e2 : (i 2).val = x2) (e3 : (i 3).val = x3) : @Eq EReal (val_main_v245 (F := Ideal) I.x0 I.x1 I.x2 I.x3 I.x5 I.x6 I.x8 i) (((K_v243 I u0 v0 x1 x2 x3) : ℝ) : EReal) :=
  (val_main_v245_apply I.x0 I.x1 I.x2 I.x3 I.x5 I.x6 I.x8 i).trans (red1R (L_cst_36 I _) (L_v244 I _ u0 v0 x1 x2 x3 hu0 hv0 hx1 hx2 hx3 e0 e1 e2 rfl e3))

theorem L_cst_37 (I : Inp) (i : S_.Idx) : @Eq EReal (val_main_cst_37 (F := Ideal) i) (((0 : ℝ) : ℝ) : EReal) :=
  (val_main_cst_37_apply (F := Ideal) i).trans zeroR

theorem L_v246 (I : Inp) (i : S66x2x8x64.Idx) (u0 v0 x1 x2 x3 : ℕ) (hu0 : u0 < 2) (hv0 : v0 < 33) (hx1 : x1 < 2) (hx2 : x2 < 8) (hx3 : x3 < 64) (e0 : (i 0).val = 33 * u0 + v0) (e1 : (i 1).val = x1) (e2 : (i 2).val = x2) (e3 : (i 3).val = x3) : @Eq EReal (val_main_v246 (F := Ideal) I.x0 I.x1 I.x2 I.x3 I.x5 I.x6 I.x8 i) (((K_v240 I u0 v0 x1 x2 x3) : ℝ) : EReal) :=
  (val_main_v246_apply I.x0 I.x1 I.x2 I.x3 I.x5 I.x6 I.x8 i).trans (red1R (L_cst_37 I _) (L_v241 I _ u0 v0 x1 x2 x3 hu0 hv0 hx1 hx2 hx3 e0 e1 e2 e3 rfl))

theorem L_v247 (I : Inp) (i : S66x2x8x64.Idx) (u0 v0 x1 x2 x3 : ℕ) (hu0 : u0 < 2) (hv0 : v0 < 33) (hx1 : x1 < 2) (hx2 : x2 < 8) (hx3 : x3 < 64) (e0 : (i 0).val = 33 * u0 + v0) (e1 : (i 1).val = x1) (e2 : (i 2).val = x2) (e3 : (i 3).val = x3) : @Eq EReal (val_main_v247 (F := Ideal) I.x0 I.x1 I.x2 I.x3 I.x5 I.x6 I.x8 i) (((K_v247 I u0 v0 x1 x2 x3) : ℝ) : EReal) :=
  by unfold K_v247; exact (val_main_v247_apply I.x0 I.x1 I.x2 I.x3 I.x5 I.x6 I.x8 i).trans (addR (L_v245 I _ u0 v0 x1 x2 x3 hu0 hv0 hx1 hx2 hx3 e0 e1 e2 e3) (L_v246 I _ u0 v0 x1 x2 x3 hu0 hv0 hx1 hx2 hx3 e0 e1 e2 e3))

theorem L_v248 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v248 (F := Ideal) I.x0 I.x1 I.x2 I.x3 I.x5 I.x6 I.x8 i) (((K_v247 I u0 v0 x2 x3 x1) : ℝ) : EReal) :=
  (val_main_v248_apply I.x0 I.x1 I.x2 I.x3 I.x5 I.x6 I.x8 i).trans (L_v247 I _ u0 v0 x2 x3 x1 hu0 hv0 hx2 hx3 hx1 e0 e2 e3 e1)

theorem L_v249 (I : Inp) (i : S66x64x2x8.Idx) (u0 v0 x1 x2 x3 : ℕ) (hu0 : u0 < 2) (hv0 : v0 < 33) (hx1 : x1 < 64) (hx2 : x2 < 2) (hx3 : x3 < 8) (e0 : (i 0).val = 33 * u0 + v0) (e1 : (i 1).val = x1) (e2 : (i 2).val = x2) (e3 : (i 3).val = x3) : @Eq EReal (val_main_v249 (F := Ideal) I.x0 I.x1 I.x2 I.x3 I.x4 I.x5 I.x6 I.x8 i) (((K_v249 I u0 v0 x1 x2 x3) : ℝ) : EReal) :=
  by unfold K_v249; exact (val_main_v249_apply I.x0 I.x1 I.x2 I.x3 I.x4 I.x5 I.x6 I.x8 i).trans (addR (L_v217 I _ u0 v0 x1 x2 x3 hu0 hv0 hx1 hx2 hx3 e0 e1 e2 e3) (L_v248 I _ u0 v0 x1 x2 x3 hu0 hv0 hx1 hx2 hx3 e0 e1 e2 e3))

theorem L_v250 (I : Inp) (i : S66x16.Idx) (u0 v0 x1 : ℕ) (hu0 : u0 < 2) (hv0 : v0 < 33) (hx1 : x1 < 16) (e0 : (i 0).val = 33 * u0 + v0) (e1 : (i 1).val = x1) : @Eq EReal (val_main_v250 (F := Ideal) I.x0 I.x1 I.x2 I.x3 I.x4 I.x5 I.x6 I.x8 i) (((K_v219 I u0 v0 (((x1) / 8)) (((x1) % 8))) : ℝ) : EReal) :=
  (val_main_v250_apply I.x0 I.x1 I.x2 I.x3 I.x4 I.x5 I.x6 I.x8 i).trans (L_v219 I _ u0 v0 (((x1) / 8)) (((x1) % 8)) hu0 hv0 (by omega) (by omega) (show ((i 0).val * 16 + (i 1).val) / 16 = 33 * u0 + v0 from by omega) (show ((i 0).val * 16 + (i 1).val) / 8 % 2 = (((x1) / 8)) from by omega) (show ((i 0).val * 16 + (i 1).val) % 8 = (((x1) % 8)) from by omega))

theorem L_v251 (I : Inp) (i : S66x64x16.Idx) (u0 v0 x1 x2 : ℕ) (hu0 : u0 < 2) (hv0 : v0 < 33) (hx1 : x1 < 64) (hx2 : x2 < 16) (e0 : (i 0).val = 33 * u0 + v0) (e1 : (i 1).val = x1) (e2 : (i 2).val = x2) : @Eq EReal (val_main_v251 (F := Ideal) I.x0 I.x1 I.x2 I.x3 I.x4 I.x5 I.x6 I.x8 i) (((K_v219 I u0 v0 (((x2) / 8)) (((x2) % 8))) : ℝ) : EReal) :=
  (val_main_v251_apply I.x0 I.x1 I.x2 I.x3 I.x4 I.x5 I.x6 I.x8 i).trans (L_v250 I _ u0 v0 x2 hu0 hv0 hx2 e0 e2)

theorem L_v252 (I : Inp) (i : S66x64x16.Idx) (u0 v0 x1 x2 : ℕ) (hu0 : u0 < 2) (hv0 : v0 < 33) (hx1 : x1 < 64) (hx2 : x2 < 16) (e0 : (i 0).val = 33 * u0 + v0) (e1 : (i 1).val = x1) (e2 : (i 2).val = x2) : @Eq EReal (val_main_v252 (F := Ideal) I.x0 I.x1 I.x2 I.x3 I.x4 I.x5 I.x6 I.x8 i) (((K_v249 I u0 v0 x1 (((x2) / 8)) (((x2) % 8))) : ℝ) : EReal) :=
  (val_main_v252_apply I.x0 I.x1 I.x2 I.x3 I.x4 I.x5 I.x6 I.x8 i).trans (L_v249 I _ u0 v0 x1 (((x2) / 8)) (((x2) % 8)) hu0 hv0 hx1 (by omega) (by omega) (show (((i 0).val * 64 + (i 1).val) * 16 + (i 2).val) / 1024 = 33 * u0 + v0 from by omega) (show (((i 0).val * 64 + (i 1).val) * 16 + (i 2).val) / 16 % 64 = x1 from by omega) (show (((i 0).val * 64 + (i 1).val) * 16 + (i 2).val) / 8 % 2 = (((x2) / 8)) from by omega) (show (((i 0).val * 64 + (i 1).val) * 16 + (i 2).val) % 8 = (((x2) % 8)) from by omega))

theorem L_v253 (I : Inp) (i : S66x16x64.Idx) (u0 v0 x1 x2 : ℕ) (hu0 : u0 < 2) (hv0 : v0 < 33) (hx1 : x1 < 16) (hx2 : x2 < 64) (e0 : (i 0).val = 33 * u0 + v0) (e1 : (i 1).val = x1) (e2 : (i 2).val = x2) : @Eq EReal (val_main_v253 (F := Ideal) I.x0 I.x1 I.x2 I.x3 I.x4 I.x5 I.x6 I.x8 i) (((K_v249 I u0 v0 x2 (((x1) / 8)) (((x1) % 8))) : ℝ) : EReal) :=
  (val_main_v253_apply I.x0 I.x1 I.x2 I.x3 I.x4 I.x5 I.x6 I.x8 i).trans (L_v252 I _ u0 v0 x2 x1 hu0 hv0 hx2 hx1 e0 e2 e1)

theorem L_v254 (I : Inp) (i : S66x16x64.Idx) (u0 v0 x1 x2 : ℕ) (hu0 : u0 < 2) (hv0 : v0 < 33) (hx1 : x1 < 16) (hx2 : x2 < 64) (e0 : (i 0).val = 33 * u0 + v0) (e1 : (i 1).val = x1) (e2 : (i 2).val = x2) : @Eq EReal (val_main_v254 (F := Ideal) I.x0 I.x1 I.x2 I.x3 I.x4 I.x5 I.x6 I.x8 i) (((K_v254 I u0 v0 x1 x2) : ℝ) : EReal) :=
  by unfold K_v254; exact (val_main_v254_apply I.x0 I.x1 I.x2 I.x3 I.x4 I.x5 I.x6 I.x8 i).trans (dotR (fun k => (L_v253 I _ u0 v0 x1 k.val hu0 hv0 hx1 k.isLt e0 e1 rfl)) fun k => (L_v50 I _ k.val x2 k.isLt hx2 rfl e2))

theorem L_v255 (I : Inp) (i : S66x64x16.Idx) (u0 v0 x1 x2 : ℕ) (hu0 : u0 < 2) (hv0 : v0 < 33) (hx1 : x1 < 64) (hx2 : x2 < 16) (e0 : (i 0).val = 33 * u0 + v0) (e1 : (i 1).val = x1) (e2 : (i 2).val = x2) : @Eq EReal (val_main_v255 (F := Ideal) I.x0 I.x1 I.x2 I.x3 I.x4 I.x5 I.x6 I.x8 i) (((K_v254 I u0 v0 x2 x1) : ℝ) : EReal) :=
  (val_main_v255_apply I.x0 I.x1 I.x2 I.x3 I.x4 I.x5 I.x6 I.x8 i).trans (L_v254 I _ u0 v0 x2 x1 hu0 hv0 hx2 hx1 e0 e2 e1)

theorem L_v256 (I : Inp) (i : S66x64x16.Idx) (u0 v0 x1 x2 : ℕ) (hu0 : u0 < 2) (hv0 : v0 < 33) (hx1 : x1 < 64) (hx2 : x2 < 16) (e0 : (i 0).val = 33 * u0 + v0) (e1 : (i 1).val = x1) (e2 : (i 2).val = x2) : @Eq EReal (val_main_v256 (F := Ideal) I.x0 I.x1 I.x2 I.x3 I.x4 I.x5 I.x6 I.x8 i) (((K_v256 I u0 v0 x1 x2) : ℝ) : EReal) :=
  by unfold K_v256; exact (val_main_v256_apply I.x0 I.x1 I.x2 I.x3 I.x4 I.x5 I.x6 I.x8 i).trans (addR (L_v251 I _ u0 v0 x1 x2 hu0 hv0 hx1 hx2 e0 e1 e2) (L_v255 I _ u0 v0 x1 x2 hu0 hv0 hx1 hx2 e0 e1 e2))

theorem L_v257 (I : Inp) (i : S2x2112x256.Idx) (x0 u1 v1 x2 : ℕ) (hx0 : x0 < 2) (hu1 : u1 < 33) (hv1 : v1 < 64) (hx2 : x2 < 256) (e0 : (i 0).val = x0) (e1 : (i 1).val = 64 * u1 + v1) (e2 : (i 2).val = x2) : @Eq EReal (val_main_v257 (F := Ideal) I.x0 I.x1 I.x2 I.x3 I.x4 I.x5 I.x6 I.x8 i) (((K_v236 I x0 u1 v1 (((x2) / 128)) (((x2) % 128))) : ℝ) : EReal) :=
  (val_main_v257_apply I.x0 I.x1 I.x2 I.x3 I.x4 I.x5 I.x6 I.x8 i).trans (L_v236 I _ x0 u1 v1 (((x2) / 128)) (((x2) % 128)) hx0 hu1 hv1 (by omega) (by omega) (show (((i 0).val * 2112 + (i 1).val) * 256 + (i 2).val) / 16384 = 33 * x0 + u1 from by omega) (show (((i 0).val * 2112 + (i 1).val) * 256 + (i 2).val) / 256 % 64 = v1 from by omega) (show (((i 0).val * 2112 + (i 1).val) * 256 + (i 2).val) / 128 % 2 = (((x2) / 128)) from by omega) (show (((i 0).val * 2112 + (i 1).val) * 256 + (i 2).val) % 128 = (((x2) % 128)) from by omega))

theorem L_v259 (I : Inp) (i : S2x2064x256.Idx) (x0 x1 x2 : ℕ) (hx0 : x0 < 2) (hx1 : x1 < 2064) (hx2 : x2 < 256) (e0 : (i 0).val = x0) (e1 : (i 1).val = x1) (e2 : (i 2).val = x2) : @Eq EReal (val_main_v259 (F := Ideal) I.x0 I.x1 I.x2 I.x3 I.x4 I.x5 I.x6 I.x8 i) (((K_v236 I x0 (((x1 + 48) / 64)) (((x1 + 48) % 64)) (((x2) / 128)) (((x2) % 128))) : ℝ) : EReal) :=
  (val_main_v259_apply I.x0 I.x1 I.x2 I.x3 I.x4 I.x5 I.x6 I.x8 i).trans (L_v257 I _ x0 (((x1 + 48) / 64)) (((x1 + 48) % 64)) x2 hx0 (by omega) (by omega) hx2 e0 (show 48 + (i 1).val = 64 * (((x1 + 48) / 64)) + (((x1 + 48) % 64)) from by omega) e2)

theorem L_v260 (I : Inp) (i : S4128x256.Idx) (u0 v0 x1 : ℕ) (hu0 : u0 < 2) (hv0 : v0 < 2064) (hx1 : x1 < 256) (e0 : (i 0).val = 2064 * u0 + v0) (e1 : (i 1).val = x1) : @Eq EReal (val_main_v260 (F := Ideal) I.x0 I.x1 I.x2 I.x3 I.x4 I.x5 I.x6 I.x8 i) (((K_v236 I u0 (((v0 + 48) / 64)) (((v0 + 48) % 64)) (((x1) / 128)) (((x1) % 128))) : ℝ) : EReal) :=
  (val_main_v260_apply I.x0 I.x1 I.x2 I.x3 I.x4 I.x5 I.x6 I.x8 i).trans (L_v259 I _ u0 v0 x1 hu0 hv0 hx1 (show ((i 0).val * 256 + (i 1).val) / 528384 = u0 from by omega) (show ((i 0).val * 256 + (i 1).val) / 256 % 2064 = v0 from by omega) (show ((i 0).val * 256 + (i 1).val) % 256 = x1 from by omega))

theorem L_v261 (I : Inp) (i : S2x2112x256.Idx) (x0 u1 v1 x2 : ℕ) (hx0 : x0 < 2) (hu1 : u1 < 33) (hv1 : v1 < 64) (hx2 : x2 < 256) (e0 : (i 0).val = x0) (e1 : (i 1).val = 64 * u1 + v1) (e2 : (i 2).val = x2) : @Eq EReal (val_main_v261 (F := Ideal) I.x0 I.x1 I.x2 I.x3 I.x5 I.x6 I.x8 i) (((K_v233 I x0 u1 v1 (((x2) / 128)) (((x2) % 128))) : ℝ) : EReal) :=
  (val_main_v261_apply I.x0 I.x1 I.x2 I.x3 I.x5 I.x6 I.x8 i).trans (L_v233 I _ x0 u1 v1 (((x2) / 128)) (((x2) % 128)) hx0 hu1 hv1 (by omega) (by omega) (show (((i 0).val * 2112 + (i 1).val) * 256 + (i 2).val) / 16384 = 33 * x0 + u1 from by omega) (show (((i 0).val * 2112 + (i 1).val) * 256 + (i 2).val) / 256 % 64 = v1 from by omega) (show (((i 0).val * 2112 + (i 1).val) * 256 + (i 2).val) / 128 % 2 = (((x2) / 128)) from by omega) (show (((i 0).val * 2112 + (i 1).val) * 256 + (i 2).val) % 128 = (((x2) % 128)) from by omega))

theorem L_v263 (I : Inp) (i : S2x2064x256.Idx) (x0 x1 x2 : ℕ) (hx0 : x0 < 2) (hx1 : x1 < 2064) (hx2 : x2 < 256) (e0 : (i 0).val = x0) (e1 : (i 1).val = x1) (e2 : (i 2).val = x2) : @Eq EReal (val_main_v263 (F := Ideal) I.x0 I.x1 I.x2 I.x3 I.x5 I.x6 I.x8 i) (((K_v233 I x0 (((x1 + 48) / 64)) (((x1 + 48) % 64)) (((x2) / 128)) (((x2) % 128))) : ℝ) : EReal) :=
  (val_main_v263_apply I.x0 I.x1 I.x2 I.x3 I.x5 I.x6 I.x8 i).trans (L_v261 I _ x0 (((x1 + 48) / 64)) (((x1 + 48) % 64)) x2 hx0 (by omega) (by omega) hx2 e0 (show 48 + (i 1).val = 64 * (((x1 + 48) / 64)) + (((x1 + 48) % 64)) from by omega) e2)

theorem L_v264 (I : Inp) (i : S4128x256.Idx) (u0 v0 x1 : ℕ) (hu0 : u0 < 2) (hv0 : v0 < 2064) (hx1 : x1 < 256) (e0 : (i 0).val = 2064 * u0 + v0) (e1 : (i 1).val = x1) : @Eq EReal (val_main_v264 (F := Ideal) I.x0 I.x1 I.x2 I.x3 I.x5 I.x6 I.x8 i) (((K_v233 I u0 (((v0 + 48) / 64)) (((v0 + 48) % 64)) (((x1) / 128)) (((x1) % 128))) : ℝ) : EReal) :=
  (val_main_v264_apply I.x0 I.x1 I.x2 I.x3 I.x5 I.x6 I.x8 i).trans (L_v263 I _ u0 v0 x1 hu0 hv0 hx1 (show ((i 0).val * 256 + (i 1).val) / 528384 = u0 from by omega) (show ((i 0).val * 256 + (i 1).val) / 256 % 2064 = v0 from by omega) (show ((i 0).val * 256 + (i 1).val) % 256 = x1 from by omega))

theorem L_v265 (I : Inp) (i : S2x2112x16.Idx) (x0 u1 v1 x2 : ℕ) (hx0 : x0 < 2) (hu1 : u1 < 33) (hv1 : v1 < 64) (hx2 : x2 < 16) (e0 : (i 0).val = x0) (e1 : (i 1).val = 64 * u1 + v1) (e2 : (i 2).val = x2) : @Eq EReal (val_main_v265 (F := Ideal) I.x0 I.x1 I.x2 I.x3 I.x4 I.x5 I.x6 I.x8 i) (((K_v256 I x0 u1 v1 x2) : ℝ) : EReal) :=
  (val_main_v265_apply I.x0 I.x1 I.x2 I.x3 I.x4 I.x5 I.x6 I.x8 i).trans (L_v256 I _ x0 u1 v1 x2 hx0 hu1 hv1 hx2 (show (((i 0).val * 2112 + (i 1).val) * 16 + (i 2).val) / 1024 = 33 * x0 + u1 from by omega) (show (((i 0).val * 2112 + (i 1).val) * 16 + (i 2).val) / 16 % 64 = v1 from by omega) (show (((i 0).val * 2112 + (i 1).val) * 16 + (i 2).val) % 16 = x2 from by omega))

theorem L_v267 (I : Inp) (i : S2x2064x16.Idx) (x0 x1 x2 : ℕ) (hx0 : x0 < 2) (hx1 : x1 < 2064) (hx2 : x2 < 16) (e0 : (i 0).val = x0) (e1 : (i 1).val = x1) (e2 : (i 2).val = x2) : @Eq EReal (val_main_v267 (F := Ideal) I.x0 I.x1 I.x2 I.x3 I.x4 I.x5 I.x6 I.x8 i) (((K_v256 I x0 (((x1 + 48) / 64)) (((x1 + 48) % 64)) x2) : ℝ) : EReal) :=
  (val_main_v267_apply I.x0 I.x1 I.x2 I.x3 I.x4 I.x5 I.x6 I.x8 i).trans (L_v265 I _ x0 (((x1 + 48) / 64)) (((x1 + 48) % 64)) x2 hx0 (by omega) (by omega) hx2 e0 (show 48 + (i 1).val = 64 * (((x1 + 48) / 64)) + (((x1 + 48) % 64)) from by omega) e2)

theorem L_v268 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v268 (F := Ideal) I.x0 I.x1 I.x2 I.x3 I.x4 I.x5 I.x6 I.x8 i) (((K_v256 I u0 (((v0 + 48) / 64)) (((v0 + 48) % 64)) x1) : ℝ) : EReal) :=
  (val_main_v268_apply I.x0 I.x1 I.x2 I.x3 I.x4 I.x5 I.x6 I.x8 i).trans (L_v267 I _ u0 v0 x1 hu0 hv0 hx1 (show ((i 0).val * 16 + (i 1).val) / 33024 = u0 from by omega) (show ((i 0).val * 16 + (i 1).val) / 16 % 2064 = v0 from by omega) (show ((i 0).val * 16 + (i 1).val) % 16 = x1 from by omega))

theorem L_v269 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v269 (F := Ideal) I.x0 I.x1 I.x2 I.x3 I.x4 I.x5 I.x6 I.x8 i) (((K_v269 I u0 v0 x1) : ℝ) : EReal) :=
  by unfold K_v269; exact (val_main_v269_apply I.x0 I.x1 I.x2 I.x3 I.x4 I.x5 I.x6 I.x8 i).trans (mulR (L_v74_0 I _ u0 v0 x1 hu0 hv0 hx1 e0 e1) (L_v268 I _ u0 v0 x1 hu0 hv0 hx1 e0 e1))

theorem L_cst_38 (I : Inp) (i : S_.Idx) : @Eq EReal (val_main_cst_38 (F := Ideal) i) (((0 : ℝ) : ℝ) : EReal) :=
  (val_main_cst_38_apply (F := Ideal) i).trans zeroR

theorem L_v270 (I : Inp) (i : S16.Idx) (x0 : ℕ) (hx0 : x0 < 16) (e0 : (i 0).val = x0) : @Eq EReal (val_main_v270 (F := Ideal) I.x0 I.x1 I.x2 I.x3 I.x4 I.x5 I.x6 I.x8 i) (((K_v270 I x0) : ℝ) : EReal) :=
  by unfold K_v270; exact (val_main_v270_apply I.x0 I.x1 I.x2 I.x3 I.x4 I.x5 I.x6 I.x8 i).trans (redR (L_cst_38 I _) fun k => (L_v269 I _ (((k.val) / 2064)) (((k.val) % 2064)) x0 (by omega) (by omega) hx0 (show k.val = 2064 * (((k.val) / 2064)) + (((k.val) % 2064)) from by omega) e0))

theorem L_v271 (I : Inp) (i : S1x16.Idx) (x1 : ℕ) (hx1 : x1 < 16) (e0 : (i 0).val = 0) (e1 : (i 1).val = x1) : @Eq EReal (val_main_v271 (F := Ideal) I.x0 I.x1 I.x2 I.x3 I.x4 I.x5 I.x6 I.x8 i) (((K_v270 I x1) : ℝ) : EReal) :=
  (val_main_v271_apply I.x0 I.x1 I.x2 I.x3 I.x4 I.x5 I.x6 I.x8 i).trans (L_v270 I _ x1 hx1 (show (i 0).val * 16 + (i 1).val = x1 from by omega))

theorem L_v272 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v272 (F := Ideal) I.x6 i) (((K_v76 I x1) : ℝ) : EReal) :=
  (val_main_v272_apply I.x6 i).trans (L_v98 I _ x1 hx1 rfl e1)

theorem L_v273 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v273 (F := Ideal) I.x0 I.x1 I.x2 I.x3 I.x4 I.x5 I.x6 I.x8 i) (((K_v273 I u0 v0 x1) : ℝ) : EReal) :=
  by unfold K_v273; exact (val_main_v273_apply I.x0 I.x1 I.x2 I.x3 I.x4 I.x5 I.x6 I.x8 i).trans (mulR (L_v268 I _ u0 v0 x1 hu0 hv0 hx1 e0 e1) (L_v272 I _ u0 v0 x1 hu0 hv0 hx1 e0 e1))

theorem L_cst_39 (I : Inp) (i : S_.Idx) : @Eq EReal (val_main_cst_39 (F := Ideal) i) (((0 : ℝ) : ℝ) : EReal) :=
  (val_main_cst_39_apply (F := Ideal) i).trans zeroR

theorem L_v274 (I : Inp) (i : S16.Idx) (x0 : ℕ) (hx0 : x0 < 16) (e0 : (i 0).val = x0) : @Eq EReal (val_main_v274 (F := Ideal) I.x0 I.x1 I.x2 I.x3 I.x4 I.x5 I.x6 I.x8 i) (((K_v270 I x0) : ℝ) : EReal) :=
  (val_main_v274_apply I.x0 I.x1 I.x2 I.x3 I.x4 I.x5 I.x6 I.x8 i).trans (red1R (L_cst_39 I _) (L_v271 I _ x0 hx0 rfl e0))

theorem L_v275 (I : Inp) (i : S2x2112x1024.Idx) (x0 u1 v1 x2 : ℕ) (hx0 : x0 < 2) (hu1 : u1 < 33) (hv1 : v1 < 64) (hx2 : x2 < 1024) (e0 : (i 0).val = x0) (e1 : (i 1).val = 64 * u1 + v1) (e2 : (i 2).val = x2) : @Eq EReal (val_main_v275 (F := Ideal) I.x0 I.x1 I.x3 I.x8 i) (((K_v55 I x0 u1 v1 x2) : ℝ) : EReal) :=
  (val_main_v275_apply I.x0 I.x1 I.x3 I.x8 i).trans (L_v56 I _ x0 u1 v1 x2 hx0 hu1 hv1 hx2 (show (((i 0).val * 2112 + (i 1).val) * 1024 + (i 2).val) / 65536 = 33 * x0 + u1 from by omega) (show (((i 0).val * 2112 + (i 1).val) * 1024 + (i 2).val) / 1024 % 64 = v1 from by omega) (show (((i 0).val * 2112 + (i 1).val) * 1024 + (i 2).val) % 1024 = x2 from by omega))

theorem L_v277 (I : Inp) (i : S2x2064x1024.Idx) (x0 x1 x2 : ℕ) (hx0 : x0 < 2) (hx1 : x1 < 2064) (hx2 : x2 < 1024) (e0 : (i 0).val = x0) (e1 : (i 1).val = x1) (e2 : (i 2).val = x2) : @Eq EReal (val_main_v277 (F := Ideal) I.x0 I.x1 I.x3 I.x8 i) (((K_v55 I x0 (((x1 + 48) / 64)) (((x1 + 48) % 64)) x2) : ℝ) : EReal) :=
  (val_main_v277_apply I.x0 I.x1 I.x3 I.x8 i).trans (L_v275 I _ x0 (((x1 + 48) / 64)) (((x1 + 48) % 64)) x2 hx0 (by omega) (by omega) hx2 e0 (show 48 + (i 1).val = 64 * (((x1 + 48) / 64)) + (((x1 + 48) % 64)) from by omega) e2)

theorem L_v278 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v278 (F := Ideal) I.x0 I.x1 I.x3 I.x8 i) (((K_v55 I u0 (((v0 + 48) / 64)) (((v0 + 48) % 64)) x1) : ℝ) : EReal) :=
  (val_main_v278_apply I.x0 I.x1 I.x3 I.x8 i).trans (L_v277 I _ u0 v0 x1 hu0 hv0 hx1 (show ((i 0).val * 1024 + (i 1).val) / 2113536 = u0 from by omega) (show ((i 0).val * 1024 + (i 1).val) / 1024 % 2064 = v0 from by omega) (show ((i 0).val * 1024 + (i 1).val) % 1024 = x1 from by omega))

theorem L_v279 (I : Inp) (i : S4128x16x64.Idx) (u0 v0 x1 x2 : ℕ) (hu0 : u0 < 2) (hv0 : v0 < 2064) (hx1 : x1 < 16) (hx2 : x2 < 64) (e0 : (i 0).val = 2064 * u0 + v0) (e1 : (i 1).val = x1) (e2 : (i 2).val = x2) : @Eq EReal (val_main_v279 (F := Ideal) I.x0 I.x1 I.x3 I.x8 i) (((K_v55 I u0 (((v0 + 48) / 64)) (((v0 + 48) % 64)) (64 * x1 + x2)) : ℝ) : EReal) :=
  (val_main_v279_apply I.x0 I.x1 I.x3 I.x8 i).trans (L_v278 I _ u0 v0 (64 * x1 + x2) hu0 hv0 (by omega) (show (((i 0).val * 16 + (i 1).val) * 64 + (i 2).val) / 1024 = 2064 * u0 + v0 from by omega) (show (((i 0).val * 16 + (i 1).val) * 64 + (i 2).val) % 1024 = (64 * x1 + x2) from by omega))

theorem L_v280 (I : Inp) (i : S4128x16x64.Idx) (u0 v0 x1 x2 : ℕ) (hu0 : u0 < 2) (hv0 : v0 < 2064) (hx1 : x1 < 16) (hx2 : x2 < 64) (e0 : (i 0).val = 2064 * u0 + v0) (e1 : (i 1).val = x1) (e2 : (i 2).val = x2) : @Eq EReal (val_main_v280 (F := Ideal) I.x0 I.x1 I.x2 I.x3 I.x8 i) (((K_v280 I u0 v0 x1 x2) : ℝ) : EReal) :=
  by unfold K_v280; exact (val_main_v280_apply I.x0 I.x1 I.x2 I.x3 I.x8 i).trans (mulR (L_v77 I _ u0 v0 x1 x2 hu0 hv0 hx1 hx2 e0 e1 e2) (L_v279 I _ u0 v0 x1 x2 hu0 hv0 hx1 hx2 e0 e1 e2))

theorem L_cst_40 (I : Inp) (i : S_.Idx) : @Eq EReal (val_main_cst_40 (F := Ideal) i) (((0 : ℝ) : ℝ) : EReal) :=
  (val_main_cst_40_apply (F := Ideal) i).trans zeroR

theorem L_v281 (I : Inp) (i : S16x64.Idx) (x0 x1 : ℕ) (hx0 : x0 < 16) (hx1 : x1 < 64) (e0 : (i 0).val = x0) (e1 : (i 1).val = x1) : @Eq EReal (val_main_v281 (F := Ideal) I.x0 I.x1 I.x2 I.x3 I.x8 i) (((K_v281 I x0 x1) : ℝ) : EReal) :=
  by unfold K_v281; exact (val_main_v281_apply I.x0 I.x1 I.x2 I.x3 I.x8 i).trans (redR (L_cst_40 I _) fun k => (L_v280 I _ (((k.val) / 2064)) (((k.val) % 2064)) x0 x1 (by omega) (by omega) hx0 hx1 (show k.val = 2064 * (((k.val) / 2064)) + (((k.val) % 2064)) from by omega) e0 e1))

theorem L_v282 (I : Inp) (i : S1x16x64.Idx) (x1 x2 : ℕ) (hx1 : x1 < 16) (hx2 : x2 < 64) (e0 : (i 0).val = 0) (e1 : (i 1).val = x1) (e2 : (i 2).val = x2) : @Eq EReal (val_main_v282 (F := Ideal) I.x0 I.x1 I.x2 I.x3 I.x8 i) (((K_v281 I x1 x2) : ℝ) : EReal) :=
  (val_main_v282_apply I.x0 I.x1 I.x2 I.x3 I.x8 i).trans (L_v281 I _ x1 x2 hx1 hx2 (show (((i 0).val * 16 + (i 1).val) * 64 + (i 2).val) / 64 = x1 from by omega) (show (((i 0).val * 16 + (i 1).val) * 64 + (i 2).val) % 64 = x2 from by omega))

theorem L_v283 (I : Inp) (i : S4128x16x64.Idx) (u0 v0 x1 x2 : ℕ) (hu0 : u0 < 2) (hv0 : v0 < 2064) (hx1 : x1 < 16) (hx2 : x2 < 64) (e0 : (i 0).val = 2064 * u0 + v0) (e1 : (i 1).val = x1) (e2 : (i 2).val = x2) : @Eq EReal (val_main_v283 (F := Ideal) I.x7 i) (((I.a7 x1) : ℝ) : EReal) :=
  (val_main_v283_apply I.x7 i).trans (L_v89 I _ x1 x2 hx1 hx2 rfl e1 e2)

theorem L_v284 (I : Inp) (i : S4128x16x64.Idx) (u0 v0 x1 x2 : ℕ) (hu0 : u0 < 2) (hv0 : v0 < 2064) (hx1 : x1 < 16) (hx2 : x2 < 64) (e0 : (i 0).val = 2064 * u0 + v0) (e1 : (i 1).val = x1) (e2 : (i 2).val = x2) : @Eq EReal (val_main_v284 (F := Ideal) I.x0 I.x1 I.x3 I.x7 I.x8 i) (((K_v284 I u0 v0 x1 x2) : ℝ) : EReal) :=
  by unfold K_v284; exact (val_main_v284_apply I.x0 I.x1 I.x3 I.x7 I.x8 i).trans (mulR (L_v279 I _ u0 v0 x1 x2 hu0 hv0 hx1 hx2 e0 e1 e2) (L_v283 I _ u0 v0 x1 x2 hu0 hv0 hx1 hx2 e0 e1 e2))

theorem L_cst_41 (I : Inp) (i : S_.Idx) : @Eq EReal (val_main_cst_41 (F := Ideal) i) (((0 : ℝ) : ℝ) : EReal) :=
  (val_main_cst_41_apply (F := Ideal) i).trans zeroR

theorem L_v285 (I : Inp) (i : S16x64.Idx) (x0 x1 : ℕ) (hx0 : x0 < 16) (hx1 : x1 < 64) (e0 : (i 0).val = x0) (e1 : (i 1).val = x1) : @Eq EReal (val_main_v285 (F := Ideal) I.x0 I.x1 I.x2 I.x3 I.x8 i) (((K_v281 I x0 x1) : ℝ) : EReal) :=
  (val_main_v285_apply I.x0 I.x1 I.x2 I.x3 I.x8 i).trans (red1R (L_cst_41 I _) (L_v282 I _ x0 x1 hx0 hx1 rfl e0 e1))

theorem L_cst_42 (I : Inp) (i : S_.Idx) : @Eq EReal (val_main_cst_42 (F := Ideal) i) (((0 : ℝ) : ℝ) : EReal) :=
  (val_main_cst_42_apply (F := Ideal) i).trans zeroR

theorem L_v286 (I : Inp) (i : S16.Idx) (x0 : ℕ) (hx0 : x0 < 16) (e0 : (i 0).val = x0) : @Eq EReal (val_main_v286 (F := Ideal) I.x0 I.x1 I.x2 I.x3 I.x8 i) (((K_v286 I x0) : ℝ) : EReal) :=
  by unfold K_v286; exact (val_main_v286_apply I.x0 I.x1 I.x2 I.x3 I.x8 i).trans (redR (L_cst_42 I _) fun k => (L_v285 I _ x0 k.val hx0 k.isLt e0 rfl))

theorem L_v287 (I : Inp) (i : S16x1.Idx) (x0 : ℕ) (hx0 : x0 < 16) (e0 : (i 0).val = x0) (e1 : (i 1).val = 0) : @Eq EReal (val_main_v287 (F := Ideal) I.x0 I.x1 I.x2 I.x3 I.x8 i) (((K_v286 I x0) : ℝ) : EReal) :=
  (val_main_v287_apply I.x0 I.x1 I.x2 I.x3 I.x8 i).trans (L_v286 I _ x0 hx0 e0)

theorem L_cst_43 (I : Inp) (i : S_.Idx) : @Eq EReal (val_main_cst_43 (F := Ideal) i) (((0 : ℝ) : ℝ) : EReal) :=
  (val_main_cst_43_apply (F := Ideal) i).trans zeroR

theorem L_v288 (I : Inp) (i : S16.Idx) (x0 : ℕ) (hx0 : x0 < 16) (e0 : (i 0).val = x0) : @Eq EReal (val_main_v288 (F := Ideal) I.x0 I.x1 I.x2 I.x3 I.x8 i) (((K_v286 I x0) : ℝ) : EReal) :=
  (val_main_v288_apply I.x0 I.x1 I.x2 I.x3 I.x8 i).trans (red1R (L_cst_43 I _) (L_v287 I _ x0 hx0 e0 rfl))

theorem L_v289 (I : Inp) (i : S2x2112x1024.Idx) (x0 u1 v1 x2 : ℕ) (hx0 : x0 < 2) (hu1 : u1 < 33) (hv1 : v1 < 64) (hx2 : x2 < 1024) (e0 : (i 0).val = x0) (e1 : (i 1).val = 64 * u1 + v1) (e2 : (i 2).val = x2) : @Eq EReal (val_main_v289 (F := Ideal) I.x0 I.x1 I.x2 I.x3 I.x5 I.x6 I.x8 i) (((K_v224 I x0 u1 v1 (((x2) / 512)) (((((x2) / 64)) % 8)) (((x2) % 64))) : ℝ) : EReal) :=
  (val_main_v289_apply I.x0 I.x1 I.x2 I.x3 I.x5 I.x6 I.x8 i).trans (L_v224 I _ x0 u1 v1 (((x2) / 512)) (((((x2) / 64)) % 8)) (((x2) % 64)) hx0 hu1 hv1 (by omega) (by omega) (by omega) (show (((i 0).val * 2112 + (i 1).val) * 1024 + (i 2).val) / 65536 = 33 * x0 + u1 from by omega) (show (((i 0).val * 2112 + (i 1).val) * 1024 + (i 2).val) / 1024 % 64 = v1 from by omega) (show (((i 0).val * 2112 + (i 1).val) * 1024 + (i 2).val) / 512 % 2 = (((x2) / 512)) from by omega) (show (((i 0).val * 2112 + (i 1).val) * 1024 + (i 2).val) / 64 % 8 = (((((x2) / 64)) % 8)) from by omega) (show (((i 0).val * 2112 + (i 1).val) * 1024 + (i 2).val) % 64 = (((x2) % 64)) from by omega))

theorem L_v291 (I : Inp) (i : S2x2064x1024.Idx) (x0 x1 x2 : ℕ) (hx0 : x0 < 2) (hx1 : x1 < 2064) (hx2 : x2 < 1024) (e0 : (i 0).val = x0) (e1 : (i 1).val = x1) (e2 : (i 2).val = x2) : @Eq EReal (val_main_v291 (F := Ideal) I.x0 I.x1 I.x2 I.x3 I.x5 I.x6 I.x8 i) (((K_v224 I x0 (((x1 + 48) / 64)) (((x1 + 48) % 64)) (((x2) / 512)) (((((x2) / 64)) % 8)) (((x2) % 64))) : ℝ) : EReal) :=
  (val_main_v291_apply I.x0 I.x1 I.x2 I.x3 I.x5 I.x6 I.x8 i).trans (L_v289 I _ x0 (((x1 + 48) / 64)) (((x1 + 48) % 64)) x2 hx0 (by omega) (by omega) hx2 e0 (show 48 + (i 1).val = 64 * (((x1 + 48) / 64)) + (((x1 + 48) % 64)) from by omega) e2)

theorem L_v292 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v292 (F := Ideal) I.x0 I.x1 I.x2 I.x3 I.x5 I.x6 I.x8 i) (((K_v224 I u0 (((v0 + 48) / 64)) (((v0 + 48) % 64)) (((x1) / 512)) (((((x1) / 64)) % 8)) (((x1) % 64))) : ℝ) : EReal) :=
  (val_main_v292_apply I.x0 I.x1 I.x2 I.x3 I.x5 I.x6 I.x8 i).trans (L_v291 I _ u0 v0 x1 hu0 hv0 hx1 (show ((i 0).val * 1024 + (i 1).val) / 2113536 = u0 from by omega) (show ((i 0).val * 1024 + (i 1).val) / 1024 % 2064 = v0 from by omega) (show ((i 0).val * 1024 + (i 1).val) % 1024 = x1 from by omega))

theorem L_v293 (I : Inp) (i : S4128x16x64.Idx) (u0 v0 x1 x2 : ℕ) (hu0 : u0 < 2) (hv0 : v0 < 2064) (hx1 : x1 < 16) (hx2 : x2 < 64) (e0 : (i 0).val = 2064 * u0 + v0) (e1 : (i 1).val = x1) (e2 : (i 2).val = x2) : @Eq EReal (val_main_v293 (F := Ideal) I.x0 I.x1 I.x2 I.x3 I.x5 I.x6 I.x8 i) (((K_v224 I u0 (((v0 + 48) / 64)) (((v0 + 48) % 64)) ((((64 * x1 + x2)) / 512)) ((((((64 * x1 + x2)) / 64)) % 8)) ((((64 * x1 + x2)) % 64))) : ℝ) : EReal) :=
  (val_main_v293_apply I.x0 I.x1 I.x2 I.x3 I.x5 I.x6 I.x8 i).trans (L_v292 I _ u0 v0 (64 * x1 + x2) hu0 hv0 (by omega) (show (((i 0).val * 16 + (i 1).val) * 64 + (i 2).val) / 1024 = 2064 * u0 + v0 from by omega) (show (((i 0).val * 16 + (i 1).val) * 64 + (i 2).val) % 1024 = (64 * x1 + x2) from by omega))

theorem L_v294 (I : Inp) (i : S4128x16x64.Idx) (u0 v0 x1 x2 : ℕ) (hu0 : u0 < 2) (hv0 : v0 < 2064) (hx1 : x1 < 16) (hx2 : x2 < 64) (e0 : (i 0).val = 2064 * u0 + v0) (e1 : (i 1).val = x1) (e2 : (i 2).val = x2) : @Eq EReal (val_main_v294 (F := Ideal) I.x0 I.x1 I.x2 I.x3 I.x5 I.x6 I.x8 i) (((K_v294 I u0 v0 x1 x2) : ℝ) : EReal) :=
  by unfold K_v294; exact (val_main_v294_apply I.x0 I.x1 I.x2 I.x3 I.x5 I.x6 I.x8 i).trans (mulR (L_v77 I _ u0 v0 x1 x2 hu0 hv0 hx1 hx2 e0 e1 e2) (L_v293 I _ u0 v0 x1 x2 hu0 hv0 hx1 hx2 e0 e1 e2))

theorem L_cst_44 (I : Inp) (i : S_.Idx) : @Eq EReal (val_main_cst_44 (F := Ideal) i) (((0 : ℝ) : ℝ) : EReal) :=
  (val_main_cst_44_apply (F := Ideal) i).trans zeroR

theorem L_v295 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v295 (F := Ideal) I.x0 I.x1 I.x2 I.x3 I.x5 I.x6 I.x8 i) (((K_v295 I u0 v0 x1) : ℝ) : EReal) :=
  by unfold K_v295; exact (val_main_v295_apply I.x0 I.x1 I.x2 I.x3 I.x5 I.x6 I.x8 i).trans (redR (L_cst_44 I _) fun k => (L_v294 I _ u0 v0 x1 k.val hu0 hv0 hx1 k.isLt e0 e1 rfl))

theorem L_v296 (I : Inp) (i : S4128x16x1.Idx) (u0 v0 x1 : ℕ) (hu0 : u0 < 2) (hv0 : v0 < 2064) (hx1 : x1 < 16) (e0 : (i 0).val = 2064 * u0 + v0) (e1 : (i 1).val = x1) (e2 : (i 2).val = 0) : @Eq EReal (val_main_v296 (F := Ideal) I.x0 I.x1 I.x2 I.x3 I.x5 I.x6 I.x8 i) (((K_v295 I u0 v0 x1) : ℝ) : EReal) :=
  (val_main_v296_apply I.x0 I.x1 I.x2 I.x3 I.x5 I.x6 I.x8 i).trans (L_v295 I _ u0 v0 x1 hu0 hv0 hx1 (show (((i 0).val * 16 + (i 1).val) * 1 + (i 2).val) / 16 = 2064 * u0 + v0 from by omega) (show (((i 0).val * 16 + (i 1).val) * 1 + (i 2).val) % 16 = x1 from by omega))

theorem L_v297 (I : Inp) (i : S4128x16x64.Idx) (u0 v0 x1 x2 : ℕ) (hu0 : u0 < 2) (hv0 : v0 < 2064) (hx1 : x1 < 16) (hx2 : x2 < 64) (e0 : (i 0).val = 2064 * u0 + v0) (e1 : (i 1).val = x1) (e2 : (i 2).val = x2) : @Eq EReal (val_main_v297 (F := Ideal) I.x3 I.x5 i) (((K_call4_v11 I u0 v0 x1) : ℝ) : EReal) :=
  (val_main_v297_apply I.x3 I.x5 i).trans (L_v78 I _ u0 v0 x1 hu0 hv0 hx1 e0 e1 rfl)

theorem L_v298 (I : Inp) (i : S4128x16x64.Idx) (u0 v0 x1 x2 : ℕ) (hu0 : u0 < 2) (hv0 : v0 < 2064) (hx1 : x1 < 16) (hx2 : x2 < 64) (e0 : (i 0).val = 2064 * u0 + v0) (e1 : (i 1).val = x1) (e2 : (i 2).val = x2) : @Eq EReal (val_main_v298 (F := Ideal) I.x0 I.x1 I.x2 I.x3 I.x5 I.x6 I.x8 i) (((K_v298 I u0 v0 x1 x2) : ℝ) : EReal) :=
  by unfold K_v298; exact (val_main_v298_apply I.x0 I.x1 I.x2 I.x3 I.x5 I.x6 I.x8 i).trans (mulR (L_v293 I _ u0 v0 x1 x2 hu0 hv0 hx1 hx2 e0 e1 e2) (L_v297 I _ u0 v0 x1 x2 hu0 hv0 hx1 hx2 e0 e1 e2))

theorem L_v299 (I : Inp) (i : S4128x16x64.Idx) (u0 v0 x1 x2 : ℕ) (hu0 : u0 < 2) (hv0 : v0 < 2064) (hx1 : x1 < 16) (hx2 : x2 < 64) (e0 : (i 0).val = 2064 * u0 + v0) (e1 : (i 1).val = x1) (e2 : (i 2).val = x2) : @Eq EReal (val_main_v299 (F := Ideal) I.x0 I.x1 I.x2 I.x3 I.x5 I.x6 I.x7 I.x8 i) (((K_v299 I u0 v0 x1 x2) : ℝ) : EReal) :=
  by unfold K_v299; exact (val_main_v299_apply I.x0 I.x1 I.x2 I.x3 I.x5 I.x6 I.x7 I.x8 i).trans (addR (L_v284 I _ u0 v0 x1 x2 hu0 hv0 hx1 hx2 e0 e1 e2) (L_v298 I _ u0 v0 x1 x2 hu0 hv0 hx1 hx2 e0 e1 e2))

theorem L_cst_45 (I : Inp) (i : S_.Idx) : @Eq EReal (val_main_cst_45 (F := Ideal) i) (((0 : ℝ) : ℝ) : EReal) :=
  (val_main_cst_45_apply (F := Ideal) i).trans zeroR

theorem L_v300 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v300 (F := Ideal) I.x0 I.x1 I.x2 I.x3 I.x5 I.x6 I.x8 i) (((K_v295 I u0 v0 x1) : ℝ) : EReal) :=
  (val_main_v300_apply I.x0 I.x1 I.x2 I.x3 I.x5 I.x6 I.x8 i).trans (red1R (L_cst_45 I _) (L_v296 I _ u0 v0 x1 hu0 hv0 hx1 e0 e1 rfl))

theorem L_v301 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v301 (F := Ideal) I.x0 I.x1 I.x2 I.x3 I.x4 I.x5 I.x6 I.x8 i) (((K_v301 I u0 v0 x1) : ℝ) : EReal) :=
  by unfold K_v301; exact (val_main_v301_apply I.x0 I.x1 I.x2 I.x3 I.x4 I.x5 I.x6 I.x8 i).trans (addR (L_v273 I _ u0 v0 x1 hu0 hv0 hx1 e0 e1) (L_v300 I _ u0 v0 x1 hu0 hv0 hx1 e0 e1))

theorem L_v302 (I : Inp) (i : S4128x1024.Idx) (u0 v0 x1 : ℕ) (hu0 : u0 < 2) (hv0 : v0 < 2064) (hx1 : x1 < 1024) (e0 : (i 0).val = 2064 * u0 + v0) (e1 : (i 1).val = x1) : @Eq EReal (val_main_v302 (F := Ideal) I.x0 I.x1 I.x2 I.x3 I.x5 I.x6 I.x7 I.x8 i) (((K_v299 I u0 v0 (((x1) / 64)) (((x1) % 64))) : ℝ) : EReal) :=
  (val_main_v302_apply I.x0 I.x1 I.x2 I.x3 I.x5 I.x6 I.x7 I.x8 i).trans (L_v299 I _ u0 v0 (((x1) / 64)) (((x1) % 64)) hu0 hv0 (by omega) (by omega) (show ((i 0).val * 1024 + (i 1).val) / 1024 = 2064 * u0 + v0 from by omega) (show ((i 0).val * 1024 + (i 1).val) / 64 % 16 = (((x1) / 64)) from by omega) (show ((i 0).val * 1024 + (i 1).val) % 64 = (((x1) % 64)) from by omega))

theorem L_v303 (I : Inp) (i : S16.Idx) (x0 : ℕ) (hx0 : x0 < 16) (e0 : (i 0).val = x0) : @Eq EReal (val_main_v303 (F := Ideal) I.x0 I.x1 I.x2 I.x3 I.x4 I.x5 I.x6 I.x8 i) (((K_v303 I x0) : ℝ) : EReal) :=
  by unfold K_v303; exact (val_main_v303_apply I.x0 I.x1 I.x2 I.x3 I.x4 I.x5 I.x6 I.x8 i).trans (negR (L_v274 I _ x0 hx0 e0))

theorem L_v304 (I : Inp) (i : S16.Idx) (x0 : ℕ) (hx0 : x0 < 16) (e0 : (i 0).val = x0) : @Eq EReal (val_main_v304 (F := Ideal) I.x0 I.x1 I.x2 I.x3 I.x4 I.x5 I.x6 I.x8 i) (((K_v304 I x0) : ℝ) : EReal) :=
  by unfold K_v304; exact (val_main_v304_apply I.x0 I.x1 I.x2 I.x3 I.x4 I.x5 I.x6 I.x8 i).trans (mulR (L_v303 I _ x0 hx0 e0) (L_v75 I _ x0 hx0 e0))

theorem L_v305 (I : Inp) (i : S4128x16.Idx) (u0 v0 x1 : ℕ) (hu0 : u0 < 2) (hv0 : v0 < 2064) (hx1 : x1 < 16) (e0 : (i 0).val = 2064 * u0 + v0) (e1 : (i 1).val = x1) : @Eq EReal (val_main_v305 (F := Ideal) I.x0 I.x1 I.x2 I.x3 I.x4 I.x5 I.x6 I.x8 i) (((K_v305 I u0 v0 x1) : ℝ) : EReal) :=
  by unfold K_v305; exact (val_main_v305_apply I.x0 I.x1 I.x2 I.x3 I.x4 I.x5 I.x6 I.x8 i).trans (mulR (L_v301 I _ u0 v0 x1 hu0 hv0 hx1 e0 e1) (L_v74_1 I _ u0 v0 x1 hu0 hv0 hx1 e0 e1))

theorem L_cst_46 (I : Inp) (i : S_.Idx) : @Eq EReal (val_main_cst_46 (F := Ideal) i) (((0 : ℝ) : ℝ) : EReal) :=
  (val_main_cst_46_apply (F := Ideal) i).trans zeroR

theorem L_v306 (I : Inp) (i : S16.Idx) (x0 : ℕ) (hx0 : x0 < 16) (e0 : (i 0).val = x0) : @Eq EReal (val_main_v306 (F := Ideal) I.x0 I.x1 I.x2 I.x3 I.x4 I.x5 I.x6 I.x8 i) (((K_v306 I x0) : ℝ) : EReal) :=
  by unfold K_v306; exact (val_main_v306_apply I.x0 I.x1 I.x2 I.x3 I.x4 I.x5 I.x6 I.x8 i).trans (redR (L_cst_46 I _) fun k => (L_v305 I _ (((k.val) / 2064)) (((k.val) % 2064)) x0 (by omega) (by omega) hx0 (show k.val = 2064 * (((k.val) / 2064)) + (((k.val) % 2064)) from by omega) e0))

theorem L_v307 (I : Inp) (i : S1x16.Idx) (x1 : ℕ) (hx1 : x1 < 16) (e0 : (i 0).val = 0) (e1 : (i 1).val = x1) : @Eq EReal (val_main_v307 (F := Ideal) I.x0 I.x1 I.x2 I.x3 I.x4 I.x5 I.x6 I.x8 i) (((K_v306 I x1) : ℝ) : EReal) :=
  (val_main_v307_apply I.x0 I.x1 I.x2 I.x3 I.x4 I.x5 I.x6 I.x8 i).trans (L_v306 I _ x1 hx1 (show (i 0).val * 16 + (i 1).val = x1 from by omega))

theorem L_cst_47 (I : Inp) (i : S_.Idx) : @Eq EReal (val_main_cst_47 (F := Ideal) i) (((0 : ℝ) : ℝ) : EReal) :=
  (val_main_cst_47_apply (F := Ideal) i).trans zeroR

theorem L_v308 (I : Inp) (i : S16.Idx) (x0 : ℕ) (hx0 : x0 < 16) (e0 : (i 0).val = x0) : @Eq EReal (val_main_v308 (F := Ideal) I.x0 I.x1 I.x2 I.x3 I.x4 I.x5 I.x6 I.x8 i) (((K_v306 I x0) : ℝ) : EReal) :=
  (val_main_v308_apply I.x0 I.x1 I.x2 I.x3 I.x4 I.x5 I.x6 I.x8 i).trans (red1R (L_cst_47 I _) (L_v307 I _ x0 hx0 rfl e0))

theorem L_v309 (I : Inp) (i : S4128x1536.Idx) (u0 v0 x1 : ℕ) (hu0 : u0 < 2) (hv0 : v0 < 2064) (hx1 : x1 < 1536) (e0 : (i 0).val = 2064 * u0 + v0) (e1 : (i 1).val = x1) : @Eq EReal (val_main_v309 (F := Ideal) I.x0 I.x1 I.x2 I.x3 I.x4 I.x5 I.x6 I.x7 I.x8 i) (((K_v309 I u0 v0 x1) : ℝ) : EReal) :=
  by unfold K_v309; exact (cat3C e1 (fun hR j f0 f1 => L_v302 I j u0 v0 x1 hu0 hv0 (by omega) (f0.trans e0) f1) (fun hR hR2 j f0 f1 => L_v264 I j u0 v0 (x1 - 1024) hu0 hv0 (by omega) (f0.trans e0) f1) (fun hR j f0 f1 => L_v260 I j u0 v0 (x1 - 1280) hu0 hv0 (by omega) (f0.trans e0) f1))

theorem L_v310 (I : Inp) (i : S2x2064x1536.Idx) (x0 x1 x2 : ℕ) (hx0 : x0 < 2) (hx1 : x1 < 2064) (hx2 : x2 < 1536) (e0 : (i 0).val = x0) (e1 : (i 1).val = x1) (e2 : (i 2).val = x2) : @Eq EReal (val_main_v310 (F := Ideal) I.x0 I.x1 I.x2 I.x3 I.x4 I.x5 I.x6 I.x7 I.x8 i) (((K_v309 I x0 x1 x2) : ℝ) : EReal) :=
  (val_main_v310_apply I.x0 I.x1 I.x2 I.x3 I.x4 I.x5 I.x6 I.x7 I.x8 i).trans (L_v309 I _ x0 x1 x2 hx0 hx1 hx2 (show (((i 0).val * 2064 + (i 1).val) * 1536 + (i 2).val) / 1536 = 2064 * x0 + x1 from by omega) (show (((i 0).val * 2064 + (i 1).val) * 1536 + (i 2).val) % 1536 = x2 from by omega))

theorem L_cst_48 (I : Inp) (i : S_.Idx) : @Eq EReal (val_main_cst_48 (F := Ideal) i) (((0 : ℝ) : ℝ) : EReal) :=
  (val_main_cst_48_apply (F := Ideal) i).trans zeroR

theorem L_v311 (I : Inp) (i : S2x48x1536.Idx) (x0 x1 x2 : ℕ) (hx0 : x0 < 2) (hx1 : x1 < 48) (hx2 : x2 < 1536) (e0 : (i 0).val = x0) (e1 : (i 1).val = x1) (e2 : (i 2).val = x2) : @Eq EReal (val_main_v311 (F := Ideal) i) (((0 : ℝ) : ℝ) : EReal) :=
  (val_main_v311_apply (F := Ideal) i).trans (L_cst_48 I _ )

theorem L_v312 (I : Inp) (i : S2x2112x1536.Idx) (x0 u1 v1 x2 : ℕ) (hx0 : x0 < 2) (hu1 : u1 < 33) (hv1 : v1 < 64) (hx2 : x2 < 1536) (e0 : (i 0).val = x0) (e1 : (i 1).val = 64 * u1 + v1) (e2 : (i 2).val = x2) : @Eq EReal (val_main_v312 (F := Ideal) I.x0 I.x1 I.x2 I.x3 I.x4 I.x5 I.x6 I.x7 I.x8 i) (((K_v312 I x0 u1 v1 x2) : ℝ) : EReal) :=
  by unfold K_v312; exact (catP e1 (fun j => L_v311 I j _ _ _ (j 0).isLt (j 1).isLt (j 2).isLt rfl rfl rfl) fun hR j f0 f1 f2 => L_v310 I j x0 (64 * u1 + v1 - 48) x2 hx0 (by omega) hx2 (f0.trans e0) f1 (f2.trans e2))

theorem L_v313 (I : Inp) (i : S2x2112x1536.Idx) (x0 u1 v1 x2 : ℕ) (hx0 : x0 < 2) (hu1 : u1 < 33) (hv1 : v1 < 64) (hx2 : x2 < 1536) (e0 : (i 0).val = x0) (e1 : (i 1).val = 64 * u1 + v1) (e2 : (i 2).val = x2) : @Eq EReal (val_main_v313 (F := Ideal) I.x0 I.x1 I.x2 I.x3 I.x4 I.x5 I.x6 I.x7 I.x8 i) (((K_v312 I x0 u1 v1 x2) : ℝ) : EReal) :=
  (val_main_v313_apply I.x0 I.x1 I.x2 I.x3 I.x4 I.x5 I.x6 I.x7 I.x8 i).trans (truncR (L_v312 I _ x0 u1 v1 x2 hx0 hu1 hv1 hx2 e0 e1 e2))

theorem L_cst_49 (I : Inp) (i : S_.Idx) : @Eq EReal (val_main_cst_49 (F := Ideal) i) (((0 : ℝ) : ℝ) : EReal) :=
  (val_main_cst_49_apply (F := Ideal) i).trans zeroR

theorem L_v314 (I : Inp) (i : S4128x112.Idx) (u0 v0 x1 : ℕ) (hu0 : u0 < 2) (hv0 : v0 < 2064) (hx1 : x1 < 112) (e0 : (i 0).val = 2064 * u0 + v0) (e1 : (i 1).val = x1) : @Eq EReal (val_main_v314 (F := Ideal) i) (((0 : ℝ) : ℝ) : EReal) :=
  (val_main_v314_apply (F := Ideal) i).trans (L_cst_49 I _ )

theorem L_v315 (I : Inp) (i : S4128x128.Idx) (u0 v0 x1 : ℕ) (hu0 : u0 < 2) (hv0 : v0 < 2064) (hx1 : x1 < 128) (e0 : (i 0).val = 2064 * u0 + v0) (e1 : (i 1).val = x1) : @Eq EReal (val_main_v315 (F := Ideal) I.x0 I.x1 I.x2 I.x3 I.x4 I.x5 I.x6 I.x8 i) (((K_v315 I u0 v0 x1) : ℝ) : EReal) :=
  by unfold K_v315; exact (cat2C rfl e1 (fun hR j f0 f1 => L_v305 I j u0 v0 x1 hu0 hv0 (by omega) (f0.trans e0) f1) (fun hR j f0 f1 => L_v314 I j u0 v0 (x1 - 16) hu0 hv0 (by omega) (f0.trans e0) f1))

theorem L_v316 (I : Inp) (i : S4128x1152.Idx) (u0 v0 x1 : ℕ) (hu0 : u0 < 2) (hv0 : v0 < 2064) (hx1 : x1 < 1152) (e0 : (i 0).val = 2064 * u0 + v0) (e1 : (i 1).val = x1) : @Eq EReal (val_main_v316 (F := Ideal) I.x0 I.x1 I.x2 I.x3 I.x4 I.x5 I.x6 I.x8 i) (((K_v316 I u0 v0 x1) : ℝ) : EReal) :=
  by unfold K_v316; exact (cat2C rfl e1 (fun hR j f0 f1 => L_v48 I j u0 v0 x1 hu0 hv0 (by omega) (f0.trans e0) f1) (fun hR j f0 f1 => L_v315 I j u0 v0 (x1 - 1024) hu0 hv0 (by omega) (f0.trans e0) f1))

theorem L_v317 (I : Inp) (i : S2x2064x1152.Idx) (x0 x1 x2 : ℕ) (hx0 : x0 < 2) (hx1 : x1 < 2064) (hx2 : x2 < 1152) (e0 : (i 0).val = x0) (e1 : (i 1).val = x1) (e2 : (i 2).val = x2) : @Eq EReal (val_main_v317 (F := Ideal) I.x0 I.x1 I.x2 I.x3 I.x4 I.x5 I.x6 I.x8 i) (((K_v316 I x0 x1 x2) : ℝ) : EReal) :=
  (val_main_v317_apply I.x0 I.x1 I.x2 I.x3 I.x4 I.x5 I.x6 I.x8 i).trans (L_v316 I _ x0 x1 x2 hx0 hx1 hx2 (show (((i 0).val * 2064 + (i 1).val) * 1152 + (i 2).val) / 1152 = 2064 * x0 + x1 from by omega) (show (((i 0).val * 2064 + (i 1).val) * 1152 + (i 2).val) % 1152 = x2 from by omega))

theorem L_cst_50 (I : Inp) (i : S_.Idx) : @Eq EReal (val_main_cst_50 (F := Ideal) i) (((0 : ℝ) : ℝ) : EReal) :=
  (val_main_cst_50_apply (F := Ideal) i).trans zeroR

theorem L_v318 (I : Inp) (i : S2x48x1152.Idx) (x0 x1 x2 : ℕ) (hx0 : x0 < 2) (hx1 : x1 < 48) (hx2 : x2 < 1152) (e0 : (i 0).val = x0) (e1 : (i 1).val = x1) (e2 : (i 2).val = x2) : @Eq EReal (val_main_v318 (F := Ideal) i) (((0 : ℝ) : ℝ) : EReal) :=
  (val_main_v318_apply (F := Ideal) i).trans (L_cst_50 I _ )

theorem L_v319 (I : Inp) (i : S2x2112x1152.Idx) (x0 u1 v1 x2 : ℕ) (hx0 : x0 < 2) (hu1 : u1 < 33) (hv1 : v1 < 64) (hx2 : x2 < 1152) (e0 : (i 0).val = x0) (e1 : (i 1).val = 64 * u1 + v1) (e2 : (i 2).val = x2) : @Eq EReal (val_main_v319 (F := Ideal) I.x0 I.x1 I.x2 I.x3 I.x4 I.x5 I.x6 I.x8 i) (((K_v319 I x0 u1 v1 x2) : ℝ) : EReal) :=
  by unfold K_v319; exact (catP e1 (fun j => L_v318 I j _ _ _ (j 0).isLt (j 1).isLt (j 2).isLt rfl rfl rfl) fun hR j f0 f1 f2 => L_v317 I j x0 (64 * u1 + v1 - 48) x2 hx0 (by omega) hx2 (f0.trans e0) f1 (f2.trans e2))

theorem L_v320 (I : Inp) (i : S2x2112x1152.Idx) (x0 u1 v1 x2 : ℕ) (hx0 : x0 < 2) (hu1 : u1 < 33) (hv1 : v1 < 64) (hx2 : x2 < 1152) (e0 : (i 0).val = x0) (e1 : (i 1).val = 64 * u1 + v1) (e2 : (i 2).val = x2) : @Eq EReal (val_main_v320 (F := Ideal) I.x0 I.x1 I.x2 I.x3 I.x4 I.x5 I.x6 I.x8 i) (((K_v319 I x0 u1 v1 x2) : ℝ) : EReal) :=
  (val_main_v320_apply I.x0 I.x1 I.x2 I.x3 I.x4 I.x5 I.x6 I.x8 i).trans (truncR (L_v319 I _ x0 u1 v1 x2 hx0 hu1 hv1 hx2 e0 e1 e2))

theorem L_v321 (I : Inp) (i : S1x1024.Idx) (x1 : ℕ) (hx1 : x1 < 1024) (e0 : (i 0).val = 0) (e1 : (i 1).val = x1) : @Eq EReal (val_main_v321 (F := Ideal) I.x0 I.x1 I.x3 i) (((K_v27 I x1) : ℝ) : EReal) :=
  (val_main_v321_apply I.x0 I.x1 I.x3 i).trans (L_v31 I _ x1 hx1 (show (i 0).val * 1024 + (i 1).val = x1 from by omega))

theorem L_v322 (I : Inp) (i : S1x16.Idx) (x1 : ℕ) (hx1 : x1 < 16) (e0 : (i 0).val = 0) (e1 : (i 1).val = x1) : @Eq EReal (val_main_v322 (F := Ideal) I.x0 I.x1 I.x2 I.x3 I.x4 I.x5 I.x6 I.x8 i) (((K_v306 I x1) : ℝ) : EReal) :=
  (val_main_v322_apply I.x0 I.x1 I.x2 I.x3 I.x4 I.x5 I.x6 I.x8 i).trans (L_v308 I _ x1 hx1 (show (i 0).val * 16 + (i 1).val = x1 from by omega))

theorem L_cst_51 (I : Inp) (i : S_.Idx) : @Eq EReal (val_main_cst_51 (F := Ideal) i) (((0 : ℝ) : ℝ) : EReal) :=
  (val_main_cst_51_apply (F := Ideal) i).trans zeroR

theorem L_v323 (I : Inp) (i : S1x112.Idx) (x1 : ℕ) (hx1 : x1 < 112) (e0 : (i 0).val = 0) (e1 : (i 1).val = x1) : @Eq EReal (val_main_v323 (F := Ideal) i) (((0 : ℝ) : ℝ) : EReal) :=
  (val_main_v323_apply (F := Ideal) i).trans (L_cst_51 I _ )

theorem L_v324 (I : Inp) (i : S1x128.Idx) (x1 : ℕ) (hx1 : x1 < 128) (e0 : (i 0).val = 0) (e1 : (i 1).val = x1) : @Eq EReal (val_main_v324 (F := Ideal) I.x0 I.x1 I.x2 I.x3 I.x4 I.x5 I.x6 I.x8 i) (((K_v324 I x1) : ℝ) : EReal) :=
  by unfold K_v324; exact (cat2C rfl e1 (fun hR j f0 f1 => L_v322 I j x1 (by omega) (f0.trans e0) f1) (fun hR j f0 f1 => L_v323 I j (x1 - 16) (by omega) (f0.trans e0) f1))

theorem L_v325 (I : Inp) (i : S1x16.Idx) (x1 : ℕ) (hx1 : x1 < 16) (e0 : (i 0).val = 0) (e1 : (i 1).val = x1) : @Eq EReal (val_main_v325 (F := Ideal) I.x0 I.x1 I.x2 I.x3 I.x4 I.x5 I.x6 I.x8 i) (((K_v304 I x1) : ℝ) : EReal) :=
  (val_main_v325_apply I.x0 I.x1 I.x2 I.x3 I.x4 I.x5 I.x6 I.x8 i).trans (L_v304 I _ x1 hx1 (show (i 0).val * 16 + (i 1).val = x1 from by omega))

theorem L_cst_52 (I : Inp) (i : S_.Idx) : @Eq EReal (val_main_cst_52 (F := Ideal) i) (((0 : ℝ) : ℝ) : EReal) :=
  (val_main_cst_52_apply (F := Ideal) i).trans zeroR

theorem L_v326 (I : Inp) (i : S1x112.Idx) (x1 : ℕ) (hx1 : x1 < 112) (e0 : (i 0).val = 0) (e1 : (i 1).val = x1) : @Eq EReal (val_main_v326 (F := Ideal) i) (((0 : ℝ) : ℝ) : EReal) :=
  (val_main_v326_apply (F := Ideal) i).trans (L_cst_52 I _ )

theorem L_v327 (I : Inp) (i : S1x128.Idx) (x1 : ℕ) (hx1 : x1 < 128) (e0 : (i 0).val = 0) (e1 : (i 1).val = x1) : @Eq EReal (val_main_v327 (F := Ideal) I.x0 I.x1 I.x2 I.x3 I.x4 I.x5 I.x6 I.x8 i) (((K_v327 I x1) : ℝ) : EReal) :=
  by unfold K_v327; exact (cat2C rfl e1 (fun hR j f0 f1 => L_v325 I j x1 (by omega) (f0.trans e0) f1) (fun hR j f0 f1 => L_v326 I j (x1 - 16) (by omega) (f0.trans e0) f1))

theorem L_v328 (I : Inp) (i : S1x16.Idx) (x1 : ℕ) (hx1 : x1 < 16) (e0 : (i 0).val = 0) (e1 : (i 1).val = x1) : @Eq EReal (val_main_v328 (F := Ideal) I.x0 I.x1 I.x2 I.x3 I.x8 i) (((K_v286 I x1) : ℝ) : EReal) :=
  (val_main_v328_apply I.x0 I.x1 I.x2 I.x3 I.x8 i).trans (L_v288 I _ x1 hx1 (show (i 0).val * 16 + (i 1).val = x1 from by omega))

theorem L_cst_53 (I : Inp) (i : S_.Idx) : @Eq EReal (val_main_cst_53 (F := Ideal) i) (((0 : ℝ) : ℝ) : EReal) :=
  (val_main_cst_53_apply (F := Ideal) i).trans zeroR

theorem L_v329 (I : Inp) (i : S1x112.Idx) (x1 : ℕ) (hx1 : x1 < 112) (e0 : (i 0).val = 0) (e1 : (i 1).val = x1) : @Eq EReal (val_main_v329 (F := Ideal) i) (((0 : ℝ) : ℝ) : EReal) :=
  (val_main_v329_apply (F := Ideal) i).trans (L_cst_53 I _ )

theorem L_v330 (I : Inp) (i : S1x128.Idx) (x1 : ℕ) (hx1 : x1 < 128) (e0 : (i 0).val = 0) (e1 : (i 1).val = x1) : @Eq EReal (val_main_v330 (F := Ideal) I.x0 I.x1 I.x2 I.x3 I.x8 i) (((K_v330 I x1) : ℝ) : EReal) :=
  by unfold K_v330; exact (cat2C rfl e1 (fun hR j f0 f1 => L_v328 I j x1 (by omega) (f0.trans e0) f1) (fun hR j f0 f1 => L_v329 I j (x1 - 16) (by omega) (f0.trans e0) f1))

end Cert.SsdR
-- ==== Proof.SsdClaim.lean ====
module

public import proofs.«01_k».proof.Defs
public import proofs.«01_k».proof.Pre_finite
public import proofs.«01_k».proof.Proof.SsdOut
public import proofs.«01_k».proof.Proof.SsdRefB
public import proofs.«01_k».proof.Proof.Gen.KernelIdeal.Value
public import proofs.«01_k».proof.Proof.Gen.ReferenceIdeal.Run
public import proofs.«01_k».proof.Proof.Gen.ReferenceIdeal.Read
public import Idealize.ShloMosaic.Lib.ReduceAll

/-! The scan's backward pass computes its reference's six results, on arrays of numbers that are all finite. -/

@[expose] public section

set_option maxRecDepth 16384

noncomputable section

namespace Cert.Ssd

open Cert.SsdR Idealize.ShloMosaic Idealize.ShloMosaic.TcCoe

/-- The side conditions of the finiteness precondition hold. -/
theorem preFacts : Cert.Pre_finite.Facts := by constructor <;> decide

/-- A conjunction of two words of one bit is 1 only if both are. -/
theorem andi_both {s : Shape} {x y : IVec s 1} {j : s.Idx} (h : andi x y j = 1#1) : x j = 1#1 ∧ y j = 1#1 := by
  have h' : x j &&& y j = 1#1 := h
  revert h'
  generalize x j = a
  generalize y j = b
  revert a b
  decide

/-- An extended real whose absolute value lies below infinity is a real number. -/
theorem real_of_abs {a : EReal} (h : max a (-a) < ⊤) : a = ((a.toReal : ℝ) : EReal) := by
  have h1 : a ≠ ⊤ := (lt_of_le_of_lt (le_max_left _ _) h).ne
  have h2 : a ≠ ⊥ := by
    rintro rfl
    exact absurd (lt_of_le_of_lt (le_max_right _ _) h) (by simp)
  exact (EReal.coe_toReal h1 h2).symm

/-- When the test of an array says that all its elements lie below infinity, each is a real number. -/
theorem all_real {s : Shape} {axes : List (Fin s.rank)} (x : FVec Ideal s .f32) (hb : Cert.Pre_finite.S_.BroadcastsInDim s (![] : Fin 0 → Fin s.rank))
    (h : s.ReducesTo axes Cert.Pre_finite.S_) (hu : 0 < Cert.Pre_finite.S_.numel) (j : Cert.Pre_finite.S_.Idx)
    (e : Host.reduce IntOp.andi (cmpf .olt (Host.absf x) (broadcastInDim s ![] hb (constant Cert.Pre_finite.S_ .f32 0x7F800000#32)))
      (constantI Cert.Pre_finite.S_ 1 1#1) h hu j = 1#1) (i : s.Idx) : @Eq EReal (x i) (((x i : EReal).toReal : ℝ) : EReal) := by
  haveI : Subsingleton Cert.Pre_finite.S_.Idx := ⟨fun a b => funext fun k => k.elim0⟩
  have e1 := Host.reduce_andi_all _ _ h hu j e i
  have e2 : BitVec.ofBool (decide (max (x i : EReal) (-(x i : EReal)) < Ideal.ofBits .f32 0x7F800000#32)) = 1#1 := e1
  have e3 : Ideal.ofBits .f32 0x7F800000#32 = (⊤ : EReal) := by simp [Ideal.ofBits, Ideal.ieee]
  rw [e3] at e2
  exact real_of_abs (of_decide_eq_true ((WordArith.ofBool_eq_one_iff _).1 e2))

/-- The number at three places of an array, and zero outside it. -/
def at3 {a b d : ℕ} (x : (⟨3, ![a, b, d]⟩ : Shape).Idx → EReal) (i j k : ℕ) : ℝ :=
  if h : i < a ∧ j < b ∧ k < d then (x (fun e => match e with | ⟨0, _⟩ => ⟨i, h.1⟩ | ⟨1, _⟩ => ⟨j, h.2.1⟩ | ⟨2, _⟩ => ⟨k, h.2.2⟩)).toReal else 0

/-- The number at four places of an array, and zero outside it. -/
def at4 {a b d f : ℕ} (x : (⟨4, ![a, b, d, f]⟩ : Shape).Idx → EReal) (i j k l : ℕ) : ℝ :=
  if h : i < a ∧ j < b ∧ k < d ∧ l < f then
    (x (fun e => match e with | ⟨0, _⟩ => ⟨i, h.1⟩ | ⟨1, _⟩ => ⟨j, h.2.1⟩ | ⟨2, _⟩ => ⟨k, h.2.2.1⟩ | ⟨3, _⟩ => ⟨l, h.2.2.2⟩)).toReal else 0

/-- The number at one place of an array, and zero outside it. -/
def at1 {a : ℕ} (x : (⟨1, ![a]⟩ : Shape).Idx → EReal) (i : ℕ) : ℝ :=
  if h : i < a then (x (fun e => match e with | ⟨0, _⟩ => ⟨i, h⟩)).toReal else 0

/-- An array of real numbers at an index is the number at the index's three places. -/
theorem at3_eq {a b d : ℕ} (x : (⟨3, ![a, b, d]⟩ : Shape).Idx → EReal) (h : ∀ i, x i = (((x i).toReal : ℝ) : EReal))
    (i : (⟨3, ![a, b, d]⟩ : Shape).Idx) : x i = ((at3 x (i 0).val (i 1).val (i 2).val : ℝ) : EReal) := by
  rw [at3, dif_pos ⟨(i 0).isLt, (i 1).isLt, (i 2).isLt⟩]
  refine (h i).trans (congrArg (fun k => (((x k).toReal : ℝ) : EReal)) (funext fun e => ?_))
  match e with | ⟨0, _⟩ => rfl | ⟨1, _⟩ => rfl | ⟨2, _⟩ => rfl

/-- An array of real numbers at an index is the number at the index's four places. -/
theorem at4_eq {a b d f : ℕ} (x : (⟨4, ![a, b, d, f]⟩ : Shape).Idx → EReal) (h : ∀ i, x i = (((x i).toReal : ℝ) : EReal))
    (i : (⟨4, ![a, b, d, f]⟩ : Shape).Idx) : x i = ((at4 x (i 0).val (i 1).val (i 2).val (i 3).val : ℝ) : EReal) := by
  rw [at4, dif_pos ⟨(i 0).isLt, (i 1).isLt, (i 2).isLt, (i 3).isLt⟩]
  refine (h i).trans (congrArg (fun k => (((x k).toReal : ℝ) : EReal)) (funext fun e => ?_))
  match e with | ⟨0, _⟩ => rfl | ⟨1, _⟩ => rfl | ⟨2, _⟩ => rfl | ⟨3, _⟩ => rfl

/-- An array of real numbers at an index is the number at the index's place. -/
theorem at1_eq {a : ℕ} (x : (⟨1, ![a]⟩ : Shape).Idx → EReal) (h : ∀ i, x i = (((x i).toReal : ℝ) : EReal))
    (i : (⟨1, ![a]⟩ : Shape).Idx) : x i = ((at1 x (i 0).val : ℝ) : EReal) := by
  have b0 : (i 0).val < a := (i 0).isLt
  rw [at1, dif_pos b0]
  refine (h i).trans (congrArg (fun k => (((x k).toReal : ℝ) : EReal)) (funext fun e => ?_))
  match e with | ⟨0, _⟩ => rfl

/-- The arguments in a memory, as real numbers. -/
def inp (m : (ℓ : Loc Cert.KernelIdeal.nD Cert.KernelIdeal.τ Cert.KernelIdeal.sig) → Buf (Elt Ideal) ℓ) (c : Dev Cert.KernelIdeal.nD) : Inp where
  a0 := at3 (m ((c.tc : Thread Cert.KernelIdeal.nD Cert.KernelIdeal.τ).loc Cert.KernelIdeal.main_arg0))
  a1 := at3 (m ((c.tc : Thread Cert.KernelIdeal.nD Cert.KernelIdeal.τ).loc Cert.KernelIdeal.main_arg1))
  a2 := at3 (m ((c.tc : Thread Cert.KernelIdeal.nD Cert.KernelIdeal.τ).loc Cert.KernelIdeal.main_arg2))
  a3 := at3 (m ((c.tc : Thread Cert.KernelIdeal.nD Cert.KernelIdeal.τ).loc Cert.KernelIdeal.main_arg3))
  a4 := at4 (m ((c.tc : Thread Cert.KernelIdeal.nD Cert.KernelIdeal.τ).loc Cert.KernelIdeal.main_arg4))
  a5 := at1 (m ((c.tc : Thread Cert.KernelIdeal.nD Cert.KernelIdeal.τ).loc Cert.KernelIdeal.main_arg5))
  a6 := at1 (m ((c.tc : Thread Cert.KernelIdeal.nD Cert.KernelIdeal.τ).loc Cert.KernelIdeal.main_arg6))
  a7 := at1 (m ((c.tc : Thread Cert.KernelIdeal.nD Cert.KernelIdeal.τ).loc Cert.KernelIdeal.main_arg7))
  a8 := at1 (m ((c.tc : Thread Cert.KernelIdeal.nD Cert.KernelIdeal.τ).loc Cert.KernelIdeal.main_arg8))

/-- What the precondition says: every element of every argument is a real number. -/
theorem pre_real [Cert.Pre_finite.Facts] (x0 : FVec Ideal Cert.Pre_finite.S2x2064x2048 .bf16) (x1 : FVec Ideal Cert.Pre_finite.S2x2064x1024 .bf16) (x2 : FVec Ideal Cert.Pre_finite.S2x2064x1536 .bf16) (x3 : FVec Ideal Cert.Pre_finite.S2x2064x6272 .bf16) (x4 : FVec Ideal Cert.Pre_finite.S2x33x128x1024 .bf16) (x5 : FVec Ideal Cert.Pre_finite.S16 .f32) (x6 : FVec Ideal Cert.Pre_finite.S16 .f32) (x7 : FVec Ideal Cert.Pre_finite.S16 .f32) (x8 : FVec Ideal Cert.Pre_finite.S1024 .f32)
    (h : Cert.Pre_finite.fn (F := Ideal) x0 x1 x2 x3 x4 x5 x6 x7 x8 = fun _ => 1#1) :
    (∀ i, @Eq EReal (x0 i) (((x0 i : EReal).toReal : ℝ) : EReal))
    ∧ (∀ i, @Eq EReal (x1 i) (((x1 i : EReal).toReal : ℝ) : EReal))
    ∧ (∀ i, @Eq EReal (x2 i) (((x2 i : EReal).toReal : ℝ) : EReal))
    ∧ (∀ i, @Eq EReal (x3 i) (((x3 i : EReal).toReal : ℝ) : EReal))
    ∧ (∀ i, @Eq EReal (x4 i) (((x4 i : EReal).toReal : ℝ) : EReal))
    ∧ (∀ i, @Eq EReal (x5 i) (((x5 i : EReal).toReal : ℝ) : EReal))
    ∧ (∀ i, @Eq EReal (x6 i) (((x6 i : EReal).toReal : ℝ) : EReal))
    ∧ (∀ i, @Eq EReal (x7 i) (((x7 i : EReal).toReal : ℝ) : EReal))
    ∧ (∀ i, @Eq EReal (x8 i) (((x8 i : EReal).toReal : ℝ) : EReal)) := by
  have h0 := congrFun h (fun e => e.elim0)
  unfold Cert.Pre_finite.fn Cert.Pre_finite.fn_part1 Cert.Pre_finite.fn_part2 at h0
  dsimp only at h0
  obtain ⟨h0, r8⟩ := andi_both h0
  obtain ⟨h0, r7⟩ := andi_both h0
  obtain ⟨h0, r6⟩ := andi_both h0
  obtain ⟨h0, r5⟩ := andi_both h0
  obtain ⟨h0, r4⟩ := andi_both h0
  obtain ⟨h0, r3⟩ := andi_both h0
  obtain ⟨h0, r2⟩ := andi_both h0
  obtain ⟨h0, r1⟩ := andi_both h0
  exact ⟨fun i => all_real (extf .f32 x0 Cert.Pre_finite.Facts.bitsLt_bf16_f32) _ _ _ _ h0 i, fun i => all_real (extf .f32 x1 Cert.Pre_finite.Facts.bitsLt_bf16_f32) _ _ _ _ r1 i, fun i => all_real (extf .f32 x2 Cert.Pre_finite.Facts.bitsLt_bf16_f32) _ _ _ _ r2 i, fun i => all_real (extf .f32 x3 Cert.Pre_finite.Facts.bitsLt_bf16_f32) _ _ _ _ r3 i, fun i => all_real (extf .f32 x4 Cert.Pre_finite.Facts.bitsLt_bf16_f32) _ _ _ _ r4 i, fun i => all_real x5 _ _ _ _ r5 i, fun i => all_real x6 _ _ _ _ r6 i, fun i => all_real x7 _ _ _ _ r7 i, fun i => all_real x8 _ _ _ _ r8 i⟩

/-- Under the precondition the memory's arguments are the real numbers read from it. -/
theorem args_of_pre (m : (ℓ : Loc Cert.KernelIdeal.nD Cert.KernelIdeal.τ Cert.KernelIdeal.sig) → Buf (Elt Ideal) ℓ) (c : Dev Cert.KernelIdeal.nD) [Cert.Pre_finite.Facts]
    (h : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) = fun _ => 1#1) : Args m c (inp m c) := by
  obtain ⟨r0, r1, r2, r3, r4, r5, r6, r7, r8⟩ := pre_real _ _ _ _ _ _ _ _ _ h
  exact ⟨at3_eq _ r0, at3_eq _ r1, at3_eq _ r2, at3_eq _ r3, at4_eq _ r4, at1_eq _ r5, at1_eq _ r6, at1_eq _ r7, at1_eq _ r8⟩

/-- The kernel's six results are its reference's, on finite arguments. -/
theorem algebraic [Cert.Pre_finite.Facts] : Cert.algebraic_KernelIdeal_ReferenceIdeal_pre_finite := by
  intro m g m' g' hp h
  have A : ∀ c, Args m c (inp m c) := fun c => args_of_pre m c (hp c)
  refine ⟨fun c => R14 (inp m c), fun c => R15 (inp m c), fun c => R16 (inp m c), fun c => R17 (inp m c), fun c => R18 (inp m c), fun c => R19 (inp m c), ?_, ?_⟩
  · refine (θ_run Cert.KernelIdeal.defs _ _).mono (fun r hr c => ?_) (Cert.KernelIdeal.Value.run_blocks m g)
    obtain ⟨k0, k1, k2, k3, k4, k5, k⟩ := hr c
    exact ⟨k0.trans (arr14 (A c)), k1.trans (arr15 (A c)), k2.trans (arr16 (A c)), k3.trans (arr17 (A c)), k4.trans (arr18 (A c)), k5.trans (arr19 (A c)), k⟩
  · refine (θ_run Cert.ReferenceIdeal.defs _ _).mono (fun r hr c => ?_) (Cert.ReferenceIdeal.Value.run (F := Ideal) m' g')
    obtain ⟨k0, k1, k2, k3, k4, k5, k⟩ := hr c
    obtain ⟨g0, g1, g2, g3, g4, g5, g6, g7, g8⟩ := h c
    have w0 : m' ((c.tc : Thread Cert.ReferenceIdeal.nD Cert.ReferenceIdeal.τ).loc Cert.ReferenceIdeal.main_arg0) = (inp m c).x0 := g0.trans (funext (A c).h0)
    have w1 : m' ((c.tc : Thread Cert.ReferenceIdeal.nD Cert.ReferenceIdeal.τ).loc Cert.ReferenceIdeal.main_arg1) = (inp m c).x1 := g1.trans (funext (A c).h1)
    have w2 : m' ((c.tc : Thread Cert.ReferenceIdeal.nD Cert.ReferenceIdeal.τ).loc Cert.ReferenceIdeal.main_arg2) = (inp m c).x2 := g2.trans (funext (A c).h2)
    have w3 : m' ((c.tc : Thread Cert.ReferenceIdeal.nD Cert.ReferenceIdeal.τ).loc Cert.ReferenceIdeal.main_arg3) = (inp m c).x3 := g3.trans (funext (A c).h3)
    have w4 : m' ((c.tc : Thread Cert.ReferenceIdeal.nD Cert.ReferenceIdeal.τ).loc Cert.ReferenceIdeal.main_arg4) = (inp m c).x4 := g4.trans (funext (A c).h4)
    have w5 : m' ((c.tc : Thread Cert.ReferenceIdeal.nD Cert.ReferenceIdeal.τ).loc Cert.ReferenceIdeal.main_arg5) = (inp m c).x5 := g5.trans (funext (A c).h5)
    have w6 : m' ((c.tc : Thread Cert.ReferenceIdeal.nD Cert.ReferenceIdeal.τ).loc Cert.ReferenceIdeal.main_arg6) = (inp m c).x6 := g6.trans (funext (A c).h6)
    have w7 : m' ((c.tc : Thread Cert.ReferenceIdeal.nD Cert.ReferenceIdeal.τ).loc Cert.ReferenceIdeal.main_arg7) = (inp m c).x7 := g7.trans (funext (A c).h7)
    have w8 : m' ((c.tc : Thread Cert.ReferenceIdeal.nD Cert.ReferenceIdeal.τ).loc Cert.ReferenceIdeal.main_arg8) = (inp m c).x8 := g8.trans (funext (A c).h8)
    have z0 : Cert.ReferenceIdeal.Read.val_main_v313 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = R14 (inp m c) := by
      rw [w0, w1, w2, w3, w4, w5, w6, w7, w8]
      exact funext fun i => L_v313 (inp m c) i (i 0).val ((i 1).val / 64) ((i 1).val % 64) (i 2).val (i 0).isLt (by have := (i 1).isLt; change _ < 2112 at this; omega) (by omega) (i 2).isLt rfl (by omega) rfl
    have z1 : Cert.ReferenceIdeal.Read.val_main_v320 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) = R15 (inp m c) := by
      rw [w0, w1, w2, w3, w4, w5, w6, w8]
      exact funext fun i => L_v320 (inp m c) i (i 0).val ((i 1).val / 64) ((i 1).val % 64) (i 2).val (i 0).isLt (by have := (i 1).isLt; change _ < 2112 at this; omega) (by omega) (i 2).isLt rfl (by omega) rfl
    have z2 : Cert.ReferenceIdeal.Read.val_main_v321 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) = R16 (inp m c) := by
      rw [w0, w1, w3]
      exact funext fun i => L_v321 (inp m c) i (i 1).val (i 1).isLt (by have := (i 0).isLt; change _ < 1 at this; omega) rfl
    have z3 : Cert.ReferenceIdeal.Read.val_main_v324 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) = R17 (inp m c) := by
      rw [w0, w1, w2, w3, w4, w5, w6, w8]
      exact funext fun i => L_v324 (inp m c) i (i 1).val (i 1).isLt (by have := (i 0).isLt; change _ < 1 at this; omega) rfl
    have z4 : Cert.ReferenceIdeal.Read.val_main_v327 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) = R18 (inp m c) := by
      rw [w0, w1, w2, w3, w4, w5, w6, w8]
      exact funext fun i => L_v327 (inp m c) i (i 1).val (i 1).isLt (by have := (i 0).isLt; change _ < 1 at this; omega) rfl
    have z5 : Cert.ReferenceIdeal.Read.val_main_v330 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg8)) = R19 (inp m c) := by
      rw [w0, w1, w2, w3, w8]
      exact funext fun i => L_v330 (inp m c) i (i 1).val (i 1).isLt (by have := (i 0).isLt; change _ < 1 at this; omega) rfl
    exact ⟨k0.trans ((Cert.ReferenceIdeal.Read.val_main_v313_eq _).trans z0), k1.trans ((Cert.ReferenceIdeal.Read.val_main_v320_eq _).trans z1), k2.trans ((Cert.ReferenceIdeal.Read.val_main_v321_eq _).trans z2), k3.trans ((Cert.ReferenceIdeal.Read.val_main_v324_eq _).trans z3), k4.trans ((Cert.ReferenceIdeal.Read.val_main_v327_eq _).trans z4), k5.trans ((Cert.ReferenceIdeal.Read.val_main_v330_eq _).trans z5), k⟩

end Cert.Ssd

end
-- ==== Proof.Common.lean ====
/- Lemmas that the value proofs of several calls share: zero offsets, a contraction over rows read as one over examples
   and positions, and a product of matrices at an index. -/
module

public import Idealize.ShloMosaic.Lib.Pipeline.Value
public import Idealize.ShloMosaic.Lib.ValueIdx
public import Idealize.ShloMosaic.Lib.Pointwise
public import Idealize.ShloMosaic.PureOps.Ideal.Laws

@[expose] public section

noncomputable section

namespace Cert.Common

open Idealize.ShloMosaic
open scoped BigOperators

/-- Two zero offsets are zero on every axis. -/
theorem hz : (![0, 0] : Fin 2 → Nat) = fun _ => 0 := funext fun a => by fin_cases a <;> rfl

/-- The row `b * l + k` of an array of `n * l` rows. -/
abbrev row {n l N : ℕ} (h : n * l = N) (b : Fin n) (k : Fin l) : Fin N :=
  ⟨b.val * l + k.val, by
    have hb := b.isLt; have hk := k.isLt
    calc b.val * l + k.val < b.val * l + l := by omega
      _ = (b.val + 1) * l := by ring
      _ ≤ n * l := Nat.mul_le_mul_right _ hb
      _ = N := h⟩

/-- A sum over examples and positions is the sum over the rows that hold them. -/
theorem sum_rows {M : Type*} [AddCommMonoid M] {n l N : ℕ} (h : n * l = N) (f : Fin N → M) :
    ∑ b : Fin n, ∑ k : Fin l, f (row h b k) = ∑ r : Fin N, f r := by
  subst h
  rw [← Fintype.sum_prod_type' (f := fun b k => f (row rfl b k))]
  refine Fintype.sum_equiv finProdFinEquiv _ _ fun p => congrArg f (Fin.ext ?_)
  show p.1.val * l + p.2.val = p.2.val + l * p.1.val
  ring

/-- A rank-two index is the one with given coordinates when its coordinates are those. -/
theorem ix2_of {n0 n1 : ℕ} (f : (⟨2, ![n0, n1]⟩ : Shape).Idx) (a : Fin n0) (b : Fin n1) (h0 : (f 0).val = a.val)
    (h1 : (f 1).val = b.val) : f = ix2 a b := by
  funext i
  match i with
  | ⟨0, _⟩ => exact Fin.ext h0
  | ⟨1, _⟩ => exact Fin.ext h1

end Cert.Common

end
-- ==== Proof.K10.lean ====
/- The product `hn @ w_in` (the input projection): after the kernel's run its result array is, at every index, the sum over
   the 1024 contracted coordinates, and the reference's contraction is that sum. -/
module

public import proofs.«01_k».proof.Defs
public import proofs.«01_k».proof.Proof.Common
public import proofs.«01_k».proof.Proof.Gen.Kernel10Ideal.Value
public import proofs.«01_k».proof.Proof.Gen.Reference10Ideal.Read

@[expose] public section

set_option maxRecDepth 16384

noncomputable section

namespace Cert.K10

open Cert.Kernel10Ideal Cert.Kernel10Ideal.Gen Cert.Kernel10Ideal.Value Idealize.ShloMosaic Idealize.ShloMosaic.TcCoe
  Idealize.SL.Sem Cert.Common
open scoped BigOperators

/-- The result as one function of the operands: at each index the sum of the operands' products. -/
def G (a : Vec Ideal S4224x1024 .bf16) (b : Vec Ideal S6272x1024 .bf16) : Vec Ideal S4224x6272 .bf16 :=
  fun i => ∑ k : Fin 1024, a (ix2 (i 0) k) * b (ix2 (i 1) k)

/-- What a point leaves in the result's buffer is the product of the two blocks that it reads. -/
theorem out_eq (c : Dev nD) (i : grid0.Coords) (a3 : Memref sig .tc .vmem S1408x1024 .bf16) (h3 : a3.IsWhole)
    (a4 : Memref sig .tc .vmem S896x1024 .bf16) (h4 : a4.IsWhole) (a5 : Memref sig .tc .vmem S1408x896 .bf16) (h5 : a5.IsWhole)
    (a6 : Memref sig .tc .vmem S8x128 .f32) (h6 : a6.IsWhole) (x : Vec Ideal S1408x1024 .bf16) (y : Vec Ideal S896x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  rw [View.canon_unit_zero hz]
  simp only [View.readAt_eq_ld, h3.read_unread, h4.read_unread, View.ld_unit_zero (S := S1408x1024) hz,
    View.ld_unit_zero (S := S896x1024) hz]

/-- The product of two blocks at an index. -/
theorem pay_apply (x : Vec Ideal S1408x1024 .bf16) (y : Vec Ideal S896x1024 .bf16) (j : S1408x896.Idx) :
    k0_pay1 x y j = ∑ k : Fin 1024, x (ix2 (j 0) k) * y (ix2 (j 1) k) := by
  unfold k0_pay1
  simp only [pointwise]
  simp

/-- The blocks' places: every point reads all contracted coordinates, and of the others those of its result block. -/
theorem idx : ∀ t : Fin cfg0.N, win0_0.index t (1 : Fin 2) = 0 ∧ win0_0.index t (0 : Fin 2) = win0_2.index t (0 : Fin 2)
    ∧ win0_1.index t (1 : Fin 2) = 0 ∧ win0_1.index t (0 : Fin 2) = win0_2.index t (1 : Fin 2) :=
  (by decide +kernel : ∀ t : Fin grid0.N, _)

/-- Every block of the result is some point's. -/
theorem idx_all : ∀ (p : Fin 3) (q : Fin 7), ∃ t : Fin cfg0.N, win0_2.index t (0 : Fin 2) = p.val ∧ win0_2.index t (1 : Fin 2) = q.val :=
  (by decide +kernel : ∀ (p : Fin 3) (q : Fin 7), ∃ t : Fin grid0.N, _)

variable (m : (ℓ : Loc nD τ sig) → Buf (Elt Ideal) ℓ) (ρ : Dev nD → PrngReg)

/-- What a point writes back is its block of the whole product. -/
theorem flushed_eq (c : Dev nD) (t : Fin cfg0.N) : (dats m 0 c).flushed 2 t
    = ((cfg0.win 2).blk t).view.read (Elt Ideal) (G (V m c main_arg0) (V m c main_arg1)) := by
  rw [flushed2_A, out_eq]
  obtain ⟨e0, e1, e2, e3⟩ := idx t
  funext j
  refine (pay_apply (iblk m c 0 t) (iblk m c 1 t) j).trans ?_
  show _ = G (V m c main_arg0) (V m c main_arg1) (((cfg0.win 2).blk t).view.emb j)
  unfold G
  refine Finset.sum_congr rfl fun k _ => ?_
  refine congrArg₂ (· * ·) ?_ ?_
  · show V m c main_arg0 (((cfg0.win 0).blk t).view.emb (ix2 (j 0) k)) = _
    congr 1
    refine ix2_of _ _ _ ?_ ?_
    · show win0_0.index t (0 : Fin 2) * 1408 + 1 * (j 0).val = win0_2.index t (0 : Fin 2) * 1408 + 1 * (j 0).val; omega
    · show win0_0.index t (1 : Fin 2) * 1024 + 1 * k.val = k.val; omega
  · show V m c main_arg1 (((cfg0.win 1).blk t).view.emb (ix2 (j 1) k)) = _
    congr 1
    refine ix2_of _ _ _ ?_ ?_
    · show win0_1.index t (0 : Fin 2) * 896 + 1 * (j 1).val = win0_2.index t (1 : Fin 2) * 896 + 1 * (j 1).val; omega
    · show win0_1.index t (1 : Fin 2) * 1024 + 1 * k.val = k.val; omega

/-- Every index of the result is in some point's block. -/
theorem covered (i : S4224x6272.Idx) : ∃ t : Fin cfg0.N, (cfg0.win 2).flush t = true ∧ i ∈ ((cfg0.win 2).blk t).view.set := by
  have h0 : (i 0).val < 4224 := (i 0).isLt
  have h1 : (i 1).val < 6272 := (i 1).isLt
  obtain ⟨t, e0, e1⟩ := idx_all ⟨(i 0).val / 1408, by omega⟩ ⟨(i 1).val / 896, by omega⟩
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1408 ≤ (i 0).val ∧ (i 0).val < win0_2.index t (0 : Fin 2) * 1408 + 1408
              dsimp only at e0; omega
  | ⟨1, _⟩ => show win0_2.index t (1 : Fin 2) * 896 ≤ (i 1).val ∧ (i 1).val < win0_2.index t (1 : Fin 2) * 896 + 896
              dsimp only at e1; omega

/-- The result array after the run is the whole product of the arguments as launched. -/
theorem final (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed_eq m c t) covered).trans
    (by rw [V_main_arg0, V_main_arg1])

open Cert.Reference10Ideal in
/-- The reference's value is the same sum. -/
theorem ref_eq (a : Vec Ideal Cert.Kernel10Ideal.S4224x1024 .bf16) (b : Vec Ideal Cert.Kernel10Ideal.S6272x1024 .bf16) :
    Cert.Reference10Ideal.Read.val_main_v6 (F := Ideal) a b = G a b := by
  funext i
  have h0 : (i 0).val < 4224 := (i 0).isLt
  have h1 : (i 1).val < 6272 := (i 1).isLt
  rw [Read.val_main_v6_apply]
  show Read.val_main_v5 (F := Ideal) a b _ = _
  rw [Read.val_main_v5_apply, Read.val_main_v4_apply]
  unfold G
  refine Finset.sum_congr rfl fun k _ => ?_
  rw [Read.val_main_v3_apply, Read.val_main_v2_apply, Read.val_main_v1_apply, Read.val_main_v0_apply]
  refine congrArg₂ (· * ·) ?_ ?_
  · show a _ = a _
    congr 1
    have hk : k.val < 1024 := k.isLt
    refine ix2_of _ _ _ ?_ ?_
    · show ((((i 0).val * 6272 + (i 1).val) / 13246464 * 2112 + ((i 0).val * 6272 + (i 1).val) / 6272 % 2112) * 1024 + k.val) / 1024 = (i 0).val; omega
    · show _ % 1024 = k.val; dsimp only; omega
  · show b _ = b _
    congr 1
    refine ix2_of _ _ _ ?_ ?_
    · show _ = (i 1).val; dsimp only; omega
    · show _ = k.val; rfl

/-- Kernel and reference, from memories that agree on the operands, both run and end with one result. -/
theorem algebraic : Cert.algebraic_Kernel10Ideal_Reference10Ideal := by
  intro m g m' g' _ h
  refine ⟨fun c => G (m ((c : Thread nD τ).loc main_arg0)) (m ((c : Thread nD τ).loc main_arg1)), ?_, ?_⟩
  · exact (θ_run Cert.Kernel10Ideal.defs _ _).mono (fun r h c => ⟨(h c).1.trans (final m c), (h c).2⟩) (run_blocks m g)
  · refine (θ_run Cert.Reference10Ideal.defs _ _).mono (fun r hr c => ⟨(hr c).1.trans ?_, (hr c).2⟩)
      (Cert.Reference10Ideal.Value.run (F := Ideal) m' g')
    refine (Cert.Reference10Ideal.Read.val_main_v6_eq _ _).trans ((ref_eq _ _).trans ?_)
    exact congrArg₂ G (h c).1 (h c).2

end Cert.K10

end
-- ==== Proof.K11.lean ====
/- The product `ycat @ w_out` (the output projection): after the kernel's run its result array is, at every index, the sum over
   the 2048 contracted coordinates, and the reference's contraction is that sum. -/
module

public import proofs.«01_k».proof.Defs
public import proofs.«01_k».proof.Proof.Common
public import proofs.«01_k».proof.Proof.Gen.Kernel11Ideal.Value
public import proofs.«01_k».proof.Proof.Gen.Reference11Ideal.Read

@[expose] public section

set_option maxRecDepth 16384

noncomputable section

namespace Cert.K11

open Cert.Kernel11Ideal Cert.Kernel11Ideal.Gen Cert.Kernel11Ideal.Value Idealize.ShloMosaic Idealize.ShloMosaic.TcCoe
  Idealize.SL.Sem Cert.Common
open scoped BigOperators

/-- The result as one function of the operands: at each index the sum of the operands' products. -/
def G (a : Vec Ideal S4224x2048 .bf16) (b : Vec Ideal S2048x1024 .bf16) : Vec Ideal S4224x1024 .f32 :=
  fun i => ∑ k : Fin 2048, a (ix2 (i 0) k) * b (ix2 k (i 1))

/-- What a point leaves in the result's buffer is the product of the two blocks that it reads. -/
theorem out_eq (c : Dev nD) (i : grid0.Coords) (a3 : Memref sig .tc .vmem S704x2048 .bf16) (h3 : a3.IsWhole)
    (a4 : Memref sig .tc .vmem S2048x1024 .bf16) (h4 : a4.IsWhole) (a5 : Memref sig .tc .vmem S704x1024 .f32) (h5 : a5.IsWhole)
    (a6 : Memref sig .tc .vmem S8x128 .f32) (h6 : a6.IsWhole) (x : Vec Ideal S704x2048 .bf16) (y : Vec Ideal S2048x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  rw [View.canon_unit_zero hz]
  simp only [View.readAt_eq_ld, h3.read_unread, h4.read_unread, View.ld_unit_zero (S := S704x2048) hz,
    View.ld_unit_zero (S := S2048x1024) hz]

/-- The product of two blocks at an index. -/
theorem pay_apply (x : Vec Ideal S704x2048 .bf16) (y : Vec Ideal S2048x1024 .bf16) (j : S704x1024.Idx) :
    k0_pay1 x y j = ∑ k : Fin 2048, x (ix2 (j 0) k) * y (ix2 k (j 1)) := by
  unfold k0_pay1
  simp only [pointwise]
  simp

/-- The blocks' places: every point reads all contracted coordinates, and of the others those of its result block. -/
theorem idx : ∀ t : Fin cfg0.N, win0_0.index t (1 : Fin 2) = 0 ∧ win0_0.index t (0 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- Every block of the result is some point's. -/
theorem idx_all : ∀ (p : Fin 6) (q : Fin 1), ∃ t : Fin cfg0.N, win0_2.index t (0 : Fin 2) = p.val ∧ win0_2.index t (1 : Fin 2) = q.val :=
  (by decide +kernel : ∀ (p : Fin 6) (q : Fin 1), ∃ t : Fin grid0.N, _)

variable (m : (ℓ : Loc nD τ sig) → Buf (Elt Ideal) ℓ) (ρ : Dev nD → PrngReg)

/-- What a point writes back is its block of the whole product. -/
theorem flushed_eq (c : Dev nD) (t : Fin cfg0.N) : (dats m 0 c).flushed 2 t
    = ((cfg0.win 2).blk t).view.read (Elt Ideal) (G (V m c main_arg0) (V m c main_arg1)) := by
  rw [flushed2_A, out_eq]
  obtain ⟨e0, e1, e2, e3⟩ := idx t
  funext j
  refine (pay_apply (iblk m c 0 t) (iblk m c 1 t) j).trans ?_
  show _ = G (V m c main_arg0) (V m c main_arg1) (((cfg0.win 2).blk t).view.emb j)
  unfold G
  refine Finset.sum_congr rfl fun k _ => ?_
  refine congrArg₂ (· * ·) ?_ ?_
  · show V m c main_arg0 (((cfg0.win 0).blk t).view.emb (ix2 (j 0) k)) = _
    congr 1
    refine ix2_of _ _ _ ?_ ?_
    · show win0_0.index t (0 : Fin 2) * 704 + 1 * (j 0).val = win0_2.index t (0 : Fin 2) * 704 + 1 * (j 0).val; omega
    · show win0_0.index t (1 : Fin 2) * 2048 + 1 * k.val = k.val; omega
  · show V m c main_arg1 (((cfg0.win 1).blk t).view.emb (ix2 k (j 1))) = _
    congr 1
    refine ix2_of _ _ _ ?_ ?_
    · show win0_1.index t (0 : Fin 2) * 2048 + 1 * k.val = k.val; omega
    · show win0_1.index t (1 : Fin 2) * 1024 + 1 * (j 1).val = win0_2.index t (1 : Fin 2) * 1024 + 1 * (j 1).val; omega

/-- Every index of the result is in some point's block. -/
theorem covered (i : S4224x1024.Idx) : ∃ t : Fin cfg0.N, (cfg0.win 2).flush t = true ∧ i ∈ ((cfg0.win 2).blk t).view.set := by
  have h0 : (i 0).val < 4224 := (i 0).isLt
  have h1 : (i 1).val < 1024 := (i 1).isLt
  obtain ⟨t, e0, e1⟩ := idx_all ⟨(i 0).val / 704, by omega⟩ ⟨(i 1).val / 1024, by omega⟩
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 704 ≤ (i 0).val ∧ (i 0).val < win0_2.index t (0 : Fin 2) * 704 + 704
              dsimp only at e0; omega
  | ⟨1, _⟩ => show win0_2.index t (1 : Fin 2) * 1024 ≤ (i 1).val ∧ (i 1).val < win0_2.index t (1 : Fin 2) * 1024 + 1024
              dsimp only at e1; omega

/-- The result array after the run is the whole product of the arguments as launched. -/
theorem final (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed_eq m c t) covered).trans
    (by rw [V_main_arg0, V_main_arg1])

open Cert.Reference11Ideal in
/-- The reference's value is the same sum. -/
theorem ref_eq (a : Vec Ideal Cert.Kernel11Ideal.S4224x2048 .bf16) (b : Vec Ideal Cert.Kernel11Ideal.S2048x1024 .bf16) :
    Cert.Reference11Ideal.Read.val_main_v4 (F := Ideal) a b = G a b := by
  funext i
  have h0 : (i 0).val < 4224 := (i 0).isLt
  have h1 : (i 1).val < 1024 := (i 1).isLt
  rw [Read.val_main_v4_apply, Read.val_main_v3_apply]
  unfold G
  refine Finset.sum_congr rfl fun k _ => ?_
  rw [Read.val_main_v2_apply, Read.val_main_v1_apply, Read.val_main_v0_apply]
  refine congrArg₂ (· * ·) ?_ ?_
  · show a _ = a _
    congr 1
    have hk : k.val < 2048 := k.isLt
    refine ix2_of _ _ _ ?_ ?_
    · show ((((i 0).val * 1024 + (i 1).val) / 2162688 * 2112 + ((i 0).val * 1024 + (i 1).val) / 1024 % 2112) * 2048 + k.val) / 2048 = (i 0).val; omega
    · show _ % 2048 = k.val; dsimp only; omega
  · show b _ = b _
    congr 1
    refine ix2_of _ _ _ ?_ ?_
    · show _ = k.val; rfl
    · show _ = (i 1).val; dsimp only; omega

/-- Kernel and reference, from memories that agree on the operands, both run and end with one result. -/
theorem algebraic : Cert.algebraic_Kernel11Ideal_Reference11Ideal := by
  intro m g m' g' _ h
  refine ⟨fun c => G (m ((c : Thread nD τ).loc main_arg0)) (m ((c : Thread nD τ).loc main_arg1)), ?_, ?_⟩
  · exact (θ_run Cert.Kernel11Ideal.defs _ _).mono (fun r h c => ⟨(h c).1.trans (final m c), (h c).2⟩) (run_blocks m g)
  · refine (θ_run Cert.Reference11Ideal.defs _ _).mono (fun r hr c => ⟨(hr c).1.trans ?_, (hr c).2⟩)
      (Cert.Reference11Ideal.Value.run (F := Ideal) m' g')
    refine (Cert.Reference11Ideal.Read.val_main_v4_eq _ _).trans ((ref_eq _ _).trans ?_)
    exact congrArg₂ G (h c).1 (h c).2

end Cert.K11

end
-- ==== Proof.K12.lean ====
/- The optimiser for the output projection's weights: the kernel's run leaves the update and the two new moments of the arguments, index
   by index, and the reference's values are the same functions. -/
module

public import proofs.«01_k».proof.Defs
public import proofs.«01_k».proof.Proof.Common
public import proofs.«01_k».proof.Proof.Gen.Kernel12Ideal.Value
public import proofs.«01_k».proof.Proof.Gen.Reference12Ideal.Read

@[expose] public section

set_option maxRecDepth 16384

noncomputable section

namespace Cert.K12

open Cert.Kernel12Ideal Cert.Kernel12Ideal.Gen Cert.Kernel12Ideal.Value Idealize.ShloMosaic Idealize.ShloMosaic.TcCoe
  Idealize.SL.Sem Cert.Common Cert.Reference12Ideal.Read

/-- The blocks' places: the layer is the point's number, and rows and columns are all of them. -/
theorem idx_rest : ∀ t : Fin cfg0.N, win0_4.index t (1 : Fin 3) = 0 ∧ win0_4.index t (2 : Fin 3) = 0 :=
  (by decide +kernel : ∀ t : Fin grid0.N, _)

/-- Every layer is some point's. -/
theorem idx_all : ∀ p : Fin 4, ∃ t : Fin cfg0.N, win0_4.index t (0 : Fin 3) = p.val :=
  (by decide +kernel : ∀ p : Fin 4, ∃ t : Fin grid0.N, _)

theorem hz : (![0, 0, 0] : Fin 3 → Nat) = fun _ => 0 := funext fun a => by fin_cases a <;> rfl

/-- A block's index is read where it stands. -/
theorem at_self (y : S1x256x1024.Idx) : ix4_0 y = y := by
  funext a
  match a with
  | ⟨0, _⟩ => exact Fin.ext (by have : (y 0).val < 1 := (y 0).isLt; show 0 = (y 0).val; omega)
  | ⟨1, _⟩ => rfl
  | ⟨2, _⟩ => rfl

variable (m : (ℓ : Loc nD τ sig) → Buf (Elt Ideal) ℓ) (ρ : Dev nD → PrngReg)

/-- Argument 0's block at a point, at an index: the argument where the update's block has that index. -/
theorem blk0 (c : Dev nD) (t : Fin cfg0.N) (j : S1x256x1024.Idx) :
    iblk m c 0 t j = V m c main_arg0 (((cfg0.win 4).blk t).view.emb j) := rfl

/-- Argument 1's block at a point, at an index: the argument where the update's block has that index. -/
theorem blk1 (c : Dev nD) (t : Fin cfg0.N) (j : S1x256x1024.Idx) :
    iblk m c 1 t j = V m c main_arg1 (((cfg0.win 4).blk t).view.emb j) := rfl

/-- Argument 2's block at a point, at an index: the argument where the update's block has that index. -/
theorem blk2 (c : Dev nD) (t : Fin cfg0.N) (j : S1x256x1024.Idx) :
    iblk m c 2 t j = V m c main_arg2 (((cfg0.win 4).blk t).view.emb j) := rfl

/-- Argument 3's block at a point, at an index: the argument where the update's block has that index. -/
theorem blk3 (c : Dev nD) (t : Fin cfg0.N) (j : S1x256x1024.Idx) :
    iblk m c 3 t j = V m c main_arg3 (((cfg0.win 4).blk t).view.emb j) := rfl

/-- The new first moment's block at a point has its indices where the update's block has them. -/
theorem emb5 (t : Fin cfg0.N) (j : S1x256x1024.Idx) :
    (((cfg0.win 5).blk t).view.emb j : S4x256x1024.Idx) = ((cfg0.win 4).blk t).view.emb j := rfl

/-- The new second moment's block at a point has its indices where the update's block has them. -/
theorem emb6 (t : Fin cfg0.N) (j : S1x256x1024.Idx) :
    (((cfg0.win 6).blk t).view.emb j : S4x256x1024.Idx) = ((cfg0.win 4).blk t).view.emb j := rfl

/-- What a point writes back of the update is its block of the reference's. -/
theorem flushed4_eq (c : Dev nD) (t : Fin cfg0.N) : (dats m 0 c).flushed 4 t
    = ((cfg0.win 4).blk t).view.read (Elt Ideal)
      (val_main_v23 (F := Ideal) (V m c main_arg0) (V m c main_arg1) (V m c main_arg2) (V m c main_arg3)) := by
  rw [flushed4]
  funext j
  show out0_4 (iblk m c 0 t) (iblk m c 1 t) (iblk m c 2 t) (iblk m c 3 t) j
    = val_main_v23 (F := Ideal) (V m c main_arg0) (V m c main_arg1) (V m c main_arg2) (V m c main_arg3) (((cfg0.win 4).blk t).view.emb j)
  unfold out0_4
  simp only [View.ld_unit_zero (S := S1x256x1024) hz]
  refine (canon4_eq (iblk m c 2 t) (iblk m c 0 t) (iblk m c 3 t) (iblk m c 1 t) j).trans ?_
  show E4 (F := Ideal) (fun _ => iblk m c 2 t (ix4_0 j)) (fun _ => iblk m c 0 t (ix4_0 j)) (fun _ => iblk m c 3 t (ix4_0 j)) (fun _ => iblk m c 1 t (ix4_0 j)) j = _
  rw [at_self, blk0, blk1, blk2, blk3]
  rfl

/-- Every index of the update is in some point's block. -/
theorem covered4 (i : S4x256x1024.Idx) : ∃ t : Fin cfg0.N, (cfg0.win 4).flush t = true ∧ i ∈ ((cfg0.win 4).blk t).view.set := by
  have h0 : (i 0).val < 4 := (i 0).isLt
  have h1 : (i 1).val < 256 := (i 1).isLt
  have h2 : (i 2).val < 1024 := (i 2).isLt
  obtain ⟨t, e0⟩ := idx_all ⟨(i 0).val, h0⟩
  obtain ⟨e1, e2⟩ := idx_rest t
  refine ⟨t, flush0_4 t, ?_⟩
  show i ∈ ((View.whole main_v0_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1
              dsimp only at e0; omega
  | ⟨1, _⟩ => show win0_4.index t (1 : Fin 3) * 256 ≤ (i 1).val ∧ (i 1).val < win0_4.index t (1 : Fin 3) * 256 + 256
              omega
  | ⟨2, _⟩ => show win0_4.index t (2 : Fin 3) * 1024 ≤ (i 2).val ∧ (i 2).val < win0_4.index t (2 : Fin 3) * 1024 + 1024
              omega

/-- The update after the run is the reference's, of the arguments as launched. -/
theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) :=
  ((dats m 0 c).arrAt_eq_of_cover 4 _ (fun t _ => flushed4_eq m c t) covered4).trans
    (by rw [V_main_arg0, V_main_arg1, V_main_arg2, V_main_arg3])

/-- What a point writes back of the new first moment is its block of the reference's. -/
theorem flushed5_eq (c : Dev nD) (t : Fin cfg0.N) : (dats m 0 c).flushed 5 t
    = ((cfg0.win 5).blk t).view.read (Elt Ideal)
      (val_main_v4 (F := Ideal) (V m c main_arg0) (V m c main_arg2)) := by
  rw [flushed5]
  funext j
  show out0_5 (iblk m c 0 t) (iblk m c 1 t) (iblk m c 2 t) (iblk m c 3 t) j
    = val_main_v4 (F := Ideal) (V m c main_arg0) (V m c main_arg2) (((cfg0.win 5).blk t).view.emb j)
  unfold out0_5
  simp only [View.ld_unit_zero (S := S1x256x1024) hz]
  refine (canon5_eq (iblk m c 2 t) (iblk m c 0 t) j).trans ?_
  rw [emb5 t j]
  show E5 (F := Ideal) (fun _ => iblk m c 2 t (ix4_0 j)) (fun _ => iblk m c 0 t (ix4_0 j)) j = _
  rw [at_self, blk0, blk2]
  rfl

/-- Every index of the new first moment is in some point's block. -/
theorem covered5 (i : S4x256x1024.Idx) : ∃ t : Fin cfg0.N, (cfg0.win 5).flush t = true ∧ i ∈ ((cfg0.win 5).blk t).view.set := by
  obtain ⟨t, _, h⟩ := covered4 i
  exact ⟨t, flush0_5 t, h⟩

/-- The new first moment after the run is the reference's, of the arguments as launched. -/
theorem final5 (c : Dev nD) : (dats m 0 c).arrAt 5 cfg0.N
    = val_main_v4 (F := Ideal) (m ((c : Thread nD τ).loc main_arg0)) (m ((c : Thread nD τ).loc main_arg2)) :=
  ((dats m 0 c).arrAt_eq_of_cover 5 _ (fun t _ => flushed5_eq m c t) covered5).trans
    (by rw [V_main_arg0, V_main_arg2])

/-- What a point writes back of the new second moment is its block of the reference's. -/
theorem flushed6_eq (c : Dev nD) (t : Fin cfg0.N) : (dats m 0 c).flushed 6 t
    = ((cfg0.win 6).blk t).view.read (Elt Ideal)
      (val_main_v10 (F := Ideal) (V m c main_arg0) (V m c main_arg3)) := by
  rw [flushed6]
  funext j
  show out0_6 (iblk m c 0 t) (iblk m c 1 t) (iblk m c 2 t) (iblk m c 3 t) j
    = val_main_v10 (F := Ideal) (V m c main_arg0) (V m c main_arg3) (((cfg0.win 6).blk t).view.emb j)
  unfold out0_6
  simp only [View.ld_unit_zero (S := S1x256x1024) hz]
  refine (canon6_eq (iblk m c 3 t) (iblk m c 0 t) j).trans ?_
  rw [emb6 t j]
  show E6 (F := Ideal) (fun _ => iblk m c 3 t (ix4_0 j)) (fun _ => iblk m c 0 t (ix4_0 j)) j = _
  rw [at_self, blk0, blk3]
  rfl

/-- Every index of the new second moment is in some point's block. -/
theorem covered6 (i : S4x256x1024.Idx) : ∃ t : Fin cfg0.N, (cfg0.win 6).flush t = true ∧ i ∈ ((cfg0.win 6).blk t).view.set := by
  obtain ⟨t, _, h⟩ := covered4 i
  exact ⟨t, flush0_6 t, h⟩

/-- The new second moment after the run is the reference's, of the arguments as launched. -/
theorem final6 (c : Dev nD) : (dats m 0 c).arrAt 6 cfg0.N
    = val_main_v10 (F := Ideal) (m ((c : Thread nD τ).loc main_arg0)) (m ((c : Thread nD τ).loc main_arg3)) :=
  ((dats m 0 c).arrAt_eq_of_cover 6 _ (fun t _ => flushed6_eq m c t) covered6).trans
    (by rw [V_main_arg0, V_main_arg3])

/-- Kernel and reference, from memories that agree on the operands, both run and end with the same three results. -/
theorem algebraic : Cert.algebraic_Kernel12Ideal_Reference12Ideal := by
  intro m g m' g' _ h
  refine ⟨fun c => val_main_v23 (F := Ideal) (m ((c : Thread nD τ).loc main_arg0))
      (m ((c : Thread nD τ).loc main_arg1)) (m ((c : Thread nD τ).loc main_arg2)) (m ((c : Thread nD τ).loc main_arg3)),
    fun c => val_main_v4 (F := Ideal) (m ((c : Thread nD τ).loc main_arg0)) (m ((c : Thread nD τ).loc main_arg2)),
    fun c => val_main_v10 (F := Ideal) (m ((c : Thread nD τ).loc main_arg0)) (m ((c : Thread nD τ).loc main_arg3)),
    ?_, ?_⟩
  · exact (θ_run Cert.Kernel12Ideal.defs _ _).mono (fun r h c => ⟨(h c).1.trans (final4 m c),
      (h c).2.1.trans (final5 m c), (h c).2.2.1.trans (final6 m c), (h c).2.2.2⟩) (run_blocks m g)
  · refine (θ_run Cert.Reference12Ideal.defs _ _).mono (fun r hr c => ⟨(hr c).1.trans ?_, (hr c).2.1.trans ?_,
      (hr c).2.2.1.trans ?_, (hr c).2.2.2⟩) (Cert.Reference12Ideal.Value.run (F := Ideal) m' g')
    all_goals obtain ⟨h0, h1, h2, h3⟩ := h c
    · refine (val_main_v23_eq _ _ _ _).trans ?_
      rw [h0, h1, h2, h3]
    · refine (val_main_v4_eq _ _).trans ?_
      rw [h0, h2]
    · refine (val_main_v10_eq _ _).trans ?_
      rw [h0, h3]

end Cert.K12

end
-- ==== Proof.K13.lean ====
/- The optimiser on the packed small parameters: the kernel's run leaves the update and the two new moments of the arguments, index
   by index, and the reference's values are the same functions. -/
module

public import proofs.«01_k».proof.Defs
public import proofs.«01_k».proof.Proof.Common
public import proofs.«01_k».proof.Proof.Gen.Kernel13Ideal.Value
public import proofs.«01_k».proof.Proof.Gen.Reference13Ideal.Read

@[expose] public section

set_option maxRecDepth 16384

noncomputable section

namespace Cert.K13

open Cert.Kernel13Ideal Cert.Kernel13Ideal.Gen Cert.Kernel13Ideal.Value Idealize.ShloMosaic Idealize.ShloMosaic.TcCoe
  Idealize.SL.Sem Cert.Common

/-- The kernel's update is the reference's. -/
theorem delta_eq (g w mo v : Vec Ideal S328x128 .f32) :
    G4 (F := Ideal) w g mo v = Cert.Reference13Ideal.Read.val_main_v23 (F := Ideal) g w mo v := rfl

/-- The kernel's new first moment is the reference's. -/
theorem first_eq (g mo : Vec Ideal S328x128 .f32) :
    G5 (F := Ideal) g mo = Cert.Reference13Ideal.Read.val_main_v4 (F := Ideal) g mo := rfl

/-- The kernel's new second moment is the reference's. -/
theorem second_eq (g v : Vec Ideal S328x128 .f32) :
    G6 (F := Ideal) g v = Cert.Reference13Ideal.Read.val_main_v10 (F := Ideal) g v := rfl

/-- Kernel and reference, from memories that agree on the operands, both run and end with the same three results. -/
theorem algebraic : Cert.algebraic_Kernel13Ideal_Reference13Ideal := by
  intro m g m' g' _ h
  refine ⟨fun c => Cert.Reference13Ideal.Read.val_main_v23 (F := Ideal) (m ((c : Thread nD τ).loc main_arg0))
      (m ((c : Thread nD τ).loc main_arg1)) (m ((c : Thread nD τ).loc main_arg2)) (m ((c : Thread nD τ).loc main_arg3)),
    fun c => Cert.Reference13Ideal.Read.val_main_v4 (F := Ideal) (m ((c : Thread nD τ).loc main_arg0)) (m ((c : Thread nD τ).loc main_arg2)),
    fun c => Cert.Reference13Ideal.Read.val_main_v10 (F := Ideal) (m ((c : Thread nD τ).loc main_arg0)) (m ((c : Thread nD τ).loc main_arg3)),
    ?_, ?_⟩
  · exact (θ_run Cert.Kernel13Ideal.defs _ _).mono (fun r h c => ⟨(h c).1.trans (delta_eq _ _ _ _),
      (h c).2.1.trans (first_eq _ _), (h c).2.2.1.trans (second_eq _ _), (h c).2.2.2⟩) (Cert.Kernel13Ideal.Value.run m g)
  · refine (θ_run Cert.Reference13Ideal.defs _ _).mono (fun r hr c => ⟨(hr c).1.trans ?_, (hr c).2.1.trans ?_,
      (hr c).2.2.1.trans ?_, (hr c).2.2.2⟩) (Cert.Reference13Ideal.Value.run (F := Ideal) m' g')
    all_goals obtain ⟨h0, h1, h2, h3⟩ := h c
    · refine (Cert.Reference13Ideal.Read.val_main_v23_eq _ _ _ _).trans ?_
      rw [h0, h1, h2, h3]
    · refine (Cert.Reference13Ideal.Read.val_main_v4_eq _ _).trans ?_
      rw [h0, h2]
    · refine (Cert.Reference13Ideal.Read.val_main_v10_eq _ _).trans ?_
      rw [h0, h3]

end Cert.K13

end
-- ==== Proof.K14.lean ====
/- The optimiser for the input projection's weights: the kernel's run leaves the update and the two new moments of the arguments, index
   by index, and the reference's values are the same functions. -/
module

public import proofs.«01_k».proof.Defs
public import proofs.«01_k».proof.Proof.Common
public import proofs.«01_k».proof.Proof.Gen.Kernel14Ideal.Value
public import proofs.«01_k».proof.Proof.Gen.Reference14Ideal.Read

@[expose] public section

set_option maxRecDepth 16384

noncomputable section

namespace Cert.K14

open Cert.Kernel14Ideal Cert.Kernel14Ideal.Gen Cert.Kernel14Ideal.Value Idealize.ShloMosaic Idealize.ShloMosaic.TcCoe
  Idealize.SL.Sem Cert.Common Cert.Reference14Ideal.Read

/-- The new first moment of one element. -/
def fm (g mo : Ideal .f32) : Ideal .f32 :=
  FloatOps.addf (FloatOps.mulf (Scalar.ofBits .f32 0x3F666666#32) mo) (FloatOps.mulf (Scalar.ofBits .f32 0x3DCCCCCD#32) g)

/-- The new second moment of one element. -/
def sm (g v : Ideal .f32) : Ideal .f32 :=
  FloatOps.addf (FloatOps.mulf (Scalar.ofBits .f32 0x3F7FBE77#32) v)
    (FloatOps.mulf (Scalar.ofBits .f32 0x3A83126F#32) (FloatOps.mulf g g))

/-- The update of one element. -/
def up (g w mo v : Ideal .f32) : Ideal .f32 :=
  FloatOps.mulf (Scalar.ofBits .f32 0xBA83126F#32) (FloatOps.addf (FloatOps.divf (FloatOps.divf (fm g mo) (Scalar.ofBits .f32 0x3F26BD02#32))
    (FloatOps.addf (FloatOps.sqrt (FloatOps.divf (sm g v) (Scalar.ofBits .f32 0x3C231ACC#32))) (Scalar.ofBits .f32 0x322BCC77#32)))
    (FloatOps.mulf (Scalar.ofBits .f32 0x3C23D70A#32) w))

/-- A matrix put in a block of one layer, read. -/
theorem out_apply {α : Type} (v : S56x1024.Idx → α) (x : S56x1x1024.Idx) :
    shapeCast S56x1x1024 v shapeCasts_S56x1024_S56x1x1024 x = v (ix2 (x 0) (x 2)) :=
  shapeCast_apply _ _ x (ix2 (x 0) (x 2)) (by
    have h1 : (x 1).val < 1 := (x 1).isLt
    rw [Shape.rowMajor_val_two, Shape.rowMajor_val_three]
    show (x 0).val * 1024 + (x 2).val = ((x 0).val * 1 + (x 1).val) * 1024 + (x 2).val; omega)

/-- A block of one layer as a matrix, read (the gradient's layout). -/
theorem ing_apply {α : Type} (v : S1x56x1024.Idx → α) (i : S56x1024.Idx) :
    shapeCast S56x1024 v shapeCasts_S1x56x1024_S56x1024 i = v (ix3 0 (i 0) (i 1)) :=
  shapeCast_apply _ _ i (ix3 0 (i 0) (i 1)) (by
    rw [Shape.rowMajor_val_two, Shape.rowMajor_val_three]
    show (0 * 56 + (i 0).val) * 1024 + (i 1).val = (i 0).val * 1024 + (i 1).val; omega)

/-- A block of one layer as a matrix, read (the weights' layout). -/
theorem inw_apply {α : Type} (v : S56x1x1024.Idx → α) (i : S56x1024.Idx) :
    shapeCast S56x1024 v shapeCasts_S56x1x1024_S56x1024 i = v (ix3 (i 0) 0 (i 1)) :=
  shapeCast_apply _ _ i (ix3 (i 0) 0 (i 1)) (by
    rw [Shape.rowMajor_val_two, Shape.rowMajor_val_three]
    show ((i 0).val * 1 + 0) * 1024 + (i 1).val = (i 0).val * 1024 + (i 1).val; omega)

/-- Where the gradient's block has the element that a result's block has at an index. -/
abbrev sw (y : S56x4x1024.Idx) : S4x56x1024.Idx := ix3 (y 1) (y 0) (y 2)

/-- Layer 0 of the gradient's block. -/
theorem ldg0 (u : Vec Ideal S4x56x1024 .f32) (x : S56x1x1024.Idx) :
    View.ld u r0_0 (ix3 0 (x 0) (x 2)) = u (sw (r0_1.idx x)) := by
  have h1 : (x 1).val < 1 := (x 1).isLt
  refine congrArg u (funext fun a => Fin.ext ?_)
  match a with
  | ⟨0, _⟩ => show 0 + 1 * 0 = 0 + 1 * (x 1).val; omega
  | ⟨1, _⟩ => rfl
  | ⟨2, _⟩ => rfl

/-- Layer 0 of the other arguments' blocks. -/
theorem ldw0 (u : Vec Ideal S56x4x1024 .f32) (x : S56x1x1024.Idx) :
    View.ld u r0_1 (ix3 (x 0) 0 (x 2)) = u (r0_1.idx x) := by
  have h1 : (x 1).val < 1 := (x 1).isLt
  refine congrArg u (funext fun a => Fin.ext ?_)
  match a with
  | ⟨0, _⟩ => rfl
  | ⟨1, _⟩ => show 0 + 1 * 0 = 0 + 1 * (x 1).val; omega
  | ⟨2, _⟩ => rfl

/-- Layer 1 of the gradient's block. -/
theorem ldg1 (u : Vec Ideal S4x56x1024 .f32) (x : S56x1x1024.Idx) :
    View.ld u r0_2 (ix3 0 (x 0) (x 2)) = u (sw (r0_3.idx x)) := by
  have h1 : (x 1).val < 1 := (x 1).isLt
  refine congrArg u (funext fun a => Fin.ext ?_)
  match a with
  | ⟨0, _⟩ => show 1 + 1 * 0 = 1 + 1 * (x 1).val; omega
  | ⟨1, _⟩ => rfl
  | ⟨2, _⟩ => rfl

/-- Layer 1 of the other arguments' blocks. -/
theorem ldw1 (u : Vec Ideal S56x4x1024 .f32) (x : S56x1x1024.Idx) :
    View.ld u r0_3 (ix3 (x 0) 0 (x 2)) = u (r0_3.idx x) := by
  have h1 : (x 1).val < 1 := (x 1).isLt
  refine congrArg u (funext fun a => Fin.ext ?_)
  match a with
  | ⟨0, _⟩ => rfl
  | ⟨1, _⟩ => show 1 + 1 * 0 = 1 + 1 * (x 1).val; omega
  | ⟨2, _⟩ => rfl

/-- Layer 2 of the gradient's block. -/
theorem ldg2 (u : Vec Ideal S4x56x1024 .f32) (x : S56x1x1024.Idx) :
    View.ld u r0_4 (ix3 0 (x 0) (x 2)) = u (sw (r0_5.idx x)) := by
  have h1 : (x 1).val < 1 := (x 1).isLt
  refine congrArg u (funext fun a => Fin.ext ?_)
  match a with
  | ⟨0, _⟩ => show 2 + 1 * 0 = 2 + 1 * (x 1).val; omega
  | ⟨1, _⟩ => rfl
  | ⟨2, _⟩ => rfl

/-- Layer 2 of the other arguments' blocks. -/
theorem ldw2 (u : Vec Ideal S56x4x1024 .f32) (x : S56x1x1024.Idx) :
    View.ld u r0_5 (ix3 (x 0) 0 (x 2)) = u (r0_5.idx x) := by
  have h1 : (x 1).val < 1 := (x 1).isLt
  refine congrArg u (funext fun a => Fin.ext ?_)
  match a with
  | ⟨0, _⟩ => rfl
  | ⟨1, _⟩ => show 2 + 1 * 0 = 2 + 1 * (x 1).val; omega
  | ⟨2, _⟩ => rfl

/-- Layer 3 of the gradient's block. -/
theorem ldg3 (u : Vec Ideal S4x56x1024 .f32) (x : S56x1x1024.Idx) :
    View.ld u r0_6 (ix3 0 (x 0) (x 2)) = u (sw (r0_7.idx x)) := by
  have h1 : (x 1).val < 1 := (x 1).isLt
  refine congrArg u (funext fun a => Fin.ext ?_)
  match a with
  | ⟨0, _⟩ => show 3 + 1 * 0 = 3 + 1 * (x 1).val; omega
  | ⟨1, _⟩ => rfl
  | ⟨2, _⟩ => rfl

/-- Layer 3 of the other arguments' blocks. -/
theorem ldw3 (u : Vec Ideal S56x4x1024 .f32) (x : S56x1x1024.Idx) :
    View.ld u r0_7 (ix3 (x 0) 0 (x 2)) = u (r0_7.idx x) := by
  have h1 : (x 1).val < 1 := (x 1).isLt
  refine congrArg u (funext fun a => Fin.ext ?_)
  match a with
  | ⟨0, _⟩ => rfl
  | ⟨1, _⟩ => show 3 + 1 * 0 = 3 + 1 * (x 1).val; omega
  | ⟨2, _⟩ => rfl

/-- What a point leaves of the gradient, element by element of the blocks that it reads. -/
theorem out4_apply (x0 : Vec Ideal S4x56x1024 .f32) (x1 x2 x3 : Vec Ideal S56x4x1024 .f32) (y : S56x4x1024.Idx) :
    out0_4 x0 x1 x2 x3 y = x0 (sw y) := by
  unfold out0_4
  refine View.canon_apply_of_pieces (Val := Elt Ideal) (e := .f32) (fun y : S56x4x1024.Idx => (x0 (sw y) : Elt Ideal .f32)) _ ?_ y (cover0_4 _ _ _ _ y)
  intro pc hpc
  rcases List.mem_cons.mp hpc with rfl | hpc
  · have key : ∀ x : S56x1x1024.Idx, (k0_pay1 (k0_pay31 (View.ld x0 r0_6))) x = x0 (sw (r0_7.idx x)) := by
      intro x
      simp only [k0_pay1, k0_pay31]
      refine (out_apply _ x).trans ?_
      simp only [addf, mulf, divf, sqrt, broadcast, ing_apply, inw_apply]
      rw [← ldg3 x0]
      rfl
    exact key
  rcases List.mem_cons.mp hpc with rfl | hpc
  · have key : ∀ x : S56x1x1024.Idx, (k0_pay27 (k0_pay36 x0 x1 x2 x3)) x = x0 (sw (r0_5.idx x)) := by
      intro x
      simp only [k0_pay22, k0_pay27, k0_pay36]
      refine (out_apply _ x).trans ?_
      simp only [addf, mulf, divf, sqrt, broadcast, ing_apply, inw_apply]
      rw [← ldg2 x0]
      rfl
    exact key
  rcases List.mem_cons.mp hpc with rfl | hpc
  · have key : ∀ x : S56x1x1024.Idx, (k0_pay18 (k0_pay13 (View.ld x0 r0_2))) x = x0 (sw (r0_3.idx x)) := by
      intro x
      simp only [k0_pay13, k0_pay18]
      refine (out_apply _ x).trans ?_
      simp only [addf, mulf, divf, sqrt, broadcast, ing_apply, inw_apply]
      rw [← ldg1 x0]
      rfl
    exact key
  rcases List.mem_cons.mp hpc with rfl | hpc
  · have key : ∀ x : S56x1x1024.Idx, (k0_pay9 (View.ld x0 r0_0)) x = x0 (sw (r0_1.idx x)) := by
      intro x
      simp only [k0_pay5, k0_pay9]
      refine (out_apply _ x).trans ?_
      simp only [addf, mulf, divf, sqrt, broadcast, ing_apply, inw_apply]
      rw [← ldg0 x0]
      rfl
    exact key
  nomatch hpc

/-- What a point leaves of the update, element by element of the blocks that it reads. -/
theorem out5_apply (x0 : Vec Ideal S4x56x1024 .f32) (x1 x2 x3 : Vec Ideal S56x4x1024 .f32) (y : S56x4x1024.Idx) :
    out0_5 x0 x1 x2 x3 y = up (x0 (sw y)) (x1 y) (x2 y) (x3 y) := by
  unfold out0_5
  refine View.canon_apply_of_pieces (Val := Elt Ideal) (e := .f32) (fun y : S56x4x1024.Idx => (up (x0 (sw y)) (x1 y) (x2 y) (x3 y) : Elt Ideal .f32)) _ ?_ y (cover0_5 _ _ _ _ y)
  intro pc hpc
  rcases List.mem_cons.mp hpc with rfl | hpc
  · have key : ∀ x : S56x1x1024.Idx, (k0_pay2 (k0_pay34 (View.ld x0 r0_6) (View.ld x1 r0_7) (View.ld x2 r0_7) (View.ld x3 r0_7))) x = up (x0 (sw (r0_7.idx x))) (x1 (r0_7.idx x)) (x2 (r0_7.idx x)) (x3 (r0_7.idx x)) := by
      intro x
      simp only [k0_pay2, k0_pay31, k0_pay32, k0_pay33, k0_pay34]
      refine (out_apply _ x).trans ?_
      simp only [addf, mulf, divf, sqrt, broadcast, ing_apply, inw_apply]
      rw [← ldg3 x0, ← ldw3 x1, ← ldw3 x2, ← ldw3 x3]
      rfl
    exact key
  rcases List.mem_cons.mp hpc with rfl | hpc
  · have key : ∀ x : S56x1x1024.Idx, (k0_pay28 (k0_pay36 x0 x1 x2 x3) (k0_pay23 (View.ld x1 r0_5)) (k0_pay37 x0 x1 x2 x3) (View.ld x3 r0_5)) x = up (x0 (sw (r0_5.idx x))) (x1 (r0_5.idx x)) (x2 (r0_5.idx x)) (x3 (r0_5.idx x)) := by
      intro x
      simp only [k0_pay22, k0_pay23, k0_pay24, k0_pay25, k0_pay26, k0_pay28, k0_pay36, k0_pay37]
      refine (out_apply _ x).trans ?_
      simp only [addf, mulf, divf, sqrt, broadcast, ing_apply, inw_apply]
      rw [← ldg2 x0, ← ldw2 x1, ← ldw2 x2, ← ldw2 x3]
      rfl
    exact key
  rcases List.mem_cons.mp hpc with rfl | hpc
  · have key : ∀ x : S56x1x1024.Idx, (k0_pay19 (k0_pay14 (View.ld x1 r0_3)) (k0_pay35 x0 x1 x2 x3) (k0_pay17 (View.ld x0 r0_2) (View.ld x2 r0_3))) x = up (x0 (sw (r0_3.idx x))) (x1 (r0_3.idx x)) (x2 (r0_3.idx x)) (x3 (r0_3.idx x)) := by
      intro x
      simp only [k0_pay13, k0_pay14, k0_pay15, k0_pay16, k0_pay17, k0_pay19, k0_pay35]
      refine (out_apply _ x).trans ?_
      simp only [addf, mulf, divf, sqrt, broadcast, ing_apply, inw_apply]
      rw [← ldg1 x0, ← ldw1 x1, ← ldw1 x2, ← ldw1 x3]
      rfl
    exact key
  rcases List.mem_cons.mp hpc with rfl | hpc
  · have key : ∀ x : S56x1x1024.Idx, (k0_pay10 (k0_pay8 (View.ld x0 r0_0) (View.ld x1 r0_1) (View.ld x2 r0_1) (View.ld x3 r0_1))) x = up (x0 (sw (r0_1.idx x))) (x1 (r0_1.idx x)) (x2 (r0_1.idx x)) (x3 (r0_1.idx x)) := by
      intro x
      simp only [k0_pay5, k0_pay6, k0_pay7, k0_pay8, k0_pay10]
      refine (out_apply _ x).trans ?_
      simp only [addf, mulf, divf, sqrt, broadcast, ing_apply, inw_apply]
      rw [← ldg0 x0, ← ldw0 x1, ← ldw0 x2, ← ldw0 x3]
      rfl
    exact key
  nomatch hpc

/-- What a point leaves of the new first moment, element by element of the blocks that it reads. -/
theorem out6_apply (x0 : Vec Ideal S4x56x1024 .f32) (x1 x2 x3 : Vec Ideal S56x4x1024 .f32) (y : S56x4x1024.Idx) :
    out0_6 x0 x1 x2 x3 y = fm (x0 (sw y)) (x2 y) := by
  unfold out0_6
  refine View.canon_apply_of_pieces (Val := Elt Ideal) (e := .f32) (fun y : S56x4x1024.Idx => (fm (x0 (sw y)) (x2 y) : Elt Ideal .f32)) _ ?_ y (cover0_6 _ _ _ _ y)
  intro pc hpc
  rcases List.mem_cons.mp hpc with rfl | hpc
  · have key : ∀ x : S56x1x1024.Idx, (k0_pay3 (k0_pay32 (View.ld x0 r0_6) (View.ld x2 r0_7))) x = fm (x0 (sw (r0_7.idx x))) (x2 (r0_7.idx x)) := by
      intro x
      simp only [k0_pay3, k0_pay31, k0_pay32]
      refine (out_apply _ x).trans ?_
      simp only [addf, mulf, divf, sqrt, broadcast, ing_apply, inw_apply]
      rw [← ldg3 x0, ← ldw3 x2]
      rfl
    exact key
  rcases List.mem_cons.mp hpc with rfl | hpc
  · have key : ∀ x : S56x1x1024.Idx, (k0_pay29 (k0_pay36 x0 x1 x2 x3) (k0_pay37 x0 x1 x2 x3)) x = fm (x0 (sw (r0_5.idx x))) (x2 (r0_5.idx x)) := by
      intro x
      simp only [k0_pay22, k0_pay24, k0_pay25, k0_pay29, k0_pay36, k0_pay37]
      refine (out_apply _ x).trans ?_
      simp only [addf, mulf, divf, sqrt, broadcast, ing_apply, inw_apply]
      rw [← ldg2 x0, ← ldw2 x2]
      rfl
    exact key
  rcases List.mem_cons.mp hpc with rfl | hpc
  · have key : ∀ x : S56x1x1024.Idx, (k0_pay20 (k0_pay15 (View.ld x0 r0_2) (View.ld x2 r0_3))) x = fm (x0 (sw (r0_3.idx x))) (x2 (r0_3.idx x)) := by
      intro x
      simp only [k0_pay13, k0_pay15, k0_pay20]
      refine (out_apply _ x).trans ?_
      simp only [addf, mulf, divf, sqrt, broadcast, ing_apply, inw_apply]
      rw [← ldg1 x0, ← ldw1 x2]
      rfl
    exact key
  rcases List.mem_cons.mp hpc with rfl | hpc
  · have key : ∀ x : S56x1x1024.Idx, (k0_pay11 (k0_pay6 (View.ld x0 r0_0) (View.ld x2 r0_1))) x = fm (x0 (sw (r0_1.idx x))) (x2 (r0_1.idx x)) := by
      intro x
      simp only [k0_pay5, k0_pay6, k0_pay11]
      refine (out_apply _ x).trans ?_
      simp only [addf, mulf, divf, sqrt, broadcast, ing_apply, inw_apply]
      rw [← ldg0 x0, ← ldw0 x2]
      rfl
    exact key
  nomatch hpc

/-- What a point leaves of the new second moment, element by element of the blocks that it reads. -/
theorem out7_apply (x0 : Vec Ideal S4x56x1024 .f32) (x1 x2 x3 : Vec Ideal S56x4x1024 .f32) (y : S56x4x1024.Idx) :
    out0_7 x0 x1 x2 x3 y = sm (x0 (sw y)) (x3 y) := by
  unfold out0_7
  refine View.canon_apply_of_pieces (Val := Elt Ideal) (e := .f32) (fun y : S56x4x1024.Idx => (sm (x0 (sw y)) (x3 y) : Elt Ideal .f32)) _ ?_ y (cover0_7 _ _ _ _ y)
  intro pc hpc
  rcases List.mem_cons.mp hpc with rfl | hpc
  · have key : ∀ x : S56x1x1024.Idx, (k0_pay4 (k0_pay33 (View.ld x0 r0_6) (View.ld x3 r0_7))) x = sm (x0 (sw (r0_7.idx x))) (x3 (r0_7.idx x)) := by
      intro x
      simp only [k0_pay4, k0_pay31, k0_pay33]
      refine (out_apply _ x).trans ?_
      simp only [addf, mulf, divf, sqrt, broadcast, ing_apply, inw_apply]
      rw [← ldg3 x0, ← ldw3 x3]
      rfl
    exact key
  rcases List.mem_cons.mp hpc with rfl | hpc
  · have key : ∀ x : S56x1x1024.Idx, (k0_pay30 (k0_pay26 (k0_pay36 x0 x1 x2 x3) (View.ld x3 r0_5))) x = sm (x0 (sw (r0_5.idx x))) (x3 (r0_5.idx x)) := by
      intro x
      simp only [k0_pay22, k0_pay26, k0_pay30, k0_pay36]
      refine (out_apply _ x).trans ?_
      simp only [addf, mulf, divf, sqrt, broadcast, ing_apply, inw_apply]
      rw [← ldg2 x0, ← ldw2 x3]
      rfl
    exact key
  rcases List.mem_cons.mp hpc with rfl | hpc
  · have key : ∀ x : S56x1x1024.Idx, (k0_pay21 (k0_pay35 x0 x1 x2 x3)) x = sm (x0 (sw (r0_3.idx x))) (x3 (r0_3.idx x)) := by
      intro x
      simp only [k0_pay13, k0_pay16, k0_pay21, k0_pay35]
      refine (out_apply _ x).trans ?_
      simp only [addf, mulf, divf, sqrt, broadcast, ing_apply, inw_apply]
      rw [← ldg1 x0, ← ldw1 x3]
      rfl
    exact key
  rcases List.mem_cons.mp hpc with rfl | hpc
  · have key : ∀ x : S56x1x1024.Idx, (k0_pay12 (k0_pay7 (View.ld x0 r0_0) (View.ld x3 r0_1))) x = sm (x0 (sw (r0_1.idx x))) (x3 (r0_1.idx x)) := by
      intro x
      simp only [k0_pay5, k0_pay7, k0_pay12]
      refine (out_apply _ x).trans ?_
      simp only [addf, mulf, divf, sqrt, broadcast, ing_apply, inw_apply]
      rw [← ldg0 x0, ← ldw0 x3]
      rfl
    exact key
  nomatch hpc

/-- At every point the gradient's block and the others have the same rows, and the rest of the arrays whole. -/
theorem idx : ∀ t : Fin cfg0.N, win0_0.index t (1 : Fin 3) = win0_4.index t (0 : Fin 3) ∧ win0_0.index t (0 : Fin 3) = 0
    ∧ win0_0.index t (2 : Fin 3) = 0 ∧ win0_4.index t (1 : Fin 3) = 0 ∧ win0_4.index t (2 : Fin 3) = 0 :=
  (by decide +kernel : ∀ t : Fin grid0.N, _)

/-- Every group of 56 rows is some point's. -/
theorem idx_all : ∀ p : Fin 14, ∃ t : Fin cfg0.N, win0_4.index t (0 : Fin 3) = p.val :=
  (by decide +kernel : ∀ p : Fin 14, ∃ t : Fin grid0.N, _)

variable (m : (ℓ : Loc nD τ sig) → Buf (Elt Ideal) ℓ) (ρ : Dev nD → PrngReg)

/-- Where the gradient argument has the element that a result array has at an index. -/
abbrev swA (i : S784x4x1024.Idx) : S4x784x1024.Idx := ix3 (i 1) (i 0) (i 2)

/-- Where the weights and moments have the element that a result array has at an index. -/
abbrev swW (i : S784x4x1024.Idx) : S4x1024x784.Idx := ix3 (i 1) (i 2) (i 0)

/-- The reference's transposed gradient, read. -/
theorem swA_eq (i : S784x4x1024.Idx) : idx_main_v0 (swW i) = swA i := by
  funext a
  match a with
  | ⟨0, _⟩ => rfl
  | ⟨1, _⟩ => rfl
  | ⟨2, _⟩ => rfl

/-- The reference's transposed results, read. -/
theorem swW_eq (i : S784x4x1024.Idx) : idx_main_v25 i = swW i := by
  funext a
  match a with
  | ⟨0, _⟩ => rfl
  | ⟨1, _⟩ => rfl
  | ⟨2, _⟩ => rfl

/-- The transposed argument 1, before the call. -/
theorem V_v0 (c : Dev nD) (i : S784x4x1024.Idx) : V m c main_v0 i = m ((c : Thread nD τ).loc main_arg1) (swW i) := by
  have e : V m c main_v0 = transpose S784x4x1024 [2, 0, 1] (m ((c : Thread nD τ).loc main_arg1)) transposes_S4x1024x784_S784x4x1024_2_0_1 := by
    unfold V
    after_results_simp
  rw [e]
  exact transpose_apply [2, 0, 1] _ transposes_S4x1024x784_S784x4x1024_2_0_1 i (swW i) (fun b => match b with
    | ⟨0, _⟩ => rfl
    | ⟨1, _⟩ => rfl
    | ⟨2, _⟩ => rfl)

/-- The transposed argument 2, before the call. -/
theorem V_v1 (c : Dev nD) (i : S784x4x1024.Idx) : V m c main_v1 i = m ((c : Thread nD τ).loc main_arg2) (swW i) := by
  have e : V m c main_v1 = transpose S784x4x1024 [2, 0, 1] (m ((c : Thread nD τ).loc main_arg2)) transposes_S4x1024x784_S784x4x1024_2_0_1 := by
    unfold V
    after_results_simp
  rw [e]
  exact transpose_apply [2, 0, 1] _ transposes_S4x1024x784_S784x4x1024_2_0_1 i (swW i) (fun b => match b with
    | ⟨0, _⟩ => rfl
    | ⟨1, _⟩ => rfl
    | ⟨2, _⟩ => rfl)

/-- The transposed argument 3, before the call. -/
theorem V_v2 (c : Dev nD) (i : S784x4x1024.Idx) : V m c main_v2 i = m ((c : Thread nD τ).loc main_arg3) (swW i) := by
  have e : V m c main_v2 = transpose S784x4x1024 [2, 0, 1] (m ((c : Thread nD τ).loc main_arg3)) transposes_S4x1024x784_S784x4x1024_2_0_1 := by
    unfold V
    after_results_simp
  rw [e]
  exact transpose_apply [2, 0, 1] _ transposes_S4x1024x784_S784x4x1024_2_0_1 i (swW i) (fun b => match b with
    | ⟨0, _⟩ => rfl
    | ⟨1, _⟩ => rfl
    | ⟨2, _⟩ => rfl)

/-- The gradient's block at a point, read where a result's block has an index. -/
theorem blk0 (c : Dev nD) (t : Fin cfg0.N) (j : S56x4x1024.Idx) :
    iblk m c 0 t (sw j) = m ((c : Thread nD τ).loc main_arg0) (swA (((cfg0.win 4).blk t).view.emb j)) := by
  rw [← V_main_arg0 m c]
  show V m c main_arg0 (((cfg0.win 0).blk t).view.emb (sw j)) = _
  obtain ⟨e0, e1, e2, e3, e4⟩ := idx t
  refine congrArg (V m c main_arg0) (funext fun a => Fin.ext ?_)
  match a with
  | ⟨0, _⟩ => show win0_0.index t (0 : Fin 3) * 4 + 1 * (j 1).val = win0_4.index t (1 : Fin 3) * 4 + 1 * (j 1).val; omega
  | ⟨1, _⟩ => show win0_0.index t (1 : Fin 3) * 56 + 1 * (j 0).val = win0_4.index t (0 : Fin 3) * 56 + 1 * (j 0).val; omega
  | ⟨2, _⟩ => show win0_0.index t (2 : Fin 3) * 1024 + 1 * (j 2).val = win0_4.index t (2 : Fin 3) * 1024 + 1 * (j 2).val; omega

/-- Argument 1's block at a point. -/
theorem blk1 (c : Dev nD) (t : Fin cfg0.N) (j : S56x4x1024.Idx) :
    iblk m c 1 t j = m ((c : Thread nD τ).loc main_arg1) (swW (((cfg0.win 4).blk t).view.emb j)) :=
  V_v0 m c (((cfg0.win 4).blk t).view.emb j)

/-- Argument 2's block at a point. -/
theorem blk2 (c : Dev nD) (t : Fin cfg0.N) (j : S56x4x1024.Idx) :
    iblk m c 2 t j = m ((c : Thread nD τ).loc main_arg2) (swW (((cfg0.win 4).blk t).view.emb j)) :=
  V_v1 m c (((cfg0.win 4).blk t).view.emb j)

/-- Argument 3's block at a point. -/
theorem blk3 (c : Dev nD) (t : Fin cfg0.N) (j : S56x4x1024.Idx) :
    iblk m c 3 t j = m ((c : Thread nD τ).loc main_arg3) (swW (((cfg0.win 4).blk t).view.emb j)) :=
  V_v2 m c (((cfg0.win 4).blk t).view.emb j)

/-- Argument 0 as launched. -/
abbrev g0 (c : Dev nD) := m ((c : Thread nD τ).loc main_arg0)

/-- Argument 1 as launched. -/
abbrev g1 (c : Dev nD) := m ((c : Thread nD τ).loc main_arg1)

/-- Argument 2 as launched. -/
abbrev g2 (c : Dev nD) := m ((c : Thread nD τ).loc main_arg2)

/-- Argument 3 as launched. -/
abbrev g3 (c : Dev nD) := m ((c : Thread nD τ).loc main_arg3)

/-- The reference's gradient, element by element. -/
theorem ref4 (a0 : Vec Ideal S4x784x1024 .f32) (i : S784x4x1024.Idx) : val_main_v25 (F := Ideal) a0 i = a0 (swA i) := by
  rw [val_main_v25_apply]
  rw [show idx_main_v25 i = swW i from swW_eq i]
  rw [val_main_v0_apply, swA_eq]

/-- What a point writes back of the gradient is its block of the reference's. -/
theorem flushed4_eq (c : Dev nD) (t : Fin cfg0.N) : (dats m 0 c).flushed 4 t
    = ((cfg0.win 4).blk t).view.read (Elt Ideal) (val_main_v25 (F := Ideal) (g0 m c)) := by
  rw [flushed4]
  funext j
  show out0_4 (iblk m c 0 t) (iblk m c 1 t) (iblk m c 2 t) (iblk m c 3 t) j = val_main_v25 (F := Ideal) (g0 m c) (((cfg0.win 4).blk t).view.emb j)
  refine (out4_apply _ _ _ _ j).trans (Eq.trans ?_ (ref4 _ _).symm)
  rw [blk0]

/-- Every index of the gradient is in some point's block. -/
theorem covered4 (i : S784x4x1024.Idx) : ∃ t : Fin cfg0.N, (cfg0.win 4).flush t = true ∧ i ∈ ((cfg0.win 4).blk t).view.set := by
  have h0 : (i 0).val < 784 := (i 0).isLt
  have h1 : (i 1).val < 4 := (i 1).isLt
  have h2 : (i 2).val < 1024 := (i 2).isLt
  obtain ⟨t, e⟩ := idx_all ⟨(i 0).val / 56, by omega⟩
  obtain ⟨e0, e1, e2, e3, e4⟩ := idx t
  refine ⟨t, flush0_4 t, ?_⟩
  show i ∈ ((View.whole main_v3_0).slice (win0_4.rect t)).set
  rw [View.set_slice_whole, Rect.mem_set_unit]
  intro a
  match a with
  | ⟨0, _⟩ => show win0_4.index t (0 : Fin 3) * 56 ≤ (i 0).val ∧ (i 0).val < win0_4.index t (0 : Fin 3) * 56 + 56
              dsimp only at e; omega
  | ⟨1, _⟩ => show win0_4.index t (1 : Fin 3) * 4 ≤ (i 1).val ∧ (i 1).val < win0_4.index t (1 : Fin 3) * 4 + 4
              omega
  | ⟨2, _⟩ => show win0_4.index t (2 : Fin 3) * 1024 ≤ (i 2).val ∧ (i 2).val < win0_4.index t (2 : Fin 3) * 1024 + 1024
              omega

/-- The gradient after the run is the reference's, of the arguments as launched. -/
theorem final4 (c : Dev nD) : (dats m 0 c).arrAt 4 cfg0.N = val_main_v25 (F := Ideal) (g0 m c) :=
  (dats m 0 c).arrAt_eq_of_cover 4 _ (fun t _ => flushed4_eq m c t) covered4

/-- The reference's update, element by element. -/
theorem ref5 (a0 : Vec Ideal S4x784x1024 .f32) (a1 : Vec Ideal S4x1024x784 .f32) (a2 : Vec Ideal S4x1024x784 .f32) (a3 : Vec Ideal S4x1024x784 .f32) (i : S784x4x1024.Idx) : val_main_v26 (F := Ideal) a0 a1 a2 a3 i = up (a0 (swA i)) (a1 (swW i)) (a2 (swW i)) (a3 (swW i)) := by
  rw [val_main_v26_apply]
  rw [show idx_main_v26 i = swW i from swW_eq i]
  have e : val_main_v0 (F := Ideal) a0 (swW i) = a0 (swA i) := by
    rw [val_main_v0_apply, swA_eq]
  rw [← e]
  rfl

/-- What a point writes back of the update is its block of the reference's. -/
theorem flushed5_eq (c : Dev nD) (t : Fin cfg0.N) : (dats m 0 c).flushed 5 t
    = ((cfg0.win 5).blk t).view.read (Elt Ideal) (val_main_v26 (F := Ideal) (g0 m c) (g1 m c) (g2 m c) (g3 m c)) := by
  rw [flushed5]
  funext j
  show out0_5 (iblk m c 0 t) (iblk m c 1 t) (iblk m c 2 t) (iblk m c 3 t) j = val_main_v26 (F := Ideal) (g0 m c) (g1 m c) (g2 m c) (g3 m c) (((cfg0.win 4).blk t).view.emb j)
  refine (out5_apply _ _ _ _ j).trans (Eq.trans ?_ (ref5 _ _ _ _ _).symm)
  rw [blk0, blk1, blk2, blk3]

/-- Every index of the update is in some point's block. -/
theorem covered5 (i : S784x4x1024.Idx) : ∃ t : Fin cfg0.N, (cfg0.win 5).flush t = true ∧ i ∈ ((cfg0.win 5).blk t).view.set := by
  obtain ⟨t, _, h⟩ := covered4 i
  exact ⟨t, flush0_5 t, h⟩

/-- The update after the run is the reference's, of the arguments as launched. -/
theorem final5 (c : Dev nD) : (dats m 0 c).arrAt 5 cfg0.N = val_main_v26 (F := Ideal) (g0 m c) (g1 m c) (g2 m c) (g3 m c) :=
  (dats m 0 c).arrAt_eq_of_cover 5 _ (fun t _ => flushed5_eq m c t) covered5

/-- The reference's new first moment, element by element. -/
theorem ref6 (a0 : Vec Ideal S4x784x1024 .f32) (a2 : Vec Ideal S4x1024x784 .f32) (i : S784x4x1024.Idx) : val_main_v27 (F := Ideal) a0 a2 i = fm (a0 (swA i)) (a2 (swW i)) := by
  rw [val_main_v27_apply]
  rw [show idx_main_v27 i = swW i from swW_eq i]
  have e : val_main_v0 (F := Ideal) a0 (swW i) = a0 (swA i) := by
    rw [val_main_v0_apply, swA_eq]
  rw [← e]
  rfl

/-- What a point writes back of the new first moment is its block of the reference's. -/
theorem flushed6_eq (c : Dev nD) (t : Fin cfg0.N) : (dats m 0 c).flushed 6 t
    = ((cfg0.win 6).blk t).view.read (Elt Ideal) (val_main_v27 (F := Ideal) (g0 m c) (g2 m c)) := by
  rw [flushed6]
  funext j
  show out0_6 (iblk m c 0 t) (iblk m c 1 t) (iblk m c 2 t) (iblk m c 3 t) j = val_main_v27 (F := Ideal) (g0 m c) (g2 m c) (((cfg0.win 4).blk t).view.emb j)
  refine (out6_apply _ _ _ _ j).trans (Eq.trans ?_ (ref6 _ _ _).symm)
  rw [blk0, blk2]

/-- Every index of the new first moment is in some point's block. -/
theorem covered6 (i : S784x4x1024.Idx) : ∃ t : Fin cfg0.N, (cfg0.win 6).flush t = true ∧ i ∈ ((cfg0.win 6).blk t).view.set := by
  obtain ⟨t, _, h⟩ := covered4 i
  exact ⟨t, flush0_6 t, h⟩

/-- The new first moment after the run is the reference's, of the arguments as launched. -/
theorem final6 (c : Dev nD) : (dats m 0 c).arrAt 6 cfg0.N = val_main_v27 (F := Ideal) (g0 m c) (g2 m c) :=
  (dats m 0 c).arrAt_eq_of_cover 6 _ (fun t _ => flushed6_eq m c t) covered6

/-- The reference's new second moment, element by element. -/
theorem ref7 (a0 : Vec Ideal S4x784x1024 .f32) (a3 : Vec Ideal S4x1024x784 .f32) (i : S784x4x1024.Idx) : val_main_v28 (F := Ideal) a0 a3 i = sm (a0 (swA i)) (a3 (swW i)) := by
  rw [val_main_v28_apply]
  rw [show idx_main_v28 i = swW i from swW_eq i]
  have e : val_main_v0 (F := Ideal) a0 (swW i) = a0 (swA i) := by
    rw [val_main_v0_apply, swA_eq]
  rw [← e]
  rfl

/-- What a point writes back of the new second moment is its block of the reference's. -/
theorem flushed7_eq (c : Dev nD) (t : Fin cfg0.N) : (dats m 0 c).flushed 7 t
    = ((cfg0.win 7).blk t).view.read (Elt Ideal) (val_main_v28 (F := Ideal) (g0 m c) (g3 m c)) := by
  rw [flushed7]
  funext j
  show out0_7 (iblk m c 0 t) (iblk m c 1 t) (iblk m c 2 t) (iblk m c 3 t) j = val_main_v28 (F := Ideal) (g0 m c) (g3 m c) (((cfg0.win 4).blk t).view.emb j)
  refine (out7_apply _ _ _ _ j).trans (Eq.trans ?_ (ref7 _ _ _).symm)
  rw [blk0, blk3]

/-- Every index of the new second moment is in some point's block. -/
theorem covered7 (i : S784x4x1024.Idx) : ∃ t : Fin cfg0.N, (cfg0.win 7).flush t = true ∧ i ∈ ((cfg0.win 7).blk t).view.set := by
  obtain ⟨t, _, h⟩ := covered4 i
  exact ⟨t, flush0_7 t, h⟩

/-- The new second moment after the run is the reference's, of the arguments as launched. -/
theorem final7 (c : Dev nD) : (dats m 0 c).arrAt 7 cfg0.N = val_main_v28 (F := Ideal) (g0 m c) (g3 m c) :=
  (dats m 0 c).arrAt_eq_of_cover 7 _ (fun t _ => flushed7_eq m c t) covered7

/-- Kernel and reference, from memories that agree on the operands, both run and end with the same four results. -/
theorem algebraic : Cert.algebraic_Kernel14Ideal_Reference14Ideal := by
  intro m g m' g' _ h
  refine ⟨fun c => val_main_v25 (F := Ideal) (g0 m c),
    fun c => val_main_v26 (F := Ideal) (g0 m c) (g1 m c) (g2 m c) (g3 m c),
    fun c => val_main_v27 (F := Ideal) (g0 m c) (g2 m c),
    fun c => val_main_v28 (F := Ideal) (g0 m c) (g3 m c), ?_, ?_⟩
  · exact (θ_run Cert.Kernel14Ideal.defs _ _).mono (fun r h c => ⟨(h c).1.trans (final4 m c), (h c).2.1.trans (final5 m c),
      (h c).2.2.1.trans (final6 m c), (h c).2.2.2.1.trans (final7 m c), (h c).2.2.2.2⟩) (run_blocks m g)
  · refine (θ_run Cert.Reference14Ideal.defs _ _).mono (fun r hr c => ⟨(hr c).1.trans ?_, (hr c).2.1.trans ?_,
      (hr c).2.2.1.trans ?_, (hr c).2.2.2.1.trans ?_, (hr c).2.2.2.2⟩) (Cert.Reference14Ideal.Value.run (F := Ideal) m' g')
    all_goals obtain ⟨h0, h1, h2, h3⟩ := h c
    · refine (val_main_v25_eq _).trans ?_
      rw [h0]
    · refine (val_main_v26_eq _ _ _ _).trans ?_
      rw [h0, h1, h2, h3]
    · refine (val_main_v27_eq _ _).trans ?_
      rw [h0, h2]
    · refine (val_main_v28_eq _ _).trans ?_
      rw [h0, h3]

end Cert.K14

end
-- ==== Proof.K6.lean ====
/- The product `dproj^T @ hn` (the gradient of the input projection's weight): after the kernel's run its result array is, at every index, the sum over
   the 4224 contracted coordinates, and the reference's contraction is that sum. -/
module

public import proofs.«01_k».proof.Defs
public import proofs.«01_k».proof.Proof.Common
public import proofs.«01_k».proof.Proof.Gen.Kernel6Ideal.Value
public import proofs.«01_k».proof.Proof.Gen.Reference6Ideal.Read

@[expose] public section

set_option maxRecDepth 16384

noncomputable section

namespace Cert.K6

open Cert.Kernel6Ideal Cert.Kernel6Ideal.Gen Cert.Kernel6Ideal.Value Idealize.ShloMosaic Idealize.ShloMosaic.TcCoe
  Idealize.SL.Sem Cert.Common
open scoped BigOperators

/-- The result as one function of the operands: at each index the sum of the operands' products. -/
def G (a : Vec Ideal S4224x6272 .bf16) (b : Vec Ideal S4224x1024 .bf16) : Vec Ideal S6272x1024 .f32 :=
  fun i => ∑ k : Fin 4224, a (ix2 k (i 0)) * b (ix2 k (i 1))

/-- What a point leaves in the result's buffer is the product of the two blocks that it reads. -/
theorem out_eq (c : Dev nD) (i : grid0.Coords) (a3 : Memref sig .tc .vmem S4224x896 .bf16) (h3 : a3.IsWhole)
    (a4 : Memref sig .tc .vmem S4224x1024 .bf16) (h4 : a4.IsWhole) (a5 : Memref sig .tc .vmem S896x1024 .f32) (h5 : a5.IsWhole)
    (a6 : Memref sig .tc .vmem S8x128 .f32) (h6 : a6.IsWhole) (x : Vec Ideal S4224x896 .bf16) (y : Vec Ideal S4224x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  rw [View.canon_unit_zero hz]
  simp only [View.readAt_eq_ld, h3.read_unread, h4.read_unread, View.ld_unit_zero (S := S4224x896) hz,
    View.ld_unit_zero (S := S4224x1024) hz]

/-- The product of two blocks at an index. -/
theorem pay_apply (x : Vec Ideal S4224x896 .bf16) (y : Vec Ideal S4224x1024 .bf16) (j : S896x1024.Idx) :
    k0_pay1 x y j = ∑ k : Fin 4224, x (ix2 k (j 0)) * y (ix2 k (j 1)) := by
  unfold k0_pay1
  simp only [pointwise]
  simp

/-- The blocks' places: every point reads all contracted coordinates, and of the others those of its result block. -/
theorem idx : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- Every block of the result is some point's. -/
theorem idx_all : ∀ (p : Fin 7) (q : Fin 1), ∃ t : Fin cfg0.N, win0_2.index t (0 : Fin 2) = p.val ∧ win0_2.index t (1 : Fin 2) = q.val :=
  (by decide +kernel : ∀ (p : Fin 7) (q : Fin 1), ∃ t : Fin grid0.N, _)

variable (m : (ℓ : Loc nD τ sig) → Buf (Elt Ideal) ℓ) (ρ : Dev nD → PrngReg)

/-- What a point writes back is its block of the whole product. -/
theorem flushed_eq (c : Dev nD) (t : Fin cfg0.N) : (dats m 0 c).flushed 2 t
    = ((cfg0.win 2).blk t).view.read (Elt Ideal) (G (V m c main_arg0) (V m c main_arg1)) := by
  rw [flushed2_A, out_eq]
  obtain ⟨e0, e1, e2, e3⟩ := idx t
  funext j
  refine (pay_apply (iblk m c 0 t) (iblk m c 1 t) j).trans ?_
  show _ = G (V m c main_arg0) (V m c main_arg1) (((cfg0.win 2).blk t).view.emb j)
  unfold G
  refine Finset.sum_congr rfl fun k _ => ?_
  refine congrArg₂ (· * ·) ?_ ?_
  · show V m c main_arg0 (((cfg0.win 0).blk t).view.emb (ix2 k (j 0))) = _
    congr 1
    refine ix2_of _ _ _ ?_ ?_
    · show win0_0.index t (0 : Fin 2) * 4224 + 1 * k.val = k.val; omega
    · show win0_0.index t (1 : Fin 2) * 896 + 1 * (j 0).val = win0_2.index t (0 : Fin 2) * 896 + 1 * (j 0).val; omega
  · show V m c main_arg1 (((cfg0.win 1).blk t).view.emb (ix2 k (j 1))) = _
    congr 1
    refine ix2_of _ _ _ ?_ ?_
    · show win0_1.index t (0 : Fin 2) * 4224 + 1 * k.val = k.val; omega
    · show win0_1.index t (1 : Fin 2) * 1024 + 1 * (j 1).val = win0_2.index t (1 : Fin 2) * 1024 + 1 * (j 1).val; omega

/-- Every index of the result is in some point's block. -/
theorem covered (i : S6272x1024.Idx) : ∃ t : Fin cfg0.N, (cfg0.win 2).flush t = true ∧ i ∈ ((cfg0.win 2).blk t).view.set := by
  have h0 : (i 0).val < 6272 := (i 0).isLt
  have h1 : (i 1).val < 1024 := (i 1).isLt
  obtain ⟨t, e0, e1⟩ := idx_all ⟨(i 0).val / 896, by omega⟩ ⟨(i 1).val / 1024, by omega⟩
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 896 ≤ (i 0).val ∧ (i 0).val < win0_2.index t (0 : Fin 2) * 896 + 896
              dsimp only at e0; omega
  | ⟨1, _⟩ => show win0_2.index t (1 : Fin 2) * 1024 ≤ (i 1).val ∧ (i 1).val < win0_2.index t (1 : Fin 2) * 1024 + 1024
              dsimp only at e1; omega

/-- The result array after the run is the whole product of the arguments as launched. -/
theorem final (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed_eq m c t) covered).trans
    (by rw [V_main_arg0, V_main_arg1])

open Cert.Reference6Ideal in
/-- The reference's value is the same sum. -/
theorem ref_eq (a : Vec Ideal Cert.Kernel6Ideal.S4224x6272 .bf16) (b : Vec Ideal Cert.Kernel6Ideal.S4224x1024 .bf16) :
    Cert.Reference6Ideal.Read.val_main_v8 (F := Ideal) a b = G a b := by
  funext i
  have h0 : (i 0).val < 6272 := (i 0).isLt
  have h1 : (i 1).val < 1024 := (i 1).isLt
  rw [Read.val_main_v8_apply, Read.val_main_v7_apply]
  unfold Read.val_main_v6
  simp only [pointwise]
  unfold G
  rw [← sum_rows (n := 2) (l := 2112) (N := 4224) rfl]
  simp only [zero_add]
  refine Finset.sum_congr rfl fun p _ => Finset.sum_congr rfl fun q _ => ?_
  rw [Read.val_main_v3_apply, Read.val_main_v2_apply, Read.val_main_v1_apply, Read.val_main_v0_apply]
  have hp := p.isLt; have hq := q.isLt
  refine congrArg₂ (· * ·) ?_ ?_
  · show a _ = a _
    congr 1
    refine ix2_of _ _ _ ?_ ?_
    · show ((p.val * 2112 + q.val) * 6272 + (i 0).val) / 6272 = p.val * 2112 + q.val; omega
    · show ((p.val * 2112 + q.val) * 6272 + (i 0).val) % 6272 = (i 0).val; omega
  · show b _ = b _
    congr 1
    refine ix2_of _ _ _ ?_ ?_
    · show ((p.val * 2112 + q.val) * 1024 + (i 1).val) / 1024 = p.val * 2112 + q.val; omega
    · show ((p.val * 2112 + q.val) * 1024 + (i 1).val) % 1024 = (i 1).val; omega

/-- Kernel and reference, from memories that agree on the operands, both run and end with one result. -/
theorem algebraic : Cert.algebraic_Kernel6Ideal_Reference6Ideal := by
  intro m g m' g' _ h
  refine ⟨fun c => G (m ((c : Thread nD τ).loc main_arg0)) (m ((c : Thread nD τ).loc main_arg1)), ?_, ?_⟩
  · exact (θ_run Cert.Kernel6Ideal.defs _ _).mono (fun r h c => ⟨(h c).1.trans (final m c), (h c).2⟩) (run_blocks m g)
  · refine (θ_run Cert.Reference6Ideal.defs _ _).mono (fun r hr c => ⟨(hr c).1.trans ?_, (hr c).2⟩)
      (Cert.Reference6Ideal.Value.run (F := Ideal) m' g')
    refine (Cert.Reference6Ideal.Read.val_main_v8_eq _ _).trans ((ref_eq _ _).trans ?_)
    exact congrArg₂ G (h c).1 (h c).2

end Cert.K6

end
-- ==== Proof.K7.lean ====
/- The product `dproj @ w_in^T` (the gradient of the normed stream at the input projection): after the kernel's run its result array is, at every index, the sum over
   the 6272 contracted coordinates, and the reference's contraction is that sum. -/
module

public import proofs.«01_k».proof.Defs
public import proofs.«01_k».proof.Proof.Common
public import proofs.«01_k».proof.Proof.Gen.Kernel7Ideal.Value
public import proofs.«01_k».proof.Proof.Gen.Reference7Ideal.Read

@[expose] public section

set_option maxRecDepth 16384

noncomputable section

namespace Cert.K7

open Cert.Kernel7Ideal Cert.Kernel7Ideal.Gen Cert.Kernel7Ideal.Value Idealize.ShloMosaic Idealize.ShloMosaic.TcCoe
  Idealize.SL.Sem Cert.Common
open scoped BigOperators

/-- The result as one function of the operands: at each index the sum of the operands' products. -/
def G (a : Vec Ideal S4224x6272 .bf16) (b : Vec Ideal S6272x1024 .bf16) : Vec Ideal S4224x1024 .bf16 :=
  fun i => ∑ k : Fin 6272, a (ix2 (i 0) k) * b (ix2 k (i 1))

/-- What a point leaves in the result's buffer is the product of the two blocks that it reads. -/
theorem out_eq (c : Dev nD) (i : grid0.Coords) (a3 : Memref sig .tc .vmem S384x6272 .bf16) (h3 : a3.IsWhole)
    (a4 : Memref sig .tc .vmem S6272x1024 .bf16) (h4 : a4.IsWhole) (a5 : Memref sig .tc .vmem S384x1024 .bf16) (h5 : a5.IsWhole)
    (a6 : Memref sig .tc .vmem S8x128 .f32) (h6 : a6.IsWhole) (x : Vec Ideal S384x6272 .bf16) (y : Vec Ideal S6272x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  rw [View.canon_unit_zero hz]
  simp only [View.readAt_eq_ld, h3.read_unread, h4.read_unread, View.ld_unit_zero (S := S384x6272) hz,
    View.ld_unit_zero (S := S6272x1024) hz]

/-- The product of two blocks at an index. -/
theorem pay_apply (x : Vec Ideal S384x6272 .bf16) (y : Vec Ideal S6272x1024 .bf16) (j : S384x1024.Idx) :
    k0_pay1 x y j = ∑ k : Fin 6272, x (ix2 (j 0) k) * y (ix2 k (j 1)) := by
  unfold k0_pay1
  simp only [pointwise]
  simp

/-- The blocks' places: every point reads all contracted coordinates, and of the others those of its result block. -/
theorem idx : ∀ t : Fin cfg0.N, win0_0.index t (1 : Fin 2) = 0 ∧ win0_0.index t (0 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- Every block of the result is some point's. -/
theorem idx_all : ∀ (p : Fin 11) (q : Fin 1), ∃ t : Fin cfg0.N, win0_2.index t (0 : Fin 2) = p.val ∧ win0_2.index t (1 : Fin 2) = q.val :=
  (by decide +kernel : ∀ (p : Fin 11) (q : Fin 1), ∃ t : Fin grid0.N, _)

variable (m : (ℓ : Loc nD τ sig) → Buf (Elt Ideal) ℓ) (ρ : Dev nD → PrngReg)

/-- What a point writes back is its block of the whole product. -/
theorem flushed_eq (c : Dev nD) (t : Fin cfg0.N) : (dats m 0 c).flushed 2 t
    = ((cfg0.win 2).blk t).view.read (Elt Ideal) (G (V m c main_arg0) (V m c main_arg1)) := by
  rw [flushed2_A, out_eq]
  obtain ⟨e0, e1, e2, e3⟩ := idx t
  funext j
  refine (pay_apply (iblk m c 0 t) (iblk m c 1 t) j).trans ?_
  show _ = G (V m c main_arg0) (V m c main_arg1) (((cfg0.win 2).blk t).view.emb j)
  unfold G
  refine Finset.sum_congr rfl fun k _ => ?_
  refine congrArg₂ (· * ·) ?_ ?_
  · show V m c main_arg0 (((cfg0.win 0).blk t).view.emb (ix2 (j 0) k)) = _
    congr 1
    refine ix2_of _ _ _ ?_ ?_
    · show win0_0.index t (0 : Fin 2) * 384 + 1 * (j 0).val = win0_2.index t (0 : Fin 2) * 384 + 1 * (j 0).val; omega
    · show win0_0.index t (1 : Fin 2) * 6272 + 1 * k.val = k.val; omega
  · show V m c main_arg1 (((cfg0.win 1).blk t).view.emb (ix2 k (j 1))) = _
    congr 1
    refine ix2_of _ _ _ ?_ ?_
    · show win0_1.index t (0 : Fin 2) * 6272 + 1 * k.val = k.val; omega
    · show win0_1.index t (1 : Fin 2) * 1024 + 1 * (j 1).val = win0_2.index t (1 : Fin 2) * 1024 + 1 * (j 1).val; omega

/-- Every index of the result is in some point's block. -/
theorem covered (i : S4224x1024.Idx) : ∃ t : Fin cfg0.N, (cfg0.win 2).flush t = true ∧ i ∈ ((cfg0.win 2).blk t).view.set := by
  have h0 : (i 0).val < 4224 := (i 0).isLt
  have h1 : (i 1).val < 1024 := (i 1).isLt
  obtain ⟨t, e0, e1⟩ := idx_all ⟨(i 0).val / 384, by omega⟩ ⟨(i 1).val / 1024, by omega⟩
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 384 ≤ (i 0).val ∧ (i 0).val < win0_2.index t (0 : Fin 2) * 384 + 384
              dsimp only at e0; omega
  | ⟨1, _⟩ => show win0_2.index t (1 : Fin 2) * 1024 ≤ (i 1).val ∧ (i 1).val < win0_2.index t (1 : Fin 2) * 1024 + 1024
              dsimp only at e1; omega

/-- The result array after the run is the whole product of the arguments as launched. -/
theorem final (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed_eq m c t) covered).trans
    (by rw [V_main_arg0, V_main_arg1])

open Cert.Reference7Ideal in
/-- The reference's value is the same sum. -/
theorem ref_eq (a : Vec Ideal Cert.Kernel7Ideal.S4224x6272 .bf16) (b : Vec Ideal Cert.Kernel7Ideal.S6272x1024 .bf16) :
    Cert.Reference7Ideal.Read.val_main_v8 (F := Ideal) a b = G a b := by
  funext i
  have h0 : (i 0).val < 4224 := (i 0).isLt
  have h1 : (i 1).val < 1024 := (i 1).isLt
  rw [Read.val_main_v8_apply]
  show Read.val_main_v7 (F := Ideal) a b _ = _
  rw [Read.val_main_v7_apply, Read.val_main_v6_apply]
  unfold G
  refine Finset.sum_congr rfl fun k _ => ?_
  rw [Read.val_main_v3_apply, Read.val_main_v2_apply, Read.val_main_v1_apply, Read.val_main_v0_apply]
  refine congrArg₂ (· * ·) ?_ ?_
  · show a _ = a _
    congr 1
    have hk : k.val < 6272 := k.isLt
    refine ix2_of _ _ _ ?_ ?_
    · show ((((i 0).val * 1024 + (i 1).val) / 2162688 * 2112 + ((i 0).val * 1024 + (i 1).val) / 1024 % 2112) * 6272 + k.val) / 6272 = (i 0).val; omega
    · show _ % 6272 = k.val; dsimp only; omega
  · show b _ = b _
    congr 1
    refine ix2_of _ _ _ ?_ ?_
    · show _ = k.val; rfl
    · show _ = (i 1).val; dsimp only; omega

/-- Kernel and reference, from memories that agree on the operands, both run and end with one result. -/
theorem algebraic : Cert.algebraic_Kernel7Ideal_Reference7Ideal := by
  intro m g m' g' _ h
  refine ⟨fun c => G (m ((c : Thread nD τ).loc main_arg0)) (m ((c : Thread nD τ).loc main_arg1)), ?_, ?_⟩
  · exact (θ_run Cert.Kernel7Ideal.defs _ _).mono (fun r h c => ⟨(h c).1.trans (final m c), (h c).2⟩) (run_blocks m g)
  · refine (θ_run Cert.Reference7Ideal.defs _ _).mono (fun r hr c => ⟨(hr c).1.trans ?_, (hr c).2⟩)
      (Cert.Reference7Ideal.Value.run (F := Ideal) m' g')
    refine (Cert.Reference7Ideal.Read.val_main_v8_eq _ _).trans ((ref_eq _ _).trans ?_)
    exact congrArg₂ G (h c).1 (h c).2

end Cert.K7

end
-- ==== Proof.K8.lean ====
/- The product `dm @ w_out^T` (the gradient of the mixers' outputs): after the kernel's run its result array is, at every index, the sum over
   the 1024 contracted coordinates, and the reference's contraction is that sum. -/
module

public import proofs.«01_k».proof.Defs
public import proofs.«01_k».proof.Proof.Common
public import proofs.«01_k».proof.Proof.Gen.Kernel8Ideal.Value
public import proofs.«01_k».proof.Proof.Gen.Reference8Ideal.Read

@[expose] public section

set_option maxRecDepth 16384

noncomputable section

namespace Cert.K8

open Cert.Kernel8Ideal Cert.Kernel8Ideal.Gen Cert.Kernel8Ideal.Value Idealize.ShloMosaic Idealize.ShloMosaic.TcCoe
  Idealize.SL.Sem Cert.Common
open scoped BigOperators

/-- The result as one function of the operands: at each index the sum of the operands' products. -/
def G (a : Vec Ideal S4224x1024 .bf16) (b : Vec Ideal S2048x1024 .bf16) : Vec Ideal S4224x2048 .bf16 :=
  fun i => ∑ k : Fin 1024, a (ix2 (i 0) k) * b (ix2 (i 1) k)

/-- What a point leaves in the result's buffer is the product of the two blocks that it reads. -/
theorem out_eq (c : Dev nD) (i : grid0.Coords) (a3 : Memref sig .tc .vmem S1408x1024 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S8x128 .f32) (h6 : a6.IsWhole) (x : Vec Ideal S1408x1024 .bf16) (y : Vec Ideal S1024x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  rw [View.canon_unit_zero hz]
  simp only [View.readAt_eq_ld, h3.read_unread, h4.read_unread, View.ld_unit_zero (S := S1408x1024) hz,
    View.ld_unit_zero (S := S1024x1024) hz]

/-- The product of two blocks at an index. -/
theorem pay_apply (x : Vec Ideal S1408x1024 .bf16) (y : Vec Ideal S1024x1024 .bf16) (j : S1408x1024.Idx) :
    k0_pay1 x y j = ∑ k : Fin 1024, x (ix2 (j 0) k) * y (ix2 (j 1) k) := by
  unfold k0_pay1
  simp only [pointwise]
  simp

/-- The blocks' places: every point reads all contracted coordinates, and of the others those of its result block. -/
theorem idx : ∀ t : Fin cfg0.N, win0_0.index t (1 : Fin 2) = 0 ∧ win0_0.index t (0 : Fin 2) = win0_2.index t (0 : Fin 2)
    ∧ win0_1.index t (1 : Fin 2) = 0 ∧ win0_1.index t (0 : Fin 2) = win0_2.index t (1 : Fin 2) :=
  (by decide +kernel : ∀ t : Fin grid0.N, _)

/-- Every block of the result is some point's. -/
theorem idx_all : ∀ (p : Fin 3) (q : Fin 2), ∃ t : Fin cfg0.N, win0_2.index t (0 : Fin 2) = p.val ∧ win0_2.index t (1 : Fin 2) = q.val :=
  (by decide +kernel : ∀ (p : Fin 3) (q : Fin 2), ∃ t : Fin grid0.N, _)

variable (m : (ℓ : Loc nD τ sig) → Buf (Elt Ideal) ℓ) (ρ : Dev nD → PrngReg)

/-- What a point writes back is its block of the whole product. -/
theorem flushed_eq (c : Dev nD) (t : Fin cfg0.N) : (dats m 0 c).flushed 2 t
    = ((cfg0.win 2).blk t).view.read (Elt Ideal) (G (V m c main_arg0) (V m c main_arg1)) := by
  rw [flushed2_A, out_eq]
  obtain ⟨e0, e1, e2, e3⟩ := idx t
  funext j
  refine (pay_apply (iblk m c 0 t) (iblk m c 1 t) j).trans ?_
  show _ = G (V m c main_arg0) (V m c main_arg1) (((cfg0.win 2).blk t).view.emb j)
  unfold G
  refine Finset.sum_congr rfl fun k _ => ?_
  refine congrArg₂ (· * ·) ?_ ?_
  · show V m c main_arg0 (((cfg0.win 0).blk t).view.emb (ix2 (j 0) k)) = _
    congr 1
    refine ix2_of _ _ _ ?_ ?_
    · show win0_0.index t (0 : Fin 2) * 1408 + 1 * (j 0).val = win0_2.index t (0 : Fin 2) * 1408 + 1 * (j 0).val; omega
    · show win0_0.index t (1 : Fin 2) * 1024 + 1 * k.val = k.val; omega
  · show V m c main_arg1 (((cfg0.win 1).blk t).view.emb (ix2 (j 1) k)) = _
    congr 1
    refine ix2_of _ _ _ ?_ ?_
    · show win0_1.index t (0 : Fin 2) * 1024 + 1 * (j 1).val = win0_2.index t (1 : Fin 2) * 1024 + 1 * (j 1).val; omega
    · show win0_1.index t (1 : Fin 2) * 1024 + 1 * k.val = k.val; omega

/-- Every index of the result is in some point's block. -/
theorem covered (i : S4224x2048.Idx) : ∃ t : Fin cfg0.N, (cfg0.win 2).flush t = true ∧ i ∈ ((cfg0.win 2).blk t).view.set := by
  have h0 : (i 0).val < 4224 := (i 0).isLt
  have h1 : (i 1).val < 2048 := (i 1).isLt
  obtain ⟨t, e0, e1⟩ := idx_all ⟨(i 0).val / 1408, by omega⟩ ⟨(i 1).val / 1024, by omega⟩
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1408 ≤ (i 0).val ∧ (i 0).val < win0_2.index t (0 : Fin 2) * 1408 + 1408
              dsimp only at e0; omega
  | ⟨1, _⟩ => show win0_2.index t (1 : Fin 2) * 1024 ≤ (i 1).val ∧ (i 1).val < win0_2.index t (1 : Fin 2) * 1024 + 1024
              dsimp only at e1; omega

/-- The result array after the run is the whole product of the arguments as launched. -/
theorem final (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed_eq m c t) covered).trans
    (by rw [V_main_arg0, V_main_arg1])

open Cert.Reference8Ideal in
/-- The reference's value is the same sum. -/
theorem ref_eq (a : Vec Ideal Cert.Kernel8Ideal.S4224x1024 .bf16) (b : Vec Ideal Cert.Kernel8Ideal.S2048x1024 .bf16) :
    Cert.Reference8Ideal.Read.val_main_v7 (F := Ideal) a b = G a b := by
  funext i
  have h0 : (i 0).val < 4224 := (i 0).isLt
  have h1 : (i 1).val < 2048 := (i 1).isLt
  rw [Read.val_main_v7_apply]
  show Read.val_main_v6 (F := Ideal) a b _ = _
  rw [Read.val_main_v6_apply, Read.val_main_v5_apply]
  unfold G
  refine Finset.sum_congr rfl fun k _ => ?_
  rw [Read.val_main_v2_apply, Read.val_main_v1_apply, Read.val_main_v0_apply]
  refine congrArg₂ (· * ·) ?_ ?_
  · show a _ = a _
    congr 1
    have hk : k.val < 1024 := k.isLt
    refine ix2_of _ _ _ ?_ ?_
    · show ((((i 0).val * 2048 + (i 1).val) / 4325376 * 2112 + ((i 0).val * 2048 + (i 1).val) / 2048 % 2112) * 1024 + k.val) / 1024 = (i 0).val; omega
    · show _ % 1024 = k.val; dsimp only; omega
  · show b _ = b _
    congr 1
    refine ix2_of _ _ _ ?_ ?_
    · show _ = (i 1).val; dsimp only; omega
    · show _ = k.val; rfl

/-- Kernel and reference, from memories that agree on the operands, both run and end with one result. -/
theorem algebraic : Cert.algebraic_Kernel8Ideal_Reference8Ideal := by
  intro m g m' g' _ h
  refine ⟨fun c => G (m ((c : Thread nD τ).loc main_arg0)) (m ((c : Thread nD τ).loc main_arg1)), ?_, ?_⟩
  · exact (θ_run Cert.Kernel8Ideal.defs _ _).mono (fun r h c => ⟨(h c).1.trans (final m c), (h c).2⟩) (run_blocks m g)
  · refine (θ_run Cert.Reference8Ideal.defs _ _).mono (fun r hr c => ⟨(hr c).1.trans ?_, (hr c).2⟩)
      (Cert.Reference8Ideal.Value.run (F := Ideal) m' g')
    refine (Cert.Reference8Ideal.Read.val_main_v7_eq _ _).trans ((ref_eq _ _).trans ?_)
    exact congrArg₂ G (h c).1 (h c).2

end Cert.K8

end
-- ==== Proof.K9.lean ====
/- The product `ycat^T @ dm` (the gradient of the output projection's weight): after the kernel's run its result array is, at every index, the sum over
   the 4224 contracted coordinates, and the reference's contraction is that sum. -/
module

public import proofs.«01_k».proof.Defs
public import proofs.«01_k».proof.Proof.Common
public import proofs.«01_k».proof.Proof.Gen.Kernel9Ideal.Value
public import proofs.«01_k».proof.Proof.Gen.Reference9Ideal.Read

@[expose] public section

set_option maxRecDepth 16384

noncomputable section

namespace Cert.K9

open Cert.Kernel9Ideal Cert.Kernel9Ideal.Gen Cert.Kernel9Ideal.Value Idealize.ShloMosaic Idealize.ShloMosaic.TcCoe
  Idealize.SL.Sem Cert.Common
open scoped BigOperators

/-- The result as one function of the operands: at each index the sum of the operands' products. -/
def G (a : Vec Ideal S4224x2048 .bf16) (b : Vec Ideal S4224x1024 .bf16) : Vec Ideal S2048x1024 .bf16 :=
  fun i => ∑ k : Fin 4224, a (ix2 k (i 0)) * b (ix2 k (i 1))

/-- What a point leaves in the result's buffer is the product of the two blocks that it reads. -/
theorem out_eq (c : Dev nD) (i : grid0.Coords) (a3 : Memref sig .tc .vmem S4224x1024 .bf16) (h3 : a3.IsWhole)
    (a4 : Memref sig .tc .vmem S4224x1024 .bf16) (h4 : a4.IsWhole) (a5 : Memref sig .tc .vmem S1024x1024 .bf16) (h5 : a5.IsWhole)
    (a6 : Memref sig .tc .vmem S8x128 .f32) (h6 : a6.IsWhole) (x : Vec Ideal S4224x1024 .bf16) (y : Vec Ideal S4224x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  rw [View.canon_unit_zero hz]
  simp only [View.readAt_eq_ld, h3.read_unread, h4.read_unread, View.ld_unit_zero (S := S4224x1024) hz,
    View.ld_unit_zero (S := S4224x1024) hz]

/-- The product of two blocks at an index. -/
theorem pay_apply (x : Vec Ideal S4224x1024 .bf16) (y : Vec Ideal S4224x1024 .bf16) (j : S1024x1024.Idx) :
    k0_pay1 x y j = ∑ k : Fin 4224, x (ix2 k (j 0)) * y (ix2 k (j 1)) := by
  unfold k0_pay1
  simp only [pointwise]
  simp

/-- The blocks' places: every point reads all contracted coordinates, and of the others those of its result block. -/
theorem idx : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- Every block of the result is some point's. -/
theorem idx_all : ∀ (p : Fin 2) (q : Fin 1), ∃ t : Fin cfg0.N, win0_2.index t (0 : Fin 2) = p.val ∧ win0_2.index t (1 : Fin 2) = q.val :=
  (by decide +kernel : ∀ (p : Fin 2) (q : Fin 1), ∃ t : Fin grid0.N, _)

variable (m : (ℓ : Loc nD τ sig) → Buf (Elt Ideal) ℓ) (ρ : Dev nD → PrngReg)

/-- What a point writes back is its block of the whole product. -/
theorem flushed_eq (c : Dev nD) (t : Fin cfg0.N) : (dats m 0 c).flushed 2 t
    = ((cfg0.win 2).blk t).view.read (Elt Ideal) (G (V m c main_arg0) (V m c main_arg1)) := by
  rw [flushed2_A, out_eq]
  obtain ⟨e0, e1, e2, e3⟩ := idx t
  funext j
  refine (pay_apply (iblk m c 0 t) (iblk m c 1 t) j).trans ?_
  show _ = G (V m c main_arg0) (V m c main_arg1) (((cfg0.win 2).blk t).view.emb j)
  unfold G
  refine Finset.sum_congr rfl fun k _ => ?_
  refine congrArg₂ (· * ·) ?_ ?_
  · show V m c main_arg0 (((cfg0.win 0).blk t).view.emb (ix2 k (j 0))) = _
    congr 1
    refine ix2_of _ _ _ ?_ ?_
    · show win0_0.index t (0 : Fin 2) * 4224 + 1 * k.val = k.val; omega
    · show win0_0.index t (1 : Fin 2) * 1024 + 1 * (j 0).val = win0_2.index t (0 : Fin 2) * 1024 + 1 * (j 0).val; omega
  · show V m c main_arg1 (((cfg0.win 1).blk t).view.emb (ix2 k (j 1))) = _
    congr 1
    refine ix2_of _ _ _ ?_ ?_
    · show win0_1.index t (0 : Fin 2) * 4224 + 1 * k.val = k.val; omega
    · show win0_1.index t (1 : Fin 2) * 1024 + 1 * (j 1).val = win0_2.index t (1 : Fin 2) * 1024 + 1 * (j 1).val; omega

/-- Every index of the result is in some point's block. -/
theorem covered (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  obtain ⟨t, e0, e1⟩ := idx_all ⟨(i 0).val / 1024, by omega⟩ ⟨(i 1).val / 1024, by omega⟩
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024
              dsimp only at e0; omega
  | ⟨1, _⟩ => show win0_2.index t (1 : Fin 2) * 1024 ≤ (i 1).val ∧ (i 1).val < win0_2.index t (1 : Fin 2) * 1024 + 1024
              dsimp only at e1; omega

/-- The result array after the run is the whole product of the arguments as launched. -/
theorem final (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed_eq m c t) covered).trans
    (by rw [V_main_arg0, V_main_arg1])

open Cert.Reference9Ideal in
/-- The reference's value is the same sum. -/
theorem ref_eq (a : Vec Ideal Cert.Kernel9Ideal.S4224x2048 .bf16) (b : Vec Ideal Cert.Kernel9Ideal.S4224x1024 .bf16) :
    Cert.Reference9Ideal.Read.val_main_v8 (F := Ideal) a b = G a b := by
  funext i
  have h0 : (i 0).val < 2048 := (i 0).isLt
  have h1 : (i 1).val < 1024 := (i 1).isLt
  rw [Read.val_main_v8_apply, Read.val_main_v7_apply]
  show Read.val_main_v6 (F := Ideal) a b _ = _
  unfold Read.val_main_v6
  simp only [pointwise]
  unfold G
  rw [← sum_rows (n := 2) (l := 2112) (N := 4224) rfl]
  simp only [zero_add]
  refine Finset.sum_congr rfl fun p _ => Finset.sum_congr rfl fun q _ => ?_
  rw [Read.val_main_v3_apply, Read.val_main_v2_apply, Read.val_main_v1_apply, Read.val_main_v0_apply, mul_comm]
  have hp := p.isLt; have hq := q.isLt
  refine congrArg₂ (· * ·) ?_ ?_
  · show a _ = a _
    congr 1
    refine ix2_of _ _ _ ?_ ?_
    · show ((p.val * 2112 + q.val) * 2048 + (i 0).val) / 2048 = p.val * 2112 + q.val; omega
    · show ((p.val * 2112 + q.val) * 2048 + (i 0).val) % 2048 = (i 0).val; omega
  · show b _ = b _
    congr 1
    refine ix2_of _ _ _ ?_ ?_
    · show ((p.val * 2112 + q.val) * 1024 + (i 1).val) / 1024 = p.val * 2112 + q.val; omega
    · show ((p.val * 2112 + q.val) * 1024 + (i 1).val) % 1024 = (i 1).val; omega

/-- Kernel and reference, from memories that agree on the operands, both run and end with one result. -/
theorem algebraic : Cert.algebraic_Kernel9Ideal_Reference9Ideal := by
  intro m g m' g' _ h
  refine ⟨fun c => G (m ((c : Thread nD τ).loc main_arg0)) (m ((c : Thread nD τ).loc main_arg1)), ?_, ?_⟩
  · exact (θ_run Cert.Kernel9Ideal.defs _ _).mono (fun r h c => ⟨(h c).1.trans (final m c), (h c).2⟩) (run_blocks m g)
  · refine (θ_run Cert.Reference9Ideal.defs _ _).mono (fun r hr c => ⟨(hr c).1.trans ?_, (hr c).2⟩)
      (Cert.Reference9Ideal.Value.run (F := Ideal) m' g')
    refine (Cert.Reference9Ideal.Read.val_main_v8_eq _ _).trans ((ref_eq _ _).trans ?_)
    exact congrArg₂ G (h c).1 (h c).2

end Cert.K9

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel6
public import proofs.«01_k».proof.Proof.Gen.Kernel6.Frame
public import proofs.«01_k».proof.Proof.Gen.Kernel6Ideal
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Reference10Ideal
public import proofs.«01_k».proof.Proof.Gen.Kernel11
public import proofs.«01_k».proof.Proof.Gen.Kernel11.Frame
public import proofs.«01_k».proof.Proof.Gen.Kernel11Ideal
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Reference13Ideal
public import proofs.«01_k».proof.Proof.Gen.Kernel14
public import proofs.«01_k».proof.Proof.Gen.Kernel14.Frame
public import proofs.«01_k».proof.Proof.Gen.Kernel14Ideal
public import proofs.«01_k».proof.Proof.Gen.Reference14Ideal
public import proofs.«01_k».proof.Proof.SsdClaim
public import proofs.«01_k».proof.Proof.K10
public import proofs.«01_k».proof.Proof.K11
public import proofs.«01_k».proof.Proof.K12
public import proofs.«01_k».proof.Proof.K13
public import proofs.«01_k».proof.Proof.K14
public import proofs.«01_k».proof.Proof.K6
public import proofs.«01_k».proof.Proof.K7
public import proofs.«01_k».proof.Proof.K8
public import proofs.«01_k».proof.Proof.K9
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- Everything the certificate claims: every program's side conditions hold, every program runs and is quiescent at the
    end, no idealization rewrote anything, and each kernel's results are its reference's. -/
theorem claim : Cert.Claim := ⟨Cert.Kernel.Gen.facts, Cert.KernelIdeal.Gen.facts, Cert.ReferenceIdeal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Ssd.preFacts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2.2.2.2.2.2, sem_eq_zero_of_no_sems (by decide) r.2⟩)
    (Cert.ReferenceIdeal.Value.run (F := Ideal) m ρ),
  fun m ρ _ => (θ_run Cert.ReferenceIdeal.defs _ _).mono (fun r h => ⟨fun c => (h c).2.2.2.2.2.2, sem_eq_zero_of_no_sems (by decide) r.2⟩)
    (Cert.ReferenceIdeal.Value.run (F := Ideal) m ρ),
  fun m ρ _ => Cert.Kernel6.Gen.frame m ρ,
  fun m ρ _ => Cert.Kernel6Ideal.Gen.frame m ρ,
  fun m ρ _ => (θ_run Cert.Reference6Ideal.defs _ _).mono (fun r h => ⟨fun c => (h c).2, sem_eq_zero_of_no_sems (by decide) r.2⟩)
    (Cert.Reference6Ideal.Value.run (F := Ideal) m ρ),
  fun m ρ _ => Cert.Kernel7.Gen.frame m ρ,
  fun m ρ _ => Cert.Kernel7Ideal.Gen.frame m ρ,
  fun m ρ _ => (θ_run Cert.Reference7Ideal.defs _ _).mono (fun r h => ⟨fun c => (h c).2, sem_eq_zero_of_no_sems (by decide) r.2⟩)
    (Cert.Reference7Ideal.Value.run (F := Ideal) m ρ),
  fun m ρ _ => Cert.Kernel8.Gen.frame m ρ,
  fun m ρ _ => Cert.Kernel8Ideal.Gen.frame m ρ,
  fun m ρ _ => (θ_run Cert.Reference8Ideal.defs _ _).mono (fun r h => ⟨fun c => (h c).2, sem_eq_zero_of_no_sems (by decide) r.2⟩)
    (Cert.Reference8Ideal.Value.run (F := Ideal) m ρ),
  fun m ρ _ => Cert.Kernel9.Gen.frame m ρ,
  fun m ρ _ => Cert.Kernel9Ideal.Gen.frame m ρ,
  fun m ρ _ => (θ_run Cert.Reference9Ideal.defs _ _).mono (fun r h => ⟨fun c => (h c).2, sem_eq_zero_of_no_sems (by decide) r.2⟩)
    (Cert.Reference9Ideal.Value.run (F := Ideal) m ρ),
  fun m ρ _ => Cert.Kernel10.Gen.frame m ρ,
  fun m ρ _ => Cert.Kernel10Ideal.Gen.frame m ρ,
  fun m ρ _ => (θ_run Cert.Reference10Ideal.defs _ _).mono (fun r h => ⟨fun c => (h c).2, sem_eq_zero_of_no_sems (by decide) r.2⟩)
    (Cert.Reference10Ideal.Value.run (F := Ideal) m ρ),
  fun m ρ _ => Cert.Kernel11.Gen.frame m ρ,
  fun m ρ _ => Cert.Kernel11Ideal.Gen.frame m ρ,
  fun m ρ _ => (θ_run Cert.Reference11Ideal.defs _ _).mono (fun r h => ⟨fun c => (h c).2, sem_eq_zero_of_no_sems (by decide) r.2⟩)
    (Cert.Reference11Ideal.Value.run (F := Ideal) m ρ),
  fun m ρ _ => Cert.Kernel12.Gen.frame m ρ,
  fun m ρ _ => Cert.Kernel12Ideal.Gen.frame m ρ,
  fun m ρ _ => (θ_run Cert.Reference12Ideal.defs _ _).mono (fun r h => ⟨fun c => (h c).2.2.2, sem_eq_zero_of_no_sems (by decide) r.2⟩)
    (Cert.Reference12Ideal.Value.run (F := Ideal) m ρ),
  fun m ρ _ => Cert.Kernel13.Gen.frame m ρ,
  fun m ρ _ => Cert.Kernel13Ideal.Gen.frame m ρ,
  fun m ρ _ => (θ_run Cert.Reference13Ideal.defs _ _).mono (fun r h => ⟨fun c => (h c).2.2.2, sem_eq_zero_of_no_sems (by decide) r.2⟩)
    (Cert.Reference13Ideal.Value.run (F := Ideal) m ρ),
  fun m ρ _ => Cert.Kernel14.Gen.frame m ρ,
  fun m ρ _ => Cert.Kernel14Ideal.Gen.frame m ρ,
  fun m ρ _ => (θ_run Cert.Reference14Ideal.defs _ _).mono (fun r h => ⟨fun c => (h c).2.2.2.2, sem_eq_zero_of_no_sems (by decide) r.2⟩)
    (Cert.Reference14Ideal.Value.run (F := Ideal) m ρ),
  trivial,
  @Cert.Ssd.algebraic Cert.Ssd.preFacts,
  trivial,
  Cert.K6.algebraic,
  trivial,
  Cert.K7.algebraic,
  trivial,
  Cert.K8.algebraic,
  trivial,
  Cert.K9.algebraic,
  trivial,
  Cert.K10.algebraic,
  trivial,
  Cert.K11.algebraic,
  trivial,
  Cert.K12.algebraic,
  trivial,
  Cert.K13.algebraic,
  trivial,
  Cert.K14.algebraic⟩

end Cert.Proof

end
